-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_UpWgrad (m : (ℓ : Loc Cert.UpWgrad.nD Cert.UpWgrad.τ Cert.UpWgrad.sig) → Buf (Elt Bits) ℓ) : Prop :=
  True

def Pre_UpWgradIdeal (m : (ℓ : Loc Cert.UpWgradIdeal.nD Cert.UpWgradIdeal.τ Cert.UpWgradIdeal.sig) → Buf (Elt Ideal) ℓ) : Prop :=
  True

def Pre_UpWgradReferenceIdeal (m : (ℓ : Loc Cert.UpWgradReferenceIdeal.nD Cert.UpWgradReferenceIdeal.τ Cert.UpWgradReferenceIdeal.sig) → Buf (Elt Ideal) ℓ) : Prop :=
  True

def Pre_DownWgrad (m : (ℓ : Loc Cert.DownWgrad.nD Cert.DownWgrad.τ Cert.DownWgrad.sig) → Buf (Elt Bits) ℓ) : Prop :=
  True

def Pre_DownWgradIdeal (m : (ℓ : Loc Cert.DownWgradIdeal.nD Cert.DownWgradIdeal.τ Cert.DownWgradIdeal.sig) → Buf (Elt Ideal) ℓ) : Prop :=
  True

def Pre_DownWgradReferenceIdeal (m : (ℓ : Loc Cert.DownWgradReferenceIdeal.nD Cert.DownWgradReferenceIdeal.τ Cert.DownWgradReferenceIdeal.sig) → Buf (Elt Ideal) ℓ) : Prop :=
  True

def Pre_UpProj (m : (ℓ : Loc Cert.UpProj.nD Cert.UpProj.τ Cert.UpProj.sig) → Buf (Elt Bits) ℓ) : Prop :=
  True

def Pre_UpProjIdeal (m : (ℓ : Loc Cert.UpProjIdeal.nD Cert.UpProjIdeal.τ Cert.UpProjIdeal.sig) → Buf (Elt Ideal) ℓ) : Prop :=
  True

def Pre_UpProjReferenceIdeal (m : (ℓ : Loc Cert.UpProjReferenceIdeal.nD Cert.UpProjReferenceIdeal.τ Cert.UpProjReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_QkvWgrad (m : (ℓ : Loc Cert.QkvWgrad.nD Cert.QkvWgrad.τ Cert.QkvWgrad.sig) → Buf (Elt Bits) ℓ) : Prop :=
  True

def Pre_QkvWgradIdeal (m : (ℓ : Loc Cert.QkvWgradIdeal.nD Cert.QkvWgradIdeal.τ Cert.QkvWgradIdeal.sig) → Buf (Elt Ideal) ℓ) : Prop :=
  True

def Pre_QkvWgradReferenceIdeal (m : (ℓ : Loc Cert.QkvWgradReferenceIdeal.nD Cert.QkvWgradReferenceIdeal.τ Cert.QkvWgradReferenceIdeal.sig) → Buf (Elt Ideal) ℓ) : Prop :=
  True

def Pre_QWgrad (m : (ℓ : Loc Cert.QWgrad.nD Cert.QWgrad.τ Cert.QWgrad.sig) → Buf (Elt Bits) ℓ) : Prop :=
  True

def Pre_QWgradIdeal (m : (ℓ : Loc Cert.QWgradIdeal.nD Cert.QWgradIdeal.τ Cert.QWgradIdeal.sig) → Buf (Elt Ideal) ℓ) : Prop :=
  True

def Pre_QWgradReferenceIdeal (m : (ℓ : Loc Cert.QWgradReferenceIdeal.nD Cert.QWgradReferenceIdeal.τ Cert.QWgradReferenceIdeal.sig) → Buf (Elt Ideal) ℓ) : Prop :=
  True

def Pre_KvWgrad (m : (ℓ : Loc Cert.KvWgrad.nD Cert.KvWgrad.τ Cert.KvWgrad.sig) → Buf (Elt Bits) ℓ) : Prop :=
  True

def Pre_KvWgradIdeal (m : (ℓ : Loc Cert.KvWgradIdeal.nD Cert.KvWgradIdeal.τ Cert.KvWgradIdeal.sig) → Buf (Elt Ideal) ℓ) : Prop :=
  True

def Pre_KvWgradReferenceIdeal (m : (ℓ : Loc Cert.KvWgradReferenceIdeal.nD Cert.KvWgradReferenceIdeal.τ Cert.KvWgradReferenceIdeal.sig) → Buf (Elt Ideal) ℓ) : Prop :=
  True

def Pre_AOutWgrad (m : (ℓ : Loc Cert.AOutWgrad.nD Cert.AOutWgrad.τ Cert.AOutWgrad.sig) → Buf (Elt Bits) ℓ) : Prop :=
  True

def Pre_AOutWgradIdeal (m : (ℓ : Loc Cert.AOutWgradIdeal.nD Cert.AOutWgradIdeal.τ Cert.AOutWgradIdeal.sig) → Buf (Elt Ideal) ℓ) : Prop :=
  True

def Pre_AOutWgradReferenceIdeal (m : (ℓ : Loc Cert.AOutWgradReferenceIdeal.nD Cert.AOutWgradReferenceIdeal.τ Cert.AOutWgradReferenceIdeal.sig) → Buf (Elt Ideal) ℓ) : Prop :=
  True

def Pre_BOutWgrad (m : (ℓ : Loc Cert.BOutWgrad.nD Cert.BOutWgrad.τ Cert.BOutWgrad.sig) → Buf (Elt Bits) ℓ) : Prop :=
  True

def Pre_BOutWgradIdeal (m : (ℓ : Loc Cert.BOutWgradIdeal.nD Cert.BOutWgradIdeal.τ Cert.BOutWgradIdeal.sig) → Buf (Elt Ideal) ℓ) : Prop :=
  True

def Pre_BOutWgradReferenceIdeal (m : (ℓ : Loc Cert.BOutWgradReferenceIdeal.nD Cert.BOutWgradReferenceIdeal.τ Cert.BOutWgradReferenceIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjReferenceIdeal (m : (ℓ : Loc Cert.KvProjReferenceIdeal.nD Cert.KvProjReferenceIdeal.τ Cert.KvProjReferenceIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjReferenceIdeal (m : (ℓ : Loc Cert.QProjReferenceIdeal.nD Cert.QProjReferenceIdeal.τ Cert.QProjReferenceIdeal.sig) → Buf (Elt Ideal) ℓ) : Prop :=
  True

def Pre_BOutProj (m : (ℓ : Loc Cert.BOutProj.nD Cert.BOutProj.τ Cert.BOutProj.sig) → Buf (Elt Bits) ℓ) : Prop :=
  True

def Pre_BOutProjIdeal (m : (ℓ : Loc Cert.BOutProjIdeal.nD Cert.BOutProjIdeal.τ Cert.BOutProjIdeal.sig) → Buf (Elt Ideal) ℓ) : Prop :=
  True

def Pre_BOutProjReferenceIdeal (m : (ℓ : Loc Cert.BOutProjReferenceIdeal.nD Cert.BOutProjReferenceIdeal.τ Cert.BOutProjReferenceIdeal.sig) → Buf (Elt Ideal) ℓ) : Prop :=
  True

def Pre_BOutDx (m : (ℓ : Loc Cert.BOutDx.nD Cert.BOutDx.τ Cert.BOutDx.sig) → Buf (Elt Bits) ℓ) : Prop :=
  True

def Pre_BOutDxIdeal (m : (ℓ : Loc Cert.BOutDxIdeal.nD Cert.BOutDxIdeal.τ Cert.BOutDxIdeal.sig) → Buf (Elt Ideal) ℓ) : Prop :=
  True

def Pre_BOutDxReferenceIdeal (m : (ℓ : Loc Cert.BOutDxReferenceIdeal.nD Cert.BOutDxReferenceIdeal.τ Cert.BOutDxReferenceIdeal.sig) → Buf (Elt Ideal) ℓ) : Prop :=
  True

def Pre_BaWgrad (m : (ℓ : Loc Cert.BaWgrad.nD Cert.BaWgrad.τ Cert.BaWgrad.sig) → Buf (Elt Bits) ℓ) : Prop :=
  True

def Pre_BaWgradIdeal (m : (ℓ : Loc Cert.BaWgradIdeal.nD Cert.BaWgradIdeal.τ Cert.BaWgradIdeal.sig) → Buf (Elt Ideal) ℓ) : Prop :=
  True

def Pre_BaWgradReferenceIdeal (m : (ℓ : Loc Cert.BaWgradReferenceIdeal.nD Cert.BaWgradReferenceIdeal.τ Cert.BaWgradReferenceIdeal.sig) → Buf (Elt Ideal) ℓ) : Prop :=
  True

def Pre_QDx (m : (ℓ : Loc Cert.QDx.nD Cert.QDx.τ Cert.QDx.sig) → Buf (Elt Bits) ℓ) : Prop :=
  True

def Pre_QDxIdeal (m : (ℓ : Loc Cert.QDxIdeal.nD Cert.QDxIdeal.τ Cert.QDxIdeal.sig) → Buf (Elt Ideal) ℓ) : Prop :=
  True

def Pre_QDxIdeal_q_dx_finite [hPre_q_dx_finite : Cert.Pre_q_dx_finite.Facts] (m : (ℓ : Loc Cert.QDxIdeal.nD Cert.QDxIdeal.τ Cert.QDxIdeal.sig) → Buf (Elt Ideal) ℓ) : Prop :=
  ∀ c : Dev Cert.QDxIdeal.nD,
    (Cert.Pre_q_dx_finite.fn (F := Ideal) (m ((c.tc : Thread Cert.QDxIdeal.nD Cert.QDxIdeal.τ).loc Cert.QDxIdeal.main_arg0)) (m ((c.tc : Thread Cert.QDxIdeal.nD Cert.QDxIdeal.τ).loc Cert.QDxIdeal.main_arg1)) (m ((c.tc : Thread Cert.QDxIdeal.nD Cert.QDxIdeal.τ).loc Cert.QDxIdeal.main_arg2)) (m ((c.tc : Thread Cert.QDxIdeal.nD Cert.QDxIdeal.τ).loc Cert.QDxIdeal.main_arg3)) (m ((c.tc : Thread Cert.QDxIdeal.nD Cert.QDxIdeal.τ).loc Cert.QDxIdeal.main_arg4))).1 = (fun _ => 1#1)
    ∧ (Cert.Pre_q_dx_finite.fn (F := Ideal) (m ((c.tc : Thread Cert.QDxIdeal.nD Cert.QDxIdeal.τ).loc Cert.QDxIdeal.main_arg0)) (m ((c.tc : Thread Cert.QDxIdeal.nD Cert.QDxIdeal.τ).loc Cert.QDxIdeal.main_arg1)) (m ((c.tc : Thread Cert.QDxIdeal.nD Cert.QDxIdeal.τ).loc Cert.QDxIdeal.main_arg2)) (m ((c.tc : Thread Cert.QDxIdeal.nD Cert.QDxIdeal.τ).loc Cert.QDxIdeal.main_arg3)) (m ((c.tc : Thread Cert.QDxIdeal.nD Cert.QDxIdeal.τ).loc Cert.QDxIdeal.main_arg4))).2.1 = (fun _ => 1#1)
    ∧ (Cert.Pre_q_dx_finite.fn (F := Ideal) (m ((c.tc : Thread Cert.QDxIdeal.nD Cert.QDxIdeal.τ).loc Cert.QDxIdeal.main_arg0)) (m ((c.tc : Thread Cert.QDxIdeal.nD Cert.QDxIdeal.τ).loc Cert.QDxIdeal.main_arg1)) (m ((c.tc : Thread Cert.QDxIdeal.nD Cert.QDxIdeal.τ).loc Cert.QDxIdeal.main_arg2)) (m ((c.tc : Thread Cert.QDxIdeal.nD Cert.QDxIdeal.τ).loc Cert.QDxIdeal.main_arg3)) (m ((c.tc : Thread Cert.QDxIdeal.nD Cert.QDxIdeal.τ).loc Cert.QDxIdeal.main_arg4))).2.2.1 = (fun _ => 1#1)
    ∧ (Cert.Pre_q_dx_finite.fn (F := Ideal) (m ((c.tc : Thread Cert.QDxIdeal.nD Cert.QDxIdeal.τ).loc Cert.QDxIdeal.main_arg0)) (m ((c.tc : Thread Cert.QDxIdeal.nD Cert.QDxIdeal.τ).loc Cert.QDxIdeal.main_arg1)) (m ((c.tc : Thread Cert.QDxIdeal.nD Cert.QDxIdeal.τ).loc Cert.QDxIdeal.main_arg2)) (m ((c.tc : Thread Cert.QDxIdeal.nD Cert.QDxIdeal.τ).loc Cert.QDxIdeal.main_arg3)) (m ((c.tc : Thread Cert.QDxIdeal.nD Cert.QDxIdeal.τ).loc Cert.QDxIdeal.main_arg4))).2.2.2 = (fun _ => 1#1)

def Pre_QDxReferenceIdeal (m : (ℓ : Loc Cert.QDxReferenceIdeal.nD Cert.QDxReferenceIdeal.τ Cert.QDxReferenceIdeal.sig) → Buf (Elt Ideal) ℓ) : Prop :=
  True

def Pre_QDxReferenceIdeal_q_dx_finite [hPre_q_dx_finite : Cert.Pre_q_dx_finite.Facts] (m : (ℓ : Loc Cert.QDxReferenceIdeal.nD Cert.QDxReferenceIdeal.τ Cert.QDxReferenceIdeal.sig) → Buf (Elt Ideal) ℓ) : Prop :=
  ∀ c : Dev Cert.QDxReferenceIdeal.nD,
    (Cert.Pre_q_dx_finite.fn (F := Ideal) (m ((c.tc : Thread Cert.QDxReferenceIdeal.nD Cert.QDxReferenceIdeal.τ).loc Cert.QDxReferenceIdeal.main_arg0)) (m ((c.tc : Thread Cert.QDxReferenceIdeal.nD Cert.QDxReferenceIdeal.τ).loc Cert.QDxReferenceIdeal.main_arg1)) (m ((c.tc : Thread Cert.QDxReferenceIdeal.nD Cert.QDxReferenceIdeal.τ).loc Cert.QDxReferenceIdeal.main_arg2)) (m ((c.tc : Thread Cert.QDxReferenceIdeal.nD Cert.QDxReferenceIdeal.τ).loc Cert.QDxReferenceIdeal.main_arg3)) (m ((c.tc : Thread Cert.QDxReferenceIdeal.nD Cert.QDxReferenceIdeal.τ).loc Cert.QDxReferenceIdeal.main_arg4))).1 = (fun _ => 1#1)
    ∧ (Cert.Pre_q_dx_finite.fn (F := Ideal) (m ((c.tc : Thread Cert.QDxReferenceIdeal.nD Cert.QDxReferenceIdeal.τ).loc Cert.QDxReferenceIdeal.main_arg0)) (m ((c.tc : Thread Cert.QDxReferenceIdeal.nD Cert.QDxReferenceIdeal.τ).loc Cert.QDxReferenceIdeal.main_arg1)) (m ((c.tc : Thread Cert.QDxReferenceIdeal.nD Cert.QDxReferenceIdeal.τ).loc Cert.QDxReferenceIdeal.main_arg2)) (m ((c.tc : Thread Cert.QDxReferenceIdeal.nD Cert.QDxReferenceIdeal.τ).loc Cert.QDxReferenceIdeal.main_arg3)) (m ((c.tc : Thread Cert.QDxReferenceIdeal.nD Cert.QDxReferenceIdeal.τ).loc Cert.QDxReferenceIdeal.main_arg4))).2.1 = (fun _ => 1#1)
    ∧ (Cert.Pre_q_dx_finite.fn (F := Ideal) (m ((c.tc : Thread Cert.QDxReferenceIdeal.nD Cert.QDxReferenceIdeal.τ).loc Cert.QDxReferenceIdeal.main_arg0)) (m ((c.tc : Thread Cert.QDxReferenceIdeal.nD Cert.QDxReferenceIdeal.τ).loc Cert.QDxReferenceIdeal.main_arg1)) (m ((c.tc : Thread Cert.QDxReferenceIdeal.nD Cert.QDxReferenceIdeal.τ).loc Cert.QDxReferenceIdeal.main_arg2)) (m ((c.tc : Thread Cert.QDxReferenceIdeal.nD Cert.QDxReferenceIdeal.τ).loc Cert.QDxReferenceIdeal.main_arg3)) (m ((c.tc : Thread Cert.QDxReferenceIdeal.nD Cert.QDxReferenceIdeal.τ).loc Cert.QDxReferenceIdeal.main_arg4))).2.2.1 = (fun _ => 1#1)
    ∧ (Cert.Pre_q_dx_finite.fn (F := Ideal) (m ((c.tc : Thread Cert.QDxReferenceIdeal.nD Cert.QDxReferenceIdeal.τ).loc Cert.QDxReferenceIdeal.main_arg0)) (m ((c.tc : Thread Cert.QDxReferenceIdeal.nD Cert.QDxReferenceIdeal.τ).loc Cert.QDxReferenceIdeal.main_arg1)) (m ((c.tc : Thread Cert.QDxReferenceIdeal.nD Cert.QDxReferenceIdeal.τ).loc Cert.QDxReferenceIdeal.main_arg2)) (m ((c.tc : Thread Cert.QDxReferenceIdeal.nD Cert.QDxReferenceIdeal.τ).loc Cert.QDxReferenceIdeal.main_arg3)) (m ((c.tc : Thread Cert.QDxReferenceIdeal.nD Cert.QDxReferenceIdeal.τ).loc Cert.QDxReferenceIdeal.main_arg4))).2.2.2 = (fun _ => 1#1)

def Pre_KvDx (m : (ℓ : Loc Cert.KvDx.nD Cert.KvDx.τ Cert.KvDx.sig) → Buf (Elt Bits) ℓ) : Prop :=
  True

def Pre_KvDxIdeal (m : (ℓ : Loc Cert.KvDxIdeal.nD Cert.KvDxIdeal.τ Cert.KvDxIdeal.sig) → Buf (Elt Ideal) ℓ) : Prop :=
  True

def Pre_KvDxIdeal_kv_dx_finite [hPre_kv_dx_finite : Cert.Pre_kv_dx_finite.Facts] (m : (ℓ : Loc Cert.KvDxIdeal.nD Cert.KvDxIdeal.τ Cert.KvDxIdeal.sig) → Buf (Elt Ideal) ℓ) : Prop :=
  ∀ c : Dev Cert.KvDxIdeal.nD,
    (Cert.Pre_kv_dx_finite.fn (F := Ideal) (m ((c.tc : Thread Cert.KvDxIdeal.nD Cert.KvDxIdeal.τ).loc Cert.KvDxIdeal.main_arg0)) (m ((c.tc : Thread Cert.KvDxIdeal.nD Cert.KvDxIdeal.τ).loc Cert.KvDxIdeal.main_arg1)) (m ((c.tc : Thread Cert.KvDxIdeal.nD Cert.KvDxIdeal.τ).loc Cert.KvDxIdeal.main_arg2)) (m ((c.tc : Thread Cert.KvDxIdeal.nD Cert.KvDxIdeal.τ).loc Cert.KvDxIdeal.main_arg3)) (m ((c.tc : Thread Cert.KvDxIdeal.nD Cert.KvDxIdeal.τ).loc Cert.KvDxIdeal.main_arg4)) (m ((c.tc : Thread Cert.KvDxIdeal.nD Cert.KvDxIdeal.τ).loc Cert.KvDxIdeal.main_arg5))).1 = (fun _ => 1#1)
    ∧ (Cert.Pre_kv_dx_finite.fn (F := Ideal) (m ((c.tc : Thread Cert.KvDxIdeal.nD Cert.KvDxIdeal.τ).loc Cert.KvDxIdeal.main_arg0)) (m ((c.tc : Thread Cert.KvDxIdeal.nD Cert.KvDxIdeal.τ).loc Cert.KvDxIdeal.main_arg1)) (m ((c.tc : Thread Cert.KvDxIdeal.nD Cert.KvDxIdeal.τ).loc Cert.KvDxIdeal.main_arg2)) (m ((c.tc : Thread Cert.KvDxIdeal.nD Cert.KvDxIdeal.τ).loc Cert.KvDxIdeal.main_arg3)) (m ((c.tc : Thread Cert.KvDxIdeal.nD Cert.KvDxIdeal.τ).loc Cert.KvDxIdeal.main_arg4)) (m ((c.tc : Thread Cert.KvDxIdeal.nD Cert.KvDxIdeal.τ).loc Cert.KvDxIdeal.main_arg5))).2.1 = (fun _ => 1#1)
    ∧ (Cert.Pre_kv_dx_finite.fn (F := Ideal) (m ((c.tc : Thread Cert.KvDxIdeal.nD Cert.KvDxIdeal.τ).loc Cert.KvDxIdeal.main_arg0)) (m ((c.tc : Thread Cert.KvDxIdeal.nD Cert.KvDxIdeal.τ).loc Cert.KvDxIdeal.main_arg1)) (m ((c.tc : Thread Cert.KvDxIdeal.nD Cert.KvDxIdeal.τ).loc Cert.KvDxIdeal.main_arg2)) (m ((c.tc : Thread Cert.KvDxIdeal.nD Cert.KvDxIdeal.τ).loc Cert.KvDxIdeal.main_arg3)) (m ((c.tc : Thread Cert.KvDxIdeal.nD Cert.KvDxIdeal.τ).loc Cert.KvDxIdeal.main_arg4)) (m ((c.tc : Thread Cert.KvDxIdeal.nD Cert.KvDxIdeal.τ).loc Cert.KvDxIdeal.main_arg5))).2.2.1 = (fun _ => 1#1)
    ∧ (Cert.Pre_kv_dx_finite.fn (F := Ideal) (m ((c.tc : Thread Cert.KvDxIdeal.nD Cert.KvDxIdeal.τ).loc Cert.KvDxIdeal.main_arg0)) (m ((c.tc : Thread Cert.KvDxIdeal.nD Cert.KvDxIdeal.τ).loc Cert.KvDxIdeal.main_arg1)) (m ((c.tc : Thread Cert.KvDxIdeal.nD Cert.KvDxIdeal.τ).loc Cert.KvDxIdeal.main_arg2)) (m ((c.tc : Thread Cert.KvDxIdeal.nD Cert.KvDxIdeal.τ).loc Cert.KvDxIdeal.main_arg3)) (m ((c.tc : Thread Cert.KvDxIdeal.nD Cert.KvDxIdeal.τ).loc Cert.KvDxIdeal.main_arg4)) (m ((c.tc : Thread Cert.KvDxIdeal.nD Cert.KvDxIdeal.τ).loc Cert.KvDxIdeal.main_arg5))).2.2.2.1 = (fun _ => 1#1)
    ∧ (Cert.Pre_kv_dx_finite.fn (F := Ideal) (m ((c.tc : Thread Cert.KvDxIdeal.nD Cert.KvDxIdeal.τ).loc Cert.KvDxIdeal.main_arg0)) (m ((c.tc : Thread Cert.KvDxIdeal.nD Cert.KvDxIdeal.τ).loc Cert.KvDxIdeal.main_arg1)) (m ((c.tc : Thread Cert.KvDxIdeal.nD Cert.KvDxIdeal.τ).loc Cert.KvDxIdeal.main_arg2)) (m ((c.tc : Thread Cert.KvDxIdeal.nD Cert.KvDxIdeal.τ).loc Cert.KvDxIdeal.main_arg3)) (m ((c.tc : Thread Cert.KvDxIdeal.nD Cert.KvDxIdeal.τ).loc Cert.KvDxIdeal.main_arg4)) (m ((c.tc : Thread Cert.KvDxIdeal.nD Cert.KvDxIdeal.τ).loc Cert.KvDxIdeal.main_arg5))).2.2.2.2 = (fun _ => 1#1)

def Pre_KvDxReferenceIdeal (m : (ℓ : Loc Cert.KvDxReferenceIdeal.nD Cert.KvDxReferenceIdeal.τ Cert.KvDxReferenceIdeal.sig) → Buf (Elt Ideal) ℓ) : Prop :=
  True

def Pre_KvDxReferenceIdeal_kv_dx_finite [hPre_kv_dx_finite : Cert.Pre_kv_dx_finite.Facts] (m : (ℓ : Loc Cert.KvDxReferenceIdeal.nD Cert.KvDxReferenceIdeal.τ Cert.KvDxReferenceIdeal.sig) → Buf (Elt Ideal) ℓ) : Prop :=
  ∀ c : Dev Cert.KvDxReferenceIdeal.nD,
    (Cert.Pre_kv_dx_finite.fn (F := Ideal) (m ((c.tc : Thread Cert.KvDxReferenceIdeal.nD Cert.KvDxReferenceIdeal.τ).loc Cert.KvDxReferenceIdeal.main_arg0)) (m ((c.tc : Thread Cert.KvDxReferenceIdeal.nD Cert.KvDxReferenceIdeal.τ).loc Cert.KvDxReferenceIdeal.main_arg1)) (m ((c.tc : Thread Cert.KvDxReferenceIdeal.nD Cert.KvDxReferenceIdeal.τ).loc Cert.KvDxReferenceIdeal.main_arg2)) (m ((c.tc : Thread Cert.KvDxReferenceIdeal.nD Cert.KvDxReferenceIdeal.τ).loc Cert.KvDxReferenceIdeal.main_arg3)) (m ((c.tc : Thread Cert.KvDxReferenceIdeal.nD Cert.KvDxReferenceIdeal.τ).loc Cert.KvDxReferenceIdeal.main_arg4)) (m ((c.tc : Thread Cert.KvDxReferenceIdeal.nD Cert.KvDxReferenceIdeal.τ).loc Cert.KvDxReferenceIdeal.main_arg5))).1 = (fun _ => 1#1)
    ∧ (Cert.Pre_kv_dx_finite.fn (F := Ideal) (m ((c.tc : Thread Cert.KvDxReferenceIdeal.nD Cert.KvDxReferenceIdeal.τ).loc Cert.KvDxReferenceIdeal.main_arg0)) (m ((c.tc : Thread Cert.KvDxReferenceIdeal.nD Cert.KvDxReferenceIdeal.τ).loc Cert.KvDxReferenceIdeal.main_arg1)) (m ((c.tc : Thread Cert.KvDxReferenceIdeal.nD Cert.KvDxReferenceIdeal.τ).loc Cert.KvDxReferenceIdeal.main_arg2)) (m ((c.tc : Thread Cert.KvDxReferenceIdeal.nD Cert.KvDxReferenceIdeal.τ).loc Cert.KvDxReferenceIdeal.main_arg3)) (m ((c.tc : Thread Cert.KvDxReferenceIdeal.nD Cert.KvDxReferenceIdeal.τ).loc Cert.KvDxReferenceIdeal.main_arg4)) (m ((c.tc : Thread Cert.KvDxReferenceIdeal.nD Cert.KvDxReferenceIdeal.τ).loc Cert.KvDxReferenceIdeal.main_arg5))).2.1 = (fun _ => 1#1)
    ∧ (Cert.Pre_kv_dx_finite.fn (F := Ideal) (m ((c.tc : Thread Cert.KvDxReferenceIdeal.nD Cert.KvDxReferenceIdeal.τ).loc Cert.KvDxReferenceIdeal.main_arg0)) (m ((c.tc : Thread Cert.KvDxReferenceIdeal.nD Cert.KvDxReferenceIdeal.τ).loc Cert.KvDxReferenceIdeal.main_arg1)) (m ((c.tc : Thread Cert.KvDxReferenceIdeal.nD Cert.KvDxReferenceIdeal.τ).loc Cert.KvDxReferenceIdeal.main_arg2)) (m ((c.tc : Thread Cert.KvDxReferenceIdeal.nD Cert.KvDxReferenceIdeal.τ).loc Cert.KvDxReferenceIdeal.main_arg3)) (m ((c.tc : Thread Cert.KvDxReferenceIdeal.nD Cert.KvDxReferenceIdeal.τ).loc Cert.KvDxReferenceIdeal.main_arg4)) (m ((c.tc : Thread Cert.KvDxReferenceIdeal.nD Cert.KvDxReferenceIdeal.τ).loc Cert.KvDxReferenceIdeal.main_arg5))).2.2.1 = (fun _ => 1#1)
    ∧ (Cert.Pre_kv_dx_finite.fn (F := Ideal) (m ((c.tc : Thread Cert.KvDxReferenceIdeal.nD Cert.KvDxReferenceIdeal.τ).loc Cert.KvDxReferenceIdeal.main_arg0)) (m ((c.tc : Thread Cert.KvDxReferenceIdeal.nD Cert.KvDxReferenceIdeal.τ).loc Cert.KvDxReferenceIdeal.main_arg1)) (m ((c.tc : Thread Cert.KvDxReferenceIdeal.nD Cert.KvDxReferenceIdeal.τ).loc Cert.KvDxReferenceIdeal.main_arg2)) (m ((c.tc : Thread Cert.KvDxReferenceIdeal.nD Cert.KvDxReferenceIdeal.τ).loc Cert.KvDxReferenceIdeal.main_arg3)) (m ((c.tc : Thread Cert.KvDxReferenceIdeal.nD Cert.KvDxReferenceIdeal.τ).loc Cert.KvDxReferenceIdeal.main_arg4)) (m ((c.tc : Thread Cert.KvDxReferenceIdeal.nD Cert.KvDxReferenceIdeal.τ).loc Cert.KvDxReferenceIdeal.main_arg5))).2.2.2.1 = (fun _ => 1#1)
    ∧ (Cert.Pre_kv_dx_finite.fn (F := Ideal) (m ((c.tc : Thread Cert.KvDxReferenceIdeal.nD Cert.KvDxReferenceIdeal.τ).loc Cert.KvDxReferenceIdeal.main_arg0)) (m ((c.tc : Thread Cert.KvDxReferenceIdeal.nD Cert.KvDxReferenceIdeal.τ).loc Cert.KvDxReferenceIdeal.main_arg1)) (m ((c.tc : Thread Cert.KvDxReferenceIdeal.nD Cert.KvDxReferenceIdeal.τ).loc Cert.KvDxReferenceIdeal.main_arg2)) (m ((c.tc : Thread Cert.KvDxReferenceIdeal.nD Cert.KvDxReferenceIdeal.τ).loc Cert.KvDxReferenceIdeal.main_arg3)) (m ((c.tc : Thread Cert.KvDxReferenceIdeal.nD Cert.KvDxReferenceIdeal.τ).loc Cert.KvDxReferenceIdeal.main_arg4)) (m ((c.tc : Thread Cert.KvDxReferenceIdeal.nD Cert.KvDxReferenceIdeal.τ).loc Cert.KvDxReferenceIdeal.main_arg5))).2.2.2.2 = (fun _ => 1#1)

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxIdeal_in_dx_finite [hPre_in_dx_finite : Cert.Pre_in_dx_finite.Facts] (m : (ℓ : Loc Cert.InDxIdeal.nD Cert.InDxIdeal.τ Cert.InDxIdeal.sig) → Buf (Elt Ideal) ℓ) : Prop :=
  ∀ c : Dev Cert.InDxIdeal.nD,
    (Cert.Pre_in_dx_finite.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4)) (m ((c.tc : Thread Cert.InDxIdeal.nD Cert.InDxIdeal.τ).loc Cert.InDxIdeal.main_arg5)) (m ((c.tc : Thread Cert.InDxIdeal.nD Cert.InDxIdeal.τ).loc Cert.InDxIdeal.main_arg6))).1 = (fun _ => 1#1)
    ∧ (Cert.Pre_in_dx_finite.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4)) (m ((c.tc : Thread Cert.InDxIdeal.nD Cert.InDxIdeal.τ).loc Cert.InDxIdeal.main_arg5)) (m ((c.tc : Thread Cert.InDxIdeal.nD Cert.InDxIdeal.τ).loc Cert.InDxIdeal.main_arg6))).2.1 = (fun _ => 1#1)
    ∧ (Cert.Pre_in_dx_finite.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4)) (m ((c.tc : Thread Cert.InDxIdeal.nD Cert.InDxIdeal.τ).loc Cert.InDxIdeal.main_arg5)) (m ((c.tc : Thread Cert.InDxIdeal.nD Cert.InDxIdeal.τ).loc Cert.InDxIdeal.main_arg6))).2.2.1 = (fun _ => 1#1)
    ∧ (Cert.Pre_in_dx_finite.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4)) (m ((c.tc : Thread Cert.InDxIdeal.nD Cert.InDxIdeal.τ).loc Cert.InDxIdeal.main_arg5)) (m ((c.tc : Thread Cert.InDxIdeal.nD Cert.InDxIdeal.τ).loc Cert.InDxIdeal.main_arg6))).2.2.2.1 = (fun _ => 1#1)
    ∧ (Cert.Pre_in_dx_finite.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4)) (m ((c.tc : Thread Cert.InDxIdeal.nD Cert.InDxIdeal.τ).loc Cert.InDxIdeal.main_arg5)) (m ((c.tc : Thread Cert.InDxIdeal.nD Cert.InDxIdeal.τ).loc Cert.InDxIdeal.main_arg6))).2.2.2.2.1 = (fun _ => 1#1)
    ∧ (Cert.Pre_in_dx_finite.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4)) (m ((c.tc : Thread Cert.InDxIdeal.nD Cert.InDxIdeal.τ).loc Cert.InDxIdeal.main_arg5)) (m ((c.tc : Thread Cert.InDxIdeal.nD Cert.InDxIdeal.τ).loc Cert.InDxIdeal.main_arg6))).2.2.2.2.2 = (fun _ => 1#1)

def Pre_InDxReferenceIdeal (m : (ℓ : Loc Cert.InDxReferenceIdeal.nD Cert.InDxReferenceIdeal.τ Cert.InDxReferenceIdeal.sig) → Buf (Elt Ideal) ℓ) : Prop :=
  True

def Pre_InDxReferenceIdeal_in_dx_finite [hPre_in_dx_finite : Cert.Pre_in_dx_finite.Facts] (m : (ℓ : Loc Cert.InDxReferenceIdeal.nD Cert.InDxReferenceIdeal.τ Cert.InDxReferenceIdeal.sig) → Buf (Elt Ideal) ℓ) : Prop :=
  ∀ c : Dev Cert.InDxReferenceIdeal.nD,
    (Cert.Pre_in_dx_finite.fn (F := Ideal) (m ((c.tc : Thread Cert.InDxReferenceIdeal.nD Cert.InDxReferenceIdeal.τ).loc Cert.InDxReferenceIdeal.main_arg0)) (m ((c.tc : Thread Cert.InDxReferenceIdeal.nD Cert.InDxReferenceIdeal.τ).loc Cert.InDxReferenceIdeal.main_arg1)) (m ((c.tc : Thread Cert.InDxReferenceIdeal.nD Cert.InDxReferenceIdeal.τ).loc Cert.InDxReferenceIdeal.main_arg2)) (m ((c.tc : Thread Cert.InDxReferenceIdeal.nD Cert.InDxReferenceIdeal.τ).loc Cert.InDxReferenceIdeal.main_arg3)) (m ((c.tc : Thread Cert.InDxReferenceIdeal.nD Cert.InDxReferenceIdeal.τ).loc Cert.InDxReferenceIdeal.main_arg4)) (m ((c.tc : Thread Cert.InDxReferenceIdeal.nD Cert.InDxReferenceIdeal.τ).loc Cert.InDxReferenceIdeal.main_arg5)) (m ((c.tc : Thread Cert.InDxReferenceIdeal.nD Cert.InDxReferenceIdeal.τ).loc Cert.InDxReferenceIdeal.main_arg6))).1 = (fun _ => 1#1)
    ∧ (Cert.Pre_in_dx_finite.fn (F := Ideal) (m ((c.tc : Thread Cert.InDxReferenceIdeal.nD Cert.InDxReferenceIdeal.τ).loc Cert.InDxReferenceIdeal.main_arg0)) (m ((c.tc : Thread Cert.InDxReferenceIdeal.nD Cert.InDxReferenceIdeal.τ).loc Cert.InDxReferenceIdeal.main_arg1)) (m ((c.tc : Thread Cert.InDxReferenceIdeal.nD Cert.InDxReferenceIdeal.τ).loc Cert.InDxReferenceIdeal.main_arg2)) (m ((c.tc : Thread Cert.InDxReferenceIdeal.nD Cert.InDxReferenceIdeal.τ).loc Cert.InDxReferenceIdeal.main_arg3)) (m ((c.tc : Thread Cert.InDxReferenceIdeal.nD Cert.InDxReferenceIdeal.τ).loc Cert.InDxReferenceIdeal.main_arg4)) (m ((c.tc : Thread Cert.InDxReferenceIdeal.nD Cert.InDxReferenceIdeal.τ).loc Cert.InDxReferenceIdeal.main_arg5)) (m ((c.tc : Thread Cert.InDxReferenceIdeal.nD Cert.InDxReferenceIdeal.τ).loc Cert.InDxReferenceIdeal.main_arg6))).2.1 = (fun _ => 1#1)
    ∧ (Cert.Pre_in_dx_finite.fn (F := Ideal) (m ((c.tc : Thread Cert.InDxReferenceIdeal.nD Cert.InDxReferenceIdeal.τ).loc Cert.InDxReferenceIdeal.main_arg0)) (m ((c.tc : Thread Cert.InDxReferenceIdeal.nD Cert.InDxReferenceIdeal.τ).loc Cert.InDxReferenceIdeal.main_arg1)) (m ((c.tc : Thread Cert.InDxReferenceIdeal.nD Cert.InDxReferenceIdeal.τ).loc Cert.InDxReferenceIdeal.main_arg2)) (m ((c.tc : Thread Cert.InDxReferenceIdeal.nD Cert.InDxReferenceIdeal.τ).loc Cert.InDxReferenceIdeal.main_arg3)) (m ((c.tc : Thread Cert.InDxReferenceIdeal.nD Cert.InDxReferenceIdeal.τ).loc Cert.InDxReferenceIdeal.main_arg4)) (m ((c.tc : Thread Cert.InDxReferenceIdeal.nD Cert.InDxReferenceIdeal.τ).loc Cert.InDxReferenceIdeal.main_arg5)) (m ((c.tc : Thread Cert.InDxReferenceIdeal.nD Cert.InDxReferenceIdeal.τ).loc Cert.InDxReferenceIdeal.main_arg6))).2.2.1 = (fun _ => 1#1)
    ∧ (Cert.Pre_in_dx_finite.fn (F := Ideal) (m ((c.tc : Thread Cert.InDxReferenceIdeal.nD Cert.InDxReferenceIdeal.τ).loc Cert.InDxReferenceIdeal.main_arg0)) (m ((c.tc : Thread Cert.InDxReferenceIdeal.nD Cert.InDxReferenceIdeal.τ).loc Cert.InDxReferenceIdeal.main_arg1)) (m ((c.tc : Thread Cert.InDxReferenceIdeal.nD Cert.InDxReferenceIdeal.τ).loc Cert.InDxReferenceIdeal.main_arg2)) (m ((c.tc : Thread Cert.InDxReferenceIdeal.nD Cert.InDxReferenceIdeal.τ).loc Cert.InDxReferenceIdeal.main_arg3)) (m ((c.tc : Thread Cert.InDxReferenceIdeal.nD Cert.InDxReferenceIdeal.τ).loc Cert.InDxReferenceIdeal.main_arg4)) (m ((c.tc : Thread Cert.InDxReferenceIdeal.nD Cert.InDxReferenceIdeal.τ).loc Cert.InDxReferenceIdeal.main_arg5)) (m ((c.tc : Thread Cert.InDxReferenceIdeal.nD Cert.InDxReferenceIdeal.τ).loc Cert.InDxReferenceIdeal.main_arg6))).2.2.2.1 = (fun _ => 1#1)
    ∧ (Cert.Pre_in_dx_finite.fn (F := Ideal) (m ((c.tc : Thread Cert.InDxReferenceIdeal.nD Cert.InDxReferenceIdeal.τ).loc Cert.InDxReferenceIdeal.main_arg0)) (m ((c.tc : Thread Cert.InDxReferenceIdeal.nD Cert.InDxReferenceIdeal.τ).loc Cert.InDxReferenceIdeal.main_arg1)) (m ((c.tc : Thread Cert.InDxReferenceIdeal.nD Cert.InDxReferenceIdeal.τ).loc Cert.InDxReferenceIdeal.main_arg2)) (m ((c.tc : Thread Cert.InDxReferenceIdeal.nD Cert.InDxReferenceIdeal.τ).loc Cert.InDxReferenceIdeal.main_arg3)) (m ((c.tc : Thread Cert.InDxReferenceIdeal.nD Cert.InDxReferenceIdeal.τ).loc Cert.InDxReferenceIdeal.main_arg4)) (m ((c.tc : Thread Cert.InDxReferenceIdeal.nD Cert.InDxReferenceIdeal.τ).loc Cert.InDxReferenceIdeal.main_arg5)) (m ((c.tc : Thread Cert.InDxReferenceIdeal.nD Cert.InDxReferenceIdeal.τ).loc Cert.InDxReferenceIdeal.main_arg6))).2.2.2.2.1 = (fun _ => 1#1)
    ∧ (Cert.Pre_in_dx_finite.fn (F := Ideal) (m ((c.tc : Thread Cert.InDxReferenceIdeal.nD Cert.InDxReferenceIdeal.τ).loc Cert.InDxReferenceIdeal.main_arg0)) (m ((c.tc : Thread Cert.InDxReferenceIdeal.nD Cert.InDxReferenceIdeal.τ).loc Cert.InDxReferenceIdeal.main_arg1)) (m ((c.tc : Thread Cert.InDxReferenceIdeal.nD Cert.InDxReferenceIdeal.τ).loc Cert.InDxReferenceIdeal.main_arg2)) (m ((c.tc : Thread Cert.InDxReferenceIdeal.nD Cert.InDxReferenceIdeal.τ).loc Cert.InDxReferenceIdeal.main_arg3)) (m ((c.tc : Thread Cert.InDxReferenceIdeal.nD Cert.InDxReferenceIdeal.τ).loc Cert.InDxReferenceIdeal.main_arg4)) (m ((c.tc : Thread Cert.InDxReferenceIdeal.nD Cert.InDxReferenceIdeal.τ).loc Cert.InDxReferenceIdeal.main_arg5)) (m ((c.tc : Thread Cert.InDxReferenceIdeal.nD Cert.InDxReferenceIdeal.τ).loc Cert.InDxReferenceIdeal.main_arg6))).2.2.2.2.2 = (fun _ => 1#1)

def Pre_BwdAct (m : (ℓ : Loc Cert.BwdAct.nD Cert.BwdAct.τ Cert.BwdAct.sig) → Buf (Elt Bits) ℓ) : Prop :=
  True

def Pre_BwdActIdeal (m : (ℓ : Loc Cert.BwdActIdeal.nD Cert.BwdActIdeal.τ Cert.BwdActIdeal.sig) → Buf (Elt Ideal) ℓ) : Prop :=
  True

def Pre_BwdActIdeal_bwd_act_finite [hPre_bwd_act_finite : Cert.Pre_bwd_act_finite.Facts] (m : (ℓ : Loc Cert.BwdActIdeal.nD Cert.BwdActIdeal.τ Cert.BwdActIdeal.sig) → Buf (Elt Ideal) ℓ) : Prop :=
  ∀ c : Dev Cert.BwdActIdeal.nD,
    (Cert.Pre_bwd_act_finite.fn (F := Ideal) (m ((c.tc : Thread Cert.BwdActIdeal.nD Cert.BwdActIdeal.τ).loc Cert.BwdActIdeal.main_arg0)) (m ((c.tc : Thread Cert.BwdActIdeal.nD Cert.BwdActIdeal.τ).loc Cert.BwdActIdeal.main_arg1)) (m ((c.tc : Thread Cert.BwdActIdeal.nD Cert.BwdActIdeal.τ).loc Cert.BwdActIdeal.main_arg2))).1 = (fun _ => 1#1)
    ∧ (Cert.Pre_bwd_act_finite.fn (F := Ideal) (m ((c.tc : Thread Cert.BwdActIdeal.nD Cert.BwdActIdeal.τ).loc Cert.BwdActIdeal.main_arg0)) (m ((c.tc : Thread Cert.BwdActIdeal.nD Cert.BwdActIdeal.τ).loc Cert.BwdActIdeal.main_arg1)) (m ((c.tc : Thread Cert.BwdActIdeal.nD Cert.BwdActIdeal.τ).loc Cert.BwdActIdeal.main_arg2))).2.1 = (fun _ => 1#1)
    ∧ (Cert.Pre_bwd_act_finite.fn (F := Ideal) (m ((c.tc : Thread Cert.BwdActIdeal.nD Cert.BwdActIdeal.τ).loc Cert.BwdActIdeal.main_arg0)) (m ((c.tc : Thread Cert.BwdActIdeal.nD Cert.BwdActIdeal.τ).loc Cert.BwdActIdeal.main_arg1)) (m ((c.tc : Thread Cert.BwdActIdeal.nD Cert.BwdActIdeal.τ).loc Cert.BwdActIdeal.main_arg2))).2.2 = (fun _ => 1#1)

def Pre_BwdActReferenceIdeal (m : (ℓ : Loc Cert.BwdActReferenceIdeal.nD Cert.BwdActReferenceIdeal.τ Cert.BwdActReferenceIdeal.sig) → Buf (Elt Ideal) ℓ) : Prop :=
  True

def Pre_BwdActReferenceIdeal_bwd_act_finite [hPre_bwd_act_finite : Cert.Pre_bwd_act_finite.Facts] (m : (ℓ : Loc Cert.BwdActReferenceIdeal.nD Cert.BwdActReferenceIdeal.τ Cert.BwdActReferenceIdeal.sig) → Buf (Elt Ideal) ℓ) : Prop :=
  ∀ c : Dev Cert.BwdActReferenceIdeal.nD,
    (Cert.Pre_bwd_act_finite.fn (F := Ideal) (m ((c.tc : Thread Cert.BwdActReferenceIdeal.nD Cert.BwdActReferenceIdeal.τ).loc Cert.BwdActReferenceIdeal.main_arg0)) (m ((c.tc : Thread Cert.BwdActReferenceIdeal.nD Cert.BwdActReferenceIdeal.τ).loc Cert.BwdActReferenceIdeal.main_arg1)) (m ((c.tc : Thread Cert.BwdActReferenceIdeal.nD Cert.BwdActReferenceIdeal.τ).loc Cert.BwdActReferenceIdeal.main_arg2))).1 = (fun _ => 1#1)
    ∧ (Cert.Pre_bwd_act_finite.fn (F := Ideal) (m ((c.tc : Thread Cert.BwdActReferenceIdeal.nD Cert.BwdActReferenceIdeal.τ).loc Cert.BwdActReferenceIdeal.main_arg0)) (m ((c.tc : Thread Cert.BwdActReferenceIdeal.nD Cert.BwdActReferenceIdeal.τ).loc Cert.BwdActReferenceIdeal.main_arg1)) (m ((c.tc : Thread Cert.BwdActReferenceIdeal.nD Cert.BwdActReferenceIdeal.τ).loc Cert.BwdActReferenceIdeal.main_arg2))).2.1 = (fun _ => 1#1)
    ∧ (Cert.Pre_bwd_act_finite.fn (F := Ideal) (m ((c.tc : Thread Cert.BwdActReferenceIdeal.nD Cert.BwdActReferenceIdeal.τ).loc Cert.BwdActReferenceIdeal.main_arg0)) (m ((c.tc : Thread Cert.BwdActReferenceIdeal.nD Cert.BwdActReferenceIdeal.τ).loc Cert.BwdActReferenceIdeal.main_arg1)) (m ((c.tc : Thread Cert.BwdActReferenceIdeal.nD Cert.BwdActReferenceIdeal.τ).loc Cert.BwdActReferenceIdeal.main_arg2))).2.2 = (fun _ => 1#1)

def Pre_ActDown (m : (ℓ : Loc Cert.ActDown.nD Cert.ActDown.τ Cert.ActDown.sig) → Buf (Elt Bits) ℓ) : Prop :=
  True

def Pre_ActDownIdeal (m : (ℓ : Loc Cert.ActDownIdeal.nD Cert.ActDownIdeal.τ Cert.ActDownIdeal.sig) → Buf (Elt Ideal) ℓ) : Prop :=
  True

def Pre_ActDownReferenceIdeal (m : (ℓ : Loc Cert.ActDownReferenceIdeal.nD Cert.ActDownReferenceIdeal.τ Cert.ActDownReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UpWgrad [hUpWgrad : Cert.UpWgrad.Facts] : Prop :=
  ∀ (m : (ℓ : Loc Cert.UpWgrad.nD Cert.UpWgrad.τ Cert.UpWgrad.sig) → Buf (Elt Bits) ℓ) (g : Dev Cert.UpWgrad.nD → PrngReg), Pre_UpWgrad m →
    θ_run (Cert.UpWgrad.defs (F := Bits)) (onTc (τ := Cert.UpWgrad.τ) (Cert.UpWgrad.main (F := Bits))) ⟨m, fun _ => 0, g⟩ (fun r => (∀ c : Dev Cert.UpWgrad.nD,
      r.2.mem ((c.tc : Thread Cert.UpWgrad.nD Cert.UpWgrad.τ).loc Cert.UpWgrad.main_arg0) = m ((c.tc : Thread Cert.UpWgrad.nD Cert.UpWgrad.τ).loc Cert.UpWgrad.main_arg0)
      ∧ r.2.mem ((c.tc : Thread Cert.UpWgrad.nD Cert.UpWgrad.τ).loc Cert.UpWgrad.main_arg1) = m ((c.tc : Thread Cert.UpWgrad.nD Cert.UpWgrad.τ).loc Cert.UpWgrad.main_arg1)
      ∧ r.2.mem ((c.tc : Thread Cert.UpWgrad.nD Cert.UpWgrad.τ).loc Cert.UpWgrad.main_arg2) = m ((c.tc : Thread Cert.UpWgrad.nD Cert.UpWgrad.τ).loc Cert.UpWgrad.main_arg2))
      ∧ r.2.sem = fun _ => 0)

def quiescent_UpWgradIdeal [hUpWgradIdeal : Cert.UpWgradIdeal.Facts] : Prop :=
  ∀ (m : (ℓ : Loc Cert.UpWgradIdeal.nD Cert.UpWgradIdeal.τ Cert.UpWgradIdeal.sig) → Buf (Elt Ideal) ℓ) (g : Dev Cert.UpWgradIdeal.nD → PrngReg), Pre_UpWgradIdeal m →
    θ_run (Cert.UpWgradIdeal.defs (F := Ideal)) (onTc (τ := Cert.UpWgradIdeal.τ) (Cert.UpWgradIdeal.main (F := Ideal))) ⟨m, fun _ => 0, g⟩ (fun r => (∀ c : Dev Cert.UpWgradIdeal.nD,
      r.2.mem ((c.tc : Thread Cert.UpWgradIdeal.nD Cert.UpWgradIdeal.τ).loc Cert.UpWgradIdeal.main_arg0) = m ((c.tc : Thread Cert.UpWgradIdeal.nD Cert.UpWgradIdeal.τ).loc Cert.UpWgradIdeal.main_arg0)
      ∧ r.2.mem ((c.tc : Thread Cert.UpWgradIdeal.nD Cert.UpWgradIdeal.τ).loc Cert.UpWgradIdeal.main_arg1) = m ((c.tc : Thread Cert.UpWgradIdeal.nD Cert.UpWgradIdeal.τ).loc Cert.UpWgradIdeal.main_arg1)
      ∧ r.2.mem ((c.tc : Thread Cert.UpWgradIdeal.nD Cert.UpWgradIdeal.τ).loc Cert.UpWgradIdeal.main_arg2) = m ((c.tc : Thread Cert.UpWgradIdeal.nD Cert.UpWgradIdeal.τ).loc Cert.UpWgradIdeal.main_arg2))
      ∧ r.2.sem = fun _ => 0)

def quiescent_UpWgradReferenceIdeal [hUpWgradReferenceIdeal : Cert.UpWgradReferenceIdeal.Facts] : Prop :=
  ∀ (m : (ℓ : Loc Cert.UpWgradReferenceIdeal.nD Cert.UpWgradReferenceIdeal.τ Cert.UpWgradReferenceIdeal.sig) → Buf (Elt Ideal) ℓ) (g : Dev Cert.UpWgradReferenceIdeal.nD → PrngReg), Pre_UpWgradReferenceIdeal m →
    θ_run (Cert.UpWgradReferenceIdeal.defs (F := Ideal)) (onTc (τ := Cert.UpWgradReferenceIdeal.τ) (Cert.UpWgradReferenceIdeal.main (F := Ideal))) ⟨m, fun _ => 0, g⟩ (fun r => (∀ c : Dev Cert.UpWgradReferenceIdeal.nD,
      r.2.mem ((c.tc : Thread Cert.UpWgradReferenceIdeal.nD Cert.UpWgradReferenceIdeal.τ).loc Cert.UpWgradReferenceIdeal.main_arg0) = m ((c.tc : Thread Cert.UpWgradReferenceIdeal.nD Cert.UpWgradReferenceIdeal.τ).loc Cert.UpWgradReferenceIdeal.main_arg0)
      ∧ r.2.mem ((c.tc : Thread Cert.UpWgradReferenceIdeal.nD Cert.UpWgradReferenceIdeal.τ).loc Cert.UpWgradReferenceIdeal.main_arg1) = m ((c.tc : Thread Cert.UpWgradReferenceIdeal.nD Cert.UpWgradReferenceIdeal.τ).loc Cert.UpWgradReferenceIdeal.main_arg1)
      ∧ r.2.mem ((c.tc : Thread Cert.UpWgradReferenceIdeal.nD Cert.UpWgradReferenceIdeal.τ).loc Cert.UpWgradReferenceIdeal.main_arg2) = m ((c.tc : Thread Cert.UpWgradReferenceIdeal.nD Cert.UpWgradReferenceIdeal.τ).loc Cert.UpWgradReferenceIdeal.main_arg2))
      ∧ r.2.sem = fun _ => 0)

def quiescent_DownWgrad [hDownWgrad : Cert.DownWgrad.Facts] : Prop :=
  ∀ (m : (ℓ : Loc Cert.DownWgrad.nD Cert.DownWgrad.τ Cert.DownWgrad.sig) → Buf (Elt Bits) ℓ) (g : Dev Cert.DownWgrad.nD → PrngReg), Pre_DownWgrad m →
    θ_run (Cert.DownWgrad.defs (F := Bits)) (onTc (τ := Cert.DownWgrad.τ) (Cert.DownWgrad.main (F := Bits))) ⟨m, fun _ => 0, g⟩ (fun r => (∀ c : Dev Cert.DownWgrad.nD,
      r.2.mem ((c.tc : Thread Cert.DownWgrad.nD Cert.DownWgrad.τ).loc Cert.DownWgrad.main_arg0) = m ((c.tc : Thread Cert.DownWgrad.nD Cert.DownWgrad.τ).loc Cert.DownWgrad.main_arg0)
      ∧ r.2.mem ((c.tc : Thread Cert.DownWgrad.nD Cert.DownWgrad.τ).loc Cert.DownWgrad.main_arg1) = m ((c.tc : Thread Cert.DownWgrad.nD Cert.DownWgrad.τ).loc Cert.DownWgrad.main_arg1))
      ∧ r.2.sem = fun _ => 0)

def quiescent_DownWgradIdeal [hDownWgradIdeal : Cert.DownWgradIdeal.Facts] : Prop :=
  ∀ (m : (ℓ : Loc Cert.DownWgradIdeal.nD Cert.DownWgradIdeal.τ Cert.DownWgradIdeal.sig) → Buf (Elt Ideal) ℓ) (g : Dev Cert.DownWgradIdeal.nD → PrngReg), Pre_DownWgradIdeal m →
    θ_run (Cert.DownWgradIdeal.defs (F := Ideal)) (onTc (τ := Cert.DownWgradIdeal.τ) (Cert.DownWgradIdeal.main (F := Ideal))) ⟨m, fun _ => 0, g⟩ (fun r => (∀ c : Dev Cert.DownWgradIdeal.nD,
      r.2.mem ((c.tc : Thread Cert.DownWgradIdeal.nD Cert.DownWgradIdeal.τ).loc Cert.DownWgradIdeal.main_arg0) = m ((c.tc : Thread Cert.DownWgradIdeal.nD Cert.DownWgradIdeal.τ).loc Cert.DownWgradIdeal.main_arg0)
      ∧ r.2.mem ((c.tc : Thread Cert.DownWgradIdeal.nD Cert.DownWgradIdeal.τ).loc Cert.DownWgradIdeal.main_arg1) = m ((c.tc : Thread Cert.DownWgradIdeal.nD Cert.DownWgradIdeal.τ).loc Cert.DownWgradIdeal.main_arg1))
      ∧ r.2.sem = fun _ => 0)

def quiescent_DownWgradReferenceIdeal [hDownWgradReferenceIdeal : Cert.DownWgradReferenceIdeal.Facts] : Prop :=
  ∀ (m : (ℓ : Loc Cert.DownWgradReferenceIdeal.nD Cert.DownWgradReferenceIdeal.τ Cert.DownWgradReferenceIdeal.sig) → Buf (Elt Ideal) ℓ) (g : Dev Cert.DownWgradReferenceIdeal.nD → PrngReg), Pre_DownWgradReferenceIdeal m →
    θ_run (Cert.DownWgradReferenceIdeal.defs (F := Ideal)) (onTc (τ := Cert.DownWgradReferenceIdeal.τ) (Cert.DownWgradReferenceIdeal.main (F := Ideal))) ⟨m, fun _ => 0, g⟩ (fun r => (∀ c : Dev Cert.DownWgradReferenceIdeal.nD,
      r.2.mem ((c.tc : Thread Cert.DownWgradReferenceIdeal.nD Cert.DownWgradReferenceIdeal.τ).loc Cert.DownWgradReferenceIdeal.main_arg0) = m ((c.tc : Thread Cert.DownWgradReferenceIdeal.nD Cert.DownWgradReferenceIdeal.τ).loc Cert.DownWgradReferenceIdeal.main_arg0)
      ∧ r.2.mem ((c.tc : Thread Cert.DownWgradReferenceIdeal.nD Cert.DownWgradReferenceIdeal.τ).loc Cert.DownWgradReferenceIdeal.main_arg1) = m ((c.tc : Thread Cert.DownWgradReferenceIdeal.nD Cert.DownWgradReferenceIdeal.τ).loc Cert.DownWgradReferenceIdeal.main_arg1))
      ∧ r.2.sem = fun _ => 0)

def quiescent_UpProj [hUpProj : Cert.UpProj.Facts] : Prop :=
  ∀ (m : (ℓ : Loc Cert.UpProj.nD Cert.UpProj.τ Cert.UpProj.sig) → Buf (Elt Bits) ℓ) (g : Dev Cert.UpProj.nD → PrngReg), Pre_UpProj m →
    θ_run (Cert.UpProj.defs (F := Bits)) (onTc (τ := Cert.UpProj.τ) (Cert.UpProj.main (F := Bits))) ⟨m, fun _ => 0, g⟩ (fun r => (∀ c : Dev Cert.UpProj.nD,
      r.2.mem ((c.tc : Thread Cert.UpProj.nD Cert.UpProj.τ).loc Cert.UpProj.main_arg0) = m ((c.tc : Thread Cert.UpProj.nD Cert.UpProj.τ).loc Cert.UpProj.main_arg0)
      ∧ r.2.mem ((c.tc : Thread Cert.UpProj.nD Cert.UpProj.τ).loc Cert.UpProj.main_arg1) = m ((c.tc : Thread Cert.UpProj.nD Cert.UpProj.τ).loc Cert.UpProj.main_arg1)
      ∧ r.2.mem ((c.tc : Thread Cert.UpProj.nD Cert.UpProj.τ).loc Cert.UpProj.main_arg2) = m ((c.tc : Thread Cert.UpProj.nD Cert.UpProj.τ).loc Cert.UpProj.main_arg2))
      ∧ r.2.sem = fun _ => 0)

def quiescent_UpProjIdeal [hUpProjIdeal : Cert.UpProjIdeal.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1)
      ∧ r.2.mem ((c.tc : Thread Cert.UpProjIdeal.nD Cert.UpProjIdeal.τ).loc Cert.UpProjIdeal.main_arg2) = m ((c.tc : Thread Cert.UpProjIdeal.nD Cert.UpProjIdeal.τ).loc Cert.UpProjIdeal.main_arg2))
      ∧ r.2.sem = fun _ => 0)

def quiescent_UpProjReferenceIdeal [hUpProjReferenceIdeal : Cert.UpProjReferenceIdeal.Facts] : Prop :=
  ∀ (m : (ℓ : Loc Cert.UpProjReferenceIdeal.nD Cert.UpProjReferenceIdeal.τ Cert.UpProjReferenceIdeal.sig) → Buf (Elt Ideal) ℓ) (g : Dev Cert.UpProjReferenceIdeal.nD → PrngReg), Pre_UpProjReferenceIdeal m →
    θ_run (Cert.UpProjReferenceIdeal.defs (F := Ideal)) (onTc (τ := Cert.UpProjReferenceIdeal.τ) (Cert.UpProjReferenceIdeal.main (F := Ideal))) ⟨m, fun _ => 0, g⟩ (fun r => (∀ c : Dev Cert.UpProjReferenceIdeal.nD,
      r.2.mem ((c.tc : Thread Cert.UpProjReferenceIdeal.nD Cert.UpProjReferenceIdeal.τ).loc Cert.UpProjReferenceIdeal.main_arg0) = m ((c.tc : Thread Cert.UpProjReferenceIdeal.nD Cert.UpProjReferenceIdeal.τ).loc Cert.UpProjReferenceIdeal.main_arg0)
      ∧ r.2.mem ((c.tc : Thread Cert.UpProjReferenceIdeal.nD Cert.UpProjReferenceIdeal.τ).loc Cert.UpProjReferenceIdeal.main_arg1) = m ((c.tc : Thread Cert.UpProjReferenceIdeal.nD Cert.UpProjReferenceIdeal.τ).loc Cert.UpProjReferenceIdeal.main_arg1)
      ∧ r.2.mem ((c.tc : Thread Cert.UpProjReferenceIdeal.nD Cert.UpProjReferenceIdeal.τ).loc Cert.UpProjReferenceIdeal.main_arg2) = m ((c.tc : Thread Cert.UpProjReferenceIdeal.nD Cert.UpProjReferenceIdeal.τ).loc Cert.UpProjReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_QkvWgrad [hQkvWgrad : Cert.QkvWgrad.Facts] : Prop :=
  ∀ (m : (ℓ : Loc Cert.QkvWgrad.nD Cert.QkvWgrad.τ Cert.QkvWgrad.sig) → Buf (Elt Bits) ℓ) (g : Dev Cert.QkvWgrad.nD → PrngReg), Pre_QkvWgrad m →
    θ_run (Cert.QkvWgrad.defs (F := Bits)) (onTc (τ := Cert.QkvWgrad.τ) (Cert.QkvWgrad.main (F := Bits))) ⟨m, fun _ => 0, g⟩ (fun r => (∀ c : Dev Cert.QkvWgrad.nD,
      r.2.mem ((c.tc : Thread Cert.QkvWgrad.nD Cert.QkvWgrad.τ).loc Cert.QkvWgrad.main_arg0) = m ((c.tc : Thread Cert.QkvWgrad.nD Cert.QkvWgrad.τ).loc Cert.QkvWgrad.main_arg0)
      ∧ r.2.mem ((c.tc : Thread Cert.QkvWgrad.nD Cert.QkvWgrad.τ).loc Cert.QkvWgrad.main_arg1) = m ((c.tc : Thread Cert.QkvWgrad.nD Cert.QkvWgrad.τ).loc Cert.QkvWgrad.main_arg1)
      ∧ r.2.mem ((c.tc : Thread Cert.QkvWgrad.nD Cert.QkvWgrad.τ).loc Cert.QkvWgrad.main_arg2) = m ((c.tc : Thread Cert.QkvWgrad.nD Cert.QkvWgrad.τ).loc Cert.QkvWgrad.main_arg2))
      ∧ r.2.sem = fun _ => 0)

def quiescent_QkvWgradIdeal [hQkvWgradIdeal : Cert.QkvWgradIdeal.Facts] : Prop :=
  ∀ (m : (ℓ : Loc Cert.QkvWgradIdeal.nD Cert.QkvWgradIdeal.τ Cert.QkvWgradIdeal.sig) → Buf (Elt Ideal) ℓ) (g : Dev Cert.QkvWgradIdeal.nD → PrngReg), Pre_QkvWgradIdeal m →
    θ_run (Cert.QkvWgradIdeal.defs (F := Ideal)) (onTc (τ := Cert.QkvWgradIdeal.τ) (Cert.QkvWgradIdeal.main (F := Ideal))) ⟨m, fun _ => 0, g⟩ (fun r => (∀ c : Dev Cert.QkvWgradIdeal.nD,
      r.2.mem ((c.tc : Thread Cert.QkvWgradIdeal.nD Cert.QkvWgradIdeal.τ).loc Cert.QkvWgradIdeal.main_arg0) = m ((c.tc : Thread Cert.QkvWgradIdeal.nD Cert.QkvWgradIdeal.τ).loc Cert.QkvWgradIdeal.main_arg0)
      ∧ r.2.mem ((c.tc : Thread Cert.QkvWgradIdeal.nD Cert.QkvWgradIdeal.τ).loc Cert.QkvWgradIdeal.main_arg1) = m ((c.tc : Thread Cert.QkvWgradIdeal.nD Cert.QkvWgradIdeal.τ).loc Cert.QkvWgradIdeal.main_arg1)
      ∧ r.2.mem ((c.tc : Thread Cert.QkvWgradIdeal.nD Cert.QkvWgradIdeal.τ).loc Cert.QkvWgradIdeal.main_arg2) = m ((c.tc : Thread Cert.QkvWgradIdeal.nD Cert.QkvWgradIdeal.τ).loc Cert.QkvWgradIdeal.main_arg2))
      ∧ r.2.sem = fun _ => 0)

def quiescent_QkvWgradReferenceIdeal [hQkvWgradReferenceIdeal : Cert.QkvWgradReferenceIdeal.Facts] : Prop :=
  ∀ (m : (ℓ : Loc Cert.QkvWgradReferenceIdeal.nD Cert.QkvWgradReferenceIdeal.τ Cert.QkvWgradReferenceIdeal.sig) → Buf (Elt Ideal) ℓ) (g : Dev Cert.QkvWgradReferenceIdeal.nD → PrngReg), Pre_QkvWgradReferenceIdeal m →
    θ_run (Cert.QkvWgradReferenceIdeal.defs (F := Ideal)) (onTc (τ := Cert.QkvWgradReferenceIdeal.τ) (Cert.QkvWgradReferenceIdeal.main (F := Ideal))) ⟨m, fun _ => 0, g⟩ (fun r => (∀ c : Dev Cert.QkvWgradReferenceIdeal.nD,
      r.2.mem ((c.tc : Thread Cert.QkvWgradReferenceIdeal.nD Cert.QkvWgradReferenceIdeal.τ).loc Cert.QkvWgradReferenceIdeal.main_arg0) = m ((c.tc : Thread Cert.QkvWgradReferenceIdeal.nD Cert.QkvWgradReferenceIdeal.τ).loc Cert.QkvWgradReferenceIdeal.main_arg0)
      ∧ r.2.mem ((c.tc : Thread Cert.QkvWgradReferenceIdeal.nD Cert.QkvWgradReferenceIdeal.τ).loc Cert.QkvWgradReferenceIdeal.main_arg1) = m ((c.tc : Thread Cert.QkvWgradReferenceIdeal.nD Cert.QkvWgradReferenceIdeal.τ).loc Cert.QkvWgradReferenceIdeal.main_arg1)
      ∧ r.2.mem ((c.tc : Thread Cert.QkvWgradReferenceIdeal.nD Cert.QkvWgradReferenceIdeal.τ).loc Cert.QkvWgradReferenceIdeal.main_arg2) = m ((c.tc : Thread Cert.QkvWgradReferenceIdeal.nD Cert.QkvWgradReferenceIdeal.τ).loc Cert.QkvWgradReferenceIdeal.main_arg2))
      ∧ r.2.sem = fun _ => 0)

def quiescent_QWgrad [hQWgrad : Cert.QWgrad.Facts] : Prop :=
  ∀ (m : (ℓ : Loc Cert.QWgrad.nD Cert.QWgrad.τ Cert.QWgrad.sig) → Buf (Elt Bits) ℓ) (g : Dev Cert.QWgrad.nD → PrngReg), Pre_QWgrad m →
    θ_run (Cert.QWgrad.defs (F := Bits)) (onTc (τ := Cert.QWgrad.τ) (Cert.QWgrad.main (F := Bits))) ⟨m, fun _ => 0, g⟩ (fun r => (∀ c : Dev Cert.QWgrad.nD,
      r.2.mem ((c.tc : Thread Cert.QWgrad.nD Cert.QWgrad.τ).loc Cert.QWgrad.main_arg0) = m ((c.tc : Thread Cert.QWgrad.nD Cert.QWgrad.τ).loc Cert.QWgrad.main_arg0)
      ∧ r.2.mem ((c.tc : Thread Cert.QWgrad.nD Cert.QWgrad.τ).loc Cert.QWgrad.main_arg1) = m ((c.tc : Thread Cert.QWgrad.nD Cert.QWgrad.τ).loc Cert.QWgrad.main_arg1)
      ∧ r.2.mem ((c.tc : Thread Cert.QWgrad.nD Cert.QWgrad.τ).loc Cert.QWgrad.main_arg2) = m ((c.tc : Thread Cert.QWgrad.nD Cert.QWgrad.τ).loc Cert.QWgrad.main_arg2))
      ∧ r.2.sem = fun _ => 0)

def quiescent_QWgradIdeal [hQWgradIdeal : Cert.QWgradIdeal.Facts] : Prop :=
  ∀ (m : (ℓ : Loc Cert.QWgradIdeal.nD Cert.QWgradIdeal.τ Cert.QWgradIdeal.sig) → Buf (Elt Ideal) ℓ) (g : Dev Cert.QWgradIdeal.nD → PrngReg), Pre_QWgradIdeal m →
    θ_run (Cert.QWgradIdeal.defs (F := Ideal)) (onTc (τ := Cert.QWgradIdeal.τ) (Cert.QWgradIdeal.main (F := Ideal))) ⟨m, fun _ => 0, g⟩ (fun r => (∀ c : Dev Cert.QWgradIdeal.nD,
      r.2.mem ((c.tc : Thread Cert.QWgradIdeal.nD Cert.QWgradIdeal.τ).loc Cert.QWgradIdeal.main_arg0) = m ((c.tc : Thread Cert.QWgradIdeal.nD Cert.QWgradIdeal.τ).loc Cert.QWgradIdeal.main_arg0)
      ∧ r.2.mem ((c.tc : Thread Cert.QWgradIdeal.nD Cert.QWgradIdeal.τ).loc Cert.QWgradIdeal.main_arg1) = m ((c.tc : Thread Cert.QWgradIdeal.nD Cert.QWgradIdeal.τ).loc Cert.QWgradIdeal.main_arg1)
      ∧ r.2.mem ((c.tc : Thread Cert.QWgradIdeal.nD Cert.QWgradIdeal.τ).loc Cert.QWgradIdeal.main_arg2) = m ((c.tc : Thread Cert.QWgradIdeal.nD Cert.QWgradIdeal.τ).loc Cert.QWgradIdeal.main_arg2))
      ∧ r.2.sem = fun _ => 0)

def quiescent_QWgradReferenceIdeal [hQWgradReferenceIdeal : Cert.QWgradReferenceIdeal.Facts] : Prop :=
  ∀ (m : (ℓ : Loc Cert.QWgradReferenceIdeal.nD Cert.QWgradReferenceIdeal.τ Cert.QWgradReferenceIdeal.sig) → Buf (Elt Ideal) ℓ) (g : Dev Cert.QWgradReferenceIdeal.nD → PrngReg), Pre_QWgradReferenceIdeal m →
    θ_run (Cert.QWgradReferenceIdeal.defs (F := Ideal)) (onTc (τ := Cert.QWgradReferenceIdeal.τ) (Cert.QWgradReferenceIdeal.main (F := Ideal))) ⟨m, fun _ => 0, g⟩ (fun r => (∀ c : Dev Cert.QWgradReferenceIdeal.nD,
      r.2.mem ((c.tc : Thread Cert.QWgradReferenceIdeal.nD Cert.QWgradReferenceIdeal.τ).loc Cert.QWgradReferenceIdeal.main_arg0) = m ((c.tc : Thread Cert.QWgradReferenceIdeal.nD Cert.QWgradReferenceIdeal.τ).loc Cert.QWgradReferenceIdeal.main_arg0)
      ∧ r.2.mem ((c.tc : Thread Cert.QWgradReferenceIdeal.nD Cert.QWgradReferenceIdeal.τ).loc Cert.QWgradReferenceIdeal.main_arg1) = m ((c.tc : Thread Cert.QWgradReferenceIdeal.nD Cert.QWgradReferenceIdeal.τ).loc Cert.QWgradReferenceIdeal.main_arg1)
      ∧ r.2.mem ((c.tc : Thread Cert.QWgradReferenceIdeal.nD Cert.QWgradReferenceIdeal.τ).loc Cert.QWgradReferenceIdeal.main_arg2) = m ((c.tc : Thread Cert.QWgradReferenceIdeal.nD Cert.QWgradReferenceIdeal.τ).loc Cert.QWgradReferenceIdeal.main_arg2))
      ∧ r.2.sem = fun _ => 0)

def quiescent_KvWgrad [hKvWgrad : Cert.KvWgrad.Facts] : Prop :=
  ∀ (m : (ℓ : Loc Cert.KvWgrad.nD Cert.KvWgrad.τ Cert.KvWgrad.sig) → Buf (Elt Bits) ℓ) (g : Dev Cert.KvWgrad.nD → PrngReg), Pre_KvWgrad m →
    θ_run (Cert.KvWgrad.defs (F := Bits)) (onTc (τ := Cert.KvWgrad.τ) (Cert.KvWgrad.main (F := Bits))) ⟨m, fun _ => 0, g⟩ (fun r => (∀ c : Dev Cert.KvWgrad.nD,
      r.2.mem ((c.tc : Thread Cert.KvWgrad.nD Cert.KvWgrad.τ).loc Cert.KvWgrad.main_arg0) = m ((c.tc : Thread Cert.KvWgrad.nD Cert.KvWgrad.τ).loc Cert.KvWgrad.main_arg0)
      ∧ r.2.mem ((c.tc : Thread Cert.KvWgrad.nD Cert.KvWgrad.τ).loc Cert.KvWgrad.main_arg1) = m ((c.tc : Thread Cert.KvWgrad.nD Cert.KvWgrad.τ).loc Cert.KvWgrad.main_arg1)
      ∧ r.2.mem ((c.tc : Thread Cert.KvWgrad.nD Cert.KvWgrad.τ).loc Cert.KvWgrad.main_arg2) = m ((c.tc : Thread Cert.KvWgrad.nD Cert.KvWgrad.τ).loc Cert.KvWgrad.main_arg2))
      ∧ r.2.sem = fun _ => 0)

def quiescent_KvWgradIdeal [hKvWgradIdeal : Cert.KvWgradIdeal.Facts] : Prop :=
  ∀ (m : (ℓ : Loc Cert.KvWgradIdeal.nD Cert.KvWgradIdeal.τ Cert.KvWgradIdeal.sig) → Buf (Elt Ideal) ℓ) (g : Dev Cert.KvWgradIdeal.nD → PrngReg), Pre_KvWgradIdeal m →
    θ_run (Cert.KvWgradIdeal.defs (F := Ideal)) (onTc (τ := Cert.KvWgradIdeal.τ) (Cert.KvWgradIdeal.main (F := Ideal))) ⟨m, fun _ => 0, g⟩ (fun r => (∀ c : Dev Cert.KvWgradIdeal.nD,
      r.2.mem ((c.tc : Thread Cert.KvWgradIdeal.nD Cert.KvWgradIdeal.τ).loc Cert.KvWgradIdeal.main_arg0) = m ((c.tc : Thread Cert.KvWgradIdeal.nD Cert.KvWgradIdeal.τ).loc Cert.KvWgradIdeal.main_arg0)
      ∧ r.2.mem ((c.tc : Thread Cert.KvWgradIdeal.nD Cert.KvWgradIdeal.τ).loc Cert.KvWgradIdeal.main_arg1) = m ((c.tc : Thread Cert.KvWgradIdeal.nD Cert.KvWgradIdeal.τ).loc Cert.KvWgradIdeal.main_arg1)
      ∧ r.2.mem ((c.tc : Thread Cert.KvWgradIdeal.nD Cert.KvWgradIdeal.τ).loc Cert.KvWgradIdeal.main_arg2) = m ((c.tc : Thread Cert.KvWgradIdeal.nD Cert.KvWgradIdeal.τ).loc Cert.KvWgradIdeal.main_arg2))
      ∧ r.2.sem = fun _ => 0)

def quiescent_KvWgradReferenceIdeal [hKvWgradReferenceIdeal : Cert.KvWgradReferenceIdeal.Facts] : Prop :=
  ∀ (m : (ℓ : Loc Cert.KvWgradReferenceIdeal.nD Cert.KvWgradReferenceIdeal.τ Cert.KvWgradReferenceIdeal.sig) → Buf (Elt Ideal) ℓ) (g : Dev Cert.KvWgradReferenceIdeal.nD → PrngReg), Pre_KvWgradReferenceIdeal m →
    θ_run (Cert.KvWgradReferenceIdeal.defs (F := Ideal)) (onTc (τ := Cert.KvWgradReferenceIdeal.τ) (Cert.KvWgradReferenceIdeal.main (F := Ideal))) ⟨m, fun _ => 0, g⟩ (fun r => (∀ c : Dev Cert.KvWgradReferenceIdeal.nD,
      r.2.mem ((c.tc : Thread Cert.KvWgradReferenceIdeal.nD Cert.KvWgradReferenceIdeal.τ).loc Cert.KvWgradReferenceIdeal.main_arg0) = m ((c.tc : Thread Cert.KvWgradReferenceIdeal.nD Cert.KvWgradReferenceIdeal.τ).loc Cert.KvWgradReferenceIdeal.main_arg0)
      ∧ r.2.mem ((c.tc : Thread Cert.KvWgradReferenceIdeal.nD Cert.KvWgradReferenceIdeal.τ).loc Cert.KvWgradReferenceIdeal.main_arg1) = m ((c.tc : Thread Cert.KvWgradReferenceIdeal.nD Cert.KvWgradReferenceIdeal.τ).loc Cert.KvWgradReferenceIdeal.main_arg1)
      ∧ r.2.mem ((c.tc : Thread Cert.KvWgradReferenceIdeal.nD Cert.KvWgradReferenceIdeal.τ).loc Cert.KvWgradReferenceIdeal.main_arg2) = m ((c.tc : Thread Cert.KvWgradReferenceIdeal.nD Cert.KvWgradReferenceIdeal.τ).loc Cert.KvWgradReferenceIdeal.main_arg2))
      ∧ r.2.sem = fun _ => 0)

def quiescent_AOutWgrad [hAOutWgrad : Cert.AOutWgrad.Facts] : Prop :=
  ∀ (m : (ℓ : Loc Cert.AOutWgrad.nD Cert.AOutWgrad.τ Cert.AOutWgrad.sig) → Buf (Elt Bits) ℓ) (g : Dev Cert.AOutWgrad.nD → PrngReg), Pre_AOutWgrad m →
    θ_run (Cert.AOutWgrad.defs (F := Bits)) (onTc (τ := Cert.AOutWgrad.τ) (Cert.AOutWgrad.main (F := Bits))) ⟨m, fun _ => 0, g⟩ (fun r => (∀ c : Dev Cert.AOutWgrad.nD,
      r.2.mem ((c.tc : Thread Cert.AOutWgrad.nD Cert.AOutWgrad.τ).loc Cert.AOutWgrad.main_arg0) = m ((c.tc : Thread Cert.AOutWgrad.nD Cert.AOutWgrad.τ).loc Cert.AOutWgrad.main_arg0)
      ∧ r.2.mem ((c.tc : Thread Cert.AOutWgrad.nD Cert.AOutWgrad.τ).loc Cert.AOutWgrad.main_arg1) = m ((c.tc : Thread Cert.AOutWgrad.nD Cert.AOutWgrad.τ).loc Cert.AOutWgrad.main_arg1))
      ∧ r.2.sem = fun _ => 0)

def quiescent_AOutWgradIdeal [hAOutWgradIdeal : Cert.AOutWgradIdeal.Facts] : Prop :=
  ∀ (m : (ℓ : Loc Cert.AOutWgradIdeal.nD Cert.AOutWgradIdeal.τ Cert.AOutWgradIdeal.sig) → Buf (Elt Ideal) ℓ) (g : Dev Cert.AOutWgradIdeal.nD → PrngReg), Pre_AOutWgradIdeal m →
    θ_run (Cert.AOutWgradIdeal.defs (F := Ideal)) (onTc (τ := Cert.AOutWgradIdeal.τ) (Cert.AOutWgradIdeal.main (F := Ideal))) ⟨m, fun _ => 0, g⟩ (fun r => (∀ c : Dev Cert.AOutWgradIdeal.nD,
      r.2.mem ((c.tc : Thread Cert.AOutWgradIdeal.nD Cert.AOutWgradIdeal.τ).loc Cert.AOutWgradIdeal.main_arg0) = m ((c.tc : Thread Cert.AOutWgradIdeal.nD Cert.AOutWgradIdeal.τ).loc Cert.AOutWgradIdeal.main_arg0)
      ∧ r.2.mem ((c.tc : Thread Cert.AOutWgradIdeal.nD Cert.AOutWgradIdeal.τ).loc Cert.AOutWgradIdeal.main_arg1) = m ((c.tc : Thread Cert.AOutWgradIdeal.nD Cert.AOutWgradIdeal.τ).loc Cert.AOutWgradIdeal.main_arg1))
      ∧ r.2.sem = fun _ => 0)

def quiescent_AOutWgradReferenceIdeal [hAOutWgradReferenceIdeal : Cert.AOutWgradReferenceIdeal.Facts] : Prop :=
  ∀ (m : (ℓ : Loc Cert.AOutWgradReferenceIdeal.nD Cert.AOutWgradReferenceIdeal.τ Cert.AOutWgradReferenceIdeal.sig) → Buf (Elt Ideal) ℓ) (g : Dev Cert.AOutWgradReferenceIdeal.nD → PrngReg), Pre_AOutWgradReferenceIdeal m →
    θ_run (Cert.AOutWgradReferenceIdeal.defs (F := Ideal)) (onTc (τ := Cert.AOutWgradReferenceIdeal.τ) (Cert.AOutWgradReferenceIdeal.main (F := Ideal))) ⟨m, fun _ => 0, g⟩ (fun r => (∀ c : Dev Cert.AOutWgradReferenceIdeal.nD,
      r.2.mem ((c.tc : Thread Cert.AOutWgradReferenceIdeal.nD Cert.AOutWgradReferenceIdeal.τ).loc Cert.AOutWgradReferenceIdeal.main_arg0) = m ((c.tc : Thread Cert.AOutWgradReferenceIdeal.nD Cert.AOutWgradReferenceIdeal.τ).loc Cert.AOutWgradReferenceIdeal.main_arg0)
      ∧ r.2.mem ((c.tc : Thread Cert.AOutWgradReferenceIdeal.nD Cert.AOutWgradReferenceIdeal.τ).loc Cert.AOutWgradReferenceIdeal.main_arg1) = m ((c.tc : Thread Cert.AOutWgradReferenceIdeal.nD Cert.AOutWgradReferenceIdeal.τ).loc Cert.AOutWgradReferenceIdeal.main_arg1))
      ∧ r.2.sem = fun _ => 0)

def quiescent_BOutWgrad [hBOutWgrad : Cert.BOutWgrad.Facts] : Prop :=
  ∀ (m : (ℓ : Loc Cert.BOutWgrad.nD Cert.BOutWgrad.τ Cert.BOutWgrad.sig) → Buf (Elt Bits) ℓ) (g : Dev Cert.BOutWgrad.nD → PrngReg), Pre_BOutWgrad m →
    θ_run (Cert.BOutWgrad.defs (F := Bits)) (onTc (τ := Cert.BOutWgrad.τ) (Cert.BOutWgrad.main (F := Bits))) ⟨m, fun _ => 0, g⟩ (fun r => (∀ c : Dev Cert.BOutWgrad.nD,
      r.2.mem ((c.tc : Thread Cert.BOutWgrad.nD Cert.BOutWgrad.τ).loc Cert.BOutWgrad.main_arg0) = m ((c.tc : Thread Cert.BOutWgrad.nD Cert.BOutWgrad.τ).loc Cert.BOutWgrad.main_arg0)
      ∧ r.2.mem ((c.tc : Thread Cert.BOutWgrad.nD Cert.BOutWgrad.τ).loc Cert.BOutWgrad.main_arg1) = m ((c.tc : Thread Cert.BOutWgrad.nD Cert.BOutWgrad.τ).loc Cert.BOutWgrad.main_arg1))
      ∧ r.2.sem = fun _ => 0)

def quiescent_BOutWgradIdeal [hBOutWgradIdeal : Cert.BOutWgradIdeal.Facts] : Prop :=
  ∀ (m : (ℓ : Loc Cert.BOutWgradIdeal.nD Cert.BOutWgradIdeal.τ Cert.BOutWgradIdeal.sig) → Buf (Elt Ideal) ℓ) (g : Dev Cert.BOutWgradIdeal.nD → PrngReg), Pre_BOutWgradIdeal m →
    θ_run (Cert.BOutWgradIdeal.defs (F := Ideal)) (onTc (τ := Cert.BOutWgradIdeal.τ) (Cert.BOutWgradIdeal.main (F := Ideal))) ⟨m, fun _ => 0, g⟩ (fun r => (∀ c : Dev Cert.BOutWgradIdeal.nD,
      r.2.mem ((c.tc : Thread Cert.BOutWgradIdeal.nD Cert.BOutWgradIdeal.τ).loc Cert.BOutWgradIdeal.main_arg0) = m ((c.tc : Thread Cert.BOutWgradIdeal.nD Cert.BOutWgradIdeal.τ).loc Cert.BOutWgradIdeal.main_arg0)
      ∧ r.2.mem ((c.tc : Thread Cert.BOutWgradIdeal.nD Cert.BOutWgradIdeal.τ).loc Cert.BOutWgradIdeal.main_arg1) = m ((c.tc : Thread Cert.BOutWgradIdeal.nD Cert.BOutWgradIdeal.τ).loc Cert.BOutWgradIdeal.main_arg1))
      ∧ r.2.sem = fun _ => 0)

def quiescent_BOutWgradReferenceIdeal [hBOutWgradReferenceIdeal : Cert.BOutWgradReferenceIdeal.Facts] : Prop :=
  ∀ (m : (ℓ : Loc Cert.BOutWgradReferenceIdeal.nD Cert.BOutWgradReferenceIdeal.τ Cert.BOutWgradReferenceIdeal.sig) → Buf (Elt Ideal) ℓ) (g : Dev Cert.BOutWgradReferenceIdeal.nD → PrngReg), Pre_BOutWgradReferenceIdeal m →
    θ_run (Cert.BOutWgradReferenceIdeal.defs (F := Ideal)) (onTc (τ := Cert.BOutWgradReferenceIdeal.τ) (Cert.BOutWgradReferenceIdeal.main (F := Ideal))) ⟨m, fun _ => 0, g⟩ (fun r => (∀ c : Dev Cert.BOutWgradReferenceIdeal.nD,
      r.2.mem ((c.tc : Thread Cert.BOutWgradReferenceIdeal.nD Cert.BOutWgradReferenceIdeal.τ).loc Cert.BOutWgradReferenceIdeal.main_arg0) = m ((c.tc : Thread Cert.BOutWgradReferenceIdeal.nD Cert.BOutWgradReferenceIdeal.τ).loc Cert.BOutWgradReferenceIdeal.main_arg0)
      ∧ r.2.mem ((c.tc : Thread Cert.BOutWgradReferenceIdeal.nD Cert.BOutWgradReferenceIdeal.τ).loc Cert.BOutWgradReferenceIdeal.main_arg1) = m ((c.tc : Thread Cert.BOutWgradReferenceIdeal.nD Cert.BOutWgradReferenceIdeal.τ).loc Cert.BOutWgradReferenceIdeal.main_arg1))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1)
      ∧ r.2.mem ((c.tc : Thread Cert.KvProj.nD Cert.KvProj.τ).loc Cert.KvProj.main_arg2) = m ((c.tc : Thread Cert.KvProj.nD Cert.KvProj.τ).loc Cert.KvProj.main_arg2))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
      ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2))
      ∧ r.2.sem = fun _ => 0)

def quiescent_KvProjReferenceIdeal [hKvProjReferenceIdeal : Cert.KvProjReferenceIdeal.Facts] : Prop :=
  ∀ (m : (ℓ : Loc Cert.KvProjReferenceIdeal.nD Cert.KvProjReferenceIdeal.τ Cert.KvProjReferenceIdeal.sig) → Buf (Elt Ideal) ℓ) (g : Dev Cert.KvProjReferenceIdeal.nD → PrngReg), Pre_KvProjReferenceIdeal m →
    θ_run (Cert.KvProjReferenceIdeal.defs (F := Ideal)) (onTc (τ := Cert.KvProjReferenceIdeal.τ) (Cert.KvProjReferenceIdeal.main (F := Ideal))) ⟨m, fun _ => 0, g⟩ (fun r => (∀ c : Dev Cert.KvProjReferenceIdeal.nD,
      r.2.mem ((c.tc : Thread Cert.KvProjReferenceIdeal.nD Cert.KvProjReferenceIdeal.τ).loc Cert.KvProjReferenceIdeal.main_arg0) = m ((c.tc : Thread Cert.KvProjReferenceIdeal.nD Cert.KvProjReferenceIdeal.τ).loc Cert.KvProjReferenceIdeal.main_arg0)
      ∧ r.2.mem ((c.tc : Thread Cert.KvProjReferenceIdeal.nD Cert.KvProjReferenceIdeal.τ).loc Cert.KvProjReferenceIdeal.main_arg1) = m ((c.tc : Thread Cert.KvProjReferenceIdeal.nD Cert.KvProjReferenceIdeal.τ).loc Cert.KvProjReferenceIdeal.main_arg1)
      ∧ r.2.mem ((c.tc : Thread Cert.KvProjReferenceIdeal.nD Cert.KvProjReferenceIdeal.τ).loc Cert.KvProjReferenceIdeal.main_arg2) = m ((c.tc : Thread Cert.KvProjReferenceIdeal.nD Cert.KvProjReferenceIdeal.τ).loc Cert.KvProjReferenceIdeal.main_arg2))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1)
      ∧ r.2.mem ((c.tc : Thread Cert.QProj.nD Cert.QProj.τ).loc Cert.QProj.main_arg2) = m ((c.tc : Thread Cert.QProj.nD Cert.QProj.τ).loc Cert.QProj.main_arg2))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
      ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2))
      ∧ r.2.sem = fun _ => 0)

def quiescent_QProjReferenceIdeal [hQProjReferenceIdeal : Cert.QProjReferenceIdeal.Facts] : Prop :=
  ∀ (m : (ℓ : Loc Cert.QProjReferenceIdeal.nD Cert.QProjReferenceIdeal.τ Cert.QProjReferenceIdeal.sig) → Buf (Elt Ideal) ℓ) (g : Dev Cert.QProjReferenceIdeal.nD → PrngReg), Pre_QProjReferenceIdeal m →
    θ_run (Cert.QProjReferenceIdeal.defs (F := Ideal)) (onTc (τ := Cert.QProjReferenceIdeal.τ) (Cert.QProjReferenceIdeal.main (F := Ideal))) ⟨m, fun _ => 0, g⟩ (fun r => (∀ c : Dev Cert.QProjReferenceIdeal.nD,
      r.2.mem ((c.tc : Thread Cert.QProjReferenceIdeal.nD Cert.QProjReferenceIdeal.τ).loc Cert.QProjReferenceIdeal.main_arg0) = m ((c.tc : Thread Cert.QProjReferenceIdeal.nD Cert.QProjReferenceIdeal.τ).loc Cert.QProjReferenceIdeal.main_arg0)
      ∧ r.2.mem ((c.tc : Thread Cert.QProjReferenceIdeal.nD Cert.QProjReferenceIdeal.τ).loc Cert.QProjReferenceIdeal.main_arg1) = m ((c.tc : Thread Cert.QProjReferenceIdeal.nD Cert.QProjReferenceIdeal.τ).loc Cert.QProjReferenceIdeal.main_arg1)
      ∧ r.2.mem ((c.tc : Thread Cert.QProjReferenceIdeal.nD Cert.QProjReferenceIdeal.τ).loc Cert.QProjReferenceIdeal.main_arg2) = m ((c.tc : Thread Cert.QProjReferenceIdeal.nD Cert.QProjReferenceIdeal.τ).loc Cert.QProjReferenceIdeal.main_arg2))
      ∧ r.2.sem = fun _ => 0)

def quiescent_BOutProj [hBOutProj : Cert.BOutProj.Facts] : Prop :=
  ∀ (m : (ℓ : Loc Cert.BOutProj.nD Cert.BOutProj.τ Cert.BOutProj.sig) → Buf (Elt Bits) ℓ) (g : Dev Cert.BOutProj.nD → PrngReg), Pre_BOutProj m →
    θ_run (Cert.BOutProj.defs (F := Bits)) (onTc (τ := Cert.BOutProj.τ) (Cert.BOutProj.main (F := Bits))) ⟨m, fun _ => 0, g⟩ (fun r => (∀ c : Dev Cert.BOutProj.nD,
      r.2.mem ((c.tc : Thread Cert.BOutProj.nD Cert.BOutProj.τ).loc Cert.BOutProj.main_arg0) = m ((c.tc : Thread Cert.BOutProj.nD Cert.BOutProj.τ).loc Cert.BOutProj.main_arg0)
      ∧ r.2.mem ((c.tc : Thread Cert.BOutProj.nD Cert.BOutProj.τ).loc Cert.BOutProj.main_arg1) = m ((c.tc : Thread Cert.BOutProj.nD Cert.BOutProj.τ).loc Cert.BOutProj.main_arg1)
      ∧ r.2.mem ((c.tc : Thread Cert.BOutProj.nD Cert.BOutProj.τ).loc Cert.BOutProj.main_arg2) = m ((c.tc : Thread Cert.BOutProj.nD Cert.BOutProj.τ).loc Cert.BOutProj.main_arg2))
      ∧ r.2.sem = fun _ => 0)

def quiescent_BOutProjIdeal [hBOutProjIdeal : Cert.BOutProjIdeal.Facts] : Prop :=
  ∀ (m : (ℓ : Loc Cert.BOutProjIdeal.nD Cert.BOutProjIdeal.τ Cert.BOutProjIdeal.sig) → Buf (Elt Ideal) ℓ) (g : Dev Cert.BOutProjIdeal.nD → PrngReg), Pre_BOutProjIdeal m →
    θ_run (Cert.BOutProjIdeal.defs (F := Ideal)) (onTc (τ := Cert.BOutProjIdeal.τ) (Cert.BOutProjIdeal.main (F := Ideal))) ⟨m, fun _ => 0, g⟩ (fun r => (∀ c : Dev Cert.BOutProjIdeal.nD,
      r.2.mem ((c.tc : Thread Cert.BOutProjIdeal.nD Cert.BOutProjIdeal.τ).loc Cert.BOutProjIdeal.main_arg0) = m ((c.tc : Thread Cert.BOutProjIdeal.nD Cert.BOutProjIdeal.τ).loc Cert.BOutProjIdeal.main_arg0)
      ∧ r.2.mem ((c.tc : Thread Cert.BOutProjIdeal.nD Cert.BOutProjIdeal.τ).loc Cert.BOutProjIdeal.main_arg1) = m ((c.tc : Thread Cert.BOutProjIdeal.nD Cert.BOutProjIdeal.τ).loc Cert.BOutProjIdeal.main_arg1)
      ∧ r.2.mem ((c.tc : Thread Cert.BOutProjIdeal.nD Cert.BOutProjIdeal.τ).loc Cert.BOutProjIdeal.main_arg2) = m ((c.tc : Thread Cert.BOutProjIdeal.nD Cert.BOutProjIdeal.τ).loc Cert.BOutProjIdeal.main_arg2))
      ∧ r.2.sem = fun _ => 0)

def quiescent_BOutProjReferenceIdeal [hBOutProjReferenceIdeal : Cert.BOutProjReferenceIdeal.Facts] : Prop :=
  ∀ (m : (ℓ : Loc Cert.BOutProjReferenceIdeal.nD Cert.BOutProjReferenceIdeal.τ Cert.BOutProjReferenceIdeal.sig) → Buf (Elt Ideal) ℓ) (g : Dev Cert.BOutProjReferenceIdeal.nD → PrngReg), Pre_BOutProjReferenceIdeal m →
    θ_run (Cert.BOutProjReferenceIdeal.defs (F := Ideal)) (onTc (τ := Cert.BOutProjReferenceIdeal.τ) (Cert.BOutProjReferenceIdeal.main (F := Ideal))) ⟨m, fun _ => 0, g⟩ (fun r => (∀ c : Dev Cert.BOutProjReferenceIdeal.nD,
      r.2.mem ((c.tc : Thread Cert.BOutProjReferenceIdeal.nD Cert.BOutProjReferenceIdeal.τ).loc Cert.BOutProjReferenceIdeal.main_arg0) = m ((c.tc : Thread Cert.BOutProjReferenceIdeal.nD Cert.BOutProjReferenceIdeal.τ).loc Cert.BOutProjReferenceIdeal.main_arg0)
      ∧ r.2.mem ((c.tc : Thread Cert.BOutProjReferenceIdeal.nD Cert.BOutProjReferenceIdeal.τ).loc Cert.BOutProjReferenceIdeal.main_arg1) = m ((c.tc : Thread Cert.BOutProjReferenceIdeal.nD Cert.BOutProjReferenceIdeal.τ).loc Cert.BOutProjReferenceIdeal.main_arg1)
      ∧ r.2.mem ((c.tc : Thread Cert.BOutProjReferenceIdeal.nD Cert.BOutProjReferenceIdeal.τ).loc Cert.BOutProjReferenceIdeal.main_arg2) = m ((c.tc : Thread Cert.BOutProjReferenceIdeal.nD Cert.BOutProjReferenceIdeal.τ).loc Cert.BOutProjReferenceIdeal.main_arg2))
      ∧ r.2.sem = fun _ => 0)

def quiescent_BOutDx [hBOutDx : Cert.BOutDx.Facts] : Prop :=
  ∀ (m : (ℓ : Loc Cert.BOutDx.nD Cert.BOutDx.τ Cert.BOutDx.sig) → Buf (Elt Bits) ℓ) (g : Dev Cert.BOutDx.nD → PrngReg), Pre_BOutDx m →
    θ_run (Cert.BOutDx.defs (F := Bits)) (onTc (τ := Cert.BOutDx.τ) (Cert.BOutDx.main (F := Bits))) ⟨m, fun _ => 0, g⟩ (fun r => (∀ c : Dev Cert.BOutDx.nD,
      r.2.mem ((c.tc : Thread Cert.BOutDx.nD Cert.BOutDx.τ).loc Cert.BOutDx.main_arg0) = m ((c.tc : Thread Cert.BOutDx.nD Cert.BOutDx.τ).loc Cert.BOutDx.main_arg0)
      ∧ r.2.mem ((c.tc : Thread Cert.BOutDx.nD Cert.BOutDx.τ).loc Cert.BOutDx.main_arg1) = m ((c.tc : Thread Cert.BOutDx.nD Cert.BOutDx.τ).loc Cert.BOutDx.main_arg1))
      ∧ r.2.sem = fun _ => 0)

def quiescent_BOutDxIdeal [hBOutDxIdeal : Cert.BOutDxIdeal.Facts] : Prop :=
  ∀ (m : (ℓ : Loc Cert.BOutDxIdeal.nD Cert.BOutDxIdeal.τ Cert.BOutDxIdeal.sig) → Buf (Elt Ideal) ℓ) (g : Dev Cert.BOutDxIdeal.nD → PrngReg), Pre_BOutDxIdeal m →
    θ_run (Cert.BOutDxIdeal.defs (F := Ideal)) (onTc (τ := Cert.BOutDxIdeal.τ) (Cert.BOutDxIdeal.main (F := Ideal))) ⟨m, fun _ => 0, g⟩ (fun r => (∀ c : Dev Cert.BOutDxIdeal.nD,
      r.2.mem ((c.tc : Thread Cert.BOutDxIdeal.nD Cert.BOutDxIdeal.τ).loc Cert.BOutDxIdeal.main_arg0) = m ((c.tc : Thread Cert.BOutDxIdeal.nD Cert.BOutDxIdeal.τ).loc Cert.BOutDxIdeal.main_arg0)
      ∧ r.2.mem ((c.tc : Thread Cert.BOutDxIdeal.nD Cert.BOutDxIdeal.τ).loc Cert.BOutDxIdeal.main_arg1) = m ((c.tc : Thread Cert.BOutDxIdeal.nD Cert.BOutDxIdeal.τ).loc Cert.BOutDxIdeal.main_arg1))
      ∧ r.2.sem = fun _ => 0)

def quiescent_BOutDxReferenceIdeal [hBOutDxReferenceIdeal : Cert.BOutDxReferenceIdeal.Facts] : Prop :=
  ∀ (m : (ℓ : Loc Cert.BOutDxReferenceIdeal.nD Cert.BOutDxReferenceIdeal.τ Cert.BOutDxReferenceIdeal.sig) → Buf (Elt Ideal) ℓ) (g : Dev Cert.BOutDxReferenceIdeal.nD → PrngReg), Pre_BOutDxReferenceIdeal m →
    θ_run (Cert.BOutDxReferenceIdeal.defs (F := Ideal)) (onTc (τ := Cert.BOutDxReferenceIdeal.τ) (Cert.BOutDxReferenceIdeal.main (F := Ideal))) ⟨m, fun _ => 0, g⟩ (fun r => (∀ c : Dev Cert.BOutDxReferenceIdeal.nD,
      r.2.mem ((c.tc : Thread Cert.BOutDxReferenceIdeal.nD Cert.BOutDxReferenceIdeal.τ).loc Cert.BOutDxReferenceIdeal.main_arg0) = m ((c.tc : Thread Cert.BOutDxReferenceIdeal.nD Cert.BOutDxReferenceIdeal.τ).loc Cert.BOutDxReferenceIdeal.main_arg0)
      ∧ r.2.mem ((c.tc : Thread Cert.BOutDxReferenceIdeal.nD Cert.BOutDxReferenceIdeal.τ).loc Cert.BOutDxReferenceIdeal.main_arg1) = m ((c.tc : Thread Cert.BOutDxReferenceIdeal.nD Cert.BOutDxReferenceIdeal.τ).loc Cert.BOutDxReferenceIdeal.main_arg1))
      ∧ r.2.sem = fun _ => 0)

def quiescent_BaWgrad [hBaWgrad : Cert.BaWgrad.Facts] : Prop :=
  ∀ (m : (ℓ : Loc Cert.BaWgrad.nD Cert.BaWgrad.τ Cert.BaWgrad.sig) → Buf (Elt Bits) ℓ) (g : Dev Cert.BaWgrad.nD → PrngReg), Pre_BaWgrad m →
    θ_run (Cert.BaWgrad.defs (F := Bits)) (onTc (τ := Cert.BaWgrad.τ) (Cert.BaWgrad.main (F := Bits))) ⟨m, fun _ => 0, g⟩ (fun r => (∀ c : Dev Cert.BaWgrad.nD,
      r.2.mem ((c.tc : Thread Cert.BaWgrad.nD Cert.BaWgrad.τ).loc Cert.BaWgrad.main_arg0) = m ((c.tc : Thread Cert.BaWgrad.nD Cert.BaWgrad.τ).loc Cert.BaWgrad.main_arg0)
      ∧ r.2.mem ((c.tc : Thread Cert.BaWgrad.nD Cert.BaWgrad.τ).loc Cert.BaWgrad.main_arg1) = m ((c.tc : Thread Cert.BaWgrad.nD Cert.BaWgrad.τ).loc Cert.BaWgrad.main_arg1)
      ∧ r.2.mem ((c.tc : Thread Cert.BaWgrad.nD Cert.BaWgrad.τ).loc Cert.BaWgrad.main_arg2) = m ((c.tc : Thread Cert.BaWgrad.nD Cert.BaWgrad.τ).loc Cert.BaWgrad.main_arg2))
      ∧ r.2.sem = fun _ => 0)

def quiescent_BaWgradIdeal [hBaWgradIdeal : Cert.BaWgradIdeal.Facts] : Prop :=
  ∀ (m : (ℓ : Loc Cert.BaWgradIdeal.nD Cert.BaWgradIdeal.τ Cert.BaWgradIdeal.sig) → Buf (Elt Ideal) ℓ) (g : Dev Cert.BaWgradIdeal.nD → PrngReg), Pre_BaWgradIdeal m →
    θ_run (Cert.BaWgradIdeal.defs (F := Ideal)) (onTc (τ := Cert.BaWgradIdeal.τ) (Cert.BaWgradIdeal.main (F := Ideal))) ⟨m, fun _ => 0, g⟩ (fun r => (∀ c : Dev Cert.BaWgradIdeal.nD,
      r.2.mem ((c.tc : Thread Cert.BaWgradIdeal.nD Cert.BaWgradIdeal.τ).loc Cert.BaWgradIdeal.main_arg0) = m ((c.tc : Thread Cert.BaWgradIdeal.nD Cert.BaWgradIdeal.τ).loc Cert.BaWgradIdeal.main_arg0)
      ∧ r.2.mem ((c.tc : Thread Cert.BaWgradIdeal.nD Cert.BaWgradIdeal.τ).loc Cert.BaWgradIdeal.main_arg1) = m ((c.tc : Thread Cert.BaWgradIdeal.nD Cert.BaWgradIdeal.τ).loc Cert.BaWgradIdeal.main_arg1)
      ∧ r.2.mem ((c.tc : Thread Cert.BaWgradIdeal.nD Cert.BaWgradIdeal.τ).loc Cert.BaWgradIdeal.main_arg2) = m ((c.tc : Thread Cert.BaWgradIdeal.nD Cert.BaWgradIdeal.τ).loc Cert.BaWgradIdeal.main_arg2))
      ∧ r.2.sem = fun _ => 0)

def quiescent_BaWgradReferenceIdeal [hBaWgradReferenceIdeal : Cert.BaWgradReferenceIdeal.Facts] : Prop :=
  ∀ (m : (ℓ : Loc Cert.BaWgradReferenceIdeal.nD Cert.BaWgradReferenceIdeal.τ Cert.BaWgradReferenceIdeal.sig) → Buf (Elt Ideal) ℓ) (g : Dev Cert.BaWgradReferenceIdeal.nD → PrngReg), Pre_BaWgradReferenceIdeal m →
    θ_run (Cert.BaWgradReferenceIdeal.defs (F := Ideal)) (onTc (τ := Cert.BaWgradReferenceIdeal.τ) (Cert.BaWgradReferenceIdeal.main (F := Ideal))) ⟨m, fun _ => 0, g⟩ (fun r => (∀ c : Dev Cert.BaWgradReferenceIdeal.nD,
      r.2.mem ((c.tc : Thread Cert.BaWgradReferenceIdeal.nD Cert.BaWgradReferenceIdeal.τ).loc Cert.BaWgradReferenceIdeal.main_arg0) = m ((c.tc : Thread Cert.BaWgradReferenceIdeal.nD Cert.BaWgradReferenceIdeal.τ).loc Cert.BaWgradReferenceIdeal.main_arg0)
      ∧ r.2.mem ((c.tc : Thread Cert.BaWgradReferenceIdeal.nD Cert.BaWgradReferenceIdeal.τ).loc Cert.BaWgradReferenceIdeal.main_arg1) = m ((c.tc : Thread Cert.BaWgradReferenceIdeal.nD Cert.BaWgradReferenceIdeal.τ).loc Cert.BaWgradReferenceIdeal.main_arg1)
      ∧ r.2.mem ((c.tc : Thread Cert.BaWgradReferenceIdeal.nD Cert.BaWgradReferenceIdeal.τ).loc Cert.BaWgradReferenceIdeal.main_arg2) = m ((c.tc : Thread Cert.BaWgradReferenceIdeal.nD Cert.BaWgradReferenceIdeal.τ).loc Cert.BaWgradReferenceIdeal.main_arg2))
      ∧ r.2.sem = fun _ => 0)

def quiescent_QDx [hQDx : Cert.QDx.Facts] : Prop :=
  ∀ (m : (ℓ : Loc Cert.QDx.nD Cert.QDx.τ Cert.QDx.sig) → Buf (Elt Bits) ℓ) (g : Dev Cert.QDx.nD → PrngReg), Pre_QDx m →
    θ_run (Cert.QDx.defs (F := Bits)) (onTc (τ := Cert.QDx.τ) (Cert.QDx.main (F := Bits))) ⟨m, fun _ => 0, g⟩ (fun r => (∀ c : Dev Cert.QDx.nD,
      r.2.mem ((c.tc : Thread Cert.QDx.nD Cert.QDx.τ).loc Cert.QDx.main_arg0) = m ((c.tc : Thread Cert.QDx.nD Cert.QDx.τ).loc Cert.QDx.main_arg0)
      ∧ r.2.mem ((c.tc : Thread Cert.QDx.nD Cert.QDx.τ).loc Cert.QDx.main_arg1) = m ((c.tc : Thread Cert.QDx.nD Cert.QDx.τ).loc Cert.QDx.main_arg1)
      ∧ r.2.mem ((c.tc : Thread Cert.QDx.nD Cert.QDx.τ).loc Cert.QDx.main_arg2) = m ((c.tc : Thread Cert.QDx.nD Cert.QDx.τ).loc Cert.QDx.main_arg2)
      ∧ r.2.mem ((c.tc : Thread Cert.QDx.nD Cert.QDx.τ).loc Cert.QDx.main_arg3) = m ((c.tc : Thread Cert.QDx.nD Cert.QDx.τ).loc Cert.QDx.main_arg3)
      ∧ r.2.mem ((c.tc : Thread Cert.QDx.nD Cert.QDx.τ).loc Cert.QDx.main_arg4) = m ((c.tc : Thread Cert.QDx.nD Cert.QDx.τ).loc Cert.QDx.main_arg4))
      ∧ r.2.sem = fun _ => 0)

def quiescent_QDxIdeal [hQDxIdeal : Cert.QDxIdeal.Facts] : Prop :=
  ∀ (m : (ℓ : Loc Cert.QDxIdeal.nD Cert.QDxIdeal.τ Cert.QDxIdeal.sig) → Buf (Elt Ideal) ℓ) (g : Dev Cert.QDxIdeal.nD → PrngReg), Pre_QDxIdeal m →
    θ_run (Cert.QDxIdeal.defs (F := Ideal)) (onTc (τ := Cert.QDxIdeal.τ) (Cert.QDxIdeal.main (F := Ideal))) ⟨m, fun _ => 0, g⟩ (fun r => (∀ c : Dev Cert.QDxIdeal.nD,
      r.2.mem ((c.tc : Thread Cert.QDxIdeal.nD Cert.QDxIdeal.τ).loc Cert.QDxIdeal.main_arg0) = m ((c.tc : Thread Cert.QDxIdeal.nD Cert.QDxIdeal.τ).loc Cert.QDxIdeal.main_arg0)
      ∧ r.2.mem ((c.tc : Thread Cert.QDxIdeal.nD Cert.QDxIdeal.τ).loc Cert.QDxIdeal.main_arg1) = m ((c.tc : Thread Cert.QDxIdeal.nD Cert.QDxIdeal.τ).loc Cert.QDxIdeal.main_arg1)
      ∧ r.2.mem ((c.tc : Thread Cert.QDxIdeal.nD Cert.QDxIdeal.τ).loc Cert.QDxIdeal.main_arg2) = m ((c.tc : Thread Cert.QDxIdeal.nD Cert.QDxIdeal.τ).loc Cert.QDxIdeal.main_arg2)
      ∧ r.2.mem ((c.tc : Thread Cert.QDxIdeal.nD Cert.QDxIdeal.τ).loc Cert.QDxIdeal.main_arg3) = m ((c.tc : Thread Cert.QDxIdeal.nD Cert.QDxIdeal.τ).loc Cert.QDxIdeal.main_arg3)
      ∧ r.2.mem ((c.tc : Thread Cert.QDxIdeal.nD Cert.QDxIdeal.τ).loc Cert.QDxIdeal.main_arg4) = m ((c.tc : Thread Cert.QDxIdeal.nD Cert.QDxIdeal.τ).loc Cert.QDxIdeal.main_arg4))
      ∧ r.2.sem = fun _ => 0)

def quiescent_QDxIdeal_pre_q_dx_finite [hQDxIdeal : Cert.QDxIdeal.Facts] [hPre_q_dx_finite : Cert.Pre_q_dx_finite.Facts] : Prop :=
  ∀ (m : (ℓ : Loc Cert.QDxIdeal.nD Cert.QDxIdeal.τ Cert.QDxIdeal.sig) → Buf (Elt Ideal) ℓ) (g : Dev Cert.QDxIdeal.nD → PrngReg), Pre_QDxIdeal_q_dx_finite m →
    θ_run (Cert.QDxIdeal.defs (F := Ideal)) (onTc (τ := Cert.QDxIdeal.τ) (Cert.QDxIdeal.main (F := Ideal))) ⟨m, fun _ => 0, g⟩ (fun r => (∀ c : Dev Cert.QDxIdeal.nD,
      r.2.mem ((c.tc : Thread Cert.QDxIdeal.nD Cert.QDxIdeal.τ).loc Cert.QDxIdeal.main_arg0) = m ((c.tc : Thread Cert.QDxIdeal.nD Cert.QDxIdeal.τ).loc Cert.QDxIdeal.main_arg0)
      ∧ r.2.mem ((c.tc : Thread Cert.QDxIdeal.nD Cert.QDxIdeal.τ).loc Cert.QDxIdeal.main_arg1) = m ((c.tc : Thread Cert.QDxIdeal.nD Cert.QDxIdeal.τ).loc Cert.QDxIdeal.main_arg1)
      ∧ r.2.mem ((c.tc : Thread Cert.QDxIdeal.nD Cert.QDxIdeal.τ).loc Cert.QDxIdeal.main_arg2) = m ((c.tc : Thread Cert.QDxIdeal.nD Cert.QDxIdeal.τ).loc Cert.QDxIdeal.main_arg2)
      ∧ r.2.mem ((c.tc : Thread Cert.QDxIdeal.nD Cert.QDxIdeal.τ).loc Cert.QDxIdeal.main_arg3) = m ((c.tc : Thread Cert.QDxIdeal.nD Cert.QDxIdeal.τ).loc Cert.QDxIdeal.main_arg3)
      ∧ r.2.mem ((c.tc : Thread Cert.QDxIdeal.nD Cert.QDxIdeal.τ).loc Cert.QDxIdeal.main_arg4) = m ((c.tc : Thread Cert.QDxIdeal.nD Cert.QDxIdeal.τ).loc Cert.QDxIdeal.main_arg4))
      ∧ r.2.sem = fun _ => 0)

def quiescent_QDxReferenceIdeal [hQDxReferenceIdeal : Cert.QDxReferenceIdeal.Facts] : Prop :=
  ∀ (m : (ℓ : Loc Cert.QDxReferenceIdeal.nD Cert.QDxReferenceIdeal.τ Cert.QDxReferenceIdeal.sig) → Buf (Elt Ideal) ℓ) (g : Dev Cert.QDxReferenceIdeal.nD → PrngReg), Pre_QDxReferenceIdeal m →
    θ_run (Cert.QDxReferenceIdeal.defs (F := Ideal)) (onTc (τ := Cert.QDxReferenceIdeal.τ) (Cert.QDxReferenceIdeal.main (F := Ideal))) ⟨m, fun _ => 0, g⟩ (fun r => (∀ c : Dev Cert.QDxReferenceIdeal.nD,
      r.2.mem ((c.tc : Thread Cert.QDxReferenceIdeal.nD Cert.QDxReferenceIdeal.τ).loc Cert.QDxReferenceIdeal.main_arg0) = m ((c.tc : Thread Cert.QDxReferenceIdeal.nD Cert.QDxReferenceIdeal.τ).loc Cert.QDxReferenceIdeal.main_arg0)
      ∧ r.2.mem ((c.tc : Thread Cert.QDxReferenceIdeal.nD Cert.QDxReferenceIdeal.τ).loc Cert.QDxReferenceIdeal.main_arg1) = m ((c.tc : Thread Cert.QDxReferenceIdeal.nD Cert.QDxReferenceIdeal.τ).loc Cert.QDxReferenceIdeal.main_arg1)
      ∧ r.2.mem ((c.tc : Thread Cert.QDxReferenceIdeal.nD Cert.QDxReferenceIdeal.τ).loc Cert.QDxReferenceIdeal.main_arg2) = m ((c.tc : Thread Cert.QDxReferenceIdeal.nD Cert.QDxReferenceIdeal.τ).loc Cert.QDxReferenceIdeal.main_arg2)
      ∧ r.2.mem ((c.tc : Thread Cert.QDxReferenceIdeal.nD Cert.QDxReferenceIdeal.τ).loc Cert.QDxReferenceIdeal.main_arg3) = m ((c.tc : Thread Cert.QDxReferenceIdeal.nD Cert.QDxReferenceIdeal.τ).loc Cert.QDxReferenceIdeal.main_arg3)
      ∧ r.2.mem ((c.tc : Thread Cert.QDxReferenceIdeal.nD Cert.QDxReferenceIdeal.τ).loc Cert.QDxReferenceIdeal.main_arg4) = m ((c.tc : Thread Cert.QDxReferenceIdeal.nD Cert.QDxReferenceIdeal.τ).loc Cert.QDxReferenceIdeal.main_arg4))
      ∧ r.2.sem = fun _ => 0)

def quiescent_QDxReferenceIdeal_pre_q_dx_finite [hQDxReferenceIdeal : Cert.QDxReferenceIdeal.Facts] [hPre_q_dx_finite : Cert.Pre_q_dx_finite.Facts] : Prop :=
  ∀ (m : (ℓ : Loc Cert.QDxReferenceIdeal.nD Cert.QDxReferenceIdeal.τ Cert.QDxReferenceIdeal.sig) → Buf (Elt Ideal) ℓ) (g : Dev Cert.QDxReferenceIdeal.nD → PrngReg), Pre_QDxReferenceIdeal_q_dx_finite m →
    θ_run (Cert.QDxReferenceIdeal.defs (F := Ideal)) (onTc (τ := Cert.QDxReferenceIdeal.τ) (Cert.QDxReferenceIdeal.main (F := Ideal))) ⟨m, fun _ => 0, g⟩ (fun r => (∀ c : Dev Cert.QDxReferenceIdeal.nD,
      r.2.mem ((c.tc : Thread Cert.QDxReferenceIdeal.nD Cert.QDxReferenceIdeal.τ).loc Cert.QDxReferenceIdeal.main_arg0) = m ((c.tc : Thread Cert.QDxReferenceIdeal.nD Cert.QDxReferenceIdeal.τ).loc Cert.QDxReferenceIdeal.main_arg0)
      ∧ r.2.mem ((c.tc : Thread Cert.QDxReferenceIdeal.nD Cert.QDxReferenceIdeal.τ).loc Cert.QDxReferenceIdeal.main_arg1) = m ((c.tc : Thread Cert.QDxReferenceIdeal.nD Cert.QDxReferenceIdeal.τ).loc Cert.QDxReferenceIdeal.main_arg1)
      ∧ r.2.mem ((c.tc : Thread Cert.QDxReferenceIdeal.nD Cert.QDxReferenceIdeal.τ).loc Cert.QDxReferenceIdeal.main_arg2) = m ((c.tc : Thread Cert.QDxReferenceIdeal.nD Cert.QDxReferenceIdeal.τ).loc Cert.QDxReferenceIdeal.main_arg2)
      ∧ r.2.mem ((c.tc : Thread Cert.QDxReferenceIdeal.nD Cert.QDxReferenceIdeal.τ).loc Cert.QDxReferenceIdeal.main_arg3) = m ((c.tc : Thread Cert.QDxReferenceIdeal.nD Cert.QDxReferenceIdeal.τ).loc Cert.QDxReferenceIdeal.main_arg3)
      ∧ r.2.mem ((c.tc : Thread Cert.QDxReferenceIdeal.nD Cert.QDxReferenceIdeal.τ).loc Cert.QDxReferenceIdeal.main_arg4) = m ((c.tc : Thread Cert.QDxReferenceIdeal.nD Cert.QDxReferenceIdeal.τ).loc Cert.QDxReferenceIdeal.main_arg4))
      ∧ r.2.sem = fun _ => 0)

def quiescent_KvDx [hKvDx : Cert.KvDx.Facts] : Prop :=
  ∀ (m : (ℓ : Loc Cert.KvDx.nD Cert.KvDx.τ Cert.KvDx.sig) → Buf (Elt Bits) ℓ) (g : Dev Cert.KvDx.nD → PrngReg), Pre_KvDx m →
    θ_run (Cert.KvDx.defs (F := Bits)) (onTc (τ := Cert.KvDx.τ) (Cert.KvDx.main (F := Bits))) ⟨m, fun _ => 0, g⟩ (fun r => (∀ c : Dev Cert.KvDx.nD,
      r.2.mem ((c.tc : Thread Cert.KvDx.nD Cert.KvDx.τ).loc Cert.KvDx.main_arg0) = m ((c.tc : Thread Cert.KvDx.nD Cert.KvDx.τ).loc Cert.KvDx.main_arg0)
      ∧ r.2.mem ((c.tc : Thread Cert.KvDx.nD Cert.KvDx.τ).loc Cert.KvDx.main_arg1) = m ((c.tc : Thread Cert.KvDx.nD Cert.KvDx.τ).loc Cert.KvDx.main_arg1)
      ∧ r.2.mem ((c.tc : Thread Cert.KvDx.nD Cert.KvDx.τ).loc Cert.KvDx.main_arg2) = m ((c.tc : Thread Cert.KvDx.nD Cert.KvDx.τ).loc Cert.KvDx.main_arg2)
      ∧ r.2.mem ((c.tc : Thread Cert.KvDx.nD Cert.KvDx.τ).loc Cert.KvDx.main_arg3) = m ((c.tc : Thread Cert.KvDx.nD Cert.KvDx.τ).loc Cert.KvDx.main_arg3)
      ∧ r.2.mem ((c.tc : Thread Cert.KvDx.nD Cert.KvDx.τ).loc Cert.KvDx.main_arg4) = m ((c.tc : Thread Cert.KvDx.nD Cert.KvDx.τ).loc Cert.KvDx.main_arg4)
      ∧ r.2.mem ((c.tc : Thread Cert.KvDx.nD Cert.KvDx.τ).loc Cert.KvDx.main_arg5) = m ((c.tc : Thread Cert.KvDx.nD Cert.KvDx.τ).loc Cert.KvDx.main_arg5))
      ∧ r.2.sem = fun _ => 0)

def quiescent_KvDxIdeal [hKvDxIdeal : Cert.KvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1)
      ∧ r.2.mem ((c.tc : Thread Cert.KvDxIdeal.nD Cert.KvDxIdeal.τ).loc Cert.KvDxIdeal.main_arg2) = m ((c.tc : Thread Cert.KvDxIdeal.nD Cert.KvDxIdeal.τ).loc Cert.KvDxIdeal.main_arg2)
      ∧ r.2.mem ((c.tc : Thread Cert.KvDxIdeal.nD Cert.KvDxIdeal.τ).loc Cert.KvDxIdeal.main_arg3) = m ((c.tc : Thread Cert.KvDxIdeal.nD Cert.KvDxIdeal.τ).loc Cert.KvDxIdeal.main_arg3)
      ∧ r.2.mem ((c.tc : Thread Cert.KvDxIdeal.nD Cert.KvDxIdeal.τ).loc Cert.KvDxIdeal.main_arg4) = m ((c.tc : Thread Cert.KvDxIdeal.nD Cert.KvDxIdeal.τ).loc Cert.KvDxIdeal.main_arg4)
      ∧ r.2.mem ((c.tc : Thread Cert.KvDxIdeal.nD Cert.KvDxIdeal.τ).loc Cert.KvDxIdeal.main_arg5) = m ((c.tc : Thread Cert.KvDxIdeal.nD Cert.KvDxIdeal.τ).loc Cert.KvDxIdeal.main_arg5))
      ∧ r.2.sem = fun _ => 0)

def quiescent_KvDxIdeal_pre_kv_dx_finite [hKvDxIdeal : Cert.KvDxIdeal.Facts] [hPre_kv_dx_finite : Cert.Pre_kv_dx_finite.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal_kv_dx_finite m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1)
      ∧ r.2.mem ((c.tc : Thread Cert.KvDxIdeal.nD Cert.KvDxIdeal.τ).loc Cert.KvDxIdeal.main_arg2) = m ((c.tc : Thread Cert.KvDxIdeal.nD Cert.KvDxIdeal.τ).loc Cert.KvDxIdeal.main_arg2)
      ∧ r.2.mem ((c.tc : Thread Cert.KvDxIdeal.nD Cert.KvDxIdeal.τ).loc Cert.KvDxIdeal.main_arg3) = m ((c.tc : Thread Cert.KvDxIdeal.nD Cert.KvDxIdeal.τ).loc Cert.KvDxIdeal.main_arg3)
      ∧ r.2.mem ((c.tc : Thread Cert.KvDxIdeal.nD Cert.KvDxIdeal.τ).loc Cert.KvDxIdeal.main_arg4) = m ((c.tc : Thread Cert.KvDxIdeal.nD Cert.KvDxIdeal.τ).loc Cert.KvDxIdeal.main_arg4)
      ∧ r.2.mem ((c.tc : Thread Cert.KvDxIdeal.nD Cert.KvDxIdeal.τ).loc Cert.KvDxIdeal.main_arg5) = m ((c.tc : Thread Cert.KvDxIdeal.nD Cert.KvDxIdeal.τ).loc Cert.KvDxIdeal.main_arg5))
      ∧ r.2.sem = fun _ => 0)

def quiescent_KvDxReferenceIdeal [hKvDxReferenceIdeal : Cert.KvDxReferenceIdeal.Facts] : Prop :=
  ∀ (m : (ℓ : Loc Cert.KvDxReferenceIdeal.nD Cert.KvDxReferenceIdeal.τ Cert.KvDxReferenceIdeal.sig) → Buf (Elt Ideal) ℓ) (g : Dev Cert.KvDxReferenceIdeal.nD → PrngReg), Pre_KvDxReferenceIdeal m →
    θ_run (Cert.KvDxReferenceIdeal.defs (F := Ideal)) (onTc (τ := Cert.KvDxReferenceIdeal.τ) (Cert.KvDxReferenceIdeal.main (F := Ideal))) ⟨m, fun _ => 0, g⟩ (fun r => (∀ c : Dev Cert.KvDxReferenceIdeal.nD,
      r.2.mem ((c.tc : Thread Cert.KvDxReferenceIdeal.nD Cert.KvDxReferenceIdeal.τ).loc Cert.KvDxReferenceIdeal.main_arg0) = m ((c.tc : Thread Cert.KvDxReferenceIdeal.nD Cert.KvDxReferenceIdeal.τ).loc Cert.KvDxReferenceIdeal.main_arg0)
      ∧ r.2.mem ((c.tc : Thread Cert.KvDxReferenceIdeal.nD Cert.KvDxReferenceIdeal.τ).loc Cert.KvDxReferenceIdeal.main_arg1) = m ((c.tc : Thread Cert.KvDxReferenceIdeal.nD Cert.KvDxReferenceIdeal.τ).loc Cert.KvDxReferenceIdeal.main_arg1)
      ∧ r.2.mem ((c.tc : Thread Cert.KvDxReferenceIdeal.nD Cert.KvDxReferenceIdeal.τ).loc Cert.KvDxReferenceIdeal.main_arg2) = m ((c.tc : Thread Cert.KvDxReferenceIdeal.nD Cert.KvDxReferenceIdeal.τ).loc Cert.KvDxReferenceIdeal.main_arg2)
      ∧ r.2.mem ((c.tc : Thread Cert.KvDxReferenceIdeal.nD Cert.KvDxReferenceIdeal.τ).loc Cert.KvDxReferenceIdeal.main_arg3) = m ((c.tc : Thread Cert.KvDxReferenceIdeal.nD Cert.KvDxReferenceIdeal.τ).loc Cert.KvDxReferenceIdeal.main_arg3)
      ∧ r.2.mem ((c.tc : Thread Cert.KvDxReferenceIdeal.nD Cert.KvDxReferenceIdeal.τ).loc Cert.KvDxReferenceIdeal.main_arg4) = m ((c.tc : Thread Cert.KvDxReferenceIdeal.nD Cert.KvDxReferenceIdeal.τ).loc Cert.KvDxReferenceIdeal.main_arg4)
      ∧ r.2.mem ((c.tc : Thread Cert.KvDxReferenceIdeal.nD Cert.KvDxReferenceIdeal.τ).loc Cert.KvDxReferenceIdeal.main_arg5) = m ((c.tc : Thread Cert.KvDxReferenceIdeal.nD Cert.KvDxReferenceIdeal.τ).loc Cert.KvDxReferenceIdeal.main_arg5))
      ∧ r.2.sem = fun _ => 0)

def quiescent_KvDxReferenceIdeal_pre_kv_dx_finite [hKvDxReferenceIdeal : Cert.KvDxReferenceIdeal.Facts] [hPre_kv_dx_finite : Cert.Pre_kv_dx_finite.Facts] : Prop :=
  ∀ (m : (ℓ : Loc Cert.KvDxReferenceIdeal.nD Cert.KvDxReferenceIdeal.τ Cert.KvDxReferenceIdeal.sig) → Buf (Elt Ideal) ℓ) (g : Dev Cert.KvDxReferenceIdeal.nD → PrngReg), Pre_KvDxReferenceIdeal_kv_dx_finite m →
    θ_run (Cert.KvDxReferenceIdeal.defs (F := Ideal)) (onTc (τ := Cert.KvDxReferenceIdeal.τ) (Cert.KvDxReferenceIdeal.main (F := Ideal))) ⟨m, fun _ => 0, g⟩ (fun r => (∀ c : Dev Cert.KvDxReferenceIdeal.nD,
      r.2.mem ((c.tc : Thread Cert.KvDxReferenceIdeal.nD Cert.KvDxReferenceIdeal.τ).loc Cert.KvDxReferenceIdeal.main_arg0) = m ((c.tc : Thread Cert.KvDxReferenceIdeal.nD Cert.KvDxReferenceIdeal.τ).loc Cert.KvDxReferenceIdeal.main_arg0)
      ∧ r.2.mem ((c.tc : Thread Cert.KvDxReferenceIdeal.nD Cert.KvDxReferenceIdeal.τ).loc Cert.KvDxReferenceIdeal.main_arg1) = m ((c.tc : Thread Cert.KvDxReferenceIdeal.nD Cert.KvDxReferenceIdeal.τ).loc Cert.KvDxReferenceIdeal.main_arg1)
      ∧ r.2.mem ((c.tc : Thread Cert.KvDxReferenceIdeal.nD Cert.KvDxReferenceIdeal.τ).loc Cert.KvDxReferenceIdeal.main_arg2) = m ((c.tc : Thread Cert.KvDxReferenceIdeal.nD Cert.KvDxReferenceIdeal.τ).loc Cert.KvDxReferenceIdeal.main_arg2)
      ∧ r.2.mem ((c.tc : Thread Cert.KvDxReferenceIdeal.nD Cert.KvDxReferenceIdeal.τ).loc Cert.KvDxReferenceIdeal.main_arg3) = m ((c.tc : Thread Cert.KvDxReferenceIdeal.nD Cert.KvDxReferenceIdeal.τ).loc Cert.KvDxReferenceIdeal.main_arg3)
      ∧ r.2.mem ((c.tc : Thread Cert.KvDxReferenceIdeal.nD Cert.KvDxReferenceIdeal.τ).loc Cert.KvDxReferenceIdeal.main_arg4) = m ((c.tc : Thread Cert.KvDxReferenceIdeal.nD Cert.KvDxReferenceIdeal.τ).loc Cert.KvDxReferenceIdeal.main_arg4)
      ∧ r.2.mem ((c.tc : Thread Cert.KvDxReferenceIdeal.nD Cert.KvDxReferenceIdeal.τ).loc Cert.KvDxReferenceIdeal.main_arg5) = m ((c.tc : Thread Cert.KvDxReferenceIdeal.nD Cert.KvDxReferenceIdeal.τ).loc Cert.KvDxReferenceIdeal.main_arg5))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4)
      ∧ r.2.mem ((c.tc : Thread Cert.InDx.nD Cert.InDx.τ).loc Cert.InDx.main_arg5) = m ((c.tc : Thread Cert.InDx.nD Cert.InDx.τ).loc Cert.InDx.main_arg5)
      ∧ r.2.mem ((c.tc : Thread Cert.InDx.nD Cert.InDx.τ).loc Cert.InDx.main_arg6) = m ((c.tc : Thread Cert.InDx.nD Cert.InDx.τ).loc Cert.InDx.main_arg6))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
      ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
      ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6))
      ∧ r.2.sem = fun _ => 0)

def quiescent_InDxIdeal_pre_in_dx_finite [hInDxIdeal : Cert.InDxIdeal.Facts] [hPre_in_dx_finite : Cert.Pre_in_dx_finite.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal_in_dx_finite m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
      ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
      ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6))
      ∧ r.2.sem = fun _ => 0)

def quiescent_InDxReferenceIdeal [hInDxReferenceIdeal : Cert.InDxReferenceIdeal.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1)
      ∧ r.2.mem ((c.tc : Thread Cert.InDxReferenceIdeal.nD Cert.InDxReferenceIdeal.τ).loc Cert.InDxReferenceIdeal.main_arg2) = m ((c.tc : Thread Cert.InDxReferenceIdeal.nD Cert.InDxReferenceIdeal.τ).loc Cert.InDxReferenceIdeal.main_arg2)
      ∧ r.2.mem ((c.tc : Thread Cert.InDxReferenceIdeal.nD Cert.InDxReferenceIdeal.τ).loc Cert.InDxReferenceIdeal.main_arg3) = m ((c.tc : Thread Cert.InDxReferenceIdeal.nD Cert.InDxReferenceIdeal.τ).loc Cert.InDxReferenceIdeal.main_arg3)
      ∧ r.2.mem ((c.tc : Thread Cert.InDxReferenceIdeal.nD Cert.InDxReferenceIdeal.τ).loc Cert.InDxReferenceIdeal.main_arg4) = m ((c.tc : Thread Cert.InDxReferenceIdeal.nD Cert.InDxReferenceIdeal.τ).loc Cert.InDxReferenceIdeal.main_arg4)
      ∧ r.2.mem ((c.tc : Thread Cert.InDxReferenceIdeal.nD Cert.InDxReferenceIdeal.τ).loc Cert.InDxReferenceIdeal.main_arg5) = m ((c.tc : Thread Cert.InDxReferenceIdeal.nD Cert.InDxReferenceIdeal.τ).loc Cert.InDxReferenceIdeal.main_arg5)
      ∧ r.2.mem ((c.tc : Thread Cert.InDxReferenceIdeal.nD Cert.InDxReferenceIdeal.τ).loc Cert.InDxReferenceIdeal.main_arg6) = m ((c.tc : Thread Cert.InDxReferenceIdeal.nD Cert.InDxReferenceIdeal.τ).loc Cert.InDxReferenceIdeal.main_arg6))
      ∧ r.2.sem = fun _ => 0)

def quiescent_InDxReferenceIdeal_pre_in_dx_finite [hInDxReferenceIdeal : Cert.InDxReferenceIdeal.Facts] [hPre_in_dx_finite : Cert.Pre_in_dx_finite.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal_in_dx_finite m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1)
      ∧ r.2.mem ((c.tc : Thread Cert.InDxReferenceIdeal.nD Cert.InDxReferenceIdeal.τ).loc Cert.InDxReferenceIdeal.main_arg2) = m ((c.tc : Thread Cert.InDxReferenceIdeal.nD Cert.InDxReferenceIdeal.τ).loc Cert.InDxReferenceIdeal.main_arg2)
      ∧ r.2.mem ((c.tc : Thread Cert.InDxReferenceIdeal.nD Cert.InDxReferenceIdeal.τ).loc Cert.InDxReferenceIdeal.main_arg3) = m ((c.tc : Thread Cert.InDxReferenceIdeal.nD Cert.InDxReferenceIdeal.τ).loc Cert.InDxReferenceIdeal.main_arg3)
      ∧ r.2.mem ((c.tc : Thread Cert.InDxReferenceIdeal.nD Cert.InDxReferenceIdeal.τ).loc Cert.InDxReferenceIdeal.main_arg4) = m ((c.tc : Thread Cert.InDxReferenceIdeal.nD Cert.InDxReferenceIdeal.τ).loc Cert.InDxReferenceIdeal.main_arg4)
      ∧ r.2.mem ((c.tc : Thread Cert.InDxReferenceIdeal.nD Cert.InDxReferenceIdeal.τ).loc Cert.InDxReferenceIdeal.main_arg5) = m ((c.tc : Thread Cert.InDxReferenceIdeal.nD Cert.InDxReferenceIdeal.τ).loc Cert.InDxReferenceIdeal.main_arg5)
      ∧ r.2.mem ((c.tc : Thread Cert.InDxReferenceIdeal.nD Cert.InDxReferenceIdeal.τ).loc Cert.InDxReferenceIdeal.main_arg6) = m ((c.tc : Thread Cert.InDxReferenceIdeal.nD Cert.InDxReferenceIdeal.τ).loc Cert.InDxReferenceIdeal.main_arg6))
      ∧ r.2.sem = fun _ => 0)

def quiescent_BwdAct [hBwdAct : Cert.BwdAct.Facts] : Prop :=
  ∀ (m : (ℓ : Loc Cert.BwdAct.nD Cert.BwdAct.τ Cert.BwdAct.sig) → Buf (Elt Bits) ℓ) (g : Dev Cert.BwdAct.nD → PrngReg), Pre_BwdAct m →
    θ_run (Cert.BwdAct.defs (F := Bits)) (onTc (τ := Cert.BwdAct.τ) (Cert.BwdAct.main (F := Bits))) ⟨m, fun _ => 0, g⟩ (fun r => (∀ c : Dev Cert.BwdAct.nD,
      r.2.mem ((c.tc : Thread Cert.BwdAct.nD Cert.BwdAct.τ).loc Cert.BwdAct.main_arg0) = m ((c.tc : Thread Cert.BwdAct.nD Cert.BwdAct.τ).loc Cert.BwdAct.main_arg0)
      ∧ r.2.mem ((c.tc : Thread Cert.BwdAct.nD Cert.BwdAct.τ).loc Cert.BwdAct.main_arg1) = m ((c.tc : Thread Cert.BwdAct.nD Cert.BwdAct.τ).loc Cert.BwdAct.main_arg1)
      ∧ r.2.mem ((c.tc : Thread Cert.BwdAct.nD Cert.BwdAct.τ).loc Cert.BwdAct.main_arg2) = m ((c.tc : Thread Cert.BwdAct.nD Cert.BwdAct.τ).loc Cert.BwdAct.main_arg2))
      ∧ r.2.sem = fun _ => 0)

def quiescent_BwdActIdeal [hBwdActIdeal : Cert.BwdActIdeal.Facts] : Prop :=
  ∀ (m : (ℓ : Loc Cert.BwdActIdeal.nD Cert.BwdActIdeal.τ Cert.BwdActIdeal.sig) → Buf (Elt Ideal) ℓ) (g : Dev Cert.BwdActIdeal.nD → PrngReg), Pre_BwdActIdeal m →
    θ_run (Cert.BwdActIdeal.defs (F := Ideal)) (onTc (τ := Cert.BwdActIdeal.τ) (Cert.BwdActIdeal.main (F := Ideal))) ⟨m, fun _ => 0, g⟩ (fun r => (∀ c : Dev Cert.BwdActIdeal.nD,
      r.2.mem ((c.tc : Thread Cert.BwdActIdeal.nD Cert.BwdActIdeal.τ).loc Cert.BwdActIdeal.main_arg0) = m ((c.tc : Thread Cert.BwdActIdeal.nD Cert.BwdActIdeal.τ).loc Cert.BwdActIdeal.main_arg0)
      ∧ r.2.mem ((c.tc : Thread Cert.BwdActIdeal.nD Cert.BwdActIdeal.τ).loc Cert.BwdActIdeal.main_arg1) = m ((c.tc : Thread Cert.BwdActIdeal.nD Cert.BwdActIdeal.τ).loc Cert.BwdActIdeal.main_arg1)
      ∧ r.2.mem ((c.tc : Thread Cert.BwdActIdeal.nD Cert.BwdActIdeal.τ).loc Cert.BwdActIdeal.main_arg2) = m ((c.tc : Thread Cert.BwdActIdeal.nD Cert.BwdActIdeal.τ).loc Cert.BwdActIdeal.main_arg2))
      ∧ r.2.sem = fun _ => 0)

def quiescent_BwdActIdeal_pre_bwd_act_finite [hBwdActIdeal : Cert.BwdActIdeal.Facts] [hPre_bwd_act_finite : Cert.Pre_bwd_act_finite.Facts] : Prop :=
  ∀ (m : (ℓ : Loc Cert.BwdActIdeal.nD Cert.BwdActIdeal.τ Cert.BwdActIdeal.sig) → Buf (Elt Ideal) ℓ) (g : Dev Cert.BwdActIdeal.nD → PrngReg), Pre_BwdActIdeal_bwd_act_finite m →
    θ_run (Cert.BwdActIdeal.defs (F := Ideal)) (onTc (τ := Cert.BwdActIdeal.τ) (Cert.BwdActIdeal.main (F := Ideal))) ⟨m, fun _ => 0, g⟩ (fun r => (∀ c : Dev Cert.BwdActIdeal.nD,
      r.2.mem ((c.tc : Thread Cert.BwdActIdeal.nD Cert.BwdActIdeal.τ).loc Cert.BwdActIdeal.main_arg0) = m ((c.tc : Thread Cert.BwdActIdeal.nD Cert.BwdActIdeal.τ).loc Cert.BwdActIdeal.main_arg0)
      ∧ r.2.mem ((c.tc : Thread Cert.BwdActIdeal.nD Cert.BwdActIdeal.τ).loc Cert.BwdActIdeal.main_arg1) = m ((c.tc : Thread Cert.BwdActIdeal.nD Cert.BwdActIdeal.τ).loc Cert.BwdActIdeal.main_arg1)
      ∧ r.2.mem ((c.tc : Thread Cert.BwdActIdeal.nD Cert.BwdActIdeal.τ).loc Cert.BwdActIdeal.main_arg2) = m ((c.tc : Thread Cert.BwdActIdeal.nD Cert.BwdActIdeal.τ).loc Cert.BwdActIdeal.main_arg2))
      ∧ r.2.sem = fun _ => 0)

def quiescent_BwdActReferenceIdeal [hBwdActReferenceIdeal : Cert.BwdActReferenceIdeal.Facts] : Prop :=
  ∀ (m : (ℓ : Loc Cert.BwdActReferenceIdeal.nD Cert.BwdActReferenceIdeal.τ Cert.BwdActReferenceIdeal.sig) → Buf (Elt Ideal) ℓ) (g : Dev Cert.BwdActReferenceIdeal.nD → PrngReg), Pre_BwdActReferenceIdeal m →
    θ_run (Cert.BwdActReferenceIdeal.defs (F := Ideal)) (onTc (τ := Cert.BwdActReferenceIdeal.τ) (Cert.BwdActReferenceIdeal.main (F := Ideal))) ⟨m, fun _ => 0, g⟩ (fun r => (∀ c : Dev Cert.BwdActReferenceIdeal.nD,
      r.2.mem ((c.tc : Thread Cert.BwdActReferenceIdeal.nD Cert.BwdActReferenceIdeal.τ).loc Cert.BwdActReferenceIdeal.main_arg0) = m ((c.tc : Thread Cert.BwdActReferenceIdeal.nD Cert.BwdActReferenceIdeal.τ).loc Cert.BwdActReferenceIdeal.main_arg0)
      ∧ r.2.mem ((c.tc : Thread Cert.BwdActReferenceIdeal.nD Cert.BwdActReferenceIdeal.τ).loc Cert.BwdActReferenceIdeal.main_arg1) = m ((c.tc : Thread Cert.BwdActReferenceIdeal.nD Cert.BwdActReferenceIdeal.τ).loc Cert.BwdActReferenceIdeal.main_arg1)
      ∧ r.2.mem ((c.tc : Thread Cert.BwdActReferenceIdeal.nD Cert.BwdActReferenceIdeal.τ).loc Cert.BwdActReferenceIdeal.main_arg2) = m ((c.tc : Thread Cert.BwdActReferenceIdeal.nD Cert.BwdActReferenceIdeal.τ).loc Cert.BwdActReferenceIdeal.main_arg2))
      ∧ r.2.sem = fun _ => 0)

def quiescent_BwdActReferenceIdeal_pre_bwd_act_finite [hBwdActReferenceIdeal : Cert.BwdActReferenceIdeal.Facts] [hPre_bwd_act_finite : Cert.Pre_bwd_act_finite.Facts] : Prop :=
  ∀ (m : (ℓ : Loc Cert.BwdActReferenceIdeal.nD Cert.BwdActReferenceIdeal.τ Cert.BwdActReferenceIdeal.sig) → Buf (Elt Ideal) ℓ) (g : Dev Cert.BwdActReferenceIdeal.nD → PrngReg), Pre_BwdActReferenceIdeal_bwd_act_finite m →
    θ_run (Cert.BwdActReferenceIdeal.defs (F := Ideal)) (onTc (τ := Cert.BwdActReferenceIdeal.τ) (Cert.BwdActReferenceIdeal.main (F := Ideal))) ⟨m, fun _ => 0, g⟩ (fun r => (∀ c : Dev Cert.BwdActReferenceIdeal.nD,
      r.2.mem ((c.tc : Thread Cert.BwdActReferenceIdeal.nD Cert.BwdActReferenceIdeal.τ).loc Cert.BwdActReferenceIdeal.main_arg0) = m ((c.tc : Thread Cert.BwdActReferenceIdeal.nD Cert.BwdActReferenceIdeal.τ).loc Cert.BwdActReferenceIdeal.main_arg0)
      ∧ r.2.mem ((c.tc : Thread Cert.BwdActReferenceIdeal.nD Cert.BwdActReferenceIdeal.τ).loc Cert.BwdActReferenceIdeal.main_arg1) = m ((c.tc : Thread Cert.BwdActReferenceIdeal.nD Cert.BwdActReferenceIdeal.τ).loc Cert.BwdActReferenceIdeal.main_arg1)
      ∧ r.2.mem ((c.tc : Thread Cert.BwdActReferenceIdeal.nD Cert.BwdActReferenceIdeal.τ).loc Cert.BwdActReferenceIdeal.main_arg2) = m ((c.tc : Thread Cert.BwdActReferenceIdeal.nD Cert.BwdActReferenceIdeal.τ).loc Cert.BwdActReferenceIdeal.main_arg2))
      ∧ r.2.sem = fun _ => 0)

def quiescent_ActDown [hActDown : Cert.ActDown.Facts] : Prop :=
  ∀ (m : (ℓ : Loc Cert.ActDown.nD Cert.ActDown.τ Cert.ActDown.sig) → Buf (Elt Bits) ℓ) (g : Dev Cert.ActDown.nD → PrngReg), Pre_ActDown m →
    θ_run (Cert.ActDown.defs (F := Bits)) (onTc (τ := Cert.ActDown.τ) (Cert.ActDown.main (F := Bits))) ⟨m, fun _ => 0, g⟩ (fun r => (∀ c : Dev Cert.ActDown.nD,
      r.2.mem ((c.tc : Thread Cert.ActDown.nD Cert.ActDown.τ).loc Cert.ActDown.main_arg0) = m ((c.tc : Thread Cert.ActDown.nD Cert.ActDown.τ).loc Cert.ActDown.main_arg0)
      ∧ r.2.mem ((c.tc : Thread Cert.ActDown.nD Cert.ActDown.τ).loc Cert.ActDown.main_arg1) = m ((c.tc : Thread Cert.ActDown.nD Cert.ActDown.τ).loc Cert.ActDown.main_arg1)
      ∧ r.2.mem ((c.tc : Thread Cert.ActDown.nD Cert.ActDown.τ).loc Cert.ActDown.main_arg2) = m ((c.tc : Thread Cert.ActDown.nD Cert.ActDown.τ).loc Cert.ActDown.main_arg2)
      ∧ r.2.mem ((c.tc : Thread Cert.ActDown.nD Cert.ActDown.τ).loc Cert.ActDown.main_arg3) = m ((c.tc : Thread Cert.ActDown.nD Cert.ActDown.τ).loc Cert.ActDown.main_arg3)
      ∧ r.2.mem ((c.tc : Thread Cert.ActDown.nD Cert.ActDown.τ).loc Cert.ActDown.main_arg4) = m ((c.tc : Thread Cert.ActDown.nD Cert.ActDown.τ).loc Cert.ActDown.main_arg4))
      ∧ r.2.sem = fun _ => 0)

def quiescent_ActDownIdeal [hActDownIdeal : Cert.ActDownIdeal.Facts] : Prop :=
  ∀ (m : (ℓ : Loc Cert.ActDownIdeal.nD Cert.ActDownIdeal.τ Cert.ActDownIdeal.sig) → Buf (Elt Ideal) ℓ) (g : Dev Cert.ActDownIdeal.nD → PrngReg), Pre_ActDownIdeal m →
    θ_run (Cert.ActDownIdeal.defs (F := Ideal)) (onTc (τ := Cert.ActDownIdeal.τ) (Cert.ActDownIdeal.main (F := Ideal))) ⟨m, fun _ => 0, g⟩ (fun r => (∀ c : Dev Cert.ActDownIdeal.nD,
      r.2.mem ((c.tc : Thread Cert.ActDownIdeal.nD Cert.ActDownIdeal.τ).loc Cert.ActDownIdeal.main_arg0) = m ((c.tc : Thread Cert.ActDownIdeal.nD Cert.ActDownIdeal.τ).loc Cert.ActDownIdeal.main_arg0)
      ∧ r.2.mem ((c.tc : Thread Cert.ActDownIdeal.nD Cert.ActDownIdeal.τ).loc Cert.ActDownIdeal.main_arg1) = m ((c.tc : Thread Cert.ActDownIdeal.nD Cert.ActDownIdeal.τ).loc Cert.ActDownIdeal.main_arg1)
      ∧ r.2.mem ((c.tc : Thread Cert.ActDownIdeal.nD Cert.ActDownIdeal.τ).loc Cert.ActDownIdeal.main_arg2) = m ((c.tc : Thread Cert.ActDownIdeal.nD Cert.ActDownIdeal.τ).loc Cert.ActDownIdeal.main_arg2)
      ∧ r.2.mem ((c.tc : Thread Cert.ActDownIdeal.nD Cert.ActDownIdeal.τ).loc Cert.ActDownIdeal.main_arg3) = m ((c.tc : Thread Cert.ActDownIdeal.nD Cert.ActDownIdeal.τ).loc Cert.ActDownIdeal.main_arg3)
      ∧ r.2.mem ((c.tc : Thread Cert.ActDownIdeal.nD Cert.ActDownIdeal.τ).loc Cert.ActDownIdeal.main_arg4) = m ((c.tc : Thread Cert.ActDownIdeal.nD Cert.ActDownIdeal.τ).loc Cert.ActDownIdeal.main_arg4))
      ∧ r.2.sem = fun _ => 0)

def quiescent_ActDownReferenceIdeal [hActDownReferenceIdeal : Cert.ActDownReferenceIdeal.Facts] : Prop :=
  ∀ (m : (ℓ : Loc Cert.ActDownReferenceIdeal.nD Cert.ActDownReferenceIdeal.τ Cert.ActDownReferenceIdeal.sig) → Buf (Elt Ideal) ℓ) (g : Dev Cert.ActDownReferenceIdeal.nD → PrngReg), Pre_ActDownReferenceIdeal m →
    θ_run (Cert.ActDownReferenceIdeal.defs (F := Ideal)) (onTc (τ := Cert.ActDownReferenceIdeal.τ) (Cert.ActDownReferenceIdeal.main (F := Ideal))) ⟨m, fun _ => 0, g⟩ (fun r => (∀ c : Dev Cert.ActDownReferenceIdeal.nD,
      r.2.mem ((c.tc : Thread Cert.ActDownReferenceIdeal.nD Cert.ActDownReferenceIdeal.τ).loc Cert.ActDownReferenceIdeal.main_arg0) = m ((c.tc : Thread Cert.ActDownReferenceIdeal.nD Cert.ActDownReferenceIdeal.τ).loc Cert.ActDownReferenceIdeal.main_arg0)
      ∧ r.2.mem ((c.tc : Thread Cert.ActDownReferenceIdeal.nD Cert.ActDownReferenceIdeal.τ).loc Cert.ActDownReferenceIdeal.main_arg1) = m ((c.tc : Thread Cert.ActDownReferenceIdeal.nD Cert.ActDownReferenceIdeal.τ).loc Cert.ActDownReferenceIdeal.main_arg1)
      ∧ r.2.mem ((c.tc : Thread Cert.ActDownReferenceIdeal.nD Cert.ActDownReferenceIdeal.τ).loc Cert.ActDownReferenceIdeal.main_arg2) = m ((c.tc : Thread Cert.ActDownReferenceIdeal.nD Cert.ActDownReferenceIdeal.τ).loc Cert.ActDownReferenceIdeal.main_arg2)
      ∧ r.2.mem ((c.tc : Thread Cert.ActDownReferenceIdeal.nD Cert.ActDownReferenceIdeal.τ).loc Cert.ActDownReferenceIdeal.main_arg3) = m ((c.tc : Thread Cert.ActDownReferenceIdeal.nD Cert.ActDownReferenceIdeal.τ).loc Cert.ActDownReferenceIdeal.main_arg3)
      ∧ r.2.mem ((c.tc : Thread Cert.ActDownReferenceIdeal.nD Cert.ActDownReferenceIdeal.τ).loc Cert.ActDownReferenceIdeal.main_arg4) = m ((c.tc : Thread Cert.ActDownReferenceIdeal.nD Cert.ActDownReferenceIdeal.τ).loc Cert.ActDownReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)) (v3 : (c : Dev Cert.KernelIdeal.nD) → Buf (Elt Ideal) ((c.tc : Thread Cert.KernelIdeal.nD Cert.KernelIdeal.τ).loc Cert.KernelIdeal.main_v21_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_v21_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v188) = v1 c
          ∧ r.2.mem ((c.tc : Thread Cert.ReferenceIdeal.nD Cert.ReferenceIdeal.τ).loc Cert.ReferenceIdeal.main_v184) = v2 c
          ∧ r.2.mem ((c.tc : Thread Cert.ReferenceIdeal.nD Cert.ReferenceIdeal.τ).loc Cert.ReferenceIdeal.main_v190) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_UpWgrad_UpWgradIdeal : Prop :=
  True

def algebraic_UpWgradIdeal_UpWgradReferenceIdeal [hUpWgradIdeal : Cert.UpWgradIdeal.Facts] [hUpWgradReferenceIdeal : Cert.UpWgradReferenceIdeal.Facts] : Prop :=
  ∀ (m : (ℓ : Loc Cert.UpWgradIdeal.nD Cert.UpWgradIdeal.τ Cert.UpWgradIdeal.sig) → Buf (Elt Ideal) ℓ) (g : Dev Cert.UpWgradIdeal.nD → PrngReg)
    (m' : (ℓ : Loc Cert.UpWgradReferenceIdeal.nD Cert.UpWgradReferenceIdeal.τ Cert.UpWgradReferenceIdeal.sig) → Buf (Elt Ideal) ℓ) (g' : Dev Cert.UpWgradReferenceIdeal.nD → PrngReg), Pre_UpWgradIdeal m →
    (∀ c : Dev Cert.UpWgradIdeal.nD,
      m' ((c.tc : Thread Cert.UpWgradReferenceIdeal.nD Cert.UpWgradReferenceIdeal.τ).loc Cert.UpWgradReferenceIdeal.main_arg0) = m ((c.tc : Thread Cert.UpWgradIdeal.nD Cert.UpWgradIdeal.τ).loc Cert.UpWgradIdeal.main_arg0)
      ∧ m' ((c.tc : Thread Cert.UpWgradReferenceIdeal.nD Cert.UpWgradReferenceIdeal.τ).loc Cert.UpWgradReferenceIdeal.main_arg1) = m ((c.tc : Thread Cert.UpWgradIdeal.nD Cert.UpWgradIdeal.τ).loc Cert.UpWgradIdeal.main_arg1)
      ∧ m' ((c.tc : Thread Cert.UpWgradReferenceIdeal.nD Cert.UpWgradReferenceIdeal.τ).loc Cert.UpWgradReferenceIdeal.main_arg2) = m ((c.tc : Thread Cert.UpWgradIdeal.nD Cert.UpWgradIdeal.τ).loc Cert.UpWgradIdeal.main_arg2)) →
    ∃ (v0 : (c : Dev Cert.UpWgradIdeal.nD) → Buf (Elt Ideal) ((c.tc : Thread Cert.UpWgradIdeal.nD Cert.UpWgradIdeal.τ).loc Cert.UpWgradIdeal.main_v0)),
      θ_run (Cert.UpWgradIdeal.defs (F := Ideal)) (onTc (τ := Cert.UpWgradIdeal.τ) (Cert.UpWgradIdeal.main (F := Ideal))) ⟨m, fun _ => 0, g⟩ (fun r => ∀ c : Dev Cert.UpWgradIdeal.nD,
          r.2.mem ((c.tc : Thread Cert.UpWgradIdeal.nD Cert.UpWgradIdeal.τ).loc Cert.UpWgradIdeal.main_v0) = v0 c
          ∧ r.2.mem ((c.tc : Thread Cert.UpWgradIdeal.nD Cert.UpWgradIdeal.τ).loc Cert.UpWgradIdeal.main_arg0) = m ((c.tc : Thread Cert.UpWgradIdeal.nD Cert.UpWgradIdeal.τ).loc Cert.UpWgradIdeal.main_arg0)
          ∧ r.2.mem ((c.tc : Thread Cert.UpWgradIdeal.nD Cert.UpWgradIdeal.τ).loc Cert.UpWgradIdeal.main_arg1) = m ((c.tc : Thread Cert.UpWgradIdeal.nD Cert.UpWgradIdeal.τ).loc Cert.UpWgradIdeal.main_arg1)
          ∧ r.2.mem ((c.tc : Thread Cert.UpWgradIdeal.nD Cert.UpWgradIdeal.τ).loc Cert.UpWgradIdeal.main_arg2) = m ((c.tc : Thread Cert.UpWgradIdeal.nD Cert.UpWgradIdeal.τ).loc Cert.UpWgradIdeal.main_arg2))
      ∧ θ_run (Cert.UpWgradReferenceIdeal.defs (F := Ideal)) (onTc (τ := Cert.UpWgradReferenceIdeal.τ) (Cert.UpWgradReferenceIdeal.main (F := Ideal))) ⟨m', fun _ => 0, g'⟩ (fun r => ∀ c : Dev Cert.UpWgradReferenceIdeal.nD,
          r.2.mem ((c.tc : Thread Cert.UpWgradReferenceIdeal.nD Cert.UpWgradReferenceIdeal.τ).loc Cert.UpWgradReferenceIdeal.main_v19) = v0 c
          ∧ r.2.mem ((c.tc : Thread Cert.UpWgradReferenceIdeal.nD Cert.UpWgradReferenceIdeal.τ).loc Cert.UpWgradReferenceIdeal.main_arg0) = m' ((c.tc : Thread Cert.UpWgradReferenceIdeal.nD Cert.UpWgradReferenceIdeal.τ).loc Cert.UpWgradReferenceIdeal.main_arg0)
          ∧ r.2.mem ((c.tc : Thread Cert.UpWgradReferenceIdeal.nD Cert.UpWgradReferenceIdeal.τ).loc Cert.UpWgradReferenceIdeal.main_arg1) = m' ((c.tc : Thread Cert.UpWgradReferenceIdeal.nD Cert.UpWgradReferenceIdeal.τ).loc Cert.UpWgradReferenceIdeal.main_arg1)
          ∧ r.2.mem ((c.tc : Thread Cert.UpWgradReferenceIdeal.nD Cert.UpWgradReferenceIdeal.τ).loc Cert.UpWgradReferenceIdeal.main_arg2) = m' ((c.tc : Thread Cert.UpWgradReferenceIdeal.nD Cert.UpWgradReferenceIdeal.τ).loc Cert.UpWgradReferenceIdeal.main_arg2))

def preserves_DownWgrad_DownWgradIdeal : Prop :=
  True

def algebraic_DownWgradIdeal_DownWgradReferenceIdeal [hDownWgradIdeal : Cert.DownWgradIdeal.Facts] [hDownWgradReferenceIdeal : Cert.DownWgradReferenceIdeal.Facts] : Prop :=
  ∀ (m : (ℓ : Loc Cert.DownWgradIdeal.nD Cert.DownWgradIdeal.τ Cert.DownWgradIdeal.sig) → Buf (Elt Ideal) ℓ) (g : Dev Cert.DownWgradIdeal.nD → PrngReg)
    (m' : (ℓ : Loc Cert.DownWgradReferenceIdeal.nD Cert.DownWgradReferenceIdeal.τ Cert.DownWgradReferenceIdeal.sig) → Buf (Elt Ideal) ℓ) (g' : Dev Cert.DownWgradReferenceIdeal.nD → PrngReg), Pre_DownWgradIdeal m →
    (∀ c : Dev Cert.DownWgradIdeal.nD,
      m' ((c.tc : Thread Cert.DownWgradReferenceIdeal.nD Cert.DownWgradReferenceIdeal.τ).loc Cert.DownWgradReferenceIdeal.main_arg0) = m ((c.tc : Thread Cert.DownWgradIdeal.nD Cert.DownWgradIdeal.τ).loc Cert.DownWgradIdeal.main_arg0)
      ∧ m' ((c.tc : Thread Cert.DownWgradReferenceIdeal.nD Cert.DownWgradReferenceIdeal.τ).loc Cert.DownWgradReferenceIdeal.main_arg1) = m ((c.tc : Thread Cert.DownWgradIdeal.nD Cert.DownWgradIdeal.τ).loc Cert.DownWgradIdeal.main_arg1)) →
    ∃ (v0 : (c : Dev Cert.DownWgradIdeal.nD) → Buf (Elt Ideal) ((c.tc : Thread Cert.DownWgradIdeal.nD Cert.DownWgradIdeal.τ).loc Cert.DownWgradIdeal.main_v0)),
      θ_run (Cert.DownWgradIdeal.defs (F := Ideal)) (onTc (τ := Cert.DownWgradIdeal.τ) (Cert.DownWgradIdeal.main (F := Ideal))) ⟨m, fun _ => 0, g⟩ (fun r => ∀ c : Dev Cert.DownWgradIdeal.nD,
          r.2.mem ((c.tc : Thread Cert.DownWgradIdeal.nD Cert.DownWgradIdeal.τ).loc Cert.DownWgradIdeal.main_v0) = v0 c
          ∧ r.2.mem ((c.tc : Thread Cert.DownWgradIdeal.nD Cert.DownWgradIdeal.τ).loc Cert.DownWgradIdeal.main_arg0) = m ((c.tc : Thread Cert.DownWgradIdeal.nD Cert.DownWgradIdeal.τ).loc Cert.DownWgradIdeal.main_arg0)
          ∧ r.2.mem ((c.tc : Thread Cert.DownWgradIdeal.nD Cert.DownWgradIdeal.τ).loc Cert.DownWgradIdeal.main_arg1) = m ((c.tc : Thread Cert.DownWgradIdeal.nD Cert.DownWgradIdeal.τ).loc Cert.DownWgradIdeal.main_arg1))
      ∧ θ_run (Cert.DownWgradReferenceIdeal.defs (F := Ideal)) (onTc (τ := Cert.DownWgradReferenceIdeal.τ) (Cert.DownWgradReferenceIdeal.main (F := Ideal))) ⟨m', fun _ => 0, g'⟩ (fun r => ∀ c : Dev Cert.DownWgradReferenceIdeal.nD,
          r.2.mem ((c.tc : Thread Cert.DownWgradReferenceIdeal.nD Cert.DownWgradReferenceIdeal.τ).loc Cert.DownWgradReferenceIdeal.main_v5) = v0 c
          ∧ r.2.mem ((c.tc : Thread Cert.DownWgradReferenceIdeal.nD Cert.DownWgradReferenceIdeal.τ).loc Cert.DownWgradReferenceIdeal.main_arg0) = m' ((c.tc : Thread Cert.DownWgradReferenceIdeal.nD Cert.DownWgradReferenceIdeal.τ).loc Cert.DownWgradReferenceIdeal.main_arg0)
          ∧ r.2.mem ((c.tc : Thread Cert.DownWgradReferenceIdeal.nD Cert.DownWgradReferenceIdeal.τ).loc Cert.DownWgradReferenceIdeal.main_arg1) = m' ((c.tc : Thread Cert.DownWgradReferenceIdeal.nD Cert.DownWgradReferenceIdeal.τ).loc Cert.DownWgradReferenceIdeal.main_arg1))

def preserves_UpProj_UpProjIdeal : Prop :=
  True

def algebraic_UpProjIdeal_UpProjReferenceIdeal [hUpProjIdeal : Cert.UpProjIdeal.Facts] [hUpProjReferenceIdeal : Cert.UpProjReferenceIdeal.Facts] : Prop :=
  ∀ (m : (ℓ : Loc Cert.UpProjIdeal.nD Cert.UpProjIdeal.τ Cert.UpProjIdeal.sig) → Buf (Elt Ideal) ℓ) (g : Dev Cert.UpProjIdeal.nD → PrngReg)
    (m' : (ℓ : Loc Cert.UpProjReferenceIdeal.nD Cert.UpProjReferenceIdeal.τ Cert.UpProjReferenceIdeal.sig) → Buf (Elt Ideal) ℓ) (g' : Dev Cert.UpProjReferenceIdeal.nD → PrngReg), Pre_UpProjIdeal m →
    (∀ c : Dev Cert.UpProjIdeal.nD,
      m' ((c.tc : Thread Cert.UpProjReferenceIdeal.nD Cert.UpProjReferenceIdeal.τ).loc Cert.UpProjReferenceIdeal.main_arg0) = m ((c.tc : Thread Cert.UpProjIdeal.nD Cert.UpProjIdeal.τ).loc Cert.UpProjIdeal.main_arg0)
      ∧ m' ((c.tc : Thread Cert.UpProjReferenceIdeal.nD Cert.UpProjReferenceIdeal.τ).loc Cert.UpProjReferenceIdeal.main_arg1) = m ((c.tc : Thread Cert.UpProjIdeal.nD Cert.UpProjIdeal.τ).loc Cert.UpProjIdeal.main_arg1)
      ∧ m' ((c.tc : Thread Cert.UpProjReferenceIdeal.nD Cert.UpProjReferenceIdeal.τ).loc Cert.UpProjReferenceIdeal.main_arg2) = m ((c.tc : Thread Cert.UpProjIdeal.nD Cert.UpProjIdeal.τ).loc Cert.UpProjIdeal.main_arg2)) →
    ∃ (v0 : (c : Dev Cert.UpProjIdeal.nD) → Buf (Elt Ideal) ((c.tc : Thread Cert.UpProjIdeal.nD Cert.UpProjIdeal.τ).loc Cert.UpProjIdeal.main_v0)),
      θ_run (Cert.UpProjIdeal.defs (F := Ideal)) (onTc (τ := Cert.UpProjIdeal.τ) (Cert.UpProjIdeal.main (F := Ideal))) ⟨m, fun _ => 0, g⟩ (fun r => ∀ c : Dev Cert.UpProjIdeal.nD,
          r.2.mem ((c.tc : Thread Cert.UpProjIdeal.nD Cert.UpProjIdeal.τ).loc Cert.UpProjIdeal.main_v0) = v0 c
          ∧ r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
          ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1)
          ∧ r.2.mem ((c.tc : Thread Cert.UpProjIdeal.nD Cert.UpProjIdeal.τ).loc Cert.UpProjIdeal.main_arg2) = m ((c.tc : Thread Cert.UpProjIdeal.nD Cert.UpProjIdeal.τ).loc Cert.UpProjIdeal.main_arg2))
      ∧ θ_run (Cert.UpProjReferenceIdeal.defs (F := Ideal)) (onTc (τ := Cert.UpProjReferenceIdeal.τ) (Cert.UpProjReferenceIdeal.main (F := Ideal))) ⟨m', fun _ => 0, g'⟩ (fun r => ∀ c : Dev Cert.UpProjReferenceIdeal.nD,
          r.2.mem ((c.tc : Thread Cert.UpProjReferenceIdeal.nD Cert.UpProjReferenceIdeal.τ).loc Cert.UpProjReferenceIdeal.main_v15) = v0 c
          ∧ r.2.mem ((c.tc : Thread Cert.UpProjReferenceIdeal.nD Cert.UpProjReferenceIdeal.τ).loc Cert.UpProjReferenceIdeal.main_arg0) = m' ((c.tc : Thread Cert.UpProjReferenceIdeal.nD Cert.UpProjReferenceIdeal.τ).loc Cert.UpProjReferenceIdeal.main_arg0)
          ∧ r.2.mem ((c.tc : Thread Cert.UpProjReferenceIdeal.nD Cert.UpProjReferenceIdeal.τ).loc Cert.UpProjReferenceIdeal.main_arg1) = m' ((c.tc : Thread Cert.UpProjReferenceIdeal.nD Cert.UpProjReferenceIdeal.τ).loc Cert.UpProjReferenceIdeal.main_arg1)
          ∧ r.2.mem ((c.tc : Thread Cert.UpProjReferenceIdeal.nD Cert.UpProjReferenceIdeal.τ).loc Cert.UpProjReferenceIdeal.main_arg2) = m' ((c.tc : Thread Cert.UpProjReferenceIdeal.nD Cert.UpProjReferenceIdeal.τ).loc Cert.UpProjReferenceIdeal.main_arg2))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v13) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_QkvWgrad_QkvWgradIdeal : Prop :=
  True

def algebraic_QkvWgradIdeal_QkvWgradReferenceIdeal [hQkvWgradIdeal : Cert.QkvWgradIdeal.Facts] [hQkvWgradReferenceIdeal : Cert.QkvWgradReferenceIdeal.Facts] : Prop :=
  ∀ (m : (ℓ : Loc Cert.QkvWgradIdeal.nD Cert.QkvWgradIdeal.τ Cert.QkvWgradIdeal.sig) → Buf (Elt Ideal) ℓ) (g : Dev Cert.QkvWgradIdeal.nD → PrngReg)
    (m' : (ℓ : Loc Cert.QkvWgradReferenceIdeal.nD Cert.QkvWgradReferenceIdeal.τ Cert.QkvWgradReferenceIdeal.sig) → Buf (Elt Ideal) ℓ) (g' : Dev Cert.QkvWgradReferenceIdeal.nD → PrngReg), Pre_QkvWgradIdeal m →
    (∀ c : Dev Cert.QkvWgradIdeal.nD,
      m' ((c.tc : Thread Cert.QkvWgradReferenceIdeal.nD Cert.QkvWgradReferenceIdeal.τ).loc Cert.QkvWgradReferenceIdeal.main_arg0) = m ((c.tc : Thread Cert.QkvWgradIdeal.nD Cert.QkvWgradIdeal.τ).loc Cert.QkvWgradIdeal.main_arg0)
      ∧ m' ((c.tc : Thread Cert.QkvWgradReferenceIdeal.nD Cert.QkvWgradReferenceIdeal.τ).loc Cert.QkvWgradReferenceIdeal.main_arg1) = m ((c.tc : Thread Cert.QkvWgradIdeal.nD Cert.QkvWgradIdeal.τ).loc Cert.QkvWgradIdeal.main_arg1)
      ∧ m' ((c.tc : Thread Cert.QkvWgradReferenceIdeal.nD Cert.QkvWgradReferenceIdeal.τ).loc Cert.QkvWgradReferenceIdeal.main_arg2) = m ((c.tc : Thread Cert.QkvWgradIdeal.nD Cert.QkvWgradIdeal.τ).loc Cert.QkvWgradIdeal.main_arg2)) →
    ∃ (v0 : (c : Dev Cert.QkvWgradIdeal.nD) → Buf (Elt Ideal) ((c.tc : Thread Cert.QkvWgradIdeal.nD Cert.QkvWgradIdeal.τ).loc Cert.QkvWgradIdeal.main_v0)),
      θ_run (Cert.QkvWgradIdeal.defs (F := Ideal)) (onTc (τ := Cert.QkvWgradIdeal.τ) (Cert.QkvWgradIdeal.main (F := Ideal))) ⟨m, fun _ => 0, g⟩ (fun r => ∀ c : Dev Cert.QkvWgradIdeal.nD,
          r.2.mem ((c.tc : Thread Cert.QkvWgradIdeal.nD Cert.QkvWgradIdeal.τ).loc Cert.QkvWgradIdeal.main_v0) = v0 c
          ∧ r.2.mem ((c.tc : Thread Cert.QkvWgradIdeal.nD Cert.QkvWgradIdeal.τ).loc Cert.QkvWgradIdeal.main_arg0) = m ((c.tc : Thread Cert.QkvWgradIdeal.nD Cert.QkvWgradIdeal.τ).loc Cert.QkvWgradIdeal.main_arg0)
          ∧ r.2.mem ((c.tc : Thread Cert.QkvWgradIdeal.nD Cert.QkvWgradIdeal.τ).loc Cert.QkvWgradIdeal.main_arg1) = m ((c.tc : Thread Cert.QkvWgradIdeal.nD Cert.QkvWgradIdeal.τ).loc Cert.QkvWgradIdeal.main_arg1)
          ∧ r.2.mem ((c.tc : Thread Cert.QkvWgradIdeal.nD Cert.QkvWgradIdeal.τ).loc Cert.QkvWgradIdeal.main_arg2) = m ((c.tc : Thread Cert.QkvWgradIdeal.nD Cert.QkvWgradIdeal.τ).loc Cert.QkvWgradIdeal.main_arg2))
      ∧ θ_run (Cert.QkvWgradReferenceIdeal.defs (F := Ideal)) (onTc (τ := Cert.QkvWgradReferenceIdeal.τ) (Cert.QkvWgradReferenceIdeal.main (F := Ideal))) ⟨m', fun _ => 0, g'⟩ (fun r => ∀ c : Dev Cert.QkvWgradReferenceIdeal.nD,
          r.2.mem ((c.tc : Thread Cert.QkvWgradReferenceIdeal.nD Cert.QkvWgradReferenceIdeal.τ).loc Cert.QkvWgradReferenceIdeal.main_v16) = v0 c
          ∧ r.2.mem ((c.tc : Thread Cert.QkvWgradReferenceIdeal.nD Cert.QkvWgradReferenceIdeal.τ).loc Cert.QkvWgradReferenceIdeal.main_arg0) = m' ((c.tc : Thread Cert.QkvWgradReferenceIdeal.nD Cert.QkvWgradReferenceIdeal.τ).loc Cert.QkvWgradReferenceIdeal.main_arg0)
          ∧ r.2.mem ((c.tc : Thread Cert.QkvWgradReferenceIdeal.nD Cert.QkvWgradReferenceIdeal.τ).loc Cert.QkvWgradReferenceIdeal.main_arg1) = m' ((c.tc : Thread Cert.QkvWgradReferenceIdeal.nD Cert.QkvWgradReferenceIdeal.τ).loc Cert.QkvWgradReferenceIdeal.main_arg1)
          ∧ r.2.mem ((c.tc : Thread Cert.QkvWgradReferenceIdeal.nD Cert.QkvWgradReferenceIdeal.τ).loc Cert.QkvWgradReferenceIdeal.main_arg2) = m' ((c.tc : Thread Cert.QkvWgradReferenceIdeal.nD Cert.QkvWgradReferenceIdeal.τ).loc Cert.QkvWgradReferenceIdeal.main_arg2))

def preserves_QWgrad_QWgradIdeal : Prop :=
  True

def algebraic_QWgradIdeal_QWgradReferenceIdeal [hQWgradIdeal : Cert.QWgradIdeal.Facts] [hQWgradReferenceIdeal : Cert.QWgradReferenceIdeal.Facts] : Prop :=
  ∀ (m : (ℓ : Loc Cert.QWgradIdeal.nD Cert.QWgradIdeal.τ Cert.QWgradIdeal.sig) → Buf (Elt Ideal) ℓ) (g : Dev Cert.QWgradIdeal.nD → PrngReg)
    (m' : (ℓ : Loc Cert.QWgradReferenceIdeal.nD Cert.QWgradReferenceIdeal.τ Cert.QWgradReferenceIdeal.sig) → Buf (Elt Ideal) ℓ) (g' : Dev Cert.QWgradReferenceIdeal.nD → PrngReg), Pre_QWgradIdeal m →
    (∀ c : Dev Cert.QWgradIdeal.nD,
      m' ((c.tc : Thread Cert.QWgradReferenceIdeal.nD Cert.QWgradReferenceIdeal.τ).loc Cert.QWgradReferenceIdeal.main_arg0) = m ((c.tc : Thread Cert.QWgradIdeal.nD Cert.QWgradIdeal.τ).loc Cert.QWgradIdeal.main_arg0)
      ∧ m' ((c.tc : Thread Cert.QWgradReferenceIdeal.nD Cert.QWgradReferenceIdeal.τ).loc Cert.QWgradReferenceIdeal.main_arg1) = m ((c.tc : Thread Cert.QWgradIdeal.nD Cert.QWgradIdeal.τ).loc Cert.QWgradIdeal.main_arg1)
      ∧ m' ((c.tc : Thread Cert.QWgradReferenceIdeal.nD Cert.QWgradReferenceIdeal.τ).loc Cert.QWgradReferenceIdeal.main_arg2) = m ((c.tc : Thread Cert.QWgradIdeal.nD Cert.QWgradIdeal.τ).loc Cert.QWgradIdeal.main_arg2)) →
    ∃ (v0 : (c : Dev Cert.QWgradIdeal.nD) → Buf (Elt Ideal) ((c.tc : Thread Cert.QWgradIdeal.nD Cert.QWgradIdeal.τ).loc Cert.QWgradIdeal.main_v0)),
      θ_run (Cert.QWgradIdeal.defs (F := Ideal)) (onTc (τ := Cert.QWgradIdeal.τ) (Cert.QWgradIdeal.main (F := Ideal))) ⟨m, fun _ => 0, g⟩ (fun r => ∀ c : Dev Cert.QWgradIdeal.nD,
          r.2.mem ((c.tc : Thread Cert.QWgradIdeal.nD Cert.QWgradIdeal.τ).loc Cert.QWgradIdeal.main_v0) = v0 c
          ∧ r.2.mem ((c.tc : Thread Cert.QWgradIdeal.nD Cert.QWgradIdeal.τ).loc Cert.QWgradIdeal.main_arg0) = m ((c.tc : Thread Cert.QWgradIdeal.nD Cert.QWgradIdeal.τ).loc Cert.QWgradIdeal.main_arg0)
          ∧ r.2.mem ((c.tc : Thread Cert.QWgradIdeal.nD Cert.QWgradIdeal.τ).loc Cert.QWgradIdeal.main_arg1) = m ((c.tc : Thread Cert.QWgradIdeal.nD Cert.QWgradIdeal.τ).loc Cert.QWgradIdeal.main_arg1)
          ∧ r.2.mem ((c.tc : Thread Cert.QWgradIdeal.nD Cert.QWgradIdeal.τ).loc Cert.QWgradIdeal.main_arg2) = m ((c.tc : Thread Cert.QWgradIdeal.nD Cert.QWgradIdeal.τ).loc Cert.QWgradIdeal.main_arg2))
      ∧ θ_run (Cert.QWgradReferenceIdeal.defs (F := Ideal)) (onTc (τ := Cert.QWgradReferenceIdeal.τ) (Cert.QWgradReferenceIdeal.main (F := Ideal))) ⟨m', fun _ => 0, g'⟩ (fun r => ∀ c : Dev Cert.QWgradReferenceIdeal.nD,
          r.2.mem ((c.tc : Thread Cert.QWgradReferenceIdeal.nD Cert.QWgradReferenceIdeal.τ).loc Cert.QWgradReferenceIdeal.main_v16) = v0 c
          ∧ r.2.mem ((c.tc : Thread Cert.QWgradReferenceIdeal.nD Cert.QWgradReferenceIdeal.τ).loc Cert.QWgradReferenceIdeal.main_arg0) = m' ((c.tc : Thread Cert.QWgradReferenceIdeal.nD Cert.QWgradReferenceIdeal.τ).loc Cert.QWgradReferenceIdeal.main_arg0)
          ∧ r.2.mem ((c.tc : Thread Cert.QWgradReferenceIdeal.nD Cert.QWgradReferenceIdeal.τ).loc Cert.QWgradReferenceIdeal.main_arg1) = m' ((c.tc : Thread Cert.QWgradReferenceIdeal.nD Cert.QWgradReferenceIdeal.τ).loc Cert.QWgradReferenceIdeal.main_arg1)
          ∧ r.2.mem ((c.tc : Thread Cert.QWgradReferenceIdeal.nD Cert.QWgradReferenceIdeal.τ).loc Cert.QWgradReferenceIdeal.main_arg2) = m' ((c.tc : Thread Cert.QWgradReferenceIdeal.nD Cert.QWgradReferenceIdeal.τ).loc Cert.QWgradReferenceIdeal.main_arg2))

def preserves_KvWgrad_KvWgradIdeal : Prop :=
  True

def algebraic_KvWgradIdeal_KvWgradReferenceIdeal [hKvWgradIdeal : Cert.KvWgradIdeal.Facts] [hKvWgradReferenceIdeal : Cert.KvWgradReferenceIdeal.Facts] : Prop :=
  ∀ (m : (ℓ : Loc Cert.KvWgradIdeal.nD Cert.KvWgradIdeal.τ Cert.KvWgradIdeal.sig) → Buf (Elt Ideal) ℓ) (g : Dev Cert.KvWgradIdeal.nD → PrngReg)
    (m' : (ℓ : Loc Cert.KvWgradReferenceIdeal.nD Cert.KvWgradReferenceIdeal.τ Cert.KvWgradReferenceIdeal.sig) → Buf (Elt Ideal) ℓ) (g' : Dev Cert.KvWgradReferenceIdeal.nD → PrngReg), Pre_KvWgradIdeal m →
    (∀ c : Dev Cert.KvWgradIdeal.nD,
      m' ((c.tc : Thread Cert.KvWgradReferenceIdeal.nD Cert.KvWgradReferenceIdeal.τ).loc Cert.KvWgradReferenceIdeal.main_arg0) = m ((c.tc : Thread Cert.KvWgradIdeal.nD Cert.KvWgradIdeal.τ).loc Cert.KvWgradIdeal.main_arg0)
      ∧ m' ((c.tc : Thread Cert.KvWgradReferenceIdeal.nD Cert.KvWgradReferenceIdeal.τ).loc Cert.KvWgradReferenceIdeal.main_arg1) = m ((c.tc : Thread Cert.KvWgradIdeal.nD Cert.KvWgradIdeal.τ).loc Cert.KvWgradIdeal.main_arg1)
      ∧ m' ((c.tc : Thread Cert.KvWgradReferenceIdeal.nD Cert.KvWgradReferenceIdeal.τ).loc Cert.KvWgradReferenceIdeal.main_arg2) = m ((c.tc : Thread Cert.KvWgradIdeal.nD Cert.KvWgradIdeal.τ).loc Cert.KvWgradIdeal.main_arg2)) →
    ∃ (v0 : (c : Dev Cert.KvWgradIdeal.nD) → Buf (Elt Ideal) ((c.tc : Thread Cert.KvWgradIdeal.nD Cert.KvWgradIdeal.τ).loc Cert.KvWgradIdeal.main_v0)),
      θ_run (Cert.KvWgradIdeal.defs (F := Ideal)) (onTc (τ := Cert.KvWgradIdeal.τ) (Cert.KvWgradIdeal.main (F := Ideal))) ⟨m, fun _ => 0, g⟩ (fun r => ∀ c : Dev Cert.KvWgradIdeal.nD,
          r.2.mem ((c.tc : Thread Cert.KvWgradIdeal.nD Cert.KvWgradIdeal.τ).loc Cert.KvWgradIdeal.main_v0) = v0 c
          ∧ r.2.mem ((c.tc : Thread Cert.KvWgradIdeal.nD Cert.KvWgradIdeal.τ).loc Cert.KvWgradIdeal.main_arg0) = m ((c.tc : Thread Cert.KvWgradIdeal.nD Cert.KvWgradIdeal.τ).loc Cert.KvWgradIdeal.main_arg0)
          ∧ r.2.mem ((c.tc : Thread Cert.KvWgradIdeal.nD Cert.KvWgradIdeal.τ).loc Cert.KvWgradIdeal.main_arg1) = m ((c.tc : Thread Cert.KvWgradIdeal.nD Cert.KvWgradIdeal.τ).loc Cert.KvWgradIdeal.main_arg1)
          ∧ r.2.mem ((c.tc : Thread Cert.KvWgradIdeal.nD Cert.KvWgradIdeal.τ).loc Cert.KvWgradIdeal.main_arg2) = m ((c.tc : Thread Cert.KvWgradIdeal.nD Cert.KvWgradIdeal.τ).loc Cert.KvWgradIdeal.main_arg2))
      ∧ θ_run (Cert.KvWgradReferenceIdeal.defs (F := Ideal)) (onTc (τ := Cert.KvWgradReferenceIdeal.τ) (Cert.KvWgradReferenceIdeal.main (F := Ideal))) ⟨m', fun _ => 0, g'⟩ (fun r => ∀ c : Dev Cert.KvWgradReferenceIdeal.nD,
          r.2.mem ((c.tc : Thread Cert.KvWgradReferenceIdeal.nD Cert.KvWgradReferenceIdeal.τ).loc Cert.KvWgradReferenceIdeal.main_v18) = v0 c
          ∧ r.2.mem ((c.tc : Thread Cert.KvWgradReferenceIdeal.nD Cert.KvWgradReferenceIdeal.τ).loc Cert.KvWgradReferenceIdeal.main_arg0) = m' ((c.tc : Thread Cert.KvWgradReferenceIdeal.nD Cert.KvWgradReferenceIdeal.τ).loc Cert.KvWgradReferenceIdeal.main_arg0)
          ∧ r.2.mem ((c.tc : Thread Cert.KvWgradReferenceIdeal.nD Cert.KvWgradReferenceIdeal.τ).loc Cert.KvWgradReferenceIdeal.main_arg1) = m' ((c.tc : Thread Cert.KvWgradReferenceIdeal.nD Cert.KvWgradReferenceIdeal.τ).loc Cert.KvWgradReferenceIdeal.main_arg1)
          ∧ r.2.mem ((c.tc : Thread Cert.KvWgradReferenceIdeal.nD Cert.KvWgradReferenceIdeal.τ).loc Cert.KvWgradReferenceIdeal.main_arg2) = m' ((c.tc : Thread Cert.KvWgradReferenceIdeal.nD Cert.KvWgradReferenceIdeal.τ).loc Cert.KvWgradReferenceIdeal.main_arg2))

def preserves_AOutWgrad_AOutWgradIdeal : Prop :=
  True

def algebraic_AOutWgradIdeal_AOutWgradReferenceIdeal [hAOutWgradIdeal : Cert.AOutWgradIdeal.Facts] [hAOutWgradReferenceIdeal : Cert.AOutWgradReferenceIdeal.Facts] : Prop :=
  ∀ (m : (ℓ : Loc Cert.AOutWgradIdeal.nD Cert.AOutWgradIdeal.τ Cert.AOutWgradIdeal.sig) → Buf (Elt Ideal) ℓ) (g : Dev Cert.AOutWgradIdeal.nD → PrngReg)
    (m' : (ℓ : Loc Cert.AOutWgradReferenceIdeal.nD Cert.AOutWgradReferenceIdeal.τ Cert.AOutWgradReferenceIdeal.sig) → Buf (Elt Ideal) ℓ) (g' : Dev Cert.AOutWgradReferenceIdeal.nD → PrngReg), Pre_AOutWgradIdeal m →
    (∀ c : Dev Cert.AOutWgradIdeal.nD,
      m' ((c.tc : Thread Cert.AOutWgradReferenceIdeal.nD Cert.AOutWgradReferenceIdeal.τ).loc Cert.AOutWgradReferenceIdeal.main_arg0) = m ((c.tc : Thread Cert.AOutWgradIdeal.nD Cert.AOutWgradIdeal.τ).loc Cert.AOutWgradIdeal.main_arg0)
      ∧ m' ((c.tc : Thread Cert.AOutWgradReferenceIdeal.nD Cert.AOutWgradReferenceIdeal.τ).loc Cert.AOutWgradReferenceIdeal.main_arg1) = m ((c.tc : Thread Cert.AOutWgradIdeal.nD Cert.AOutWgradIdeal.τ).loc Cert.AOutWgradIdeal.main_arg1)) →
    ∃ (v0 : (c : Dev Cert.AOutWgradIdeal.nD) → Buf (Elt Ideal) ((c.tc : Thread Cert.AOutWgradIdeal.nD Cert.AOutWgradIdeal.τ).loc Cert.AOutWgradIdeal.main_v0)),
      θ_run (Cert.AOutWgradIdeal.defs (F := Ideal)) (onTc (τ := Cert.AOutWgradIdeal.τ) (Cert.AOutWgradIdeal.main (F := Ideal))) ⟨m, fun _ => 0, g⟩ (fun r => ∀ c : Dev Cert.AOutWgradIdeal.nD,
          r.2.mem ((c.tc : Thread Cert.AOutWgradIdeal.nD Cert.AOutWgradIdeal.τ).loc Cert.AOutWgradIdeal.main_v0) = v0 c
          ∧ r.2.mem ((c.tc : Thread Cert.AOutWgradIdeal.nD Cert.AOutWgradIdeal.τ).loc Cert.AOutWgradIdeal.main_arg0) = m ((c.tc : Thread Cert.AOutWgradIdeal.nD Cert.AOutWgradIdeal.τ).loc Cert.AOutWgradIdeal.main_arg0)
          ∧ r.2.mem ((c.tc : Thread Cert.AOutWgradIdeal.nD Cert.AOutWgradIdeal.τ).loc Cert.AOutWgradIdeal.main_arg1) = m ((c.tc : Thread Cert.AOutWgradIdeal.nD Cert.AOutWgradIdeal.τ).loc Cert.AOutWgradIdeal.main_arg1))
      ∧ θ_run (Cert.AOutWgradReferenceIdeal.defs (F := Ideal)) (onTc (τ := Cert.AOutWgradReferenceIdeal.τ) (Cert.AOutWgradReferenceIdeal.main (F := Ideal))) ⟨m', fun _ => 0, g'⟩ (fun r => ∀ c : Dev Cert.AOutWgradReferenceIdeal.nD,
          r.2.mem ((c.tc : Thread Cert.AOutWgradReferenceIdeal.nD Cert.AOutWgradReferenceIdeal.τ).loc Cert.AOutWgradReferenceIdeal.main_v5) = v0 c
          ∧ r.2.mem ((c.tc : Thread Cert.AOutWgradReferenceIdeal.nD Cert.AOutWgradReferenceIdeal.τ).loc Cert.AOutWgradReferenceIdeal.main_arg0) = m' ((c.tc : Thread Cert.AOutWgradReferenceIdeal.nD Cert.AOutWgradReferenceIdeal.τ).loc Cert.AOutWgradReferenceIdeal.main_arg0)
          ∧ r.2.mem ((c.tc : Thread Cert.AOutWgradReferenceIdeal.nD Cert.AOutWgradReferenceIdeal.τ).loc Cert.AOutWgradReferenceIdeal.main_arg1) = m' ((c.tc : Thread Cert.AOutWgradReferenceIdeal.nD Cert.AOutWgradReferenceIdeal.τ).loc Cert.AOutWgradReferenceIdeal.main_arg1))

def preserves_BOutWgrad_BOutWgradIdeal : Prop :=
  True

def algebraic_BOutWgradIdeal_BOutWgradReferenceIdeal [hBOutWgradIdeal : Cert.BOutWgradIdeal.Facts] [hBOutWgradReferenceIdeal : Cert.BOutWgradReferenceIdeal.Facts] : Prop :=
  ∀ (m : (ℓ : Loc Cert.BOutWgradIdeal.nD Cert.BOutWgradIdeal.τ Cert.BOutWgradIdeal.sig) → Buf (Elt Ideal) ℓ) (g : Dev Cert.BOutWgradIdeal.nD → PrngReg)
    (m' : (ℓ : Loc Cert.BOutWgradReferenceIdeal.nD Cert.BOutWgradReferenceIdeal.τ Cert.BOutWgradReferenceIdeal.sig) → Buf (Elt Ideal) ℓ) (g' : Dev Cert.BOutWgradReferenceIdeal.nD → PrngReg), Pre_BOutWgradIdeal m →
    (∀ c : Dev Cert.BOutWgradIdeal.nD,
      m' ((c.tc : Thread Cert.BOutWgradReferenceIdeal.nD Cert.BOutWgradReferenceIdeal.τ).loc Cert.BOutWgradReferenceIdeal.main_arg0) = m ((c.tc : Thread Cert.BOutWgradIdeal.nD Cert.BOutWgradIdeal.τ).loc Cert.BOutWgradIdeal.main_arg0)
      ∧ m' ((c.tc : Thread Cert.BOutWgradReferenceIdeal.nD Cert.BOutWgradReferenceIdeal.τ).loc Cert.BOutWgradReferenceIdeal.main_arg1) = m ((c.tc : Thread Cert.BOutWgradIdeal.nD Cert.BOutWgradIdeal.τ).loc Cert.BOutWgradIdeal.main_arg1)) →
    ∃ (v0 : (c : Dev Cert.BOutWgradIdeal.nD) → Buf (Elt Ideal) ((c.tc : Thread Cert.BOutWgradIdeal.nD Cert.BOutWgradIdeal.τ).loc Cert.BOutWgradIdeal.main_v0)),
      θ_run (Cert.BOutWgradIdeal.defs (F := Ideal)) (onTc (τ := Cert.BOutWgradIdeal.τ) (Cert.BOutWgradIdeal.main (F := Ideal))) ⟨m, fun _ => 0, g⟩ (fun r => ∀ c : Dev Cert.BOutWgradIdeal.nD,
          r.2.mem ((c.tc : Thread Cert.BOutWgradIdeal.nD Cert.BOutWgradIdeal.τ).loc Cert.BOutWgradIdeal.main_v0) = v0 c
          ∧ r.2.mem ((c.tc : Thread Cert.BOutWgradIdeal.nD Cert.BOutWgradIdeal.τ).loc Cert.BOutWgradIdeal.main_arg0) = m ((c.tc : Thread Cert.BOutWgradIdeal.nD Cert.BOutWgradIdeal.τ).loc Cert.BOutWgradIdeal.main_arg0)
          ∧ r.2.mem ((c.tc : Thread Cert.BOutWgradIdeal.nD Cert.BOutWgradIdeal.τ).loc Cert.BOutWgradIdeal.main_arg1) = m ((c.tc : Thread Cert.BOutWgradIdeal.nD Cert.BOutWgradIdeal.τ).loc Cert.BOutWgradIdeal.main_arg1))
      ∧ θ_run (Cert.BOutWgradReferenceIdeal.defs (F := Ideal)) (onTc (τ := Cert.BOutWgradReferenceIdeal.τ) (Cert.BOutWgradReferenceIdeal.main (F := Ideal))) ⟨m', fun _ => 0, g'⟩ (fun r => ∀ c : Dev Cert.BOutWgradReferenceIdeal.nD,
          r.2.mem ((c.tc : Thread Cert.BOutWgradReferenceIdeal.nD Cert.BOutWgradReferenceIdeal.τ).loc Cert.BOutWgradReferenceIdeal.main_v4) = v0 c
          ∧ r.2.mem ((c.tc : Thread Cert.BOutWgradReferenceIdeal.nD Cert.BOutWgradReferenceIdeal.τ).loc Cert.BOutWgradReferenceIdeal.main_arg0) = m' ((c.tc : Thread Cert.BOutWgradReferenceIdeal.nD Cert.BOutWgradReferenceIdeal.τ).loc Cert.BOutWgradReferenceIdeal.main_arg0)
          ∧ r.2.mem ((c.tc : Thread Cert.BOutWgradReferenceIdeal.nD Cert.BOutWgradReferenceIdeal.τ).loc Cert.BOutWgradReferenceIdeal.main_arg1) = m' ((c.tc : Thread Cert.BOutWgradReferenceIdeal.nD Cert.BOutWgradReferenceIdeal.τ).loc Cert.BOutWgradReferenceIdeal.main_arg1))

def preserves_KvProj_KvProjIdeal : Prop :=
  True

def algebraic_KvProjIdeal_KvProjReferenceIdeal [hKvProjIdeal : Cert.KvProjIdeal.Facts] [hKvProjReferenceIdeal : Cert.KvProjReferenceIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjReferenceIdeal.nD Cert.KvProjReferenceIdeal.τ Cert.KvProjReferenceIdeal.sig) → Buf (Elt Ideal) ℓ) (g' : Dev Cert.KvProjReferenceIdeal.nD → PrngReg), Pre_KvProjIdeal m →
    (∀ c : Dev Cert.KvProjIdeal.nD,
      m' ((c.tc : Thread Cert.KvProjReferenceIdeal.nD Cert.KvProjReferenceIdeal.τ).loc Cert.KvProjReferenceIdeal.main_arg0) = m ((c.tc : Thread Cert.KvProjIdeal.nD Cert.KvProjIdeal.τ).loc Cert.KvProjIdeal.main_arg0)
      ∧ m' ((c.tc : Thread Cert.KvProjReferenceIdeal.nD Cert.KvProjReferenceIdeal.τ).loc Cert.KvProjReferenceIdeal.main_arg1) = m ((c.tc : Thread Cert.KvProjIdeal.nD Cert.KvProjIdeal.τ).loc Cert.KvProjIdeal.main_arg1)
      ∧ m' ((c.tc : Thread Cert.KvProjReferenceIdeal.nD Cert.KvProjReferenceIdeal.τ).loc Cert.KvProjReferenceIdeal.main_arg2) = m ((c.tc : Thread Cert.KvProjIdeal.nD Cert.KvProjIdeal.τ).loc Cert.KvProjIdeal.main_arg2)) →
    ∃ (v0 : (c : Dev Cert.KvProjIdeal.nD) → Buf (Elt Ideal) ((c.tc : Thread Cert.KvProjIdeal.nD Cert.KvProjIdeal.τ).loc Cert.KvProjIdeal.main_v0)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v0) = v0 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
          ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2))
      ∧ θ_run (Cert.KvProjReferenceIdeal.defs (F := Ideal)) (onTc (τ := Cert.KvProjReferenceIdeal.τ) (Cert.KvProjReferenceIdeal.main (F := Ideal))) ⟨m', fun _ => 0, g'⟩ (fun r => ∀ c : Dev Cert.KvProjReferenceIdeal.nD,
          r.2.mem ((c.tc : Thread Cert.KvProjReferenceIdeal.nD Cert.KvProjReferenceIdeal.τ).loc Cert.KvProjReferenceIdeal.main_v14) = v0 c
          ∧ r.2.mem ((c.tc : Thread Cert.KvProjReferenceIdeal.nD Cert.KvProjReferenceIdeal.τ).loc Cert.KvProjReferenceIdeal.main_arg0) = m' ((c.tc : Thread Cert.KvProjReferenceIdeal.nD Cert.KvProjReferenceIdeal.τ).loc Cert.KvProjReferenceIdeal.main_arg0)
          ∧ r.2.mem ((c.tc : Thread Cert.KvProjReferenceIdeal.nD Cert.KvProjReferenceIdeal.τ).loc Cert.KvProjReferenceIdeal.main_arg1) = m' ((c.tc : Thread Cert.KvProjReferenceIdeal.nD Cert.KvProjReferenceIdeal.τ).loc Cert.KvProjReferenceIdeal.main_arg1)
          ∧ r.2.mem ((c.tc : Thread Cert.KvProjReferenceIdeal.nD Cert.KvProjReferenceIdeal.τ).loc Cert.KvProjReferenceIdeal.main_arg2) = m' ((c.tc : Thread Cert.KvProjReferenceIdeal.nD Cert.KvProjReferenceIdeal.τ).loc Cert.KvProjReferenceIdeal.main_arg2))

def preserves_QProj_QProjIdeal : Prop :=
  True

def algebraic_QProjIdeal_QProjReferenceIdeal [hQProjIdeal : Cert.QProjIdeal.Facts] [hQProjReferenceIdeal : Cert.QProjReferenceIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjReferenceIdeal.nD Cert.QProjReferenceIdeal.τ Cert.QProjReferenceIdeal.sig) → Buf (Elt Ideal) ℓ) (g' : Dev Cert.QProjReferenceIdeal.nD → PrngReg), Pre_QProjIdeal m →
    (∀ c : Dev Cert.QProjIdeal.nD,
      m' ((c.tc : Thread Cert.QProjReferenceIdeal.nD Cert.QProjReferenceIdeal.τ).loc Cert.QProjReferenceIdeal.main_arg0) = m ((c.tc : Thread Cert.QProjIdeal.nD Cert.QProjIdeal.τ).loc Cert.QProjIdeal.main_arg0)
      ∧ m' ((c.tc : Thread Cert.QProjReferenceIdeal.nD Cert.QProjReferenceIdeal.τ).loc Cert.QProjReferenceIdeal.main_arg1) = m ((c.tc : Thread Cert.QProjIdeal.nD Cert.QProjIdeal.τ).loc Cert.QProjIdeal.main_arg1)
      ∧ m' ((c.tc : Thread Cert.QProjReferenceIdeal.nD Cert.QProjReferenceIdeal.τ).loc Cert.QProjReferenceIdeal.main_arg2) = m ((c.tc : Thread Cert.QProjIdeal.nD Cert.QProjIdeal.τ).loc Cert.QProjIdeal.main_arg2)) →
    ∃ (v0 : (c : Dev Cert.QProjIdeal.nD) → Buf (Elt Ideal) ((c.tc : Thread Cert.QProjIdeal.nD Cert.QProjIdeal.τ).loc Cert.QProjIdeal.main_v0)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v0) = v0 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
          ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2))
      ∧ θ_run (Cert.QProjReferenceIdeal.defs (F := Ideal)) (onTc (τ := Cert.QProjReferenceIdeal.τ) (Cert.QProjReferenceIdeal.main (F := Ideal))) ⟨m', fun _ => 0, g'⟩ (fun r => ∀ c : Dev Cert.QProjReferenceIdeal.nD,
          r.2.mem ((c.tc : Thread Cert.QProjReferenceIdeal.nD Cert.QProjReferenceIdeal.τ).loc Cert.QProjReferenceIdeal.main_v13) = v0 c
          ∧ r.2.mem ((c.tc : Thread Cert.QProjReferenceIdeal.nD Cert.QProjReferenceIdeal.τ).loc Cert.QProjReferenceIdeal.main_arg0) = m' ((c.tc : Thread Cert.QProjReferenceIdeal.nD Cert.QProjReferenceIdeal.τ).loc Cert.QProjReferenceIdeal.main_arg0)
          ∧ r.2.mem ((c.tc : Thread Cert.QProjReferenceIdeal.nD Cert.QProjReferenceIdeal.τ).loc Cert.QProjReferenceIdeal.main_arg1) = m' ((c.tc : Thread Cert.QProjReferenceIdeal.nD Cert.QProjReferenceIdeal.τ).loc Cert.QProjReferenceIdeal.main_arg1)
          ∧ r.2.mem ((c.tc : Thread Cert.QProjReferenceIdeal.nD Cert.QProjReferenceIdeal.τ).loc Cert.QProjReferenceIdeal.main_arg2) = m' ((c.tc : Thread Cert.QProjReferenceIdeal.nD Cert.QProjReferenceIdeal.τ).loc Cert.QProjReferenceIdeal.main_arg2))

def preserves_BOutProj_BOutProjIdeal : Prop :=
  True

def algebraic_BOutProjIdeal_BOutProjReferenceIdeal [hBOutProjIdeal : Cert.BOutProjIdeal.Facts] [hBOutProjReferenceIdeal : Cert.BOutProjReferenceIdeal.Facts] : Prop :=
  ∀ (m : (ℓ : Loc Cert.BOutProjIdeal.nD Cert.BOutProjIdeal.τ Cert.BOutProjIdeal.sig) → Buf (Elt Ideal) ℓ) (g : Dev Cert.BOutProjIdeal.nD → PrngReg)
    (m' : (ℓ : Loc Cert.BOutProjReferenceIdeal.nD Cert.BOutProjReferenceIdeal.τ Cert.BOutProjReferenceIdeal.sig) → Buf (Elt Ideal) ℓ) (g' : Dev Cert.BOutProjReferenceIdeal.nD → PrngReg), Pre_BOutProjIdeal m →
    (∀ c : Dev Cert.BOutProjIdeal.nD,
      m' ((c.tc : Thread Cert.BOutProjReferenceIdeal.nD Cert.BOutProjReferenceIdeal.τ).loc Cert.BOutProjReferenceIdeal.main_arg0) = m ((c.tc : Thread Cert.BOutProjIdeal.nD Cert.BOutProjIdeal.τ).loc Cert.BOutProjIdeal.main_arg0)
      ∧ m' ((c.tc : Thread Cert.BOutProjReferenceIdeal.nD Cert.BOutProjReferenceIdeal.τ).loc Cert.BOutProjReferenceIdeal.main_arg1) = m ((c.tc : Thread Cert.BOutProjIdeal.nD Cert.BOutProjIdeal.τ).loc Cert.BOutProjIdeal.main_arg1)
      ∧ m' ((c.tc : Thread Cert.BOutProjReferenceIdeal.nD Cert.BOutProjReferenceIdeal.τ).loc Cert.BOutProjReferenceIdeal.main_arg2) = m ((c.tc : Thread Cert.BOutProjIdeal.nD Cert.BOutProjIdeal.τ).loc Cert.BOutProjIdeal.main_arg2)) →
    ∃ (v0 : (c : Dev Cert.BOutProjIdeal.nD) → Buf (Elt Ideal) ((c.tc : Thread Cert.BOutProjIdeal.nD Cert.BOutProjIdeal.τ).loc Cert.BOutProjIdeal.main_v0)),
      θ_run (Cert.BOutProjIdeal.defs (F := Ideal)) (onTc (τ := Cert.BOutProjIdeal.τ) (Cert.BOutProjIdeal.main (F := Ideal))) ⟨m, fun _ => 0, g⟩ (fun r => ∀ c : Dev Cert.BOutProjIdeal.nD,
          r.2.mem ((c.tc : Thread Cert.BOutProjIdeal.nD Cert.BOutProjIdeal.τ).loc Cert.BOutProjIdeal.main_v0) = v0 c
          ∧ r.2.mem ((c.tc : Thread Cert.BOutProjIdeal.nD Cert.BOutProjIdeal.τ).loc Cert.BOutProjIdeal.main_arg0) = m ((c.tc : Thread Cert.BOutProjIdeal.nD Cert.BOutProjIdeal.τ).loc Cert.BOutProjIdeal.main_arg0)
          ∧ r.2.mem ((c.tc : Thread Cert.BOutProjIdeal.nD Cert.BOutProjIdeal.τ).loc Cert.BOutProjIdeal.main_arg1) = m ((c.tc : Thread Cert.BOutProjIdeal.nD Cert.BOutProjIdeal.τ).loc Cert.BOutProjIdeal.main_arg1)
          ∧ r.2.mem ((c.tc : Thread Cert.BOutProjIdeal.nD Cert.BOutProjIdeal.τ).loc Cert.BOutProjIdeal.main_arg2) = m ((c.tc : Thread Cert.BOutProjIdeal.nD Cert.BOutProjIdeal.τ).loc Cert.BOutProjIdeal.main_arg2))
      ∧ θ_run (Cert.BOutProjReferenceIdeal.defs (F := Ideal)) (onTc (τ := Cert.BOutProjReferenceIdeal.τ) (Cert.BOutProjReferenceIdeal.main (F := Ideal))) ⟨m', fun _ => 0, g'⟩ (fun r => ∀ c : Dev Cert.BOutProjReferenceIdeal.nD,
          r.2.mem ((c.tc : Thread Cert.BOutProjReferenceIdeal.nD Cert.BOutProjReferenceIdeal.τ).loc Cert.BOutProjReferenceIdeal.main_v2) = v0 c
          ∧ r.2.mem ((c.tc : Thread Cert.BOutProjReferenceIdeal.nD Cert.BOutProjReferenceIdeal.τ).loc Cert.BOutProjReferenceIdeal.main_arg0) = m' ((c.tc : Thread Cert.BOutProjReferenceIdeal.nD Cert.BOutProjReferenceIdeal.τ).loc Cert.BOutProjReferenceIdeal.main_arg0)
          ∧ r.2.mem ((c.tc : Thread Cert.BOutProjReferenceIdeal.nD Cert.BOutProjReferenceIdeal.τ).loc Cert.BOutProjReferenceIdeal.main_arg1) = m' ((c.tc : Thread Cert.BOutProjReferenceIdeal.nD Cert.BOutProjReferenceIdeal.τ).loc Cert.BOutProjReferenceIdeal.main_arg1)
          ∧ r.2.mem ((c.tc : Thread Cert.BOutProjReferenceIdeal.nD Cert.BOutProjReferenceIdeal.τ).loc Cert.BOutProjReferenceIdeal.main_arg2) = m' ((c.tc : Thread Cert.BOutProjReferenceIdeal.nD Cert.BOutProjReferenceIdeal.τ).loc Cert.BOutProjReferenceIdeal.main_arg2))

def preserves_BOutDx_BOutDxIdeal : Prop :=
  True

def algebraic_BOutDxIdeal_BOutDxReferenceIdeal [hBOutDxIdeal : Cert.BOutDxIdeal.Facts] [hBOutDxReferenceIdeal : Cert.BOutDxReferenceIdeal.Facts] : Prop :=
  ∀ (m : (ℓ : Loc Cert.BOutDxIdeal.nD Cert.BOutDxIdeal.τ Cert.BOutDxIdeal.sig) → Buf (Elt Ideal) ℓ) (g : Dev Cert.BOutDxIdeal.nD → PrngReg)
    (m' : (ℓ : Loc Cert.BOutDxReferenceIdeal.nD Cert.BOutDxReferenceIdeal.τ Cert.BOutDxReferenceIdeal.sig) → Buf (Elt Ideal) ℓ) (g' : Dev Cert.BOutDxReferenceIdeal.nD → PrngReg), Pre_BOutDxIdeal m →
    (∀ c : Dev Cert.BOutDxIdeal.nD,
      m' ((c.tc : Thread Cert.BOutDxReferenceIdeal.nD Cert.BOutDxReferenceIdeal.τ).loc Cert.BOutDxReferenceIdeal.main_arg0) = m ((c.tc : Thread Cert.BOutDxIdeal.nD Cert.BOutDxIdeal.τ).loc Cert.BOutDxIdeal.main_arg0)
      ∧ m' ((c.tc : Thread Cert.BOutDxReferenceIdeal.nD Cert.BOutDxReferenceIdeal.τ).loc Cert.BOutDxReferenceIdeal.main_arg1) = m ((c.tc : Thread Cert.BOutDxIdeal.nD Cert.BOutDxIdeal.τ).loc Cert.BOutDxIdeal.main_arg1)) →
    ∃ (v0 : (c : Dev Cert.BOutDxIdeal.nD) → Buf (Elt Ideal) ((c.tc : Thread Cert.BOutDxIdeal.nD Cert.BOutDxIdeal.τ).loc Cert.BOutDxIdeal.main_v0)),
      θ_run (Cert.BOutDxIdeal.defs (F := Ideal)) (onTc (τ := Cert.BOutDxIdeal.τ) (Cert.BOutDxIdeal.main (F := Ideal))) ⟨m, fun _ => 0, g⟩ (fun r => ∀ c : Dev Cert.BOutDxIdeal.nD,
          r.2.mem ((c.tc : Thread Cert.BOutDxIdeal.nD Cert.BOutDxIdeal.τ).loc Cert.BOutDxIdeal.main_v0) = v0 c
          ∧ r.2.mem ((c.tc : Thread Cert.BOutDxIdeal.nD Cert.BOutDxIdeal.τ).loc Cert.BOutDxIdeal.main_arg0) = m ((c.tc : Thread Cert.BOutDxIdeal.nD Cert.BOutDxIdeal.τ).loc Cert.BOutDxIdeal.main_arg0)
          ∧ r.2.mem ((c.tc : Thread Cert.BOutDxIdeal.nD Cert.BOutDxIdeal.τ).loc Cert.BOutDxIdeal.main_arg1) = m ((c.tc : Thread Cert.BOutDxIdeal.nD Cert.BOutDxIdeal.τ).loc Cert.BOutDxIdeal.main_arg1))
      ∧ θ_run (Cert.BOutDxReferenceIdeal.defs (F := Ideal)) (onTc (τ := Cert.BOutDxReferenceIdeal.τ) (Cert.BOutDxReferenceIdeal.main (F := Ideal))) ⟨m', fun _ => 0, g'⟩ (fun r => ∀ c : Dev Cert.BOutDxReferenceIdeal.nD,
          r.2.mem ((c.tc : Thread Cert.BOutDxReferenceIdeal.nD Cert.BOutDxReferenceIdeal.τ).loc Cert.BOutDxReferenceIdeal.main_v3) = v0 c
          ∧ r.2.mem ((c.tc : Thread Cert.BOutDxReferenceIdeal.nD Cert.BOutDxReferenceIdeal.τ).loc Cert.BOutDxReferenceIdeal.main_arg0) = m' ((c.tc : Thread Cert.BOutDxReferenceIdeal.nD Cert.BOutDxReferenceIdeal.τ).loc Cert.BOutDxReferenceIdeal.main_arg0)
          ∧ r.2.mem ((c.tc : Thread Cert.BOutDxReferenceIdeal.nD Cert.BOutDxReferenceIdeal.τ).loc Cert.BOutDxReferenceIdeal.main_arg1) = m' ((c.tc : Thread Cert.BOutDxReferenceIdeal.nD Cert.BOutDxReferenceIdeal.τ).loc Cert.BOutDxReferenceIdeal.main_arg1))

def preserves_BaWgrad_BaWgradIdeal : Prop :=
  True

def algebraic_BaWgradIdeal_BaWgradReferenceIdeal [hBaWgradIdeal : Cert.BaWgradIdeal.Facts] [hBaWgradReferenceIdeal : Cert.BaWgradReferenceIdeal.Facts] : Prop :=
  ∀ (m : (ℓ : Loc Cert.BaWgradIdeal.nD Cert.BaWgradIdeal.τ Cert.BaWgradIdeal.sig) → Buf (Elt Ideal) ℓ) (g : Dev Cert.BaWgradIdeal.nD → PrngReg)
    (m' : (ℓ : Loc Cert.BaWgradReferenceIdeal.nD Cert.BaWgradReferenceIdeal.τ Cert.BaWgradReferenceIdeal.sig) → Buf (Elt Ideal) ℓ) (g' : Dev Cert.BaWgradReferenceIdeal.nD → PrngReg), Pre_BaWgradIdeal m →
    (∀ c : Dev Cert.BaWgradIdeal.nD,
      m' ((c.tc : Thread Cert.BaWgradReferenceIdeal.nD Cert.BaWgradReferenceIdeal.τ).loc Cert.BaWgradReferenceIdeal.main_arg0) = m ((c.tc : Thread Cert.BaWgradIdeal.nD Cert.BaWgradIdeal.τ).loc Cert.BaWgradIdeal.main_arg0)
      ∧ m' ((c.tc : Thread Cert.BaWgradReferenceIdeal.nD Cert.BaWgradReferenceIdeal.τ).loc Cert.BaWgradReferenceIdeal.main_arg1) = m ((c.tc : Thread Cert.BaWgradIdeal.nD Cert.BaWgradIdeal.τ).loc Cert.BaWgradIdeal.main_arg1)
      ∧ m' ((c.tc : Thread Cert.BaWgradReferenceIdeal.nD Cert.BaWgradReferenceIdeal.τ).loc Cert.BaWgradReferenceIdeal.main_arg2) = m ((c.tc : Thread Cert.BaWgradIdeal.nD Cert.BaWgradIdeal.τ).loc Cert.BaWgradIdeal.main_arg2)) →
    ∃ (v0 : (c : Dev Cert.BaWgradIdeal.nD) → Buf (Elt Ideal) ((c.tc : Thread Cert.BaWgradIdeal.nD Cert.BaWgradIdeal.τ).loc Cert.BaWgradIdeal.main_v0)),
      θ_run (Cert.BaWgradIdeal.defs (F := Ideal)) (onTc (τ := Cert.BaWgradIdeal.τ) (Cert.BaWgradIdeal.main (F := Ideal))) ⟨m, fun _ => 0, g⟩ (fun r => ∀ c : Dev Cert.BaWgradIdeal.nD,
          r.2.mem ((c.tc : Thread Cert.BaWgradIdeal.nD Cert.BaWgradIdeal.τ).loc Cert.BaWgradIdeal.main_v0) = v0 c
          ∧ r.2.mem ((c.tc : Thread Cert.BaWgradIdeal.nD Cert.BaWgradIdeal.τ).loc Cert.BaWgradIdeal.main_arg0) = m ((c.tc : Thread Cert.BaWgradIdeal.nD Cert.BaWgradIdeal.τ).loc Cert.BaWgradIdeal.main_arg0)
          ∧ r.2.mem ((c.tc : Thread Cert.BaWgradIdeal.nD Cert.BaWgradIdeal.τ).loc Cert.BaWgradIdeal.main_arg1) = m ((c.tc : Thread Cert.BaWgradIdeal.nD Cert.BaWgradIdeal.τ).loc Cert.BaWgradIdeal.main_arg1)
          ∧ r.2.mem ((c.tc : Thread Cert.BaWgradIdeal.nD Cert.BaWgradIdeal.τ).loc Cert.BaWgradIdeal.main_arg2) = m ((c.tc : Thread Cert.BaWgradIdeal.nD Cert.BaWgradIdeal.τ).loc Cert.BaWgradIdeal.main_arg2))
      ∧ θ_run (Cert.BaWgradReferenceIdeal.defs (F := Ideal)) (onTc (τ := Cert.BaWgradReferenceIdeal.τ) (Cert.BaWgradReferenceIdeal.main (F := Ideal))) ⟨m', fun _ => 0, g'⟩ (fun r => ∀ c : Dev Cert.BaWgradReferenceIdeal.nD,
          r.2.mem ((c.tc : Thread Cert.BaWgradReferenceIdeal.nD Cert.BaWgradReferenceIdeal.τ).loc Cert.BaWgradReferenceIdeal.main_v16) = v0 c
          ∧ r.2.mem ((c.tc : Thread Cert.BaWgradReferenceIdeal.nD Cert.BaWgradReferenceIdeal.τ).loc Cert.BaWgradReferenceIdeal.main_arg0) = m' ((c.tc : Thread Cert.BaWgradReferenceIdeal.nD Cert.BaWgradReferenceIdeal.τ).loc Cert.BaWgradReferenceIdeal.main_arg0)
          ∧ r.2.mem ((c.tc : Thread Cert.BaWgradReferenceIdeal.nD Cert.BaWgradReferenceIdeal.τ).loc Cert.BaWgradReferenceIdeal.main_arg1) = m' ((c.tc : Thread Cert.BaWgradReferenceIdeal.nD Cert.BaWgradReferenceIdeal.τ).loc Cert.BaWgradReferenceIdeal.main_arg1)
          ∧ r.2.mem ((c.tc : Thread Cert.BaWgradReferenceIdeal.nD Cert.BaWgradReferenceIdeal.τ).loc Cert.BaWgradReferenceIdeal.main_arg2) = m' ((c.tc : Thread Cert.BaWgradReferenceIdeal.nD Cert.BaWgradReferenceIdeal.τ).loc Cert.BaWgradReferenceIdeal.main_arg2))

def preserves_QDx_QDxIdeal : Prop :=
  True

def algebraic_QDxIdeal_QDxReferenceIdeal_pre_q_dx_finite [hQDxIdeal : Cert.QDxIdeal.Facts] [hQDxReferenceIdeal : Cert.QDxReferenceIdeal.Facts] [hPre_q_dx_finite : Cert.Pre_q_dx_finite.Facts] : Prop :=
  ∀ (m : (ℓ : Loc Cert.QDxIdeal.nD Cert.QDxIdeal.τ Cert.QDxIdeal.sig) → Buf (Elt Ideal) ℓ) (g : Dev Cert.QDxIdeal.nD → PrngReg)
    (m' : (ℓ : Loc Cert.QDxReferenceIdeal.nD Cert.QDxReferenceIdeal.τ Cert.QDxReferenceIdeal.sig) → Buf (Elt Ideal) ℓ) (g' : Dev Cert.QDxReferenceIdeal.nD → PrngReg), Pre_QDxIdeal_q_dx_finite m →
    (∀ c : Dev Cert.QDxIdeal.nD,
      m' ((c.tc : Thread Cert.QDxReferenceIdeal.nD Cert.QDxReferenceIdeal.τ).loc Cert.QDxReferenceIdeal.main_arg0) = m ((c.tc : Thread Cert.QDxIdeal.nD Cert.QDxIdeal.τ).loc Cert.QDxIdeal.main_arg0)
      ∧ m' ((c.tc : Thread Cert.QDxReferenceIdeal.nD Cert.QDxReferenceIdeal.τ).loc Cert.QDxReferenceIdeal.main_arg1) = m ((c.tc : Thread Cert.QDxIdeal.nD Cert.QDxIdeal.τ).loc Cert.QDxIdeal.main_arg1)
      ∧ m' ((c.tc : Thread Cert.QDxReferenceIdeal.nD Cert.QDxReferenceIdeal.τ).loc Cert.QDxReferenceIdeal.main_arg2) = m ((c.tc : Thread Cert.QDxIdeal.nD Cert.QDxIdeal.τ).loc Cert.QDxIdeal.main_arg2)
      ∧ m' ((c.tc : Thread Cert.QDxReferenceIdeal.nD Cert.QDxReferenceIdeal.τ).loc Cert.QDxReferenceIdeal.main_arg3) = m ((c.tc : Thread Cert.QDxIdeal.nD Cert.QDxIdeal.τ).loc Cert.QDxIdeal.main_arg3)
      ∧ m' ((c.tc : Thread Cert.QDxReferenceIdeal.nD Cert.QDxReferenceIdeal.τ).loc Cert.QDxReferenceIdeal.main_arg4) = m ((c.tc : Thread Cert.QDxIdeal.nD Cert.QDxIdeal.τ).loc Cert.QDxIdeal.main_arg4)) →
    ∃ (v0 : (c : Dev Cert.QDxIdeal.nD) → Buf (Elt Ideal) ((c.tc : Thread Cert.QDxIdeal.nD Cert.QDxIdeal.τ).loc Cert.QDxIdeal.main_v0_0)) (v1 : (c : Dev Cert.QDxIdeal.nD) → Buf (Elt Ideal) ((c.tc : Thread Cert.QDxIdeal.nD Cert.QDxIdeal.τ).loc Cert.QDxIdeal.main_v0_1)),
      θ_run (Cert.QDxIdeal.defs (F := Ideal)) (onTc (τ := Cert.QDxIdeal.τ) (Cert.QDxIdeal.main (F := Ideal))) ⟨m, fun _ => 0, g⟩ (fun r => ∀ c : Dev Cert.QDxIdeal.nD,
          r.2.mem ((c.tc : Thread Cert.QDxIdeal.nD Cert.QDxIdeal.τ).loc Cert.QDxIdeal.main_v0_0) = v0 c
          ∧ r.2.mem ((c.tc : Thread Cert.QDxIdeal.nD Cert.QDxIdeal.τ).loc Cert.QDxIdeal.main_v0_1) = v1 c
          ∧ r.2.mem ((c.tc : Thread Cert.QDxIdeal.nD Cert.QDxIdeal.τ).loc Cert.QDxIdeal.main_arg0) = m ((c.tc : Thread Cert.QDxIdeal.nD Cert.QDxIdeal.τ).loc Cert.QDxIdeal.main_arg0)
          ∧ r.2.mem ((c.tc : Thread Cert.QDxIdeal.nD Cert.QDxIdeal.τ).loc Cert.QDxIdeal.main_arg1) = m ((c.tc : Thread Cert.QDxIdeal.nD Cert.QDxIdeal.τ).loc Cert.QDxIdeal.main_arg1)
          ∧ r.2.mem ((c.tc : Thread Cert.QDxIdeal.nD Cert.QDxIdeal.τ).loc Cert.QDxIdeal.main_arg2) = m ((c.tc : Thread Cert.QDxIdeal.nD Cert.QDxIdeal.τ).loc Cert.QDxIdeal.main_arg2)
          ∧ r.2.mem ((c.tc : Thread Cert.QDxIdeal.nD Cert.QDxIdeal.τ).loc Cert.QDxIdeal.main_arg3) = m ((c.tc : Thread Cert.QDxIdeal.nD Cert.QDxIdeal.τ).loc Cert.QDxIdeal.main_arg3)
          ∧ r.2.mem ((c.tc : Thread Cert.QDxIdeal.nD Cert.QDxIdeal.τ).loc Cert.QDxIdeal.main_arg4) = m ((c.tc : Thread Cert.QDxIdeal.nD Cert.QDxIdeal.τ).loc Cert.QDxIdeal.main_arg4))
      ∧ θ_run (Cert.QDxReferenceIdeal.defs (F := Ideal)) (onTc (τ := Cert.QDxReferenceIdeal.τ) (Cert.QDxReferenceIdeal.main (F := Ideal))) ⟨m', fun _ => 0, g'⟩ (fun r => ∀ c : Dev Cert.QDxReferenceIdeal.nD,
          r.2.mem ((c.tc : Thread Cert.QDxReferenceIdeal.nD Cert.QDxReferenceIdeal.τ).loc Cert.QDxReferenceIdeal.main_v37) = v0 c
          ∧ r.2.mem ((c.tc : Thread Cert.QDxReferenceIdeal.nD Cert.QDxReferenceIdeal.τ).loc Cert.QDxReferenceIdeal.main_v20) = v1 c
          ∧ r.2.mem ((c.tc : Thread Cert.QDxReferenceIdeal.nD Cert.QDxReferenceIdeal.τ).loc Cert.QDxReferenceIdeal.main_arg0) = m' ((c.tc : Thread Cert.QDxReferenceIdeal.nD Cert.QDxReferenceIdeal.τ).loc Cert.QDxReferenceIdeal.main_arg0)
          ∧ r.2.mem ((c.tc : Thread Cert.QDxReferenceIdeal.nD Cert.QDxReferenceIdeal.τ).loc Cert.QDxReferenceIdeal.main_arg1) = m' ((c.tc : Thread Cert.QDxReferenceIdeal.nD Cert.QDxReferenceIdeal.τ).loc Cert.QDxReferenceIdeal.main_arg1)
          ∧ r.2.mem ((c.tc : Thread Cert.QDxReferenceIdeal.nD Cert.QDxReferenceIdeal.τ).loc Cert.QDxReferenceIdeal.main_arg2) = m' ((c.tc : Thread Cert.QDxReferenceIdeal.nD Cert.QDxReferenceIdeal.τ).loc Cert.QDxReferenceIdeal.main_arg2)
          ∧ r.2.mem ((c.tc : Thread Cert.QDxReferenceIdeal.nD Cert.QDxReferenceIdeal.τ).loc Cert.QDxReferenceIdeal.main_arg3) = m' ((c.tc : Thread Cert.QDxReferenceIdeal.nD Cert.QDxReferenceIdeal.τ).loc Cert.QDxReferenceIdeal.main_arg3)
          ∧ r.2.mem ((c.tc : Thread Cert.QDxReferenceIdeal.nD Cert.QDxReferenceIdeal.τ).loc Cert.QDxReferenceIdeal.main_arg4) = m' ((c.tc : Thread Cert.QDxReferenceIdeal.nD Cert.QDxReferenceIdeal.τ).loc Cert.QDxReferenceIdeal.main_arg4))

def preserves_KvDx_KvDxIdeal : Prop :=
  True

def algebraic_KvDxIdeal_KvDxReferenceIdeal_pre_kv_dx_finite [hKvDxIdeal : Cert.KvDxIdeal.Facts] [hKvDxReferenceIdeal : Cert.KvDxReferenceIdeal.Facts] [hPre_kv_dx_finite : Cert.Pre_kv_dx_finite.Facts] : Prop :=
  ∀ (m : (ℓ : Loc Cert.KvDxIdeal.nD Cert.KvDxIdeal.τ Cert.KvDxIdeal.sig) → Buf (Elt Ideal) ℓ) (g : Dev Cert.KvDxIdeal.nD → PrngReg)
    (m' : (ℓ : Loc Cert.KvDxReferenceIdeal.nD Cert.KvDxReferenceIdeal.τ Cert.KvDxReferenceIdeal.sig) → Buf (Elt Ideal) ℓ) (g' : Dev Cert.KvDxReferenceIdeal.nD → PrngReg), Pre_KvDxIdeal_kv_dx_finite m →
    (∀ c : Dev Cert.KvDxIdeal.nD,
      m' ((c.tc : Thread Cert.KvDxReferenceIdeal.nD Cert.KvDxReferenceIdeal.τ).loc Cert.KvDxReferenceIdeal.main_arg0) = m ((c.tc : Thread Cert.KvDxIdeal.nD Cert.KvDxIdeal.τ).loc Cert.KvDxIdeal.main_arg0)
      ∧ m' ((c.tc : Thread Cert.KvDxReferenceIdeal.nD Cert.KvDxReferenceIdeal.τ).loc Cert.KvDxReferenceIdeal.main_arg1) = m ((c.tc : Thread Cert.KvDxIdeal.nD Cert.KvDxIdeal.τ).loc Cert.KvDxIdeal.main_arg1)
      ∧ m' ((c.tc : Thread Cert.KvDxReferenceIdeal.nD Cert.KvDxReferenceIdeal.τ).loc Cert.KvDxReferenceIdeal.main_arg2) = m ((c.tc : Thread Cert.KvDxIdeal.nD Cert.KvDxIdeal.τ).loc Cert.KvDxIdeal.main_arg2)
      ∧ m' ((c.tc : Thread Cert.KvDxReferenceIdeal.nD Cert.KvDxReferenceIdeal.τ).loc Cert.KvDxReferenceIdeal.main_arg3) = m ((c.tc : Thread Cert.KvDxIdeal.nD Cert.KvDxIdeal.τ).loc Cert.KvDxIdeal.main_arg3)
      ∧ m' ((c.tc : Thread Cert.KvDxReferenceIdeal.nD Cert.KvDxReferenceIdeal.τ).loc Cert.KvDxReferenceIdeal.main_arg4) = m ((c.tc : Thread Cert.KvDxIdeal.nD Cert.KvDxIdeal.τ).loc Cert.KvDxIdeal.main_arg4)
      ∧ m' ((c.tc : Thread Cert.KvDxReferenceIdeal.nD Cert.KvDxReferenceIdeal.τ).loc Cert.KvDxReferenceIdeal.main_arg5) = m ((c.tc : Thread Cert.KvDxIdeal.nD Cert.KvDxIdeal.τ).loc Cert.KvDxIdeal.main_arg5)) →
    ∃ (v0 : (c : Dev Cert.KvDxIdeal.nD) → Buf (Elt Ideal) ((c.tc : Thread Cert.KvDxIdeal.nD Cert.KvDxIdeal.τ).loc Cert.KvDxIdeal.main_v2_0)) (v1 : (c : Dev Cert.KvDxIdeal.nD) → Buf (Elt Ideal) ((c.tc : Thread Cert.KvDxIdeal.nD Cert.KvDxIdeal.τ).loc Cert.KvDxIdeal.main_v2_1)),
      θ_run (Cert.KvDxIdeal.defs (F := Ideal)) (onTc (τ := Cert.KvDxIdeal.τ) (Cert.KvDxIdeal.main (F := Ideal))) ⟨m, fun _ => 0, g⟩ (fun r => ∀ c : Dev Cert.KvDxIdeal.nD,
          r.2.mem ((c.tc : Thread Cert.KvDxIdeal.nD Cert.KvDxIdeal.τ).loc Cert.KvDxIdeal.main_v2_0) = v0 c
          ∧ r.2.mem ((c.tc : Thread Cert.KvDxIdeal.nD Cert.KvDxIdeal.τ).loc Cert.KvDxIdeal.main_v2_1) = v1 c
          ∧ r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
          ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1)
          ∧ r.2.mem ((c.tc : Thread Cert.KvDxIdeal.nD Cert.KvDxIdeal.τ).loc Cert.KvDxIdeal.main_arg2) = m ((c.tc : Thread Cert.KvDxIdeal.nD Cert.KvDxIdeal.τ).loc Cert.KvDxIdeal.main_arg2)
          ∧ r.2.mem ((c.tc : Thread Cert.KvDxIdeal.nD Cert.KvDxIdeal.τ).loc Cert.KvDxIdeal.main_arg3) = m ((c.tc : Thread Cert.KvDxIdeal.nD Cert.KvDxIdeal.τ).loc Cert.KvDxIdeal.main_arg3)
          ∧ r.2.mem ((c.tc : Thread Cert.KvDxIdeal.nD Cert.KvDxIdeal.τ).loc Cert.KvDxIdeal.main_arg4) = m ((c.tc : Thread Cert.KvDxIdeal.nD Cert.KvDxIdeal.τ).loc Cert.KvDxIdeal.main_arg4)
          ∧ r.2.mem ((c.tc : Thread Cert.KvDxIdeal.nD Cert.KvDxIdeal.τ).loc Cert.KvDxIdeal.main_arg5) = m ((c.tc : Thread Cert.KvDxIdeal.nD Cert.KvDxIdeal.τ).loc Cert.KvDxIdeal.main_arg5))
      ∧ θ_run (Cert.KvDxReferenceIdeal.defs (F := Ideal)) (onTc (τ := Cert.KvDxReferenceIdeal.τ) (Cert.KvDxReferenceIdeal.main (F := Ideal))) ⟨m', fun _ => 0, g'⟩ (fun r => ∀ c : Dev Cert.KvDxReferenceIdeal.nD,
          r.2.mem ((c.tc : Thread Cert.KvDxReferenceIdeal.nD Cert.KvDxReferenceIdeal.τ).loc Cert.KvDxReferenceIdeal.main_v44) = v0 c
          ∧ r.2.mem ((c.tc : Thread Cert.KvDxReferenceIdeal.nD Cert.KvDxReferenceIdeal.τ).loc Cert.KvDxReferenceIdeal.main_v27) = v1 c
          ∧ r.2.mem ((c.tc : Thread Cert.KvDxReferenceIdeal.nD Cert.KvDxReferenceIdeal.τ).loc Cert.KvDxReferenceIdeal.main_arg0) = m' ((c.tc : Thread Cert.KvDxReferenceIdeal.nD Cert.KvDxReferenceIdeal.τ).loc Cert.KvDxReferenceIdeal.main_arg0)
          ∧ r.2.mem ((c.tc : Thread Cert.KvDxReferenceIdeal.nD Cert.KvDxReferenceIdeal.τ).loc Cert.KvDxReferenceIdeal.main_arg1) = m' ((c.tc : Thread Cert.KvDxReferenceIdeal.nD Cert.KvDxReferenceIdeal.τ).loc Cert.KvDxReferenceIdeal.main_arg1)
          ∧ r.2.mem ((c.tc : Thread Cert.KvDxReferenceIdeal.nD Cert.KvDxReferenceIdeal.τ).loc Cert.KvDxReferenceIdeal.main_arg2) = m' ((c.tc : Thread Cert.KvDxReferenceIdeal.nD Cert.KvDxReferenceIdeal.τ).loc Cert.KvDxReferenceIdeal.main_arg2)
          ∧ r.2.mem ((c.tc : Thread Cert.KvDxReferenceIdeal.nD Cert.KvDxReferenceIdeal.τ).loc Cert.KvDxReferenceIdeal.main_arg3) = m' ((c.tc : Thread Cert.KvDxReferenceIdeal.nD Cert.KvDxReferenceIdeal.τ).loc Cert.KvDxReferenceIdeal.main_arg3)
          ∧ r.2.mem ((c.tc : Thread Cert.KvDxReferenceIdeal.nD Cert.KvDxReferenceIdeal.τ).loc Cert.KvDxReferenceIdeal.main_arg4) = m' ((c.tc : Thread Cert.KvDxReferenceIdeal.nD Cert.KvDxReferenceIdeal.τ).loc Cert.KvDxReferenceIdeal.main_arg4)
          ∧ r.2.mem ((c.tc : Thread Cert.KvDxReferenceIdeal.nD Cert.KvDxReferenceIdeal.τ).loc Cert.KvDxReferenceIdeal.main_arg5) = m' ((c.tc : Thread Cert.KvDxReferenceIdeal.nD Cert.KvDxReferenceIdeal.τ).loc Cert.KvDxReferenceIdeal.main_arg5))

def preserves_InDx_InDxIdeal : Prop :=
  True

def algebraic_InDxIdeal_InDxReferenceIdeal_pre_in_dx_finite [hInDxIdeal : Cert.InDxIdeal.Facts] [hInDxReferenceIdeal : Cert.InDxReferenceIdeal.Facts] [hPre_in_dx_finite : Cert.Pre_in_dx_finite.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxReferenceIdeal.nD Cert.InDxReferenceIdeal.τ Cert.InDxReferenceIdeal.sig) → Buf (Elt Ideal) ℓ) (g' : Dev Cert.InDxReferenceIdeal.nD → PrngReg), Pre_InDxIdeal_in_dx_finite m →
    (∀ c : Dev Cert.InDxIdeal.nD,
      m' ((c.tc : Thread Cert.InDxReferenceIdeal.nD Cert.InDxReferenceIdeal.τ).loc Cert.InDxReferenceIdeal.main_arg0) = m ((c.tc : Thread Cert.InDxIdeal.nD Cert.InDxIdeal.τ).loc Cert.InDxIdeal.main_arg0)
      ∧ m' ((c.tc : Thread Cert.InDxReferenceIdeal.nD Cert.InDxReferenceIdeal.τ).loc Cert.InDxReferenceIdeal.main_arg1) = m ((c.tc : Thread Cert.InDxIdeal.nD Cert.InDxIdeal.τ).loc Cert.InDxIdeal.main_arg1)
      ∧ m' ((c.tc : Thread Cert.InDxReferenceIdeal.nD Cert.InDxReferenceIdeal.τ).loc Cert.InDxReferenceIdeal.main_arg2) = m ((c.tc : Thread Cert.InDxIdeal.nD Cert.InDxIdeal.τ).loc Cert.InDxIdeal.main_arg2)
      ∧ m' ((c.tc : Thread Cert.InDxReferenceIdeal.nD Cert.InDxReferenceIdeal.τ).loc Cert.InDxReferenceIdeal.main_arg3) = m ((c.tc : Thread Cert.InDxIdeal.nD Cert.InDxIdeal.τ).loc Cert.InDxIdeal.main_arg3)
      ∧ m' ((c.tc : Thread Cert.InDxReferenceIdeal.nD Cert.InDxReferenceIdeal.τ).loc Cert.InDxReferenceIdeal.main_arg4) = m ((c.tc : Thread Cert.InDxIdeal.nD Cert.InDxIdeal.τ).loc Cert.InDxIdeal.main_arg4)
      ∧ m' ((c.tc : Thread Cert.InDxReferenceIdeal.nD Cert.InDxReferenceIdeal.τ).loc Cert.InDxReferenceIdeal.main_arg5) = m ((c.tc : Thread Cert.InDxIdeal.nD Cert.InDxIdeal.τ).loc Cert.InDxIdeal.main_arg5)
      ∧ m' ((c.tc : Thread Cert.InDxReferenceIdeal.nD Cert.InDxReferenceIdeal.τ).loc Cert.InDxReferenceIdeal.main_arg6) = m ((c.tc : Thread Cert.InDxIdeal.nD Cert.InDxIdeal.τ).loc Cert.InDxIdeal.main_arg6)) →
    ∃ (v0 : (c : Dev Cert.InDxIdeal.nD) → Buf (Elt Ideal) ((c.tc : Thread Cert.InDxIdeal.nD Cert.InDxIdeal.τ).loc Cert.InDxIdeal.main_v3_0)) (v1 : (c : Dev Cert.InDxIdeal.nD) → Buf (Elt Ideal) ((c.tc : Thread Cert.InDxIdeal.nD Cert.InDxIdeal.τ).loc Cert.InDxIdeal.main_v3_1)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v3_0) = v0 c
          ∧ r.2.mem ((c.tc : Thread Cert.InDxIdeal.nD Cert.InDxIdeal.τ).loc Cert.InDxIdeal.main_v3_1) = v1 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
          ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
          ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6))
      ∧ θ_run (Cert.InDxReferenceIdeal.defs (F := Ideal)) (onTc (τ := Cert.InDxReferenceIdeal.τ) (Cert.InDxReferenceIdeal.main (F := Ideal))) ⟨m', fun _ => 0, g'⟩ (fun r => ∀ c : Dev Cert.InDxReferenceIdeal.nD,
          r.2.mem ((c.tc : Thread Cert.InDxReferenceIdeal.nD Cert.InDxReferenceIdeal.τ).loc Cert.InDxReferenceIdeal.main_v46) = v0 c
          ∧ r.2.mem ((c.tc : Thread Cert.InDxReferenceIdeal.nD Cert.InDxReferenceIdeal.τ).loc Cert.InDxReferenceIdeal.main_v29) = v1 c
          ∧ r.2.mem ((c.tc : Thread Cert.InDxReferenceIdeal.nD Cert.InDxReferenceIdeal.τ).loc Cert.InDxReferenceIdeal.main_arg0) = m' ((c.tc : Thread Cert.InDxReferenceIdeal.nD Cert.InDxReferenceIdeal.τ).loc Cert.InDxReferenceIdeal.main_arg0)
          ∧ r.2.mem ((c.tc : Thread Cert.InDxReferenceIdeal.nD Cert.InDxReferenceIdeal.τ).loc Cert.InDxReferenceIdeal.main_arg1) = m' ((c.tc : Thread Cert.InDxReferenceIdeal.nD Cert.InDxReferenceIdeal.τ).loc Cert.InDxReferenceIdeal.main_arg1)
          ∧ r.2.mem ((c.tc : Thread Cert.InDxReferenceIdeal.nD Cert.InDxReferenceIdeal.τ).loc Cert.InDxReferenceIdeal.main_arg2) = m' ((c.tc : Thread Cert.InDxReferenceIdeal.nD Cert.InDxReferenceIdeal.τ).loc Cert.InDxReferenceIdeal.main_arg2)
          ∧ r.2.mem ((c.tc : Thread Cert.InDxReferenceIdeal.nD Cert.InDxReferenceIdeal.τ).loc Cert.InDxReferenceIdeal.main_arg3) = m' ((c.tc : Thread Cert.InDxReferenceIdeal.nD Cert.InDxReferenceIdeal.τ).loc Cert.InDxReferenceIdeal.main_arg3)
          ∧ r.2.mem ((c.tc : Thread Cert.InDxReferenceIdeal.nD Cert.InDxReferenceIdeal.τ).loc Cert.InDxReferenceIdeal.main_arg4) = m' ((c.tc : Thread Cert.InDxReferenceIdeal.nD Cert.InDxReferenceIdeal.τ).loc Cert.InDxReferenceIdeal.main_arg4)
          ∧ r.2.mem ((c.tc : Thread Cert.InDxReferenceIdeal.nD Cert.InDxReferenceIdeal.τ).loc Cert.InDxReferenceIdeal.main_arg5) = m' ((c.tc : Thread Cert.InDxReferenceIdeal.nD Cert.InDxReferenceIdeal.τ).loc Cert.InDxReferenceIdeal.main_arg5)
          ∧ r.2.mem ((c.tc : Thread Cert.InDxReferenceIdeal.nD Cert.InDxReferenceIdeal.τ).loc Cert.InDxReferenceIdeal.main_arg6) = m' ((c.tc : Thread Cert.InDxReferenceIdeal.nD Cert.InDxReferenceIdeal.τ).loc Cert.InDxReferenceIdeal.main_arg6))

def preserves_BwdAct_BwdActIdeal : Prop :=
  True

def algebraic_BwdActIdeal_BwdActReferenceIdeal_pre_bwd_act_finite [hBwdActIdeal : Cert.BwdActIdeal.Facts] [hBwdActReferenceIdeal : Cert.BwdActReferenceIdeal.Facts] [hPre_bwd_act_finite : Cert.Pre_bwd_act_finite.Facts] : Prop :=
  ∀ (m : (ℓ : Loc Cert.BwdActIdeal.nD Cert.BwdActIdeal.τ Cert.BwdActIdeal.sig) → Buf (Elt Ideal) ℓ) (g : Dev Cert.BwdActIdeal.nD → PrngReg)
    (m' : (ℓ : Loc Cert.BwdActReferenceIdeal.nD Cert.BwdActReferenceIdeal.τ Cert.BwdActReferenceIdeal.sig) → Buf (Elt Ideal) ℓ) (g' : Dev Cert.BwdActReferenceIdeal.nD → PrngReg), Pre_BwdActIdeal_bwd_act_finite m →
    (∀ c : Dev Cert.BwdActIdeal.nD,
      m' ((c.tc : Thread Cert.BwdActReferenceIdeal.nD Cert.BwdActReferenceIdeal.τ).loc Cert.BwdActReferenceIdeal.main_arg0) = m ((c.tc : Thread Cert.BwdActIdeal.nD Cert.BwdActIdeal.τ).loc Cert.BwdActIdeal.main_arg0)
      ∧ m' ((c.tc : Thread Cert.BwdActReferenceIdeal.nD Cert.BwdActReferenceIdeal.τ).loc Cert.BwdActReferenceIdeal.main_arg1) = m ((c.tc : Thread Cert.BwdActIdeal.nD Cert.BwdActIdeal.τ).loc Cert.BwdActIdeal.main_arg1)
      ∧ m' ((c.tc : Thread Cert.BwdActReferenceIdeal.nD Cert.BwdActReferenceIdeal.τ).loc Cert.BwdActReferenceIdeal.main_arg2) = m ((c.tc : Thread Cert.BwdActIdeal.nD Cert.BwdActIdeal.τ).loc Cert.BwdActIdeal.main_arg2)) →
    ∃ (v0 : (c : Dev Cert.BwdActIdeal.nD) → Buf (Elt Ideal) ((c.tc : Thread Cert.BwdActIdeal.nD Cert.BwdActIdeal.τ).loc Cert.BwdActIdeal.main_v0_0)) (v1 : (c : Dev Cert.BwdActIdeal.nD) → Buf (Elt Ideal) ((c.tc : Thread Cert.BwdActIdeal.nD Cert.BwdActIdeal.τ).loc Cert.BwdActIdeal.main_v0_1)),
      θ_run (Cert.BwdActIdeal.defs (F := Ideal)) (onTc (τ := Cert.BwdActIdeal.τ) (Cert.BwdActIdeal.main (F := Ideal))) ⟨m, fun _ => 0, g⟩ (fun r => ∀ c : Dev Cert.BwdActIdeal.nD,
          r.2.mem ((c.tc : Thread Cert.BwdActIdeal.nD Cert.BwdActIdeal.τ).loc Cert.BwdActIdeal.main_v0_0) = v0 c
          ∧ r.2.mem ((c.tc : Thread Cert.BwdActIdeal.nD Cert.BwdActIdeal.τ).loc Cert.BwdActIdeal.main_v0_1) = v1 c
          ∧ r.2.mem ((c.tc : Thread Cert.BwdActIdeal.nD Cert.BwdActIdeal.τ).loc Cert.BwdActIdeal.main_arg0) = m ((c.tc : Thread Cert.BwdActIdeal.nD Cert.BwdActIdeal.τ).loc Cert.BwdActIdeal.main_arg0)
          ∧ r.2.mem ((c.tc : Thread Cert.BwdActIdeal.nD Cert.BwdActIdeal.τ).loc Cert.BwdActIdeal.main_arg1) = m ((c.tc : Thread Cert.BwdActIdeal.nD Cert.BwdActIdeal.τ).loc Cert.BwdActIdeal.main_arg1)
          ∧ r.2.mem ((c.tc : Thread Cert.BwdActIdeal.nD Cert.BwdActIdeal.τ).loc Cert.BwdActIdeal.main_arg2) = m ((c.tc : Thread Cert.BwdActIdeal.nD Cert.BwdActIdeal.τ).loc Cert.BwdActIdeal.main_arg2))
      ∧ θ_run (Cert.BwdActReferenceIdeal.defs (F := Ideal)) (onTc (τ := Cert.BwdActReferenceIdeal.τ) (Cert.BwdActReferenceIdeal.main (F := Ideal))) ⟨m', fun _ => 0, g'⟩ (fun r => ∀ c : Dev Cert.BwdActReferenceIdeal.nD,
          r.2.mem ((c.tc : Thread Cert.BwdActReferenceIdeal.nD Cert.BwdActReferenceIdeal.τ).loc Cert.BwdActReferenceIdeal.main_v14) = v0 c
          ∧ r.2.mem ((c.tc : Thread Cert.BwdActReferenceIdeal.nD Cert.BwdActReferenceIdeal.τ).loc Cert.BwdActReferenceIdeal.main_v16) = v1 c
          ∧ r.2.mem ((c.tc : Thread Cert.BwdActReferenceIdeal.nD Cert.BwdActReferenceIdeal.τ).loc Cert.BwdActReferenceIdeal.main_arg0) = m' ((c.tc : Thread Cert.BwdActReferenceIdeal.nD Cert.BwdActReferenceIdeal.τ).loc Cert.BwdActReferenceIdeal.main_arg0)
          ∧ r.2.mem ((c.tc : Thread Cert.BwdActReferenceIdeal.nD Cert.BwdActReferenceIdeal.τ).loc Cert.BwdActReferenceIdeal.main_arg1) = m' ((c.tc : Thread Cert.BwdActReferenceIdeal.nD Cert.BwdActReferenceIdeal.τ).loc Cert.BwdActReferenceIdeal.main_arg1)
          ∧ r.2.mem ((c.tc : Thread Cert.BwdActReferenceIdeal.nD Cert.BwdActReferenceIdeal.τ).loc Cert.BwdActReferenceIdeal.main_arg2) = m' ((c.tc : Thread Cert.BwdActReferenceIdeal.nD Cert.BwdActReferenceIdeal.τ).loc Cert.BwdActReferenceIdeal.main_arg2))

def preserves_ActDown_ActDownIdeal : Prop :=
  True

def algebraic_ActDownIdeal_ActDownReferenceIdeal [hActDownIdeal : Cert.ActDownIdeal.Facts] [hActDownReferenceIdeal : Cert.ActDownReferenceIdeal.Facts] : Prop :=
  ∀ (m : (ℓ : Loc Cert.ActDownIdeal.nD Cert.ActDownIdeal.τ Cert.ActDownIdeal.sig) → Buf (Elt Ideal) ℓ) (g : Dev Cert.ActDownIdeal.nD → PrngReg)
    (m' : (ℓ : Loc Cert.ActDownReferenceIdeal.nD Cert.ActDownReferenceIdeal.τ Cert.ActDownReferenceIdeal.sig) → Buf (Elt Ideal) ℓ) (g' : Dev Cert.ActDownReferenceIdeal.nD → PrngReg), Pre_ActDownIdeal m →
    (∀ c : Dev Cert.ActDownIdeal.nD,
      m' ((c.tc : Thread Cert.ActDownReferenceIdeal.nD Cert.ActDownReferenceIdeal.τ).loc Cert.ActDownReferenceIdeal.main_arg0) = m ((c.tc : Thread Cert.ActDownIdeal.nD Cert.ActDownIdeal.τ).loc Cert.ActDownIdeal.main_arg0)
      ∧ m' ((c.tc : Thread Cert.ActDownReferenceIdeal.nD Cert.ActDownReferenceIdeal.τ).loc Cert.ActDownReferenceIdeal.main_arg1) = m ((c.tc : Thread Cert.ActDownIdeal.nD Cert.ActDownIdeal.τ).loc Cert.ActDownIdeal.main_arg1)
      ∧ m' ((c.tc : Thread Cert.ActDownReferenceIdeal.nD Cert.ActDownReferenceIdeal.τ).loc Cert.ActDownReferenceIdeal.main_arg2) = m ((c.tc : Thread Cert.ActDownIdeal.nD Cert.ActDownIdeal.τ).loc Cert.ActDownIdeal.main_arg2)
      ∧ m' ((c.tc : Thread Cert.ActDownReferenceIdeal.nD Cert.ActDownReferenceIdeal.τ).loc Cert.ActDownReferenceIdeal.main_arg3) = m ((c.tc : Thread Cert.ActDownIdeal.nD Cert.ActDownIdeal.τ).loc Cert.ActDownIdeal.main_arg3)
      ∧ m' ((c.tc : Thread Cert.ActDownReferenceIdeal.nD Cert.ActDownReferenceIdeal.τ).loc Cert.ActDownReferenceIdeal.main_arg4) = m ((c.tc : Thread Cert.ActDownIdeal.nD Cert.ActDownIdeal.τ).loc Cert.ActDownIdeal.main_arg4)) →
    ∃ (v0 : (c : Dev Cert.ActDownIdeal.nD) → Buf (Elt Ideal) ((c.tc : Thread Cert.ActDownIdeal.nD Cert.ActDownIdeal.τ).loc Cert.ActDownIdeal.main_v0_0)) (v1 : (c : Dev Cert.ActDownIdeal.nD) → Buf (Elt Ideal) ((c.tc : Thread Cert.ActDownIdeal.nD Cert.ActDownIdeal.τ).loc Cert.ActDownIdeal.main_v0_1)) (v2 : (c : Dev Cert.ActDownIdeal.nD) → Buf (Elt Ideal) ((c.tc : Thread Cert.ActDownIdeal.nD Cert.ActDownIdeal.τ).loc Cert.ActDownIdeal.main_v0_2)),
      θ_run (Cert.ActDownIdeal.defs (F := Ideal)) (onTc (τ := Cert.ActDownIdeal.τ) (Cert.ActDownIdeal.main (F := Ideal))) ⟨m, fun _ => 0, g⟩ (fun r => ∀ c : Dev Cert.ActDownIdeal.nD,
          r.2.mem ((c.tc : Thread Cert.ActDownIdeal.nD Cert.ActDownIdeal.τ).loc Cert.ActDownIdeal.main_v0_0) = v0 c
          ∧ r.2.mem ((c.tc : Thread Cert.ActDownIdeal.nD Cert.ActDownIdeal.τ).loc Cert.ActDownIdeal.main_v0_1) = v1 c
          ∧ r.2.mem ((c.tc : Thread Cert.ActDownIdeal.nD Cert.ActDownIdeal.τ).loc Cert.ActDownIdeal.main_v0_2) = v2 c
          ∧ r.2.mem ((c.tc : Thread Cert.ActDownIdeal.nD Cert.ActDownIdeal.τ).loc Cert.ActDownIdeal.main_arg0) = m ((c.tc : Thread Cert.ActDownIdeal.nD Cert.ActDownIdeal.τ).loc Cert.ActDownIdeal.main_arg0)
          ∧ r.2.mem ((c.tc : Thread Cert.ActDownIdeal.nD Cert.ActDownIdeal.τ).loc Cert.ActDownIdeal.main_arg1) = m ((c.tc : Thread Cert.ActDownIdeal.nD Cert.ActDownIdeal.τ).loc Cert.ActDownIdeal.main_arg1)
          ∧ r.2.mem ((c.tc : Thread Cert.ActDownIdeal.nD Cert.ActDownIdeal.τ).loc Cert.ActDownIdeal.main_arg2) = m ((c.tc : Thread Cert.ActDownIdeal.nD Cert.ActDownIdeal.τ).loc Cert.ActDownIdeal.main_arg2)
          ∧ r.2.mem ((c.tc : Thread Cert.ActDownIdeal.nD Cert.ActDownIdeal.τ).loc Cert.ActDownIdeal.main_arg3) = m ((c.tc : Thread Cert.ActDownIdeal.nD Cert.ActDownIdeal.τ).loc Cert.ActDownIdeal.main_arg3)
          ∧ r.2.mem ((c.tc : Thread Cert.ActDownIdeal.nD Cert.ActDownIdeal.τ).loc Cert.ActDownIdeal.main_arg4) = m ((c.tc : Thread Cert.ActDownIdeal.nD Cert.ActDownIdeal.τ).loc Cert.ActDownIdeal.main_arg4))
      ∧ θ_run (Cert.ActDownReferenceIdeal.defs (F := Ideal)) (onTc (τ := Cert.ActDownReferenceIdeal.τ) (Cert.ActDownReferenceIdeal.main (F := Ideal))) ⟨m', fun _ => 0, g'⟩ (fun r => ∀ c : Dev Cert.ActDownReferenceIdeal.nD,
          r.2.mem ((c.tc : Thread Cert.ActDownReferenceIdeal.nD Cert.ActDownReferenceIdeal.τ).loc Cert.ActDownReferenceIdeal.main_v31) = v0 c
          ∧ r.2.mem ((c.tc : Thread Cert.ActDownReferenceIdeal.nD Cert.ActDownReferenceIdeal.τ).loc Cert.ActDownReferenceIdeal.main_v32) = v1 c
          ∧ r.2.mem ((c.tc : Thread Cert.ActDownReferenceIdeal.nD Cert.ActDownReferenceIdeal.τ).loc Cert.ActDownReferenceIdeal.main_v33) = v2 c
          ∧ r.2.mem ((c.tc : Thread Cert.ActDownReferenceIdeal.nD Cert.ActDownReferenceIdeal.τ).loc Cert.ActDownReferenceIdeal.main_arg0) = m' ((c.tc : Thread Cert.ActDownReferenceIdeal.nD Cert.ActDownReferenceIdeal.τ).loc Cert.ActDownReferenceIdeal.main_arg0)
          ∧ r.2.mem ((c.tc : Thread Cert.ActDownReferenceIdeal.nD Cert.ActDownReferenceIdeal.τ).loc Cert.ActDownReferenceIdeal.main_arg1) = m' ((c.tc : Thread Cert.ActDownReferenceIdeal.nD Cert.ActDownReferenceIdeal.τ).loc Cert.ActDownReferenceIdeal.main_arg1)
          ∧ r.2.mem ((c.tc : Thread Cert.ActDownReferenceIdeal.nD Cert.ActDownReferenceIdeal.τ).loc Cert.ActDownReferenceIdeal.main_arg2) = m' ((c.tc : Thread Cert.ActDownReferenceIdeal.nD Cert.ActDownReferenceIdeal.τ).loc Cert.ActDownReferenceIdeal.main_arg2)
          ∧ r.2.mem ((c.tc : Thread Cert.ActDownReferenceIdeal.nD Cert.ActDownReferenceIdeal.τ).loc Cert.ActDownReferenceIdeal.main_arg3) = m' ((c.tc : Thread Cert.ActDownReferenceIdeal.nD Cert.ActDownReferenceIdeal.τ).loc Cert.ActDownReferenceIdeal.main_arg3)
          ∧ r.2.mem ((c.tc : Thread Cert.ActDownReferenceIdeal.nD Cert.ActDownReferenceIdeal.τ).loc Cert.ActDownReferenceIdeal.main_arg4) = m' ((c.tc : Thread Cert.ActDownReferenceIdeal.nD Cert.ActDownReferenceIdeal.τ).loc Cert.ActDownReferenceIdeal.main_arg4))

def Claim : Prop :=
  ∃ (hKernel : Cert.Kernel.Facts) (hKernelIdeal : Cert.KernelIdeal.Facts) (hReferenceIdeal : Cert.ReferenceIdeal.Facts) (hUpWgrad : Cert.UpWgrad.Facts) (hUpWgradIdeal : Cert.UpWgradIdeal.Facts) (hUpWgradReferenceIdeal : Cert.UpWgradReferenceIdeal.Facts) (hDownWgrad : Cert.DownWgrad.Facts) (hDownWgradIdeal : Cert.DownWgradIdeal.Facts) (hDownWgradReferenceIdeal : Cert.DownWgradReferenceIdeal.Facts) (hUpProj : Cert.UpProj.Facts) (hUpProjIdeal : Cert.UpProjIdeal.Facts) (hUpProjReferenceIdeal : Cert.UpProjReferenceIdeal.Facts) (hInProj : Cert.InProj.Facts) (hInProjIdeal : Cert.InProjIdeal.Facts) (hInProjReferenceIdeal : Cert.InProjReferenceIdeal.Facts) (hQkvWgrad : Cert.QkvWgrad.Facts) (hQkvWgradIdeal : Cert.QkvWgradIdeal.Facts) (hQkvWgradReferenceIdeal : Cert.QkvWgradReferenceIdeal.Facts) (hQWgrad : Cert.QWgrad.Facts) (hQWgradIdeal : Cert.QWgradIdeal.Facts) (hQWgradReferenceIdeal : Cert.QWgradReferenceIdeal.Facts) (hKvWgrad : Cert.KvWgrad.Facts) (hKvWgradIdeal : Cert.KvWgradIdeal.Facts) (hKvWgradReferenceIdeal : Cert.KvWgradReferenceIdeal.Facts) (hAOutWgrad : Cert.AOutWgrad.Facts) (hAOutWgradIdeal : Cert.AOutWgradIdeal.Facts) (hAOutWgradReferenceIdeal : Cert.AOutWgradReferenceIdeal.Facts) (hBOutWgrad : Cert.BOutWgrad.Facts) (hBOutWgradIdeal : Cert.BOutWgradIdeal.Facts) (hBOutWgradReferenceIdeal : Cert.BOutWgradReferenceIdeal.Facts) (hKvProj : Cert.KvProj.Facts) (hKvProjIdeal : Cert.KvProjIdeal.Facts) (hKvProjReferenceIdeal : Cert.KvProjReferenceIdeal.Facts) (hQProj : Cert.QProj.Facts) (hQProjIdeal : Cert.QProjIdeal.Facts) (hQProjReferenceIdeal : Cert.QProjReferenceIdeal.Facts) (hBOutProj : Cert.BOutProj.Facts) (hBOutProjIdeal : Cert.BOutProjIdeal.Facts) (hBOutProjReferenceIdeal : Cert.BOutProjReferenceIdeal.Facts) (hBOutDx : Cert.BOutDx.Facts) (hBOutDxIdeal : Cert.BOutDxIdeal.Facts) (hBOutDxReferenceIdeal : Cert.BOutDxReferenceIdeal.Facts) (hBaWgrad : Cert.BaWgrad.Facts) (hBaWgradIdeal : Cert.BaWgradIdeal.Facts) (hBaWgradReferenceIdeal : Cert.BaWgradReferenceIdeal.Facts) (hQDx : Cert.QDx.Facts) (hQDxIdeal : Cert.QDxIdeal.Facts) (hQDxReferenceIdeal : Cert.QDxReferenceIdeal.Facts) (hKvDx : Cert.KvDx.Facts) (hKvDxIdeal : Cert.KvDxIdeal.Facts) (hKvDxReferenceIdeal : Cert.KvDxReferenceIdeal.Facts) (hInDx : Cert.InDx.Facts) (hInDxIdeal : Cert.InDxIdeal.Facts) (hInDxReferenceIdeal : Cert.InDxReferenceIdeal.Facts) (hBwdAct : Cert.BwdAct.Facts) (hBwdActIdeal : Cert.BwdActIdeal.Facts) (hBwdActReferenceIdeal : Cert.BwdActReferenceIdeal.Facts) (hActDown : Cert.ActDown.Facts) (hActDownIdeal : Cert.ActDownIdeal.Facts) (hActDownReferenceIdeal : Cert.ActDownReferenceIdeal.Facts) (hPre_scores_finite : Cert.Pre_scores_finite.Facts) (hPre_q_dx_finite : Cert.Pre_q_dx_finite.Facts) (hPre_kv_dx_finite : Cert.Pre_kv_dx_finite.Facts) (hPre_in_dx_finite : Cert.Pre_in_dx_finite.Facts) (hPre_bwd_act_finite : Cert.Pre_bwd_act_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_UpWgrad (hUpWgrad := hUpWgrad)
    ∧ quiescent_UpWgradIdeal (hUpWgradIdeal := hUpWgradIdeal)
    ∧ quiescent_UpWgradReferenceIdeal (hUpWgradReferenceIdeal := hUpWgradReferenceIdeal)
    ∧ quiescent_DownWgrad (hDownWgrad := hDownWgrad)
    ∧ quiescent_DownWgradIdeal (hDownWgradIdeal := hDownWgradIdeal)
    ∧ quiescent_DownWgradReferenceIdeal (hDownWgradReferenceIdeal := hDownWgradReferenceIdeal)
    ∧ quiescent_UpProj (hUpProj := hUpProj)
    ∧ quiescent_UpProjIdeal (hUpProjIdeal := hUpProjIdeal)
    ∧ quiescent_UpProjReferenceIdeal (hUpProjReferenceIdeal := hUpProjReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_QkvWgrad (hQkvWgrad := hQkvWgrad)
    ∧ quiescent_QkvWgradIdeal (hQkvWgradIdeal := hQkvWgradIdeal)
    ∧ quiescent_QkvWgradReferenceIdeal (hQkvWgradReferenceIdeal := hQkvWgradReferenceIdeal)
    ∧ quiescent_QWgrad (hQWgrad := hQWgrad)
    ∧ quiescent_QWgradIdeal (hQWgradIdeal := hQWgradIdeal)
    ∧ quiescent_QWgradReferenceIdeal (hQWgradReferenceIdeal := hQWgradReferenceIdeal)
    ∧ quiescent_KvWgrad (hKvWgrad := hKvWgrad)
    ∧ quiescent_KvWgradIdeal (hKvWgradIdeal := hKvWgradIdeal)
    ∧ quiescent_KvWgradReferenceIdeal (hKvWgradReferenceIdeal := hKvWgradReferenceIdeal)
    ∧ quiescent_AOutWgrad (hAOutWgrad := hAOutWgrad)
    ∧ quiescent_AOutWgradIdeal (hAOutWgradIdeal := hAOutWgradIdeal)
    ∧ quiescent_AOutWgradReferenceIdeal (hAOutWgradReferenceIdeal := hAOutWgradReferenceIdeal)
    ∧ quiescent_BOutWgrad (hBOutWgrad := hBOutWgrad)
    ∧ quiescent_BOutWgradIdeal (hBOutWgradIdeal := hBOutWgradIdeal)
    ∧ quiescent_BOutWgradReferenceIdeal (hBOutWgradReferenceIdeal := hBOutWgradReferenceIdeal)
    ∧ quiescent_KvProj (hKvProj := hKvProj)
    ∧ quiescent_KvProjIdeal (hKvProjIdeal := hKvProjIdeal)
    ∧ quiescent_KvProjReferenceIdeal (hKvProjReferenceIdeal := hKvProjReferenceIdeal)
    ∧ quiescent_QProj (hQProj := hQProj)
    ∧ quiescent_QProjIdeal (hQProjIdeal := hQProjIdeal)
    ∧ quiescent_QProjReferenceIdeal (hQProjReferenceIdeal := hQProjReferenceIdeal)
    ∧ quiescent_BOutProj (hBOutProj := hBOutProj)
    ∧ quiescent_BOutProjIdeal (hBOutProjIdeal := hBOutProjIdeal)
    ∧ quiescent_BOutProjReferenceIdeal (hBOutProjReferenceIdeal := hBOutProjReferenceIdeal)
    ∧ quiescent_BOutDx (hBOutDx := hBOutDx)
    ∧ quiescent_BOutDxIdeal (hBOutDxIdeal := hBOutDxIdeal)
    ∧ quiescent_BOutDxReferenceIdeal (hBOutDxReferenceIdeal := hBOutDxReferenceIdeal)
    ∧ quiescent_BaWgrad (hBaWgrad := hBaWgrad)
    ∧ quiescent_BaWgradIdeal (hBaWgradIdeal := hBaWgradIdeal)
    ∧ quiescent_BaWgradReferenceIdeal (hBaWgradReferenceIdeal := hBaWgradReferenceIdeal)
    ∧ quiescent_QDx (hQDx := hQDx)
    ∧ quiescent_QDxIdeal (hQDxIdeal := hQDxIdeal)
    ∧ quiescent_QDxIdeal_pre_q_dx_finite (hQDxIdeal := hQDxIdeal) (hPre_q_dx_finite := hPre_q_dx_finite)
    ∧ quiescent_QDxReferenceIdeal (hQDxReferenceIdeal := hQDxReferenceIdeal)
    ∧ quiescent_QDxReferenceIdeal_pre_q_dx_finite (hQDxReferenceIdeal := hQDxReferenceIdeal) (hPre_q_dx_finite := hPre_q_dx_finite)
    ∧ quiescent_KvDx (hKvDx := hKvDx)
    ∧ quiescent_KvDxIdeal (hKvDxIdeal := hKvDxIdeal)
    ∧ quiescent_KvDxIdeal_pre_kv_dx_finite (hKvDxIdeal := hKvDxIdeal) (hPre_kv_dx_finite := hPre_kv_dx_finite)
    ∧ quiescent_KvDxReferenceIdeal (hKvDxReferenceIdeal := hKvDxReferenceIdeal)
    ∧ quiescent_KvDxReferenceIdeal_pre_kv_dx_finite (hKvDxReferenceIdeal := hKvDxReferenceIdeal) (hPre_kv_dx_finite := hPre_kv_dx_finite)
    ∧ quiescent_InDx (hInDx := hInDx)
    ∧ quiescent_InDxIdeal (hInDxIdeal := hInDxIdeal)
    ∧ quiescent_InDxIdeal_pre_in_dx_finite (hInDxIdeal := hInDxIdeal) (hPre_in_dx_finite := hPre_in_dx_finite)
    ∧ quiescent_InDxReferenceIdeal (hInDxReferenceIdeal := hInDxReferenceIdeal)
    ∧ quiescent_InDxReferenceIdeal_pre_in_dx_finite (hInDxReferenceIdeal := hInDxReferenceIdeal) (hPre_in_dx_finite := hPre_in_dx_finite)
    ∧ quiescent_BwdAct (hBwdAct := hBwdAct)
    ∧ quiescent_BwdActIdeal (hBwdActIdeal := hBwdActIdeal)
    ∧ quiescent_BwdActIdeal_pre_bwd_act_finite (hBwdActIdeal := hBwdActIdeal) (hPre_bwd_act_finite := hPre_bwd_act_finite)
    ∧ quiescent_BwdActReferenceIdeal (hBwdActReferenceIdeal := hBwdActReferenceIdeal)
    ∧ quiescent_BwdActReferenceIdeal_pre_bwd_act_finite (hBwdActReferenceIdeal := hBwdActReferenceIdeal) (hPre_bwd_act_finite := hPre_bwd_act_finite)
    ∧ quiescent_ActDown (hActDown := hActDown)
    ∧ quiescent_ActDownIdeal (hActDownIdeal := hActDownIdeal)
    ∧ quiescent_ActDownReferenceIdeal (hActDownReferenceIdeal := hActDownReferenceIdeal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_UpWgrad_UpWgradIdeal
    ∧ algebraic_UpWgradIdeal_UpWgradReferenceIdeal (hUpWgradIdeal := hUpWgradIdeal) (hUpWgradReferenceIdeal := hUpWgradReferenceIdeal)
    ∧ preserves_DownWgrad_DownWgradIdeal
    ∧ algebraic_DownWgradIdeal_DownWgradReferenceIdeal (hDownWgradIdeal := hDownWgradIdeal) (hDownWgradReferenceIdeal := hDownWgradReferenceIdeal)
    ∧ preserves_UpProj_UpProjIdeal
    ∧ algebraic_UpProjIdeal_UpProjReferenceIdeal (hUpProjIdeal := hUpProjIdeal) (hUpProjReferenceIdeal := hUpProjReferenceIdeal)
    ∧ preserves_InProj_InProjIdeal
    ∧ algebraic_InProjIdeal_InProjReferenceIdeal (hInProjIdeal := hInProjIdeal) (hInProjReferenceIdeal := hInProjReferenceIdeal)
    ∧ preserves_QkvWgrad_QkvWgradIdeal
    ∧ algebraic_QkvWgradIdeal_QkvWgradReferenceIdeal (hQkvWgradIdeal := hQkvWgradIdeal) (hQkvWgradReferenceIdeal := hQkvWgradReferenceIdeal)
    ∧ preserves_QWgrad_QWgradIdeal
    ∧ algebraic_QWgradIdeal_QWgradReferenceIdeal (hQWgradIdeal := hQWgradIdeal) (hQWgradReferenceIdeal := hQWgradReferenceIdeal)
    ∧ preserves_KvWgrad_KvWgradIdeal
    ∧ algebraic_KvWgradIdeal_KvWgradReferenceIdeal (hKvWgradIdeal := hKvWgradIdeal) (hKvWgradReferenceIdeal := hKvWgradReferenceIdeal)
    ∧ preserves_AOutWgrad_AOutWgradIdeal
    ∧ algebraic_AOutWgradIdeal_AOutWgradReferenceIdeal (hAOutWgradIdeal := hAOutWgradIdeal) (hAOutWgradReferenceIdeal := hAOutWgradReferenceIdeal)
    ∧ preserves_BOutWgrad_BOutWgradIdeal
    ∧ algebraic_BOutWgradIdeal_BOutWgradReferenceIdeal (hBOutWgradIdeal := hBOutWgradIdeal) (hBOutWgradReferenceIdeal := hBOutWgradReferenceIdeal)
    ∧ preserves_KvProj_KvProjIdeal
    ∧ algebraic_KvProjIdeal_KvProjReferenceIdeal (hKvProjIdeal := hKvProjIdeal) (hKvProjReferenceIdeal := hKvProjReferenceIdeal)
    ∧ preserves_QProj_QProjIdeal
    ∧ algebraic_QProjIdeal_QProjReferenceIdeal (hQProjIdeal := hQProjIdeal) (hQProjReferenceIdeal := hQProjReferenceIdeal)
    ∧ preserves_BOutProj_BOutProjIdeal
    ∧ algebraic_BOutProjIdeal_BOutProjReferenceIdeal (hBOutProjIdeal := hBOutProjIdeal) (hBOutProjReferenceIdeal := hBOutProjReferenceIdeal)
    ∧ preserves_BOutDx_BOutDxIdeal
    ∧ algebraic_BOutDxIdeal_BOutDxReferenceIdeal (hBOutDxIdeal := hBOutDxIdeal) (hBOutDxReferenceIdeal := hBOutDxReferenceIdeal)
    ∧ preserves_BaWgrad_BaWgradIdeal
    ∧ algebraic_BaWgradIdeal_BaWgradReferenceIdeal (hBaWgradIdeal := hBaWgradIdeal) (hBaWgradReferenceIdeal := hBaWgradReferenceIdeal)
    ∧ preserves_QDx_QDxIdeal
    ∧ algebraic_QDxIdeal_QDxReferenceIdeal_pre_q_dx_finite (hQDxIdeal := hQDxIdeal) (hQDxReferenceIdeal := hQDxReferenceIdeal) (hPre_q_dx_finite := hPre_q_dx_finite)
    ∧ preserves_KvDx_KvDxIdeal
    ∧ algebraic_KvDxIdeal_KvDxReferenceIdeal_pre_kv_dx_finite (hKvDxIdeal := hKvDxIdeal) (hKvDxReferenceIdeal := hKvDxReferenceIdeal) (hPre_kv_dx_finite := hPre_kv_dx_finite)
    ∧ preserves_InDx_InDxIdeal
    ∧ algebraic_InDxIdeal_InDxReferenceIdeal_pre_in_dx_finite (hInDxIdeal := hInDxIdeal) (hInDxReferenceIdeal := hInDxReferenceIdeal) (hPre_in_dx_finite := hPre_in_dx_finite)
    ∧ preserves_BwdAct_BwdActIdeal
    ∧ algebraic_BwdActIdeal_BwdActReferenceIdeal_pre_bwd_act_finite (hBwdActIdeal := hBwdActIdeal) (hBwdActReferenceIdeal := hBwdActReferenceIdeal) (hPre_bwd_act_finite := hPre_bwd_act_finite)
    ∧ preserves_ActDown_ActDownIdeal
    ∧ algebraic_ActDownIdeal_ActDownReferenceIdeal (hActDownIdeal := hActDownIdeal) (hActDownReferenceIdeal := hActDownReferenceIdeal)
-- ==== Pre_bwd_act_finite.lean ====
abbrev S8192x1024 : Shape := ⟨2, ![8192, 1024]⟩
abbrev S8192x5632 : Shape := ⟨2, ![8192, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S8192x5632 : S_.BroadcastsInDim S8192x5632 (![] : Fin 0 → Fin S8192x5632.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S8192x5632 .bf16) (main_arg2 : FVec F S2816x1024 .bf16) : IVec S8192x1024 1 × IVec S8192x5632 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x5632 .f32 := (extf .f32 · bitsLt_bf16_f32) main_arg1
  let main_v4 : FVec F S8192x5632 .f32 := Host.absf main_v3
  let main_cst_0 : FVec F S_ .f32 := constant S_ .f32 0x7F800000#32
  let main_v5 : FVec F S8192x5632 .f32 := broadcastInDim S8192x5632 ![] bcast_S_S8192x5632 main_cst_0
  let main_v6 : IVec S8192x5632 1 := cmpf .olt main_v4 main_v5
  let main_v7 : FVec F S2816x1024 .f32 := (extf .f32 · bitsLt_bf16_f32) main_arg2
  let main_v8 : FVec F S2816x1024 .f32 := Host.absf main_v7
  let main_cst_1 : FVec F S_ .f32 := constant S_ .f32 0x7F800000#32
  let main_v9 : FVec F S2816x1024 .f32 := broadcastInDim S2816x1024 ![] bcast_S_S2816x1024 main_cst_1
  let main_v10 : IVec S2816x1024 1 := cmpf .olt main_v8 main_v9
  (main_v2, main_v6, main_v10)
-- ==== Pre_in_dx_finite.lean ====
abbrev S8192x1024 : Shape := ⟨2, ![8192, 1024]⟩
abbrev S1x1024 : Shape := ⟨2, ![1, 1024]⟩
abbrev S8192x3072 : Shape := ⟨2, ![8192, 3072]⟩
abbrev S8192x128 : Shape := ⟨2, ![8192, 128]⟩
abbrev S1024x4224 : Shape := ⟨2, ![1024, 4224]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S8192x3072 : S_.BroadcastsInDim S8192x3072 (![] : Fin 0 → Fin S8192x3072.rank)
  bcast_S_S8192x128 : S_.BroadcastsInDim S8192x128 (![] : Fin 0 → Fin S8192x128.rank)
  bitsLt_bf16_f32 : FTy.bits .bf16 < FTy.bits .f32
  bcast_S_S1024x4224 : S_.BroadcastsInDim S1024x4224 (![] : Fin 0 → Fin S1024x4224.rank)

variable [Facts]

def fn_part1 {F : FTy → Type} [FloatOps F] (main_v2 : IVec S8192x1024 1) (main_v5 : IVec S1x1024 1) (main_v8 : IVec S8192x3072 1) (main_v11 : IVec S8192x1024 1) (main_v14 : IVec S8192x128 1) (main_v16 : FVec F S1024x4224 .f32) (main_v17 : FVec F S1024x4224 .f32) : IVec S8192x1024 1 × IVec S1x1024 1 × IVec S8192x3072 1 × IVec S8192x1024 1 × IVec S8192x128 1 × IVec S1024x4224 1 :=
  let main_v18 : IVec S1024x4224 1 := cmpf .olt main_v16 main_v17
  (main_v2, main_v5, main_v8, main_v11, main_v14, main_v18)

def fn {F : FTy → Type} [FloatOps F] (main_arg0 : FVec F S8192x1024 .f32) (main_arg1 : FVec F S8192x1024 .f32) (main_arg2 : FVec F S1x1024 .f32) (main_arg3 : FVec F S8192x3072 .f32) (main_arg4 : FVec F S8192x1024 .f32) (main_arg5 : FVec F S8192x128 .f32) (main_arg6 : FVec F S1024x4224 .bf16) : IVec S8192x1024 1 × IVec S1x1024 1 × IVec S8192x3072 1 × IVec S8192x1024 1 × IVec S8192x128 1 × IVec S1024x4224 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S8192x3072 .f32 := Host.absf main_arg3
  let main_cst_1 : FVec F S_ .f32 := constant S_ .f32 0x7F800000#32
  let main_v7 : FVec F S8192x3072 .f32 := broadcastInDim S8192x3072 ![] bcast_S_S8192x3072 main_cst_1
  let main_v8 : IVec S8192x3072 1 := cmpf .olt main_v6 main_v7
  let main_v9 : FVec F S8192x1024 .f32 := Host.absf main_arg4
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S8192x128 .f32 := Host.absf main_arg5
  let main_cst_3 : FVec F S_ .f32 := constant S_ .f32 0x7F800000#32
  let main_v13 : FVec F S8192x128 .f32 := broadcastInDim S8192x128 ![] bcast_S_S8192x128 main_cst_3
  let main_v14 : IVec S8192x128 1 := cmpf .olt main_v12 main_v13
  let main_v15 : FVec F S1024x4224 .f32 := (extf .f32 · bitsLt_bf16_f32) main_arg6
  let main_v16 : FVec F S1024x4224 .f32 := Host.absf main_v15
  let main_cst_4 : FVec F S_ .f32 := constant S_ .f32 0x7F800000#32
  let main_v17 : FVec F S1024x4224 .f32 := broadcastInDim S1024x4224 ![] bcast_S_S1024x4224 main_cst_4
  fn_part1 (F := F) main_v2 main_v5 main_v8 main_v11 main_v14 main_v16 main_v17
-- ==== Pre_kv_dx_finite.lean ====
abbrev S8192x1024 : Shape := ⟨2, ![8192, 1024]⟩
abbrev S1x1024 : Shape := ⟨2, ![1, 1024]⟩
abbrev S2048x1024 : Shape := ⟨2, ![2048, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bitsLt_bf16_f32 : FTy.bits .bf16 < FTy.bits .f32
  bcast_S_S2048x1024 : S_.BroadcastsInDim S2048x1024 (![] : Fin 0 → Fin S2048x1024.rank)

variable [Facts]

def fn {F : FTy → Type} [FloatOps F] (main_arg0 : FVec F S8192x1024 .f32) (main_arg1 : FVec F S8192x1024 .f32) (main_arg2 : FVec F S1x1024 .f32) (main_arg3 : FVec F S8192x1024 .f32) (main_arg4 : FVec F S8192x1024 .f32) (main_arg5 : FVec F S2048x1024 .bf16) : IVec S8192x1024 1 × IVec S1x1024 1 × IVec S8192x1024 1 × IVec S8192x1024 1 × IVec S2048x1024 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S8192x1024 .f32 := Host.absf main_arg3
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x1024 .f32 := Host.absf main_arg4
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S2048x1024 .f32 := (extf .f32 · bitsLt_bf16_f32) main_arg5
  let main_v13 : FVec F S2048x1024 .f32 := Host.absf main_v12
  let main_cst_3 : FVec F S_ .f32 := constant S_ .f32 0x7F800000#32
  let main_v14 : FVec F S2048x1024 .f32 := broadcastInDim S2048x1024 ![] bcast_S_S2048x1024 main_cst_3
  let main_v15 : IVec S2048x1024 1 := cmpf .olt main_v13 main_v14
  (main_v2, main_v5, main_v8, main_v11, main_v15)
-- ==== Pre_q_dx_finite.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bitsLt_bf16_f32 : FTy.bits .bf16 < FTy.bits .f32
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S8192x1024 .f32) (main_arg2 : FVec F S1x1024 .f32) (main_arg3 : FVec F S8192x1024 .f32) (main_arg4 : FVec F S1024x1024 .bf16) : IVec S8192x1024 1 × IVec S1x1024 1 × IVec S8192x1024 1 × IVec S1024x1024 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S8192x1024 .f32 := Host.absf main_arg3
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1024x1024 .f32 := (extf .f32 · bitsLt_bf16_f32) main_arg4
  let main_v10 : FVec F S1024x1024 .f32 := Host.absf main_v9
  let main_cst_2 : FVec F S_ .f32 := constant S_ .f32 0x7F800000#32
  let main_v11 : FVec F S1024x1024 .f32 := broadcastInDim S1024x1024 ![] bcast_S_S1024x1024 main_cst_2
  let main_v12 : IVec S1024x1024 1 := cmpf .olt main_v10 main_v11
  (main_v2, main_v5, main_v8, main_v12)
-- ==== Pre_scores_finite.lean ====
abbrev S8192x1024 : Shape := ⟨2, ![8192, 1024]⟩
abbrev S8192x2048 : Shape := ⟨2, ![8192, 2048]⟩
abbrev S16x513 : Shape := ⟨2, ![16, 513]⟩
abbrev S_ : Shape := ⟨0, ![]⟩

class Facts : Prop where
  bcast_S_S8192x1024 : S_.BroadcastsInDim S8192x1024 (![] : Fin 0 → Fin S8192x1024.rank)
  slices_S8192x2048_S8192x1024_0_0 : S8192x2048.Slices ![0, 0] S8192x1024
  bcast_S_S16x513 : S_.BroadcastsInDim S16x513 (![] : Fin 0 → Fin S16x513.rank)

variable [Facts]

def fn {F : FTy → Type} [FloatOps F] (main_arg0 : FVec F S8192x1024 .f32) (main_arg1 : FVec F S8192x2048 .f32) (main_arg2 : FVec F S16x513 .f32) (main_arg3 : FVec F S8192x1024 .f32) : IVec S8192x1024 1 × IVec S8192x1024 1 × IVec S16x513 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := (extractStridedSlice S8192x1024 ![0, 0] · slices_S8192x2048_S8192x1024_0_0) main_arg1
  let main_v4 : FVec F S8192x1024 .f32 := Host.absf main_v3
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : FVec F S16x513 .f32 := Host.absf main_arg2
  let main_cst_1 : FVec F S_ .f32 := constant S_ .f32 0x7F800000#32
  let main_v8 : FVec F S16x513 .f32 := broadcastInDim S16x513 ![] bcast_S_S16x513 main_cst_1
  let main_v9 : IVec S16x513 1 := cmpf .olt main_v7 main_v8
  (main_v2, main_v6, main_v9)
-- ==== Kernel.lean ====
abbrev S8192x1024 : Shape := ⟨2, ![8192, 1024]⟩
abbrev S8192x2048 : Shape := ⟨2, ![8192, 2048]⟩
abbrev S16x513 : Shape := ⟨2, ![16, 513]⟩
abbrev S64 : Shape := ⟨1, ![64]⟩
abbrev S64x1 : Shape := ⟨2, ![64, 1]⟩
abbrev S_ : Shape := ⟨0, ![]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S16x64x640 : Shape := ⟨3, ![16, 64, 640]⟩
abbrev S8x128x640 : Shape := ⟨3, ![8, 128, 640]⟩
abbrev S512x128 : Shape := ⟨2, ![512, 128]⟩
abbrev S1x128x640 : Shape := ⟨3, ![1, 128, 640]⟩
abbrev S1088x128 : Shape := ⟨2, ![1088, 128]⟩
abbrev S64x128 : Shape := ⟨2, ![64, 128]⟩
abbrev S128x128 : Shape := ⟨2, ![128, 128]⟩
abbrev S640x128 : Shape := ⟨2, ![640, 128]⟩
abbrev S128x640 : Shape := ⟨2, ![128, 640]⟩
abbrev S1x640 : Shape := ⟨2, ![1, 640]⟩
abbrev S128 : Shape := ⟨1, ![128]⟩
abbrev S128x1 : Shape := ⟨2, ![128, 1]⟩

abbrev nBuf : Space → Nat
  | .hbm => 42
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S16x513, .f32⟩
  | .hbm, ⟨3, _⟩ => ⟨S8192x1024, .f32⟩
  | .hbm, ⟨4, _⟩ => ⟨S64, .i32⟩
  | .hbm, ⟨5, _⟩ => ⟨S64x1, .i32⟩
  | .hbm, ⟨6, _⟩ => ⟨S_, .i32⟩
  | .hbm, ⟨7, _⟩ => ⟨S64x1, .i32⟩
  | .hbm, ⟨8, _⟩ => ⟨S64x1, .i32⟩
  | .hbm, ⟨9, _⟩ => ⟨S576, .i32⟩
  | .hbm, ⟨10, _⟩ => ⟨S1x576, .i32⟩
  | .hbm, ⟨11, _⟩ => ⟨S64x576, .i32⟩
  | .hbm, ⟨12, _⟩ => ⟨S64x576, .i32⟩
  | .hbm, ⟨13, _⟩ => ⟨S64x576, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S64x576, .i32⟩
  | .hbm, ⟨18, _⟩ => ⟨S64x576, .i32⟩
  | .hbm, ⟨19, _⟩ => ⟨S_, .i32⟩
  | .hbm, ⟨20, _⟩ => ⟨S64x576, .i32⟩
  | .hbm, ⟨21, _⟩ => ⟨S64x576, .i32⟩
  | .hbm, ⟨22, _⟩ => ⟨S_, .i32⟩
  | .hbm, ⟨23, _⟩ => ⟨S64x576, .i32⟩
  | .hbm, ⟨24, _⟩ => ⟨S64x576, .i32⟩
  | .hbm, ⟨25, _⟩ => ⟨S_, .i32⟩
  | .hbm, ⟨26, _⟩ => ⟨S64x576, .i32⟩
  | .hbm, ⟨27, _⟩ => ⟨S64x576, .i1⟩
  | .hbm, ⟨28, _⟩ => ⟨S_, .i32⟩
  | .hbm, ⟨29, _⟩ => ⟨S64x576, .i32⟩
  | .hbm, ⟨30, _⟩ => ⟨S64x576, .i32⟩
  | .hbm, ⟨31, _⟩ => ⟨S64x576, .i32⟩
  | .hbm, ⟨32, _⟩ => ⟨S64x576x1, .i32⟩
  | .hbm, ⟨33, _⟩ => ⟨S16x64x576, .f32⟩
  | .hbm, ⟨34, _⟩ => ⟨S_, .f32⟩
  | .hbm, ⟨35, _⟩ => ⟨S_, .f32⟩
  | .hbm, ⟨36, _⟩ => ⟨S16x64x640, .f32⟩
  | .hbm, ⟨37, _⟩ => ⟨S8x128x640, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8x128x640, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x128x640, .f32⟩
  | .local _ .vmem, ⟨11, _⟩ => ⟨S1x128x640, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S1x128x640, .f32⟩
  | .local _ .vmem, ⟨21, _⟩ => ⟨S1x128x640, .f32⟩
  | .local _ .vmem, ⟨22, _⟩ => ⟨S1088x128, .bf16⟩
  | .local _ .vmem, ⟨23, _⟩ => ⟨S1088x128, .bf16⟩
  | .local _ .vmem, ⟨24, _⟩ => ⟨S1088x128, .f32⟩
  | .local _ .vmem, ⟨25, _⟩ => ⟨S1088x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_c_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_call1_v0 : Ref sig .tc := ⟨.hbm, 35, rfl⟩
abbrev main_v19 : Ref sig .tc := ⟨.hbm, 36, rfl⟩
abbrev main_v20 : Ref sig .tc := ⟨.hbm, 37, rfl⟩
abbrev main_v21_0 : Ref sig .tc := ⟨.hbm, 38, rfl⟩
abbrev main_v21_1 : Ref sig .tc := ⟨.hbm, 39, rfl⟩
abbrev main_v21_2 : Ref sig .tc := ⟨.hbm, 40, rfl⟩
abbrev main_v21_3 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.subi c14_i32 arg1
  let c0_i32 : BitVec 32 := 0#32
  let v1 : BitVec 32 := Scalar.maxsi v0 c0_i32
  let c0_i32_0 : BitVec 32 := 0#32
  ![v1.toNat, arg0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.subi c14_i32 arg1
  let c0_i32 : BitVec 32 := 0#32
  let v1 : BitVec 32 := Scalar.maxsi v0 c0_i32
  let c8_i32 : BitVec 32 := 8#32
  let v2 : BitVec 32 := Scalar.addi c8_i32 arg0
  let c0_i32_0 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c8_i32 : BitVec 32 := 8#32
  let v1 : BitVec 32 := Scalar.addi c8_i32 arg0
  let c0_i32 : BitVec 32 := 0#32
  ![v0.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x640 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8192x1024 : Shape := ⟨2, ![8192, 1024]⟩
abbrev S8192x2048 : Shape := ⟨2, ![8192, 2048]⟩
abbrev S16x513 : Shape := ⟨2, ![16, 513]⟩
abbrev S64 : Shape := ⟨1, ![64]⟩
abbrev S64x1 : Shape := ⟨2, ![64, 1]⟩
abbrev S_ : Shape := ⟨0, ![]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S512x16x64 : Shape := ⟨3, ![512, 16, 64]⟩
abbrev S8192x16x64 : Shape := ⟨3, ![8192, 16, 64]⟩
abbrev S8704x16x64 : Shape := ⟨3, ![8704, 16, 64]⟩
abbrev S136x64x16x64 : Shape := ⟨4, ![136, 64, 16, 64]⟩
abbrev S128x64x16x64 : Shape := ⟨4, ![128, 64, 16, 64]⟩
abbrev S128x576x16x64 : Shape := ⟨4, ![128, 576, 16, 64]⟩
abbrev S128x16x64x576 : Shape := ⟨4, ![128, 16, 64, 576]⟩
abbrev S1x16x64x576 : Shape := ⟨4, ![1, 16, 64, 576]⟩
abbrev S128 : Shape := ⟨1, ![128]⟩
abbrev S128x1 : Shape := ⟨2, ![128, 1]⟩
abbrev S128x576 : Shape := ⟨2, ![128, 576]⟩
abbrev S128x1x1x576 : Shape := ⟨4, ![128, 1, 1, 576]⟩
abbrev S128x16x64 : Shape := ⟨3, ![128, 16, 64]⟩
abbrev S128x16x64x1 : Shape := ⟨4, ![128, 16, 64, 1]⟩
abbrev S128x16x64x64 : Shape := ⟨4, ![128, 16, 64, 64]⟩
abbrev S128x16x576x64 : Shape := ⟨4, ![128, 16, 576, 64]⟩
abbrev S16x64x640 : Shape := ⟨3, ![16, 64, 640]⟩
abbrev S8x128x640 : Shape := ⟨3, ![8, 128, 640]⟩

abbrev nBuf : Space → Nat
  | .hbm => 255
  | .vmem => 0
  | .smem => 0
  | _ => 0

abbrev hbmTy0_0 (i : Nat) : BufTy := match i % 128 with
  | 0 => ⟨S8192x1024, .f32⟩
  | 1 => ⟨S8192x2048, .f32⟩
  | 2 => ⟨S16x513, .f32⟩
  | 3 => ⟨S8192x1024, .f32⟩
  | 4 => ⟨S64, .i32⟩
  | 5 => ⟨S64x1, .i32⟩
  | 6 => ⟨S_, .i32⟩
  | 7 => ⟨S64x1, .i32⟩
  | 8 => ⟨S64x1, .i32⟩
  | 9 => ⟨S576, .i32⟩
  | 10 => ⟨S1x576, .i32⟩
  | 11 => ⟨S64x576, .i32⟩
  | 12 => ⟨S64x576, .i32⟩
  | 13 => ⟨S64x576, .i32⟩
  | 14 => ⟨S_, .i32⟩
  | 15 => ⟨S_, .i32⟩
  | 16 => ⟨S_, .i32⟩
  | 17 => ⟨S64x576, .i32⟩
  | 18 => ⟨S64x576, .i32⟩
  | 19 => ⟨S_, .i32⟩
  | 20 => ⟨S64x576, .i32⟩
  | 21 => ⟨S64x576, .i32⟩
  | 22 => ⟨S_, .i32⟩
  | 23 => ⟨S64x576, .i32⟩
  | 24 => ⟨S64x576, .i32⟩
  | 25 => ⟨S_, .i32⟩
  | 26 => ⟨S64x576, .i32⟩
  | 27 => ⟨S64x576, .i1⟩
  | 28 => ⟨S_, .i32⟩
  | 29 => ⟨S64x576, .i32⟩
  | 30 => ⟨S64x576, .i32⟩
  | 31 => ⟨S64x576, .i32⟩
  | 32 => ⟨S64x576x1, .i32⟩
  | 33 => ⟨S16x64x576, .f32⟩
  | 34 => ⟨S8192x1024, .f32⟩
  | 35 => ⟨S8192x1024, .f32⟩
  | 36 => ⟨S_, .f32⟩
  | 37 => ⟨S512x16x64, .f32⟩
  | 38 => ⟨S8192x16x64, .f32⟩
  | 39 => ⟨S8704x16x64, .f32⟩
  | 40 => ⟨S_, .f32⟩
  | 41 => ⟨S512x16x64, .f32⟩
  | 42 => ⟨S136x64x16x64, .f32⟩
  | 43 => ⟨S8192x16x64, .f32⟩
  | 44 => ⟨S8704x16x64, .f32⟩
  | 45 => ⟨S_, .f32⟩
  | 46 => ⟨S512x16x64, .f32⟩
  | 47 => ⟨S136x64x16x64, .f32⟩
  | 48 => ⟨S128x64x16x64, .f32⟩
  | 49 => ⟨S128x64x16x64, .f32⟩
  | 50 => ⟨S128x64x16x64, .f32⟩
  | 51 => ⟨S128x64x16x64, .f32⟩
  | 52 => ⟨S128x64x16x64, .f32⟩
  | 53 => ⟨S128x64x16x64, .f32⟩
  | 54 => ⟨S128x64x16x64, .f32⟩
  | 55 => ⟨S128x64x16x64, .f32⟩
  | 56 => ⟨S128x64x16x64, .f32⟩
  | 57 => ⟨S128x576x16x64, .f32⟩
  | 58 => ⟨S128x64x16x64, .f32⟩
  | 59 => ⟨S128x64x16x64, .f32⟩
  | 60 => ⟨S128x64x16x64, .f32⟩
  | 61 => ⟨S128x64x16x64, .f32⟩
  | 62 => ⟨S128x64x16x64, .f32⟩
  | 63 => ⟨S128x64x16x64, .f32⟩
  | 64 => ⟨S128x64x16x64, .f32⟩
  | 65 => ⟨S128x64x16x64, .f32⟩
  | 66 => ⟨S128x64x16x64, .f32⟩
  | 67 => ⟨S128x576x16x64, .f32⟩
  | 68 => ⟨S128x64x16x64, .f32⟩
  | 69 => ⟨S128x16x64x576, .f32⟩
  | 70 => ⟨S_, .f32⟩
  | 71 => ⟨S128x16x64x576, .f32⟩
  | 72 => ⟨S128x16x64x576, .f32⟩
  | 73 => ⟨S1x16x64x576, .f32⟩
  | 74 => ⟨S128x16x64x576, .f32⟩
  | 75 => ⟨S128x16x64x576, .f32⟩
  | 76 => ⟨S576, .i32⟩
  | 77 => ⟨S1x576, .i32⟩
  | 78 => ⟨S128, .i32⟩
  | 79 => ⟨S128x1, .i32⟩
  | 80 => ⟨S_, .i32⟩
  | 81 => ⟨S128x1, .i32⟩
  | 82 => ⟨S128x1, .i32⟩
  | 83 => ⟨S_, .i32⟩
  | 84 => ⟨S128x1, .i32⟩
  | 85 => ⟨S128x1, .i32⟩
  | 86 => ⟨S128x576, .i32⟩
  | 87 => ⟨S128x576, .i32⟩
  | 88 => ⟨S128x576, .i1⟩
  | 89 => ⟨S128x1x1x576, .i1⟩
  | 90 => ⟨S_, .f32⟩
  | 91 => ⟨S_, .f32⟩
  | 92 => ⟨S128x16x64x576, .i1⟩
  | 93 => ⟨S128x16x64x576, .f32⟩
  | 94 => ⟨S128x16x64x576, .f32⟩
  | 95 => ⟨S_, .f32⟩
  | 96 => ⟨S128x16x64x576, .f32⟩
  | 97 => ⟨S_, .f32⟩
  | 98 => ⟨S128x16x64, .f32⟩
  | 99 => ⟨S128x16x64x1, .f32⟩
  | 100 => ⟨S128x16x64x576, .f32⟩
  | 101 => ⟨S128x16x64x576, .i1⟩
  | 102 => ⟨S128x16x64x576, .f32⟩
  | 103 => ⟨S_, .f32⟩
  | 104 => ⟨S128x16x64, .f32⟩
  | 105 => ⟨S_, .f32⟩
  | 106 => ⟨S128x16x64, .f32⟩
  | 107 => ⟨S128x16x64, .f32⟩
  | 108 => ⟨S_, .f32⟩
  | 109 => ⟨S128x16x64, .f32⟩
  | 110 => ⟨S128x16x64, .i1⟩
  | 111 => ⟨S_, .f32⟩
  | 112 => ⟨S128x16x64, .f32⟩
  | 113 => ⟨S128x16x64, .i1⟩
  | 114 => ⟨S_, .f32⟩
  | 115 => ⟨S128x16x64, .f32⟩
  | 116 => ⟨S_, .f32⟩
  | 117 => ⟨S128x16x64, .f32⟩
  | 118 => ⟨S_, .f32⟩
  | 119 => ⟨S128x16x64, .f32⟩
  | 120 => ⟨S128x16x64, .f32⟩
  | 121 => ⟨S128x16x64, .f32⟩
  | 122 => ⟨S128x16x64x1, .f32⟩
  | 123 => ⟨S128x16x64x576, .f32⟩
  | 124 => ⟨S128x16x64x576, .f32⟩
  | 125 => ⟨S128x16x64x576, .f32⟩
  | 126 => ⟨S_, .f32⟩
  | 127 => ⟨S128x16x64, .f32⟩
  | _ => ⟨S8192x1024, .f32⟩

abbrev hbmTy0_1 (i : Nat) : BufTy := match i % 128 with
  | 0 => ⟨S128x16x64x1, .f32⟩
  | 1 => ⟨S128x16x64x576, .f32⟩
  | 2 => ⟨S128x16x64x576, .f32⟩
  | 3 => ⟨S128x16x64x1, .f32⟩
  | 4 => ⟨S_, .f32⟩
  | 5 => ⟨S128x16x64x1, .f32⟩
  | 6 => ⟨S128x16x64x1, .f32⟩
  | 7 => ⟨S128x16x64x64, .f32⟩
  | 8 => ⟨S128x64x16x64, .f32⟩
  | 9 => ⟨S8192x1024, .f32⟩
  | 10 => ⟨S128x64x16x64, .f32⟩
  | 11 => ⟨S128x16x64x64, .f32⟩
  | 12 => ⟨S128x16x64x576, .f32⟩
  | 13 => ⟨S128x16x64x576, .f32⟩
  | 14 => ⟨S128x576x16x64, .f32⟩
  | 15 => ⟨S128x16x64x576, .f32⟩
  | 16 => ⟨S128x16x64x576, .f32⟩
  | 17 => ⟨S128x16x64x576, .f32⟩
  | 18 => ⟨S_, .f32⟩
  | 19 => ⟨S128x16x64, .f32⟩
  | 20 => ⟨S128x16x64x1, .f32⟩
  | 21 => ⟨S128x16x64x1, .f32⟩
  | 22 => ⟨S128x16x64x576, .f32⟩
  | 23 => ⟨S128x16x64x576, .f32⟩
  | 24 => ⟨S_, .f32⟩
  | 25 => ⟨S128x16x64, .f32⟩
  | 26 => ⟨S128x16x64x576, .f32⟩
  | 27 => ⟨S128x16x64x576, .f32⟩
  | 28 => ⟨S128x16x64x576, .f32⟩
  | 29 => ⟨S_, .f32⟩
  | 30 => ⟨S128x16x64x576, .f32⟩
  | 31 => ⟨S128x16x64x576, .f32⟩
  | 32 => ⟨S_, .f32⟩
  | 33 => ⟨S16x64x576, .f32⟩
  | 34 => ⟨S1x16x64x576, .f32⟩
  | 35 => ⟨S_, .f32⟩
  | 36 => ⟨S16x64x576, .f32⟩
  | 37 => ⟨S_, .f32⟩
  | 38 => ⟨S128x16x64x576, .f32⟩
  | 39 => ⟨S128x16x64x576, .f32⟩
  | 40 => ⟨S128x16x576x64, .f32⟩
  | 41 => ⟨S128x576x16x64, .f32⟩
  | 42 => ⟨S128x16x64x64, .f32⟩
  | 43 => ⟨S128x64x16x64, .f32⟩
  | 44 => ⟨S8192x1024, .f32⟩
  | 45 => ⟨S128x64x16x64, .f32⟩
  | 46 => ⟨S128x64x16x64, .f32⟩
  | 47 => ⟨S128x64x16x64, .f32⟩
  | 48 => ⟨S128x64x16x64, .f32⟩
  | 49 => ⟨S128x64x16x64, .f32⟩
  | 50 => ⟨S128x64x16x64, .f32⟩
  | 51 => ⟨S128x64x16x64, .f32⟩
  | 52 => ⟨S128x64x16x64, .f32⟩
  | 53 => ⟨S128x64x16x64, .f32⟩
  | 54 => ⟨S_, .f32⟩
  | 55 => ⟨S136x64x16x64, .f32⟩
  | 56 => ⟨S_, .f32⟩
  | 57 => ⟨S136x64x16x64, .f32⟩
  | 58 => ⟨S136x64x16x64, .f32⟩
  | 59 => ⟨S_, .f32⟩
  | 60 => ⟨S136x64x16x64, .f32⟩
  | 61 => ⟨S136x64x16x64, .f32⟩
  | 62 => ⟨S_, .f32⟩
  | 63 => ⟨S136x64x16x64, .f32⟩
  | 64 => ⟨S136x64x16x64, .f32⟩
  | 65 => ⟨S_, .f32⟩
  | 66 => ⟨S136x64x16x64, .f32⟩
  | 67 => ⟨S136x64x16x64, .f32⟩
  | 68 => ⟨S_, .f32⟩
  | 69 => ⟨S136x64x16x64, .f32⟩
  | 70 => ⟨S136x64x16x64, .f32⟩
  | 71 => ⟨S_, .f32⟩
  | 72 => ⟨S136x64x16x64, .f32⟩
  | 73 => ⟨S136x64x16x64, .f32⟩
  | 74 => ⟨S_, .f32⟩
  | 75 => ⟨S136x64x16x64, .f32⟩
  | 76 => ⟨S136x64x16x64, .f32⟩
  | 77 => ⟨S_, .f32⟩
  | 78 => ⟨S136x64x16x64, .f32⟩
  | 79 => ⟨S136x64x16x64, .f32⟩
  | 80 => ⟨S128x64x16x64, .f32⟩
  | 81 => ⟨S128x64x16x64, .f32⟩
  | 82 => ⟨S128x64x16x64, .f32⟩
  | 83 => ⟨S128x64x16x64, .f32⟩
  | 84 => ⟨S128x64x16x64, .f32⟩
  | 85 => ⟨S128x64x16x64, .f32⟩
  | 86 => ⟨S128x64x16x64, .f32⟩
  | 87 => ⟨S128x64x16x64, .f32⟩
  | 88 => ⟨S128x64x16x64, .f32⟩
  | 89 => ⟨S_, .f32⟩
  | 90 => ⟨S136x64x16x64, .f32⟩
  | 91 => ⟨S_, .f32⟩
  | 92 => ⟨S136x64x16x64, .f32⟩
  | 93 => ⟨S136x64x16x64, .f32⟩
  | 94 => ⟨S_, .f32⟩
  | 95 => ⟨S136x64x16x64, .f32⟩
  | 96 => ⟨S136x64x16x64, .f32⟩
  | 97 => ⟨S_, .f32⟩
  | 98 => ⟨S136x64x16x64, .f32⟩
  | 99 => ⟨S136x64x16x64, .f32⟩
  | 100 => ⟨S_, .f32⟩
  | 101 => ⟨S136x64x16x64, .f32⟩
  | 102 => ⟨S136x64x16x64, .f32⟩
  | 103 => ⟨S_, .f32⟩
  | 104 => ⟨S136x64x16x64, .f32⟩
  | 105 => ⟨S136x64x16x64, .f32⟩
  | 106 => ⟨S_, .f32⟩
  | 107 => ⟨S136x64x16x64, .f32⟩
  | 108 => ⟨S136x64x16x64, .f32⟩
  | 109 => ⟨S_, .f32⟩
  | 110 => ⟨S136x64x16x64, .f32⟩
  | 111 => ⟨S136x64x16x64, .f32⟩
  | 112 => ⟨S_, .f32⟩
  | 113 => ⟨S136x64x16x64, .f32⟩
  | 114 => ⟨S136x64x16x64, .f32⟩
  | 115 => ⟨S8704x16x64, .f32⟩
  | 116 => ⟨S512x16x64, .f32⟩
  | 117 => ⟨S8192x16x64, .f32⟩
  | 118 => ⟨S8192x1024, .f32⟩
  | 119 => ⟨S8704x16x64, .f32⟩
  | 120 => ⟨S512x16x64, .f32⟩
  | 121 => ⟨S8192x16x64, .f32⟩
  | 122 => ⟨S8192x1024, .f32⟩
  | 123 => ⟨S_, .i32⟩
  | 124 => ⟨S_, .f32⟩
  | 125 => ⟨S16x64x640, .f32⟩
  | 126 => ⟨S8x128x640, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_c_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c_8 : Ref sig .tc := ⟨.hbm, 80, rfl⟩
abbrev main_v61 : Ref sig .tc := ⟨.hbm, 81, rfl⟩
abbrev main_v62 : Ref sig .tc := ⟨.hbm, 82, rfl⟩
abbrev main_c_9 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_10 : Ref sig .tc := ⟨.hbm, 90, rfl⟩
abbrev main_call1_v0 : Ref sig .tc := ⟨.hbm, 91, rfl⟩
abbrev main_v69_1 : Ref sig .tc := ⟨.hbm, 92, rfl⟩
abbrev main_call1_v2 : Ref sig .tc := ⟨.hbm, 93, rfl⟩
abbrev main_v69_0 : Ref sig .tc := ⟨.hbm, 94, rfl⟩
abbrev main_call1_cst : Ref sig .tc := ⟨.hbm, 95, rfl⟩
abbrev main_v69_2 : Ref sig .tc := ⟨.hbm, 96, rfl⟩
abbrev main_cst_11 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_12 : Ref sig .tc := ⟨.hbm, 103, rfl⟩
abbrev main_v75 : Ref sig .tc := ⟨.hbm, 104, rfl⟩
abbrev main_cst_13 : Ref sig .tc := ⟨.hbm, 105, rfl⟩
abbrev main_v76 : Ref sig .tc := ⟨.hbm, 106, rfl⟩
abbrev main_v77 : Ref sig .tc := ⟨.hbm, 107, rfl⟩
abbrev main_cst_14 : Ref sig .tc := ⟨.hbm, 108, rfl⟩
abbrev main_v78 : Ref sig .tc := ⟨.hbm, 109, rfl⟩
abbrev main_v79 : Ref sig .tc := ⟨.hbm, 110, rfl⟩
abbrev main_cst_15 : Ref sig .tc := ⟨.hbm, 111, rfl⟩
abbrev main_v80 : Ref sig .tc := ⟨.hbm, 112, rfl⟩
abbrev main_v81 : Ref sig .tc := ⟨.hbm, 113, rfl⟩
abbrev main_cst_16 : Ref sig .tc := ⟨.hbm, 114, rfl⟩
abbrev main_v82 : Ref sig .tc := ⟨.hbm, 115, rfl⟩
abbrev main_cst_17 : Ref sig .tc := ⟨.hbm, 116, rfl⟩
abbrev main_v83 : Ref sig .tc := ⟨.hbm, 117, rfl⟩
abbrev main_cst_18 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_19 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_20 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_21 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_22 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_call2_cst : Ref sig .tc := ⟨.hbm, 157, rfl⟩
abbrev main_call2_v0 : Ref sig .tc := ⟨.hbm, 158, rfl⟩
abbrev main_v118 : Ref sig .tc := ⟨.hbm, 159, rfl⟩
abbrev main_cst_23 : Ref sig .tc := ⟨.hbm, 160, rfl⟩
abbrev main_v119 : Ref sig .tc := ⟨.hbm, 161, rfl⟩
abbrev main_v120 : Ref sig .tc := ⟨.hbm, 162, rfl⟩
abbrev main_cst_24 : Ref sig .tc := ⟨.hbm, 163, rfl⟩
abbrev main_v121 : Ref sig .tc := ⟨.hbm, 164, rfl⟩
abbrev main_cst_25 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_cst_26 : Ref sig .tc := ⟨.hbm, 182, rfl⟩
abbrev main_v138 : Ref sig .tc := ⟨.hbm, 183, rfl⟩
abbrev main_cst_27 : Ref sig .tc := ⟨.hbm, 184, rfl⟩
abbrev main_v139 : Ref sig .tc := ⟨.hbm, 185, rfl⟩
abbrev main_v140 : Ref sig .tc := ⟨.hbm, 186, rfl⟩
abbrev main_cst_28 : Ref sig .tc := ⟨.hbm, 187, rfl⟩
abbrev main_v141 : Ref sig .tc := ⟨.hbm, 188, rfl⟩
abbrev main_v142 : Ref sig .tc := ⟨.hbm, 189, rfl⟩
abbrev main_cst_29 : Ref sig .tc := ⟨.hbm, 190, rfl⟩
abbrev main_v143 : Ref sig .tc := ⟨.hbm, 191, rfl⟩
abbrev main_v144 : Ref sig .tc := ⟨.hbm, 192, rfl⟩
abbrev main_cst_30 : Ref sig .tc := ⟨.hbm, 193, rfl⟩
abbrev main_v145 : Ref sig .tc := ⟨.hbm, 194, rfl⟩
abbrev main_v146 : Ref sig .tc := ⟨.hbm, 195, rfl⟩
abbrev main_cst_31 : Ref sig .tc := ⟨.hbm, 196, rfl⟩
abbrev main_v147 : Ref sig .tc := ⟨.hbm, 197, rfl⟩
abbrev main_v148 : Ref sig .tc := ⟨.hbm, 198, rfl⟩
abbrev main_cst_32 : Ref sig .tc := ⟨.hbm, 199, rfl⟩
abbrev main_v149 : Ref sig .tc := ⟨.hbm, 200, rfl⟩
abbrev main_v150 : Ref sig .tc := ⟨.hbm, 201, rfl⟩
abbrev main_cst_33 : Ref sig .tc := ⟨.hbm, 202, rfl⟩
abbrev main_v151 : Ref sig .tc := ⟨.hbm, 203, rfl⟩
abbrev main_v152 : Ref sig .tc := ⟨.hbm, 204, rfl⟩
abbrev main_cst_34 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_cst_35 : Ref sig .tc := ⟨.hbm, 217, rfl⟩
abbrev main_v164 : Ref sig .tc := ⟨.hbm, 218, rfl⟩
abbrev main_cst_36 : Ref sig .tc := ⟨.hbm, 219, rfl⟩
abbrev main_v165 : Ref sig .tc := ⟨.hbm, 220, rfl⟩
abbrev main_v166 : Ref sig .tc := ⟨.hbm, 221, rfl⟩
abbrev main_cst_37 : Ref sig .tc := ⟨.hbm, 222, rfl⟩
abbrev main_v167 : Ref sig .tc := ⟨.hbm, 223, rfl⟩
abbrev main_v168 : Ref sig .tc := ⟨.hbm, 224, rfl⟩
abbrev main_cst_38 : Ref sig .tc := ⟨.hbm, 225, rfl⟩
abbrev main_v169 : Ref sig .tc := ⟨.hbm, 226, rfl⟩
abbrev main_v170 : Ref sig .tc := ⟨.hbm, 227, rfl⟩
abbrev main_cst_39 : Ref sig .tc := ⟨.hbm, 228, rfl⟩
abbrev main_v171 : Ref sig .tc := ⟨.hbm, 229, rfl⟩
abbrev main_v172 : Ref sig .tc := ⟨.hbm, 230, rfl⟩
abbrev main_cst_40 : Ref sig .tc := ⟨.hbm, 231, rfl⟩
abbrev main_v173 : Ref sig .tc := ⟨.hbm, 232, rfl⟩
abbrev main_v174 : Ref sig .tc := ⟨.hbm, 233, rfl⟩
abbrev main_cst_41 : Ref sig .tc := ⟨.hbm, 234, rfl⟩
abbrev main_v175 : Ref sig .tc := ⟨.hbm, 235, rfl⟩
abbrev main_v176 : Ref sig .tc := ⟨.hbm, 236, rfl⟩
abbrev main_cst_42 : Ref sig .tc := ⟨.hbm, 237, rfl⟩
abbrev main_v177 : Ref sig .tc := ⟨.hbm, 238, rfl⟩
abbrev main_v178 : Ref sig .tc := ⟨.hbm, 239, rfl⟩
abbrev main_cst_43 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_c_44 : Ref sig .tc := ⟨.hbm, 251, rfl⟩
abbrev main_call3_v0 : Ref sig .tc := ⟨.hbm, 252, rfl⟩
abbrev main_v189 : Ref sig .tc := ⟨.hbm, 253, rfl⟩
abbrev main_v190 : Ref sig .tc := ⟨.hbm, 254, rfl⟩

abbrev nD : Nat := 1
abbrev τ : Topo := Topo.v7x

variable {F : FTy → Type} [FloatOps F]

def κ : String → Option EReal := fun
  | "mask" => some ⊥
  | _ => none
-- ==== UpWgrad.lean ====
abbrev S8192x1024 : Shape := ⟨2, ![8192, 1024]⟩
abbrev S1x1024 : Shape := ⟨2, ![1, 1024]⟩
abbrev S8192x5632 : Shape := ⟨2, ![8192, 5632]⟩
abbrev S5632x1024 : Shape := ⟨2, ![5632, 1024]⟩
abbrev S2048x1024 : Shape := ⟨2, ![2048, 1024]⟩
abbrev S2048x1408 : Shape := ⟨2, ![2048, 1408]⟩
abbrev S1408x1024 : Shape := ⟨2, ![1408, 1024]⟩
abbrev S2048 : Shape := ⟨1, ![2048]⟩
abbrev S2048x1 : Shape := ⟨2, ![2048, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x5632, .bf16⟩
  | .hbm, ⟨3, _⟩ => ⟨S5632x1024, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S2048x1408, .bf16⟩
  | .local _ .vmem, ⟨4, _⟩ => ⟨S2048x1408, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v25 : BitVec 1 := Scalar.cmpi .eq arg1 c3_i32
  let v26 : BitVec 32 := Scalar.extui v25
  let c0_i32_13 : BitVec 32 := 0#32
  let v27 : BitVec 1 := Scalar.cmpi .ne v26 c0_i32_13
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== UpWgradReferenceIdeal.lean ====
abbrev S8192x1024 : Shape := ⟨2, ![8192, 1024]⟩
abbrev S1x1024 : Shape := ⟨2, ![1, 1024]⟩
abbrev S8192x5632 : Shape := ⟨2, ![8192, 5632]⟩
abbrev S_ : Shape := ⟨0, ![]⟩
abbrev S5632x1024 : Shape := ⟨2, ![5632, 1024]⟩
abbrev S8192 : Shape := ⟨1, ![8192]⟩
abbrev S8192x1 : Shape := ⟨2, ![8192, 1]⟩
abbrev S1024x5632 : Shape := ⟨2, ![1024, 5632]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x5632, .bf16⟩
  | .hbm, ⟨3, _⟩ => ⟨S_, .f32⟩
  | .hbm, ⟨4, _⟩ => ⟨S5632x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S1024x5632, .f32⟩
  | .hbm, ⟨21, _⟩ => ⟨S8192x5632, .f32⟩
  | .hbm, ⟨22, _⟩ => ⟨S8192x5632, .f32⟩
  | .hbm, ⟨23, _⟩ => ⟨S5632x1024, .f32⟩
  | .hbm, ⟨24, _⟩ => ⟨S1024x5632, .f32⟩
  | .hbm, ⟨25, _⟩ => ⟨S5632x1024, .f32⟩
  | .hbm, ⟨26, _⟩ => ⟨S5632x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== DownWgrad.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWgradReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpProj.lean ====
abbrev S8192x1024 : Shape := ⟨2, ![8192, 1024]⟩
abbrev S1x1024 : Shape := ⟨2, ![1, 1024]⟩
abbrev S5632x1024 : Shape := ⟨2, ![5632, 1024]⟩
abbrev S8192x5632 : Shape := ⟨2, ![8192, 5632]⟩
abbrev S1024x1024 : Shape := ⟨2, ![1024, 1024]⟩
abbrev S2816x1024 : Shape := ⟨2, ![2816, 1024]⟩
abbrev S1024x2816 : Shape := ⟨2, ![1024, 2816]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S5632x1024, .bf16⟩
  | .hbm, ⟨3, _⟩ => ⟨S8192x5632, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S1024x2816, .bf16⟩
  | .local _ .vmem, ⟨6, _⟩ => ⟨S1024x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpProjReferenceIdeal.lean ====
abbrev S8192x1024 : Shape := ⟨2, ![8192, 1024]⟩
abbrev S1x1024 : Shape := ⟨2, ![1, 1024]⟩
abbrev S5632x1024 : Shape := ⟨2, ![5632, 1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S8192x5632 : Shape := ⟨2, ![8192, 5632]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S5632x1024, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S5632x1024, .f32⟩
  | .hbm, ⟨19, _⟩ => ⟨S1024x5632, .f32⟩
  | .hbm, ⟨20, _⟩ => ⟨S8192x5632, .f32⟩
  | .hbm, ⟨21, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== InProj.lean ====
abbrev S8192x1024 : Shape := ⟨2, ![8192, 1024]⟩
abbrev S1x1024 : Shape := ⟨2, ![1, 1024]⟩
abbrev S1024x4224 : Shape := ⟨2, ![1024, 4224]⟩
abbrev S8192x4224 : Shape := ⟨2, ![8192, 4224]⟩
abbrev S512x1024 : Shape := ⟨2, ![512, 1024]⟩
abbrev S512x4224 : Shape := ⟨2, ![512, 4224]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4224, .bf16⟩
  | .hbm, ⟨3, _⟩ => ⟨S8192x4224, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4224, .bf16⟩
  | .local _ .vmem, ⟨4, _⟩ => ⟨S512x4224, .f32⟩
  | .local _ .vmem, ⟨5, _⟩ => ⟨S512x4224, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x4224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjReferenceIdeal.lean ====
abbrev S8192x1024 : Shape := ⟨2, ![8192, 1024]⟩
abbrev S1x1024 : Shape := ⟨2, ![1, 1024]⟩
abbrev S1024x4224 : Shape := ⟨2, ![1024, 4224]⟩
abbrev S_ : Shape := ⟨0, ![]⟩
abbrev S8192 : Shape := ⟨1, ![8192]⟩
abbrev S8192x1 : Shape := ⟨2, ![8192, 1]⟩
abbrev S8192x4224 : Shape := ⟨2, ![8192, 4224]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4224, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x4224, .f32⟩
  | .hbm, ⟨19, _⟩ => ⟨S8192x4224, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== QkvWgrad.lean ====
abbrev S8192x1024 : Shape := ⟨2, ![8192, 1024]⟩
abbrev S1x1024 : Shape := ⟨2, ![1, 1024]⟩
abbrev S8192x3072 : Shape := ⟨2, ![8192, 3072]⟩
abbrev S1024x3072 : Shape := ⟨2, ![1024, 3072]⟩
abbrev S1024x1024 : Shape := ⟨2, ![1024, 1024]⟩
abbrev S1024x1536 : Shape := ⟨2, ![1024, 1536]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x3072, .f32⟩
  | .hbm, ⟨3, _⟩ => ⟨S1024x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .f32⟩
  | .local _ .vmem, ⟨4, _⟩ => ⟨S1024x1536, .f32⟩
  | .local _ .vmem, ⟨5, _⟩ => ⟨S1024x1536, .bf16⟩
  | .local _ .vmem, ⟨6, _⟩ => ⟨S1024x1536, .bf16⟩
  | .local _ .vmem, ⟨7, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== QkvWgradReferenceIdeal.lean ====
abbrev S8192x1024 : Shape := ⟨2, ![8192, 1024]⟩
abbrev S1x1024 : Shape := ⟨2, ![1, 1024]⟩
abbrev S8192x3072 : Shape := ⟨2, ![8192, 3072]⟩
abbrev S_ : Shape := ⟨0, ![]⟩
abbrev S1024x3072 : Shape := ⟨2, ![1024, 3072]⟩
abbrev S8192 : Shape := ⟨1, ![8192]⟩
abbrev S8192x1 : Shape := ⟨2, ![8192, 1]⟩
abbrev S3072x1024 : Shape := ⟨2, ![3072, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x3072, .f32⟩
  | .hbm, ⟨3, _⟩ => ⟨S_, .f32⟩
  | .hbm, ⟨4, _⟩ => ⟨S1024x3072, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x3072, .f32⟩
  | .hbm, ⟨21, _⟩ => ⟨S3072x1024, .f32⟩
  | .hbm, ⟨22, _⟩ => ⟨S1024x3072, .f32⟩
  | .hbm, ⟨23, _⟩ => ⟨S1024x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== QWgrad.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== QWgradReferenceIdeal.lean ====
abbrev S8192x1024 : Shape := ⟨2, ![8192, 1024]⟩
abbrev S1x1024 : Shape := ⟨2, ![1, 1024]⟩
abbrev S_ : Shape := ⟨0, ![]⟩
abbrev S1024x1024 : Shape := ⟨2, ![1024, 1024]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1024x1024, .f32⟩
  | .hbm, ⟨22, _⟩ => ⟨S1024x1024, .f32⟩
  | .hbm, ⟨23, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KvWgrad.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== KvWgradReferenceIdeal.lean ====
abbrev S8192x1024 : Shape := ⟨2, ![8192, 1024]⟩
abbrev S1x1024 : Shape := ⟨2, ![1, 1024]⟩
abbrev S_ : Shape := ⟨0, ![]⟩
abbrev S1024x1024 : Shape := ⟨2, ![1024, 1024]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S1024x1024, .f32⟩
  | .hbm, ⟨21, _⟩ => ⟨S8192x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== AOutWgrad.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AOutWgradReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BOutWgrad.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BOutWgradReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KvProj.lean ====
abbrev S8192x1024 : Shape := ⟨2, ![8192, 1024]⟩
abbrev S1x1024 : Shape := ⟨2, ![1, 1024]⟩
abbrev S2048x1024 : Shape := ⟨2, ![2048, 1024]⟩
abbrev S8192x2048 : Shape := ⟨2, ![8192, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2048x1024, .bf16⟩
  | .hbm, ⟨3, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2048x1024, .bf16⟩
  | .local _ .vmem, ⟨4, _⟩ => ⟨S512x2048, .f32⟩
  | .local _ .vmem, ⟨5, _⟩ => ⟨S512x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvProjReferenceIdeal.lean ====
abbrev S8192x1024 : Shape := ⟨2, ![8192, 1024]⟩
abbrev S1x1024 : Shape := ⟨2, ![1, 1024]⟩
abbrev S2048x1024 : Shape := ⟨2, ![2048, 1024]⟩
abbrev S_ : Shape := ⟨0, ![]⟩
abbrev S8192 : Shape := ⟨1, ![8192]⟩
abbrev S8192x1 : Shape := ⟨2, ![8192, 1]⟩
abbrev S1024x2048 : Shape := ⟨2, ![1024, 2048]⟩
abbrev S8192x2048 : Shape := ⟨2, ![8192, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2048x1024, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S2048x1024, .f32⟩
  | .hbm, ⟨19, _⟩ => ⟨S1024x2048, .f32⟩
  | .hbm, ⟨20, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== QProj.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .bf16⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QProjReferenceIdeal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x1024, .f32⟩
  | .hbm, ⟨19, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== BOutProj.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== BOutProjReferenceIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== BOutDx.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BOutDxReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== BaWgrad.lean ====
abbrev S8192x1024 : Shape := ⟨2, ![8192, 1024]⟩
abbrev S1x1024 : Shape := ⟨2, ![1, 1024]⟩
abbrev S8192x128 : Shape := ⟨2, ![8192, 128]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x128, .f32⟩
  | .hbm, ⟨3, _⟩ => ⟨S1024x128, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .f32⟩
  | .local _ .vmem, ⟨4, _⟩ => ⟨S1024x128, .f32⟩
  | .local _ .vmem, ⟨5, _⟩ => ⟨S1024x128, .bf16⟩
  | .local _ .vmem, ⟨6, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== BaWgradReferenceIdeal.lean ====
abbrev S8192x1024 : Shape := ⟨2, ![8192, 1024]⟩
abbrev S1x1024 : Shape := ⟨2, ![1, 1024]⟩
abbrev S8192x128 : Shape := ⟨2, ![8192, 128]⟩
abbrev S_ : Shape := ⟨0, ![]⟩
abbrev S1024x128 : Shape := ⟨2, ![1024, 128]⟩
abbrev S8192 : Shape := ⟨1, ![8192]⟩
abbrev S8192x1 : Shape := ⟨2, ![8192, 1]⟩
abbrev S128x1024 : Shape := ⟨2, ![128, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x128, .f32⟩
  | .hbm, ⟨3, _⟩ => ⟨S_, .f32⟩
  | .hbm, ⟨4, _⟩ => ⟨S1024x128, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x128, .f32⟩
  | .hbm, ⟨21, _⟩ => ⟨S128x1024, .f32⟩
  | .hbm, ⟨22, _⟩ => ⟨S1024x128, .f32⟩
  | .hbm, ⟨23, _⟩ => ⟨S1024x128, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== QDx.lean ====
abbrev S8192x1024 : Shape := ⟨2, ![8192, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S1024x1024, .bf16⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== QDxReferenceIdeal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S1024x1024, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== KvDx.lean ====
abbrev S8192x1024 : Shape := ⟨2, ![8192, 1024]⟩
abbrev S1x1024 : Shape := ⟨2, ![1, 1024]⟩
abbrev S2048x1024 : Shape := ⟨2, ![2048, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S2048x1024, .bf16⟩
  | .hbm, ⟨6, _⟩ => ⟨S1024x1024, .bf16⟩
  | .hbm, ⟨7, _⟩ => ⟨S1024x1024, .bf16⟩
  | .hbm, ⟨8, _⟩ => ⟨S8192x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1024x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KvDxReferenceIdeal.lean ====
abbrev S8192x1024 : Shape := ⟨2, ![8192, 1024]⟩
abbrev S1x1024 : Shape := ⟨2, ![1, 1024]⟩
abbrev S2048x1024 : Shape := ⟨2, ![2048, 1024]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S2048x1024, .bf16⟩
  | .hbm, ⟨6, _⟩ => ⟨S2048x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1024x1024, .f32⟩
  | .hbm, ⟨27, _⟩ => ⟨S1024x1024, .f32⟩
  | .hbm, ⟨28, _⟩ => ⟨S8192x1024, .f32⟩
  | .hbm, ⟨29, _⟩ => ⟨S1024x1024, .f32⟩
  | .hbm, ⟨30, _⟩ => ⟨S1024x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== InDx.lean ====
abbrev S8192x1024 : Shape := ⟨2, ![8192, 1024]⟩
abbrev S1x1024 : Shape := ⟨2, ![1, 1024]⟩
abbrev S8192x3072 : Shape := ⟨2, ![8192, 3072]⟩
abbrev S8192x128 : Shape := ⟨2, ![8192, 128]⟩
abbrev S1024x4224 : Shape := ⟨2, ![1024, 4224]⟩
abbrev S1024x3072 : Shape := ⟨2, ![1024, 3072]⟩
abbrev S1024x1024 : Shape := ⟨2, ![1024, 1024]⟩
abbrev S1024x128 : Shape := ⟨2, ![1024, 128]⟩
abbrev S512x1024 : Shape := ⟨2, ![512, 1024]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩
abbrev S1024 : Shape := ⟨1, ![1024]⟩

abbrev nBuf : Space → Nat
  | .hbm => 12
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x3072, .f32⟩
  | .hbm, ⟨4, _⟩ => ⟨S8192x1024, .f32⟩
  | .hbm, ⟨5, _⟩ => ⟨S8192x128, .f32⟩
  | .hbm, ⟨6, _⟩ => ⟨S1024x4224, .bf16⟩
  | .hbm, ⟨7, _⟩ => ⟨S1024x3072, .bf16⟩
  | .hbm, ⟨8, _⟩ => ⟨S1024x1024, .bf16⟩
  | .hbm, ⟨9, _⟩ => ⟨S1024x128, .bf16⟩
  | .hbm, ⟨10, _⟩ => ⟨S8192x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x3072, .f32⟩
  | .local _ .vmem, ⟨6, _⟩ => ⟨S512x3072, .f32⟩
  | .local _ .vmem, ⟨7, _⟩ => ⟨S512x1024, .f32⟩
  | .local _ .vmem, ⟨8, _⟩ => ⟨S512x1024, .f32⟩
  | .local _ .vmem, ⟨9, _⟩ => ⟨S512x128, .f32⟩
  | .local _ .vmem, ⟨10, _⟩ => ⟨S512x128, .f32⟩
  | .local _ .vmem, ⟨11, _⟩ => ⟨S1024x3072, .bf16⟩
  | .local _ .vmem, ⟨12, _⟩ => ⟨S1024x1024, .bf16⟩
  | .local _ .vmem, ⟨13, _⟩ => ⟨S1024x128, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InDxReferenceIdeal.lean ====
abbrev S8192x1024 : Shape := ⟨2, ![8192, 1024]⟩
abbrev S1x1024 : Shape := ⟨2, ![1, 1024]⟩
abbrev S8192x3072 : Shape := ⟨2, ![8192, 3072]⟩
abbrev S8192x128 : Shape := ⟨2, ![8192, 128]⟩
abbrev S1024x4224 : Shape := ⟨2, ![1024, 4224]⟩
abbrev S_ : Shape := ⟨0, ![]⟩
abbrev S8192 : Shape := ⟨1, ![8192]⟩
abbrev S8192x1 : Shape := ⟨2, ![8192, 1]⟩
abbrev S1024x3072 : Shape := ⟨2, ![1024, 3072]⟩
abbrev S1024x1024 : Shape := ⟨2, ![1024, 1024]⟩
abbrev S1024x128 : Shape := ⟨2, ![1024, 128]⟩
abbrev S1024 : Shape := ⟨1, ![1024]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x3072, .f32⟩
  | .hbm, ⟨4, _⟩ => ⟨S8192x1024, .f32⟩
  | .hbm, ⟨5, _⟩ => ⟨S8192x128, .f32⟩
  | .hbm, ⟨6, _⟩ => ⟨S1024x4224, .bf16⟩
  | .hbm, ⟨7, _⟩ => ⟨S1024x4224, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1024x3072, .f32⟩
  | .hbm, ⟨28, _⟩ => ⟨S8192x3072, .f32⟩
  | .hbm, ⟨29, _⟩ => ⟨S1024x1024, .f32⟩
  | .hbm, ⟨30, _⟩ => ⟨S8192x1024, .f32⟩
  | .hbm, ⟨31, _⟩ => ⟨S1024x128, .f32⟩
  | .hbm, ⟨32, _⟩ => ⟨S8192x128, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== BwdAct.lean ====
abbrev S8192x1024 : Shape := ⟨2, ![8192, 1024]⟩
abbrev S8192x5632 : Shape := ⟨2, ![8192, 5632]⟩
abbrev S2816x1024 : Shape := ⟨2, ![2816, 1024]⟩
abbrev S1x5632 : Shape := ⟨2, ![1, 5632]⟩
abbrev S512x1024 : Shape := ⟨2, ![512, 1024]⟩
abbrev S512x5632 : Shape := ⟨2, ![512, 5632]⟩
abbrev S512x256 : Shape := ⟨2, ![512, 256]⟩
abbrev S256x1024 : Shape := ⟨2, ![256, 1024]⟩
abbrev S1x256 : Shape := ⟨2, ![1, 256]⟩
abbrev S256 : Shape := ⟨1, ![256]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S2816x1024, .bf16⟩
  | .hbm, ⟨3, _⟩ => ⟨S8192x5632, .bf16⟩
  | .hbm, ⟨4, _⟩ => ⟨S1x5632, .f32⟩
  | .local _ .vmem, ⟨0, _⟩ => ⟨S512x1024, .f32⟩
  | .local _ .vmem, ⟨1, _⟩ => ⟨S512x1024, .f32⟩
  | .local _ .vmem, ⟨2, _⟩ => ⟨S512x5632, .bf16⟩
  | .local _ .vmem, ⟨3, _⟩ => ⟨S512x5632, .bf16⟩
  | .local _ .vmem, ⟨4, _⟩ => ⟨S2816x1024, .bf16⟩
  | .local _ .vmem, ⟨5, _⟩ => ⟨S512x5632, .bf16⟩
  | .local _ .vmem, ⟨6, _⟩ => ⟨S512x5632, .bf16⟩
  | .local _ .vmem, ⟨7, _⟩ => ⟨S1x5632, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== BwdActReferenceIdeal.lean ====
abbrev S8192x1024 : Shape := ⟨2, ![8192, 1024]⟩
abbrev S8192x5632 : Shape := ⟨2, ![8192, 5632]⟩
abbrev S2816x1024 : Shape := ⟨2, ![2816, 1024]⟩
abbrev S8192x2816 : Shape := ⟨2, ![8192, 2816]⟩
abbrev S_ : Shape := ⟨0, ![]⟩
abbrev S5632 : Shape := ⟨1, ![5632]⟩
abbrev S1x5632 : Shape := ⟨2, ![1, 5632]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S2816x1024, .bf16⟩
  | .hbm, ⟨3, _⟩ => ⟨S8192x5632, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S2816x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x5632, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x5632, .f32⟩
  | .hbm, ⟨33, _⟩ => ⟨S8192x5632, .f32⟩
  | .hbm, ⟨34, _⟩ => ⟨S8192x5632, .bf16⟩
  | .hbm, ⟨35, _⟩ => ⟨S_, .f32⟩
  | .hbm, ⟨36, _⟩ => ⟨S5632, .f32⟩
  | .hbm, ⟨37, _⟩ => ⟨S1x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]
-- ==== ActDown.lean ====
abbrev S8192x5632 : Shape := ⟨2, ![8192, 5632]⟩
abbrev S3x5632 : Shape := ⟨2, ![3, 5632]⟩
abbrev S1x5632 : Shape := ⟨2, ![1, 5632]⟩
abbrev S2816x1024 : Shape := ⟨2, ![2816, 1024]⟩
abbrev S8192x1024 : Shape := ⟨2, ![8192, 1024]⟩
abbrev S8192x2816 : Shape := ⟨2, ![8192, 2816]⟩
abbrev S512x5632 : Shape := ⟨2, ![512, 5632]⟩
abbrev S16x5632 : Shape := ⟨2, ![16, 5632]⟩
abbrev S512x1024 : Shape := ⟨2, ![512, 1024]⟩
abbrev S512x2816 : Shape := ⟨2, ![512, 2816]⟩
abbrev S520x256 : Shape := ⟨2, ![520, 256]⟩
abbrev S8x256 : Shape := ⟨2, ![8, 256]⟩
abbrev S512x256 : Shape := ⟨2, ![512, 256]⟩
abbrev S1x256 : Shape := ⟨2, ![1, 256]⟩
abbrev S256x1024 : Shape := ⟨2, ![256, 1024]⟩

abbrev nBuf : Space → Nat
  | .hbm => 8
  | .vmem => 17
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S1x5632, .f32⟩
  | .hbm, ⟨3, _⟩ => ⟨S2816x1024, .bf16⟩
  | .hbm, ⟨4, _⟩ => ⟨S8192x1024, .f32⟩
  | .hbm, ⟨5, _⟩ => ⟨S8192x1024, .f32⟩
  | .hbm, ⟨6, _⟩ => ⟨S8192x2816, .bf16⟩
  | .hbm, ⟨7, _⟩ => ⟨S8192x5632, .bf16⟩
  | .local _ .vmem, ⟨0, _⟩ => ⟨S512x5632, .bf16⟩
  | .local _ .vmem, ⟨1, _⟩ => ⟨S512x5632, .bf16⟩
  | .local _ .vmem, ⟨2, _⟩ => ⟨S16x5632, .bf16⟩
  | .local _ .vmem, ⟨3, _⟩ => ⟨S16x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x2816, .bf16⟩
  | .local _ .vmem, ⟨12, _⟩ => ⟨S512x2816, .bf16⟩
  | .local _ .vmem, ⟨13, _⟩ => ⟨S512x5632, .bf16⟩
  | .local _ .vmem, ⟨14, _⟩ => ⟨S512x5632, .bf16⟩
  | .local _ .vmem, ⟨15, _⟩ => ⟨S520x256, .f32⟩
  | .local _ .vmem, ⟨16, _⟩ => ⟨S520x256, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ActDownReferenceIdeal.lean ====
abbrev S8192x5632 : Shape := ⟨2, ![8192, 5632]⟩
abbrev S3x5632 : Shape := ⟨2, ![3, 5632]⟩
abbrev S1x5632 : Shape := ⟨2, ![1, 5632]⟩
abbrev S2816x1024 : Shape := ⟨2, ![2816, 1024]⟩
abbrev S8192x1024 : Shape := ⟨2, ![8192, 1024]⟩
abbrev S_ : Shape := ⟨0, ![]⟩
abbrev S2x5632 : Shape := ⟨2, ![2, 5632]⟩
abbrev S8194x5632 : Shape := ⟨2, ![8194, 5632]⟩
abbrev S5632 : Shape := ⟨1, ![5632]⟩
abbrev S8192x2816 : Shape := ⟨2, ![8192, 2816]⟩

abbrev nBuf : Space → Nat
  | .hbm => 48
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S1x5632, .f32⟩
  | .hbm, ⟨3, _⟩ => ⟨S2816x1024, .bf16⟩
  | .hbm, ⟨4, _⟩ => ⟨S8192x1024, .f32⟩
  | .hbm, ⟨5, _⟩ => ⟨S_, .f32⟩
  | .hbm, ⟨6, _⟩ => ⟨S2x5632, .f32⟩
  | .hbm, ⟨7, _⟩ => ⟨S8192x5632, .f32⟩
  | .hbm, ⟨8, _⟩ => ⟨S8194x5632, .f32⟩
  | .hbm, ⟨9, _⟩ => ⟨S1x5632, .f32⟩
  | .hbm, ⟨10, _⟩ => ⟨S5632, .f32⟩
  | .hbm, ⟨11, _⟩ => ⟨S8192x5632, .f32⟩
  | .hbm, ⟨12, _⟩ => ⟨S1x5632, .f32⟩
  | .hbm, ⟨13, _⟩ => ⟨S8192x5632, .f32⟩
  | .hbm, ⟨14, _⟩ => ⟨S8192x5632, .f32⟩
  | .hbm, ⟨15, _⟩ => ⟨S1x5632, .f32⟩
  | .hbm, ⟨16, _⟩ => ⟨S5632, .f32⟩
  | .hbm, ⟨17, _⟩ => ⟨S8192x5632, .f32⟩
  | .hbm, ⟨18, _⟩ => ⟨S1x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S1x5632, .f32⟩
  | .hbm, ⟨23, _⟩ => ⟨S5632, .f32⟩
  | .hbm, ⟨24, _⟩ => ⟨S8192x5632, .f32⟩
  | .hbm, ⟨25, _⟩ => ⟨S1x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S2816x1024, .f32⟩
  | .hbm, ⟨44, _⟩ => ⟨S8192x1024, .f32⟩
  | .hbm, ⟨45, _⟩ => ⟨S8192x1024, .f32⟩
  | .hbm, ⟨46, _⟩ => ⟨S8192x2816, .bf16⟩
  | .hbm, ⟨47, _⟩ => ⟨S8192x5632, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Proof.HostBias.lean ====
/-
  The bias the kernel is entered with: the table's entries gathered for every query row and band slot, the slots past
  the band at `⊥`.
-/
module

public import proofs.«01_k».proof.Proof.Gen.KernelIdeal.Frame.Runs
public import proofs.«01_k».proof.Proof.Gen.ReferenceIdeal.Read
public import Idealize.ShloMosaic.Lib.Pointwise
public import Idealize.ShloMosaic.PureOps.Ideal.Laws

@[expose] public section
set_option maxRecDepth 16384
noncomputable section
namespace Cert.KernelIdeal.Gen
open Idealize.ShloMosaic Idealize.ShloMosaic.TcCoe Idealize.SL.Sem

variable (m : (ℓ : Loc nD τ sig) → Buf (Elt Ideal) ℓ)

/-- The bias array as the host operations leave it; its gathered part is the reference's. -/
theorem V_main_v20 (c : Dev nD) : V m c main_v20
    = (shapeCast S8x128x640 (pad S16x64x640 ![0, 0, 0] ![0, 0, 64] ![0, 0, 0]
        (Cert.ReferenceIdeal.Read.val_main_v18 (F := Ideal) (m ((c : Thread nD τ).loc main_arg2)))
        (constant (F := Ideal) S_ .f32 0xFF800000#32) pads_S16x64x576_S16x64x640_000_000_0640 h_S_) shapeCasts_S16x64x640_S8x128x640
        : FVec Ideal S8x128x640 .f32) := by
  show StableHlo.after _ _ (Proc.devRef .tc main_v20) = _
  simp only [hostOps0, hostOps0_1, hostOps0_2, hostOps0_3, hostOps0_4, List.flatten_cons, List.flatten_nil, List.append_nil, List.cons_append,
      List.nil_append]
  after_results
  simp only [StableHlo.TRef.ofBuf, StableHlo.TRef.toBuf, cast_cast, cast_eq, id_eq]
  unfold Cert.ReferenceIdeal.Read.val_main_v18 Cert.ReferenceIdeal.Read.val_main_v17 Cert.ReferenceIdeal.Read.val_main_v16 Cert.ReferenceIdeal.Read.val_main_v15 Cert.ReferenceIdeal.Read.val_main_v14 Cert.ReferenceIdeal.Read.val_main_c_4 Cert.ReferenceIdeal.Read.val_main_v13 Cert.ReferenceIdeal.Read.val_main_v12 Cert.ReferenceIdeal.Read.val_main_c_3 Cert.ReferenceIdeal.Read.val_main_v11 Cert.ReferenceIdeal.Read.val_main_v10 Cert.ReferenceIdeal.Read.val_main_c_2 Cert.ReferenceIdeal.Read.val_main_v9 Cert.ReferenceIdeal.Read.val_main_call0_v4 Cert.ReferenceIdeal.Read.val_main_call0_v3 Cert.ReferenceIdeal.Read.val_main_call0_v2 Cert.ReferenceIdeal.Read.val_main_call0_v1 Cert.ReferenceIdeal.Read.val_main_call0_v0 Cert.ReferenceIdeal.Read.val_main_c_1 Cert.ReferenceIdeal.Read.val_main_c_0 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_c Cert.ReferenceIdeal.Read.val_main_v1 Cert.ReferenceIdeal.Read.val_main_v0
  rfl

/-- A head pair's row of the bias: the two heads' rows one above the other, `⊥` past the band. -/
theorem bias_apply (c : Dev nD) (pp : Fin 8) (a : Fin 128) (k : Fin 640) : (V m c main_v20 : FVec Ideal S8x128x640 .f32) (ix3 pp a k)
    = if h : k.val < 576 then Cert.ReferenceIdeal.Read.val_main_v18 (F := Ideal) (m ((c : Thread nD τ).loc main_arg2))
        (ix3 (⟨2 * pp.val + a.val / 64, by omega⟩ : Fin 16) (⟨a.val % 64, Nat.mod_lt _ (by omega)⟩ : Fin 64) (⟨k.val, h⟩ : Fin 576)) else (⊥ : EReal) := by
  rw [V_main_v20]
  generalize Cert.ReferenceIdeal.Read.val_main_v18 (F := Ideal) (m ((c : Thread nD τ).loc main_arg2)) = B
  pointwise []
  by_cases hk : k.val < 576
  · rw [dif_pos hk, dif_pos ⟨by omega, by omega, hk⟩]
    congr 2
    apply Fin.ext; show pp.val * 2 + a.val / 64 = 2 * pp.val + a.val / 64; omega
  · rw [dif_neg hk, dif_neg fun h => hk h.2.2]
    simp [Ideal.ofBits, Ideal.ieee]

theorem bias_pad (c : Dev nD) (pp : Fin 8) (a : Fin 128) (k : Fin 640) (hk : 576 ≤ k.val) :
    (V m c main_v20 : FVec Ideal S8x128x640 .f32) (ix3 pp a k) = (⊥ : EReal) := by
  rw [bias_apply, dif_neg (Nat.not_lt.mpr hk)]

end Cert.KernelIdeal.Gen
-- ==== Proof.Rows.lean ====
/-
  One attention row over the extended reals: the softmax of scores that are real or masked (`⊥`), its derivative in
  the two forms the kernel and the reference compute, and what the whole backward pass is, chunk by chunk.
-/
module

public import Idealize.ShloMosaic.PureOps.Ideal.Laws

@[expose] public section
noncomputable section
namespace Cert.Attn
open Idealize.ShloMosaic

/-! ## Sums and real factors -/

/-- A nonnegative real factor goes into a sum of extended reals. -/
theorem mul_sum_real {ι : Type*} (s : Finset ι) (f : ι → EReal) {c : EReal} (h0 : 0 ≤ c) (ht : c ≠ ⊤) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

/-- … and out of it on the right. -/
theorem sum_mul_real {ι : Type*} (s : Finset ι) (f : ι → EReal) {c : EReal} (h0 : 0 ≤ c) (ht : c ≠ ⊤) :
    (∑ i ∈ s, f i) * c = ∑ i ∈ s, f i * c := by
  rw [mul_comm, mul_sum_real s f h0 ht]; exact Finset.sum_congr rfl fun i _ => mul_comm _ _

/-- A sum over 640 slots of which the last 64 vanish is the sum over the first 576. -/
theorem sum_band (f : ℕ → EReal) (h : ∀ k, 576 ≤ k → f k = 0) : ∑ k : Fin 640, f k.val = ∑ k : Fin 576, f k.val := by
  have e := Fin.sum_univ_add (a := 576) (b := 64) (fun k : Fin (576 + 64) => f k.val)
  rw [show (∑ k : Fin 640, f k.val) = ∑ k : Fin (576 + 64), f k.val from rfl, e]
  rw [show (∑ i : Fin 64, f (Fin.natAdd 576 i).val) = 0 from Finset.sum_eq_zero fun i _ => h _ (by simp), add_zero]
  rfl

/-- A sum over 128 indices is the sum over the first 64 and the last 64. -/
theorem sum_halves (f : ℕ → EReal) : ∑ l : Fin 128, f l.val = ∑ d : Fin 64, f d.val + ∑ d : Fin 64, f (64 + d.val) := by
  have e := Fin.sum_univ_add (a := 64) (b := 64) (fun k : Fin (64 + 64) => f k.val)
  rw [show (∑ k : Fin 128, f k.val) = ∑ k : Fin (64 + 64), f k.val from rfl, e]
  rfl

/-- The value is a real number. -/
def IsReal (x : EReal) : Prop := ∃ r : ℝ, x = (r : EReal)

theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩
theorem IsReal.zero : IsReal 0 := ⟨0, rfl⟩
theorem IsReal.sum {ι : Type*} (s : Finset ι) (f : ι → EReal) (h : ∀ i ∈ s, IsReal (f i)) : IsReal (∑ i ∈ s, f i) := by
  classical
  induction s using Finset.induction_on with
  | empty => exact IsReal.zero
  | insert a s ha ih =>
    rw [Finset.sum_insert ha]
    exact (h a (Finset.mem_insert_self a s)).add (ih fun i hi => h i (Finset.mem_insert_of_mem hi))
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem IsReal.ne_top {x : EReal} : IsReal x → x ≠ ⊤ := by rintro ⟨a, rfl⟩; exact EReal.coe_ne_top a
theorem IsReal.ne_bot {x : EReal} : IsReal x → x ≠ ⊥ := by rintro ⟨a, rfl⟩; exact EReal.coe_ne_bot a
theorem isReal_of_ne {x : EReal} (h1 : x ≠ ⊤) (h2 : x ≠ ⊥) : IsReal x := ⟨x.toReal, (EReal.coe_toReal h1 h2).symm⟩

/-! ## A row of scores -/

/-- The largest score among the first `N` slots. -/
def rowMax (N : ℕ) (S : ℕ → EReal) : EReal := Finset.univ.fold max ⊥ fun k : Fin N => S k.val

/-- A slot's exponential, taken from the row's largest score. -/
def expo (S : ℕ → EReal) (k : ℕ) : EReal := Ideal.exp (S k - rowMax 576 S)

/-- The row's sum of exponentials. -/
def expoSum (S : ℕ → EReal) : EReal := ∑ k : Fin 576, expo S k.val

/-- The softmax of the row. -/
def soft (S : ℕ → EReal) (k : ℕ) : EReal := Ideal.div (expo S k) (expoSum S)

theorem rowMax_eq_sup (N : ℕ) (S : ℕ → EReal) : rowMax N S = Finset.univ.sup fun k : Fin N => S k.val := rfl

/-- Masked slots past the band do not change the row's largest score. -/
theorem rowMax_band (S : ℕ → EReal) (h : ∀ k, 576 ≤ k → S k = ⊥) : rowMax 640 S = rowMax 576 S := by
  rw [rowMax_eq_sup, rowMax_eq_sup]
  apply le_antisymm
  · refine Finset.sup_le fun k _ => ?_
    by_cases hk : k.val < 576
    · exact Finset.le_sup (f := fun k : Fin 576 => S k.val) (Finset.mem_univ (⟨k.val, hk⟩ : Fin 576))
    · rw [h k.val (by omega)]; exact bot_le
  · exact Finset.sup_le fun k _ => Finset.le_sup (f := fun k : Fin 640 => S k.val) (Finset.mem_univ (⟨k.val, by omega⟩ : Fin 640))

section row
variable (S : ℕ → EReal) (hS : ∀ k, S k = ⊥ ∨ IsReal (S k)) (h0 : IsReal (S 512))
include hS h0

/-- The row's largest score is a real number. -/
theorem rowMax_real : IsReal (rowMax 576 S) := by
  rw [rowMax_eq_sup]
  refine isReal_of_ne ?_ ?_
  · refine ne_of_lt ((Finset.sup_lt_iff (by exact bot_lt_top)).2 fun k _ => ?_)
    rcases hS k.val with h | h
    · rw [h]; exact bot_lt_top
    · exact lt_top_iff_ne_top.2 h.ne_top
  · intro h
    have := Finset.le_sup (f := fun k : Fin 576 => S k.val) (Finset.mem_univ (⟨512, by omega⟩ : Fin 576))
    rw [h] at this
    exact h0.ne_bot (le_bot_iff.1 this)

/-- A slot's exponential is a nonnegative real number, positive at the chunk's own first slot. -/
theorem expo_real (k : ℕ) : ∃ r : ℝ, expo S k = (r : EReal) ∧ 0 ≤ r ∧ (k = 512 → 0 < r) := by
  obtain ⟨M, hM⟩ := rowMax_real S hS h0
  unfold expo
  rw [hM]
  rcases hS k with h | ⟨r, h⟩
  · refine ⟨0, ?_, le_rfl, ?_⟩
    · rw [h, show ((⊥ : EReal) - (M : EReal)) = ⊥ from EReal.bot_sub _]; rfl
    · rintro rfl; exact absurd h h0.ne_bot
  · refine ⟨Real.exp (r - M), ?_, (Real.exp_pos _).le, fun _ => Real.exp_pos _⟩
    rw [h, ← EReal.coe_sub]; rfl

/-- The row's sum of exponentials is a positive real number. -/
theorem expoSum_real : ∃ l : ℝ, expoSum S = (l : EReal) ∧ 0 < l := by
  choose r hr using expo_real S hS h0
  refine ⟨∑ k : Fin 576, r k.val, ?_, ?_⟩
  · unfold expoSum
    rw [Finset.sum_congr rfl fun (k : Fin 576) _ => (hr k.val).1]
    exact (coe_sum Finset.univ fun k : Fin 576 => r k.val).symm
  · exact Finset.sum_pos' (fun k _ => (hr k.val).2.1) ⟨⟨512, by omega⟩, Finset.mem_univ _, (hr 512).2.2 rfl⟩

/-- A masked slot has no weight. -/
theorem soft_masked (k : ℕ) (hk : S k = ⊥) : soft S k = 0 := by
  obtain ⟨M, hM⟩ := rowMax_real S hS h0
  obtain ⟨l, hl, hp⟩ := expoSum_real S hS h0
  unfold soft
  rw [hl, Ideal.div_coe hp.ne']
  unfold expo
  rw [hM, hk, show ((⊥ : EReal) - (M : EReal)) = ⊥ from EReal.bot_sub _, show Ideal.exp ⊥ = 0 from rfl, zero_mul]

/-- The two forms of the softmax's derivative: from `dp / l` less the weighted mean, times the exponential, as the
    reference computes it; and weight times `dp` less its mean, as the kernel does. -/
theorem grad_row (dp : ℕ → EReal) (k : ℕ) :
    (Ideal.div (dp k) (expoSum S)
        + -(∑ k' : Fin 576, dp k'.val * Ideal.div 1 (expoSum S * expoSum S) * expo S k'.val)) * expo S k
      = soft S k * (dp k - ∑ k' : Fin 576, dp k'.val * soft S k'.val) := by
  obtain ⟨l, hl, hp⟩ := expoSum_real S hS h0
  unfold soft
  have hc : (0 : EReal) ≤ ((1 / l : ℝ) : EReal) := by exact_mod_cast (by positivity : (0 : ℝ) ≤ 1 / l)
  have ht : ((1 / l : ℝ) : EReal) ≠ ⊤ := EReal.coe_ne_top _
  have hcc : Ideal.div 1 (expoSum S * expoSum S) = ((1 / l : ℝ) : EReal) * ((1 / l : ℝ) : EReal) := by
    rw [hl, ← EReal.coe_mul, Ideal.div_coe (mul_pos hp hp).ne', one_mul, ← EReal.coe_mul]
    congr 1; field_simp
  rw [hcc, hl]
  simp only [Ideal.div_coe hp.ne']
  generalize ((1 / l : ℝ) : EReal) = c at hc ht ⊢
  have hsum : (∑ k' : Fin 576, dp k'.val * (c * c) * expo S k'.val) = c * ∑ k' : Fin 576, dp k'.val * (expo S k'.val * c) := by
    rw [mul_sum_real _ _ hc ht]
    exact Finset.sum_congr rfl fun k' _ => by ac_rfl
  rw [hsum, ← mul_neg, mul_comm (dp k) c, ← EReal.left_distrib_of_nonneg_of_ne_top hc ht, ← sub_eq_add_neg]
  ac_rfl

end row

/-! ## The backward pass, chunk by chunk

  Arrays are read at natural numbers. The keys and the values are padded by 512 rows of zeros before the first, so that
  chunk `n` of 64 queries sees the 576 padded rows from `64 n` on. -/

/-- The operands: the queries, the padded keys, the padded values, the output's cotangent, and the bias of a head, a
    query row and a band slot. -/
structure Data where
  q : ℕ → ℕ → EReal
  k : ℕ → ℕ → EReal
  v : ℕ → ℕ → EReal
  g : ℕ → ℕ → EReal
  b : ℕ → ℕ → ℕ → EReal

/-- The scale of the scores, one eighth. -/
def eighth : EReal := Ideal.ofBits .f32 0x3E000000#32

namespace Data
variable (D : Data)

/-- The queries, the keys and the bias are real numbers. -/
def Real : Prop := (∀ r c, IsReal (D.q r c)) ∧ (∀ r c, IsReal (D.k r c)) ∧ ∀ h a k, IsReal (D.b h a k)

/-- A band slot holds a key: it lies within the band and not before the sequence. -/
def Valid (n k : ℕ) : Prop := 512 ≤ 64 * n + k ∧ k < 576
instance (n k : ℕ) : Decidable (Valid n k) := by unfold Valid; infer_instance

/-- The scaled score with its bias. -/
def score (n h a k : ℕ) : EReal :=
  (∑ d : Fin 64, D.q (64 * n + a) (64 * h + d.val) * D.k (64 * n + k) (64 * h + d.val)) * eighth + D.b h a k

/-- The row of scores with the slots that hold no key masked. -/
def row (n h a k : ℕ) : EReal := if Valid n k then D.score n h a k else ⊥

/-- The attention weights. -/
def p (n h a k : ℕ) : EReal := soft (D.row n h a) k

/-- The weights' cotangents. -/
def dp (n h a k : ℕ) : EReal := ∑ d : Fin 64, D.g (64 * n + a) (64 * h + d.val) * D.v (64 * n + k) (64 * h + d.val)

/-- The scores' cotangents. -/
def ds (n h a k : ℕ) : EReal := D.p n h a k * (D.dp n h a k - ∑ k' : Fin 576, D.dp n h a k'.val * D.p n h a k'.val)

/-- The queries' cotangents. -/
def dq (r c : ℕ) : EReal :=
  (∑ k : Fin 576, D.ds (r / 64) (c / 64) (r % 64) k.val * D.k (64 * (r / 64) + k.val) c) * eighth

/-- What chunk `n` contributes to the value in its band slot `k`. -/
def dvPart (n k c : ℕ) : EReal := ∑ a : Fin 64, D.p n (c / 64) a.val k * D.g (64 * n + a.val) c

/-- What chunk `n` contributes to the key in its band slot `k`. -/
def dkPart (n k c : ℕ) : EReal := ∑ a : Fin 64, D.ds n (c / 64) a.val k * (D.q (64 * n + a.val) c * eighth)

/-- The bias' cotangent: the sum over the chunks. -/
def db (h a k : ℕ) : EReal := ∑ n : Fin 128, D.ds n.val h a k

end Data

/-- A token's cotangent out of the contributions of the up to nine chunks whose bands hold it. -/
def overlap (part : ℕ → ℕ → EReal) (r : ℕ) : EReal :=
  ∑ o : Fin 9, if r / 64 + 8 - o.val < 128 then part (r / 64 + 8 - o.val) (64 * o.val + r % 64) else 0

namespace Data
variable (D : Data)

theorem eighth_eq : eighth = ((1 / 8 : ℝ) : EReal) := by
  unfold eighth
  simp [Ideal.ofBits, Ideal.ieee]
  rw [← EReal.coe_mul]
  norm_num
theorem eighth_nonneg : 0 ≤ eighth := by
  rw [eighth_eq]; exact_mod_cast (by norm_num : (0 : ℝ) ≤ 1 / 8)
theorem eighth_ne_top : eighth ≠ ⊤ := by rw [eighth_eq]; exact EReal.coe_ne_top _

variable {D} (hD : D.Real)
include hD

theorem score_real (n h a k : ℕ) : IsReal (D.score n h a k) := by
  refine IsReal.add (IsReal.mul (IsReal.sum _ _ fun d _ => (hD.1 _ _).mul (hD.2.1 _ _)) ?_) (hD.2.2 _ _ _)
  exact ⟨_, eighth_eq⟩

theorem row_cases (n h a k : ℕ) : D.row n h a k = ⊥ ∨ IsReal (D.row n h a k) := by
  unfold row; split
  · exact Or.inr (score_real hD n h a k)
  · exact Or.inl rfl

theorem row_own (n h a : ℕ) : IsReal (D.row n h a 512) := by
  unfold row; rw [if_pos (by unfold Valid; omega)]; exact score_real hD n h a 512

/-- A slot that holds no key has no weight, -/
theorem p_masked (n h a k : ℕ) (hk : ¬Valid n k) : D.p n h a k = 0 :=
  soft_masked _ (row_cases hD n h a) (row_own hD n h a) k (if_neg hk)

/-- … and no cotangent. -/
theorem ds_masked (n h a k : ℕ) (hk : ¬Valid n k) : D.ds n h a k = 0 := by
  unfold ds; rw [p_masked hD n h a k hk, zero_mul]

end Data
end Cert.Attn
-- ==== Proof.Overlap.lean ====
/-
  Overlapping bands: the contributions of the chunks to a token, gathered tile by tile, and the sum over the chunks.
-/
module

public import proofs.«01_k».proof.Proof.Rows

@[expose] public section
noncomputable section
namespace Cert.Attn

/-- What the eight chunks of tile `i` contribute to row `R` of their common window of 1024 rows. -/
def tileTot (part : ℕ → ℕ → EReal) (i R : ℕ) : EReal :=
  ∑ c : Fin 8, if c.val ≤ R / 64 ∧ R / 64 ≤ c.val + 8 then part (8 * i + c.val) (64 * (R / 64 - c.val) + R % 64) else 0

/-- The nine contributions are those of the token's own tile and those of the next one. -/
theorem nine_split (G : ℕ → EReal) (b : ℕ) (hb : b < 8) :
    ∑ o : Fin 9, G o.val = (∑ c : Fin 8, if c.val ≤ b then G (b - c.val) else 0) + ∑ c : Fin 8, if b ≤ c.val then G (8 + b - c.val) else 0 := by
  interval_cases b <;> simp [Fin.sum_univ_succ] <;> ac_rfl

/-- A token's cotangent: the next tile's contributions to the upper half of its window and the own tile's to the lower. -/
theorem overlap_tiles (part : ℕ → ℕ → EReal) (i r : ℕ) (hi : i < 16) (hr : r < 512) :
    overlap part (512 * i + r) = (if i < 15 then tileTot part (i + 1) r else 0) + tileTot part i (512 + r) := by
  unfold overlap
  rw [nine_split (fun o => if (512 * i + r) / 64 + 8 - o < 128 then part ((512 * i + r) / 64 + 8 - o) (64 * o + (512 * i + r) % 64) else 0)
    (r / 64) (by omega)]
  congr 1
  · by_cases h : i < 15
    · rw [if_pos h]
      refine Finset.sum_congr rfl fun c _ => ?_
      by_cases hc : c.val ≤ r / 64
      · rw [if_pos hc, if_pos (by omega), if_pos (by omega)]
        congr 1 <;> omega
      · rw [if_neg hc, if_neg fun h => hc h.1]
    · rw [if_neg h]
      refine Finset.sum_eq_zero fun c _ => ?_
      by_cases hc : c.val ≤ r / 64
      · rw [if_pos hc, if_neg (by omega)]
      · rw [if_neg hc]
  · refine Finset.sum_congr rfl fun c _ => ?_
    by_cases hc : r / 64 ≤ c.val
    · rw [if_pos hc, if_pos (by omega), if_pos (by omega)]
      congr 1 <;> omega
    · rw [if_neg hc, if_neg (by omega)]

/-- The sum over the chunks of the tiles visited from the last on, `j` of them after the first. -/
def visited (f : ℕ → EReal) (j : ℕ) : EReal := ∑ t ∈ Finset.range (j + 1), ∑ c : Fin 8, f (8 * (15 - t) + c.val)

theorem visited_zero (f : ℕ → EReal) : visited f 0 = ∑ c : Fin 8, f (8 * 15 + c.val) := by simp [visited]
theorem visited_succ (f : ℕ → EReal) (j : ℕ) : visited f (j + 1) = visited f j + ∑ c : Fin 8, f (8 * (15 - (j + 1)) + c.val) := by
  unfold visited; rw [Finset.sum_range_succ]

theorem sum_eights (f : ℕ → EReal) (m : ℕ) : ∑ n ∈ Finset.range (8 * m), f n = ∑ t ∈ Finset.range m, ∑ c : Fin 8, f (8 * t + c.val) := by
  induction m with
  | zero => simp
  | succ m ih =>
    rw [Finset.sum_range_succ, ← ih, show 8 * (m + 1) = 8 * m + 8 by omega, Finset.sum_range_add, Finset.sum_range (n := 8)]

/-- All sixteen tiles visited: the sum over the 128 chunks. -/
theorem visited_all (f : ℕ → EReal) : visited f 15 = ∑ n : Fin 128, f n.val := by
  rw [← Finset.sum_range (n := 128) (f := f), show (128 : ℕ) = 8 * 16 by norm_num, sum_eights]
  exact Finset.sum_range_reflect (fun t => ∑ c : Fin 8, f (8 * t + c.val)) 16

end Cert.Attn
-- ==== Proof.DataOf.lean ====
/-
  The operands of the backward pass, read from the four arrays.
-/
module

public import proofs.«01_k».proof.Proof.Overlap
public import Idealize.ShloMosaic.Lib.Pointwise

@[expose] public section
noncomputable section
namespace Cert.Attn
open Idealize.ShloMosaic

/-- The queries `Q`, the keys and values side by side in `KV`, the gathered bias `B` and the output's cotangent `G`, as
    the backward pass reads them: the keys and the values padded by 512 rows of zeros before the first. -/
def dataOf (Q : (⟨2, ![8192, 1024]⟩ : Shape).Idx → EReal) (KV : (⟨2, ![8192, 2048]⟩ : Shape).Idx → EReal)
    (B : (⟨3, ![16, 64, 576]⟩ : Shape).Idx → EReal) (G : (⟨2, ![8192, 1024]⟩ : Shape).Idx → EReal) : Data where
  q r c := if h : r < 8192 ∧ c < 1024 then Q (ix2 ⟨r, h.1⟩ ⟨c, h.2⟩) else 0
  k r c := if h : (512 ≤ r ∧ r < 8704) ∧ c < 1024 then KV (ix2 ⟨r - 512, by omega⟩ ⟨c, by omega⟩) else 0
  v r c := if h : (512 ≤ r ∧ r < 8704) ∧ c < 1024 then KV (ix2 ⟨r - 512, by omega⟩ ⟨1024 + c, by omega⟩) else 0
  g r c := if h : r < 8192 ∧ c < 1024 then G (ix2 ⟨r, h.1⟩ ⟨c, h.2⟩) else 0
  b h a k := if h' : h < 16 ∧ a < 64 ∧ k < 576 then B (ix3 ⟨h, h'.1⟩ ⟨a, h'.2.1⟩ ⟨k, h'.2.2⟩) else 0

theorem dataOf_b (Q : (⟨2, ![8192, 1024]⟩ : Shape).Idx → EReal) (KV : (⟨2, ![8192, 2048]⟩ : Shape).Idx → EReal)
    (B : (⟨3, ![16, 64, 576]⟩ : Shape).Idx → EReal) (G : (⟨2, ![8192, 1024]⟩ : Shape).Idx → EReal) {h a k : ℕ}
    (hh : h < 16) (ha : a < 64) (hk : k < 576) : (dataOf Q KV B G).b h a k = B (ix3 ⟨h, hh⟩ ⟨a, ha⟩ ⟨k, hk⟩) :=
  dif_pos ⟨hh, ha, hk⟩

/-- Queries, keys and bias without infinities make the operands real. -/
theorem dataOf_real {Q : (⟨2, ![8192, 1024]⟩ : Shape).Idx → EReal} {KV : (⟨2, ![8192, 2048]⟩ : Shape).Idx → EReal}
    {B : (⟨3, ![16, 64, 576]⟩ : Shape).Idx → EReal} {G : (⟨2, ![8192, 1024]⟩ : Shape).Idx → EReal}
    (hQ : ∀ i, IsReal (Q i)) (hK : ∀ (r : Fin 8192) (c : Fin 1024), IsReal (KV (ix2 r ⟨c.val, by omega⟩))) (hB : ∀ i, IsReal (B i)) :
    (dataOf Q KV B G).Real := by
  refine ⟨fun r c => ?_, fun r c => ?_, fun h a k => ?_⟩
  · unfold dataOf; dsimp only; split
    · exact hQ _
    · exact IsReal.zero
  · unfold dataOf; dsimp only; split
    · next h => exact hK ⟨r - 512, by omega⟩ ⟨c, h.2⟩
    · exact IsReal.zero
  · unfold dataOf; dsimp only; split
    · exact hB _
    · exact IsReal.zero

end Cert.Attn
-- ==== Proof.Chunk.lean ====
/-
  One chunk of the band at a time: what the kernel computes between its loads and its stores, named.
  The body of the kernel treats eight chunks of 64 queries, unrolled, so every product, softmax and gradient appears eight
  times. Here each appears once, as a function of the chunk's number, and a list of equations reads each occurrence as
  that function.
-/
module

public import proofs.«01_k».proof.Proof.Gen.KernelIdeal.Skeleton
public import Idealize.ShloMosaic.Lib.Pipeline.ValueKit

@[expose] public section
set_option maxRecDepth 16384
noncomputable section
namespace Cert.KernelIdeal.Gen
open Idealize.ShloMosaic Idealize.SL.Sem Idealize.ShloMosaic.Pipeline
variable {F : FTy → Type} [FloatOps F] [Named F]

/-- The blocks one grid point is given: the tile's number as a word, the queries, the keys and values of the tile before
    and of the tile itself, the incoming gradient, and the bias of the pair of heads. -/
structure Tile (F : FTy → Type) where
  w : BitVec 32
  q : Vec F S512x128 .f32
  kp : Vec F S512x128 .f32
  kc : Vec F S512x128 .f32
  vp : Vec F S512x128 .f32
  vc : Vec F S512x128 .f32
  b : Vec F S1x128x640 .f32
  g : Vec F S512x128 .f32

theorem inb_chunk (c : Fin 8) : ∀ a, (![64 * c.val, 0] : Fin 2 → ℕ) a + S64x128.size a ≤ S512x128.size a := by decide +revert
theorem inb_band (c : Fin 8) : ∀ a, (![64 * c.val, 0] : Fin 2 → ℕ) a + S640x128.size a ≤ S1088x128.size a := by decide +revert

/-- The 64 rows of chunk `c`. -/
def chunkRows (x : Vec F S512x128 .f32) (c : Fin 8) : Vec F S64x128 .f32 :=
  View.ld (Val := Elt F) (e' := .f32) x (Rect.unit (s := S512x128) ![64 * c.val, 0] S64x128.size (inb_chunk c))

/-- The rows the chunks' bands are cut from: the tile before, the tile, and 64 rows of zeros. -/
def bandBuf (x y : Vec F S512x128 .f32) : Vec F S1088x128 .bf16 :=
  View.canon (Val := Elt F)
    [⟨Rect.unit ![1024, 0] S64x128.size inb_S1088x128_S64x128_1024_0, k0_pay5⟩,
      ⟨Rect.unit ![512, 0] S512x128.size inb_S1088x128_S512x128_512_0, k0_pay4 y⟩,
      ⟨Rect.unit ![0, 0] S512x128.size inb_S1088x128_S512x128_0_0, k0_pay3 x⟩]

/-- The 640 rows chunk `c` attends to. -/
def bandRows (b : Vec F S1088x128 .bf16) (c : Fin 8) : Vec F S640x128 .bf16 :=
  View.ld (Val := Elt F) (e' := .bf16) b (Rect.unit (s := S1088x128) ![64 * c.val, 0] S640x128.size (inb_band c))

/-- The chunk's scaled queries, one head above the other. -/
def Qc (T : Tile F) (c : Fin 8) : FVec F S128x128 .bf16 := k0_pay17 (chunkRows T.q c)
/-- The chunk's incoming gradient, one head above the other. -/
def Gc (T : Tile F) (c : Fin 8) : FVec F S128x128 .bf16 := k0_pay26 k0_pay16 (chunkRows T.g c)
/-- The keys of the chunk's band. -/
def Kc (T : Tile F) (c : Fin 8) : Vec F S640x128 .bf16 := bandRows (bandBuf T.kp T.kc) c
/-- The values of the chunk's band. -/
def Vc (T : Tile F) (c : Fin 8) : Vec F S640x128 .bf16 := bandRows (bandBuf T.vp T.vc) c
/-- Queries times keys. -/
def Sc (T : Tile F) (c : Fin 8) : FVec F S128x640 .f32 := k0_pay36 (Qc T c) (Kc T c)
/-- Incoming gradient times values: the gradient of the probabilities. -/
def DPc (T : Tile F) (c : Fin 8) : FVec F S128x640 .f32 := k0_pay44 (Gc T c) (Vc T c)
/-- The probabilities. -/
def Pc (T : Tile F) (c : Fin 8) : FVec F S128x640 .f32 :=
  k0_pay62 (Sc T c) (k0_pay61 T.b) (Scalar.addi (Scalar.muli T.w 8#32) (BitVec.ofNat 32 c.val))
/-- The gradient of the scores. -/
def DSc (T : Tile F) (c : Fin 8) : FVec F S128x640 .f32 := k0_pay67 (DPc T c) (Pc T c)
/-- The same in the width of the products. -/
def DBc (T : Tile F) (c : Fin 8) : FVec F S128x640 .bf16 := k0_pay76 (DSc T c)
/-- The chunk's share of the gradient of its band's values. -/
def dvc (T : Tile F) (c : Fin 8) : FVec F S640x128 .f32 := k0_pay84 (Gc T c) (Pc T c)
/-- The gradient of the chunk's queries, one head above the other. -/
def dqc (T : Tile F) (c : Fin 8) : FVec F S128x128 .f32 := k0_pay93 (DBc T c) (Kc T c)
/-- The chunk's share of the gradient of its band's keys. -/
def dkc (T : Tile F) (c : Fin 8) : FVec F S640x128 .f32 := k0_pay101 (Qc T c) (DBc T c)
/-- The gradient of the chunk's queries, each head's lanes from its own rows. -/
def dqo (T : Tile F) (c : Fin 8) : FVec F S64x128 .f32 := k0_pay154 k0_pay16 (dqc T c)

/-! The rows and bands as the body loads them. -/
theorem fold_row_0 (x : Vec F S512x128 .f32) : View.ld (Val := Elt F) (e' := .f32) x (Rect.unit (s := S512x128) ![0, 0] ![64, 128] inb_S512x128_S64x128_0_0) = chunkRows x 0 := rfl
theorem fold_band_0 (b : Vec F S1088x128 .bf16) : (fun j => b ((Rect.unit (s := S1088x128) ![0, 0] ![640, 128] inb_S1088x128_S640x128_0_0).toLoadRect.idx j)) = bandRows b 0 := rfl
theorem fold_row_1 (x : Vec F S512x128 .f32) : View.ld (Val := Elt F) (e' := .f32) x (Rect.unit (s := S512x128) ![64, 0] ![64, 128] inb_S512x128_S64x128_64_0) = chunkRows x 1 := rfl
theorem fold_band_1 (b : Vec F S1088x128 .bf16) : (fun j => b ((Rect.unit (s := S1088x128) ![64, 0] ![640, 128] inb_S1088x128_S640x128_64_0).toLoadRect.idx j)) = bandRows b 1 := rfl
theorem fold_row_2 (x : Vec F S512x128 .f32) : View.ld (Val := Elt F) (e' := .f32) x (Rect.unit (s := S512x128) ![128, 0] ![64, 128] inb_S512x128_S64x128_128_0) = chunkRows x 2 := rfl
theorem fold_band_2 (b : Vec F S1088x128 .bf16) : (fun j => b ((Rect.unit (s := S1088x128) ![128, 0] ![640, 128] inb_S1088x128_S640x128_128_0).toLoadRect.idx j)) = bandRows b 2 := rfl
theorem fold_row_3 (x : Vec F S512x128 .f32) : View.ld (Val := Elt F) (e' := .f32) x (Rect.unit (s := S512x128) ![192, 0] ![64, 128] inb_S512x128_S64x128_192_0) = chunkRows x 3 := rfl
theorem fold_band_3 (b : Vec F S1088x128 .bf16) : (fun j => b ((Rect.unit (s := S1088x128) ![192, 0] ![640, 128] inb_S1088x128_S640x128_192_0).toLoadRect.idx j)) = bandRows b 3 := rfl
theorem fold_row_4 (x : Vec F S512x128 .f32) : View.ld (Val := Elt F) (e' := .f32) x (Rect.unit (s := S512x128) ![256, 0] ![64, 128] inb_S512x128_S64x128_256_0) = chunkRows x 4 := rfl
theorem fold_band_4 (b : Vec F S1088x128 .bf16) : (fun j => b ((Rect.unit (s := S1088x128) ![256, 0] ![640, 128] inb_S1088x128_S640x128_256_0).toLoadRect.idx j)) = bandRows b 4 := rfl
theorem fold_row_5 (x : Vec F S512x128 .f32) : View.ld (Val := Elt F) (e' := .f32) x (Rect.unit (s := S512x128) ![320, 0] ![64, 128] inb_S512x128_S64x128_320_0) = chunkRows x 5 := rfl
theorem fold_band_5 (b : Vec F S1088x128 .bf16) : (fun j => b ((Rect.unit (s := S1088x128) ![320, 0] ![640, 128] inb_S1088x128_S640x128_320_0).toLoadRect.idx j)) = bandRows b 5 := rfl
theorem fold_row_6 (x : Vec F S512x128 .f32) : View.ld (Val := Elt F) (e' := .f32) x (Rect.unit (s := S512x128) ![384, 0] ![64, 128] inb_S512x128_S64x128_384_0) = chunkRows x 6 := rfl
theorem fold_band_6 (b : Vec F S1088x128 .bf16) : (fun j => b ((Rect.unit (s := S1088x128) ![384, 0] ![640, 128] inb_S1088x128_S640x128_384_0).toLoadRect.idx j)) = bandRows b 6 := rfl
theorem fold_row_7 (x : Vec F S512x128 .f32) : View.ld (Val := Elt F) (e' := .f32) x (Rect.unit (s := S512x128) ![448, 0] ![64, 128] inb_S512x128_S64x128_448_0) = chunkRows x 7 := rfl
theorem fold_band_7 (b : Vec F S1088x128 .bf16) : (fun j => b ((Rect.unit (s := S1088x128) ![448, 0] ![640, 128] inb_S1088x128_S640x128_448_0).toLoadRect.idx j)) = bandRows b 7 := rfl
theorem zero2 : (![0, 0] : Fin 2 → ℕ) = fun _ => 0 := by decide
theorem zero3 : (![0, 0, 0] : Fin 3 → ℕ) = fun _ => 0 := by decide
theorem fold_whole_0 (x : Vec F S512x128 .f32) : View.ld (Val := Elt F) (e' := .f32) x (Rect.unit (s := S512x128) ![0, 0] ![512, 128] inb_S512x128_S512x128_0_0) = x := View.ld_unit_zero zero2 _ x
theorem fold_whole_1 (x : Vec F S1x128x640 .f32) : View.ld (Val := Elt F) (e' := .f32) x (Rect.unit (s := S1x128x640) ![0, 0, 0] ![1, 128, 640] inb_S1x128x640_S1x128x640_0_0_0) = x := View.ld_unit_zero zero3 _ x
theorem fold_buf_0 (x y : Vec F S512x128 .f32) : View.canon (Val := Elt F) (s := S1088x128) (e := .bf16) [⟨Rect.unit ![1024, 0] ![64, 128] inb_S1088x128_S64x128_1024_0, k0_pay5⟩, ⟨Rect.unit ![512, 0] ![512, 128] inb_S1088x128_S512x128_512_0, k0_pay4 y⟩, ⟨Rect.unit ![0, 0] ![512, 128] inb_S1088x128_S512x128_0_0, k0_pay3 x⟩] = bandBuf x y := rfl
theorem fold_buf_1 (x y : Vec F S512x128 .f32) : View.canon (Val := Elt F) (s := S1088x128) (e := .bf16) [⟨Rect.unit ![1024, 0] ![64, 128] inb_S1088x128_S64x128_1024_0, k0_pay8⟩, ⟨Rect.unit ![512, 0] ![512, 128] inb_S1088x128_S512x128_512_0, k0_pay7 y⟩, ⟨Rect.unit ![0, 0] ![512, 128] inb_S1088x128_S512x128_0_0, k0_pay6 x⟩] = bandBuf x y := rfl
theorem fold_q_0 (T : Tile F) : k0_pay17 (chunkRows T.q 0) = Qc T 0 := rfl
theorem fold_g_0 (T : Tile F) : k0_pay26 k0_pay16 (chunkRows T.g 0) = Gc T 0 := rfl
theorem fold_k_0 (T : Tile F) : bandRows (bandBuf T.kp T.kc) 0 = Kc T 0 := rfl
theorem fold_v_0 (T : Tile F) : bandRows (bandBuf T.vp T.vc) 0 = Vc T 0 := rfl
theorem fold_s_0 (T : Tile F) : k0_pay36 (Qc T 0) (Kc T 0) = Sc T 0 := rfl
theorem fold_dp_0 (T : Tile F) : k0_pay44 (Gc T 0) (Vc T 0) = DPc T 0 := rfl
theorem fold_p_0 (T : Tile F) : k0_pay52 T.w (Sc T 0) T.b = Pc T 0 := rfl
theorem fold_ds_0 (T : Tile F) : k0_pay67 (DPc T 0) (Pc T 0) = DSc T 0 := rfl
theorem fold_db_0 (T : Tile F) : k0_pay76 (DSc T 0) = DBc T 0 := rfl
theorem fold_dv_0 (T : Tile F) : k0_pay84 (Gc T 0) (Pc T 0) = dvc T 0 := rfl
theorem fold_dq_0 (T : Tile F) : k0_pay93 (DBc T 0) (Kc T 0) = dqc T 0 := rfl
theorem fold_dk_0 (T : Tile F) : k0_pay101 (Qc T 0) (DBc T 0) = dkc T 0 := rfl
theorem fold_o_0 (T : Tile F) : k0_pay154 k0_pay16 (dqc T 0) = dqo T 0 := rfl
theorem fold_q_1 (T : Tile F) : k0_pay18 (chunkRows T.q 1) = Qc T 1 := rfl
theorem fold_g_1 (T : Tile F) : k0_pay27 k0_pay16 (chunkRows T.g 1) = Gc T 1 := rfl
theorem fold_k_1 (T : Tile F) : bandRows (bandBuf T.kp T.kc) 1 = Kc T 1 := rfl
theorem fold_v_1 (T : Tile F) : bandRows (bandBuf T.vp T.vc) 1 = Vc T 1 := rfl
theorem fold_s_1 (T : Tile F) : k0_pay37 (Qc T 1) (Kc T 1) = Sc T 1 := rfl
theorem fold_dp_1 (T : Tile F) : k0_pay45 (Gc T 1) (Vc T 1) = DPc T 1 := rfl
theorem fold_p_1 (T : Tile F) : k0_pay54 (k0_pay53 T.w (Sc T 1) T.b) = Pc T 1 := rfl
theorem fold_ds_1 (T : Tile F) : k0_pay68 (DPc T 1) (Pc T 1) = DSc T 1 := rfl
theorem fold_db_1 (T : Tile F) : k0_pay77 (DSc T 1) = DBc T 1 := rfl
theorem fold_dv_1 (T : Tile F) : k0_pay85 (Gc T 1) (Pc T 1) = dvc T 1 := rfl
theorem fold_dq_1 (T : Tile F) : k0_pay94 (DBc T 1) (Kc T 1) = dqc T 1 := rfl
theorem fold_dk_1 (T : Tile F) : k0_pay102 (Qc T 1) (DBc T 1) = dkc T 1 := rfl
theorem fold_o_1 (T : Tile F) : k0_pay155 k0_pay16 (dqc T 1) = dqo T 1 := rfl
theorem fold_q_2 (T : Tile F) : k0_pay19 (chunkRows T.q 2) = Qc T 2 := rfl
theorem fold_g_2 (T : Tile F) : k0_pay28 k0_pay16 (chunkRows T.g 2) = Gc T 2 := rfl
theorem fold_k_2 (T : Tile F) : bandRows (bandBuf T.kp T.kc) 2 = Kc T 2 := rfl
theorem fold_v_2 (T : Tile F) : bandRows (bandBuf T.vp T.vc) 2 = Vc T 2 := rfl
theorem fold_s_2 (T : Tile F) : k0_pay38 (Qc T 2) (Kc T 2) = Sc T 2 := rfl
theorem fold_dp_2 (T : Tile F) : k0_pay46 (Gc T 2) (Vc T 2) = DPc T 2 := rfl
theorem fold_p_2 (T : Tile F) : k0_pay55 T.w (Sc T 2) T.b = Pc T 2 := rfl
theorem fold_ds_2 (T : Tile F) : k0_pay69 (DPc T 2) (Pc T 2) = DSc T 2 := rfl
theorem fold_db_2 (T : Tile F) : k0_pay78 (DSc T 2) = DBc T 2 := rfl
theorem fold_dv_2 (T : Tile F) : k0_pay86 (Gc T 2) (Pc T 2) = dvc T 2 := rfl
theorem fold_dq_2 (T : Tile F) : k0_pay95 (DBc T 2) (Kc T 2) = dqc T 2 := rfl
theorem fold_dk_2 (T : Tile F) : k0_pay103 (Qc T 2) (DBc T 2) = dkc T 2 := rfl
theorem fold_o_2 (T : Tile F) : k0_pay156 k0_pay16 (dqc T 2) = dqo T 2 := rfl
theorem fold_q_3 (T : Tile F) : k0_pay20 k0_pay16 (chunkRows T.q 3) = Qc T 3 := rfl
theorem fold_g_3 (T : Tile F) : k0_pay29 k0_pay16 (chunkRows T.g 3) = Gc T 3 := rfl
theorem fold_k_3 (T : Tile F) : bandRows (bandBuf T.kp T.kc) 3 = Kc T 3 := rfl
theorem fold_v_3 (T : Tile F) : bandRows (bandBuf T.vp T.vc) 3 = Vc T 3 := rfl
theorem fold_s_3 (T : Tile F) : k0_pay39 (Qc T 3) (Kc T 3) = Sc T 3 := rfl
theorem fold_dp_3 (T : Tile F) : k0_pay47 (Gc T 3) (Vc T 3) = DPc T 3 := rfl
theorem fold_p_3 (T : Tile F) : k0_pay59 (Sc T 3) (k0_pay56 T.b) (k0_pay57 T.w) (Scalar.ofBits .f32 0x00000000#32) k0_pay58 = Pc T 3 := rfl
theorem fold_ds_3 (T : Tile F) : k0_pay71 (DPc T 3) (Pc T 3) (k0_pay70 (DPc T 3) (Pc T 3)) = DSc T 3 := rfl
theorem fold_db_3 (T : Tile F) : k0_pay79 (DPc T 3) (Pc T 3) (k0_pay70 (DPc T 3) (Pc T 3)) = DBc T 3 := rfl
theorem fold_dv_3 (T : Tile F) : k0_pay87 (Gc T 3) (Pc T 3) = dvc T 3 := rfl
theorem fold_dq_3 (T : Tile F) : k0_pay96 (DBc T 3) (Kc T 3) = dqc T 3 := rfl
theorem fold_dk_3 (T : Tile F) : k0_pay104 (Qc T 3) (DBc T 3) = dkc T 3 := rfl
theorem fold_o_3 (T : Tile F) : k0_pay157 k0_pay16 (dqc T 3) = dqo T 3 := rfl
theorem fold_q_4 (T : Tile F) : k0_pay21 k0_pay16 (chunkRows T.q 4) = Qc T 4 := rfl
theorem fold_g_4 (T : Tile F) : k0_pay32 k0_pay16 (chunkRows T.g 4) (k0_pay30 k0_pay16 (chunkRows T.g 4)) k0_pay31 = Gc T 4 := rfl
theorem fold_k_4 (T : Tile F) : bandRows (bandBuf T.kp T.kc) 4 = Kc T 4 := rfl
theorem fold_v_4 (T : Tile F) : bandRows (bandBuf T.vp T.vc) 4 = Vc T 4 := rfl
theorem fold_s_4 (T : Tile F) : k0_pay40 (Qc T 4) (Kc T 4) (constant S128x640 .f32 0x00000000#32) = Sc T 4 := rfl
theorem fold_dp_4 (T : Tile F) : k0_pay48 (Gc T 4) (Vc T 4) = DPc T 4 := rfl
theorem fold_p_4 (T : Tile F) : k0_pay60 T.w (Sc T 4) T.b = Pc T 4 := rfl
theorem fold_ds_4 (T : Tile F) : k0_pay72 (DPc T 4) (Pc T 4) = DSc T 4 := rfl
theorem fold_db_4 (T : Tile F) : k0_pay80 (DPc T 4) (Pc T 4) = DBc T 4 := rfl
theorem fold_dv_4 (T : Tile F) : k0_pay88 (Gc T 4) (Pc T 4) = dvc T 4 := rfl
theorem fold_dq_4 (T : Tile F) : k0_pay97 (DBc T 4) (Kc T 4) = dqc T 4 := rfl
theorem fold_dk_4 (T : Tile F) : k0_pay105 (Qc T 4) (DBc T 4) = dkc T 4 := rfl
theorem fold_o_4 (T : Tile F) : k0_pay158 k0_pay16 (dqc T 4) = dqo T 4 := rfl
theorem fold_q_5 (T : Tile F) : k0_pay22 k0_pay16 (chunkRows T.q 5) = Qc T 5 := rfl
theorem fold_g_5 (T : Tile F) : k0_pay33 k0_pay16 (chunkRows T.g 5) = Gc T 5 := rfl
theorem fold_k_5 (T : Tile F) : bandRows (bandBuf T.kp T.kc) 5 = Kc T 5 := rfl
theorem fold_v_5 (T : Tile F) : bandRows (bandBuf T.vp T.vc) 5 = Vc T 5 := rfl
theorem fold_s_5 (T : Tile F) : k0_pay41 (Qc T 5) (Kc T 5) = Sc T 5 := rfl
theorem fold_dp_5 (T : Tile F) : k0_pay49 (Gc T 5) (Vc T 5) = DPc T 5 := rfl
theorem fold_p_5 (T : Tile F) : k0_pay62 (Sc T 5) (k0_pay61 T.b) (Scalar.addi (Scalar.muli T.w 8#32) 5#32) = Pc T 5 := rfl
theorem fold_ds_5 (T : Tile F) : k0_pay73 (DPc T 5) (Pc T 5) = DSc T 5 := rfl
theorem fold_db_5 (T : Tile F) : k0_pay81 (DPc T 5) (Pc T 5) = DBc T 5 := rfl
theorem fold_dv_5 (T : Tile F) : k0_pay89 (Gc T 5) (Pc T 5) = dvc T 5 := rfl
theorem fold_dq_5 (T : Tile F) : k0_pay98 (DBc T 5) (Kc T 5) = dqc T 5 := rfl
theorem fold_dk_5 (T : Tile F) : k0_pay106 (Qc T 5) (DBc T 5) = dkc T 5 := rfl
theorem fold_o_5 (T : Tile F) : k0_pay159 k0_pay16 (dqc T 5) = dqo T 5 := rfl
theorem fold_q_6 (T : Tile F) : k0_pay23 k0_pay16 (chunkRows T.q 6) = Qc T 6 := rfl
theorem fold_g_6 (T : Tile F) : k0_pay34 k0_pay16 (chunkRows T.g 6) = Gc T 6 := rfl
theorem fold_k_6 (T : Tile F) : bandRows (bandBuf T.kp T.kc) 6 = Kc T 6 := rfl
theorem fold_v_6 (T : Tile F) : bandRows (bandBuf T.vp T.vc) 6 = Vc T 6 := rfl
theorem fold_s_6 (T : Tile F) : k0_pay42 (Qc T 6) (Kc T 6) = Sc T 6 := rfl
theorem fold_dp_6 (T : Tile F) : k0_pay50 (Gc T 6) (Vc T 6) = DPc T 6 := rfl
theorem fold_p_6 (T : Tile F) : k0_pay65 (k0_pay63 T.w (Sc T 6) T.b) (k0_pay64 T.w (Sc T 6) T.b) = Pc T 6 := rfl
theorem fold_ds_6 (T : Tile F) : k0_pay74 (DPc T 6) (Pc T 6) = DSc T 6 := rfl
theorem fold_db_6 (T : Tile F) : k0_pay82 (DPc T 6) (Pc T 6) = DBc T 6 := rfl
theorem fold_dv_6 (T : Tile F) : k0_pay91 (Gc T 6) (k0_pay90 (Pc T 6)) (constant S640x128 .f32 0x00000000#32) = dvc T 6 := rfl
theorem fold_dq_6 (T : Tile F) : k0_pay99 (DBc T 6) (Kc T 6) = dqc T 6 := rfl
theorem fold_dk_6 (T : Tile F) : k0_pay107 (Qc T 6) (DBc T 6) = dkc T 6 := rfl
theorem fold_o_6 (T : Tile F) : k0_pay1 k0_pay16 (dqc T 6) = dqo T 6 := rfl
theorem fold_q_7 (T : Tile F) : k0_pay25 k0_pay16 (k0_pay24 (chunkRows T.q 7)) = Qc T 7 := rfl
theorem fold_g_7 (T : Tile F) : k0_pay35 k0_pay16 (chunkRows T.g 7) = Gc T 7 := rfl
theorem fold_k_7 (T : Tile F) : bandRows (bandBuf T.kp T.kc) 7 = Kc T 7 := rfl
theorem fold_v_7 (T : Tile F) : bandRows (bandBuf T.vp T.vc) 7 = Vc T 7 := rfl
theorem fold_s_7 (T : Tile F) : k0_pay43 (Qc T 7) (Kc T 7) = Sc T 7 := rfl
theorem fold_dp_7 (T : Tile F) : k0_pay51 (Gc T 7) (Vc T 7) = DPc T 7 := rfl
theorem fold_p_7 (T : Tile F) : k0_pay66 T.w (Sc T 7) T.b = Pc T 7 := rfl
theorem fold_ds_7 (T : Tile F) : k0_pay75 (DPc T 7) (Pc T 7) = DSc T 7 := rfl
theorem fold_db_7 (T : Tile F) : k0_pay83 (DPc T 7) (Pc T 7) = DBc T 7 := rfl
theorem fold_dv_7 (T : Tile F) : k0_pay92 (Gc T 7) (Pc T 7) = dvc T 7 := rfl
theorem fold_dq_7 (T : Tile F) : k0_pay100 (DBc T 7) (Kc T 7) = dqc T 7 := rfl
theorem fold_dk_7 (T : Tile F) : k0_pay108 (Qc T 7) (DBc T 7) = dkc T 7 := rfl
theorem fold_o_7 (T : Tile F) : k0_pay2 k0_pay16 (dqc T 7) = dqo T 7 := rfl
/-! The rows one tile adds to the accumulators, sixteen blocks of 64: block `r` collects row block `r - c` of every chunk `c` whose band holds it. -/
/-- What block `r` of the accumulator of dv collects. -/
def dvTot (T : Tile F) : ℕ → FVec F S64x128 .f32
  | 0 => extractStridedSlice S64x128 ![0, 0] (dvc T 0) slices_S640x128_o0_0_S64x128
  | 1 => addf (extractStridedSlice S64x128 ![64, 0] (dvc T 0) slices_S640x128_o64_0_S64x128) (extractStridedSlice S64x128 ![0, 0] (dvc T 1) slices_S640x128_o0_0_S64x128)
  | 2 => addf (addf (extractStridedSlice S64x128 ![128, 0] (dvc T 0) slices_S640x128_o128_0_S64x128) (extractStridedSlice S64x128 ![64, 0] (dvc T 1) slices_S640x128_o64_0_S64x128)) (extractStridedSlice S64x128 ![0, 0] (dvc T 2) slices_S640x128_o0_0_S64x128)
  | 3 => addf (addf (addf (extractStridedSlice S64x128 ![192, 0] (dvc T 0) slices_S640x128_o192_0_S64x128) (extractStridedSlice S64x128 ![128, 0] (dvc T 1) slices_S640x128_o128_0_S64x128)) (extractStridedSlice S64x128 ![64, 0] (dvc T 2) slices_S640x128_o64_0_S64x128)) (extractStridedSlice S64x128 ![0, 0] (dvc T 3) slices_S640x128_o0_0_S64x128)
  | 4 => addf (addf (addf (addf (extractStridedSlice S64x128 ![256, 0] (dvc T 0) slices_S640x128_o256_0_S64x128) (extractStridedSlice S64x128 ![192, 0] (dvc T 1) slices_S640x128_o192_0_S64x128)) (extractStridedSlice S64x128 ![128, 0] (dvc T 2) slices_S640x128_o128_0_S64x128)) (extractStridedSlice S64x128 ![64, 0] (dvc T 3) slices_S640x128_o64_0_S64x128)) (extractStridedSlice S64x128 ![0, 0] (dvc T 4) slices_S640x128_o0_0_S64x128)
  | 5 => addf (addf (addf (addf (addf (extractStridedSlice S64x128 ![320, 0] (dvc T 0) slices_S640x128_o320_0_S64x128) (extractStridedSlice S64x128 ![256, 0] (dvc T 1) slices_S640x128_o256_0_S64x128)) (extractStridedSlice S64x128 ![192, 0] (dvc T 2) slices_S640x128_o192_0_S64x128)) (extractStridedSlice S64x128 ![128, 0] (dvc T 3) slices_S640x128_o128_0_S64x128)) (extractStridedSlice S64x128 ![64, 0] (dvc T 4) slices_S640x128_o64_0_S64x128)) (extractStridedSlice S64x128 ![0, 0] (dvc T 5) slices_S640x128_o0_0_S64x128)
  | 6 => addf (addf (addf (addf (addf (addf (extractStridedSlice S64x128 ![384, 0] (dvc T 0) slices_S640x128_o384_0_S64x128) (extractStridedSlice S64x128 ![320, 0] (dvc T 1) slices_S640x128_o320_0_S64x128)) (extractStridedSlice S64x128 ![256, 0] (dvc T 2) slices_S640x128_o256_0_S64x128)) (extractStridedSlice S64x128 ![192, 0] (dvc T 3) slices_S640x128_o192_0_S64x128)) (extractStridedSlice S64x128 ![128, 0] (dvc T 4) slices_S640x128_o128_0_S64x128)) (extractStridedSlice S64x128 ![64, 0] (dvc T 5) slices_S640x128_o64_0_S64x128)) (extractStridedSlice S64x128 ![0, 0] (dvc T 6) slices_S640x128_o0_0_S64x128)
  | 7 => addf (addf (addf (addf (addf (addf (addf (extractStridedSlice S64x128 ![448, 0] (dvc T 0) slices_S640x128_o448_0_S64x128) (extractStridedSlice S64x128 ![384, 0] (dvc T 1) slices_S640x128_o384_0_S64x128)) (extractStridedSlice S64x128 ![320, 0] (dvc T 2) slices_S640x128_o320_0_S64x128)) (extractStridedSlice S64x128 ![256, 0] (dvc T 3) slices_S640x128_o256_0_S64x128)) (extractStridedSlice S64x128 ![192, 0] (dvc T 4) slices_S640x128_o192_0_S64x128)) (extractStridedSlice S64x128 ![128, 0] (dvc T 5) slices_S640x128_o128_0_S64x128)) (extractStridedSlice S64x128 ![64, 0] (dvc T 6) slices_S640x128_o64_0_S64x128)) (extractStridedSlice S64x128 ![0, 0] (dvc T 7) slices_S640x128_o0_0_S64x128)
  | 8 => addf (addf (addf (addf (addf (addf (addf (extractStridedSlice S64x128 ![512, 0] (dvc T 0) slices_S640x128_o512_0_S64x128) (extractStridedSlice S64x128 ![448, 0] (dvc T 1) slices_S640x128_o448_0_S64x128)) (extractStridedSlice S64x128 ![384, 0] (dvc T 2) slices_S640x128_o384_0_S64x128)) (extractStridedSlice S64x128 ![320, 0] (dvc T 3) slices_S640x128_o320_0_S64x128)) (extractStridedSlice S64x128 ![256, 0] (dvc T 4) slices_S640x128_o256_0_S64x128)) (extractStridedSlice S64x128 ![192, 0] (dvc T 5) slices_S640x128_o192_0_S64x128)) (extractStridedSlice S64x128 ![128, 0] (dvc T 6) slices_S640x128_o128_0_S64x128)) (extractStridedSlice S64x128 ![64, 0] (dvc T 7) slices_S640x128_o64_0_S64x128)
  | 9 => addf (addf (addf (addf (addf (addf (extractStridedSlice S64x128 ![512, 0] (dvc T 1) slices_S640x128_o512_0_S64x128) (extractStridedSlice S64x128 ![448, 0] (dvc T 2) slices_S640x128_o448_0_S64x128)) (extractStridedSlice S64x128 ![384, 0] (dvc T 3) slices_S640x128_o384_0_S64x128)) (extractStridedSlice S64x128 ![320, 0] (dvc T 4) slices_S640x128_o320_0_S64x128)) (extractStridedSlice S64x128 ![256, 0] (dvc T 5) slices_S640x128_o256_0_S64x128)) (extractStridedSlice S64x128 ![192, 0] (dvc T 6) slices_S640x128_o192_0_S64x128)) (extractStridedSlice S64x128 ![128, 0] (dvc T 7) slices_S640x128_o128_0_S64x128)
  | 10 => addf (addf (addf (addf (addf (extractStridedSlice S64x128 ![512, 0] (dvc T 2) slices_S640x128_o512_0_S64x128) (extractStridedSlice S64x128 ![448, 0] (dvc T 3) slices_S640x128_o448_0_S64x128)) (extractStridedSlice S64x128 ![384, 0] (dvc T 4) slices_S640x128_o384_0_S64x128)) (extractStridedSlice S64x128 ![320, 0] (dvc T 5) slices_S640x128_o320_0_S64x128)) (extractStridedSlice S64x128 ![256, 0] (dvc T 6) slices_S640x128_o256_0_S64x128)) (extractStridedSlice S64x128 ![192, 0] (dvc T 7) slices_S640x128_o192_0_S64x128)
  | 11 => addf (addf (addf (addf (extractStridedSlice S64x128 ![512, 0] (dvc T 3) slices_S640x128_o512_0_S64x128) (extractStridedSlice S64x128 ![448, 0] (dvc T 4) slices_S640x128_o448_0_S64x128)) (extractStridedSlice S64x128 ![384, 0] (dvc T 5) slices_S640x128_o384_0_S64x128)) (extractStridedSlice S64x128 ![320, 0] (dvc T 6) slices_S640x128_o320_0_S64x128)) (extractStridedSlice S64x128 ![256, 0] (dvc T 7) slices_S640x128_o256_0_S64x128)
  | 12 => addf (addf (addf (extractStridedSlice S64x128 ![512, 0] (dvc T 4) slices_S640x128_o512_0_S64x128) (extractStridedSlice S64x128 ![448, 0] (dvc T 5) slices_S640x128_o448_0_S64x128)) (extractStridedSlice S64x128 ![384, 0] (dvc T 6) slices_S640x128_o384_0_S64x128)) (extractStridedSlice S64x128 ![320, 0] (dvc T 7) slices_S640x128_o320_0_S64x128)
  | 13 => addf (addf (extractStridedSlice S64x128 ![512, 0] (dvc T 5) slices_S640x128_o512_0_S64x128) (extractStridedSlice S64x128 ![448, 0] (dvc T 6) slices_S640x128_o448_0_S64x128)) (extractStridedSlice S64x128 ![384, 0] (dvc T 7) slices_S640x128_o384_0_S64x128)
  | 14 => addf (extractStridedSlice S64x128 ![512, 0] (dvc T 6) slices_S640x128_o512_0_S64x128) (extractStridedSlice S64x128 ![448, 0] (dvc T 7) slices_S640x128_o448_0_S64x128)
  | 15 => extractStridedSlice S64x128 ![512, 0] (dvc T 7) slices_S640x128_o512_0_S64x128
  | _ => broadcast S64x128 (Scalar.ofBits .f32 0x00000000#32)
theorem fold_tdv_0 (T : Tile F) : (extractStridedSlice S64x128 ![0, 0] (dvc T 0) slices_S640x128_o0_0_S64x128) = dvTot T 0 := rfl
theorem fold_tdv_1 (T : Tile F) : (addf (extractStridedSlice S64x128 ![64, 0] (dvc T 0) slices_S640x128_o64_0_S64x128) (extractStridedSlice S64x128 ![0, 0] (dvc T 1) slices_S640x128_o0_0_S64x128)) = dvTot T 1 := rfl
theorem fold_tdv_2 (T : Tile F) : (addf (addf (extractStridedSlice S64x128 ![128, 0] (dvc T 0) slices_S640x128_o128_0_S64x128) (extractStridedSlice S64x128 ![64, 0] (dvc T 1) slices_S640x128_o64_0_S64x128)) (extractStridedSlice S64x128 ![0, 0] (dvc T 2) slices_S640x128_o0_0_S64x128)) = dvTot T 2 := rfl
theorem fold_tdv_3 (T : Tile F) : (addf (addf (addf (extractStridedSlice S64x128 ![192, 0] (dvc T 0) slices_S640x128_o192_0_S64x128) (extractStridedSlice S64x128 ![128, 0] (dvc T 1) slices_S640x128_o128_0_S64x128)) (extractStridedSlice S64x128 ![64, 0] (dvc T 2) slices_S640x128_o64_0_S64x128)) (extractStridedSlice S64x128 ![0, 0] (dvc T 3) slices_S640x128_o0_0_S64x128)) = dvTot T 3 := rfl
theorem fold_tdv_4 (T : Tile F) : (addf (addf (addf (addf (extractStridedSlice S64x128 ![256, 0] (dvc T 0) slices_S640x128_o256_0_S64x128) (extractStridedSlice S64x128 ![192, 0] (dvc T 1) slices_S640x128_o192_0_S64x128)) (extractStridedSlice S64x128 ![128, 0] (dvc T 2) slices_S640x128_o128_0_S64x128)) (extractStridedSlice S64x128 ![64, 0] (dvc T 3) slices_S640x128_o64_0_S64x128)) (extractStridedSlice S64x128 ![0, 0] (dvc T 4) slices_S640x128_o0_0_S64x128)) = dvTot T 4 := rfl
theorem fold_tdv_5 (T : Tile F) : (addf (addf (addf (addf (addf (extractStridedSlice S64x128 ![320, 0] (dvc T 0) slices_S640x128_o320_0_S64x128) (extractStridedSlice S64x128 ![256, 0] (dvc T 1) slices_S640x128_o256_0_S64x128)) (extractStridedSlice S64x128 ![192, 0] (dvc T 2) slices_S640x128_o192_0_S64x128)) (extractStridedSlice S64x128 ![128, 0] (dvc T 3) slices_S640x128_o128_0_S64x128)) (extractStridedSlice S64x128 ![64, 0] (dvc T 4) slices_S640x128_o64_0_S64x128)) (extractStridedSlice S64x128 ![0, 0] (dvc T 5) slices_S640x128_o0_0_S64x128)) = dvTot T 5 := rfl
theorem fold_tdv_6 (T : Tile F) : (addf (addf (addf (addf (addf (addf (extractStridedSlice S64x128 ![384, 0] (dvc T 0) slices_S640x128_o384_0_S64x128) (extractStridedSlice S64x128 ![320, 0] (dvc T 1) slices_S640x128_o320_0_S64x128)) (extractStridedSlice S64x128 ![256, 0] (dvc T 2) slices_S640x128_o256_0_S64x128)) (extractStridedSlice S64x128 ![192, 0] (dvc T 3) slices_S640x128_o192_0_S64x128)) (extractStridedSlice S64x128 ![128, 0] (dvc T 4) slices_S640x128_o128_0_S64x128)) (extractStridedSlice S64x128 ![64, 0] (dvc T 5) slices_S640x128_o64_0_S64x128)) (extractStridedSlice S64x128 ![0, 0] (dvc T 6) slices_S640x128_o0_0_S64x128)) = dvTot T 6 := rfl
theorem fold_tdv_7 (T : Tile F) : (addf (addf (addf (addf (addf (addf (addf (extractStridedSlice S64x128 ![448, 0] (dvc T 0) slices_S640x128_o448_0_S64x128) (extractStridedSlice S64x128 ![384, 0] (dvc T 1) slices_S640x128_o384_0_S64x128)) (extractStridedSlice S64x128 ![320, 0] (dvc T 2) slices_S640x128_o320_0_S64x128)) (extractStridedSlice S64x128 ![256, 0] (dvc T 3) slices_S640x128_o256_0_S64x128)) (extractStridedSlice S64x128 ![192, 0] (dvc T 4) slices_S640x128_o192_0_S64x128)) (extractStridedSlice S64x128 ![128, 0] (dvc T 5) slices_S640x128_o128_0_S64x128)) (extractStridedSlice S64x128 ![64, 0] (dvc T 6) slices_S640x128_o64_0_S64x128)) (extractStridedSlice S64x128 ![0, 0] (dvc T 7) slices_S640x128_o0_0_S64x128)) = dvTot T 7 := rfl
theorem fold_tdv_8 (T : Tile F) : (addf (addf (addf (addf (addf (addf (addf (extractStridedSlice S64x128 ![512, 0] (dvc T 0) slices_S640x128_o512_0_S64x128) (extractStridedSlice S64x128 ![448, 0] (dvc T 1) slices_S640x128_o448_0_S64x128)) (extractStridedSlice S64x128 ![384, 0] (dvc T 2) slices_S640x128_o384_0_S64x128)) (extractStridedSlice S64x128 ![320, 0] (dvc T 3) slices_S640x128_o320_0_S64x128)) (extractStridedSlice S64x128 ![256, 0] (dvc T 4) slices_S640x128_o256_0_S64x128)) (extractStridedSlice S64x128 ![192, 0] (dvc T 5) slices_S640x128_o192_0_S64x128)) (extractStridedSlice S64x128 ![128, 0] (dvc T 6) slices_S640x128_o128_0_S64x128)) (extractStridedSlice S64x128 ![64, 0] (dvc T 7) slices_S640x128_o64_0_S64x128)) = dvTot T 8 := rfl
theorem fold_tdv_9 (T : Tile F) : (addf (addf (addf (addf (addf (addf (extractStridedSlice S64x128 ![512, 0] (dvc T 1) slices_S640x128_o512_0_S64x128) (extractStridedSlice S64x128 ![448, 0] (dvc T 2) slices_S640x128_o448_0_S64x128)) (extractStridedSlice S64x128 ![384, 0] (dvc T 3) slices_S640x128_o384_0_S64x128)) (extractStridedSlice S64x128 ![320, 0] (dvc T 4) slices_S640x128_o320_0_S64x128)) (extractStridedSlice S64x128 ![256, 0] (dvc T 5) slices_S640x128_o256_0_S64x128)) (extractStridedSlice S64x128 ![192, 0] (dvc T 6) slices_S640x128_o192_0_S64x128)) (extractStridedSlice S64x128 ![128, 0] (dvc T 7) slices_S640x128_o128_0_S64x128)) = dvTot T 9 := rfl
theorem fold_tdv_10 (T : Tile F) : (addf (addf (addf (addf (addf (extractStridedSlice S64x128 ![512, 0] (dvc T 2) slices_S640x128_o512_0_S64x128) (extractStridedSlice S64x128 ![448, 0] (dvc T 3) slices_S640x128_o448_0_S64x128)) (extractStridedSlice S64x128 ![384, 0] (dvc T 4) slices_S640x128_o384_0_S64x128)) (extractStridedSlice S64x128 ![320, 0] (dvc T 5) slices_S640x128_o320_0_S64x128)) (extractStridedSlice S64x128 ![256, 0] (dvc T 6) slices_S640x128_o256_0_S64x128)) (extractStridedSlice S64x128 ![192, 0] (dvc T 7) slices_S640x128_o192_0_S64x128)) = dvTot T 10 := rfl
theorem fold_tdv_11 (T : Tile F) : (addf (addf (addf (addf (extractStridedSlice S64x128 ![512, 0] (dvc T 3) slices_S640x128_o512_0_S64x128) (extractStridedSlice S64x128 ![448, 0] (dvc T 4) slices_S640x128_o448_0_S64x128)) (extractStridedSlice S64x128 ![384, 0] (dvc T 5) slices_S640x128_o384_0_S64x128)) (extractStridedSlice S64x128 ![320, 0] (dvc T 6) slices_S640x128_o320_0_S64x128)) (extractStridedSlice S64x128 ![256, 0] (dvc T 7) slices_S640x128_o256_0_S64x128)) = dvTot T 11 := rfl
theorem fold_tdv_12 (T : Tile F) : (addf (addf (addf (extractStridedSlice S64x128 ![512, 0] (dvc T 4) slices_S640x128_o512_0_S64x128) (extractStridedSlice S64x128 ![448, 0] (dvc T 5) slices_S640x128_o448_0_S64x128)) (extractStridedSlice S64x128 ![384, 0] (dvc T 6) slices_S640x128_o384_0_S64x128)) (extractStridedSlice S64x128 ![320, 0] (dvc T 7) slices_S640x128_o320_0_S64x128)) = dvTot T 12 := rfl
theorem fold_tdv_13 (T : Tile F) : (addf (addf (extractStridedSlice S64x128 ![512, 0] (dvc T 5) slices_S640x128_o512_0_S64x128) (extractStridedSlice S64x128 ![448, 0] (dvc T 6) slices_S640x128_o448_0_S64x128)) (extractStridedSlice S64x128 ![384, 0] (dvc T 7) slices_S640x128_o384_0_S64x128)) = dvTot T 13 := rfl
theorem fold_tdv_14 (T : Tile F) : (addf (extractStridedSlice S64x128 ![512, 0] (dvc T 6) slices_S640x128_o512_0_S64x128) (extractStridedSlice S64x128 ![448, 0] (dvc T 7) slices_S640x128_o448_0_S64x128)) = dvTot T 14 := rfl
theorem fold_tdv_15 (T : Tile F) : (extractStridedSlice S64x128 ![512, 0] (dvc T 7) slices_S640x128_o512_0_S64x128) = dvTot T 15 := rfl
/-- What block `r` of the accumulator of dk collects. -/
def dkTot (T : Tile F) : ℕ → FVec F S64x128 .f32
  | 0 => extractStridedSlice S64x128 ![0, 0] (dkc T 0) slices_S640x128_o0_0_S64x128
  | 1 => addf (extractStridedSlice S64x128 ![64, 0] (dkc T 0) slices_S640x128_o64_0_S64x128) (extractStridedSlice S64x128 ![0, 0] (dkc T 1) slices_S640x128_o0_0_S64x128)
  | 2 => addf (addf (extractStridedSlice S64x128 ![128, 0] (dkc T 0) slices_S640x128_o128_0_S64x128) (extractStridedSlice S64x128 ![64, 0] (dkc T 1) slices_S640x128_o64_0_S64x128)) (extractStridedSlice S64x128 ![0, 0] (dkc T 2) slices_S640x128_o0_0_S64x128)
  | 3 => addf (addf (addf (extractStridedSlice S64x128 ![192, 0] (dkc T 0) slices_S640x128_o192_0_S64x128) (extractStridedSlice S64x128 ![128, 0] (dkc T 1) slices_S640x128_o128_0_S64x128)) (extractStridedSlice S64x128 ![64, 0] (dkc T 2) slices_S640x128_o64_0_S64x128)) (extractStridedSlice S64x128 ![0, 0] (dkc T 3) slices_S640x128_o0_0_S64x128)
  | 4 => addf (addf (addf (addf (extractStridedSlice S64x128 ![256, 0] (dkc T 0) slices_S640x128_o256_0_S64x128) (extractStridedSlice S64x128 ![192, 0] (dkc T 1) slices_S640x128_o192_0_S64x128)) (extractStridedSlice S64x128 ![128, 0] (dkc T 2) slices_S640x128_o128_0_S64x128)) (extractStridedSlice S64x128 ![64, 0] (dkc T 3) slices_S640x128_o64_0_S64x128)) (extractStridedSlice S64x128 ![0, 0] (dkc T 4) slices_S640x128_o0_0_S64x128)
  | 5 => addf (addf (addf (addf (addf (extractStridedSlice S64x128 ![320, 0] (dkc T 0) slices_S640x128_o320_0_S64x128) (extractStridedSlice S64x128 ![256, 0] (dkc T 1) slices_S640x128_o256_0_S64x128)) (extractStridedSlice S64x128 ![192, 0] (dkc T 2) slices_S640x128_o192_0_S64x128)) (extractStridedSlice S64x128 ![128, 0] (dkc T 3) slices_S640x128_o128_0_S64x128)) (extractStridedSlice S64x128 ![64, 0] (dkc T 4) slices_S640x128_o64_0_S64x128)) (extractStridedSlice S64x128 ![0, 0] (dkc T 5) slices_S640x128_o0_0_S64x128)
  | 6 => addf (addf (addf (addf (addf (addf (extractStridedSlice S64x128 ![384, 0] (dkc T 0) slices_S640x128_o384_0_S64x128) (extractStridedSlice S64x128 ![320, 0] (dkc T 1) slices_S640x128_o320_0_S64x128)) (extractStridedSlice S64x128 ![256, 0] (dkc T 2) slices_S640x128_o256_0_S64x128)) (extractStridedSlice S64x128 ![192, 0] (dkc T 3) slices_S640x128_o192_0_S64x128)) (extractStridedSlice S64x128 ![128, 0] (dkc T 4) slices_S640x128_o128_0_S64x128)) (extractStridedSlice S64x128 ![64, 0] (dkc T 5) slices_S640x128_o64_0_S64x128)) (extractStridedSlice S64x128 ![0, 0] (dkc T 6) slices_S640x128_o0_0_S64x128)
  | 7 => addf (addf (addf (addf (addf (addf (addf (extractStridedSlice S64x128 ![448, 0] (dkc T 0) slices_S640x128_o448_0_S64x128) (extractStridedSlice S64x128 ![384, 0] (dkc T 1) slices_S640x128_o384_0_S64x128)) (extractStridedSlice S64x128 ![320, 0] (dkc T 2) slices_S640x128_o320_0_S64x128)) (extractStridedSlice S64x128 ![256, 0] (dkc T 3) slices_S640x128_o256_0_S64x128)) (extractStridedSlice S64x128 ![192, 0] (dkc T 4) slices_S640x128_o192_0_S64x128)) (extractStridedSlice S64x128 ![128, 0] (dkc T 5) slices_S640x128_o128_0_S64x128)) (extractStridedSlice S64x128 ![64, 0] (dkc T 6) slices_S640x128_o64_0_S64x128)) (extractStridedSlice S64x128 ![0, 0] (dkc T 7) slices_S640x128_o0_0_S64x128)
  | 8 => addf (addf (addf (addf (addf (addf (addf (extractStridedSlice S64x128 ![512, 0] (dkc T 0) slices_S640x128_o512_0_S64x128) (extractStridedSlice S64x128 ![448, 0] (dkc T 1) slices_S640x128_o448_0_S64x128)) (extractStridedSlice S64x128 ![384, 0] (dkc T 2) slices_S640x128_o384_0_S64x128)) (extractStridedSlice S64x128 ![320, 0] (dkc T 3) slices_S640x128_o320_0_S64x128)) (extractStridedSlice S64x128 ![256, 0] (dkc T 4) slices_S640x128_o256_0_S64x128)) (extractStridedSlice S64x128 ![192, 0] (dkc T 5) slices_S640x128_o192_0_S64x128)) (extractStridedSlice S64x128 ![128, 0] (dkc T 6) slices_S640x128_o128_0_S64x128)) (extractStridedSlice S64x128 ![64, 0] (dkc T 7) slices_S640x128_o64_0_S64x128)
  | 9 => addf (addf (addf (addf (addf (addf (extractStridedSlice S64x128 ![512, 0] (dkc T 1) slices_S640x128_o512_0_S64x128) (extractStridedSlice S64x128 ![448, 0] (dkc T 2) slices_S640x128_o448_0_S64x128)) (extractStridedSlice S64x128 ![384, 0] (dkc T 3) slices_S640x128_o384_0_S64x128)) (extractStridedSlice S64x128 ![320, 0] (dkc T 4) slices_S640x128_o320_0_S64x128)) (extractStridedSlice S64x128 ![256, 0] (dkc T 5) slices_S640x128_o256_0_S64x128)) (extractStridedSlice S64x128 ![192, 0] (dkc T 6) slices_S640x128_o192_0_S64x128)) (extractStridedSlice S64x128 ![128, 0] (dkc T 7) slices_S640x128_o128_0_S64x128)
  | 10 => addf (addf (addf (addf (addf (extractStridedSlice S64x128 ![512, 0] (dkc T 2) slices_S640x128_o512_0_S64x128) (extractStridedSlice S64x128 ![448, 0] (dkc T 3) slices_S640x128_o448_0_S64x128)) (extractStridedSlice S64x128 ![384, 0] (dkc T 4) slices_S640x128_o384_0_S64x128)) (extractStridedSlice S64x128 ![320, 0] (dkc T 5) slices_S640x128_o320_0_S64x128)) (extractStridedSlice S64x128 ![256, 0] (dkc T 6) slices_S640x128_o256_0_S64x128)) (extractStridedSlice S64x128 ![192, 0] (dkc T 7) slices_S640x128_o192_0_S64x128)
  | 11 => addf (addf (addf (addf (extractStridedSlice S64x128 ![512, 0] (dkc T 3) slices_S640x128_o512_0_S64x128) (extractStridedSlice S64x128 ![448, 0] (dkc T 4) slices_S640x128_o448_0_S64x128)) (extractStridedSlice S64x128 ![384, 0] (dkc T 5) slices_S640x128_o384_0_S64x128)) (extractStridedSlice S64x128 ![320, 0] (dkc T 6) slices_S640x128_o320_0_S64x128)) (extractStridedSlice S64x128 ![256, 0] (dkc T 7) slices_S640x128_o256_0_S64x128)
  | 12 => addf (addf (addf (extractStridedSlice S64x128 ![512, 0] (dkc T 4) slices_S640x128_o512_0_S64x128) (extractStridedSlice S64x128 ![448, 0] (dkc T 5) slices_S640x128_o448_0_S64x128)) (extractStridedSlice S64x128 ![384, 0] (dkc T 6) slices_S640x128_o384_0_S64x128)) (extractStridedSlice S64x128 ![320, 0] (dkc T 7) slices_S640x128_o320_0_S64x128)
  | 13 => addf (addf (extractStridedSlice S64x128 ![512, 0] (dkc T 5) slices_S640x128_o512_0_S64x128) (extractStridedSlice S64x128 ![448, 0] (dkc T 6) slices_S640x128_o448_0_S64x128)) (extractStridedSlice S64x128 ![384, 0] (dkc T 7) slices_S640x128_o384_0_S64x128)
  | 14 => addf (extractStridedSlice S64x128 ![512, 0] (dkc T 6) slices_S640x128_o512_0_S64x128) (extractStridedSlice S64x128 ![448, 0] (dkc T 7) slices_S640x128_o448_0_S64x128)
  | 15 => extractStridedSlice S64x128 ![512, 0] (dkc T 7) slices_S640x128_o512_0_S64x128
  | _ => broadcast S64x128 (Scalar.ofBits .f32 0x00000000#32)
theorem fold_tdk_0 (T : Tile F) : (extractStridedSlice S64x128 ![0, 0] (dkc T 0) slices_S640x128_o0_0_S64x128) = dkTot T 0 := rfl
theorem fold_tdk_1 (T : Tile F) : (addf (extractStridedSlice S64x128 ![64, 0] (dkc T 0) slices_S640x128_o64_0_S64x128) (extractStridedSlice S64x128 ![0, 0] (dkc T 1) slices_S640x128_o0_0_S64x128)) = dkTot T 1 := rfl
theorem fold_tdk_2 (T : Tile F) : (addf (addf (extractStridedSlice S64x128 ![128, 0] (dkc T 0) slices_S640x128_o128_0_S64x128) (extractStridedSlice S64x128 ![64, 0] (dkc T 1) slices_S640x128_o64_0_S64x128)) (extractStridedSlice S64x128 ![0, 0] (dkc T 2) slices_S640x128_o0_0_S64x128)) = dkTot T 2 := rfl
theorem fold_tdk_3 (T : Tile F) : (addf (addf (addf (extractStridedSlice S64x128 ![192, 0] (dkc T 0) slices_S640x128_o192_0_S64x128) (extractStridedSlice S64x128 ![128, 0] (dkc T 1) slices_S640x128_o128_0_S64x128)) (extractStridedSlice S64x128 ![64, 0] (dkc T 2) slices_S640x128_o64_0_S64x128)) (extractStridedSlice S64x128 ![0, 0] (dkc T 3) slices_S640x128_o0_0_S64x128)) = dkTot T 3 := rfl
theorem fold_tdk_4 (T : Tile F) : (addf (addf (addf (addf (extractStridedSlice S64x128 ![256, 0] (dkc T 0) slices_S640x128_o256_0_S64x128) (extractStridedSlice S64x128 ![192, 0] (dkc T 1) slices_S640x128_o192_0_S64x128)) (extractStridedSlice S64x128 ![128, 0] (dkc T 2) slices_S640x128_o128_0_S64x128)) (extractStridedSlice S64x128 ![64, 0] (dkc T 3) slices_S640x128_o64_0_S64x128)) (extractStridedSlice S64x128 ![0, 0] (dkc T 4) slices_S640x128_o0_0_S64x128)) = dkTot T 4 := rfl
theorem fold_tdk_5 (T : Tile F) : (addf (addf (addf (addf (addf (extractStridedSlice S64x128 ![320, 0] (dkc T 0) slices_S640x128_o320_0_S64x128) (extractStridedSlice S64x128 ![256, 0] (dkc T 1) slices_S640x128_o256_0_S64x128)) (extractStridedSlice S64x128 ![192, 0] (dkc T 2) slices_S640x128_o192_0_S64x128)) (extractStridedSlice S64x128 ![128, 0] (dkc T 3) slices_S640x128_o128_0_S64x128)) (extractStridedSlice S64x128 ![64, 0] (dkc T 4) slices_S640x128_o64_0_S64x128)) (extractStridedSlice S64x128 ![0, 0] (dkc T 5) slices_S640x128_o0_0_S64x128)) = dkTot T 5 := rfl
theorem fold_tdk_6 (T : Tile F) : (addf (addf (addf (addf (addf (addf (extractStridedSlice S64x128 ![384, 0] (dkc T 0) slices_S640x128_o384_0_S64x128) (extractStridedSlice S64x128 ![320, 0] (dkc T 1) slices_S640x128_o320_0_S64x128)) (extractStridedSlice S64x128 ![256, 0] (dkc T 2) slices_S640x128_o256_0_S64x128)) (extractStridedSlice S64x128 ![192, 0] (dkc T 3) slices_S640x128_o192_0_S64x128)) (extractStridedSlice S64x128 ![128, 0] (dkc T 4) slices_S640x128_o128_0_S64x128)) (extractStridedSlice S64x128 ![64, 0] (dkc T 5) slices_S640x128_o64_0_S64x128)) (extractStridedSlice S64x128 ![0, 0] (dkc T 6) slices_S640x128_o0_0_S64x128)) = dkTot T 6 := rfl
theorem fold_tdk_7 (T : Tile F) : (addf (addf (addf (addf (addf (addf (addf (extractStridedSlice S64x128 ![448, 0] (dkc T 0) slices_S640x128_o448_0_S64x128) (extractStridedSlice S64x128 ![384, 0] (dkc T 1) slices_S640x128_o384_0_S64x128)) (extractStridedSlice S64x128 ![320, 0] (dkc T 2) slices_S640x128_o320_0_S64x128)) (extractStridedSlice S64x128 ![256, 0] (dkc T 3) slices_S640x128_o256_0_S64x128)) (extractStridedSlice S64x128 ![192, 0] (dkc T 4) slices_S640x128_o192_0_S64x128)) (extractStridedSlice S64x128 ![128, 0] (dkc T 5) slices_S640x128_o128_0_S64x128)) (extractStridedSlice S64x128 ![64, 0] (dkc T 6) slices_S640x128_o64_0_S64x128)) (extractStridedSlice S64x128 ![0, 0] (dkc T 7) slices_S640x128_o0_0_S64x128)) = dkTot T 7 := rfl
theorem fold_tdk_8 (T : Tile F) : (addf (addf (addf (addf (addf (addf (addf (extractStridedSlice S64x128 ![512, 0] (dkc T 0) slices_S640x128_o512_0_S64x128) (extractStridedSlice S64x128 ![448, 0] (dkc T 1) slices_S640x128_o448_0_S64x128)) (extractStridedSlice S64x128 ![384, 0] (dkc T 2) slices_S640x128_o384_0_S64x128)) (extractStridedSlice S64x128 ![320, 0] (dkc T 3) slices_S640x128_o320_0_S64x128)) (extractStridedSlice S64x128 ![256, 0] (dkc T 4) slices_S640x128_o256_0_S64x128)) (extractStridedSlice S64x128 ![192, 0] (dkc T 5) slices_S640x128_o192_0_S64x128)) (extractStridedSlice S64x128 ![128, 0] (dkc T 6) slices_S640x128_o128_0_S64x128)) (extractStridedSlice S64x128 ![64, 0] (dkc T 7) slices_S640x128_o64_0_S64x128)) = dkTot T 8 := rfl
theorem fold_tdk_9 (T : Tile F) : (addf (addf (addf (addf (addf (addf (extractStridedSlice S64x128 ![512, 0] (dkc T 1) slices_S640x128_o512_0_S64x128) (extractStridedSlice S64x128 ![448, 0] (dkc T 2) slices_S640x128_o448_0_S64x128)) (extractStridedSlice S64x128 ![384, 0] (dkc T 3) slices_S640x128_o384_0_S64x128)) (extractStridedSlice S64x128 ![320, 0] (dkc T 4) slices_S640x128_o320_0_S64x128)) (extractStridedSlice S64x128 ![256, 0] (dkc T 5) slices_S640x128_o256_0_S64x128)) (extractStridedSlice S64x128 ![192, 0] (dkc T 6) slices_S640x128_o192_0_S64x128)) (extractStridedSlice S64x128 ![128, 0] (dkc T 7) slices_S640x128_o128_0_S64x128)) = dkTot T 9 := rfl
theorem fold_tdk_10 (T : Tile F) : (addf (addf (addf (addf (addf (extractStridedSlice S64x128 ![512, 0] (dkc T 2) slices_S640x128_o512_0_S64x128) (extractStridedSlice S64x128 ![448, 0] (dkc T 3) slices_S640x128_o448_0_S64x128)) (extractStridedSlice S64x128 ![384, 0] (dkc T 4) slices_S640x128_o384_0_S64x128)) (extractStridedSlice S64x128 ![320, 0] (dkc T 5) slices_S640x128_o320_0_S64x128)) (extractStridedSlice S64x128 ![256, 0] (dkc T 6) slices_S640x128_o256_0_S64x128)) (extractStridedSlice S64x128 ![192, 0] (dkc T 7) slices_S640x128_o192_0_S64x128)) = dkTot T 10 := rfl
theorem fold_tdk_11 (T : Tile F) : (addf (addf (addf (addf (extractStridedSlice S64x128 ![512, 0] (dkc T 3) slices_S640x128_o512_0_S64x128) (extractStridedSlice S64x128 ![448, 0] (dkc T 4) slices_S640x128_o448_0_S64x128)) (extractStridedSlice S64x128 ![384, 0] (dkc T 5) slices_S640x128_o384_0_S64x128)) (extractStridedSlice S64x128 ![320, 0] (dkc T 6) slices_S640x128_o320_0_S64x128)) (extractStridedSlice S64x128 ![256, 0] (dkc T 7) slices_S640x128_o256_0_S64x128)) = dkTot T 11 := rfl
theorem fold_tdk_12 (T : Tile F) : (addf (addf (addf (extractStridedSlice S64x128 ![512, 0] (dkc T 4) slices_S640x128_o512_0_S64x128) (extractStridedSlice S64x128 ![448, 0] (dkc T 5) slices_S640x128_o448_0_S64x128)) (extractStridedSlice S64x128 ![384, 0] (dkc T 6) slices_S640x128_o384_0_S64x128)) (extractStridedSlice S64x128 ![320, 0] (dkc T 7) slices_S640x128_o320_0_S64x128)) = dkTot T 12 := rfl
theorem fold_tdk_13 (T : Tile F) : (addf (addf (extractStridedSlice S64x128 ![512, 0] (dkc T 5) slices_S640x128_o512_0_S64x128) (extractStridedSlice S64x128 ![448, 0] (dkc T 6) slices_S640x128_o448_0_S64x128)) (extractStridedSlice S64x128 ![384, 0] (dkc T 7) slices_S640x128_o384_0_S64x128)) = dkTot T 13 := rfl
theorem fold_tdk_14 (T : Tile F) : (addf (extractStridedSlice S64x128 ![512, 0] (dkc T 6) slices_S640x128_o512_0_S64x128) (extractStridedSlice S64x128 ![448, 0] (dkc T 7) slices_S640x128_o448_0_S64x128)) = dkTot T 14 := rfl
theorem fold_tdk_15 (T : Tile F) : (extractStridedSlice S64x128 ![512, 0] (dkc T 7) slices_S640x128_o512_0_S64x128) = dkTot T 15 := rfl

theorem inb_block (n : ℕ) : ∀ a, (![64 * (n % 16), 0] : Fin 2 → ℕ) a + S64x128.size a ≤ S1088x128.size a := by
  intro a
  match a with
  | 0 => show 64 * (n % 16) + 64 ≤ 1088; omega
  | 1 => show 0 + 128 ≤ 128; omega

/-- The stores into an accumulator, last first: on top of the stores `L0`, one per block of 64 rows, each the block read
    back plus what the tile adds to it. -/
def accL (L0 : List (View.Piece (Elt F) S1088x128 .f32)) (tot : ℕ → FVec F S64x128 .f32) : ℕ → List (View.Piece (Elt F) S1088x128 .f32)
  | 0 => L0
  | n + 1 => ⟨Rect.unit (s := S1088x128) ![64 * (n % 16), 0] S64x128.size (inb_block n),
      addf (fun j => View.canon (accL L0 tot n) ((Rect.unit (s := S1088x128) ![64 * (n % 16), 0] S64x128.size (inb_block n)).toLoadRect.idx j)) (tot n)⟩
      :: accL L0 tot n

/-- The first point of a run starts the accumulator from zeros; -/
def initA : List (View.Piece (Elt F) S1088x128 .f32) := [⟨Rect.unit ![0, 0] S1088x128.size inb_S1088x128_S1088x128_0_0, k0_pay9⟩]
/-- every later one moves the upper half of the accumulator down and clears the upper half. -/
def initB (x : Vec F S1088x128 .f32) : List (View.Piece (Elt F) S1088x128 .f32) :=
  [⟨Rect.unit ![0, 0] S512x128.size inb_S1088x128_S512x128_0_0, k0_pay14⟩,
    ⟨Rect.unit ![512, 0] S512x128.size inb_S1088x128_S512x128_512_0, k0_pay12 (View.ld (Val := Elt F) (e' := .f32) x (Rect.unit (s := S1088x128) ![0, 0] S512x128.size inb_S1088x128_S512x128_0_0))⟩]

theorem fold_idv_0 (T : Tile F) (x : Vec F S1088x128 .f32) : ([⟨Rect.unit ![0, 0] ![512, 128] inb_S1088x128_S512x128_0_0, k0_pay15⟩, ⟨Rect.unit ![512, 0] ![512, 128] inb_S1088x128_S512x128_512_0, k0_pay13 (View.ld x (Rect.unit (s := S1088x128) ![0, 0] ![512, 128] inb_S1088x128_S512x128_0_0))⟩] : List (View.Piece (Elt F) S1088x128 .f32)) = accL (initB x) (dvTot T) 0 := rfl
theorem fold_idv_1 (T : Tile F) : ([⟨Rect.unit ![0, 0] ![1088, 128] inb_S1088x128_S1088x128_0_0, k0_pay10⟩] : List (View.Piece (Elt F) S1088x128 .f32)) = accL initA (dvTot T) 0 := rfl
theorem fold_idk_0 (T : Tile F) (x : Vec F S1088x128 .f32) : ([⟨Rect.unit ![0, 0] ![512, 128] inb_S1088x128_S512x128_0_0, k0_pay14⟩, ⟨Rect.unit ![512, 0] ![512, 128] inb_S1088x128_S512x128_512_0, k0_pay12 (View.ld x (Rect.unit (s := S1088x128) ![0, 0] ![512, 128] inb_S1088x128_S512x128_0_0))⟩] : List (View.Piece (Elt F) S1088x128 .f32)) = accL (initB x) (dkTot T) 0 := rfl
theorem fold_idk_1 (T : Tile F) : ([⟨Rect.unit ![0, 0] ![1088, 128] inb_S1088x128_S1088x128_0_0, k0_pay9⟩] : List (View.Piece (Elt F) S1088x128 .f32)) = accL initA (dkTot T) 0 := rfl
theorem fold_l_0 (L0 : List (View.Piece (Elt F) S1088x128 .f32)) (tot : ℕ → FVec F S64x128 .f32) : (⟨Rect.unit (s := S1088x128) ![0, 0] ![64, 128] inb_S1088x128_S64x128_0_0, addf (fun j => View.canon (accL L0 tot 0) ((Rect.unit (s := S1088x128) ![0, 0] ![64, 128] inb_S1088x128_S64x128_0_0).toLoadRect.idx j)) (tot 0)⟩ :: accL L0 tot 0 : List (View.Piece (Elt F) S1088x128 .f32)) = accL L0 tot 1 := rfl
theorem fold_l_1 (L0 : List (View.Piece (Elt F) S1088x128 .f32)) (tot : ℕ → FVec F S64x128 .f32) : (⟨Rect.unit (s := S1088x128) ![64, 0] ![64, 128] inb_S1088x128_S64x128_64_0, addf (fun j => View.canon (accL L0 tot 1) ((Rect.unit (s := S1088x128) ![64, 0] ![64, 128] inb_S1088x128_S64x128_64_0).toLoadRect.idx j)) (tot 1)⟩ :: accL L0 tot 1 : List (View.Piece (Elt F) S1088x128 .f32)) = accL L0 tot 2 := rfl
theorem fold_l_2 (L0 : List (View.Piece (Elt F) S1088x128 .f32)) (tot : ℕ → FVec F S64x128 .f32) : (⟨Rect.unit (s := S1088x128) ![128, 0] ![64, 128] inb_S1088x128_S64x128_128_0, addf (fun j => View.canon (accL L0 tot 2) ((Rect.unit (s := S1088x128) ![128, 0] ![64, 128] inb_S1088x128_S64x128_128_0).toLoadRect.idx j)) (tot 2)⟩ :: accL L0 tot 2 : List (View.Piece (Elt F) S1088x128 .f32)) = accL L0 tot 3 := rfl
theorem fold_l_3 (L0 : List (View.Piece (Elt F) S1088x128 .f32)) (tot : ℕ → FVec F S64x128 .f32) : (⟨Rect.unit (s := S1088x128) ![192, 0] ![64, 128] inb_S1088x128_S64x128_192_0, addf (fun j => View.canon (accL L0 tot 3) ((Rect.unit (s := S1088x128) ![192, 0] ![64, 128] inb_S1088x128_S64x128_192_0).toLoadRect.idx j)) (tot 3)⟩ :: accL L0 tot 3 : List (View.Piece (Elt F) S1088x128 .f32)) = accL L0 tot 4 := rfl
theorem fold_l_4 (L0 : List (View.Piece (Elt F) S1088x128 .f32)) (tot : ℕ → FVec F S64x128 .f32) : (⟨Rect.unit (s := S1088x128) ![256, 0] ![64, 128] inb_S1088x128_S64x128_256_0, addf (fun j => View.canon (accL L0 tot 4) ((Rect.unit (s := S1088x128) ![256, 0] ![64, 128] inb_S1088x128_S64x128_256_0).toLoadRect.idx j)) (tot 4)⟩ :: accL L0 tot 4 : List (View.Piece (Elt F) S1088x128 .f32)) = accL L0 tot 5 := rfl
theorem fold_l_5 (L0 : List (View.Piece (Elt F) S1088x128 .f32)) (tot : ℕ → FVec F S64x128 .f32) : (⟨Rect.unit (s := S1088x128) ![320, 0] ![64, 128] inb_S1088x128_S64x128_320_0, addf (fun j => View.canon (accL L0 tot 5) ((Rect.unit (s := S1088x128) ![320, 0] ![64, 128] inb_S1088x128_S64x128_320_0).toLoadRect.idx j)) (tot 5)⟩ :: accL L0 tot 5 : List (View.Piece (Elt F) S1088x128 .f32)) = accL L0 tot 6 := rfl
theorem fold_l_6 (L0 : List (View.Piece (Elt F) S1088x128 .f32)) (tot : ℕ → FVec F S64x128 .f32) : (⟨Rect.unit (s := S1088x128) ![384, 0] ![64, 128] inb_S1088x128_S64x128_384_0, addf (fun j => View.canon (accL L0 tot 6) ((Rect.unit (s := S1088x128) ![384, 0] ![64, 128] inb_S1088x128_S64x128_384_0).toLoadRect.idx j)) (tot 6)⟩ :: accL L0 tot 6 : List (View.Piece (Elt F) S1088x128 .f32)) = accL L0 tot 7 := rfl
theorem fold_l_7 (L0 : List (View.Piece (Elt F) S1088x128 .f32)) (tot : ℕ → FVec F S64x128 .f32) : (⟨Rect.unit (s := S1088x128) ![448, 0] ![64, 128] inb_S1088x128_S64x128_448_0, addf (fun j => View.canon (accL L0 tot 7) ((Rect.unit (s := S1088x128) ![448, 0] ![64, 128] inb_S1088x128_S64x128_448_0).toLoadRect.idx j)) (tot 7)⟩ :: accL L0 tot 7 : List (View.Piece (Elt F) S1088x128 .f32)) = accL L0 tot 8 := rfl
theorem fold_l_8 (L0 : List (View.Piece (Elt F) S1088x128 .f32)) (tot : ℕ → FVec F S64x128 .f32) : (⟨Rect.unit (s := S1088x128) ![512, 0] ![64, 128] inb_S1088x128_S64x128_512_0, addf (fun j => View.canon (accL L0 tot 8) ((Rect.unit (s := S1088x128) ![512, 0] ![64, 128] inb_S1088x128_S64x128_512_0).toLoadRect.idx j)) (tot 8)⟩ :: accL L0 tot 8 : List (View.Piece (Elt F) S1088x128 .f32)) = accL L0 tot 9 := rfl
theorem fold_l_9 (L0 : List (View.Piece (Elt F) S1088x128 .f32)) (tot : ℕ → FVec F S64x128 .f32) : (⟨Rect.unit (s := S1088x128) ![576, 0] ![64, 128] inb_S1088x128_S64x128_576_0, addf (fun j => View.canon (accL L0 tot 9) ((Rect.unit (s := S1088x128) ![576, 0] ![64, 128] inb_S1088x128_S64x128_576_0).toLoadRect.idx j)) (tot 9)⟩ :: accL L0 tot 9 : List (View.Piece (Elt F) S1088x128 .f32)) = accL L0 tot 10 := rfl
theorem fold_l_10 (L0 : List (View.Piece (Elt F) S1088x128 .f32)) (tot : ℕ → FVec F S64x128 .f32) : (⟨Rect.unit (s := S1088x128) ![640, 0] ![64, 128] inb_S1088x128_S64x128_640_0, addf (fun j => View.canon (accL L0 tot 10) ((Rect.unit (s := S1088x128) ![640, 0] ![64, 128] inb_S1088x128_S64x128_640_0).toLoadRect.idx j)) (tot 10)⟩ :: accL L0 tot 10 : List (View.Piece (Elt F) S1088x128 .f32)) = accL L0 tot 11 := rfl
theorem fold_l_11 (L0 : List (View.Piece (Elt F) S1088x128 .f32)) (tot : ℕ → FVec F S64x128 .f32) : (⟨Rect.unit (s := S1088x128) ![704, 0] ![64, 128] inb_S1088x128_S64x128_704_0, addf (fun j => View.canon (accL L0 tot 11) ((Rect.unit (s := S1088x128) ![704, 0] ![64, 128] inb_S1088x128_S64x128_704_0).toLoadRect.idx j)) (tot 11)⟩ :: accL L0 tot 11 : List (View.Piece (Elt F) S1088x128 .f32)) = accL L0 tot 12 := rfl
theorem fold_l_12 (L0 : List (View.Piece (Elt F) S1088x128 .f32)) (tot : ℕ → FVec F S64x128 .f32) : (⟨Rect.unit (s := S1088x128) ![768, 0] ![64, 128] inb_S1088x128_S64x128_768_0, addf (fun j => View.canon (accL L0 tot 12) ((Rect.unit (s := S1088x128) ![768, 0] ![64, 128] inb_S1088x128_S64x128_768_0).toLoadRect.idx j)) (tot 12)⟩ :: accL L0 tot 12 : List (View.Piece (Elt F) S1088x128 .f32)) = accL L0 tot 13 := rfl
theorem fold_l_13 (L0 : List (View.Piece (Elt F) S1088x128 .f32)) (tot : ℕ → FVec F S64x128 .f32) : (⟨Rect.unit (s := S1088x128) ![832, 0] ![64, 128] inb_S1088x128_S64x128_832_0, addf (fun j => View.canon (accL L0 tot 13) ((Rect.unit (s := S1088x128) ![832, 0] ![64, 128] inb_S1088x128_S64x128_832_0).toLoadRect.idx j)) (tot 13)⟩ :: accL L0 tot 13 : List (View.Piece (Elt F) S1088x128 .f32)) = accL L0 tot 14 := rfl
theorem fold_l_14 (L0 : List (View.Piece (Elt F) S1088x128 .f32)) (tot : ℕ → FVec F S64x128 .f32) : (⟨Rect.unit (s := S1088x128) ![896, 0] ![64, 128] inb_S1088x128_S64x128_896_0, addf (fun j => View.canon (accL L0 tot 14) ((Rect.unit (s := S1088x128) ![896, 0] ![64, 128] inb_S1088x128_S64x128_896_0).toLoadRect.idx j)) (tot 14)⟩ :: accL L0 tot 14 : List (View.Piece (Elt F) S1088x128 .f32)) = accL L0 tot 15 := rfl
theorem fold_l_15 (L0 : List (View.Piece (Elt F) S1088x128 .f32)) (tot : ℕ → FVec F S64x128 .f32) : (⟨Rect.unit (s := S1088x128) ![960, 0] ![64, 128] inb_S1088x128_S64x128_960_0, addf (fun j => View.canon (accL L0 tot 15) ((Rect.unit (s := S1088x128) ![960, 0] ![64, 128] inb_S1088x128_S64x128_960_0).toLoadRect.idx j)) (tot 15)⟩ :: accL L0 tot 15 : List (View.Piece (Elt F) S1088x128 .f32)) = accL L0 tot 16 := rfl
end Cert.KernelIdeal.Gen
-- ==== Proof.Elem.lean ====
/-
  The chunk's values element by element, over the extended reals.
-/
module

public import proofs.«01_k».proof.Proof.Chunk
public import proofs.«01_k».proof.Proof.Rows
public import Idealize.ShloMosaic.Lib.Pointwise

@[expose] public section
set_option maxRecDepth 16384
noncomputable section
namespace Cert.KernelIdeal.Gen
open Idealize.ShloMosaic Idealize.SL.Sem Idealize.ShloMosaic.Pipeline

/-- A select on a decided condition is an `if`. -/
theorem select_bool {α : Type} (b : Bool) (x y : α) : Scalar.select (BitVec.ofBool b) x y = if b = true then x else y := by
  cases b <;> rfl

/-- A small natural number's word is that number. -/
theorem toInt_small (k : ℕ) (h : k < 2 ^ 31) : (BitVec.ofNat 32 k).toInt = (k : ℤ) := by
  have e : (BitVec.ofNat 32 k).toNat = k := by rw [BitVec.toNat_ofNat]; exact Nat.mod_eq_of_lt (by omega)
  rw [BitVec.toInt_eq_toNat_of_lt (by rw [e]; omega), e]

/-- The lane mask holds on the first head's 64 lanes. -/
theorem pay16_apply (r : Fin 64) (l : Fin 128) : k0_pay16 (ix2 r l) = BitVec.ofBool (decide (l.val < 64)) := by
  pointwise [k0_pay16]
  show BitVec.ofBool (decide ((BitVec.ofNat 32 l.val).toInt < (64#32).toInt)) = _
  have hl := l.isLt
  rw [show (BitVec.ofNat 32 l.val).toInt = (l.val : ℤ) from toInt_small _ (by omega), show (64#32).toInt = 64 from rfl]
  congr 1
  exact decide_eq_decide.2 (by omega)

/-- The scaled queries of a chunk, one head above the other: a row keeps its own head's lanes and is zero elsewhere. -/
theorem pay17_apply (x : Vec Ideal S64x128 .f32) (a : Fin 128) (l : Fin 128) :
    k0_pay17 x (ix2 a l)
      = if l.val / 64 = a.val / 64 then x (ix2 ⟨a.val % 64, Nat.mod_lt _ (by omega)⟩ l) * Attn.eighth else 0 := by
  pointwise [k0_pay17]
  have hl := l.isLt
  have ha := a.isLt
  split
  · next h =>
    rw [pay16_apply, select_bool]
    have e : (⟨a.val, h⟩ : Fin 64) = ⟨a.val % 64, Nat.mod_lt _ (by omega)⟩ := Fin.ext (by simp; omega)
    rw [e]
    by_cases h' : l.val < 64
    · rw [if_pos (by simpa using h'), if_pos (by omega)]; rfl
    · rw [if_neg (by simpa using h'), if_neg (by omega)]
  · next h =>
    rw [pay16_apply, select_bool]
    have e : (⟨a.val - 64, by omega⟩ : Fin 64) = ⟨a.val % 64, Nat.mod_lt _ (by omega)⟩ := Fin.ext (by simp; omega)
    rw [e]
    by_cases h' : l.val < 64
    · rw [if_pos (by simpa using h'), if_neg (by omega)]
    · rw [if_neg (by simpa using h'), if_pos (by omega)]; rfl

/-- The cotangents of a chunk, one head above the other. -/
theorem pay26_apply (x : Vec Ideal S64x128 .f32) (a : Fin 128) (l : Fin 128) :
    k0_pay26 k0_pay16 x (ix2 a l)
      = if l.val / 64 = a.val / 64 then x (ix2 ⟨a.val % 64, Nat.mod_lt _ (by omega)⟩ l) else 0 := by
  pointwise [k0_pay26]
  have hl := l.isLt
  have ha := a.isLt
  split
  · next h =>
    rw [pay16_apply, select_bool]
    have e : (⟨a.val, h⟩ : Fin 64) = ⟨a.val % 64, Nat.mod_lt _ (by omega)⟩ := Fin.ext (by simp; omega)
    rw [e]
    by_cases h' : l.val < 64
    · rw [if_pos (by simpa using h'), if_pos (by omega)]
    · rw [if_neg (by simpa using h'), if_neg (by omega)]
  · next h =>
    rw [pay16_apply, select_bool]
    have e : (⟨a.val - 64, by omega⟩ : Fin 64) = ⟨a.val % 64, Nat.mod_lt _ (by omega)⟩ := Fin.ext (by simp; omega)
    rw [e]
    by_cases h' : l.val < 64
    · rw [if_pos (by simpa using h'), if_neg (by omega)]
    · rw [if_neg (by simpa using h'), if_pos (by omega)]

theorem pay36_apply (Q : FVec Ideal S128x128 .bf16) (K : Vec Ideal S640x128 .bf16) (a : Fin 128) (k : Fin 640) :
    k0_pay36 Q K (ix2 a k) = ∑ l : Fin 128, Q (ix2 a l) * K (ix2 k l) := by
  pointwise [k0_pay36]

theorem pay44_apply (Q : FVec Ideal S128x128 .bf16) (K : Vec Ideal S640x128 .bf16) (a : Fin 128) (k : Fin 640) :
    k0_pay44 Q K (ix2 a k) = ∑ l : Fin 128, Q (ix2 a l) * K (ix2 k l) := by
  pointwise [k0_pay44]

theorem pay61_apply (b : Vec Ideal S1x128x640 .f32) (a : Fin 128) (k : Fin 640) :
    k0_pay61 b (ix2 a k) = b (ix3 0 a k) := by
  pointwise [k0_pay61]

/-- What is added to a score: `⊥` at the slots before the sequence, 0 elsewhere. -/
def beforeStart (u : BitVec 32) (k : ℕ) : EReal :=
  if decide ((BitVec.ofNat 32 k).toInt < (IntOp.muli (IntOp.subi 8#32 u) 64#32).toInt) = true then ⊥ else 0

theorem pay62_apply (s b : FVec Ideal S128x640 .f32) (u : BitVec 32) (a : Fin 128) (k : Fin 640) (S : ℕ → EReal)
    (hS : ∀ k : Fin 640, s (ix2 a k) + b (ix2 a k) + beforeStart u k.val = S k.val) :
    k0_pay62 s b u (ix2 a k)
      = Ideal.div (Ideal.exp (S k.val - Attn.rowMax 640 S)) (∑ x : Fin 640, Ideal.exp (S x.val - Attn.rowMax 640 S)) := by
  have hx : ∀ x : Fin 640, s (ix2 a x) + b (ix2 a x)
      + Scalar.select (IntOp.cmpi .slt (BitVec.ofNat 32 x.val) (Scalar.muli (Scalar.subi 8#32 u) 64#32))
          (Named.named (F := Ideal) κ "mask" 0xF149F2CA#32) 0 = S x.val := fun x => by
    rw [← hS x]
    exact congrArg _ (select_bool _ _ _)
  have hb : Ideal.ofBits .f32 0xFF800000#32 = ⊥ := by simp [Ideal.ofBits, Ideal.ieee]
  pointwise [k0_pay62]
  simp only [hx, hb]
  rfl

theorem pay67_apply (dp p : FVec Ideal S128x640 .f32) (a : Fin 128) (k : Fin 640) :
    k0_pay67 dp p (ix2 a k) = p (ix2 a k) * (dp (ix2 a k) - ∑ k' : Fin 640, dp (ix2 a k') * p (ix2 a k')) := by
  pointwise [k0_pay67]

theorem pay76_apply (x : FVec Ideal S128x640 .f32) : k0_pay76 x = x := by
  funext j; pointwise [k0_pay76]

theorem pay84_apply (g : FVec Ideal S128x128 .bf16) (p : FVec Ideal S128x640 .f32) (k : Fin 640) (l : Fin 128) :
    k0_pay84 g p (ix2 k l) = ∑ a : Fin 128, p (ix2 a k) * g (ix2 a l) := by
  pointwise [k0_pay84]

theorem pay101_apply (q : FVec Ideal S128x128 .bf16) (d : FVec Ideal S128x640 .bf16) (k : Fin 640) (l : Fin 128) :
    k0_pay101 q d (ix2 k l) = ∑ a : Fin 128, d (ix2 a k) * q (ix2 a l) := by
  pointwise [k0_pay101]

theorem pay93_apply (d : FVec Ideal S128x640 .bf16) (K : Vec Ideal S640x128 .bf16) (a : Fin 128) (l : Fin 128) :
    k0_pay93 d K (ix2 a l) = (∑ k : Fin 640, d (ix2 a k) * K (ix2 k l)) * Ideal.ofBits .f32 0x3E000000#32 := by
  pointwise [k0_pay93]

theorem pay154_apply (x : FVec Ideal S128x128 .f32) (r : Fin 64) (l : Fin 128) :
    k0_pay154 k0_pay16 x (ix2 r l) = x (ix2 ⟨64 * (l.val / 64) + r.val, by omega⟩ l) := by
  pointwise [k0_pay154]
  rw [pay16_apply, select_bool]
  by_cases h' : l.val < 64
  · rw [if_pos (by simpa using h')]; congr 2; exact Fin.ext (by simp; omega)
  · rw [if_neg (by simpa using h')]; congr 2; exact Fin.ext (by simp; omega)

theorem pay109_apply (x0 x1 x2 x3 x4 x5 x6 x7 : FVec Ideal S128x640 .f32) (y : Vec Ideal S1x128x640 .f32) (a : Fin 128) (k : Fin 640) :
    k0_pay109 x0 x1 x2 x3 x4 x5 x6 x7 y (ix3 0 a k)
      = y (ix3 0 a k) + (x0 (ix2 a k) + x1 (ix2 a k) + x2 (ix2 a k) + x3 (ix2 a k) + x4 (ix2 a k) + x5 (ix2 a k)
          + x6 (ix2 a k) + x7 (ix2 a k)) := by
  pointwise [k0_pay109]

theorem chunkRows_apply (x : Vec Ideal S512x128 .f32) (c : Fin 8) (r : Fin 64) (l : Fin 128) :
    chunkRows x c (ix2 r l) = x (ix2 ⟨64 * c.val + r.val, by omega⟩ l) := by
  pointwise [chunkRows]

theorem bandRows_apply (b : Vec Ideal S1088x128 .bf16) (c : Fin 8) (k : Fin 640) (l : Fin 128) :
    bandRows b c (ix2 k l) = b (ix2 ⟨64 * c.val + k.val, by omega⟩ l) := by
  pointwise [bandRows]

end Cert.KernelIdeal.Gen
-- ==== Proof.Accum.lean ====
/-
  The buffers filled by stores of row blocks, read row by row: the band buffer, the accumulators and the result tiles.
-/
module

public import proofs.«01_k».proof.Proof.Chunk
public import Idealize.ShloMosaic.Lib.Pointwise
public import Idealize.ShloMosaic.Lib.Pipeline.Value
public import Idealize.ShloMosaic.Lib.Pipeline.ValueKit

@[expose] public section
set_option maxRecDepth 16384
noncomputable section
namespace Cert.KernelIdeal.Gen
open Idealize.ShloMosaic Idealize.SL.Sem Idealize.ShloMosaic.Pipeline

section rows
variable {Val : EltTy → Type} [∀ e, Nonempty (Val e)] {H R C : ℕ} {e : EltTy} {o : ℕ}

/-- Within the rows of the last store, the contents are its payload; -/
theorem canon_rows_hit (inb : ∀ a, (![o, 0] : Fin 2 → ℕ) a + (![R, C] : Fin 2 → ℕ) a ≤ (⟨2, ![H, C]⟩ : Shape).size a)
    (w : (⟨2, ![R, C]⟩ : Shape).Idx → Val e) (L : List (View.Piece Val ⟨2, ![H, C]⟩ e))
    (r : Fin H) (l : Fin C) (h1 : o ≤ r.val) (h2 : r.val < o + R) :
    View.canon ((⟨Rect.unit (s := ⟨2, ![H, C]⟩) ![o, 0] ![R, C] inb, w⟩ : View.Piece Val ⟨2, ![H, C]⟩ e) :: L) (ix2 r l)
      = w (ix2 ⟨r.val - o, by omega⟩ l) := by
  have hy : (ix2 r l : (⟨2, ![H, C]⟩ : Shape).Idx)
      = (Rect.unit (s := ⟨2, ![H, C]⟩) ![o, 0] ![R, C] inb).emb (ix2 (⟨r.val - o, by omega⟩ : Fin R) l) := by
    funext a
    apply Fin.ext
    match a with
    | ⟨0, _⟩ => show r.val = o + 1 * (r.val - o); omega
    | ⟨1, _⟩ => show l.val = 0 + 1 * l.val; omega
  rw [hy]
  exact View.canon_cons_emb (Rect.unit (s := ⟨2, ![H, C]⟩) ![o, 0] ![R, C] inb) w L _

/-- … off them, those of the earlier stores. -/
theorem canon_rows_miss (inb : ∀ a, (![o, 0] : Fin 2 → ℕ) a + (![R, C] : Fin 2 → ℕ) a ≤ (⟨2, ![H, C]⟩ : Shape).size a)
    (w : (⟨2, ![R, C]⟩ : Shape).Idx → Val e) (L : List (View.Piece Val ⟨2, ![H, C]⟩ e))
    (r : Fin H) (l : Fin C) (h : r.val < o ∨ o + R ≤ r.val) :
    View.canon ((⟨Rect.unit (s := ⟨2, ![H, C]⟩) ![o, 0] ![R, C] inb, w⟩ : View.Piece Val ⟨2, ![H, C]⟩ e) :: L) (ix2 r l)
      = View.canon L (ix2 r l) := by
  refine View.canon_cons_of_not_mem _ L fun hm => ?_
  have hm' : ∀ a : Fin 2, (![o, 0] : Fin 2 → ℕ) a ≤ (ix2 r l a).val ∧ (ix2 r l a).val < (![o, 0] : Fin 2 → ℕ) a + (![R, C] : Fin 2 → ℕ) a :=
    (Rect.mem_set_unit (inb := inb)).1 hm
  have h1 : o ≤ r.val := (hm' 0).1
  have h2 : r.val < o + R := (hm' 0).2
  omega

end rows

/-- The band buffer's rows: the tile before, -/
theorem bandBuf_prev (x y : Vec Ideal S512x128 .f32) (r : Fin 1088) (l : Fin 128) (h : r.val < 512) :
    bandBuf x y (ix2 r l) = x (ix2 ⟨r.val, h⟩ l) := by
  unfold bandBuf
  refine (canon_rows_miss _ _ _ r l (Or.inl (by omega))).trans ?_
  refine (canon_rows_miss _ _ _ r l (Or.inl (by omega))).trans ?_
  refine (canon_rows_hit _ _ _ r l (by omega) (by omega)).trans ?_
  pointwise [k0_pay3]

/-- … and the tile itself. -/
theorem bandBuf_cur (x y : Vec Ideal S512x128 .f32) (r : Fin 1088) (l : Fin 128) (h : 512 ≤ r.val) (h' : r.val < 1024) :
    bandBuf x y (ix2 r l) = y (ix2 ⟨r.val - 512, by omega⟩ l) := by
  unfold bandBuf
  refine (canon_rows_miss _ _ _ r l (Or.inl (by omega))).trans ?_
  refine (canon_rows_hit _ _ _ r l (by omega) (by omega)).trans ?_
  pointwise [k0_pay4]

/-- After the first `n` blocks, an accumulator's row is what it started from plus, if its block is among them, what
    the tile adds to it. -/
theorem acc_apply (L0 : List (View.Piece (Elt Ideal) S1088x128 .f32)) (tot : ℕ → FVec Ideal S64x128 .f32) (n : ℕ) (hn : n ≤ 16)
    (r : Fin 1088) (l : Fin 128) :
    View.canon (accL L0 tot n) (ix2 r l)
      = if r.val < 64 * n then (View.canon L0 (ix2 r l) : EReal) + tot (r.val / 64) (ix2 ⟨r.val % 64, Nat.mod_lt _ (by omega)⟩ l)
        else View.canon L0 (ix2 r l) := by
  induction n with
  | zero => rw [if_neg (by omega)]; rfl
  | succ n ih =>
    have e16 : n % 16 = n := Nat.mod_eq_of_lt (by omega)
    show View.canon (_ :: accL L0 tot n) (ix2 r l) = _
    by_cases h1 : 64 * n ≤ r.val ∧ r.val < 64 * n + 64
    · refine (canon_rows_hit _ _ _ r l (by rw [e16]; exact h1.1) (by rw [e16]; exact h1.2)).trans ?_
      rw [if_pos (by omega)]
      have hq : r.val / 64 = n := by omega
      have ej : (Rect.unit (s := S1088x128) ![64 * (n % 16), 0] S64x128.size (inb_block n)).toLoadRect.idx
          (ix2 (⟨r.val - 64 * (n % 16), by omega⟩ : Fin 64) l) = ix2 r l := by
        funext a
        apply Fin.ext
        match a with
        | ⟨0, _⟩ => show 64 * (n % 16) + 1 * (r.val - 64 * (n % 16)) = r.val; omega
        | ⟨1, _⟩ => show 0 + 1 * l.val = l.val; omega
      have ey : (ix2 (⟨r.val - 64 * (n % 16), by omega⟩ : Fin 64) l : S64x128.Idx) = ix2 (⟨r.val % 64, Nat.mod_lt _ (by omega)⟩ : Fin 64) l := by
        congr 1; apply Fin.ext; show r.val - 64 * (n % 16) = r.val % 64; omega
      show (View.canon (accL L0 tot n) ((Rect.unit (s := S1088x128) ![64 * (n % 16), 0] S64x128.size (inb_block n)).toLoadRect.idx
          (ix2 (⟨r.val - 64 * (n % 16), by omega⟩ : Fin 64) l)) : EReal)
          + tot n (ix2 (⟨r.val - 64 * (n % 16), by omega⟩ : Fin 64) l) = _
      rw [ej, ey, ih (by omega), if_neg (by omega), hq]
    · refine (canon_rows_miss _ _ _ r l (by rw [e16]; omega)).trans ?_
      rw [ih (by omega)]
      by_cases h2 : r.val < 64 * n
      · rw [if_pos h2, if_pos (by omega)]
      · rw [if_neg h2, if_neg (by omega)]

/-- The first point's accumulators start from zeros. -/
theorem initA_apply (r : Fin 1088) (l : Fin 128) : View.canon (Val := Elt Ideal) (e := .f32) initA (ix2 r l) = (0 : EReal) := by
  unfold initA
  refine (canon_rows_hit _ _ _ r l (by omega) (by omega)).trans ?_
  pointwise [k0_pay9]

/-- Later accumulators start from zeros in the upper half -/
theorem initB_low (x : Vec Ideal S1088x128 .f32) (r : Fin 1088) (l : Fin 128) (h : r.val < 512) :
    View.canon (Val := Elt Ideal) (e := .f32) (initB x) (ix2 r l) = (0 : EReal) := by
  unfold initB
  refine (canon_rows_hit _ _ _ r l (by omega) (by omega)).trans ?_
  pointwise [k0_pay14]

/-- … and the upper half of the one before in the lower half. -/
theorem initB_high (x : Vec Ideal S1088x128 .f32) (r : Fin 1088) (l : Fin 128) (h : 512 ≤ r.val) (h' : r.val < 1024) :
    View.canon (Val := Elt Ideal) (e := .f32) (initB x) (ix2 r l) = x (ix2 ⟨r.val - 512, by omega⟩ l) := by
  unfold initB
  refine (canon_rows_miss _ _ _ r l (Or.inr (by omega))).trans ?_
  refine (canon_rows_hit _ _ _ r l (by omega) (by omega)).trans ?_
  pointwise [k0_pay12]

/-- What a tile adds to a block of rows of the value's accumulator: the contributions of the chunks whose bands hold it. -/
theorem dvTot_apply (T : Tile Ideal) (l : Fin 128) (part : ℕ → ℕ → EReal) (hp : ∀ (c : Fin 8) (k : Fin 640), dvc T c (ix2 k l) = part c.val k.val)
    (b : ℕ) (hb : b < 16) (y : Fin 64) :
    dvTot T b (ix2 y l) = ∑ c : Fin 8, if c.val ≤ b ∧ b ≤ c.val + 8 then part c.val (64 * (b - c.val) + y.val) else 0 := by
  rw [Fin.sum_univ_eight]
  interval_cases b <;> pointwise [dvTot] <;> simp [hp]

/-- The same for the key's accumulator. -/
theorem dkTot_apply (T : Tile Ideal) (l : Fin 128) (part : ℕ → ℕ → EReal) (hp : ∀ (c : Fin 8) (k : Fin 640), dkc T c (ix2 k l) = part c.val k.val)
    (b : ℕ) (hb : b < 16) (y : Fin 64) :
    dkTot T b (ix2 y l) = ∑ c : Fin 8, if c.val ≤ b ∧ b ≤ c.val + 8 then part c.val (64 * (b - c.val) + y.val) else 0 := by
  rw [Fin.sum_univ_eight]
  interval_cases b <;> pointwise [dkTot] <;> simp [hp]

end Cert.KernelIdeal.Gen
-- ==== Proof.TileValue.lean ====
/-
  What one grid point computes of its chunks: the attention weights, the scores' cotangents, and the shares of the
  operands' cotangents, as the quantities of the backward pass.
-/
module

public import proofs.«01_k».proof.Proof.Elem
public import proofs.«01_k».proof.Proof.Accum

@[expose] public section
set_option maxRecDepth 16384
noncomputable section
namespace Cert.KernelIdeal.Gen
open Idealize.ShloMosaic Idealize.SL.Sem Idealize.ShloMosaic.Pipeline
open Cert.Attn (IsReal)

/-- The tile holds the operands' rows `512 i` to `512 i + 511` and the lanes of head pair `pp`. -/
structure IsTile (T : Tile Ideal) (D : Attn.Data) (i pp : ℕ) : Prop where
  hi : i < 16
  w : T.w = BitVec.ofNat 32 i
  q : ∀ r l, T.q (ix2 r l) = D.q (512 * i + r.val) (128 * pp + l.val)
  g : ∀ r l, T.g (ix2 r l) = D.g (512 * i + r.val) (128 * pp + l.val)
  kc : ∀ r l, T.kc (ix2 r l) = D.k (512 * (i + 1) + r.val) (128 * pp + l.val)
  kp : 0 < i → ∀ r l, T.kp (ix2 r l) = D.k (512 * i + r.val) (128 * pp + l.val)
  vc : ∀ r l, T.vc (ix2 r l) = D.v (512 * (i + 1) + r.val) (128 * pp + l.val)
  vp : 0 < i → ∀ r l, T.vp (ix2 r l) = D.v (512 * i + r.val) (128 * pp + l.val)
  b : ∀ (a : Fin 128) (k : Fin 640), k.val < 576 → T.b (ix3 0 a k) = D.b (2 * pp + a.val / 64) (a.val % 64) k.val
  bpad : ∀ (a : Fin 128) (k : Fin 640), 576 ≤ k.val → T.b (ix3 0 a k) = (⊥ : EReal)

/-- A sum over the lanes of two heads, of which one contributes nothing, is the sum over the other's. -/
theorem head_sum (f : ℕ → EReal) (e : ℕ) (he : e < 2) (h0 : ∀ l, l < 128 → l / 64 ≠ e → f l = 0) :
    ∑ l : Fin 128, f l.val = ∑ d : Fin 64, f (64 * e + d.val) := by
  rw [Attn.sum_halves]
  interval_cases e
  · rw [Finset.sum_eq_zero (s := Finset.univ) (f := fun d : Fin 64 => f (64 + d.val)) fun d _ => h0 _ (by omega) (by omega), add_zero]
    exact Finset.sum_congr rfl fun d _ => by congr 1; omega
  · rw [Finset.sum_eq_zero (s := Finset.univ) (f := fun d : Fin 64 => f d.val) fun d _ => h0 _ (by omega) (by omega), zero_add]

theorem chunk_word (i c : ℕ) : Scalar.addi (Scalar.muli (BitVec.ofNat 32 i) 8#32) (BitVec.ofNat 32 c) = BitVec.ofNat 32 (8 * i + c) := by
  show BitVec.ofNat 32 i * BitVec.ofNat 32 8 + BitVec.ofNat 32 c = _
  rw [← BitVec.ofNat_mul, ← BitVec.ofNat_add, Nat.mul_comm]

theorem start_word : ∀ n : Fin 128, (IntOp.muli (IntOp.subi 8#32 (BitVec.ofNat 32 n.val)) 64#32).toInt = 512 - 64 * (n.val : ℤ) := by
  decide +kernel

/-- The kernel's mask of the slots before the sequence. -/
theorem beforeStart_eq (n k : ℕ) (hn : n < 128) (hk : k < 640) :
    beforeStart (BitVec.ofNat 32 n) k = if 64 * n + k < 512 then ⊥ else 0 := by
  unfold beforeStart
  rw [toInt_small k (by omega), start_word ⟨n, hn⟩]
  by_cases h : 64 * n + k < 512
  · rw [if_pos h, if_pos (decide_eq_true (by show (k : ℤ) < 512 - 64 * (n : ℤ); omega))]
  · rw [if_neg h, if_neg (by rw [decide_eq_true_eq]; show ¬(k : ℤ) < 512 - 64 * (n : ℤ); omega)]

section tile
variable {T : Tile Ideal} {D : Attn.Data} {i pp : ℕ} (h : IsTile T D i pp) (c : Fin 8)
include h

/-- The scaled queries, each head's on its own lanes. -/
theorem Qc_apply (a l : Fin 128) :
    Qc T c (ix2 a l) = if l.val / 64 = a.val / 64 then D.q (64 * (8 * i + c.val) + a.val % 64) (128 * pp + l.val) * Attn.eighth else 0 := by
  unfold Qc
  rw [pay17_apply, chunkRows_apply, h.q]
  congr 3; show 512 * i + (64 * c.val + a.val % 64) = _; omega

/-- The output's cotangent, each head's on its own lanes. -/
theorem Gc_apply (a l : Fin 128) :
    Gc T c (ix2 a l) = if l.val / 64 = a.val / 64 then D.g (64 * (8 * i + c.val) + a.val % 64) (128 * pp + l.val) else 0 := by
  unfold Gc
  rw [pay26_apply, chunkRows_apply, h.g]
  congr 2; show 512 * i + (64 * c.val + a.val % 64) = _; omega

/-- The band's keys where it holds any. -/
theorem Kc_apply (k : Fin 640) (l : Fin 128) (hk : Attn.Data.Valid (8 * i + c.val) k.val) :
    Kc T c (ix2 k l) = D.k (64 * (8 * i + c.val) + k.val) (128 * pp + l.val) := by
  obtain ⟨h1, h2⟩ := hk
  unfold Kc
  rw [bandRows_apply]
  by_cases hc : 64 * c.val + k.val < 512
  · rw [bandBuf_prev _ _ _ _ hc, h.kp (by omega)]
    congr 1; show 512 * i + (64 * c.val + k.val) = _; omega
  · rw [bandBuf_cur _ _ _ _ (by show 512 ≤ 64 * c.val + k.val; omega) (by show 64 * c.val + k.val < 1024; omega), h.kc]
    congr 1; show 512 * (i + 1) + (64 * c.val + k.val - 512) = _; omega

/-- The band's values where it holds any. -/
theorem Vc_apply (k : Fin 640) (l : Fin 128) (hk : Attn.Data.Valid (8 * i + c.val) k.val) :
    Vc T c (ix2 k l) = D.v (64 * (8 * i + c.val) + k.val) (128 * pp + l.val) := by
  obtain ⟨h1, h2⟩ := hk
  unfold Vc
  rw [bandRows_apply]
  by_cases hc : 64 * c.val + k.val < 512
  · rw [bandBuf_prev _ _ _ _ hc, h.vp (by omega)]
    congr 1; show 512 * i + (64 * c.val + k.val) = _; omega
  · rw [bandBuf_cur _ _ _ _ (by show 512 ≤ 64 * c.val + k.val; omega) (by show 64 * c.val + k.val < 1024; omega), h.vc]
    congr 1; show 512 * (i + 1) + (64 * c.val + k.val - 512) = _; omega

/-- The products of queries and keys. -/
theorem Sc_apply (a : Fin 128) (k : Fin 640) (hk : Attn.Data.Valid (8 * i + c.val) k.val) :
    Sc T c (ix2 a k) = (∑ d : Fin 64, D.q (64 * (8 * i + c.val) + a.val % 64) (64 * (2 * pp + a.val / 64) + d.val)
        * D.k (64 * (8 * i + c.val) + k.val) (64 * (2 * pp + a.val / 64) + d.val)) * Attn.eighth := by
  unfold Sc
  rw [pay36_apply]
  rw [Finset.sum_congr rfl fun l _ => by rw [Qc_apply h, Kc_apply h c k l hk]]
  rw [head_sum (fun l => (if l / 64 = a.val / 64 then D.q (64 * (8 * i + c.val) + a.val % 64) (128 * pp + l) * Attn.eighth else 0)
      * D.k (64 * (8 * i + c.val) + k.val) (128 * pp + l)) (a.val / 64) (by omega) fun l _ hl => by rw [if_neg hl, zero_mul]]
  rw [Attn.sum_mul_real _ _ Attn.Data.eighth_nonneg Attn.Data.eighth_ne_top]
  refine Finset.sum_congr rfl fun d _ => ?_
  rw [if_pos (by omega), show 128 * pp + (64 * (a.val / 64) + d.val) = 64 * (2 * pp + a.val / 64) + d.val by omega]
  ac_rfl

/-- The weights' cotangents where the band holds a key. -/
theorem DPc_apply (a : Fin 128) (k : Fin 640) (hk : Attn.Data.Valid (8 * i + c.val) k.val) :
    DPc T c (ix2 a k) = D.dp (8 * i + c.val) (2 * pp + a.val / 64) (a.val % 64) k.val := by
  unfold DPc
  rw [pay44_apply]
  rw [Finset.sum_congr rfl fun l _ => by rw [Gc_apply h, Vc_apply h c k l hk]]
  rw [head_sum (fun l => (if l / 64 = a.val / 64 then D.g (64 * (8 * i + c.val) + a.val % 64) (128 * pp + l) else 0)
      * D.v (64 * (8 * i + c.val) + k.val) (128 * pp + l)) (a.val / 64) (by omega) fun l _ hl => by rw [if_neg hl, zero_mul]]
  refine Finset.sum_congr rfl fun d _ => ?_
  rw [if_pos (by omega), show 128 * pp + (64 * (a.val / 64) + d.val) = 64 * (2 * pp + a.val / 64) + d.val by omega]

/-- The row of scores with the bias and the mask added. -/
theorem score_apply (a : Fin 128) (k : Fin 640) :
    (Sc T c (ix2 a k) + k0_pay61 T.b (ix2 a k) + beforeStart (BitVec.ofNat 32 (8 * i + c.val)) k.val : EReal)
      = D.row (8 * i + c.val) (2 * pp + a.val / 64) (a.val % 64) k.val := by
  have hi := h.hi
  have hc := c.isLt
  rw [pay61_apply, beforeStart_eq _ _ (by omega) k.isLt]
  unfold Attn.Data.row
  by_cases hk : Attn.Data.Valid (8 * i + c.val) k.val
  · rw [if_pos hk, Sc_apply h c a k hk, h.b a k hk.2, if_neg (by have := hk.1; omega), add_zero]; rfl
  · rw [if_neg hk]
    by_cases hk' : k.val < 576
    · rw [if_pos (by unfold Attn.Data.Valid at hk; omega)]; exact EReal.add_bot _
    · rw [h.bpad a k (by omega), EReal.add_bot, EReal.bot_add]

/-- The attention weights. -/
theorem Pc_apply (a : Fin 128) (k : Fin 640) : Pc T c (ix2 a k) = D.p (8 * i + c.val) (2 * pp + a.val / 64) (a.val % 64) k.val := by
  have hm : ∀ k, 576 ≤ k → D.row (8 * i + c.val) (2 * pp + a.val / 64) (a.val % 64) k = ⊥ := fun k hk =>
    if_neg fun hv => absurd hv.2 (by omega)
  unfold Pc
  rw [h.w, chunk_word, pay62_apply _ _ _ a k _ (score_apply h c a), Attn.rowMax_band _ hm,
    Attn.sum_band (fun x => Ideal.exp (D.row (8 * i + c.val) (2 * pp + a.val / 64) (a.val % 64) x
      - Attn.rowMax 576 (D.row (8 * i + c.val) (2 * pp + a.val / 64) (a.val % 64)))) fun x hx => by
        show Ideal.exp _ = 0
        rw [hm x hx, EReal.bot_sub]; rfl]
  rfl

variable (hD : D.Real)
include hD

/-- Weight times its cotangent. -/
theorem dp_mul_p (a : Fin 128) (k : Fin 640) : (DPc T c (ix2 a k) * Pc T c (ix2 a k) : EReal)
    = D.dp (8 * i + c.val) (2 * pp + a.val / 64) (a.val % 64) k.val * D.p (8 * i + c.val) (2 * pp + a.val / 64) (a.val % 64) k.val := by
  rw [Pc_apply h]
  by_cases hk : Attn.Data.Valid (8 * i + c.val) k.val
  · rw [DPc_apply h c a k hk]
  · rw [Attn.Data.p_masked hD _ _ _ _ hk, mul_zero, mul_zero]

/-- The scores' cotangents. -/
theorem DSc_apply (a : Fin 128) (k : Fin 640) : DSc T c (ix2 a k) = D.ds (8 * i + c.val) (2 * pp + a.val / 64) (a.val % 64) k.val := by
  unfold DSc
  rw [pay67_apply]
  by_cases hk : Attn.Data.Valid (8 * i + c.val) k.val
  · rw [Finset.sum_congr rfl fun k' _ => dp_mul_p h c hD a k']
    rw [Attn.sum_band (fun x => D.dp (8 * i + c.val) (2 * pp + a.val / 64) (a.val % 64) x
        * D.p (8 * i + c.val) (2 * pp + a.val / 64) (a.val % 64) x) fun x hx => by
      show _ * D.p _ _ _ _ = 0
      rw [Attn.Data.p_masked hD _ _ _ _ (fun hv => absurd hv.2 (by omega)), mul_zero]]
    rw [Pc_apply h, DPc_apply h c a k hk]
    rfl
  · rw [Pc_apply h, Attn.Data.p_masked hD _ _ _ _ hk, zero_mul, Attn.Data.ds_masked hD _ _ _ _ hk]

theorem DBc_apply (a : Fin 128) (k : Fin 640) : DBc T c (ix2 a k) = D.ds (8 * i + c.val) (2 * pp + a.val / 64) (a.val % 64) k.val := by
  unfold DBc
  rw [pay76_apply]
  exact DSc_apply h c hD a k

omit hD in
/-- The chunk's share of the values' cotangents. -/
theorem dvc_apply (k : Fin 640) (l : Fin 128) : dvc T c (ix2 k l) = D.dvPart (8 * i + c.val) k.val (128 * pp + l.val) := by
  unfold dvc Attn.Data.dvPart
  rw [pay84_apply, Finset.sum_congr rfl fun a _ => by rw [Pc_apply h, Gc_apply h]]
  rw [head_sum (fun a => D.p (8 * i + c.val) (2 * pp + a / 64) (a % 64) k.val
      * (if l.val / 64 = a / 64 then D.g (64 * (8 * i + c.val) + a % 64) (128 * pp + l.val) else 0)) (l.val / 64) (by omega) fun a _ ha => by
        rw [if_neg (Ne.symm ha), mul_zero]]
  refine Finset.sum_congr rfl fun d _ => ?_
  rw [if_pos (by omega), show (64 * (l.val / 64) + d.val) / 64 = l.val / 64 by omega, show (64 * (l.val / 64) + d.val) % 64 = d.val by omega,
    show (128 * pp + l.val) / 64 = 2 * pp + l.val / 64 by omega]

/-- The chunk's share of the keys' cotangents. -/
theorem dkc_apply (k : Fin 640) (l : Fin 128) : dkc T c (ix2 k l) = D.dkPart (8 * i + c.val) k.val (128 * pp + l.val) := by
  unfold dkc Attn.Data.dkPart
  rw [pay101_apply, Finset.sum_congr rfl fun a _ => by rw [DBc_apply h c hD, Qc_apply h]]
  rw [head_sum (fun a => D.ds (8 * i + c.val) (2 * pp + a / 64) (a % 64) k.val
      * (if l.val / 64 = a / 64 then D.q (64 * (8 * i + c.val) + a % 64) (128 * pp + l.val) * Attn.eighth else 0)) (l.val / 64) (by omega) fun a _ ha => by
        rw [if_neg (Ne.symm ha), mul_zero]]
  refine Finset.sum_congr rfl fun d _ => ?_
  rw [if_pos (by omega), show (64 * (l.val / 64) + d.val) / 64 = l.val / 64 by omega, show (64 * (l.val / 64) + d.val) % 64 = d.val by omega,
    show (128 * pp + l.val) / 64 = 2 * pp + l.val / 64 by omega]

/-- The chunk's queries' cotangents. -/
theorem dqo_apply (r : Fin 64) (l : Fin 128) : dqo T c (ix2 r l) = D.dq (64 * (8 * i + c.val) + r.val) (128 * pp + l.val) := by
  unfold dqo dqc Attn.Data.dq
  rw [pay154_apply, pay93_apply]
  congr 1
  rw [show (64 * (8 * i + c.val) + r.val) / 64 = 8 * i + c.val by omega, show (64 * (8 * i + c.val) + r.val) % 64 = r.val by omega,
    show (128 * pp + l.val) / 64 = 2 * pp + l.val / 64 by omega]
  rw [← Attn.sum_band (fun k => D.ds (8 * i + c.val) (2 * pp + l.val / 64) r.val k * D.k (64 * (8 * i + c.val) + k) (128 * pp + l.val)) fun k hk => by
    show D.ds _ _ _ _ * _ = 0
    rw [Attn.Data.ds_masked hD _ _ _ _ (fun hv => absurd hv.2 (by omega)), zero_mul]]
  refine Finset.sum_congr rfl fun k _ => ?_
  rw [DBc_apply h c hD]
  show D.ds _ (2 * pp + (64 * (l.val / 64) + r.val) / 64) ((64 * (l.val / 64) + r.val) % 64) _ * _ = _
  rw [show (64 * (l.val / 64) + r.val) / 64 = l.val / 64 by omega, show (64 * (l.val / 64) + r.val) % 64 = r.val by omega]
  by_cases hk : Attn.Data.Valid (8 * i + c.val) k.val
  · rw [Kc_apply h c k l hk]
  · rw [Attn.Data.ds_masked hD _ _ _ _ hk, zero_mul, zero_mul]

end tile
end Cert.KernelIdeal.Gen
-- ==== Proof.TileOf.lean ====
/-
  The blocks a grid point reads are the tile of its position in the sequence and its pair of heads.
-/
module

public import proofs.«01_k».proof.Proof.HostBias
public import proofs.«01_k».proof.Proof.DataOf
public import proofs.«01_k».proof.Proof.TileValue

@[expose] public section
set_option maxRecDepth 16384
noncomputable section
namespace Cert.KernelIdeal.Gen
open Idealize.ShloMosaic Idealize.ShloMosaic.TcCoe Idealize.SL.Sem Idealize.ShloMosaic.Pipeline

variable (m : (ℓ : Loc nD τ sig) → Buf (Elt Ideal) ℓ)

/-- The operands of the backward pass in the launch memory. -/
def opData (c : Dev nD) : Attn.Data :=
  Attn.dataOf (m ((c : Thread nD τ).loc main_arg0)) (m ((c : Thread nD τ).loc main_arg1))
    (Cert.ReferenceIdeal.Read.val_main_v18 (F := Ideal) (m ((c : Thread nD τ).loc main_arg2))) (m ((c : Thread nD τ).loc main_arg3))

/-- What a grid point reads: its word and its seven blocks. -/
def tileAt (c : Dev nD) (t : Fin cfg0.N) : Tile Ideal where
  w := BitVec.ofNat 32 (15 - t.val % 16)
  q := iblk m c 0 t
  kp := iblk m c 1 t
  kc := iblk m c 2 t
  vp := iblk m c 3 t
  vc := iblk m c 4 t
  b := iblk m c 5 t
  g := iblk m c 6 t

theorem idx0 : ∀ t : Fin cfg0.N, win0_0.index t (0 : Fin 2) = 15 - t.val % 16 ∧ win0_0.index t (1 : Fin 2) = t.val / 16 :=
  (by decide +kernel : ∀ t : Fin grid0.N, win0_0.index t (0 : Fin 2) = 15 - t.val % 16 ∧ win0_0.index t (1 : Fin 2) = t.val / 16)
theorem idx1 : ∀ t : Fin cfg0.N, win0_1.index t (0 : Fin 2) = 14 - t.val % 16 ∧ win0_1.index t (1 : Fin 2) = t.val / 16 :=
  (by decide +kernel : ∀ t : Fin grid0.N, win0_1.index t (0 : Fin 2) = 14 - t.val % 16 ∧ win0_1.index t (1 : Fin 2) = t.val / 16)
theorem idx2 : ∀ t : Fin cfg0.N, win0_2.index t (0 : Fin 2) = 15 - t.val % 16 ∧ win0_2.index t (1 : Fin 2) = t.val / 16 :=
  (by decide +kernel : ∀ t : Fin grid0.N, win0_2.index t (0 : Fin 2) = 15 - t.val % 16 ∧ win0_2.index t (1 : Fin 2) = t.val / 16)
theorem idx3 : ∀ t : Fin cfg0.N, win0_3.index t (0 : Fin 2) = 14 - t.val % 16 ∧ win0_3.index t (1 : Fin 2) = 8 + t.val / 16 :=
  (by decide +kernel : ∀ t : Fin grid0.N, win0_3.index t (0 : Fin 2) = 14 - t.val % 16 ∧ win0_3.index t (1 : Fin 2) = 8 + t.val / 16)
theorem idx4 : ∀ t : Fin cfg0.N, win0_4.index t (0 : Fin 2) = 15 - t.val % 16 ∧ win0_4.index t (1 : Fin 2) = 8 + t.val / 16 :=
  (by decide +kernel : ∀ t : Fin grid0.N, win0_4.index t (0 : Fin 2) = 15 - t.val % 16 ∧ win0_4.index t (1 : Fin 2) = 8 + t.val / 16)
theorem idx5 : ∀ t : Fin cfg0.N, win0_5.index t (0 : Fin 3) = t.val / 16 ∧ win0_5.index t (1 : Fin 3) = 0 ∧ win0_5.index t (2 : Fin 3) = 0 :=
  (by decide +kernel : ∀ t : Fin grid0.N, win0_5.index t (0 : Fin 3) = t.val / 16 ∧ win0_5.index t (1 : Fin 3) = 0 ∧ win0_5.index t (2 : Fin 3) = 0)
theorem idx6 : ∀ t : Fin cfg0.N, win0_6.index t (0 : Fin 2) = 15 - t.val % 16 ∧ win0_6.index t (1 : Fin 2) = t.val / 16 :=
  (by decide +kernel : ∀ t : Fin grid0.N, win0_6.index t (0 : Fin 2) = 15 - t.val % 16 ∧ win0_6.index t (1 : Fin 2) = t.val / 16)

theorem coord1 : ∀ t : Fin cfg0.N, (grid0.coords t 1).val = t.val % 16 :=
  (by decide +kernel : ∀ t : Fin grid0.N, (grid0.coords t 1).val = t.val % 16)

/-- The tile's word is the one the body counts down to. -/
theorem word_eq (c : Dev nD) (t : Fin cfg0.N) : Scalar.subi 15#32 (BitVec.ofNat 32 (grid0.coords t 1).val) = (tileAt m c t).w := by
  rw [coord1]
  show _ = BitVec.ofNat 32 (15 - t.val % 16)
  have h : t.val % 16 < 16 := Nat.mod_lt _ (by omega)
  generalize t.val % 16 = j at h
  interval_cases j <;> rfl

theorem point_lt (t : Fin cfg0.N) : t.val < 128 := t.isLt

section blocks
variable (c : Dev nD) (t : Fin cfg0.N) (r : Fin 512) (l : Fin 128)

theorem blk0 : iblk m c 0 t (ix2 r l)
    = m ((c : Thread nD τ).loc main_arg0) (ix2 (⟨512 * (15 - t.val % 16) + r.val, by omega⟩ : Fin 8192)
        (⟨128 * (t.val / 16) + l.val, by have := point_lt t; omega⟩ : Fin 1024)) := by
  obtain ⟨e0, e1⟩ := idx0 t
  rw [← V_main_arg0 m c]
  show V m c main_arg0 (((cfg0.win 0).blk t).view.emb (ix2 r l)) = _
  congr 1; funext a; apply Fin.ext
  match a with
  | ⟨0, _⟩ => show win0_0.index t (0 : Fin 2) * 512 + 1 * r.val = 512 * (15 - t.val % 16) + r.val; omega
  | ⟨1, _⟩ => show win0_0.index t (1 : Fin 2) * 128 + 1 * l.val = 128 * (t.val / 16) + l.val; omega

theorem blk6 : iblk m c 6 t (ix2 r l)
    = m ((c : Thread nD τ).loc main_arg3) (ix2 (⟨512 * (15 - t.val % 16) + r.val, by omega⟩ : Fin 8192)
        (⟨128 * (t.val / 16) + l.val, by have := point_lt t; omega⟩ : Fin 1024)) := by
  obtain ⟨e0, e1⟩ := idx6 t
  rw [← V_main_arg3 m c]
  show V m c main_arg3 (((cfg0.win 6).blk t).view.emb (ix2 r l)) = _
  congr 1; funext a; apply Fin.ext
  match a with
  | ⟨0, _⟩ => show win0_6.index t (0 : Fin 2) * 512 + 1 * r.val = 512 * (15 - t.val % 16) + r.val; omega
  | ⟨1, _⟩ => show win0_6.index t (1 : Fin 2) * 128 + 1 * l.val = 128 * (t.val / 16) + l.val; omega

theorem blk1 : iblk m c 1 t (ix2 r l)
    = m ((c : Thread nD τ).loc main_arg1) (ix2 (⟨512 * (14 - t.val % 16) + r.val, by omega⟩ : Fin 8192)
        (⟨128 * (t.val / 16) + l.val, by have := point_lt t; omega⟩ : Fin 2048)) := by
  obtain ⟨e0, e1⟩ := idx1 t
  rw [← V_main_arg1 m c]
  show V m c main_arg1 (((cfg0.win 1).blk t).view.emb (ix2 r l)) = _
  congr 1; funext a; apply Fin.ext
  match a with
  | ⟨0, _⟩ => show win0_1.index t (0 : Fin 2) * 512 + 1 * r.val = 512 * (14 - t.val % 16) + r.val; omega
  | ⟨1, _⟩ => show win0_1.index t (1 : Fin 2) * 128 + 1 * l.val = 128 * (t.val / 16) + l.val; omega

theorem blk2 : iblk m c 2 t (ix2 r l)
    = m ((c : Thread nD τ).loc main_arg1) (ix2 (⟨512 * (15 - t.val % 16) + r.val, by omega⟩ : Fin 8192)
        (⟨128 * (t.val / 16) + l.val, by have := point_lt t; omega⟩ : Fin 2048)) := by
  obtain ⟨e0, e1⟩ := idx2 t
  rw [← V_main_arg1 m c]
  show V m c main_arg1 (((cfg0.win 2).blk t).view.emb (ix2 r l)) = _
  congr 1; funext a; apply Fin.ext
  match a with
  | ⟨0, _⟩ => show win0_2.index t (0 : Fin 2) * 512 + 1 * r.val = 512 * (15 - t.val % 16) + r.val; omega
  | ⟨1, _⟩ => show win0_2.index t (1 : Fin 2) * 128 + 1 * l.val = 128 * (t.val / 16) + l.val; omega

theorem blk3 : iblk m c 3 t (ix2 r l)
    = m ((c : Thread nD τ).loc main_arg1) (ix2 (⟨512 * (14 - t.val % 16) + r.val, by omega⟩ : Fin 8192)
        (⟨1024 + (128 * (t.val / 16) + l.val), by have := point_lt t; omega⟩ : Fin 2048)) := by
  obtain ⟨e0, e1⟩ := idx3 t
  rw [← V_main_arg1 m c]
  show V m c main_arg1 (((cfg0.win 3).blk t).view.emb (ix2 r l)) = _
  congr 1; funext a; apply Fin.ext
  match a with
  | ⟨0, _⟩ => show win0_3.index t (0 : Fin 2) * 512 + 1 * r.val = 512 * (14 - t.val % 16) + r.val; omega
  | ⟨1, _⟩ => show win0_3.index t (1 : Fin 2) * 128 + 1 * l.val = 1024 + (128 * (t.val / 16) + l.val); omega

theorem blk4 : iblk m c 4 t (ix2 r l)
    = m ((c : Thread nD τ).loc main_arg1) (ix2 (⟨512 * (15 - t.val % 16) + r.val, by omega⟩ : Fin 8192)
        (⟨1024 + (128 * (t.val / 16) + l.val), by have := point_lt t; omega⟩ : Fin 2048)) := by
  obtain ⟨e0, e1⟩ := idx4 t
  rw [← V_main_arg1 m c]
  show V m c main_arg1 (((cfg0.win 4).blk t).view.emb (ix2 r l)) = _
  congr 1; funext a; apply Fin.ext
  match a with
  | ⟨0, _⟩ => show win0_4.index t (0 : Fin 2) * 512 + 1 * r.val = 512 * (15 - t.val % 16) + r.val; omega
  | ⟨1, _⟩ => show win0_4.index t (1 : Fin 2) * 128 + 1 * l.val = 1024 + (128 * (t.val / 16) + l.val); omega

theorem blk5 (a : Fin 128) (k : Fin 640) : iblk m c 5 t (ix3 (0 : Fin 1) a k)
    = V m c main_v20 (ix3 (⟨t.val / 16, by have := point_lt t; omega⟩ : Fin 8) a k) := by
  obtain ⟨e0, e1, e2⟩ := idx5 t
  show V m c main_v20 (((cfg0.win 5).blk t).view.emb (ix3 (0 : Fin 1) a k)) = _
  congr 1; funext x; apply Fin.ext
  match x with
  | ⟨0, _⟩ => show win0_5.index t (0 : Fin 3) * 1 + 1 * 0 = t.val / 16; omega
  | ⟨1, _⟩ => show win0_5.index t (1 : Fin 3) * 128 + 1 * a.val = a.val; omega
  | ⟨2, _⟩ => show win0_5.index t (2 : Fin 3) * 640 + 1 * k.val = k.val; omega

end blocks

set_option maxHeartbeats 2000000 in
/-- The point's blocks are the tile of its sequence position, counted down from the last, and its head pair. -/
theorem isTile (c : Dev nD) (t : Fin cfg0.N) : IsTile (tileAt m c t) (opData m c) (15 - t.val % 16) (t.val / 16) where
  hi := by omega
  w := rfl
  q r l := by
    refine (blk0 m c t r l).trans ?_
    have := point_lt t
    unfold opData Attn.dataOf; dsimp only
    rw [dif_pos ⟨by omega, by omega⟩]
  g r l := by
    refine (blk6 m c t r l).trans ?_
    have := point_lt t
    unfold opData Attn.dataOf; dsimp only
    rw [dif_pos ⟨by omega, by omega⟩]
  kc r l := by
    refine (blk2 m c t r l).trans ?_
    have := point_lt t
    unfold opData Attn.dataOf; dsimp only
    rw [dif_pos ⟨⟨by omega, by omega⟩, by omega⟩]
    congr 2; apply Fin.ext; show 512 * (15 - t.val % 16) + r.val = 512 * (15 - t.val % 16 + 1) + r.val - 512; omega
  kp h r l := by
    refine (blk1 m c t r l).trans ?_
    have := point_lt t
    unfold opData Attn.dataOf; dsimp only
    rw [dif_pos ⟨⟨by omega, by omega⟩, by omega⟩]
    congr 2; apply Fin.ext; show 512 * (14 - t.val % 16) + r.val = 512 * (15 - t.val % 16) + r.val - 512; omega
  vc r l := by
    refine (blk4 m c t r l).trans ?_
    have := point_lt t
    unfold opData Attn.dataOf; dsimp only
    rw [dif_pos ⟨⟨by omega, by omega⟩, by omega⟩]
    congr 2; apply Fin.ext; show 512 * (15 - t.val % 16) + r.val = 512 * (15 - t.val % 16 + 1) + r.val - 512; omega
  vp h r l := by
    refine (blk3 m c t r l).trans ?_
    have := point_lt t
    unfold opData Attn.dataOf; dsimp only
    rw [dif_pos ⟨⟨by omega, by omega⟩, by omega⟩]
    congr 2; apply Fin.ext; show 512 * (14 - t.val % 16) + r.val = 512 * (15 - t.val % 16) + r.val - 512; omega
  b a k hk := by
    refine (blk5 m c t a k).trans ((bias_apply m c _ a k).trans ?_)
    have ht := point_lt t
    have ha := a.isLt
    exact (dif_pos hk).trans (Attn.dataOf_b _ _ _ _ (by omega) (by omega) hk).symm
  bpad a k hk := (blk5 m c t a k).trans (bias_pad m c _ a k hk)

end Cert.KernelIdeal.Gen
-- ==== Proof.Finite.lean ====
/-
  What the precondition says: the queries, the keys and the bias hold no infinity.
-/
module

public import proofs.«01_k».proof.Defs
public import proofs.«01_k».proof.Proof.Gen.Pre_scores_finite
public import proofs.«01_k».proof.Proof.TileOf

@[expose] public section
set_option maxRecDepth 16384
noncomputable section
namespace Cert.KernelIdeal.Gen
open Idealize.ShloMosaic Idealize.ShloMosaic.TcCoe

/-- A magnitude below the infinity is a real number's. -/
theorem real_of_below {x : EReal} (h : FloatOps.cmpf (F := Ideal) (φ := .f32) .olt (FloatOps.hostAbsf (F := Ideal) (φ := .f32) x) (Ideal.ofBits .f32 0x7F800000#32) = 1#1) :
    Attn.IsReal x := by
  have e : Ideal.ofBits .f32 0x7F800000#32 = ⊤ := by simp [Ideal.ofBits, Ideal.ieee]
  have ha : (FloatOps.hostAbsf (F := Ideal) (φ := .f32) x : EReal) = max x (-x) := rfl
  rw [e, Ideal.cmpf_def, ha] at h
  have hlt : max x (-x) < ⊤ := by
    by_contra hn
    simp [Ideal.cmp, hn] at h
  refine Attn.isReal_of_ne (fun hx => ?_) (fun hx => ?_)
  · subst hx; simp at hlt
  · subst hx; simp at hlt

variable (m : (ℓ : Loc nD τ sig) → Buf (Elt Ideal) ℓ)

/-- The operands of the backward pass are real under the precondition. -/
theorem operands_real (hpre : Cert.Pre_KernelIdeal_scores_finite m) (c : Dev nD) : (opData m c).Real := by
  obtain ⟨h0, h1, h2⟩ := hpre c
  refine Attn.dataOf_real (fun i => ?_) (fun r k => ?_) (fun i => ?_)
  · exact real_of_below (congrFun h0 i)
  · have h := congrFun h1 (ix2 r k)
    dsimp only [Cert.Pre_scores_finite.fn] at h
    have e : (extractStridedSlice Cert.Pre_scores_finite.S8192x1024 ![0, 0] (m ((c : Thread nD τ).loc main_arg1)) Cert.Pre_scores_finite.Facts.slices_S8192x2048_S8192x1024_0_0
        : Cert.Pre_scores_finite.S8192x1024.Idx → EReal) (ix2 r k) = m ((c : Thread nD τ).loc main_arg1) (ix2 r ⟨k.val, by omega⟩) := by
      generalize m ((c : Thread nD τ).loc main_arg1) = y
      pointwise []
    refine real_of_below ?_
    rw [← e]
    exact h
  · exact real_of_below (congrFun h2 _)

end Cert.KernelIdeal.Gen
-- ==== Proof.Opened.lean ====
/-
  What one grid point leaves in each of its outputs and in the two accumulators, in terms of the chunks' values.
-/
module
public import proofs.«01_k».proof.Proof.Gen.KernelIdeal.Value
public import proofs.«01_k».proof.Proof.Chunk
@[expose] public section
noncomputable section
namespace Cert.KernelIdeal.Gen
open Idealize.ShloMosaic Idealize.SL.Sem Idealize.ShloMosaic.Pipeline
variable {F : FTy → Type} [FloatOps F] [Named F]
set_option maxRecDepth 16384

/-- The tile of gradients of the queries, one store per chunk. -/
def dqL (T : Tile F) : List (View.Piece (Elt F) S512x128 .f32) :=
  [⟨Rect.unit ![448, 0] S64x128.size inb_S512x128_S64x128_448_0, dqo T 7⟩,
    ⟨Rect.unit ![384, 0] S64x128.size inb_S512x128_S64x128_384_0, dqo T 6⟩,
    ⟨Rect.unit ![320, 0] S64x128.size inb_S512x128_S64x128_320_0, dqo T 5⟩,
    ⟨Rect.unit ![256, 0] S64x128.size inb_S512x128_S64x128_256_0, dqo T 4⟩,
    ⟨Rect.unit ![192, 0] S64x128.size inb_S512x128_S64x128_192_0, dqo T 3⟩,
    ⟨Rect.unit ![128, 0] S64x128.size inb_S512x128_S64x128_128_0, dqo T 2⟩,
    ⟨Rect.unit ![64, 0] S64x128.size inb_S512x128_S64x128_64_0, dqo T 1⟩,
    ⟨Rect.unit ![0, 0] S64x128.size inb_S512x128_S64x128_0_0, dqo T 0⟩]

/-- The accumulator after the stores of one tile on top of `L0`. -/
def accV (L0 : List (View.Piece (Elt F) S1088x128 .f32)) (tot : ℕ → FVec F S64x128 .f32) : S1088x128.Idx → F .f32 :=
  View.canon (Val := Elt F) (accL L0 tot 16)

/-- Rows 512 to 1023 of the accumulator, what an output of one tile receives. -/
def lowRows (a : S1088x128.Idx → F .f32) : Vec F S512x128 .f32 :=
  fun j => a ((Rect.unit (s := S1088x128) ![512, 0] S512x128.size inb_S1088x128_S512x128_512_0).toLoadRect.idx j)

theorem mem_accL (L0 : List (View.Piece (Elt F) S1088x128 .f32)) (tot : ℕ → FVec F S64x128 .f32) (y : S1088x128.Idx) (n : ℕ)
    (hn : n ≤ 16) (h : (y 0).val < 64 * n) : ∃ p ∈ accL L0 tot n, y ∈ p.1.set := by
  induction n with
  | zero => omega
  | succ n ih =>
    by_cases h' : (y 0).val < 64 * n
    · obtain ⟨p, hp, hy⟩ := ih (by omega) h'
      exact ⟨p, List.mem_cons_of_mem _ hp, hy⟩
    · refine ⟨_, List.mem_cons_self, ?_⟩
      rw [Rect.mem_set_unit]
      intro a
      match a with
      | 0 =>
        show 64 * (n % 16) ≤ (y 0).val ∧ (y 0).val < 64 * (n % 16) + 64
        have : n % 16 = n := Nat.mod_eq_of_lt (by omega)
        rw [this]; omega
      | 1 =>
        show 0 ≤ (y 1).val ∧ (y 1).val < 0 + 128
        exact ⟨Nat.zero_le _, by have := (y 1).isLt; simpa using this⟩

set_option maxHeartbeats 4000000 in
/-- The gradient of the queries. -/
theorem open7_A  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128x640 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128x640 .f32) (harg12 : arg12.IsWhole) (arg13 : Memref sig .tc .vmem S1088x128 .bf16) (harg13 : arg13.IsWhole) (arg14 : Memref sig .tc .vmem S1088x128 .bf16) (harg14 : arg14.IsWhole) (arg15 : Memref sig .tc .vmem S1088x128 .f32) (harg15 : arg15.IsWhole) (arg16 : Memref sig .tc .vmem S1088x128 .f32) (harg16 : arg16.IsWhole) (hc0 : cond0_0 i) (hc1 : ¬cond0_1 i) (T : Tile F) (hw : Scalar.subi 15#32 (BitVec.ofNat 32 (i 1).val) = T.w) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 T.q T.kp T.kc T.vp T.vc T.b T.g = View.canon (Val := Elt F) (dqL T) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 T.q T.kp T.kc T.vp T.vc T.b T.g)]
  unfold kernelRun0_A
  dsimp only
  sl_unfold_words
  simp only [View.readAt_eq_ld, harg2.read_unread, harg3.read_unread, harg4.read_unread, harg5.read_unread, harg6.read_unread, harg7.read_unread, harg8.read_unread, View.readCov_eq_canon', hw]
  simp only [fold_whole_0, fold_whole_1, fold_row_0, fold_row_1, fold_row_2, fold_row_3, fold_row_4, fold_row_5, fold_row_6, fold_row_7, fold_band_0, fold_band_1, fold_band_2, fold_band_3, fold_band_4, fold_band_5, fold_band_6, fold_band_7, fold_buf_0, fold_buf_1, fold_q_0, fold_q_1, fold_q_2, fold_q_3, fold_q_4, fold_q_5, fold_q_6, fold_q_7, fold_g_0, fold_g_1, fold_g_2, fold_g_3, fold_g_4, fold_g_5, fold_g_6, fold_g_7, fold_k_0, fold_k_1, fold_k_2, fold_k_3, fold_k_4, fold_k_5, fold_k_6, fold_k_7, fold_v_0, fold_v_1, fold_v_2, fold_v_3, fold_v_4, fold_v_5, fold_v_6, fold_v_7, fold_s_0, fold_s_1, fold_s_2, fold_s_3, fold_s_4, fold_s_5, fold_s_6, fold_s_7, fold_dp_0, fold_dp_1, fold_dp_2, fold_dp_3, fold_dp_4, fold_dp_5, fold_dp_6, fold_dp_7, fold_p_0, fold_p_1, fold_p_2, fold_p_3, fold_p_4, fold_p_5, fold_p_6, fold_p_7, fold_ds_0, fold_ds_1, fold_ds_2, fold_ds_3, fold_ds_4, fold_ds_5, fold_ds_6, fold_ds_7, fold_db_0, fold_db_1, fold_db_2, fold_db_3, fold_db_4, fold_db_5, fold_db_6, fold_db_7, fold_dv_0, fold_dv_1, fold_dv_2, fold_dv_3, fold_dv_4, fold_dv_5, fold_dv_6, fold_dv_7, fold_dq_0, fold_dq_1, fold_dq_2, fold_dq_3, fold_dq_4, fold_dq_5, fold_dq_6, fold_dq_7, fold_dk_0, fold_dk_1, fold_dk_2, fold_dk_3, fold_dk_4, fold_dk_5, fold_dk_6, fold_dk_7, fold_o_0, fold_o_1, fold_o_2, fold_o_3, fold_o_4, fold_o_5, fold_o_6, fold_o_7]
  rfl

set_option maxHeartbeats 4000000 in
/-- The gradient of the queries. -/
theorem open7_B  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128x640 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128x640 .f32) (harg12 : arg12.IsWhole) (arg13 : Memref sig .tc .vmem S1088x128 .bf16) (harg13 : arg13.IsWhole) (arg14 : Memref sig .tc .vmem S1088x128 .bf16) (harg14 : arg14.IsWhole) (arg15 : Memref sig .tc .vmem S1088x128 .f32) (harg15 : arg15.IsWhole) (arg16 : Memref sig .tc .vmem S1088x128 .f32) (harg16 : arg16.IsWhole) (hc0 : ¬cond0_0 i) (hc1 : cond0_1 i)
    (xo10 : Vec F S1x128x640 .f32) (xs2 : Vec F S1088x128 .f32) (xs3 : Vec F S1088x128 .f32) (T : Tile F) (hw : Scalar.subi 15#32 (BitVec.ofNat 32 (i 1).val) = T.w) :
    out0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 T.q T.kp T.kc T.vp T.vc T.b T.g xo10 xs2 xs3 = View.canon (Val := Elt F) (dqL T) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 T.q T.kp T.kc T.vp T.vc T.b T.g xo10 xs2 xs3)]
  unfold kernelRun0_B
  dsimp only
  sl_unfold_words
  simp only [View.readAt_eq_ld, harg2.read_unread, harg3.read_unread, harg4.read_unread, harg5.read_unread, harg6.read_unread, harg7.read_unread, harg8.read_unread, View.readCov_eq_canon', hw]
  simp only [fold_whole_0, fold_whole_1, fold_row_0, fold_row_1, fold_row_2, fold_row_3, fold_row_4, fold_row_5, fold_row_6, fold_row_7, fold_band_0, fold_band_1, fold_band_2, fold_band_3, fold_band_4, fold_band_5, fold_band_6, fold_band_7, fold_buf_0, fold_buf_1, fold_q_0, fold_q_1, fold_q_2, fold_q_3, fold_q_4, fold_q_5, fold_q_6, fold_q_7, fold_g_0, fold_g_1, fold_g_2, fold_g_3, fold_g_4, fold_g_5, fold_g_6, fold_g_7, fold_k_0, fold_k_1, fold_k_2, fold_k_3, fold_k_4, fold_k_5, fold_k_6, fold_k_7, fold_v_0, fold_v_1, fold_v_2, fold_v_3, fold_v_4, fold_v_5, fold_v_6, fold_v_7, fold_s_0, fold_s_1, fold_s_2, fold_s_3, fold_s_4, fold_s_5, fold_s_6, fold_s_7, fold_dp_0, fold_dp_1, fold_dp_2, fold_dp_3, fold_dp_4, fold_dp_5, fold_dp_6, fold_dp_7, fold_p_0, fold_p_1, fold_p_2, fold_p_3, fold_p_4, fold_p_5, fold_p_6, fold_p_7, fold_ds_0, fold_ds_1, fold_ds_2, fold_ds_3, fold_ds_4, fold_ds_5, fold_ds_6, fold_ds_7, fold_db_0, fold_db_1, fold_db_2, fold_db_3, fold_db_4, fold_db_5, fold_db_6, fold_db_7, fold_dv_0, fold_dv_1, fold_dv_2, fold_dv_3, fold_dv_4, fold_dv_5, fold_dv_6, fold_dv_7, fold_dq_0, fold_dq_1, fold_dq_2, fold_dq_3, fold_dq_4, fold_dq_5, fold_dq_6, fold_dq_7, fold_dk_0, fold_dk_1, fold_dk_2, fold_dk_3, fold_dk_4, fold_dk_5, fold_dk_6, fold_dk_7, fold_o_0, fold_o_1, fold_o_2, fold_o_3, fold_o_4, fold_o_5, fold_o_6, fold_o_7]
  rfl

set_option maxHeartbeats 4000000 in
/-- The gradient of the keys. -/
theorem open8_A  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128x640 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128x640 .f32) (harg12 : arg12.IsWhole) (arg13 : Memref sig .tc .vmem S1088x128 .bf16) (harg13 : arg13.IsWhole) (arg14 : Memref sig .tc .vmem S1088x128 .bf16) (harg14 : arg14.IsWhole) (arg15 : Memref sig .tc .vmem S1088x128 .f32) (harg15 : arg15.IsWhole) (arg16 : Memref sig .tc .vmem S1088x128 .f32) (harg16 : arg16.IsWhole) (hc0 : cond0_0 i) (hc1 : ¬cond0_1 i) (T : Tile F) (hw : Scalar.subi 15#32 (BitVec.ofNat 32 (i 1).val) = T.w) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 T.q T.kp T.kc T.vp T.vc T.b T.g = lowRows (accV initA (dkTot T)) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 T.q T.kp T.kc T.vp T.vc T.b T.g)]
  unfold kernelRun0_A
  dsimp only
  sl_unfold_words
  simp only [View.readAt_eq_ld, harg2.read_unread, harg3.read_unread, harg4.read_unread, harg5.read_unread, harg6.read_unread, harg7.read_unread, harg8.read_unread, harg15.read_unread, View.readCov_eq_canon', hw]
  simp only [fold_whole_0, fold_whole_1, fold_row_0, fold_row_1, fold_row_2, fold_row_3, fold_row_4, fold_row_5, fold_row_6, fold_row_7, fold_band_0, fold_band_1, fold_band_2, fold_band_3, fold_band_4, fold_band_5, fold_band_6, fold_band_7, fold_buf_0, fold_buf_1, fold_q_0, fold_q_1, fold_q_2, fold_q_3, fold_q_4, fold_q_5, fold_q_6, fold_q_7, fold_g_0, fold_g_1, fold_g_2, fold_g_3, fold_g_4, fold_g_5, fold_g_6, fold_g_7, fold_k_0, fold_k_1, fold_k_2, fold_k_3, fold_k_4, fold_k_5, fold_k_6, fold_k_7, fold_v_0, fold_v_1, fold_v_2, fold_v_3, fold_v_4, fold_v_5, fold_v_6, fold_v_7, fold_s_0, fold_s_1, fold_s_2, fold_s_3, fold_s_4, fold_s_5, fold_s_6, fold_s_7, fold_dp_0, fold_dp_1, fold_dp_2, fold_dp_3, fold_dp_4, fold_dp_5, fold_dp_6, fold_dp_7, fold_p_0, fold_p_1, fold_p_2, fold_p_3, fold_p_4, fold_p_5, fold_p_6, fold_p_7, fold_ds_0, fold_ds_1, fold_ds_2, fold_ds_3, fold_ds_4, fold_ds_5, fold_ds_6, fold_ds_7, fold_db_0, fold_db_1, fold_db_2, fold_db_3, fold_db_4, fold_db_5, fold_db_6, fold_db_7, fold_dv_0, fold_dv_1, fold_dv_2, fold_dv_3, fold_dv_4, fold_dv_5, fold_dv_6, fold_dv_7, fold_dq_0, fold_dq_1, fold_dq_2, fold_dq_3, fold_dq_4, fold_dq_5, fold_dq_6, fold_dq_7, fold_dk_0, fold_dk_1, fold_dk_2, fold_dk_3, fold_dk_4, fold_dk_5, fold_dk_6, fold_dk_7, fold_o_0, fold_o_1, fold_o_2, fold_o_3, fold_o_4, fold_o_5, fold_o_6, fold_o_7]
  simp only [k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, shapeCast_self]
  simp only [fold_dv_0, fold_dv_1, fold_dv_2, fold_dv_3, fold_dv_4, fold_dv_5, fold_dv_6, fold_dv_7, fold_dk_0, fold_dk_1, fold_dk_2, fold_dk_3, fold_dk_4, fold_dk_5, fold_dk_6, fold_dk_7, fold_tdk_0, fold_tdk_1, fold_tdk_2, fold_tdk_3, fold_tdk_4, fold_tdk_5, fold_tdk_6, fold_tdk_7, fold_tdk_8, fold_tdk_9, fold_tdk_10, fold_tdk_11, fold_tdk_12, fold_tdk_13, fold_tdk_14, fold_tdk_15]
  simp only [fold_idk_1 T, fold_l_0, fold_l_1, fold_l_2, fold_l_3, fold_l_4, fold_l_5, fold_l_6, fold_l_7, fold_l_8, fold_l_9, fold_l_10, fold_l_11, fold_l_12, fold_l_13, fold_l_14, fold_l_15]
  exact View.canon_unit_zero zero2 _ _

set_option maxHeartbeats 4000000 in
/-- The accumulator the tile leaves. -/
theorem sopen8_A  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128x640 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128x640 .f32) (harg12 : arg12.IsWhole) (arg13 : Memref sig .tc .vmem S1088x128 .bf16) (harg13 : arg13.IsWhole) (arg14 : Memref sig .tc .vmem S1088x128 .bf16) (harg14 : arg14.IsWhole) (arg15 : Memref sig .tc .vmem S1088x128 .f32) (harg15 : arg15.IsWhole) (arg16 : Memref sig .tc .vmem S1088x128 .f32) (harg16 : arg16.IsWhole) (hc0 : cond0_0 i) (hc1 : ¬cond0_1 i) (T : Tile F) (hw : Scalar.subi 15#32 (BitVec.ofNat 32 (i 1).val) = T.w) (y : S1088x128.Idx) (hy : (y 0).val < 1024) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 T.q T.kp T.kc T.vp T.vc T.b T.g y = accV initA (dkTot T) y := by
  unfold sout0_A_2
  unfold kernelRun0_A
  dsimp only
  sl_unfold_words
  simp only [View.readAt_eq_ld, harg2.read_unread, harg3.read_unread, harg4.read_unread, harg5.read_unread, harg6.read_unread, harg7.read_unread, harg8.read_unread, harg15.read_unread, View.readCov_eq_canon', hw]
  simp only [fold_whole_0, fold_whole_1, fold_row_0, fold_row_1, fold_row_2, fold_row_3, fold_row_4, fold_row_5, fold_row_6, fold_row_7, fold_band_0, fold_band_1, fold_band_2, fold_band_3, fold_band_4, fold_band_5, fold_band_6, fold_band_7, fold_buf_0, fold_buf_1, fold_q_0, fold_q_1, fold_q_2, fold_q_3, fold_q_4, fold_q_5, fold_q_6, fold_q_7, fold_g_0, fold_g_1, fold_g_2, fold_g_3, fold_g_4, fold_g_5, fold_g_6, fold_g_7, fold_k_0, fold_k_1, fold_k_2, fold_k_3, fold_k_4, fold_k_5, fold_k_6, fold_k_7, fold_v_0, fold_v_1, fold_v_2, fold_v_3, fold_v_4, fold_v_5, fold_v_6, fold_v_7, fold_s_0, fold_s_1, fold_s_2, fold_s_3, fold_s_4, fold_s_5, fold_s_6, fold_s_7, fold_dp_0, fold_dp_1, fold_dp_2, fold_dp_3, fold_dp_4, fold_dp_5, fold_dp_6, fold_dp_7, fold_p_0, fold_p_1, fold_p_2, fold_p_3, fold_p_4, fold_p_5, fold_p_6, fold_p_7, fold_ds_0, fold_ds_1, fold_ds_2, fold_ds_3, fold_ds_4, fold_ds_5, fold_ds_6, fold_ds_7, fold_db_0, fold_db_1, fold_db_2, fold_db_3, fold_db_4, fold_db_5, fold_db_6, fold_db_7, fold_dv_0, fold_dv_1, fold_dv_2, fold_dv_3, fold_dv_4, fold_dv_5, fold_dv_6, fold_dv_7, fold_dq_0, fold_dq_1, fold_dq_2, fold_dq_3, fold_dq_4, fold_dq_5, fold_dq_6, fold_dq_7, fold_dk_0, fold_dk_1, fold_dk_2, fold_dk_3, fold_dk_4, fold_dk_5, fold_dk_6, fold_dk_7, fold_o_0, fold_o_1, fold_o_2, fold_o_3, fold_o_4, fold_o_5, fold_o_6, fold_o_7]
  simp only [k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, shapeCast_self]
  simp only [fold_dv_0, fold_dv_1, fold_dv_2, fold_dv_3, fold_dv_4, fold_dv_5, fold_dv_6, fold_dv_7, fold_dk_0, fold_dk_1, fold_dk_2, fold_dk_3, fold_dk_4, fold_dk_5, fold_dk_6, fold_dk_7, fold_tdk_0, fold_tdk_1, fold_tdk_2, fold_tdk_3, fold_tdk_4, fold_tdk_5, fold_tdk_6, fold_tdk_7, fold_tdk_8, fold_tdk_9, fold_tdk_10, fold_tdk_11, fold_tdk_12, fold_tdk_13, fold_tdk_14, fold_tdk_15]
  simp only [fold_idk_1 T, fold_l_0, fold_l_1, fold_l_2, fold_l_3, fold_l_4, fold_l_5, fold_l_6, fold_l_7, fold_l_8, fold_l_9, fold_l_10, fold_l_11, fold_l_12, fold_l_13, fold_l_14, fold_l_15]
  exact View.read_writes_apply_eq_canon _ _ _ _ (mem_accL _ _ _ 16 (le_refl _) (by omega))

set_option maxHeartbeats 4000000 in
/-- The gradient of the keys. -/
theorem open8_B  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128x640 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128x640 .f32) (harg12 : arg12.IsWhole) (arg13 : Memref sig .tc .vmem S1088x128 .bf16) (harg13 : arg13.IsWhole) (arg14 : Memref sig .tc .vmem S1088x128 .bf16) (harg14 : arg14.IsWhole) (arg15 : Memref sig .tc .vmem S1088x128 .f32) (harg15 : arg15.IsWhole) (arg16 : Memref sig .tc .vmem S1088x128 .f32) (harg16 : arg16.IsWhole) (hc0 : ¬cond0_0 i) (hc1 : cond0_1 i)
    (xo10 : Vec F S1x128x640 .f32) (xs2 : Vec F S1088x128 .f32) (xs3 : Vec F S1088x128 .f32) (T : Tile F) (hw : Scalar.subi 15#32 (BitVec.ofNat 32 (i 1).val) = T.w) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 T.q T.kp T.kc T.vp T.vc T.b T.g xo10 xs2 xs3 = lowRows (accV (initB xs2) (dkTot T)) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 T.q T.kp T.kc T.vp T.vc T.b T.g xo10 xs2 xs3)]
  unfold kernelRun0_B
  dsimp only
  sl_unfold_words
  simp only [View.readAt_eq_ld, harg2.read_unread, harg3.read_unread, harg4.read_unread, harg5.read_unread, harg6.read_unread, harg7.read_unread, harg8.read_unread, harg15.read_unread, View.readCov_eq_canon', hw]
  simp only [fold_whole_0, fold_whole_1, fold_row_0, fold_row_1, fold_row_2, fold_row_3, fold_row_4, fold_row_5, fold_row_6, fold_row_7, fold_band_0, fold_band_1, fold_band_2, fold_band_3, fold_band_4, fold_band_5, fold_band_6, fold_band_7, fold_buf_0, fold_buf_1, fold_q_0, fold_q_1, fold_q_2, fold_q_3, fold_q_4, fold_q_5, fold_q_6, fold_q_7, fold_g_0, fold_g_1, fold_g_2, fold_g_3, fold_g_4, fold_g_5, fold_g_6, fold_g_7, fold_k_0, fold_k_1, fold_k_2, fold_k_3, fold_k_4, fold_k_5, fold_k_6, fold_k_7, fold_v_0, fold_v_1, fold_v_2, fold_v_3, fold_v_4, fold_v_5, fold_v_6, fold_v_7, fold_s_0, fold_s_1, fold_s_2, fold_s_3, fold_s_4, fold_s_5, fold_s_6, fold_s_7, fold_dp_0, fold_dp_1, fold_dp_2, fold_dp_3, fold_dp_4, fold_dp_5, fold_dp_6, fold_dp_7, fold_p_0, fold_p_1, fold_p_2, fold_p_3, fold_p_4, fold_p_5, fold_p_6, fold_p_7, fold_ds_0, fold_ds_1, fold_ds_2, fold_ds_3, fold_ds_4, fold_ds_5, fold_ds_6, fold_ds_7, fold_db_0, fold_db_1, fold_db_2, fold_db_3, fold_db_4, fold_db_5, fold_db_6, fold_db_7, fold_dv_0, fold_dv_1, fold_dv_2, fold_dv_3, fold_dv_4, fold_dv_5, fold_dv_6, fold_dv_7, fold_dq_0, fold_dq_1, fold_dq_2, fold_dq_3, fold_dq_4, fold_dq_5, fold_dq_6, fold_dq_7, fold_dk_0, fold_dk_1, fold_dk_2, fold_dk_3, fold_dk_4, fold_dk_5, fold_dk_6, fold_dk_7, fold_o_0, fold_o_1, fold_o_2, fold_o_3, fold_o_4, fold_o_5, fold_o_6, fold_o_7]
  simp only [k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, shapeCast_self]
  simp only [fold_dv_0, fold_dv_1, fold_dv_2, fold_dv_3, fold_dv_4, fold_dv_5, fold_dv_6, fold_dv_7, fold_dk_0, fold_dk_1, fold_dk_2, fold_dk_3, fold_dk_4, fold_dk_5, fold_dk_6, fold_dk_7, fold_tdk_0, fold_tdk_1, fold_tdk_2, fold_tdk_3, fold_tdk_4, fold_tdk_5, fold_tdk_6, fold_tdk_7, fold_tdk_8, fold_tdk_9, fold_tdk_10, fold_tdk_11, fold_tdk_12, fold_tdk_13, fold_tdk_14, fold_tdk_15]
  simp only [fold_idk_0 T, fold_l_0, fold_l_1, fold_l_2, fold_l_3, fold_l_4, fold_l_5, fold_l_6, fold_l_7, fold_l_8, fold_l_9, fold_l_10, fold_l_11, fold_l_12, fold_l_13, fold_l_14, fold_l_15]
  exact View.canon_unit_zero zero2 _ _

set_option maxHeartbeats 4000000 in
/-- The accumulator the tile leaves. -/
theorem sopen8_B  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128x640 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128x640 .f32) (harg12 : arg12.IsWhole) (arg13 : Memref sig .tc .vmem S1088x128 .bf16) (harg13 : arg13.IsWhole) (arg14 : Memref sig .tc .vmem S1088x128 .bf16) (harg14 : arg14.IsWhole) (arg15 : Memref sig .tc .vmem S1088x128 .f32) (harg15 : arg15.IsWhole) (arg16 : Memref sig .tc .vmem S1088x128 .f32) (harg16 : arg16.IsWhole) (hc0 : ¬cond0_0 i) (hc1 : cond0_1 i)
    (xo10 : Vec F S1x128x640 .f32) (xs2 : Vec F S1088x128 .f32) (xs3 : Vec F S1088x128 .f32) (T : Tile F) (hw : Scalar.subi 15#32 (BitVec.ofNat 32 (i 1).val) = T.w) (y : S1088x128.Idx) (hy : (y 0).val < 1024) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 T.q T.kp T.kc T.vp T.vc T.b T.g xo10 xs2 xs3 y = accV (initB xs2) (dkTot T) y := by
  unfold sout0_B_2
  unfold kernelRun0_B
  dsimp only
  sl_unfold_words
  simp only [View.readAt_eq_ld, harg2.read_unread, harg3.read_unread, harg4.read_unread, harg5.read_unread, harg6.read_unread, harg7.read_unread, harg8.read_unread, harg15.read_unread, View.readCov_eq_canon', hw]
  simp only [fold_whole_0, fold_whole_1, fold_row_0, fold_row_1, fold_row_2, fold_row_3, fold_row_4, fold_row_5, fold_row_6, fold_row_7, fold_band_0, fold_band_1, fold_band_2, fold_band_3, fold_band_4, fold_band_5, fold_band_6, fold_band_7, fold_buf_0, fold_buf_1, fold_q_0, fold_q_1, fold_q_2, fold_q_3, fold_q_4, fold_q_5, fold_q_6, fold_q_7, fold_g_0, fold_g_1, fold_g_2, fold_g_3, fold_g_4, fold_g_5, fold_g_6, fold_g_7, fold_k_0, fold_k_1, fold_k_2, fold_k_3, fold_k_4, fold_k_5, fold_k_6, fold_k_7, fold_v_0, fold_v_1, fold_v_2, fold_v_3, fold_v_4, fold_v_5, fold_v_6, fold_v_7, fold_s_0, fold_s_1, fold_s_2, fold_s_3, fold_s_4, fold_s_5, fold_s_6, fold_s_7, fold_dp_0, fold_dp_1, fold_dp_2, fold_dp_3, fold_dp_4, fold_dp_5, fold_dp_6, fold_dp_7, fold_p_0, fold_p_1, fold_p_2, fold_p_3, fold_p_4, fold_p_5, fold_p_6, fold_p_7, fold_ds_0, fold_ds_1, fold_ds_2, fold_ds_3, fold_ds_4, fold_ds_5, fold_ds_6, fold_ds_7, fold_db_0, fold_db_1, fold_db_2, fold_db_3, fold_db_4, fold_db_5, fold_db_6, fold_db_7, fold_dv_0, fold_dv_1, fold_dv_2, fold_dv_3, fold_dv_4, fold_dv_5, fold_dv_6, fold_dv_7, fold_dq_0, fold_dq_1, fold_dq_2, fold_dq_3, fold_dq_4, fold_dq_5, fold_dq_6, fold_dq_7, fold_dk_0, fold_dk_1, fold_dk_2, fold_dk_3, fold_dk_4, fold_dk_5, fold_dk_6, fold_dk_7, fold_o_0, fold_o_1, fold_o_2, fold_o_3, fold_o_4, fold_o_5, fold_o_6, fold_o_7]
  simp only [k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, shapeCast_self]
  simp only [fold_dv_0, fold_dv_1, fold_dv_2, fold_dv_3, fold_dv_4, fold_dv_5, fold_dv_6, fold_dv_7, fold_dk_0, fold_dk_1, fold_dk_2, fold_dk_3, fold_dk_4, fold_dk_5, fold_dk_6, fold_dk_7, fold_tdk_0, fold_tdk_1, fold_tdk_2, fold_tdk_3, fold_tdk_4, fold_tdk_5, fold_tdk_6, fold_tdk_7, fold_tdk_8, fold_tdk_9, fold_tdk_10, fold_tdk_11, fold_tdk_12, fold_tdk_13, fold_tdk_14, fold_tdk_15]
  simp only [fold_idk_0 T, fold_l_0, fold_l_1, fold_l_2, fold_l_3, fold_l_4, fold_l_5, fold_l_6, fold_l_7, fold_l_8, fold_l_9, fold_l_10, fold_l_11, fold_l_12, fold_l_13, fold_l_14, fold_l_15]
  exact View.read_writes_apply_eq_canon _ _ _ _ (mem_accL _ _ _ 16 (le_refl _) (by omega))

set_option maxHeartbeats 4000000 in
/-- The gradient of the values. -/
theorem open9_A  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128x640 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128x640 .f32) (harg12 : arg12.IsWhole) (arg13 : Memref sig .tc .vmem S1088x128 .bf16) (harg13 : arg13.IsWhole) (arg14 : Memref sig .tc .vmem S1088x128 .bf16) (harg14 : arg14.IsWhole) (arg15 : Memref sig .tc .vmem S1088x128 .f32) (harg15 : arg15.IsWhole) (arg16 : Memref sig .tc .vmem S1088x128 .f32) (harg16 : arg16.IsWhole) (hc0 : cond0_0 i) (hc1 : ¬cond0_1 i) (T : Tile F) (hw : Scalar.subi 15#32 (BitVec.ofNat 32 (i 1).val) = T.w) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 T.q T.kp T.kc T.vp T.vc T.b T.g = lowRows (accV initA (dvTot T)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 T.q T.kp T.kc T.vp T.vc T.b T.g)]
  unfold kernelRun0_A
  dsimp only
  sl_unfold_words
  simp only [View.readAt_eq_ld, harg2.read_unread, harg3.read_unread, harg4.read_unread, harg5.read_unread, harg6.read_unread, harg7.read_unread, harg8.read_unread, harg16.read_unread, View.readCov_eq_canon', hw]
  simp only [fold_whole_0, fold_whole_1, fold_row_0, fold_row_1, fold_row_2, fold_row_3, fold_row_4, fold_row_5, fold_row_6, fold_row_7, fold_band_0, fold_band_1, fold_band_2, fold_band_3, fold_band_4, fold_band_5, fold_band_6, fold_band_7, fold_buf_0, fold_buf_1, fold_q_0, fold_q_1, fold_q_2, fold_q_3, fold_q_4, fold_q_5, fold_q_6, fold_q_7, fold_g_0, fold_g_1, fold_g_2, fold_g_3, fold_g_4, fold_g_5, fold_g_6, fold_g_7, fold_k_0, fold_k_1, fold_k_2, fold_k_3, fold_k_4, fold_k_5, fold_k_6, fold_k_7, fold_v_0, fold_v_1, fold_v_2, fold_v_3, fold_v_4, fold_v_5, fold_v_6, fold_v_7, fold_s_0, fold_s_1, fold_s_2, fold_s_3, fold_s_4, fold_s_5, fold_s_6, fold_s_7, fold_dp_0, fold_dp_1, fold_dp_2, fold_dp_3, fold_dp_4, fold_dp_5, fold_dp_6, fold_dp_7, fold_p_0, fold_p_1, fold_p_2, fold_p_3, fold_p_4, fold_p_5, fold_p_6, fold_p_7, fold_ds_0, fold_ds_1, fold_ds_2, fold_ds_3, fold_ds_4, fold_ds_5, fold_ds_6, fold_ds_7, fold_db_0, fold_db_1, fold_db_2, fold_db_3, fold_db_4, fold_db_5, fold_db_6, fold_db_7, fold_dv_0, fold_dv_1, fold_dv_2, fold_dv_3, fold_dv_4, fold_dv_5, fold_dv_6, fold_dv_7, fold_dq_0, fold_dq_1, fold_dq_2, fold_dq_3, fold_dq_4, fold_dq_5, fold_dq_6, fold_dq_7, fold_dk_0, fold_dk_1, fold_dk_2, fold_dk_3, fold_dk_4, fold_dk_5, fold_dk_6, fold_dk_7, fold_o_0, fold_o_1, fold_o_2, fold_o_3, fold_o_4, fold_o_5, fold_o_6, fold_o_7]
  simp only [k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, shapeCast_self]
  simp only [fold_dv_0, fold_dv_1, fold_dv_2, fold_dv_3, fold_dv_4, fold_dv_5, fold_dv_6, fold_dv_7, fold_dk_0, fold_dk_1, fold_dk_2, fold_dk_3, fold_dk_4, fold_dk_5, fold_dk_6, fold_dk_7, fold_tdv_0, fold_tdv_1, fold_tdv_2, fold_tdv_3, fold_tdv_4, fold_tdv_5, fold_tdv_6, fold_tdv_7, fold_tdv_8, fold_tdv_9, fold_tdv_10, fold_tdv_11, fold_tdv_12, fold_tdv_13, fold_tdv_14, fold_tdv_15]
  simp only [fold_idv_1 T, fold_l_0, fold_l_1, fold_l_2, fold_l_3, fold_l_4, fold_l_5, fold_l_6, fold_l_7, fold_l_8, fold_l_9, fold_l_10, fold_l_11, fold_l_12, fold_l_13, fold_l_14, fold_l_15]
  exact View.canon_unit_zero zero2 _ _

set_option maxHeartbeats 4000000 in
/-- The accumulator the tile leaves. -/
theorem sopen9_A  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128x640 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128x640 .f32) (harg12 : arg12.IsWhole) (arg13 : Memref sig .tc .vmem S1088x128 .bf16) (harg13 : arg13.IsWhole) (arg14 : Memref sig .tc .vmem S1088x128 .bf16) (harg14 : arg14.IsWhole) (arg15 : Memref sig .tc .vmem S1088x128 .f32) (harg15 : arg15.IsWhole) (arg16 : Memref sig .tc .vmem S1088x128 .f32) (harg16 : arg16.IsWhole) (hc0 : cond0_0 i) (hc1 : ¬cond0_1 i) (T : Tile F) (hw : Scalar.subi 15#32 (BitVec.ofNat 32 (i 1).val) = T.w) (y : S1088x128.Idx) (hy : (y 0).val < 1024) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 T.q T.kp T.kc T.vp T.vc T.b T.g y = accV initA (dvTot T) y := by
  unfold sout0_A_3
  unfold kernelRun0_A
  dsimp only
  sl_unfold_words
  simp only [View.readAt_eq_ld, harg2.read_unread, harg3.read_unread, harg4.read_unread, harg5.read_unread, harg6.read_unread, harg7.read_unread, harg8.read_unread, harg16.read_unread, View.readCov_eq_canon', hw]
  simp only [fold_whole_0, fold_whole_1, fold_row_0, fold_row_1, fold_row_2, fold_row_3, fold_row_4, fold_row_5, fold_row_6, fold_row_7, fold_band_0, fold_band_1, fold_band_2, fold_band_3, fold_band_4, fold_band_5, fold_band_6, fold_band_7, fold_buf_0, fold_buf_1, fold_q_0, fold_q_1, fold_q_2, fold_q_3, fold_q_4, fold_q_5, fold_q_6, fold_q_7, fold_g_0, fold_g_1, fold_g_2, fold_g_3, fold_g_4, fold_g_5, fold_g_6, fold_g_7, fold_k_0, fold_k_1, fold_k_2, fold_k_3, fold_k_4, fold_k_5, fold_k_6, fold_k_7, fold_v_0, fold_v_1, fold_v_2, fold_v_3, fold_v_4, fold_v_5, fold_v_6, fold_v_7, fold_s_0, fold_s_1, fold_s_2, fold_s_3, fold_s_4, fold_s_5, fold_s_6, fold_s_7, fold_dp_0, fold_dp_1, fold_dp_2, fold_dp_3, fold_dp_4, fold_dp_5, fold_dp_6, fold_dp_7, fold_p_0, fold_p_1, fold_p_2, fold_p_3, fold_p_4, fold_p_5, fold_p_6, fold_p_7, fold_ds_0, fold_ds_1, fold_ds_2, fold_ds_3, fold_ds_4, fold_ds_5, fold_ds_6, fold_ds_7, fold_db_0, fold_db_1, fold_db_2, fold_db_3, fold_db_4, fold_db_5, fold_db_6, fold_db_7, fold_dv_0, fold_dv_1, fold_dv_2, fold_dv_3, fold_dv_4, fold_dv_5, fold_dv_6, fold_dv_7, fold_dq_0, fold_dq_1, fold_dq_2, fold_dq_3, fold_dq_4, fold_dq_5, fold_dq_6, fold_dq_7, fold_dk_0, fold_dk_1, fold_dk_2, fold_dk_3, fold_dk_4, fold_dk_5, fold_dk_6, fold_dk_7, fold_o_0, fold_o_1, fold_o_2, fold_o_3, fold_o_4, fold_o_5, fold_o_6, fold_o_7]
  simp only [k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, shapeCast_self]
  simp only [fold_dv_0, fold_dv_1, fold_dv_2, fold_dv_3, fold_dv_4, fold_dv_5, fold_dv_6, fold_dv_7, fold_dk_0, fold_dk_1, fold_dk_2, fold_dk_3, fold_dk_4, fold_dk_5, fold_dk_6, fold_dk_7, fold_tdv_0, fold_tdv_1, fold_tdv_2, fold_tdv_3, fold_tdv_4, fold_tdv_5, fold_tdv_6, fold_tdv_7, fold_tdv_8, fold_tdv_9, fold_tdv_10, fold_tdv_11, fold_tdv_12, fold_tdv_13, fold_tdv_14, fold_tdv_15]
  simp only [fold_idv_1 T, fold_l_0, fold_l_1, fold_l_2, fold_l_3, fold_l_4, fold_l_5, fold_l_6, fold_l_7, fold_l_8, fold_l_9, fold_l_10, fold_l_11, fold_l_12, fold_l_13, fold_l_14, fold_l_15]
  exact View.read_writes_apply_eq_canon _ _ _ _ (mem_accL _ _ _ 16 (le_refl _) (by omega))

set_option maxHeartbeats 4000000 in
/-- The gradient of the values. -/
theorem open9_B  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128x640 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128x640 .f32) (harg12 : arg12.IsWhole) (arg13 : Memref sig .tc .vmem S1088x128 .bf16) (harg13 : arg13.IsWhole) (arg14 : Memref sig .tc .vmem S1088x128 .bf16) (harg14 : arg14.IsWhole) (arg15 : Memref sig .tc .vmem S1088x128 .f32) (harg15 : arg15.IsWhole) (arg16 : Memref sig .tc .vmem S1088x128 .f32) (harg16 : arg16.IsWhole) (hc0 : ¬cond0_0 i) (hc1 : cond0_1 i)
    (xo10 : Vec F S1x128x640 .f32) (xs2 : Vec F S1088x128 .f32) (xs3 : Vec F S1088x128 .f32) (T : Tile F) (hw : Scalar.subi 15#32 (BitVec.ofNat 32 (i 1).val) = T.w) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 T.q T.kp T.kc T.vp T.vc T.b T.g xo10 xs2 xs3 = lowRows (accV (initB xs3) (dvTot T)) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 T.q T.kp T.kc T.vp T.vc T.b T.g xo10 xs2 xs3)]
  unfold kernelRun0_B
  dsimp only
  sl_unfold_words
  simp only [View.readAt_eq_ld, harg2.read_unread, harg3.read_unread, harg4.read_unread, harg5.read_unread, harg6.read_unread, harg7.read_unread, harg8.read_unread, harg16.read_unread, View.readCov_eq_canon', hw]
  simp only [fold_whole_0, fold_whole_1, fold_row_0, fold_row_1, fold_row_2, fold_row_3, fold_row_4, fold_row_5, fold_row_6, fold_row_7, fold_band_0, fold_band_1, fold_band_2, fold_band_3, fold_band_4, fold_band_5, fold_band_6, fold_band_7, fold_buf_0, fold_buf_1, fold_q_0, fold_q_1, fold_q_2, fold_q_3, fold_q_4, fold_q_5, fold_q_6, fold_q_7, fold_g_0, fold_g_1, fold_g_2, fold_g_3, fold_g_4, fold_g_5, fold_g_6, fold_g_7, fold_k_0, fold_k_1, fold_k_2, fold_k_3, fold_k_4, fold_k_5, fold_k_6, fold_k_7, fold_v_0, fold_v_1, fold_v_2, fold_v_3, fold_v_4, fold_v_5, fold_v_6, fold_v_7, fold_s_0, fold_s_1, fold_s_2, fold_s_3, fold_s_4, fold_s_5, fold_s_6, fold_s_7, fold_dp_0, fold_dp_1, fold_dp_2, fold_dp_3, fold_dp_4, fold_dp_5, fold_dp_6, fold_dp_7, fold_p_0, fold_p_1, fold_p_2, fold_p_3, fold_p_4, fold_p_5, fold_p_6, fold_p_7, fold_ds_0, fold_ds_1, fold_ds_2, fold_ds_3, fold_ds_4, fold_ds_5, fold_ds_6, fold_ds_7, fold_db_0, fold_db_1, fold_db_2, fold_db_3, fold_db_4, fold_db_5, fold_db_6, fold_db_7, fold_dv_0, fold_dv_1, fold_dv_2, fold_dv_3, fold_dv_4, fold_dv_5, fold_dv_6, fold_dv_7, fold_dq_0, fold_dq_1, fold_dq_2, fold_dq_3, fold_dq_4, fold_dq_5, fold_dq_6, fold_dq_7, fold_dk_0, fold_dk_1, fold_dk_2, fold_dk_3, fold_dk_4, fold_dk_5, fold_dk_6, fold_dk_7, fold_o_0, fold_o_1, fold_o_2, fold_o_3, fold_o_4, fold_o_5, fold_o_6, fold_o_7]
  simp only [k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, shapeCast_self]
  simp only [fold_dv_0, fold_dv_1, fold_dv_2, fold_dv_3, fold_dv_4, fold_dv_5, fold_dv_6, fold_dv_7, fold_dk_0, fold_dk_1, fold_dk_2, fold_dk_3, fold_dk_4, fold_dk_5, fold_dk_6, fold_dk_7, fold_tdv_0, fold_tdv_1, fold_tdv_2, fold_tdv_3, fold_tdv_4, fold_tdv_5, fold_tdv_6, fold_tdv_7, fold_tdv_8, fold_tdv_9, fold_tdv_10, fold_tdv_11, fold_tdv_12, fold_tdv_13, fold_tdv_14, fold_tdv_15]
  simp only [fold_idv_0 T, fold_l_0, fold_l_1, fold_l_2, fold_l_3, fold_l_4, fold_l_5, fold_l_6, fold_l_7, fold_l_8, fold_l_9, fold_l_10, fold_l_11, fold_l_12, fold_l_13, fold_l_14, fold_l_15]
  exact View.canon_unit_zero zero2 _ _

set_option maxHeartbeats 4000000 in
/-- The accumulator the tile leaves. -/
theorem sopen9_B  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128x640 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128x640 .f32) (harg12 : arg12.IsWhole) (arg13 : Memref sig .tc .vmem S1088x128 .bf16) (harg13 : arg13.IsWhole) (arg14 : Memref sig .tc .vmem S1088x128 .bf16) (harg14 : arg14.IsWhole) (arg15 : Memref sig .tc .vmem S1088x128 .f32) (harg15 : arg15.IsWhole) (arg16 : Memref sig .tc .vmem S1088x128 .f32) (harg16 : arg16.IsWhole) (hc0 : ¬cond0_0 i) (hc1 : cond0_1 i)
    (xo10 : Vec F S1x128x640 .f32) (xs2 : Vec F S1088x128 .f32) (xs3 : Vec F S1088x128 .f32) (T : Tile F) (hw : Scalar.subi 15#32 (BitVec.ofNat 32 (i 1).val) = T.w) (y : S1088x128.Idx) (hy : (y 0).val < 1024) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 T.q T.kp T.kc T.vp T.vc T.b T.g xo10 xs2 xs3 y = accV (initB xs3) (dvTot T) y := by
  unfold sout0_B_3
  unfold kernelRun0_B
  dsimp only
  sl_unfold_words
  simp only [View.readAt_eq_ld, harg2.read_unread, harg3.read_unread, harg4.read_unread, harg5.read_unread, harg6.read_unread, harg7.read_unread, harg8.read_unread, harg16.read_unread, View.readCov_eq_canon', hw]
  simp only [fold_whole_0, fold_whole_1, fold_row_0, fold_row_1, fold_row_2, fold_row_3, fold_row_4, fold_row_5, fold_row_6, fold_row_7, fold_band_0, fold_band_1, fold_band_2, fold_band_3, fold_band_4, fold_band_5, fold_band_6, fold_band_7, fold_buf_0, fold_buf_1, fold_q_0, fold_q_1, fold_q_2, fold_q_3, fold_q_4, fold_q_5, fold_q_6, fold_q_7, fold_g_0, fold_g_1, fold_g_2, fold_g_3, fold_g_4, fold_g_5, fold_g_6, fold_g_7, fold_k_0, fold_k_1, fold_k_2, fold_k_3, fold_k_4, fold_k_5, fold_k_6, fold_k_7, fold_v_0, fold_v_1, fold_v_2, fold_v_3, fold_v_4, fold_v_5, fold_v_6, fold_v_7, fold_s_0, fold_s_1, fold_s_2, fold_s_3, fold_s_4, fold_s_5, fold_s_6, fold_s_7, fold_dp_0, fold_dp_1, fold_dp_2, fold_dp_3, fold_dp_4, fold_dp_5, fold_dp_6, fold_dp_7, fold_p_0, fold_p_1, fold_p_2, fold_p_3, fold_p_4, fold_p_5, fold_p_6, fold_p_7, fold_ds_0, fold_ds_1, fold_ds_2, fold_ds_3, fold_ds_4, fold_ds_5, fold_ds_6, fold_ds_7, fold_db_0, fold_db_1, fold_db_2, fold_db_3, fold_db_4, fold_db_5, fold_db_6, fold_db_7, fold_dv_0, fold_dv_1, fold_dv_2, fold_dv_3, fold_dv_4, fold_dv_5, fold_dv_6, fold_dv_7, fold_dq_0, fold_dq_1, fold_dq_2, fold_dq_3, fold_dq_4, fold_dq_5, fold_dq_6, fold_dq_7, fold_dk_0, fold_dk_1, fold_dk_2, fold_dk_3, fold_dk_4, fold_dk_5, fold_dk_6, fold_dk_7, fold_o_0, fold_o_1, fold_o_2, fold_o_3, fold_o_4, fold_o_5, fold_o_6, fold_o_7]
  simp only [k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, shapeCast_self]
  simp only [fold_dv_0, fold_dv_1, fold_dv_2, fold_dv_3, fold_dv_4, fold_dv_5, fold_dv_6, fold_dv_7, fold_dk_0, fold_dk_1, fold_dk_2, fold_dk_3, fold_dk_4, fold_dk_5, fold_dk_6, fold_dk_7, fold_tdv_0, fold_tdv_1, fold_tdv_2, fold_tdv_3, fold_tdv_4, fold_tdv_5, fold_tdv_6, fold_tdv_7, fold_tdv_8, fold_tdv_9, fold_tdv_10, fold_tdv_11, fold_tdv_12, fold_tdv_13, fold_tdv_14, fold_tdv_15]
  simp only [fold_idv_0 T, fold_l_0, fold_l_1, fold_l_2, fold_l_3, fold_l_4, fold_l_5, fold_l_6, fold_l_7, fold_l_8, fold_l_9, fold_l_10, fold_l_11, fold_l_12, fold_l_13, fold_l_14, fold_l_15]
  exact View.read_writes_apply_eq_canon _ _ _ _ (mem_accL _ _ _ 16 (le_refl _) (by omega))

set_option maxHeartbeats 4000000 in
/-- The gradient of the bias. -/
theorem open10_A  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128x640 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128x640 .f32) (harg12 : arg12.IsWhole) (arg13 : Memref sig .tc .vmem S1088x128 .bf16) (harg13 : arg13.IsWhole) (arg14 : Memref sig .tc .vmem S1088x128 .bf16) (harg14 : arg14.IsWhole) (arg15 : Memref sig .tc .vmem S1088x128 .f32) (harg15 : arg15.IsWhole) (arg16 : Memref sig .tc .vmem S1088x128 .f32) (harg16 : arg16.IsWhole) (hc0 : cond0_0 i) (hc1 : ¬cond0_1 i) (T : Tile F) (hw : Scalar.subi 15#32 (BitVec.ofNat 32 (i 1).val) = T.w) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 T.q T.kp T.kc T.vp T.vc T.b T.g = k0_pay109 (DSc T 0) (DSc T 1) (DSc T 2) (DSc T 3) (DSc T 4) (DSc T 5) (DSc T 6) (DSc T 7) k0_pay11 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 T.q T.kp T.kc T.vp T.vc T.b T.g)]
  unfold kernelRun0_A
  dsimp only
  sl_unfold_words
  simp only [View.readAt_eq_ld, harg2.read_unread, harg3.read_unread, harg4.read_unread, harg5.read_unread, harg6.read_unread, harg7.read_unread, harg8.read_unread, View.readCov_eq_canon', hw]
  simp only [fold_whole_0, fold_whole_1, fold_row_0, fold_row_1, fold_row_2, fold_row_3, fold_row_4, fold_row_5, fold_row_6, fold_row_7, fold_band_0, fold_band_1, fold_band_2, fold_band_3, fold_band_4, fold_band_5, fold_band_6, fold_band_7, fold_buf_0, fold_buf_1, fold_q_0, fold_q_1, fold_q_2, fold_q_3, fold_q_4, fold_q_5, fold_q_6, fold_q_7, fold_g_0, fold_g_1, fold_g_2, fold_g_3, fold_g_4, fold_g_5, fold_g_6, fold_g_7, fold_k_0, fold_k_1, fold_k_2, fold_k_3, fold_k_4, fold_k_5, fold_k_6, fold_k_7, fold_v_0, fold_v_1, fold_v_2, fold_v_3, fold_v_4, fold_v_5, fold_v_6, fold_v_7, fold_s_0, fold_s_1, fold_s_2, fold_s_3, fold_s_4, fold_s_5, fold_s_6, fold_s_7, fold_dp_0, fold_dp_1, fold_dp_2, fold_dp_3, fold_dp_4, fold_dp_5, fold_dp_6, fold_dp_7, fold_p_0, fold_p_1, fold_p_2, fold_p_3, fold_p_4, fold_p_5, fold_p_6, fold_p_7, fold_ds_0, fold_ds_1, fold_ds_2, fold_ds_3, fold_ds_4, fold_ds_5, fold_ds_6, fold_ds_7, fold_db_0, fold_db_1, fold_db_2, fold_db_3, fold_db_4, fold_db_5, fold_db_6, fold_db_7, fold_dv_0, fold_dv_1, fold_dv_2, fold_dv_3, fold_dv_4, fold_dv_5, fold_dv_6, fold_dv_7, fold_dq_0, fold_dq_1, fold_dq_2, fold_dq_3, fold_dq_4, fold_dq_5, fold_dq_6, fold_dq_7, fold_dk_0, fold_dk_1, fold_dk_2, fold_dk_3, fold_dk_4, fold_dk_5, fold_dk_6, fold_dk_7, fold_o_0, fold_o_1, fold_o_2, fold_o_3, fold_o_4, fold_o_5, fold_o_6, fold_o_7]
  refine (View.canon_cons_unit_zero zero3 _ _ _).trans (congrArg _ ?_)
  exact (congrArg (fun (z : Vec F S1x128x640 .f32) => fun j => z ((Rect.unit (s := S1x128x640) ![0, 0, 0] ![1, 128, 640] inb_S1x128x640_S1x128x640_0_0_0).toLoadRect.idx j)) (View.canon_unit_zero (Val := Elt F) zero3 _ (k0_pay11 (F := F)))).trans (fold_whole_1 _)

set_option maxHeartbeats 4000000 in
/-- The gradient of the bias. -/
theorem open10_B  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128x640 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128x640 .f32) (harg12 : arg12.IsWhole) (arg13 : Memref sig .tc .vmem S1088x128 .bf16) (harg13 : arg13.IsWhole) (arg14 : Memref sig .tc .vmem S1088x128 .bf16) (harg14 : arg14.IsWhole) (arg15 : Memref sig .tc .vmem S1088x128 .f32) (harg15 : arg15.IsWhole) (arg16 : Memref sig .tc .vmem S1088x128 .f32) (harg16 : arg16.IsWhole) (hc0 : ¬cond0_0 i) (hc1 : cond0_1 i)
    (xo10 : Vec F S1x128x640 .f32) (xs2 : Vec F S1088x128 .f32) (xs3 : Vec F S1088x128 .f32) (T : Tile F) (hw : Scalar.subi 15#32 (BitVec.ofNat 32 (i 1).val) = T.w) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 T.q T.kp T.kc T.vp T.vc T.b T.g xo10 xs2 xs3 = k0_pay109 (DSc T 0) (DSc T 1) (DSc T 2) (DSc T 3) (DSc T 4) (DSc T 5) (DSc T 6) (DSc T 7) xo10 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 T.q T.kp T.kc T.vp T.vc T.b T.g xo10 xs2 xs3)]
  unfold kernelRun0_B
  dsimp only
  sl_unfold_words
  simp only [View.readAt_eq_ld, harg2.read_unread, harg3.read_unread, harg4.read_unread, harg5.read_unread, harg6.read_unread, harg7.read_unread, harg8.read_unread, harg12.read_unread, View.readCov_eq_canon', hw]
  simp only [fold_whole_0, fold_whole_1, fold_row_0, fold_row_1, fold_row_2, fold_row_3, fold_row_4, fold_row_5, fold_row_6, fold_row_7, fold_band_0, fold_band_1, fold_band_2, fold_band_3, fold_band_4, fold_band_5, fold_band_6, fold_band_7, fold_buf_0, fold_buf_1, fold_q_0, fold_q_1, fold_q_2, fold_q_3, fold_q_4, fold_q_5, fold_q_6, fold_q_7, fold_g_0, fold_g_1, fold_g_2, fold_g_3, fold_g_4, fold_g_5, fold_g_6, fold_g_7, fold_k_0, fold_k_1, fold_k_2, fold_k_3, fold_k_4, fold_k_5, fold_k_6, fold_k_7, fold_v_0, fold_v_1, fold_v_2, fold_v_3, fold_v_4, fold_v_5, fold_v_6, fold_v_7, fold_s_0, fold_s_1, fold_s_2, fold_s_3, fold_s_4, fold_s_5, fold_s_6, fold_s_7, fold_dp_0, fold_dp_1, fold_dp_2, fold_dp_3, fold_dp_4, fold_dp_5, fold_dp_6, fold_dp_7, fold_p_0, fold_p_1, fold_p_2, fold_p_3, fold_p_4, fold_p_5, fold_p_6, fold_p_7, fold_ds_0, fold_ds_1, fold_ds_2, fold_ds_3, fold_ds_4, fold_ds_5, fold_ds_6, fold_ds_7, fold_db_0, fold_db_1, fold_db_2, fold_db_3, fold_db_4, fold_db_5, fold_db_6, fold_db_7, fold_dv_0, fold_dv_1, fold_dv_2, fold_dv_3, fold_dv_4, fold_dv_5, fold_dv_6, fold_dv_7, fold_dq_0, fold_dq_1, fold_dq_2, fold_dq_3, fold_dq_4, fold_dq_5, fold_dq_6, fold_dq_7, fold_dk_0, fold_dk_1, fold_dk_2, fold_dk_3, fold_dk_4, fold_dk_5, fold_dk_6, fold_dk_7, fold_o_0, fold_o_1, fold_o_2, fold_o_3, fold_o_4, fold_o_5, fold_o_6, fold_o_7]
  exact View.canon_unit_zero zero3 _ _

end Cert.KernelIdeal.Gen
-- ==== Proof.PointValue.lean ====
/-
  What every grid point leaves in its result tiles and accumulators.
-/
module

public import proofs.«01_k».proof.Proof.TileOf
public import proofs.«01_k».proof.Proof.Opened

@[expose] public section
set_option maxRecDepth 16384
noncomputable section
namespace Cert.KernelIdeal.Gen
open Idealize.ShloMosaic Idealize.ShloMosaic.TcCoe Idealize.SL.Sem Idealize.ShloMosaic.Pipeline

/-- A tile's queries' cotangents, row by row. -/
theorem dqL_apply (T : Tile Ideal) (r : Fin 512) (l : Fin 128) :
    View.canon (Val := Elt Ideal) (dqL T) (ix2 r l) = dqo T ⟨r.val / 64, by omega⟩ (ix2 ⟨r.val % 64, Nat.mod_lt _ (by omega)⟩ l) := by
  have hr := r.isLt
  unfold dqL
  by_cases h7 : 448 ≤ r.val
  · refine (canon_rows_hit _ _ _ r l h7 (by omega)).trans ?_
    rw [show (⟨r.val / 64, by omega⟩ : Fin 8) = 7 from Fin.ext (by show r.val / 64 = 7; omega)]
    congr 2; apply Fin.ext; show r.val - 448 = r.val % 64; omega
  refine (canon_rows_miss _ _ _ r l (Or.inl (by omega))).trans ?_
  by_cases h6 : 384 ≤ r.val
  · refine (canon_rows_hit _ _ _ r l h6 (by omega)).trans ?_
    rw [show (⟨r.val / 64, by omega⟩ : Fin 8) = 6 from Fin.ext (by show r.val / 64 = 6; omega)]
    congr 2; apply Fin.ext; show r.val - 384 = r.val % 64; omega
  refine (canon_rows_miss _ _ _ r l (Or.inl (by omega))).trans ?_
  by_cases h5 : 320 ≤ r.val
  · refine (canon_rows_hit _ _ _ r l h5 (by omega)).trans ?_
    rw [show (⟨r.val / 64, by omega⟩ : Fin 8) = 5 from Fin.ext (by show r.val / 64 = 5; omega)]
    congr 2; apply Fin.ext; show r.val - 320 = r.val % 64; omega
  refine (canon_rows_miss _ _ _ r l (Or.inl (by omega))).trans ?_
  by_cases h4 : 256 ≤ r.val
  · refine (canon_rows_hit _ _ _ r l h4 (by omega)).trans ?_
    rw [show (⟨r.val / 64, by omega⟩ : Fin 8) = 4 from Fin.ext (by show r.val / 64 = 4; omega)]
    congr 2; apply Fin.ext; show r.val - 256 = r.val % 64; omega
  refine (canon_rows_miss _ _ _ r l (Or.inl (by omega))).trans ?_
  by_cases h3 : 192 ≤ r.val
  · refine (canon_rows_hit _ _ _ r l h3 (by omega)).trans ?_
    rw [show (⟨r.val / 64, by omega⟩ : Fin 8) = 3 from Fin.ext (by show r.val / 64 = 3; omega)]
    congr 2; apply Fin.ext; show r.val - 192 = r.val % 64; omega
  refine (canon_rows_miss _ _ _ r l (Or.inl (by omega))).trans ?_
  by_cases h2 : 128 ≤ r.val
  · refine (canon_rows_hit _ _ _ r l h2 (by omega)).trans ?_
    rw [show (⟨r.val / 64, by omega⟩ : Fin 8) = 2 from Fin.ext (by show r.val / 64 = 2; omega)]
    congr 2; apply Fin.ext; show r.val - 128 = r.val % 64; omega
  refine (canon_rows_miss _ _ _ r l (Or.inl (by omega))).trans ?_
  by_cases h1 : 64 ≤ r.val
  · refine (canon_rows_hit _ _ _ r l h1 (by omega)).trans ?_
    rw [show (⟨r.val / 64, by omega⟩ : Fin 8) = 1 from Fin.ext (by show r.val / 64 = 1; omega)]
    congr 2; apply Fin.ext; show r.val - 64 = r.val % 64; omega
  refine (canon_rows_miss _ _ _ r l (Or.inl (by omega))).trans ?_
  refine (canon_rows_hit _ _ _ r l (by omega) (by omega)).trans ?_
  rw [show (⟨r.val / 64, by omega⟩ : Fin 8) = 0 from Fin.ext (by show r.val / 64 = 0; omega)]
  congr 2; apply Fin.ext; show r.val - 0 = r.val % 64; omega

/-- Rows 512 to 1023 of an accumulator. -/
theorem lowRows_apply (a : S1088x128.Idx → Ideal .f32) (r : Fin 512) (l : Fin 128) :
    lowRows (F := Ideal) a (ix2 r l) = a (ix2 ⟨512 + r.val, by omega⟩ l) := by
  unfold lowRows
  congr 1
  funext x
  apply Fin.ext
  match x with
  | ⟨0, _⟩ => show 512 + 1 * r.val = 512 + r.val; omega
  | ⟨1, _⟩ => show 0 + 1 * l.val = l.val; omega

section acc
variable {T : Tile Ideal} {D : Attn.Data} {i pp : ℕ} (h : IsTile T D i pp)
include h

/-- What the tile adds to the values' accumulator. -/
theorem dvTot_eq (r : Fin 1088) (hr : r.val < 1024) (l : Fin 128) :
    dvTot T (r.val / 64) (ix2 ⟨r.val % 64, Nat.mod_lt _ (by omega)⟩ l)
      = Attn.tileTot (fun n k => D.dvPart n k (128 * pp + l.val)) i r.val :=
  dvTot_apply T l (fun c k => D.dvPart (8 * i + c) k (128 * pp + l.val)) (fun c k => dvc_apply h c k l) _ (by omega) _

/-- What the tile adds to the keys' accumulator. -/
theorem dkTot_eq (hD : D.Real) (r : Fin 1088) (hr : r.val < 1024) (l : Fin 128) :
    dkTot T (r.val / 64) (ix2 ⟨r.val % 64, Nat.mod_lt _ (by omega)⟩ l)
      = Attn.tileTot (fun n k => D.dkPart n k (128 * pp + l.val)) i r.val :=
  dkTot_apply T l (fun c k => D.dkPart (8 * i + c) k (128 * pp + l.val)) (fun c k => dkc_apply h c hD k l) _ (by omega) _

end acc

/-- An accumulator that started from zeros. -/
theorem accV_A (tot : ℕ → FVec Ideal S64x128 .f32) (r : Fin 1088) (hr : r.val < 1024) (l : Fin 128) :
    accV (F := Ideal) initA tot (ix2 r l) = tot (r.val / 64) (ix2 ⟨r.val % 64, Nat.mod_lt _ (by omega)⟩ l) := by
  unfold accV
  rw [acc_apply _ _ 16 (le_refl _), if_pos (by omega), initA_apply, zero_add]

/-- The upper half of an accumulator that started from the one before. -/
theorem accV_B_low (x : Vec Ideal S1088x128 .f32) (tot : ℕ → FVec Ideal S64x128 .f32) (r : Fin 1088) (hr : r.val < 512) (l : Fin 128) :
    accV (F := Ideal) (initB x) tot (ix2 r l) = tot (r.val / 64) (ix2 ⟨r.val % 64, Nat.mod_lt _ (by omega)⟩ l) := by
  unfold accV
  rw [acc_apply _ _ 16 (le_refl _), if_pos (by omega), initB_low _ _ _ hr, zero_add]

/-- Its lower half. -/
theorem accV_B_high (x : Vec Ideal S1088x128 .f32) (tot : ℕ → FVec Ideal S64x128 .f32) (r : Fin 1088) (hr : 512 ≤ r.val) (hr' : r.val < 1024)
    (l : Fin 128) :
    accV (F := Ideal) (initB x) tot (ix2 r l)
      = (x (ix2 ⟨r.val - 512, by omega⟩ l) : EReal) + tot (r.val / 64) (ix2 ⟨r.val % 64, Nat.mod_lt _ (by omega)⟩ l) := by
  unfold accV
  rw [acc_apply _ _ 16 (le_refl _), if_pos (by omega), initB_high _ _ _ hr hr']

variable (m : (ℓ : Loc nD τ sig) → Buf (Elt Ideal) ℓ) (c : Dev nD)

/-- The tile holds the point's word and blocks. -/
structure Holds (t : Fin cfg0.N) (T : Tile Ideal) : Prop where
  w : Scalar.subi 15#32 (BitVec.ofNat 32 (grid0.coords t 1).val) = T.w
  q : T.q = iblk m c 0 t
  kp : T.kp = iblk m c 1 t
  kc : T.kc = iblk m c 2 t
  vp : T.vp = iblk m c 3 t
  vc : T.vc = iblk m c 4 t
  b : T.b = iblk m c 5 t
  g : T.g = iblk m c 6 t

theorem holds (t : Fin cfg0.N) : Holds m c t (tileAt m c t) := ⟨word_eq m c t, rfl, rfl, rfl, rfl, rfl, rfl, rfl⟩

section point
variable (t : Fin cfg0.N)

/-! What a point leaves, component by component, at its first point of a run (`A`) and at the later ones (`B`). -/

theorem left7_A (h0 : t.val % 16 = 0) (h1 : ¬1 ≤ t.val % 16) {T : Tile Ideal} (hT : Holds m c t T) :
    (outsAt0 m c t.val t.isLt).1 = View.canon (Val := Elt Ideal) (dqL T) := by
  rw [outsAt0_A m c t h0 h1]
  show out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) = _
  rw [← hT.q, ← hT.kp, ← hT.kc, ← hT.vp, ← hT.vc, ← hT.b, ← hT.g]
  exact open7_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) T hT.w

theorem left7_B (h0 : ¬t.val % 16 = 0) (h1 : 1 ≤ t.val % 16) {T : Tile Ideal} (hT : Holds m c t T) :
    (outsAt0 m c t.val t.isLt).1 = View.canon (Val := Elt Ideal) (dqL T) := by
  rw [outsAt0_B m c t h0 h1]
  show out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 = _
  rw [← hT.q, ← hT.kp, ← hT.kc, ← hT.vp, ← hT.vc, ← hT.b, ← hT.g]
  exact open7_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 T hT.w

theorem left8_A (h0 : t.val % 16 = 0) (h1 : ¬1 ≤ t.val % 16) {T : Tile Ideal} (hT : Holds m c t T) :
    (outsAt0 m c t.val t.isLt).2.1 = lowRows (accV initA (dkTot T)) := by
  rw [outsAt0_A m c t h0 h1]
  show out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) = _
  rw [← hT.q, ← hT.kp, ← hT.kc, ← hT.vp, ← hT.vc, ← hT.b, ← hT.g]
  exact open8_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) T hT.w

theorem left8_B (h0 : ¬t.val % 16 = 0) (h1 : 1 ≤ t.val % 16) {T : Tile Ideal} (hT : Holds m c t T) :
    (outsAt0 m c t.val t.isLt).2.1 = lowRows (accV (initB (outsAt0 m c (t.val - 1) (Nat.lt_of_le_of_lt (Nat.sub_le _ _) t.isLt)).2.2.2.2.1) (dkTot T)) := by
  rw [outsAt0_B m c t h0 h1]
  show out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 = _
  rw [← hT.q, ← hT.kp, ← hT.kc, ← hT.vp, ← hT.vc, ← hT.b, ← hT.g]
  exact open8_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 T hT.w

theorem left9_A (h0 : t.val % 16 = 0) (h1 : ¬1 ≤ t.val % 16) {T : Tile Ideal} (hT : Holds m c t T) :
    (outsAt0 m c t.val t.isLt).2.2.1 = lowRows (accV initA (dvTot T)) := by
  rw [outsAt0_A m c t h0 h1]
  show out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) = _
  rw [← hT.q, ← hT.kp, ← hT.kc, ← hT.vp, ← hT.vc, ← hT.b, ← hT.g]
  exact open9_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) T hT.w

theorem left9_B (h0 : ¬t.val % 16 = 0) (h1 : 1 ≤ t.val % 16) {T : Tile Ideal} (hT : Holds m c t T) :
    (outsAt0 m c t.val t.isLt).2.2.1 = lowRows (accV (initB (outsAt0 m c (t.val - 1) (Nat.lt_of_le_of_lt (Nat.sub_le _ _) t.isLt)).2.2.2.2.2) (dvTot T)) := by
  rw [outsAt0_B m c t h0 h1]
  show out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 = _
  rw [← hT.q, ← hT.kp, ← hT.kc, ← hT.vp, ← hT.vc, ← hT.b, ← hT.g]
  exact open9_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 T hT.w

theorem raw10_A (h0 : t.val % 16 = 0) (h1 : ¬1 ≤ t.val % 16) {T : Tile Ideal} (hT : Holds m c t T) :
    (outsAt0 m c t.val t.isLt).2.2.2.1 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) T.q T.kp T.kc T.vp T.vc T.b T.g := by
  rw [hT.q, hT.kp, hT.kc, hT.vp, hT.vc, hT.b, hT.g, outsAt0_A m c t h0 h1]

theorem left10_A (h0 : t.val % 16 = 0) (h1 : ¬1 ≤ t.val % 16) {T : Tile Ideal} (hT : Holds m c t T) :
    (outsAt0 m c t.val t.isLt).2.2.2.1 = k0_pay109 (DSc T 0) (DSc T 1) (DSc T 2) (DSc T 3) (DSc T 4) (DSc T 5) (DSc T 6) (DSc T 7) (k0_pay11 (F := Ideal)) :=
  (raw10_A m c t h0 h1 hT).trans (open10_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) T hT.w)

theorem raw10_B (h0 : ¬t.val % 16 = 0) (h1 : 1 ≤ t.val % 16) {T : Tile Ideal} (hT : Holds m c t T) :
    (outsAt0 m c t.val t.isLt).2.2.2.1 = out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) T.q T.kp T.kc T.vp T.vc T.b T.g (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 := by
  rw [hT.q, hT.kp, hT.kc, hT.vp, hT.vc, hT.b, hT.g, outsAt0_B m c t h0 h1]

theorem left10_B (h0 : ¬t.val % 16 = 0) (h1 : 1 ≤ t.val % 16) {T : Tile Ideal} (hT : Holds m c t T) :
    (outsAt0 m c t.val t.isLt).2.2.2.1 = k0_pay109 (DSc T 0) (DSc T 1) (DSc T 2) (DSc T 3) (DSc T 4) (DSc T 5) (DSc T 6) (DSc T 7) (outsAt0 m c (t.val - 1) (Nat.lt_of_le_of_lt (Nat.sub_le _ _) t.isLt)).2.2.2.1 :=
  (raw10_B m c t h0 h1 hT).trans (open10_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 T hT.w)

theorem carry8_A (h0 : t.val % 16 = 0) (h1 : ¬1 ≤ t.val % 16) {T : Tile Ideal} (hT : Holds m c t T) (r : Fin 1088) (hr : r.val < 1024) (l : Fin 128) :
    (outsAt0 m c t.val t.isLt).2.2.2.2.1 (ix2 r l) = accV initA (dkTot T) (ix2 r l) := by
  rw [outsAt0_A m c t h0 h1]
  show sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (ix2 r l) = _
  rw [← hT.q, ← hT.kp, ← hT.kc, ← hT.vp, ← hT.vc, ← hT.b, ← hT.g]
  exact sopen8_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) T hT.w (ix2 r l) hr

theorem carry8_B (h0 : ¬t.val % 16 = 0) (h1 : 1 ≤ t.val % 16) {T : Tile Ideal} (hT : Holds m c t T) (r : Fin 1088) (hr : r.val < 1024) (l : Fin 128) :
    (outsAt0 m c t.val t.isLt).2.2.2.2.1 (ix2 r l) = accV (initB (outsAt0 m c (t.val - 1) (Nat.lt_of_le_of_lt (Nat.sub_le _ _) t.isLt)).2.2.2.2.1) (dkTot T) (ix2 r l) := by
  rw [outsAt0_B m c t h0 h1]
  show sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (ix2 r l) = _
  rw [← hT.q, ← hT.kp, ← hT.kc, ← hT.vp, ← hT.vc, ← hT.b, ← hT.g]
  exact sopen8_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 T hT.w (ix2 r l) hr

theorem carry9_A (h0 : t.val % 16 = 0) (h1 : ¬1 ≤ t.val % 16) {T : Tile Ideal} (hT : Holds m c t T) (r : Fin 1088) (hr : r.val < 1024) (l : Fin 128) :
    (outsAt0 m c t.val t.isLt).2.2.2.2.2 (ix2 r l) = accV initA (dvTot T) (ix2 r l) := by
  rw [outsAt0_A m c t h0 h1]
  show sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (ix2 r l) = _
  rw [← hT.q, ← hT.kp, ← hT.kc, ← hT.vp, ← hT.vc, ← hT.b, ← hT.g]
  exact sopen9_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) T hT.w (ix2 r l) hr

theorem carry9_B (h0 : ¬t.val % 16 = 0) (h1 : 1 ≤ t.val % 16) {T : Tile Ideal} (hT : Holds m c t T) (r : Fin 1088) (hr : r.val < 1024) (l : Fin 128) :
    (outsAt0 m c t.val t.isLt).2.2.2.2.2 (ix2 r l) = accV (initB (outsAt0 m c (t.val - 1) (Nat.lt_of_le_of_lt (Nat.sub_le _ _) t.isLt)).2.2.2.2.2) (dvTot T) (ix2 r l) := by
  rw [outsAt0_B m c t h0 h1]
  show sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (ix2 r l) = _
  rw [← hT.q, ← hT.kp, ← hT.kc, ← hT.vp, ← hT.vc, ← hT.b, ← hT.g]
  exact sopen9_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 T hT.w (ix2 r l) hr

/-- The upper half of the accumulator the point leaves: what its tile added there. -/
theorem carried8 (r : Fin 1088) (hr : r.val < 512) (l : Fin 128) :
    (outsAt0 m c t.val t.isLt).2.2.2.2.1 (ix2 r l)
      = dkTot (tileAt m c t) (r.val / 64) (ix2 ⟨r.val % 64, Nat.mod_lt _ (by omega)⟩ l) := by
  by_cases h0 : t.val % 16 = 0
  · rw [carry8_A m c t h0 (by omega) (holds m c t) r (by omega) l, accV_A _ r (by omega) l]
  · rw [carry8_B m c t h0 (by omega) (holds m c t) r (by omega) l, accV_B_low _ _ r hr l]

/-- The upper half of the accumulator the point leaves: what its tile added there. -/
theorem carried9 (r : Fin 1088) (hr : r.val < 512) (l : Fin 128) :
    (outsAt0 m c t.val t.isLt).2.2.2.2.2 (ix2 r l)
      = dvTot (tileAt m c t) (r.val / 64) (ix2 ⟨r.val % 64, Nat.mod_lt _ (by omega)⟩ l) := by
  by_cases h0 : t.val % 16 = 0
  · rw [carry9_A m c t h0 (by omega) (holds m c t) r (by omega) l, accV_A _ r (by omega) l]
  · rw [carry9_B m c t h0 (by omega) (holds m c t) r (by omega) l, accV_B_low _ _ r hr l]

theorem left7 : (outsAt0 m c t.val t.isLt).1 = View.canon (Val := Elt Ideal) (dqL (tileAt m c t)) := by
  by_cases h0 : t.val % 16 = 0
  · exact left7_A m c t h0 (by omega) (holds m c t)
  · exact left7_B m c t h0 (by omega) (holds m c t)

variable (hD : (opData m c).Real)
include hD

/-- The point's tile of the queries' cotangents. -/
theorem point7 (r : Fin 512) (l : Fin 128) : (outsAt0 m c t.val t.isLt).1 (ix2 r l)
    = (opData m c).dq (512 * (15 - t.val % 16) + r.val) (128 * (t.val / 16) + l.val) := by
  rw [left7, dqL_apply, dqo_apply (isTile m c t) _ hD]
  congr 1
  show 64 * (8 * (15 - t.val % 16) + r.val / 64) + r.val % 64 = _
  omega

/-- The point's tile of the keys' cotangents. -/
theorem point8 (r : Fin 512) (l : Fin 128) : (outsAt0 m c t.val t.isLt).2.1 (ix2 r l)
    = Attn.overlap (fun n k => (opData m c).dkPart n k (128 * (t.val / 16) + l.val)) (512 * (15 - t.val % 16) + r.val) := by
  have hr := r.isLt
  rw [Attn.overlap_tiles _ _ _ (by omega) hr]
  by_cases h0 : t.val % 16 = 0
  · rw [left8_A m c t h0 (by omega) (holds m c t), lowRows_apply, accV_A _ _ (by show 512 + r.val < 1024; omega),
      dkTot_eq (isTile m c t) hD (⟨512 + r.val, by omega⟩ : Fin 1088) (by show 512 + r.val < 1024; omega), if_neg (by omega), zero_add]
  · rw [left8_B m c t h0 (by omega) (holds m c t), lowRows_apply, accV_B_high _ _ _ (by show 512 ≤ 512 + r.val; omega) (by show 512 + r.val < 1024; omega),
      dkTot_eq (isTile m c t) hD (⟨512 + r.val, by omega⟩ : Fin 1088) (by show 512 + r.val < 1024; omega), if_pos (by omega)]
    congr 1
    have ht := point_lt t
    refine (carried8 m c (⟨t.val - 1, by omega⟩ : Fin cfg0.N) _ (by show 512 + r.val - 512 < 512; omega) l).trans ?_
    rw [dkTot_eq (isTile m c _) hD _ (by show 512 + r.val - 512 < 1024; omega)]
    show Attn.tileTot (fun n k => (opData m c).dkPart n k (128 * ((t.val - 1) / 16) + l.val)) (15 - (t.val - 1) % 16) (512 + r.val - 512) = _
    rw [show (t.val - 1) / 16 = t.val / 16 by omega, show 15 - (t.val - 1) % 16 = 15 - t.val % 16 + 1 by omega, Nat.add_sub_cancel_left]

omit hD in
/-- The point's tile of the values' cotangents. -/
theorem point9 (r : Fin 512) (l : Fin 128) : (outsAt0 m c t.val t.isLt).2.2.1 (ix2 r l)
    = Attn.overlap (fun n k => (opData m c).dvPart n k (128 * (t.val / 16) + l.val)) (512 * (15 - t.val % 16) + r.val) := by
  have hr := r.isLt
  rw [Attn.overlap_tiles _ _ _ (by omega) hr]
  by_cases h0 : t.val % 16 = 0
  · rw [left9_A m c t h0 (by omega) (holds m c t), lowRows_apply, accV_A _ _ (by show 512 + r.val < 1024; omega),
      dvTot_eq (isTile m c t) (⟨512 + r.val, by omega⟩ : Fin 1088) (by show 512 + r.val < 1024; omega), if_neg (by omega), zero_add]
  · rw [left9_B m c t h0 (by omega) (holds m c t), lowRows_apply, accV_B_high _ _ _ (by show 512 ≤ 512 + r.val; omega) (by show 512 + r.val < 1024; omega),
      dvTot_eq (isTile m c t) (⟨512 + r.val, by omega⟩ : Fin 1088) (by show 512 + r.val < 1024; omega), if_pos (by omega)]
    congr 1
    have ht := point_lt t
    refine (carried9 m c (⟨t.val - 1, by omega⟩ : Fin cfg0.N) _ (by show 512 + r.val - 512 < 512; omega) l).trans ?_
    rw [dvTot_eq (isTile m c _) _ (by show 512 + r.val - 512 < 1024; omega)]
    show Attn.tileTot (fun n k => (opData m c).dvPart n k (128 * ((t.val - 1) / 16) + l.val)) (15 - (t.val - 1) % 16) (512 + r.val - 512) = _
    rw [show (t.val - 1) / 16 = t.val / 16 by omega, show 15 - (t.val - 1) % 16 = 15 - t.val % 16 + 1 by omega, Nat.add_sub_cancel_left]

end point

/-- The bias' cotangent as summed up to a point of its head pair. -/
theorem point10 (hD : (opData m c).Real) (a : Fin 128) (k : Fin 640) (n : ℕ) (hn : n < cfg0.N) :
    (outsAt0 m c n hn).2.2.2.1 (ix3 0 a k)
      = Attn.visited (fun x => (opData m c).ds x (2 * (n / 16) + a.val / 64) (a.val % 64) k.val) (n % 16) := by
  have hn' : n < 128 := hn
  induction n with
  | zero =>
    have e := left10_A m c (⟨0, hn⟩ : Fin cfg0.N) rfl (by show ¬1 ≤ 0 % 16; omega) (holds m c _)
    rw [show (outsAt0 m c 0 hn).2.2.2.1 = _ from e, pay109_apply]
    simp only [DSc_apply (isTile m c _) _ hD]
    rw [show (k0_pay11 (F := Ideal) (ix3 0 a k) : EReal) = 0 by pointwise [k0_pay11], zero_add]
    show _ = Attn.visited _ 0
    rw [Attn.visited_zero, Fin.sum_univ_eight]
  | succ n ih =>
    have hq : ∀ j : Fin 8, DSc (tileAt m c (⟨n + 1, hn⟩ : Fin cfg0.N)) j (ix2 a k)
        = (opData m c).ds (8 * (15 - (n + 1) % 16) + j.val) (2 * ((n + 1) / 16) + a.val / 64) (a.val % 64) k.val := fun j =>
      DSc_apply (isTile m c _) j hD a k
    by_cases h0 : (n + 1) % 16 = 0
    · have e := left10_A m c (⟨n + 1, hn⟩ : Fin cfg0.N) h0 (by show ¬1 ≤ (n + 1) % 16; omega) (holds m c _)
      rw [show (outsAt0 m c (n + 1) hn).2.2.2.1 = _ from e, pay109_apply]
      simp only [hq]
      rw [show (k0_pay11 (F := Ideal) (ix3 0 a k) : EReal) = 0 by pointwise [k0_pay11], zero_add, h0, Attn.visited_zero, Fin.sum_univ_eight]
    · have e := left10_B m c (⟨n + 1, hn⟩ : Fin cfg0.N) h0 (by show 1 ≤ (n + 1) % 16; omega) (holds m c _)
      rw [show (outsAt0 m c (n + 1) hn).2.2.2.1 = _ from e, pay109_apply]
      simp only [hq]
      rw [show (outsAt0 m c ((⟨n + 1, hn⟩ : Fin cfg0.N).val - 1) (Nat.lt_of_le_of_lt (Nat.sub_le _ _) (⟨n + 1, hn⟩ : Fin cfg0.N).isLt)).2.2.2.1 (ix3 0 a k) = _
          from ih (by omega) (by omega),
        show n / 16 = (n + 1) / 16 by omega, show (n + 1) % 16 = n % 16 + 1 by omega, Attn.visited_succ, Fin.sum_univ_eight]

end Cert.KernelIdeal.Gen
-- ==== Proof.Results.lean ====
/-
  The four results of the backward pass as functions of its operands.
-/
module

public import proofs.«01_k».proof.Proof.Rows
public import Idealize.ShloMosaic.Lib.Pointwise

@[expose] public section
noncomputable section
namespace Cert.Attn
open Idealize.ShloMosaic
namespace Data
variable (D : Data)

/-- The queries' cotangents as an array. -/
def resQ : (⟨2, ![8192, 1024]⟩ : Shape).Idx → EReal := fun i => D.dq (i 0).val (i 1).val

/-- The keys' cotangents. -/
def resK : (⟨2, ![8192, 1024]⟩ : Shape).Idx → EReal := fun i => overlap (fun n k => D.dkPart n k (i 1).val) (i 0).val

/-- The values' cotangents. -/
def resV : (⟨2, ![8192, 1024]⟩ : Shape).Idx → EReal := fun i => overlap (fun n k => D.dvPart n k (i 1).val) (i 0).val

/-- The bias' cotangents, two heads a block, the last 64 columns of every row being padding. -/
def resB : (⟨3, ![8, 128, 640]⟩ : Shape).Idx → EReal := fun i =>
  ∑ n : Fin 128, D.ds n.val (2 * (i 0).val + (i 1).val / 64) ((i 1).val % 64) (i 2).val

end Data
end Cert.Attn
-- ==== Proof.Arrays.lean ====
/-
  The kernel's result arrays after the run.
-/
module

public import proofs.«01_k».proof.Proof.PointValue
public import proofs.«01_k».proof.Proof.Results
public import proofs.«01_k».proof.Proof.Gen.KernelIdeal.Value

@[expose] public section
set_option maxRecDepth 16384
noncomputable section
namespace Cert.KernelIdeal.Gen
open Idealize.ShloMosaic Idealize.ShloMosaic.TcCoe Idealize.SL.Sem Idealize.ShloMosaic.Pipeline

variable (m : (ℓ : Loc nD τ sig) → Buf (Elt Ideal) ℓ)

theorem idx7 : ∀ t : Fin cfg0.N, win0_7.index t (0 : Fin 2) = 15 - t.val % 16 ∧ win0_7.index t (1 : Fin 2) = t.val / 16 :=
  (by decide +kernel : ∀ t : Fin grid0.N, win0_7.index t (0 : Fin 2) = 15 - t.val % 16 ∧ win0_7.index t (1 : Fin 2) = t.val / 16)
theorem idx8 : ∀ t : Fin cfg0.N, win0_8.index t (0 : Fin 2) = 15 - t.val % 16 ∧ win0_8.index t (1 : Fin 2) = t.val / 16 :=
  (by decide +kernel : ∀ t : Fin grid0.N, win0_8.index t (0 : Fin 2) = 15 - t.val % 16 ∧ win0_8.index t (1 : Fin 2) = t.val / 16)
theorem idx9 : ∀ t : Fin cfg0.N, win0_9.index t (0 : Fin 2) = 15 - t.val % 16 ∧ win0_9.index t (1 : Fin 2) = t.val / 16 :=
  (by decide +kernel : ∀ t : Fin grid0.N, win0_9.index t (0 : Fin 2) = 15 - t.val % 16 ∧ win0_9.index t (1 : Fin 2) = t.val / 16)
theorem idx10 : ∀ t : Fin cfg0.N, win0_10.index t (0 : Fin 3) = t.val / 16 ∧ win0_10.index t (1 : Fin 3) = 0 ∧ win0_10.index t (2 : Fin 3) = 0 :=
  (by decide +kernel : ∀ t : Fin grid0.N, win0_10.index t (0 : Fin 3) = t.val / 16 ∧ win0_10.index t (1 : Fin 3) = 0 ∧ win0_10.index t (2 : Fin 3) = 0)

theorem emb7 (t : Fin cfg0.N) (r : Fin 512) (l : Fin 128) : ((cfg0.win 7).blk t).view.emb (ix2 r l)
    = ix2 (⟨512 * (15 - t.val % 16) + r.val, by omega⟩ : Fin 8192) (⟨128 * (t.val / 16) + l.val, by have := point_lt t; omega⟩ : Fin 1024) := by
  obtain ⟨e0, e1⟩ := idx7 t
  funext a; apply Fin.ext
  match a with
  | ⟨0, _⟩ => show win0_7.index t (0 : Fin 2) * 512 + 1 * r.val = 512 * (15 - t.val % 16) + r.val; omega
  | ⟨1, _⟩ => show win0_7.index t (1 : Fin 2) * 128 + 1 * l.val = 128 * (t.val / 16) + l.val; omega

theorem emb8 (t : Fin cfg0.N) (r : Fin 512) (l : Fin 128) : ((cfg0.win 8).blk t).view.emb (ix2 r l)
    = ix2 (⟨512 * (15 - t.val % 16) + r.val, by omega⟩ : Fin 8192) (⟨128 * (t.val / 16) + l.val, by have := point_lt t; omega⟩ : Fin 1024) := by
  obtain ⟨e0, e1⟩ := idx8 t
  funext a; apply Fin.ext
  match a with
  | ⟨0, _⟩ => show win0_8.index t (0 : Fin 2) * 512 + 1 * r.val = 512 * (15 - t.val % 16) + r.val; omega
  | ⟨1, _⟩ => show win0_8.index t (1 : Fin 2) * 128 + 1 * l.val = 128 * (t.val / 16) + l.val; omega

theorem emb9 (t : Fin cfg0.N) (r : Fin 512) (l : Fin 128) : ((cfg0.win 9).blk t).view.emb (ix2 r l)
    = ix2 (⟨512 * (15 - t.val % 16) + r.val, by omega⟩ : Fin 8192) (⟨128 * (t.val / 16) + l.val, by have := point_lt t; omega⟩ : Fin 1024) := by
  obtain ⟨e0, e1⟩ := idx9 t
  funext a; apply Fin.ext
  match a with
  | ⟨0, _⟩ => show win0_9.index t (0 : Fin 2) * 512 + 1 * r.val = 512 * (15 - t.val % 16) + r.val; omega
  | ⟨1, _⟩ => show win0_9.index t (1 : Fin 2) * 128 + 1 * l.val = 128 * (t.val / 16) + l.val; omega

theorem emb10 (t : Fin cfg0.N) (a : Fin 128) (k : Fin 640) : ((cfg0.win 10).blk t).view.emb (ix3 (0 : Fin 1) a k)
    = ix3 (⟨t.val / 16, by have := point_lt t; omega⟩ : Fin 8) a k := by
  obtain ⟨e0, e1, e2⟩ := idx10 t
  funext x; apply Fin.ext
  match x with
  | ⟨0, _⟩ => show win0_10.index t (0 : Fin 3) * 1 + 1 * 0 = t.val / 16; omega
  | ⟨1, _⟩ => show win0_10.index t (1 : Fin 3) * 128 + 1 * a.val = a.val; omega
  | ⟨2, _⟩ => show win0_10.index t (2 : Fin 3) * 640 + 1 * k.val = k.val; omega

theorem flushed7_eq (c : Dev nD) (hD : (opData m c).Real) (t : Fin cfg0.N) :
    (dats m 0 c).flushed 7 t = ((cfg0.win 7).blk t).view.read (Elt Ideal) (opData m c).resQ := by
  rw [Value.flushed7]
  funext j
  obtain ⟨r, l, rfl⟩ : ∃ (r : Fin 512) (l : Fin 128), j = ix2 r l := ⟨j 0, j 1, eq_ix2 j⟩
  show (outsAt0 m c t.val t.isLt).1 (ix2 r l) = (opData m c).resQ (((cfg0.win 7).blk t).view.emb (ix2 r l))
  rw [emb7]
  exact point7 m c t hD r l

theorem covered7 (i : S8192x1024.Idx) : ∃ t : Fin cfg0.N, (cfg0.win 7).flush t = true ∧ i ∈ ((cfg0.win 7).blk t).view.set := by
  obtain ⟨r, l, rfl⟩ : ∃ (r : Fin 8192) (l : Fin 1024), i = ix2 r l := ⟨i 0, i 1, eq_ix2 i⟩
  have hr := r.isLt
  have hl := l.isLt
  refine ⟨⟨16 * (l.val / 128) + (15 - r.val / 512), by show _ < 128; omega⟩, flush0_7 _, ?_⟩
  have h := ((cfg0.win 7).blk (⟨16 * (l.val / 128) + (15 - r.val / 512), by show _ < 128; omega⟩ : Fin cfg0.N)).view.emb_mem_set
    (ix2 (⟨r.val % 512, Nat.mod_lt _ (by omega)⟩ : Fin 512) (⟨l.val % 128, Nat.mod_lt _ (by omega)⟩ : Fin 128))
  rw [emb7] at h
  have e : ix2 r l = ix2 (⟨512 * (15 - (16 * (l.val / 128) + (15 - r.val / 512)) % 16) + r.val % 512, by omega⟩ : Fin 8192)
      (⟨128 * ((16 * (l.val / 128) + (15 - r.val / 512)) / 16) + l.val % 128, by omega⟩ : Fin 1024) := by
    congr 1 <;> apply Fin.ext <;> dsimp only <;> omega
  rw [e]; exact h

theorem final7 (c : Dev nD) (hD : (opData m c).Real) : (dats m 0 c).arrAt 7 cfg0.N = (opData m c).resQ :=
  (dats m 0 c).arrAt_eq_of_cover 7 (opData m c).resQ (fun t _ => flushed7_eq m c hD t) covered7

theorem flushed8_eq (c : Dev nD) (hD : (opData m c).Real) (t : Fin cfg0.N) :
    (dats m 0 c).flushed 8 t = ((cfg0.win 8).blk t).view.read (Elt Ideal) (opData m c).resK := by
  rw [Value.flushed8]
  funext j
  obtain ⟨r, l, rfl⟩ : ∃ (r : Fin 512) (l : Fin 128), j = ix2 r l := ⟨j 0, j 1, eq_ix2 j⟩
  show (outsAt0 m c t.val t.isLt).2.1 (ix2 r l) = (opData m c).resK (((cfg0.win 8).blk t).view.emb (ix2 r l))
  rw [emb8]
  exact point8 m c t hD r l

theorem covered8 (i : S8192x1024.Idx) : ∃ t : Fin cfg0.N, (cfg0.win 8).flush t = true ∧ i ∈ ((cfg0.win 8).blk t).view.set := by
  obtain ⟨r, l, rfl⟩ : ∃ (r : Fin 8192) (l : Fin 1024), i = ix2 r l := ⟨i 0, i 1, eq_ix2 i⟩
  have hr := r.isLt
  have hl := l.isLt
  refine ⟨⟨16 * (l.val / 128) + (15 - r.val / 512), by show _ < 128; omega⟩, flush0_8 _, ?_⟩
  have h := ((cfg0.win 8).blk (⟨16 * (l.val / 128) + (15 - r.val / 512), by show _ < 128; omega⟩ : Fin cfg0.N)).view.emb_mem_set
    (ix2 (⟨r.val % 512, Nat.mod_lt _ (by omega)⟩ : Fin 512) (⟨l.val % 128, Nat.mod_lt _ (by omega)⟩ : Fin 128))
  rw [emb8] at h
  have e : ix2 r l = ix2 (⟨512 * (15 - (16 * (l.val / 128) + (15 - r.val / 512)) % 16) + r.val % 512, by omega⟩ : Fin 8192)
      (⟨128 * ((16 * (l.val / 128) + (15 - r.val / 512)) / 16) + l.val % 128, by omega⟩ : Fin 1024) := by
    congr 1 <;> apply Fin.ext <;> dsimp only <;> omega
  rw [e]; exact h

theorem final8 (c : Dev nD) (hD : (opData m c).Real) : (dats m 0 c).arrAt 8 cfg0.N = (opData m c).resK :=
  (dats m 0 c).arrAt_eq_of_cover 8 (opData m c).resK (fun t _ => flushed8_eq m c hD t) covered8

theorem flushed9_eq (c : Dev nD) (t : Fin cfg0.N) :
    (dats m 0 c).flushed 9 t = ((cfg0.win 9).blk t).view.read (Elt Ideal) (opData m c).resV := by
  rw [Value.flushed9]
  funext j
  obtain ⟨r, l, rfl⟩ : ∃ (r : Fin 512) (l : Fin 128), j = ix2 r l := ⟨j 0, j 1, eq_ix2 j⟩
  show (outsAt0 m c t.val t.isLt).2.2.1 (ix2 r l) = (opData m c).resV (((cfg0.win 9).blk t).view.emb (ix2 r l))
  rw [emb9]
  exact point9 m c t r l

theorem covered9 (i : S8192x1024.Idx) : ∃ t : Fin cfg0.N, (cfg0.win 9).flush t = true ∧ i ∈ ((cfg0.win 9).blk t).view.set := by
  obtain ⟨r, l, rfl⟩ : ∃ (r : Fin 8192) (l : Fin 1024), i = ix2 r l := ⟨i 0, i 1, eq_ix2 i⟩
  have hr := r.isLt
  have hl := l.isLt
  refine ⟨⟨16 * (l.val / 128) + (15 - r.val / 512), by show _ < 128; omega⟩, flush0_9 _, ?_⟩
  have h := ((cfg0.win 9).blk (⟨16 * (l.val / 128) + (15 - r.val / 512), by show _ < 128; omega⟩ : Fin cfg0.N)).view.emb_mem_set
    (ix2 (⟨r.val % 512, Nat.mod_lt _ (by omega)⟩ : Fin 512) (⟨l.val % 128, Nat.mod_lt _ (by omega)⟩ : Fin 128))
  rw [emb9] at h
  have e : ix2 r l = ix2 (⟨512 * (15 - (16 * (l.val / 128) + (15 - r.val / 512)) % 16) + r.val % 512, by omega⟩ : Fin 8192)
      (⟨128 * ((16 * (l.val / 128) + (15 - r.val / 512)) / 16) + l.val % 128, by omega⟩ : Fin 1024) := by
    congr 1 <;> apply Fin.ext <;> dsimp only <;> omega
  rw [e]; exact h

theorem final9 (c : Dev nD) : (dats m 0 c).arrAt 9 cfg0.N = (opData m c).resV :=
  (dats m 0 c).arrAt_eq_of_cover 9 (opData m c).resV (fun t _ => flushed9_eq m c t) covered9

theorem flushed10_eq (c : Dev nD) (hD : (opData m c).Real) (t : Fin cfg0.N) (ht : (cfg0.win 10).flush t = true) :
    (dats m 0 c).flushed 10 t = ((cfg0.win 10).blk t).view.read (Elt Ideal) (opData m c).resB := by
  have h15 := (flush0_10 t).mp ht
  rw [Value.flushed10]
  funext j
  obtain ⟨z, a, k, rfl⟩ : ∃ (z : Fin 1) (a : Fin 128) (k : Fin 640), j = ix3 z a k := ⟨j 0, j 1, j 2, eq_ix3 j⟩
  obtain rfl : z = 0 := Subsingleton.elim _ _
  show (outsAt0 m c t.val t.isLt).2.2.2.1 (ix3 0 a k) = (opData m c).resB (((cfg0.win 10).blk t).view.emb (ix3 0 a k))
  rw [emb10, point10 m c hD a k t.val t.isLt, h15, Attn.visited_all]
  rfl

theorem covered10 (i : S8x128x640.Idx) : ∃ t : Fin cfg0.N, (cfg0.win 10).flush t = true ∧ i ∈ ((cfg0.win 10).blk t).view.set := by
  obtain ⟨p, a, k, rfl⟩ : ∃ (p : Fin 8) (a : Fin 128) (k : Fin 640), i = ix3 p a k := ⟨i 0, i 1, i 2, eq_ix3 i⟩
  have hp := p.isLt
  refine ⟨⟨16 * p.val + 15, by show _ < 128; omega⟩, (flush0_10 _).mpr (by show (16 * p.val + 15) % 16 = 15; omega), ?_⟩
  have h := ((cfg0.win 10).blk (⟨16 * p.val + 15, by show _ < 128; omega⟩ : Fin cfg0.N)).view.emb_mem_set (ix3 (0 : Fin 1) a k)
  rw [emb10] at h
  have e : ix3 p a k = ix3 (⟨(16 * p.val + 15) / 16, by omega⟩ : Fin 8) a k := by
    congr 1; apply Fin.ext; dsimp only; omega
  rw [e]; exact h

theorem final10 (c : Dev nD) (hD : (opData m c).Real) : (dats m 0 c).arrAt 10 cfg0.N = (opData m c).resB :=
  (dats m 0 c).arrAt_eq_of_cover 10 (opData m c).resB (fun t ht => flushed10_eq m c hD t ht) covered10

end Cert.KernelIdeal.Gen
-- ==== Proof.RefScores.lean ====
/-
  The reference's bands of keys and values, its scores and its softmax, read at an index.
-/
module

public import proofs.«01_k».proof.Proof.Gen.ReferenceIdeal.Read
public import proofs.«01_k».proof.Proof.DataOf
public import Idealize.ShloMosaic.Lib.Pointwise

@[expose] public section
set_option maxRecDepth 16384
noncomputable section
namespace Cert.ReferenceIdeal.Read
open Cert.ReferenceIdeal Gen Idealize.ShloMosaic

variable (x0 : (⟨S8192x1024, .f32⟩ : BufTy).Contents (Elt Ideal)) (x1 : (⟨S8192x2048, .f32⟩ : BufTy).Contents (Elt Ideal))
  (x2 : (⟨S16x513, .f32⟩ : BufTy).Contents (Elt Ideal)) (x3 : (⟨S8192x1024, .f32⟩ : BufTy).Contents (Elt Ideal))

/-- The operands of the backward pass as the reference is given them. -/
def refData : Attn.Data := Attn.dataOf x0 x1 (val_main_v18 (F := Ideal) x2) x3

/-- A chunk's band out of the nine chunks it joins. -/
theorem band_slices (y : (⟨S136x64x16x64, .f32⟩ : BufTy).Contents (Elt Ideal)) (n : Fin 128) (k : Fin 576) (h : Fin 16) (d : Fin 64) :
    (concatenate S128x576x16x64 1 [⟨S128x64x16x64, (extractStridedSlice S128x64x16x64 ![0, 0, 0, 0] y slices_S136x64x16x64_S128x64x16x64_0_0_0_0 : (⟨S128x64x16x64, .f32⟩ : BufTy).Contents (Elt Ideal))⟩, ⟨S128x64x16x64, (extractStridedSlice S128x64x16x64 ![1, 0, 0, 0] y slices_S136x64x16x64_S128x64x16x64_1_0_0_0 : (⟨S128x64x16x64, .f32⟩ : BufTy).Contents (Elt Ideal))⟩, ⟨S128x64x16x64, (extractStridedSlice S128x64x16x64 ![2, 0, 0, 0] y slices_S136x64x16x64_S128x64x16x64_2_0_0_0 : (⟨S128x64x16x64, .f32⟩ : BufTy).Contents (Elt Ideal))⟩, ⟨S128x64x16x64, (extractStridedSlice S128x64x16x64 ![3, 0, 0, 0] y slices_S136x64x16x64_S128x64x16x64_3_0_0_0 : (⟨S128x64x16x64, .f32⟩ : BufTy).Contents (Elt Ideal))⟩, ⟨S128x64x16x64, (extractStridedSlice S128x64x16x64 ![4, 0, 0, 0] y slices_S136x64x16x64_S128x64x16x64_4_0_0_0 : (⟨S128x64x16x64, .f32⟩ : BufTy).Contents (Elt Ideal))⟩, ⟨S128x64x16x64, (extractStridedSlice S128x64x16x64 ![5, 0, 0, 0] y slices_S136x64x16x64_S128x64x16x64_5_0_0_0 : (⟨S128x64x16x64, .f32⟩ : BufTy).Contents (Elt Ideal))⟩, ⟨S128x64x16x64, (extractStridedSlice S128x64x16x64 ![6, 0, 0, 0] y slices_S136x64x16x64_S128x64x16x64_6_0_0_0 : (⟨S128x64x16x64, .f32⟩ : BufTy).Contents (Elt Ideal))⟩, ⟨S128x64x16x64, (extractStridedSlice S128x64x16x64 ![7, 0, 0, 0] y slices_S136x64x16x64_S128x64x16x64_7_0_0_0 : (⟨S128x64x16x64, .f32⟩ : BufTy).Contents (Elt Ideal))⟩, ⟨S128x64x16x64, (extractStridedSlice S128x64x16x64 ![8, 0, 0, 0] y slices_S136x64x16x64_S128x64x16x64_8_0_0_0 : (⟨S128x64x16x64, .f32⟩ : BufTy).Contents (Elt Ideal))⟩] concatenates_S128x64x16x64_S128x64x16x64_S128x64x16x64_S128x64x16x64_S128x64x16x64_S128x64x16x64_S128x64x16x64_S128x64x16x64_S128x64x16x64_S128x576x16x64_d1 : (⟨S128x576x16x64, .f32⟩ : BufTy).Contents (Elt Ideal)) (ix4 n k h d)
      = y (ix4 (⟨n.val + k.val / 64, by omega⟩ : Fin 136) (⟨k.val % 64, Nat.mod_lt _ (by omega)⟩ : Fin 64) h d) := by
  have hk := k.isLt
  pointwise []
  repeat' split
  all_goals
    congr 2 <;> apply Fin.ext <;> dsimp only <;> omega

theorem keys_at (r : Fin 8704) (h : Fin 16) (d : Fin 64) :
    val_main_v23 (F := Ideal) x1 (ix3 r h d) = (refData x0 x1 x2 x3).k r.val (64 * h.val + d.val) := by
  have hr := r.isLt; have hh := h.isLt; have hd := d.isLt
  unfold refData Attn.dataOf; dsimp only
  by_cases h5 : 512 ≤ r.val
  · rw [dif_pos ⟨⟨h5, hr⟩, by omega⟩]
    pointwise [val_main_v23, val_main_v21, val_main_v22, val_main_v19]
    rw [dif_neg (by omega)]
    congr 2; apply Fin.ext; dsimp only; omega
  · rw [dif_neg fun h => h5 h.1.1]
    pointwise [val_main_v23, val_main_v21, val_main_v22, val_main_v19, val_main_cst]
    rw [dif_pos (by omega)]

theorem keys_band (n : Fin 128) (k : Fin 576) (h : Fin 16) (d : Fin 64) :
    val_main_v39 (F := Ideal) x1 (ix4 n k h d) = (refData x0 x1 x2 x3).k (64 * n.val + k.val) (64 * h.val + d.val) := by
  have hn := n.isLt; have hk := k.isLt
  refine (band_slices (val_main_v25 (F := Ideal) x1) n k h d).trans ?_
  have e : ∀ (N : Fin 136) (j : Fin 64), val_main_v25 (F := Ideal) x1 (ix4 N j h d) = val_main_v23 (F := Ideal) x1 (ix3 (⟨64 * N.val + j.val, by omega⟩ : Fin 8704) h d) := by
    intro N j
    pointwise [val_main_v25]
    congr 2; apply Fin.ext; dsimp only; omega
  rw [e, keys_at x0 x1 x2 x3]
  congr 1; dsimp only; omega

theorem vals_at (r : Fin 8704) (h : Fin 16) (d : Fin 64) :
    val_main_v27 (F := Ideal) x1 (ix3 r h d) = (refData x0 x1 x2 x3).v r.val (64 * h.val + d.val) := by
  have hr := r.isLt; have hh := h.isLt; have hd := d.isLt
  unfold refData Attn.dataOf; dsimp only
  by_cases h5 : 512 ≤ r.val
  · rw [dif_pos ⟨⟨h5, hr⟩, by omega⟩]
    pointwise [val_main_v27, val_main_v21, val_main_v26, val_main_v20]
    rw [dif_neg (by omega)]
    congr 2; apply Fin.ext; dsimp only; omega
  · rw [dif_neg fun h => h5 h.1.1]
    pointwise [val_main_v27, val_main_v21, val_main_v26, val_main_v20, val_main_cst]
    rw [dif_pos (by omega)]

theorem vals_band (n : Fin 128) (k : Fin 576) (h : Fin 16) (d : Fin 64) :
    val_main_v49 (F := Ideal) x1 (ix4 n k h d) = (refData x0 x1 x2 x3).v (64 * n.val + k.val) (64 * h.val + d.val) := by
  have hn := n.isLt; have hk := k.isLt
  refine (band_slices (val_main_v29 (F := Ideal) x1) n k h d).trans ?_
  have e : ∀ (N : Fin 136) (j : Fin 64), val_main_v29 (F := Ideal) x1 (ix4 N j h d) = val_main_v27 (F := Ideal) x1 (ix3 (⟨64 * N.val + j.val, by omega⟩ : Fin 8704) h d) := by
    intro N j
    pointwise [val_main_v29]
    congr 2; apply Fin.ext; dsimp only; omega
  rw [e, vals_at x0 x1 x2 x3]
  congr 1; dsimp only; omega

/-- The queries by chunk, row, head and lane. -/
theorem queries_at (n : Fin 128) (a : Fin 64) (h : Fin 16) (d : Fin 64) :
    val_main_v50 (F := Ideal) x0 (ix4 n a h d) = (refData x0 x1 x2 x3).q (64 * n.val + a.val) (64 * h.val + d.val) := by
  have hn := n.isLt; have ha := a.isLt; have hh := h.isLt; have hd := d.isLt
  unfold refData Attn.dataOf; dsimp only
  rw [dif_pos ⟨by omega, by omega⟩]
  pointwise [val_main_v50]
  congr 2 <;> apply Fin.ext <;> dsimp only <;> omega

/-- The cotangents by chunk, head, lane and row. -/
theorem cots_at (n : Fin 128) (h : Fin 16) (d : Fin 64) (a : Fin 64) :
    val_main_v102 (F := Ideal) x3 (ix4 n h d a) = (refData x0 x1 x2 x3).g (64 * n.val + a.val) (64 * h.val + d.val) := by
  have hn := n.isLt; have ha := a.isLt; have hh := h.isLt; have hd := d.isLt
  unfold refData Attn.dataOf; dsimp only
  rw [dif_pos ⟨by omega, by omega⟩]
  pointwise [val_main_v102, val_main_v101]
  congr 2 <;> apply Fin.ext <;> dsimp only <;> omega

theorem score_at (n : Fin 128) (h : Fin 16) (a : Fin 64) (k : Fin 576) :
    val_main_v56 (F := Ideal) x0 x1 x2 (ix4 n h a k) = (refData x0 x1 x2 x3).score n.val h.val a.val k.val := by
  have eb : val_main_v55 (F := Ideal) x2 (ix4 n h a k) = (refData x0 x1 x2 x3).b h.val a.val k.val := by
    refine Eq.trans ?_ (Attn.dataOf_b _ _ _ _ h.isLt a.isLt k.isLt).symm
    pointwise [val_main_v55, val_main_v54]
  have e8 : val_main_v52 (F := Ideal) (ix4 n h a k) = Attn.eighth := by
    pointwise [val_main_v52, val_main_cst_7]
    rfl
  rw [val_main_v56_apply, val_main_v53_apply, val_main_v51_apply, eb, e8]
  show (∑ d : Fin 64, _) * _ + _ = _
  unfold Attn.Data.score
  congr 2
  refine Finset.sum_congr rfl fun d _ => ?_
  have e1 : lidx_main_v51 (ix4 n h a k) d = ix4 n a h d := by
    funext x; match x with | ⟨0, _⟩ => rfl | ⟨1, _⟩ => rfl | ⟨2, _⟩ => rfl | ⟨3, _⟩ => rfl
  have e2 : ridx_main_v51 (ix4 n h a k) d = ix4 n k h d := by
    funext x; match x with | ⟨0, _⟩ => rfl | ⟨1, _⟩ => rfl | ⟨2, _⟩ => rfl | ⟨3, _⟩ => rfl
  rw [e1, e2, queries_at x0 x1 x2 x3, keys_band x0 x1 x2 x3]

/-- The reference's mask: the slots that hold a key. -/
theorem mask_word (n : Fin 128) (k : Fin 576) :
    IntOp.cmpi .sge (BitVec.ofNat 32 k.val) (IntOp.muli (IntOp.subi 8#32 (BitVec.ofNat 32 n.val)) 64#32)
      = BitVec.ofBool (decide (Attn.Data.Valid n.val k.val)) := by
  have e1 : (BitVec.ofNat 32 k.val).toInt = (k.val : ℤ) := by
    revert k; decide +kernel
  have e2 : (IntOp.muli (IntOp.subi 8#32 (BitVec.ofNat 32 n.val)) 64#32).toInt = (8 - (n.val : ℤ)) * 64 := by
    revert n; decide +kernel
  show BitVec.ofBool (decide ((IntOp.muli (IntOp.subi 8#32 (BitVec.ofNat 32 n.val)) 64#32).toInt ≤ (BitVec.ofNat 32 k.val).toInt)) = _
  rw [e1, e2]
  congr 1
  apply decide_eq_decide.2
  unfold Attn.Data.Valid
  have := k.isLt
  omega

theorem mask_at (n : Fin 128) (h : Fin 16) (a : Fin 64) (k : Fin 576) :
    val_main_v69_1 (F := Ideal) (ix4 n h a k) = BitVec.ofBool (decide (Attn.Data.Valid n.val k.val)) := by
  rw [← mask_word]
  pointwise [val_main_v69_1, val_main_v68, val_main_v67, val_main_v66, val_main_v65, val_main_v64, val_main_v63, val_main_v62, val_main_v61, val_main_v60, val_main_v59, val_main_v58, val_main_v57, val_main_c_8, val_main_c_9]

theorem select_mask {α : Type} (p : Prop) [Decidable p] (x y : α) : Scalar.select (BitVec.ofBool (decide p)) x y = if p then x else y := by
  by_cases h : p <;> simp [h, Scalar.select]

/-- The masked scores. -/
theorem row_at (n : Fin 128) (h : Fin 16) (a : Fin 64) (k : Fin 576) :
    val_main_v69_0 (F := Ideal) x0 x1 x2 (ix4 n h a k) = (refData x0 x1 x2 x3).row n.val h.val a.val k.val := by
  have e : val_main_call1_v2 (F := Ideal) (ix4 n h a k) = ⊥ := by
    pointwise [val_main_call1_v2, val_main_call1_v0, val_main_cst_10]
    show Ideal.ofBits .f32 0xFF800000#32 = ⊥
    simp [Ideal.ofBits, Ideal.ieee]
  rw [val_main_v69_0_apply, mask_at, select_mask, score_at x0 x1 x2 x3, e]
  rfl

end Cert.ReferenceIdeal.Read
-- ==== Proof.RefGrads.lean ====
/-
  The reference's softmax and the cotangents of its weights and scores, read at an index.
-/
module

public import proofs.«01_k».proof.Proof.RefScores

@[expose] public section
set_option maxRecDepth 16384
noncomputable section
namespace Cert.ReferenceIdeal.Read
open Cert.ReferenceIdeal Gen Idealize.ShloMosaic

theorem ninf : Ideal.ofBits .f32 0xFF800000#32 = ⊥ := by simp [Ideal.ofBits, Ideal.ieee]

/-- A reduction by `max` over the slots. -/
theorem reduce_max_at (y : (⟨S128x16x64x576, .f32⟩ : BufTy).Contents (Elt Ideal)) (n : Fin 128) (h : Fin 16) (a : Fin 64) :
    (Host.reduce (FloatOps.maximumf (F := Ideal) (φ := .f32)) y (constant (F := Ideal) S_ .f32 0xFF800000#32) reducesTo_S128x16x64x576_S128x16x64_d3 h_S_
        : (⟨S128x16x64, .f32⟩ : BufTy).Contents (Elt Ideal)) (ix3 n h a)
      = Finset.univ.fold max ⊥ fun k : Fin 576 => y (ix4 n h a k) := by
  pointwise []
  rw [ninf]

variable (x0 : (⟨S8192x1024, .f32⟩ : BufTy).Contents (Elt Ideal)) (x1 : (⟨S8192x2048, .f32⟩ : BufTy).Contents (Elt Ideal))
  (x2 : (⟨S16x513, .f32⟩ : BufTy).Contents (Elt Ideal)) (x3 : (⟨S8192x1024, .f32⟩ : BufTy).Contents (Elt Ideal))
  (n : Fin 128) (h : Fin 16) (a : Fin 64)

/-- A row's largest score. -/
theorem max_at : val_main_v77 (F := Ideal) x0 x1 x2 (ix3 n h a) = Attn.rowMax 576 ((refData x0 x1 x2 x3).row n.val h.val a.val) := by
  have e1 : val_main_v76 (F := Ideal) (ix3 n h a) = ⊥ := by
    pointwise [val_main_v76, val_main_cst_13]
    exact ninf
  have e2 : val_main_v70 (F := Ideal) x0 x1 x2 (ix3 n h a) = Attn.rowMax 576 ((refData x0 x1 x2 x3).row n.val h.val a.val) := by
    have er := row_at x0 x1 x2 x3 n h a
    unfold val_main_v70 val_main_cst_11
    generalize val_main_v69_0 (F := Ideal) x0 x1 x2 = y at er ⊢
    rw [reduce_max_at]
    unfold Attn.rowMax
    congr 1
    funext k
    exact er k
  rw [val_main_v77_apply, e1, e2]
  exact bot_sup_eq _

/-- A slot's exponential. -/
theorem expo_at (k : Fin 576) : val_main_v90 (F := Ideal) x0 x1 x2 (ix4 n h a k)
    = Attn.expo ((refData x0 x1 x2 x3).row n.val h.val a.val) k.val := by
  have e : val_main_v88 (F := Ideal) x0 x1 x2 (ix4 n h a k) = val_main_v77 (F := Ideal) x0 x1 x2 (ix3 n h a) := by
    unfold val_main_v88 val_main_v87
    generalize val_main_v77 (F := Ideal) x0 x1 x2 = y
    pointwise []
  show Ideal.exp (val_main_v69_0 (F := Ideal) x0 x1 x2 (ix4 n h a k) - val_main_v88 (F := Ideal) x0 x1 x2 (ix4 n h a k)) = _
  rw [e, max_at x0 x1 x2 x3, row_at x0 x1 x2 x3]
  rfl

/-- A row's sum of exponentials. -/
theorem expoSum_at : val_main_v91 (F := Ideal) x0 x1 x2 (ix3 n h a) = Attn.expoSum ((refData x0 x1 x2 x3).row n.val h.val a.val) := by
  rw [val_main_v91_apply]
  have e0 : val_main_cst_19 (F := Ideal) (Shape.Idx.first h_S_) = 0 := Ideal.ofBits_zero_f32
  rw [e0, zero_add]
  refine Finset.sum_congr rfl fun k _ => ?_
  have e1 : idx_main_v91 (ix3 n h a) k = ix4 n h a k := by
    funext x; match x with | ⟨0, _⟩ => rfl | ⟨1, _⟩ => rfl | ⟨2, _⟩ => rfl | ⟨3, _⟩ => rfl
  rw [e1]
  exact expo_at x0 x1 x2 x3 n h a k

theorem denom_at (u : Fin 1) : val_main_v92 (F := Ideal) x0 x1 x2 (ix4 n h a u) = Attn.expoSum ((refData x0 x1 x2 x3).row n.val h.val a.val) := by
  rw [← expoSum_at]
  unfold val_main_v92
  generalize val_main_v91 (F := Ideal) x0 x1 x2 = y
  pointwise []

/-- The attention weights. -/
theorem weight_at (k : Fin 576) : val_main_v94 (F := Ideal) x0 x1 x2 (ix4 n h a k) = (refData x0 x1 x2 x3).p n.val h.val a.val k.val := by
  have e : val_main_v93 (F := Ideal) x0 x1 x2 (ix4 n h a k) = val_main_v92 (F := Ideal) x0 x1 x2 (ix4 n h a 0) := by
    unfold val_main_v93
    generalize val_main_v92 (F := Ideal) x0 x1 x2 = y
    pointwise []
  show Ideal.div (val_main_v90 (F := Ideal) x0 x1 x2 (ix4 n h a k)) (val_main_v93 (F := Ideal) x0 x1 x2 (ix4 n h a k)) = _
  rw [e, denom_at x0 x1 x2 x3, expo_at x0 x1 x2 x3]
  rfl

/-- The weights' cotangents. -/
theorem dp_at (k : Fin 576) : val_main_v103 (F := Ideal) x1 x3 (ix4 n h a k) = (refData x0 x1 x2 x3).dp n.val h.val a.val k.val := by
  rw [val_main_v103_apply]
  refine Finset.sum_congr rfl fun d _ => ?_
  have e1 : lidx_main_v103 (ix4 n h a k) d = ix4 n h d a := by
    funext x; match x with | ⟨0, _⟩ => rfl | ⟨1, _⟩ => rfl | ⟨2, _⟩ => rfl | ⟨3, _⟩ => rfl
  have e2 : ridx_main_v103 (ix4 n h a k) d = ix4 n k h d := by
    funext x; match x with | ⟨0, _⟩ => rfl | ⟨1, _⟩ => rfl | ⟨2, _⟩ => rfl | ⟨3, _⟩ => rfl
  rw [e1, e2, cots_at x0 x1 x2 x3, vals_band x0 x1 x2 x3]

/-- The reciprocal of the squared sum of exponentials. -/
theorem recip_at (k : Fin 576) : val_main_v106 (F := Ideal) x0 x1 x2 (ix4 n h a k)
    = Ideal.div 1 (Attn.expoSum ((refData x0 x1 x2 x3).row n.val h.val a.val) * Attn.expoSum ((refData x0 x1 x2 x3).row n.val h.val a.val)) := by
  have e : val_main_v106 (F := Ideal) x0 x1 x2 (ix4 n h a k) = val_main_v97 (F := Ideal) x0 x1 x2 (ix4 n h a 0) := by
    unfold val_main_v106
    generalize val_main_v97 (F := Ideal) x0 x1 x2 = y
    pointwise []
  have e1 : val_main_v96 (F := Ideal) (ix4 n h a 0) = 1 := by
    pointwise [val_main_v96, val_main_cst_20]
    first | done | simp [Ideal.ofBits, Ideal.ieee]
  rw [e, ← denom_at x0 x1 x2 x3 n h a 0, ← e1]
  rfl

/-- The sum of a row's weighted cotangents, the weights written as exponentials over the squared sum. -/
theorem rowSum_at : val_main_v109 (F := Ideal) x0 x1 x2 x3 (ix3 n h a)
    = ∑ k : Fin 576, (refData x0 x1 x2 x3).dp n.val h.val a.val k.val
        * Ideal.div 1 (Attn.expoSum ((refData x0 x1 x2 x3).row n.val h.val a.val) * Attn.expoSum ((refData x0 x1 x2 x3).row n.val h.val a.val))
        * Attn.expo ((refData x0 x1 x2 x3).row n.val h.val a.val) k.val := by
  rw [val_main_v109_apply]
  have e0 : val_main_cst_21 (F := Ideal) (Shape.Idx.first h_S_) = 0 := Ideal.ofBits_zero_f32
  rw [e0, zero_add]
  refine Finset.sum_congr rfl fun k _ => ?_
  have e1 : idx_main_v109 (ix3 n h a) k = ix4 n h a k := by
    funext x; match x with | ⟨0, _⟩ => rfl | ⟨1, _⟩ => rfl | ⟨2, _⟩ => rfl | ⟨3, _⟩ => rfl
  rw [e1]
  show val_main_v103 (F := Ideal) x1 x3 (ix4 n h a k) * val_main_v106 (F := Ideal) x0 x1 x2 (ix4 n h a k)
    * val_main_v90 (F := Ideal) x0 x1 x2 (ix4 n h a k) = _
  rw [dp_at x0 x1 x2 x3, recip_at x0 x1 x2 x3, expo_at x0 x1 x2 x3]

theorem negSum_at (k : Fin 576) : val_main_v115 (F := Ideal) x0 x1 x2 x3 (ix4 n h a k) = -val_main_v109 (F := Ideal) x0 x1 x2 x3 (ix3 n h a) := by
  have e : val_main_v115 (F := Ideal) x0 x1 x2 x3 (ix4 n h a k) = val_main_v114 (F := Ideal) x0 x1 x2 x3 (ix3 n h a) := by
    unfold val_main_v115
    generalize val_main_v114 (F := Ideal) x0 x1 x2 x3 = y
    pointwise []
  have e2 : val_main_v110 (F := Ideal) x0 x1 x2 x3 (ix4 n h a 0) = val_main_v109 (F := Ideal) x0 x1 x2 x3 (ix3 n h a) := by
    unfold val_main_v110
    generalize val_main_v109 (F := Ideal) x0 x1 x2 x3 = y
    pointwise []
  rw [e, val_main_v114_apply]
  have e0 : val_main_cst_22 (F := Ideal) (Shape.Idx.first h_S_) = 0 := Ideal.ofBits_zero_f32
  rw [e0, zero_add, Fin.sum_univ_one, ← e2]
  have e1 : idx_main_v114 (ix3 n h a) 0 = ix4 n h a 0 := by
    funext x; match x with | ⟨0, _⟩ => rfl | ⟨1, _⟩ => rfl | ⟨2, _⟩ => rfl | ⟨3, _⟩ => rfl
  rw [e1]
  rfl

/-- The scores' cotangents. -/
theorem ds_at (hD : (refData x0 x1 x2 x3).Real) (k : Fin 576) :
    val_main_v118 (F := Ideal) x0 x1 x2 x3 (ix4 n h a k) = (refData x0 x1 x2 x3).ds n.val h.val a.val k.val := by
  have e : val_main_call2_v0 (F := Ideal) (ix4 n h a k) = 0 := by
    pointwise [val_main_call2_v0, val_main_call2_cst]
  have e2 : val_main_v112 (F := Ideal) x0 x1 x2 (ix4 n h a k) = val_main_v92 (F := Ideal) x0 x1 x2 (ix4 n h a 0) := by
    unfold val_main_v112
    generalize val_main_v92 (F := Ideal) x0 x1 x2 = y
    pointwise []
  rw [val_main_v118_apply, mask_at, select_mask, e]
  split
  · show (Ideal.div (val_main_v103 (F := Ideal) x1 x3 (ix4 n h a k)) (val_main_v112 (F := Ideal) x0 x1 x2 (ix4 n h a k))
      + val_main_v115 (F := Ideal) x0 x1 x2 x3 (ix4 n h a k)) * val_main_v90 (F := Ideal) x0 x1 x2 (ix4 n h a k) = _
    rw [e2, denom_at x0 x1 x2 x3, dp_at x0 x1 x2 x3, negSum_at, rowSum_at, expo_at x0 x1 x2 x3]
    exact Attn.grad_row _ (Attn.Data.row_cases hD _ _ _) (Attn.Data.row_own hD _ _ _) _ k.val
  · next hv => exact (Attn.Data.ds_masked hD _ _ _ _ hv).symm

/-- The scaled scores' cotangents. -/
theorem dsScaled_at (hD : (refData x0 x1 x2 x3).Real) (k : Fin 576) :
    val_main_v123 (F := Ideal) x0 x1 x2 x3 (ix4 n h a k) = (refData x0 x1 x2 x3).ds n.val h.val a.val k.val * Attn.eighth := by
  have e8 : val_main_v122 (F := Ideal) (ix4 n h a k) = Attn.eighth := by
    pointwise [val_main_v122, val_main_cst_25]
    rfl
  show val_main_v118 (F := Ideal) x0 x1 x2 x3 (ix4 n h a k) * val_main_v122 (F := Ideal) (ix4 n h a k) = _
  rw [e8, ds_at x0 x1 x2 x3 n h a hD k]

end Cert.ReferenceIdeal.Read
-- ==== Proof.RefResults.lean ====
/-
  The reference's results, read at an index: the cotangents of the queries, the keys, the values and the bias.
-/
module

public import proofs.«01_k».proof.Proof.RefGrads
public import proofs.«01_k».proof.Proof.Results

@[expose] public section
set_option maxRecDepth 16384
noncomputable section
namespace Cert.ReferenceIdeal.Read
open Cert.ReferenceIdeal Gen Idealize.ShloMosaic

/-- What the band's slots `64 o … 64 o + 63` hold for chunk `N - o`, when there is such a chunk. -/
def slotAt (y : (⟨S128x576x16x64, .f32⟩ : BufTy).Contents (Elt Ideal)) (o : ℕ) (N : Fin 136) (j : Fin 64) (h : Fin 16) (d : Fin 64) : EReal :=
  if hh : (o ≤ N.val ∧ N.val - o < 128) ∧ 64 * o + j.val < 576 then
    y (ix4 (⟨N.val - o, hh.1.2⟩ : Fin 128) (⟨64 * o + j.val, hh.2⟩ : Fin 576) h d) else 0

theorem slot0 (y : (⟨S128x576x16x64, .f32⟩ : BufTy).Contents (Elt Ideal)) (N : Fin 136) (j : Fin 64) (h : Fin 16) (d : Fin 64) :
    (pad S136x64x16x64 ![0, 0, 0, 0] ![8, 0, 0, 0] ![0, 0, 0, 0] (extractStridedSlice S128x64x16x64 ![0, 0, 0, 0] y slices_S128x576x16x64_S128x64x16x64_0_0_0_0) (constant (F := Ideal) S_ .f32 0x00000000#32) pads_S128x64x16x64_S136x64x16x64_080_000_000_000 h_S_ : (⟨S136x64x16x64, .f32⟩ : BufTy).Contents (Elt Ideal)) (ix4 N j h d)
      = slotAt y 0 N j h d := by
  have hN := N.isLt; have hj := j.isLt
  unfold slotAt
  pointwise []
  split <;> split
  · congr 2 <;> apply Fin.ext <;> dsimp only <;> omega
  · omega
  · omega
  · rfl

theorem slot1 (y : (⟨S128x576x16x64, .f32⟩ : BufTy).Contents (Elt Ideal)) (N : Fin 136) (j : Fin 64) (h : Fin 16) (d : Fin 64) :
    (pad S136x64x16x64 ![1, 0, 0, 0] ![7, 0, 0, 0] ![0, 0, 0, 0] (extractStridedSlice S128x64x16x64 ![0, 64, 0, 0] y slices_S128x576x16x64_S128x64x16x64_0_64_0_0) (constant (F := Ideal) S_ .f32 0x00000000#32) pads_S128x64x16x64_S136x64x16x64_170_000_000_000 h_S_ : (⟨S136x64x16x64, .f32⟩ : BufTy).Contents (Elt Ideal)) (ix4 N j h d)
      = slotAt y 1 N j h d := by
  have hN := N.isLt; have hj := j.isLt
  unfold slotAt
  pointwise []
  split <;> split
  · congr 2 <;> apply Fin.ext <;> dsimp only <;> omega
  · omega
  · omega
  · rfl

theorem slot2 (y : (⟨S128x576x16x64, .f32⟩ : BufTy).Contents (Elt Ideal)) (N : Fin 136) (j : Fin 64) (h : Fin 16) (d : Fin 64) :
    (pad S136x64x16x64 ![2, 0, 0, 0] ![6, 0, 0, 0] ![0, 0, 0, 0] (extractStridedSlice S128x64x16x64 ![0, 128, 0, 0] y slices_S128x576x16x64_S128x64x16x64_0_128_0_0) (constant (F := Ideal) S_ .f32 0x00000000#32) pads_S128x64x16x64_S136x64x16x64_260_000_000_000 h_S_ : (⟨S136x64x16x64, .f32⟩ : BufTy).Contents (Elt Ideal)) (ix4 N j h d)
      = slotAt y 2 N j h d := by
  have hN := N.isLt; have hj := j.isLt
  unfold slotAt
  pointwise []
  split <;> split
  · congr 2 <;> apply Fin.ext <;> dsimp only <;> omega
  · omega
  · omega
  · rfl

theorem slot3 (y : (⟨S128x576x16x64, .f32⟩ : BufTy).Contents (Elt Ideal)) (N : Fin 136) (j : Fin 64) (h : Fin 16) (d : Fin 64) :
    (pad S136x64x16x64 ![3, 0, 0, 0] ![5, 0, 0, 0] ![0, 0, 0, 0] (extractStridedSlice S128x64x16x64 ![0, 192, 0, 0] y slices_S128x576x16x64_S128x64x16x64_0_192_0_0) (constant (F := Ideal) S_ .f32 0x00000000#32) pads_S128x64x16x64_S136x64x16x64_350_000_000_000 h_S_ : (⟨S136x64x16x64, .f32⟩ : BufTy).Contents (Elt Ideal)) (ix4 N j h d)
      = slotAt y 3 N j h d := by
  have hN := N.isLt; have hj := j.isLt
  unfold slotAt
  pointwise []
  split <;> split
  · congr 2 <;> apply Fin.ext <;> dsimp only <;> omega
  · omega
  · omega
  · rfl

theorem slot4 (y : (⟨S128x576x16x64, .f32⟩ : BufTy).Contents (Elt Ideal)) (N : Fin 136) (j : Fin 64) (h : Fin 16) (d : Fin 64) :
    (pad S136x64x16x64 ![4, 0, 0, 0] ![4, 0, 0, 0] ![0, 0, 0, 0] (extractStridedSlice S128x64x16x64 ![0, 256, 0, 0] y slices_S128x576x16x64_S128x64x16x64_0_256_0_0) (constant (F := Ideal) S_ .f32 0x00000000#32) pads_S128x64x16x64_S136x64x16x64_440_000_000_000 h_S_ : (⟨S136x64x16x64, .f32⟩ : BufTy).Contents (Elt Ideal)) (ix4 N j h d)
      = slotAt y 4 N j h d := by
  have hN := N.isLt; have hj := j.isLt
  unfold slotAt
  pointwise []
  split <;> split
  · congr 2 <;> apply Fin.ext <;> dsimp only <;> omega
  · omega
  · omega
  · rfl

theorem slot5 (y : (⟨S128x576x16x64, .f32⟩ : BufTy).Contents (Elt Ideal)) (N : Fin 136) (j : Fin 64) (h : Fin 16) (d : Fin 64) :
    (pad S136x64x16x64 ![5, 0, 0, 0] ![3, 0, 0, 0] ![0, 0, 0, 0] (extractStridedSlice S128x64x16x64 ![0, 320, 0, 0] y slices_S128x576x16x64_S128x64x16x64_0_320_0_0) (constant (F := Ideal) S_ .f32 0x00000000#32) pads_S128x64x16x64_S136x64x16x64_530_000_000_000 h_S_ : (⟨S136x64x16x64, .f32⟩ : BufTy).Contents (Elt Ideal)) (ix4 N j h d)
      = slotAt y 5 N j h d := by
  have hN := N.isLt; have hj := j.isLt
  unfold slotAt
  pointwise []
  split <;> split
  · congr 2 <;> apply Fin.ext <;> dsimp only <;> omega
  · omega
  · omega
  · rfl

theorem slot6 (y : (⟨S128x576x16x64, .f32⟩ : BufTy).Contents (Elt Ideal)) (N : Fin 136) (j : Fin 64) (h : Fin 16) (d : Fin 64) :
    (pad S136x64x16x64 ![6, 0, 0, 0] ![2, 0, 0, 0] ![0, 0, 0, 0] (extractStridedSlice S128x64x16x64 ![0, 384, 0, 0] y slices_S128x576x16x64_S128x64x16x64_0_384_0_0) (constant (F := Ideal) S_ .f32 0x00000000#32) pads_S128x64x16x64_S136x64x16x64_620_000_000_000 h_S_ : (⟨S136x64x16x64, .f32⟩ : BufTy).Contents (Elt Ideal)) (ix4 N j h d)
      = slotAt y 6 N j h d := by
  have hN := N.isLt; have hj := j.isLt
  unfold slotAt
  pointwise []
  split <;> split
  · congr 2 <;> apply Fin.ext <;> dsimp only <;> omega
  · omega
  · omega
  · rfl

theorem slot7 (y : (⟨S128x576x16x64, .f32⟩ : BufTy).Contents (Elt Ideal)) (N : Fin 136) (j : Fin 64) (h : Fin 16) (d : Fin 64) :
    (pad S136x64x16x64 ![7, 0, 0, 0] ![1, 0, 0, 0] ![0, 0, 0, 0] (extractStridedSlice S128x64x16x64 ![0, 448, 0, 0] y slices_S128x576x16x64_S128x64x16x64_0_448_0_0) (constant (F := Ideal) S_ .f32 0x00000000#32) pads_S128x64x16x64_S136x64x16x64_710_000_000_000 h_S_ : (⟨S136x64x16x64, .f32⟩ : BufTy).Contents (Elt Ideal)) (ix4 N j h d)
      = slotAt y 7 N j h d := by
  have hN := N.isLt; have hj := j.isLt
  unfold slotAt
  pointwise []
  split <;> split
  · congr 2 <;> apply Fin.ext <;> dsimp only <;> omega
  · omega
  · omega
  · rfl

theorem slot8 (y : (⟨S128x576x16x64, .f32⟩ : BufTy).Contents (Elt Ideal)) (N : Fin 136) (j : Fin 64) (h : Fin 16) (d : Fin 64) :
    (pad S136x64x16x64 ![8, 0, 0, 0] ![0, 0, 0, 0] ![0, 0, 0, 0] (extractStridedSlice S128x64x16x64 ![0, 512, 0, 0] y slices_S128x576x16x64_S128x64x16x64_0_512_0_0) (constant (F := Ideal) S_ .f32 0x00000000#32) pads_S128x64x16x64_S136x64x16x64_800_000_000_000 h_S_ : (⟨S136x64x16x64, .f32⟩ : BufTy).Contents (Elt Ideal)) (ix4 N j h d)
      = slotAt y 8 N j h d := by
  have hN := N.isLt; have hj := j.isLt
  unfold slotAt
  pointwise []
  split <;> split
  · congr 2 <;> apply Fin.ext <;> dsimp only <;> omega
  · omega
  · omega
  · rfl

/-- Nine slots added up, the last first, are a token's cotangent. -/
theorem slots_overlap (y : (⟨S128x576x16x64, .f32⟩ : BufTy).Contents (Elt Ideal)) (part : ℕ → ℕ → EReal) (h : Fin 16) (d : Fin 64)
    (hy : ∀ (n : Fin 128) (k : Fin 576), y (ix4 n k h d) = part n.val k.val) (r : Fin 8192) (N : Fin 136) (j : Fin 64)
    (hN : N.val = r.val / 64 + 8) (hj : j.val = r.val % 64) :
    slotAt y 8 N j h d + slotAt y 7 N j h d + slotAt y 6 N j h d + slotAt y 5 N j h d + slotAt y 4 N j h d
        + slotAt y 3 N j h d + slotAt y 2 N j h d + slotAt y 1 N j h d + slotAt y 0 N j h d
      = Attn.overlap part r.val := by
  have e : ∀ o : ℕ, o < 9 → slotAt y o N j h d = if r.val / 64 + 8 - o < 128 then part (r.val / 64 + 8 - o) (64 * o + r.val % 64) else 0 := by
    intro o ho
    unfold slotAt
    have hjl := j.isLt
    by_cases hc : r.val / 64 + 8 - o < 128
    · rw [dif_pos ⟨⟨by omega, by omega⟩, by omega⟩, if_pos hc, hy]
      dsimp only
      rw [hN, hj]
    · rw [dif_neg (by omega), if_neg hc]
  rw [e 8 (by omega), e 7 (by omega), e 6 (by omega), e 5 (by omega), e 4 (by omega), e 3 (by omega), e 2 (by omega), e 1 (by omega), e 0 (by omega)]
  unfold Attn.overlap
  simp only [Fin.sum_univ_succ, Fin.sum_univ_zero]
  simp
  ac_rfl

variable (x0 : (⟨S8192x1024, .f32⟩ : BufTy).Contents (Elt Ideal)) (x1 : (⟨S8192x2048, .f32⟩ : BufTy).Contents (Elt Ideal))
  (x2 : (⟨S16x513, .f32⟩ : BufTy).Contents (Elt Ideal)) (x3 : (⟨S8192x1024, .f32⟩ : BufTy).Contents (Elt Ideal))
  (n : Fin 128) (h : Fin 16) (a : Fin 64)

/-- What a chunk contributes to the value in a slot of its band. -/
theorem dvBand_at (k : Fin 576) (d : Fin 64) : val_main_v105 (F := Ideal) x0 x1 x2 x3 (ix4 n k h d)
    = (refData x0 x1 x2 x3).dvPart n.val k.val (64 * h.val + d.val) := by
  have e : val_main_v105 (F := Ideal) x0 x1 x2 x3 (ix4 n k h d) = val_main_v104 (F := Ideal) x0 x1 x2 x3 (ix4 n h d k) := by
    unfold val_main_v105
    generalize val_main_v104 (F := Ideal) x0 x1 x2 x3 = y
    pointwise []
  rw [e, val_main_v104_apply]
  unfold Attn.Data.dvPart
  refine Finset.sum_congr rfl fun a _ => ?_
  have e1 : lidx_main_v104 (ix4 n h d k) a = ix4 n h d a := by
    funext x; match x with | ⟨0, _⟩ => rfl | ⟨1, _⟩ => rfl | ⟨2, _⟩ => rfl | ⟨3, _⟩ => rfl
  have e2 : ridx_main_v104 (ix4 n h d k) a = ix4 n h a k := by
    funext x; match x with | ⟨0, _⟩ => rfl | ⟨1, _⟩ => rfl | ⟨2, _⟩ => rfl | ⟨3, _⟩ => rfl
  rw [e1, e2, cots_at x0 x1 x2 x3, weight_at x0 x1 x2 x3, mul_comm, show (64 * h.val + d.val) / 64 = h.val by omega]

/-- What a chunk contributes to the key in a slot of its band. -/
theorem dkBand_at (hD : (refData x0 x1 x2 x3).Real) (k : Fin 576) (d : Fin 64) : val_main_v125 (F := Ideal) x0 x1 x2 x3 (ix4 n k h d)
    = (refData x0 x1 x2 x3).dkPart n.val k.val (64 * h.val + d.val) := by
  have e : val_main_v125 (F := Ideal) x0 x1 x2 x3 (ix4 n k h d) = val_main_v124 (F := Ideal) x0 x1 x2 x3 (ix4 n h k d) := by
    unfold val_main_v125
    generalize val_main_v124 (F := Ideal) x0 x1 x2 x3 = y
    pointwise []
  rw [e, val_main_v124_apply]
  unfold Attn.Data.dkPart
  refine Finset.sum_congr rfl fun a _ => ?_
  have e1 : lidx_main_v124 (ix4 n h k d) a = ix4 n h a k := by
    funext x; match x with | ⟨0, _⟩ => rfl | ⟨1, _⟩ => rfl | ⟨2, _⟩ => rfl | ⟨3, _⟩ => rfl
  have e2 : ridx_main_v124 (ix4 n h k d) a = ix4 n a h d := by
    funext x; match x with | ⟨0, _⟩ => rfl | ⟨1, _⟩ => rfl | ⟨2, _⟩ => rfl | ⟨3, _⟩ => rfl
  rw [e1, e2, dsScaled_at x0 x1 x2 x3 n h a hD, queries_at x0 x1 x2 x3, mul_assoc, mul_comm Attn.eighth, show (64 * h.val + d.val) / 64 = h.val by omega]

/-- The queries' cotangents. -/
theorem resQ_at (hD : (refData x0 x1 x2 x3).Real) : val_main_v128 (F := Ideal) x0 x1 x2 x3 = (refData x0 x1 x2 x3).resQ := by
  funext i
  obtain ⟨r, c, rfl⟩ : ∃ (r : Fin 8192) (c : Fin 1024), i = ix2 r c := ⟨i 0, i 1, eq_ix2 i⟩
  have hr := r.isLt; have hc := c.isLt
  have e : val_main_v128 (F := Ideal) x0 x1 x2 x3 (ix2 r c) = val_main_v126 (F := Ideal) x0 x1 x2 x3
      (ix4 (⟨r.val / 64, by omega⟩ : Fin 128) (⟨c.val / 64, by omega⟩ : Fin 16) (⟨r.val % 64, by omega⟩ : Fin 64) (⟨c.val % 64, by omega⟩ : Fin 64)) := by
    unfold val_main_v128 val_main_v127
    generalize val_main_v126 (F := Ideal) x0 x1 x2 x3 = y
    pointwise []
  rw [e, val_main_v126_apply]
  show _ = (refData x0 x1 x2 x3).dq r.val c.val
  unfold Attn.Data.dq
  rw [Attn.sum_mul_real _ _ Attn.Data.eighth_nonneg Attn.Data.eighth_ne_top]
  refine Finset.sum_congr rfl fun k _ => ?_
  have e1 : ∀ (n : Fin 128) (h : Fin 16) (a d : Fin 64), lidx_main_v126 (ix4 n h a d) k = ix4 n h a k := by
    intro n h a d
    funext x; match x with | ⟨0, _⟩ => rfl | ⟨1, _⟩ => rfl | ⟨2, _⟩ => rfl | ⟨3, _⟩ => rfl
  have e2 : ∀ (n : Fin 128) (h : Fin 16) (a d : Fin 64), ridx_main_v126 (ix4 n h a d) k = ix4 n k h d := by
    intro n h a d
    funext x; match x with | ⟨0, _⟩ => rfl | ⟨1, _⟩ => rfl | ⟨2, _⟩ => rfl | ⟨3, _⟩ => rfl
  rw [e1, e2, dsScaled_at x0 x1 x2 x3 _ _ _ hD, keys_band x0 x1 x2 x3]
  dsimp only
  rw [show 64 * (c.val / 64) + c.val % 64 = c.val by omega]
  ac_rfl

/-- The values' cotangents. -/
theorem resV_at : val_main_v184 (F := Ideal) x0 x1 x2 x3 = (refData x0 x1 x2 x3).resV := by
  funext i
  obtain ⟨r, c, rfl⟩ : ∃ (r : Fin 8192) (c : Fin 1024), i = ix2 r c := ⟨i 0, i 1, eq_ix2 i⟩
  have hr := r.isLt; have hc := c.isLt
  have e : val_main_v184 (F := Ideal) x0 x1 x2 x3 (ix2 r c) = val_main_v154 (F := Ideal) x0 x1 x2 x3
      (ix4 (⟨r.val / 64 + 8, by omega⟩ : Fin 136) (⟨r.val % 64, by omega⟩ : Fin 64) (⟨c.val / 64, by omega⟩ : Fin 16) (⟨c.val % 64, by omega⟩ : Fin 64)) := by
    unfold val_main_v184 val_main_v183 val_main_v181
    generalize val_main_v154 (F := Ideal) x0 x1 x2 x3 = y
    pointwise []
    congr 2 <;> apply Fin.ext <;> dsimp only <;> omega
  rw [e]
  have hy := fun (n : Fin 128) (k : Fin 576) => dvBand_at x0 x1 x2 x3 n (⟨c.val / 64, by omega⟩ : Fin 16) k (⟨c.val % 64, by omega⟩ : Fin 64)
  dsimp only at hy
  rw [show 64 * (c.val / 64) + c.val % 64 = c.val by omega] at hy
  show _ = Attn.overlap (fun n k => (refData x0 x1 x2 x3).dvPart n k c.val) r.val
  rw [← slots_overlap _ (fun n k => (refData x0 x1 x2 x3).dvPart n k c.val) _ _ hy r (⟨r.val / 64 + 8, by omega⟩ : Fin 136) (⟨r.val % 64, by omega⟩ : Fin 64) rfl rfl,
    ← slot0, ← slot1, ← slot2, ← slot3, ← slot4, ← slot5, ← slot6, ← slot7, ← slot8]
  rfl

/-- The keys' cotangents. -/
theorem resK_at (hD : (refData x0 x1 x2 x3).Real) : val_main_v188 (F := Ideal) x0 x1 x2 x3 = (refData x0 x1 x2 x3).resK := by
  funext i
  obtain ⟨r, c, rfl⟩ : ∃ (r : Fin 8192) (c : Fin 1024), i = ix2 r c := ⟨i 0, i 1, eq_ix2 i⟩
  have hr := r.isLt; have hc := c.isLt
  have e : val_main_v188 (F := Ideal) x0 x1 x2 x3 (ix2 r c) = val_main_v180 (F := Ideal) x0 x1 x2 x3
      (ix4 (⟨r.val / 64 + 8, by omega⟩ : Fin 136) (⟨r.val % 64, by omega⟩ : Fin 64) (⟨c.val / 64, by omega⟩ : Fin 16) (⟨c.val % 64, by omega⟩ : Fin 64)) := by
    unfold val_main_v188 val_main_v187 val_main_v185
    generalize val_main_v180 (F := Ideal) x0 x1 x2 x3 = y
    pointwise []
    congr 2 <;> apply Fin.ext <;> dsimp only <;> omega
  rw [e]
  have hy := fun (n : Fin 128) (k : Fin 576) => dkBand_at x0 x1 x2 x3 n (⟨c.val / 64, by omega⟩ : Fin 16) hD k (⟨c.val % 64, by omega⟩ : Fin 64)
  dsimp only at hy
  rw [show 64 * (c.val / 64) + c.val % 64 = c.val by omega] at hy
  show _ = Attn.overlap (fun n k => (refData x0 x1 x2 x3).dkPart n k c.val) r.val
  rw [← slots_overlap _ (fun n k => (refData x0 x1 x2 x3).dkPart n k c.val) _ _ hy r (⟨r.val / 64 + 8, by omega⟩ : Fin 136) (⟨r.val % 64, by omega⟩ : Fin 64) rfl rfl,
    ← slot0, ← slot1, ← slot2, ← slot3, ← slot4, ← slot5, ← slot6, ← slot7, ← slot8]
  rfl

/-- A head's bias cotangent at a pair inside the band: the chunks' score cotangents added up. -/
theorem dsSum_at (hD : (refData x0 x1 x2 x3).Real) (k : Fin 576) : val_main_v121 (F := Ideal) x0 x1 x2 x3 (ix3 h a k)
    = ∑ n : Fin 128, (refData x0 x1 x2 x3).ds n.val h.val a.val k.val := by
  have c1 : val_main_cst_24 (F := Ideal) (Shape.Idx.first h_S_) = 0 := Ideal.ofBits_zero_f32
  have c2 : val_main_cst_23 (F := Ideal) (Shape.Idx.first h_S_) = 0 := Ideal.ofBits_zero_f32
  have e1 : ∀ o, idx_main_v120 (idx_main_v121 (ix3 h a k) o) = ix3 h a k := by
    intro o
    have hh := h.isLt; have ha := a.isLt; have hk := k.isLt
    have ho : o = 0 := Subsingleton.elim _ _
    subst ho
    funext x; match x with
      | ⟨0, _⟩ => apply Fin.ext; show (((0 * 16 + h.val) * 64 + a.val) * 576 + k.val) / 36864 = h.val; omega
      | ⟨1, _⟩ => apply Fin.ext; show (((0 * 16 + h.val) * 64 + a.val) * 576 + k.val) / 576 % 64 = a.val; omega
      | ⟨2, _⟩ => apply Fin.ext; show (((0 * 16 + h.val) * 64 + a.val) * 576 + k.val) % 576 = k.val; omega
  have e2 : ∀ n : Fin 128, idx_main_v119 (ix3 h a k) n = ix4 n h a k := by
    intro n
    funext x; match x with | ⟨0, _⟩ => rfl | ⟨1, _⟩ => rfl | ⟨2, _⟩ => rfl | ⟨3, _⟩ => rfl
  rw [val_main_v121_apply, c1, zero_add, Fin.sum_univ_one, val_main_v120_apply, e1, val_main_v119_apply, c2, zero_add]
  refine Finset.sum_congr rfl fun n _ => ?_
  rw [e2, ds_at x0 x1 x2 x3 n h a hD]

/-- The bias' cotangents. -/
theorem resB_at (hD : (refData x0 x1 x2 x3).Real) : val_main_v190 (F := Ideal) x0 x1 x2 x3 = (refData x0 x1 x2 x3).resB := by
  funext i
  obtain ⟨p, a, k, rfl⟩ : ∃ (p : Fin 8) (a : Fin 128) (k : Fin 640), i = ix3 p a k := ⟨i 0, i 1, i 2, eq_ix3 i⟩
  have hp := p.isLt; have ha := a.isLt; have hk := k.isLt
  have e0 : val_main_call3_v0 (F := Ideal) (Shape.Idx.first h_S_) = 0 := by
    rw [val_main_call3_v0_apply, val_main_c_44_apply]
    show ((((0#32 : BitVec 32).toInt : ℤ) : ℝ) : EReal) = 0
    simp
  have e : val_main_v190 (F := Ideal) x0 x1 x2 x3 (ix3 p a k)
      = if hc : k.val < 576 then val_main_v121 (F := Ideal) x0 x1 x2 x3
          (ix3 (⟨2 * p.val + a.val / 64, by omega⟩ : Fin 16) (⟨a.val % 64, by omega⟩ : Fin 64) (⟨k.val, hc⟩ : Fin 576))
        else val_main_call3_v0 (F := Ideal) (Shape.Idx.first h_S_) := by
    unfold val_main_v190 val_main_v189
    generalize val_main_v121 (F := Ideal) x0 x1 x2 x3 = y
    generalize val_main_call3_v0 (F := Ideal) = z
    pointwise []
    split <;> split
    · congr 2 <;> apply Fin.ext <;> dsimp only <;> omega
    · omega
    · omega
    · rfl
  show _ = ∑ n : Fin 128, (refData x0 x1 x2 x3).ds n (2 * p.val + a.val / 64) (a.val % 64) k.val
  rw [e]
  split
  · rw [dsSum_at x0 x1 x2 x3 _ _ hD]
  · rw [e0]
    refine (Finset.sum_eq_zero fun n _ => ?_).symm
    refine Attn.Data.ds_masked hD _ _ _ _ ?_
    unfold Attn.Data.Valid
    omega

end Cert.ReferenceIdeal.Read
-- ==== Proof.Products.lean ====
/-
  The products of a linear layer over the extended reals: the normalised rows that enter them, and a sum over the 8192
  tokens collected tile by tile.
-/
module

public import Idealize.ShloMosaic.Lib.Pointwise
public import Idealize.ShloMosaic.PureOps.Ideal.Laws

@[expose] public section
noncomputable section
namespace Cert.Lin
open Idealize.ShloMosaic

theorem zero2 : (![0, 0] : Fin 2 → ℕ) = fun _ => 0 := by decide

/-- An array of two axes. -/
abbrev Mat (a b : ℕ) := (⟨2, ![a, b]⟩ : Shape).Idx → EReal

/-- Row `r` of `H` divided by the root of its mean square (and `EPS`), scaled by the gains `G`, at column `j`. -/
def normed {n : ℕ} (H : Mat n 1024) (G : Mat 1 1024) (r : Fin n) (j : Fin 1024) : EReal :=
  H (ix2 r j) * Ideal.rsqrt (Ideal.div (∑ x : Fin 1024, H (ix2 r x) * H (ix2 r x)) (Ideal.ofBits FTy.f32 1149239296#32)
    + Ideal.ofBits FTy.f32 897988541#32) * G (ix2 0 j)

/-- The normalised row depends on that row of `H` alone. -/
theorem normed_congr {n k : ℕ} {H : Mat n 1024} {H' : Mat k 1024} {G G' : Mat 1 1024} {r : Fin n} {r' : Fin k} (j : Fin 1024)
    (h : ∀ x, H (ix2 r x) = H' (ix2 r' x)) (hg : ∀ x, G (ix2 0 x) = G' (ix2 0 x)) : normed H G r j = normed H' G' r' j := by
  unfold normed
  rw [h j, hg j, Finset.sum_congr rfl fun x _ => congrArg₂ (· * ·) (h x) (h x)]

/-- What token `x` adds to entry `(i, j)` of the gradient of a weight kept as outputs by inputs: `D` is the cotangent. -/
def weightTerm {n : ℕ} (H : Mat 8192 1024) (G : Mat 1 1024) (D : Mat 8192 n) (i : Fin n) (j : Fin 1024) (x : Fin 8192) : EReal :=
  D (ix2 x i) * normed H G x j

/-- The same of a weight kept as inputs by outputs. -/
def inputTerm {n : ℕ} (H : Mat 8192 1024) (G : Mat 1 1024) (D : Mat 8192 n) (i : Fin 1024) (j : Fin n) (x : Fin 8192) : EReal :=
  normed H G x i * D (ix2 x j)

/-- The same where the layer's input `A` is not normalised. -/
def plainTerm {n : ℕ} (A : Mat 8192 n) (D : Mat 8192 1024) (i : Fin n) (j : Fin 1024) (x : Fin 8192) : EReal :=
  A (ix2 x i) * D (ix2 x j)

/-- An entry of `C + A W`. -/
def addProduct {n k : ℕ} (C : Mat n k) (A : Mat n 1024) (W : Mat 1024 k) (i : Fin n) (j : Fin k) : EReal :=
  C (ix2 i j) + ∑ x : Fin 1024, A (ix2 i x) * W (ix2 x j)

/-- An entry of `A Wᵀ`. -/
def transposeProduct {n k : ℕ} (A : Mat n 1024) (W : Mat k 1024) (i : Fin n) (j : Fin k) : EReal :=
  ∑ x : Fin 1024, A (ix2 i x) * W (ix2 j x)

/-- A token's term, and nothing past the last token. -/
def tokenTerm (f : Fin 8192 → EReal) (k : ℕ) : EReal := if h : k < 8192 then f ⟨k, h⟩ else 0

/-- The sum over the first `n` tokens. -/
def upTo (f : Fin 8192 → EReal) (n : ℕ) : EReal := ∑ k ∈ Finset.range n, tokenTerm f k

theorem upTo_zero (f : Fin 8192 → EReal) : upTo f 0 = 0 := Finset.sum_range_zero _

/-- One tile more. -/
theorem upTo_tile (f : Fin 8192 → EReal) (n T : ℕ) (h : n + T ≤ 8192) :
    upTo f n + ∑ x : Fin T, f ⟨n + x.val, by omega⟩ = upTo f (n + T) := by
  unfold upTo
  rw [Finset.sum_range_add, Finset.sum_range (fun x => tokenTerm f (n + x))]
  congr 1
  refine Finset.sum_congr rfl fun x _ => ?_
  unfold tokenTerm
  rw [dif_pos (show n + x.val < 8192 by omega)]

/-- All tokens. -/
theorem upTo_all (f : Fin 8192 → EReal) : upTo f 8192 = ∑ k : Fin 8192, f k := by
  unfold upTo
  rw [Finset.sum_range]
  refine Finset.sum_congr rfl fun x _ => ?_
  unfold tokenTerm
  rw [dif_pos x.isLt]

end Cert.Lin
-- ==== Proof.UpWgrad.lean ====
/-
  The gradient of the feed-forward layer's first weight.
-/
module

public import proofs.«01_k».proof.Proof.Gen.UpWgradIdeal.Value
public import proofs.«01_k».proof.Proof.Gen.UpWgradReferenceIdeal.Read
public import proofs.«01_k».proof.Proof.Products
public import Idealize.ShloMosaic.Lib.Pipeline.ValueKit

@[expose] public section
set_option maxRecDepth 16384
noncomputable section
namespace Cert.UpWgradIdeal.Gen
open Idealize.ShloMosaic Idealize.ShloMosaic.TcCoe Idealize.SL.Sem Idealize.ShloMosaic.Pipeline

variable (m : (ℓ : Loc nD τ sig) → Buf (Elt Ideal) ℓ)

theorem idx0 : ∀ t : Fin cfg0.N, win0_0.index t (0 : Fin 2) = t.val % 4 ∧ win0_0.index t (1 : Fin 2) = 0 :=
  (by decide +kernel : ∀ t : Fin grid0.N, win0_0.index t (0 : Fin 2) = t.val % 4 ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = t.val % 4 ∧ win0_2.index t (1 : Fin 2) = t.val / 4 :=
  (by decide +kernel : ∀ t : Fin grid0.N, win0_2.index t (0 : Fin 2) = t.val % 4 ∧ win0_2.index t (1 : Fin 2) = t.val / 4)
theorem idx3 : ∀ t : Fin cfg0.N, win0_3.index t (0 : Fin 2) = t.val / 4 ∧ win0_3.index t (1 : Fin 2) = 0 :=
  (by decide +kernel : ∀ t : Fin grid0.N, win0_3.index t (0 : Fin 2) = t.val / 4 ∧ win0_3.index t (1 : Fin 2) = 0)

theorem point_lt (t : Fin cfg0.N) : t.val < 16 := t.isLt

theorem blk0 (c : Dev nD) (t : Fin cfg0.N) (x : Fin 2048) (y : Fin 1024) : iblk m c 0 t (ix2 x y)
    = m ((c : Thread nD τ).loc main_arg0) (ix2 (⟨2048 * (t.val % 4) + x.val, by have := point_lt t; omega⟩ : Fin 8192) y) := by
  obtain ⟨e0, e1⟩ := idx0 t
  rw [← V_main_arg0 m c]
  show V m c main_arg0 (((cfg0.win 0).blk t).view.emb (ix2 x y)) = _
  congr 1; funext a; apply Fin.ext
  match a with
  | ⟨0, _⟩ => show win0_0.index t (0 : Fin 2) * 2048 + 1 * x.val = 2048 * (t.val % 4) + x.val; omega
  | ⟨1, _⟩ => show win0_0.index t (1 : Fin 2) * 1024 + 1 * y.val = y.val; omega

theorem blk1 (c : Dev nD) (t : Fin cfg0.N) (x : Fin 1) (y : Fin 1024) : iblk m c 1 t (ix2 x y)
    = m ((c : Thread nD τ).loc main_arg1) (ix2 x y) := by
  obtain ⟨e0, e1⟩ := idx1 t
  rw [← V_main_arg1 m c]
  show V m c main_arg1 (((cfg0.win 1).blk t).view.emb (ix2 x y)) = _
  congr 1; funext a; apply Fin.ext
  match a with
  | ⟨0, _⟩ => show win0_1.index t (0 : Fin 2) * 1 + 1 * x.val = x.val; omega
  | ⟨1, _⟩ => show win0_1.index t (1 : Fin 2) * 1024 + 1 * y.val = y.val; omega

theorem blk2 (c : Dev nD) (t : Fin cfg0.N) (x : Fin 2048) (y : Fin 1408) : iblk m c 2 t (ix2 x y)
    = m ((c : Thread nD τ).loc main_arg2) (ix2 (⟨2048 * (t.val % 4) + x.val, by have := point_lt t; omega⟩ : Fin 8192) (⟨1408 * (t.val / 4) + y.val, by have := point_lt t; omega⟩ : Fin 5632)) := by
  obtain ⟨e0, e1⟩ := idx2 t
  rw [← V_main_arg2 m c]
  show V m c main_arg2 (((cfg0.win 2).blk t).view.emb (ix2 x y)) = _
  congr 1; funext a; apply Fin.ext
  match a with
  | ⟨0, _⟩ => show win0_2.index t (0 : Fin 2) * 2048 + 1 * x.val = 2048 * (t.val % 4) + x.val; omega
  | ⟨1, _⟩ => show win0_2.index t (1 : Fin 2) * 1408 + 1 * y.val = 1408 * (t.val / 4) + y.val; omega

theorem emb3 (t : Fin cfg0.N) (x : Fin 1408) (y : Fin 1024) : ((cfg0.win 3).blk t).view.emb (ix2 x y)
    = (ix2 (⟨1408 * (t.val / 4) + x.val, by have := point_lt t; omega⟩ : Fin 5632) y) := by
  obtain ⟨e0, e1⟩ := idx3 t
  funext a; apply Fin.ext
  match a with
  | ⟨0, _⟩ => show win0_3.index t (0 : Fin 2) * 1408 + 1 * x.val = 1408 * (t.val / 4) + x.val; omega
  | ⟨1, _⟩ => show win0_3.index t (1 : Fin 2) * 1024 + 1 * y.val = y.val; omega

/-- The first point of a run leaves the products of its tile over zeros. -/
theorem scratch_first (c : Dev nD) (t : Fin cfg0.N) (h0 : t.val % 4 = 0) :
    (outsAt0 m c t.val t.isLt).2 = k0_pay2 (iblk m c 0 t) (iblk m c 1 t) (iblk m c 2 t) (k0_pay1 (F := Ideal)) := by
  have h1 : ¬t.val % 4 = 3 := by omega
  rw [outsAt0_A m c t h0 h1]
  dsimp only
  unfold sout0_A_0
  rw [View.read_writes_eq_canon _ _ _ (scover0_A_0 c _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, View.readCov_eq_canon']
  rw [View.canon_cons_unit_zero Lin.zero2, View.ld_unit_zero Lin.zero2, View.ld_unit_zero Lin.zero2, View.ld_unit_zero Lin.zero2]
  refine congrArg (fun z => k0_pay2 (iblk m c 0 t) (iblk m c 1 t) (iblk m c 2 t) z) (funext fun j => ?_)
  exact View.canon_cons_emb _ _ _ j

/-- A later point adds the products of its tile. -/
theorem scratch_next (c : Dev nD) (t : Fin cfg0.N) (h0 : ¬t.val % 4 = 0) :
    (outsAt0 m c t.val t.isLt).2 = k0_pay2 (iblk m c 0 t) (iblk m c 1 t) (iblk m c 2 t) (outsAt0 m c (t.val - 1) (Nat.lt_of_le_of_lt (Nat.sub_le _ _) t.isLt)).2 := by
  by_cases h1 : t.val % 4 = 3
  · rw [outsAt0_C m c t h0 h1]
    dsimp only
    unfold sout0_C_0
    rw [View.read_writes_eq_canon _ _ _ (scover0_C_0 c _ _ _ _ _ _ _ _ _ _ _ _ _ _ _ _ _)]
    unfold kernelRun0_C
    dsimp only
    sl_unfold_words
    simp only [View.readAt_eq_ld, (hs0_0 t).read_unread, (hs0_1 t).read_unread, (hs0_2 t).read_unread, (hs0_3 t).read_unread, View.readCov_eq_canon']
    rw [View.canon_cons_unit_zero Lin.zero2, View.ld_unit_zero Lin.zero2, View.ld_unit_zero Lin.zero2, View.ld_unit_zero Lin.zero2, View.ld_unit_zero Lin.zero2]
    exact congrArg (fun z => k0_pay2 (iblk m c 0 t) (iblk m c 1 t) (iblk m c 2 t) z) ((Memref.isWhole_whole _).read_unread _)
  · rw [outsAt0_B m c t h0 h1]
    dsimp only
    unfold sout0_B_0
    rw [View.read_writes_eq_canon _ _ _ (scover0_B_0 c _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, View.readCov_eq_canon']
    rw [View.canon_cons_unit_zero Lin.zero2, View.ld_unit_zero Lin.zero2, View.ld_unit_zero Lin.zero2, View.ld_unit_zero Lin.zero2, View.ld_unit_zero Lin.zero2]
    exact congrArg (fun z => k0_pay2 (iblk m c 0 t) (iblk m c 1 t) (iblk m c 2 t) z) ((Memref.isWhole_whole _).read_unread _)

/-- The last point of a run rounds what its scratch then holds. -/
theorem out_last (c : Dev nD) (t : Fin cfg0.N) (h1 : t.val % 4 = 3) :
    (outsAt0 m c t.val t.isLt).1 = k0_pay3 (F := Ideal) (outsAt0 m c t.val t.isLt).2 := by
  have h0 : ¬t.val % 4 = 0 := by omega
  rw [scratch_next m c t h0, outsAt0_C m c t h0 h1]
  dsimp only
  unfold out0_C_3
  rw [View.read_writes_eq_canon _ _ _ (cover0_C_3 c _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread, View.readCov_eq_canon']
  rw [View.canon_cons_unit_zero Lin.zero2]
  refine congrArg (k0_pay3 (F := Ideal)) (funext fun j => (View.canon_cons_emb _ _ _ j).trans (congrFun ?_ j))
  rw [View.ld_unit_zero Lin.zero2, View.ld_unit_zero Lin.zero2, View.ld_unit_zero Lin.zero2, View.ld_unit_zero Lin.zero2]
  exact congrArg (fun z => k0_pay2 (iblk m c 0 t) (iblk m c 1 t) (iblk m c 2 t) z) ((Memref.isWhole_whole _).read_unread _)

/-- What token `x` adds to the entry `(i, j)` of the gradient. -/
def term (c : Dev nD) (i : Fin 5632) (j : Fin 1024) (x : Fin 8192) : EReal :=
  Lin.weightTerm (m ((c : Thread nD τ).loc main_arg0)) (m ((c : Thread nD τ).loc main_arg1)) (m ((c : Thread nD τ).loc main_arg2)) i j x

/-- The gradient of the weight. -/
def result (c : Dev nD) : S5632x1024.Idx → EReal := fun i => ∑ x : Fin 8192, term m c (i 0) (i 1) x

/-- A tile's products, entry by entry. -/
theorem tile_apply (c : Dev nD) (t : Fin cfg0.N) (acc : Vec Ideal S1408x1024 .f32) (r : Fin 1408) (l : Fin 1024) :
    k0_pay2 (iblk m c 0 t) (iblk m c 1 t) (iblk m c 2 t) acc (ix2 r l)
      = (acc (ix2 r l) : EReal) + ∑ x : Fin 2048, term m c ⟨1408 * (t.val / 4) + r.val, by have := point_lt t; omega⟩ l ⟨2048 * (t.val % 4) + x.val, by omega⟩ := by
  pointwise [k0_pay2]
  exact congrArg (_ + ·) (Finset.sum_congr rfl fun x _ => congrArg₂ (· * ·) (blk2 m c t x r) (Lin.normed_congr (H := iblk m c 0 t) (G := iblk m c 1 t) (r := x) l (fun y => blk0 m c t x y) (fun y => blk1 m c t 0 y)))

theorem zeros_apply (r : Fin 1408) (l : Fin 1024) : k0_pay1 (F := Ideal) (ix2 r l) = (0 : EReal) := by
  pointwise [k0_pay1]

/-- What the scratch holds after each point: the sum over the tokens of the run so far. -/
theorem scratch_apply (c : Dev nD) (n : ℕ) : ∀ (t : Fin cfg0.N), t.val = n → ∀ (r : Fin 1408) (l : Fin 1024),
    (outsAt0 m c t.val t.isLt).2 (ix2 r l)
      = Lin.upTo (term m c ⟨1408 * (t.val / 4) + r.val, by have := point_lt t; omega⟩ l) (2048 * (t.val % 4) + 2048) := by
  induction n with
  | zero =>
    intro t ht r l
    have h0 : t.val % 4 = 0 := by omega
    rw [scratch_first m c t h0, tile_apply, zeros_apply,
      ← Lin.upTo_tile _ (2048 * (t.val % 4)) 2048 (by omega)]
    congr 1
    rw [h0]; exact (Lin.upTo_zero _).symm
  | succ n ih =>
    intro t ht r l
    by_cases h0 : t.val % 4 = 0
    · rw [scratch_first m c t h0, tile_apply, zeros_apply,
        ← Lin.upTo_tile _ (2048 * (t.val % 4)) 2048 (by omega)]
      congr 1
      rw [h0]; exact (Lin.upTo_zero _).symm
    · rw [scratch_next m c t h0, tile_apply, ← Lin.upTo_tile _ (2048 * (t.val % 4)) 2048 (by omega)]
      congr 1
      have hp := point_lt t
      refine (ih ⟨t.val - 1, Nat.lt_of_le_of_lt (Nat.sub_le _ _) t.isLt⟩ (by show t.val - 1 = n; omega) r l).trans ?_
      have e1 : (t.val - 1) / 4 = t.val / 4 := by omega
      have e2 : 2048 * ((t.val - 1) % 4) + 2048 = 2048 * (t.val % 4) := by omega
      simp only [e1, e2]

/-- What the last point of a run writes back. -/
theorem point_apply (c : Dev nD) (t : Fin cfg0.N) (h1 : t.val % 4 = 3) (x : Fin 1408) (y : Fin 1024) :
    (outsAt0 m c t.val t.isLt).1 (ix2 x y) = result m c (ix2 (⟨1408 * (t.val / 4) + x.val, by have := point_lt t; omega⟩ : Fin 5632) y) := by
  rw [out_last m c t h1]
  refine Eq.trans (b := (outsAt0 m c t.val t.isLt).2 (ix2 x y)) ?_ ?_
  · pointwise [k0_pay3]
  rw [scratch_apply m c t.val t rfl, show 2048 * (t.val % 4) + 2048 = 8192 by omega, Lin.upTo_all]
  rfl

theorem flushed3_eq (c : Dev nD) (t : Fin cfg0.N) (hf : (cfg0.win 3).flush t = true) :
    (dats m 0 c).flushed 3 t = ((cfg0.win 3).blk t).view.read (Elt Ideal) (result m c) := by
  rw [Value.flushed3]
  funext j
  obtain ⟨x, y, rfl⟩ : ∃ (x : Fin 1408) (y : Fin 1024), j = ix2 x y := ⟨j 0, j 1, eq_ix2 j⟩
  show (outsAt0 m c t.val t.isLt).1 (ix2 x y) = result m c (((cfg0.win 3).blk t).view.emb (ix2 x y))
  rw [emb3]
  exact point_apply m c t ((flush0_3 t).mp hf) x y

theorem covered3 (i : S5632x1024.Idx) : ∃ t : Fin cfg0.N, (cfg0.win 3).flush t = true ∧ i ∈ ((cfg0.win 3).blk t).view.set := by
  obtain ⟨r, l, rfl⟩ : ∃ (r : Fin 5632) (l : Fin 1024), i = ix2 r l := ⟨i 0, i 1, eq_ix2 i⟩
  have hr := r.isLt
  have hl := l.isLt
  refine ⟨⟨4 * (r.val / 1408) + 3, by show _ < 16; omega⟩, (flush0_3 _).mpr (by show (4 * (r.val / 1408) + 3) % 4 = 3; omega), ?_⟩
  have h := ((cfg0.win 3).blk (⟨4 * (r.val / 1408) + 3, by show _ < 16; omega⟩ : Fin cfg0.N)).view.emb_mem_set (ix2 (⟨r.val % 1408, Nat.mod_lt _ (by omega)⟩ : Fin 1408) l)
  rw [emb3] at h
  have e : ix2 r l = ix2 (⟨1408 * ((4 * (r.val / 1408) + 3) / 4) + r.val % 1408, by omega⟩ : Fin 5632) l := by
    congr 1 <;> apply Fin.ext <;> dsimp only <;> omega
  rw [e]; exact h

/-- The result array after the run. -/
theorem final (c : Dev nD) : (dats m 0 c).arrAt 3 cfg0.N = result m c :=
  (dats m 0 c).arrAt_eq_of_cover 3 (result m c) (fun t hf => flushed3_eq m c t hf) covered3

end Cert.UpWgradIdeal.Gen

namespace Cert.UpWgradReferenceIdeal.Read
open Cert.UpWgradReferenceIdeal Cert.UpWgradReferenceIdeal.Gen Idealize.ShloMosaic Idealize.ShloMosaic.TcCoe Idealize.SL.Sem Idealize.ShloMosaic.StableHlo

/-- The reference's result. -/
theorem result_eq (x0 : (⟨S8192x1024, .f32⟩ : BufTy).Contents (Elt Ideal)) (x1 : (⟨S1x1024, .f32⟩ : BufTy).Contents (Elt Ideal)) (x2 : (⟨S8192x5632, .bf16⟩ : BufTy).Contents (Elt Ideal)) : val_main_v19 (F := Ideal) x0 x1 x2 = (fun i => ∑ x : Fin 8192, x2 (ix2 x (i 0)) * Cert.Lin.normed x0 x1 x (i 1) : (⟨2, ![5632, 1024]⟩ : Shape).Idx → EReal) := by
  funext i
  obtain ⟨r, l, rfl⟩ : ∃ (r : Fin 5632) (l : Fin 1024), i = ix2 r l := ⟨i 0, i 1, eq_ix2 i⟩
  pointwise [val_main_cst, val_main_v0, val_main_v1, val_main_cst_0, val_main_v2, val_main_v3, val_main_cst_1, val_main_v4, val_main_v5, val_main_cst_2, val_main_v6, val_main_v7, val_main_v8, val_main_v9, val_main_v10, val_main_v11, val_main_v12, val_main_v13, val_main_v14, val_main_v15, val_main_v16, val_main_v17, val_main_v18, val_main_v19]
  rfl

end Cert.UpWgradReferenceIdeal.Read
-- ==== Proof.DownWgrad.lean ====
/-
  The gradient of the feed-forward layer's second weight.
-/
module

public import proofs.«01_k».proof.Proof.Gen.DownWgradIdeal.Value
public import proofs.«01_k».proof.Proof.Gen.DownWgradReferenceIdeal.Read
public import proofs.«01_k».proof.Proof.Products
public import Idealize.ShloMosaic.Lib.Pipeline.ValueKit

@[expose] public section
set_option maxRecDepth 16384
noncomputable section
namespace Cert.DownWgradIdeal.Gen
open Idealize.ShloMosaic Idealize.ShloMosaic.TcCoe Idealize.SL.Sem Idealize.ShloMosaic.Pipeline

variable (m : (ℓ : Loc nD τ sig) → Buf (Elt Ideal) ℓ)

theorem idx0 : ∀ t : Fin cfg0.N, win0_0.index t (0 : Fin 2) = t.val % 4 ∧ win0_0.index t (1 : Fin 2) = t.val / 4 :=
  (by decide +kernel : ∀ t : Fin grid0.N, win0_0.index t (0 : Fin 2) = t.val % 4 ∧ win0_0.index t (1 : Fin 2) = t.val / 4)
theorem idx1 : ∀ t : Fin cfg0.N, win0_1.index t (0 : Fin 2) = t.val % 4 ∧ win0_1.index t (1 : Fin 2) = 0 :=
  (by decide +kernel : ∀ t : Fin grid0.N, win0_1.index t (0 : Fin 2) = t.val % 4 ∧ win0_1.index t (1 : Fin 2) = 0)
theorem idx2 : ∀ t : Fin cfg0.N, win0_2.index t (0 : Fin 2) = t.val / 4 ∧ win0_2.index t (1 : Fin 2) = 0 :=
  (by decide +kernel : ∀ t : Fin grid0.N, win0_2.index t (0 : Fin 2) = t.val / 4 ∧ win0_2.index t (1 : Fin 2) = 0)

theorem point_lt (t : Fin cfg0.N) : t.val < 8 := t.isLt

theorem blk0 (c : Dev nD) (t : Fin cfg0.N) (x : Fin 2048) (y : Fin 1408) : iblk m c 0 t (ix2 x y)
    = m ((c : Thread nD τ).loc main_arg0) (ix2 (⟨2048 * (t.val % 4) + x.val, by have := point_lt t; omega⟩ : Fin 8192) (⟨1408 * (t.val / 4) + y.val, by have := point_lt t; omega⟩ : Fin 2816)) := by
  obtain ⟨e0, e1⟩ := idx0 t
  rw [← V_main_arg0 m c]
  show V m c main_arg0 (((cfg0.win 0).blk t).view.emb (ix2 x y)) = _
  congr 1; funext a; apply Fin.ext
  match a with
  | ⟨0, _⟩ => show win0_0.index t (0 : Fin 2) * 2048 + 1 * x.val = 2048 * (t.val % 4) + x.val; omega
  | ⟨1, _⟩ => show win0_0.index t (1 : Fin 2) * 1408 + 1 * y.val = 1408 * (t.val / 4) + y.val; omega

theorem blk1 (c : Dev nD) (t : Fin cfg0.N) (x : Fin 2048) (y : Fin 1024) : iblk m c 1 t (ix2 x y)
    = m ((c : Thread nD τ).loc main_arg1) (ix2 (⟨2048 * (t.val % 4) + x.val, by have := point_lt t; omega⟩ : Fin 8192) y) := by
  obtain ⟨e0, e1⟩ := idx1 t
  rw [← V_main_arg1 m c]
  show V m c main_arg1 (((cfg0.win 1).blk t).view.emb (ix2 x y)) = _
  congr 1; funext a; apply Fin.ext
  match a with
  | ⟨0, _⟩ => show win0_1.index t (0 : Fin 2) * 2048 + 1 * x.val = 2048 * (t.val % 4) + x.val; omega
  | ⟨1, _⟩ => show win0_1.index t (1 : Fin 2) * 1024 + 1 * y.val = y.val; omega

theorem emb2 (t : Fin cfg0.N) (x : Fin 1408) (y : Fin 1024) : ((cfg0.win 2).blk t).view.emb (ix2 x y)
    = (ix2 (⟨1408 * (t.val / 4) + x.val, by have := point_lt t; omega⟩ : Fin 2816) y) := by
  obtain ⟨e0, e1⟩ := idx2 t
  funext a; apply Fin.ext
  match a with
  | ⟨0, _⟩ => show win0_2.index t (0 : Fin 2) * 1408 + 1 * x.val = 1408 * (t.val / 4) + x.val; omega
  | ⟨1, _⟩ => show win0_2.index t (1 : Fin 2) * 1024 + 1 * y.val = y.val; omega

/-- The first point of a run leaves the products of its tile over zeros. -/
theorem scratch_first (c : Dev nD) (t : Fin cfg0.N) (h0 : t.val % 4 = 0) :
    (outsAt0 m c t.val t.isLt).2 = k0_pay2 (k0_pay1 (F := Ideal)) (iblk m c 0 t) (iblk m c 1 t) := by
  have h1 : ¬t.val % 4 = 3 := by omega
  rw [outsAt0_A m c t h0 h1]
  dsimp only
  unfold sout0_A_0
  rw [View.read_writes_eq_canon _ _ _ (scover0_A_0 c _ _ _ _ _ _ _ _ _ _ _ _ _)]
  unfold kernelRun0_A
  dsimp only
  sl_unfold_words
  simp only [View.readAt_eq_ld, (hs0_0 t).read_unread, (hs0_1 t).read_unread, (hs0_2 t).read_unread, View.readCov_eq_canon']
  rw [View.canon_cons_unit_zero Lin.zero2, View.ld_unit_zero Lin.zero2, View.ld_unit_zero Lin.zero2]
  refine congrArg (fun z => k0_pay2 z (iblk m c 0 t) (iblk m c 1 t)) (funext fun j => ?_)
  exact View.canon_cons_emb _ _ _ j

/-- A later point adds the products of its tile. -/
theorem scratch_next (c : Dev nD) (t : Fin cfg0.N) (h0 : ¬t.val % 4 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    unfold sout0_C_0
    rw [View.read_writes_eq_canon _ _ _ (scover0_C_0 c _ _ _ _ _ _ _ _ _ _ _ _ _ _)]
    unfold kernelRun0_C
    dsimp only
    sl_unfold_words
    simp only [View.readAt_eq_ld, (hs0_0 t).read_unread, (hs0_1 t).read_unread, (hs0_2 t).read_unread, View.readCov_eq_canon']
    rw [View.canon_cons_unit_zero Lin.zero2, View.ld_unit_zero Lin.zero2, View.ld_unit_zero Lin.zero2, View.ld_unit_zero Lin.zero2]
    exact congrArg (fun z => k0_pay2 z (iblk m c 0 t) (iblk m c 1 t)) ((Memref.isWhole_whole _).read_unread _)
  · rw [outsAt0_B m c t h0 h1]
    dsimp only
    unfold sout0_B_0
    rw [View.read_writes_eq_canon _ _ _ (scover0_B_0 c _ _ _ _ _ _ _ _ _ _ _ _ _ _)]
    unfold kernelRun0_B
    dsimp only
    sl_unfold_words
    simp only [View.readAt_eq_ld, (hs0_0 t).read_unread, (hs0_1 t).read_unread, (hs0_2 t).read_unread, View.readCov_eq_canon']
    rw [View.canon_cons_unit_zero Lin.zero2, View.ld_unit_zero Lin.zero2, View.ld_unit_zero Lin.zero2, View.ld_unit_zero Lin.zero2]
    exact congrArg (fun z => k0_pay2 z (iblk m c 0 t) (iblk m c 1 t)) ((Memref.isWhole_whole _).read_unread _)

/-- The last point of a run rounds what its scratch then holds. -/
theorem out_last (c : Dev nD) (t : Fin cfg0.N) (h1 : t.val % 4 = 3) :
    (outsAt0 m c t.val t.isLt).1 = k0_pay3 (F := Ideal) (outsAt0 m c t.val t.isLt).2 := by
  have h0 : ¬t.val % 4 = 0 := by omega
  rw [scratch_next m c t h0, outsAt0_C m c t h0 h1]
  dsimp only
  unfold out0_C_2
  rw [View.read_writes_eq_canon _ _ _ (cover0_C_2 c _ _ _ _ _ _ _ _ _ _ _ _ _ _)]
  unfold kernelRun0_C
  dsimp only
  sl_unfold_words
  simp only [View.readAt_eq_ld, (hs0_0 t).read_unread, (hs0_1 t).read_unread, (hs0_2 t).read_unread, View.readCov_eq_canon']
  rw [View.canon_cons_unit_zero Lin.zero2]
  refine congrArg (k0_pay3 (F := Ideal)) (funext fun j => (View.canon_cons_emb _ _ _ j).trans (congrFun ?_ j))
  rw [View.ld_unit_zero Lin.zero2, View.ld_unit_zero Lin.zero2, View.ld_unit_zero Lin.zero2]
  exact congrArg (fun z => k0_pay2 z (iblk m c 0 t) (iblk m c 1 t)) ((Memref.isWhole_whole _).read_unread _)

/-- What token `x` adds to the entry `(i, j)` of the gradient. -/
def term (c : Dev nD) (i : Fin 2816) (j : Fin 1024) (x : Fin 8192) : EReal :=
  Lin.plainTerm (m ((c : Thread nD τ).loc main_arg0)) (m ((c : Thread nD τ).loc main_arg1)) i j x

/-- The gradient of the weight. -/
def result (c : Dev nD) : S2816x1024.Idx → EReal := fun i => ∑ x : Fin 8192, term m c (i 0) (i 1) x

/-- A tile's products, entry by entry. -/
theorem tile_apply (c : Dev nD) (t : Fin cfg0.N) (acc : Vec Ideal S1408x1024 .f32) (r : Fin 1408) (l : Fin 1024) :
    k0_pay2 acc (iblk m c 0 t) (iblk m c 1 t) (ix2 r l)
      = (acc (ix2 r l) : EReal) + ∑ x : Fin 2048, term m c ⟨1408 * (t.val / 4) + r.val, by have := point_lt t; omega⟩ l ⟨2048 * (t.val % 4) + x.val, by omega⟩ := by
  pointwise [k0_pay2]
  exact congrArg (_ + ·) (Finset.sum_congr rfl fun x _ => congrArg₂ (· * ·) (blk0 m c t x r) (blk1 m c t x l))

theorem zeros_apply (r : Fin 1408) (l : Fin 1024) : k0_pay1 (F := Ideal) (ix2 r l) = (0 : EReal) := by
  pointwise [k0_pay1]

/-- What the scratch holds after each point: the sum over the tokens of the run so far. -/
theorem scratch_apply (c : Dev nD) (n : ℕ) : ∀ (t : Fin cfg0.N), t.val = n → ∀ (r : Fin 1408) (l : Fin 1024),
    (outsAt0 m c t.val t.isLt).2 (ix2 r l)
      = Lin.upTo (term m c ⟨1408 * (t.val / 4) + r.val, by have := point_lt t; omega⟩ l) (2048 * (t.val % 4) + 2048) := by
  induction n with
  | zero =>
    intro t ht r l
    have h0 : t.val % 4 = 0 := by omega
    rw [scratch_first m c t h0, tile_apply, zeros_apply,
      ← Lin.upTo_tile _ (2048 * (t.val % 4)) 2048 (by omega)]
    congr 1
    rw [h0]; exact (Lin.upTo_zero _).symm
  | succ n ih =>
    intro t ht r l
    by_cases h0 : t.val % 4 = 0
    · rw [scratch_first m c t h0, tile_apply, zeros_apply,
        ← Lin.upTo_tile _ (2048 * (t.val % 4)) 2048 (by omega)]
      congr 1
      rw [h0]; exact (Lin.upTo_zero _).symm
    · rw [scratch_next m c t h0, tile_apply, ← Lin.upTo_tile _ (2048 * (t.val % 4)) 2048 (by omega)]
      congr 1
      have hp := point_lt t
      refine (ih ⟨t.val - 1, Nat.lt_of_le_of_lt (Nat.sub_le _ _) t.isLt⟩ (by show t.val - 1 = n; omega) r l).trans ?_
      have e1 : (t.val - 1) / 4 = t.val / 4 := by omega
      have e2 : 2048 * ((t.val - 1) % 4) + 2048 = 2048 * (t.val % 4) := by omega
      simp only [e1, e2]

/-- What the last point of a run writes back. -/
theorem point_apply (c : Dev nD) (t : Fin cfg0.N) (h1 : t.val % 4 = 3) (x : Fin 1408) (y : Fin 1024) :
    (outsAt0 m c t.val t.isLt).1 (ix2 x y) = result m c (ix2 (⟨1408 * (t.val / 4) + x.val, by have := point_lt t; omega⟩ : Fin 2816) y) := by
  rw [out_last m c t h1]
  refine Eq.trans (b := (outsAt0 m c t.val t.isLt).2 (ix2 x y)) ?_ ?_
  · pointwise [k0_pay3]
  rw [scratch_apply m c t.val t rfl, show 2048 * (t.val % 4) + 2048 = 8192 by omega, Lin.upTo_all]
  rfl

theorem flushed2_eq (c : Dev nD) (t : Fin cfg0.N) (hf : (cfg0.win 2).flush t = true) :
    (dats m 0 c).flushed 2 t = ((cfg0.win 2).blk t).view.read (Elt Ideal) (result m c) := by
  rw [Value.flushed2]
  funext j
  obtain ⟨x, y, rfl⟩ : ∃ (x : Fin 1408) (y : Fin 1024), j = ix2 x y := ⟨j 0, j 1, eq_ix2 j⟩
  show (outsAt0 m c t.val t.isLt).1 (ix2 x y) = result m c (((cfg0.win 2).blk t).view.emb (ix2 x y))
  rw [emb2]
  exact point_apply m c t ((flush0_2 t).mp hf) x y

theorem covered2 (i : S2816x1024.Idx) : ∃ t : Fin cfg0.N, (cfg0.win 2).flush t = true ∧ i ∈ ((cfg0.win 2).blk t).view.set := by
  obtain ⟨r, l, rfl⟩ : ∃ (r : Fin 2816) (l : Fin 1024), i = ix2 r l := ⟨i 0, i 1, eq_ix2 i⟩
  have hr := r.isLt
  have hl := l.isLt
  refine ⟨⟨4 * (r.val / 1408) + 3, by show _ < 8; omega⟩, (flush0_2 _).mpr (by show (4 * (r.val / 1408) + 3) % 4 = 3; omega), ?_⟩
  have h := ((cfg0.win 2).blk (⟨4 * (r.val / 1408) + 3, by show _ < 8; omega⟩ : Fin cfg0.N)).view.emb_mem_set (ix2 (⟨r.val % 1408, Nat.mod_lt _ (by omega)⟩ : Fin 1408) l)
  rw [emb2] at h
  have e : ix2 r l = ix2 (⟨1408 * ((4 * (r.val / 1408) + 3) / 4) + r.val % 1408, by omega⟩ : Fin 2816) l := by
    congr 1 <;> apply Fin.ext <;> dsimp only <;> omega
  rw [e]; exact h

/-- The result array after the run. -/
theorem final (c : Dev nD) : (dats m 0 c).arrAt 2 cfg0.N = result m c :=
  (dats m 0 c).arrAt_eq_of_cover 2 (result m c) (fun t hf => flushed2_eq m c t hf) covered2

end Cert.DownWgradIdeal.Gen

namespace Cert.DownWgradReferenceIdeal.Read
open Cert.DownWgradReferenceIdeal Cert.DownWgradReferenceIdeal.Gen Idealize.ShloMosaic Idealize.ShloMosaic.TcCoe Idealize.SL.Sem Idealize.ShloMosaic.StableHlo

/-- The reference's result. -/
theorem result_eq (x0 : (⟨S8192x2816, .bf16⟩ : BufTy).Contents (Elt Ideal)) (x1 : (⟨S8192x1024, .f32⟩ : BufTy).Contents (Elt Ideal)) : val_main_v5 (F := Ideal) x0 x1 = (fun i => ∑ x : Fin 8192, x0 (ix2 x (i 0)) * x1 (ix2 x (i 1)) : (⟨2, ![2816, 1024]⟩ : Shape).Idx → EReal) := by
  funext i
  obtain ⟨r, l, rfl⟩ : ∃ (r : Fin 2816) (l : Fin 1024), i = ix2 r l := ⟨i 0, i 1, eq_ix2 i⟩
  pointwise [val_main_cst, val_main_v0, val_main_v1, val_main_v2, val_main_v3, val_main_v4, val_main_v5]
  exact Finset.sum_congr rfl fun x _ => mul_comm _ _

end Cert.DownWgradReferenceIdeal.Read
-- ==== Proof.UpProj.lean ====
/-
  The feed-forward layer's first product.
-/
module

public import proofs.«01_k».proof.Proof.Gen.UpProjIdeal.Value
public import proofs.«01_k».proof.Proof.Gen.UpProjReferenceIdeal.Read
public import proofs.«01_k».proof.Proof.Products
public import Idealize.ShloMosaic.Lib.Pipeline.ValueKit

@[expose] public section
set_option maxRecDepth 16384
noncomputable section
namespace Cert.UpProjIdeal.Gen
open Idealize.ShloMosaic Idealize.ShloMosaic.TcCoe Idealize.SL.Sem Idealize.ShloMosaic.Pipeline

variable (m : (ℓ : Loc nD τ sig) → Buf (Elt Ideal) ℓ)

theorem idx0 : ∀ t : Fin cfg0.N, win0_0.index t (0 : Fin 2) = t.val % 8 ∧ win0_0.index t (1 : Fin 2) = 0 :=
  (by decide +kernel : ∀ t : Fin grid0.N, win0_0.index t (0 : Fin 2) = t.val % 8 ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)
theorem idx3 : ∀ t : Fin cfg0.N, win0_3.index t (0 : Fin 2) = t.val % 8 ∧ win0_3.index t (1 : Fin 2) = t.val / 8 :=
  (by decide +kernel : ∀ t : Fin grid0.N, win0_3.index t (0 : Fin 2) = t.val % 8 ∧ win0_3.index t (1 : Fin 2) = t.val / 8)

theorem point_lt (t : Fin cfg0.N) : t.val < 16 := t.isLt

theorem blk0 (c : Dev nD) (t : Fin cfg0.N) (x : Fin 1024) (y : Fin 1024) : iblk m c 0 t (ix2 x y)
    = m ((c : Thread nD τ).loc main_arg0) (ix2 (⟨1024 * (t.val % 8) + x.val, by have := point_lt t; omega⟩ : Fin 8192) y) := by
  obtain ⟨e0, e1⟩ := idx0 t
  rw [← V_main_arg0 m c]
  show V m c main_arg0 (((cfg0.win 0).blk t).view.emb (ix2 x y)) = _
  congr 1; funext a; apply Fin.ext
  match a with
  | ⟨0, _⟩ => show win0_0.index t (0 : Fin 2) * 1024 + 1 * x.val = 1024 * (t.val % 8) + x.val; omega
  | ⟨1, _⟩ => show win0_0.index t (1 : Fin 2) * 1024 + 1 * y.val = y.val; omega

theorem blk1 (c : Dev nD) (t : Fin cfg0.N) (x : Fin 1) (y : Fin 1024) : iblk m c 1 t (ix2 x y)
    = m ((c : Thread nD τ).loc main_arg1) (ix2 x y) := by
  obtain ⟨e0, e1⟩ := idx1 t
  rw [← V_main_arg1 m c]
  show V m c main_arg1 (((cfg0.win 1).blk t).view.emb (ix2 x y)) = _
  congr 1; funext a; apply Fin.ext
  match a with
  | ⟨0, _⟩ => show win0_1.index t (0 : Fin 2) * 1 + 1 * x.val = x.val; omega
  | ⟨1, _⟩ => show win0_1.index t (1 : Fin 2) * 1024 + 1 * y.val = y.val; omega

theorem blk2 (c : Dev nD) (t : Fin cfg0.N) (x : Fin 2816) (y : Fin 1024) : iblk m c 2 t (ix2 x y)
    = m ((c : Thread nD τ).loc main_arg2) (ix2 (⟨2816 * (t.val / 8) + x.val, by have := point_lt t; omega⟩ : Fin 5632) y) := by
  obtain ⟨e0, e1⟩ := idx2 t
  rw [← V_main_arg2 m c]
  show V m c main_arg2 (((cfg0.win 2).blk t).view.emb (ix2 x y)) = _
  congr 1; funext a; apply Fin.ext
  match a with
  | ⟨0, _⟩ => show win0_2.index t (0 : Fin 2) * 2816 + 1 * x.val = 2816 * (t.val / 8) + x.val; omega
  | ⟨1, _⟩ => show win0_2.index t (1 : Fin 2) * 1024 + 1 * y.val = y.val; omega

theorem emb3 (t : Fin cfg0.N) (x : Fin 1024) (y : Fin 2816) : ((cfg0.win 3).blk t).view.emb (ix2 x y)
    = (ix2 (⟨1024 * (t.val % 8) + x.val, by have := point_lt t; omega⟩ : Fin 8192) (⟨2816 * (t.val / 8) + y.val, by have := point_lt t; omega⟩ : Fin 5632)) := by
  obtain ⟨e0, e1⟩ := idx3 t
  funext a; apply Fin.ext
  match a with
  | ⟨0, _⟩ => show win0_3.index t (0 : Fin 2) * 1024 + 1 * x.val = 1024 * (t.val % 8) + x.val; omega
  | ⟨1, _⟩ => show win0_3.index t (1 : Fin 2) * 2816 + 1 * y.val = 2816 * (t.val / 8) + y.val; omega

/-- The product. -/
def result (c : Dev nD) : S8192x5632.Idx → EReal := fun i =>
  ∑ k : Fin 1024, Lin.normed (m ((c : Thread nD τ).loc main_arg0)) (m ((c : Thread nD τ).loc main_arg1)) (i 0) k * ((m ((c : Thread nD τ).loc main_arg2)) (ix2 (i 1) k) : EReal)

/-- What a point writes back. -/
theorem point_apply (c : Dev nD) (t : Fin cfg0.N) (x : Fin 1024) (y : Fin 2816) :
    out0_3 (iblk m c 0 t) (iblk m c 1 t) (iblk m c 2 t) (ix2 x y) = result m c (ix2 (⟨1024 * (t.val % 8) + x.val, by have := point_lt t; omega⟩ : Fin 8192) (⟨2816 * (t.val / 8) + y.val, by have := point_lt t; omega⟩ : Fin 5632)) := by
  unfold out0_3
  rw [View.canon_unit_zero Lin.zero2, View.ld_unit_zero Lin.zero2, View.ld_unit_zero Lin.zero2, View.ld_unit_zero Lin.zero2]
  pointwise [k0_pay1]
  unfold result
  exact Finset.sum_congr rfl fun k _ => congrArg₂ (· * ·)
    (Lin.normed_congr (H := iblk m c 0 t) (G := iblk m c 1 t) (r := x) k (fun z => blk0 m c t x z) (fun z => blk1 m c t 0 z))
    (blk2 m c t y k)

theorem flushed3_eq (c : Dev nD) (t : Fin cfg0.N) (hf : (cfg0.win 3).flush t = true) :
    (dats m 0 c).flushed 3 t = ((cfg0.win 3).blk t).view.read (Elt Ideal) (result m c) := by
  rw [Value.flushed3]
  funext j
  obtain ⟨x, y, rfl⟩ : ∃ (x : Fin 1024) (y : Fin 2816), j = ix2 x y := ⟨j 0, j 1, eq_ix2 j⟩
  show out0_3 (iblk m c 0 t) (iblk m c 1 t) (iblk m c 2 t) (ix2 x y) = result m c (((cfg0.win 3).blk t).view.emb (ix2 x y))
  rw [emb3]
  exact point_apply m c t x y

theorem covered3 (i : S8192x5632.Idx) : ∃ t : Fin cfg0.N, (cfg0.win 3).flush t = true ∧ i ∈ ((cfg0.win 3).blk t).view.set := by
  obtain ⟨r, l, rfl⟩ : ∃ (r : Fin 8192) (l : Fin 5632), i = ix2 r l := ⟨i 0, i 1, eq_ix2 i⟩
  have hr := r.isLt
  have hl := l.isLt
  refine ⟨⟨8 * (l.val / 2816) + r.val / 1024, by show _ < 16; omega⟩, flush0_3 _, ?_⟩
  have h := ((cfg0.win 3).blk (⟨8 * (l.val / 2816) + r.val / 1024, by show _ < 16; omega⟩ : Fin cfg0.N)).view.emb_mem_set (ix2 (⟨r.val % 1024, Nat.mod_lt _ (by omega)⟩ : Fin 1024) (⟨l.val % 2816, Nat.mod_lt _ (by omega)⟩ : Fin 2816))
  rw [emb3] at h
  have e : ix2 r l = ix2 (⟨1024 * ((8 * (l.val / 2816) + r.val / 1024) % 8) + r.val % 1024, by omega⟩ : Fin 8192) (⟨2816 * ((8 * (l.val / 2816) + r.val / 1024) / 8) + l.val % 2816, by omega⟩ : Fin 5632) := by
    congr 1 <;> apply Fin.ext <;> dsimp only <;> omega
  rw [e]; exact h

/-- The result array after the run. -/
theorem final (c : Dev nD) : (dats m 0 c).arrAt 3 cfg0.N = result m c :=
  (dats m 0 c).arrAt_eq_of_cover 3 (result m c) (fun t hf => flushed3_eq m c t hf) covered3

end Cert.UpProjIdeal.Gen

namespace Cert.UpProjReferenceIdeal.Read
open Cert.UpProjReferenceIdeal Cert.UpProjReferenceIdeal.Gen Idealize.ShloMosaic Idealize.ShloMosaic.TcCoe Idealize.SL.Sem Idealize.ShloMosaic.StableHlo

/-- The reference's result. -/
theorem result_eq (x0 : (⟨S8192x1024, .f32⟩ : BufTy).Contents (Elt Ideal)) (x1 : (⟨S1x1024, .f32⟩ : BufTy).Contents (Elt Ideal)) (x2 : (⟨S5632x1024, .bf16⟩ : BufTy).Contents (Elt Ideal)) : val_main_v15 (F := Ideal) x0 x1 x2 = (fun i => ∑ k : Fin 1024, Cert.Lin.normed x0 x1 (i 0) k * (x2 (ix2 (i 1) k) : EReal) : (⟨2, ![8192, 5632]⟩ : Shape).Idx → EReal) := by
  funext i
  obtain ⟨r, l, rfl⟩ : ∃ (r : Fin 8192) (l : Fin 5632), i = ix2 r l := ⟨i 0, i 1, eq_ix2 i⟩
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15]
  rfl

end Cert.UpProjReferenceIdeal.Read
-- ==== Proof.InProj.lean ====
/-
  The delta-rule layer's input product.
-/
module

public import proofs.«01_k».proof.Proof.Gen.InProjIdeal.Value
public import proofs.«01_k».proof.Proof.Gen.InProjReferenceIdeal.Read
public import proofs.«01_k».proof.Proof.Products
public import Idealize.ShloMosaic.Lib.Pipeline.ValueKit

@[expose] public section
set_option maxRecDepth 16384
noncomputable section
namespace Cert.InProjIdeal.Gen
open Idealize.ShloMosaic Idealize.ShloMosaic.TcCoe Idealize.SL.Sem Idealize.ShloMosaic.Pipeline

variable (m : (ℓ : Loc nD τ sig) → Buf (Elt Ideal) ℓ)

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem point_lt (t : Fin cfg0.N) : t.val < 16 := t.isLt

theorem blk0 (c : Dev nD) (t : Fin cfg0.N) (x : Fin 512) (y : Fin 1024) : iblk m c 0 t (ix2 x y)
    = m ((c : Thread nD τ).loc main_arg0) (ix2 (⟨512 * (t.val) + x.val, by have := point_lt t; omega⟩ : Fin 8192) y) := by
  obtain ⟨e0, e1⟩ := idx0 t
  rw [← V_main_arg0 m c]
  show V m c main_arg0 (((cfg0.win 0).blk t).view.emb (ix2 x y)) = _
  congr 1; funext a; apply Fin.ext
  match a with
  | ⟨0, _⟩ => show win0_0.index t (0 : Fin 2) * 512 + 1 * x.val = 512 * (t.val) + x.val; omega
  | ⟨1, _⟩ => show win0_0.index t (1 : Fin 2) * 1024 + 1 * y.val = y.val; omega

theorem blk1 (c : Dev nD) (t : Fin cfg0.N) (x : Fin 1) (y : Fin 1024) : iblk m c 1 t (ix2 x y)
    = m ((c : Thread nD τ).loc main_arg1) (ix2 x y) := by
  obtain ⟨e0, e1⟩ := idx1 t
  rw [← V_main_arg1 m c]
  show V m c main_arg1 (((cfg0.win 1).blk t).view.emb (ix2 x y)) = _
  congr 1; funext a; apply Fin.ext
  match a with
  | ⟨0, _⟩ => show win0_1.index t (0 : Fin 2) * 1 + 1 * x.val = x.val; omega
  | ⟨1, _⟩ => show win0_1.index t (1 : Fin 2) * 1024 + 1 * y.val = y.val; omega

theorem blk2 (c : Dev nD) (t : Fin cfg0.N) (x : Fin 1024) (y : Fin 4224) : iblk m c 2 t (ix2 x y)
    = m ((c : Thread nD τ).loc main_arg2) (ix2 x y) := by
  obtain ⟨e0, e1⟩ := idx2 t
  rw [← V_main_arg2 m c]
  show V m c main_arg2 (((cfg0.win 2).blk t).view.emb (ix2 x y)) = _
  congr 1; funext a; apply Fin.ext
  match a with
  | ⟨0, _⟩ => show win0_2.index t (0 : Fin 2) * 1024 + 1 * x.val = x.val; omega
  | ⟨1, _⟩ => show win0_2.index t (1 : Fin 2) * 4224 + 1 * y.val = y.val; omega

theorem emb3 (t : Fin cfg0.N) (x : Fin 512) (y : Fin 4224) : ((cfg0.win 3).blk t).view.emb (ix2 x y)
    = (ix2 (⟨512 * (t.val) + x.val, by have := point_lt t; omega⟩ : Fin 8192) y) := by
  obtain ⟨e0, e1⟩ := idx3 t
  funext a; apply Fin.ext
  match a with
  | ⟨0, _⟩ => show win0_3.index t (0 : Fin 2) * 512 + 1 * x.val = 512 * (t.val) + x.val; omega
  | ⟨1, _⟩ => show win0_3.index t (1 : Fin 2) * 4224 + 1 * y.val = y.val; omega

/-- The product. -/
def result (c : Dev nD) : S8192x4224.Idx → EReal := fun i =>
  ∑ k : Fin 1024, Lin.normed (m ((c : Thread nD τ).loc main_arg0)) (m ((c : Thread nD τ).loc main_arg1)) (i 0) k * ((m ((c : Thread nD τ).loc main_arg2)) (ix2 k (i 1)) : EReal)

/-- What a point writes back. -/
theorem point_apply (c : Dev nD) (t : Fin cfg0.N) (x : Fin 512) (y : Fin 4224) :
    out0_3 (iblk m c 0 t) (iblk m c 1 t) (iblk m c 2 t) (ix2 x y) = result m c (ix2 (⟨512 * (t.val) + x.val, by have := point_lt t; omega⟩ : Fin 8192) y) := by
  unfold out0_3
  rw [View.canon_unit_zero Lin.zero2, View.ld_unit_zero Lin.zero2, View.ld_unit_zero Lin.zero2, View.ld_unit_zero Lin.zero2]
  pointwise [k0_pay1]
  unfold result
  exact Finset.sum_congr rfl fun k _ => congrArg₂ (· * ·)
    (Lin.normed_congr (H := iblk m c 0 t) (G := iblk m c 1 t) (r := x) k (fun z => blk0 m c t x z) (fun z => blk1 m c t 0 z))
    (blk2 m c t k y)

theorem flushed3_eq (c : Dev nD) (t : Fin cfg0.N) (hf : (cfg0.win 3).flush t = true) :
    (dats m 0 c).flushed 3 t = ((cfg0.win 3).blk t).view.read (Elt Ideal) (result m c) := by
  rw [Value.flushed3]
  funext j
  obtain ⟨x, y, rfl⟩ : ∃ (x : Fin 512) (y : Fin 4224), j = ix2 x y := ⟨j 0, j 1, eq_ix2 j⟩
  show out0_3 (iblk m c 0 t) (iblk m c 1 t) (iblk m c 2 t) (ix2 x y) = result m c (((cfg0.win 3).blk t).view.emb (ix2 x y))
  rw [emb3]
  exact point_apply m c t x y

theorem covered3 (i : S8192x4224.Idx) : ∃ t : Fin cfg0.N, (cfg0.win 3).flush t = true ∧ i ∈ ((cfg0.win 3).blk t).view.set := by
  obtain ⟨r, l, rfl⟩ : ∃ (r : Fin 8192) (l : Fin 4224), i = ix2 r l := ⟨i 0, i 1, eq_ix2 i⟩
  have hr := r.isLt
  have hl := l.isLt
  refine ⟨⟨r.val / 512, by show _ < 16; omega⟩, flush0_3 _, ?_⟩
  have h := ((cfg0.win 3).blk (⟨r.val / 512, by show _ < 16; omega⟩ : Fin cfg0.N)).view.emb_mem_set (ix2 (⟨r.val % 512, Nat.mod_lt _ (by omega)⟩ : Fin 512) l)
  rw [emb3] at h
  have e : ix2 r l = ix2 (⟨512 * ((r.val / 512)) + r.val % 512, by omega⟩ : Fin 8192) l := by
    congr 1 <;> apply Fin.ext <;> dsimp only <;> omega
  rw [e]; exact h

/-- The result array after the run. -/
theorem final (c : Dev nD) : (dats m 0 c).arrAt 3 cfg0.N = result m c :=
  (dats m 0 c).arrAt_eq_of_cover 3 (result m c) (fun t hf => flushed3_eq m c t hf) covered3

end Cert.InProjIdeal.Gen

namespace Cert.InProjReferenceIdeal.Read
open Cert.InProjReferenceIdeal Cert.InProjReferenceIdeal.Gen Idealize.ShloMosaic Idealize.ShloMosaic.TcCoe Idealize.SL.Sem Idealize.ShloMosaic.StableHlo

/-- The reference's result. -/
theorem result_eq (x0 : (⟨S8192x1024, .f32⟩ : BufTy).Contents (Elt Ideal)) (x1 : (⟨S1x1024, .f32⟩ : BufTy).Contents (Elt Ideal)) (x2 : (⟨S1024x4224, .bf16⟩ : BufTy).Contents (Elt Ideal)) : val_main_v13 (F := Ideal) x0 x1 x2 = (fun i => ∑ k : Fin 1024, Cert.Lin.normed x0 x1 (i 0) k * (x2 (ix2 k (i 1)) : EReal) : (⟨2, ![8192, 4224]⟩ : Shape).Idx → EReal) := by
  funext i
  obtain ⟨r, l, rfl⟩ : ∃ (r : Fin 8192) (l : Fin 4224), i = ix2 r l := ⟨i 0, i 1, eq_ix2 i⟩
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13]
  rfl

end Cert.InProjReferenceIdeal.Read
-- ==== Proof.QkvWgrad.lean ====
/-
  The gradient of the delta-rule layer's input weight, at the queries, keys and values.
-/
module

public import proofs.«01_k».proof.Proof.Gen.QkvWgradIdeal.Value
public import proofs.«01_k».proof.Proof.Gen.QkvWgradReferenceIdeal.Read
public import proofs.«01_k».proof.Proof.Products
public import Idealize.ShloMosaic.Lib.Pipeline.ValueKit

@[expose] public section
set_option maxRecDepth 16384
noncomputable section
namespace Cert.QkvWgradIdeal.Gen
open Idealize.ShloMosaic Idealize.ShloMosaic.TcCoe Idealize.SL.Sem Idealize.ShloMosaic.Pipeline

variable (m : (ℓ : Loc nD τ sig) → Buf (Elt Ideal) ℓ)

theorem idx0 : ∀ t : Fin cfg0.N, win0_0.index t (0 : Fin 2) = t.val % 8 ∧ win0_0.index t (1 : Fin 2) = 0 :=
  (by decide +kernel : ∀ t : Fin grid0.N, win0_0.index t (0 : Fin 2) = t.val % 8 ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = t.val % 8 ∧ win0_2.index t (1 : Fin 2) = t.val / 8 :=
  (by decide +kernel : ∀ t : Fin grid0.N, win0_2.index t (0 : Fin 2) = t.val % 8 ∧ win0_2.index t (1 : Fin 2) = t.val / 8)
theorem idx3 : ∀ t : Fin cfg0.N, win0_3.index t (0 : Fin 2) = 0 ∧ win0_3.index t (1 : Fin 2) = t.val / 8 :=
  (by decide +kernel : ∀ t : Fin grid0.N, win0_3.index t (0 : Fin 2) = 0 ∧ win0_3.index t (1 : Fin 2) = t.val / 8)

theorem point_lt (t : Fin cfg0.N) : t.val < 16 := t.isLt

theorem blk0 (c : Dev nD) (t : Fin cfg0.N) (x : Fin 1024) (y : Fin 1024) : iblk m c 0 t (ix2 x y)
    = m ((c : Thread nD τ).loc main_arg0) (ix2 (⟨1024 * (t.val % 8) + x.val, by have := point_lt t; omega⟩ : Fin 8192) y) := by
  obtain ⟨e0, e1⟩ := idx0 t
  rw [← V_main_arg0 m c]
  show V m c main_arg0 (((cfg0.win 0).blk t).view.emb (ix2 x y)) = _
  congr 1; funext a; apply Fin.ext
  match a with
  | ⟨0, _⟩ => show win0_0.index t (0 : Fin 2) * 1024 + 1 * x.val = 1024 * (t.val % 8) + x.val; omega
  | ⟨1, _⟩ => show win0_0.index t (1 : Fin 2) * 1024 + 1 * y.val = y.val; omega

theorem blk1 (c : Dev nD) (t : Fin cfg0.N) (x : Fin 1) (y : Fin 1024) : iblk m c 1 t (ix2 x y)
    = m ((c : Thread nD τ).loc main_arg1) (ix2 x y) := by
  obtain ⟨e0, e1⟩ := idx1 t
  rw [← V_main_arg1 m c]
  show V m c main_arg1 (((cfg0.win 1).blk t).view.emb (ix2 x y)) = _
  congr 1; funext a; apply Fin.ext
  match a with
  | ⟨0, _⟩ => show win0_1.index t (0 : Fin 2) * 1 + 1 * x.val = x.val; omega
  | ⟨1, _⟩ => show win0_1.index t (1 : Fin 2) * 1024 + 1 * y.val = y.val; omega

theorem blk2 (c : Dev nD) (t : Fin cfg0.N) (x : Fin 1024) (y : Fin 1536) : iblk m c 2 t (ix2 x y)
    = m ((c : Thread nD τ).loc main_arg2) (ix2 (⟨1024 * (t.val % 8) + x.val, by have := point_lt t; omega⟩ : Fin 8192) (⟨1536 * (t.val / 8) + y.val, by have := point_lt t; omega⟩ : Fin 3072)) := by
  obtain ⟨e0, e1⟩ := idx2 t
  rw [← V_main_arg2 m c]
  show V m c main_arg2 (((cfg0.win 2).blk t).view.emb (ix2 x y)) = _
  congr 1; funext a; apply Fin.ext
  match a with
  | ⟨0, _⟩ => show win0_2.index t (0 : Fin 2) * 1024 + 1 * x.val = 1024 * (t.val % 8) + x.val; omega
  | ⟨1, _⟩ => show win0_2.index t (1 : Fin 2) * 1536 + 1 * y.val = 1536 * (t.val / 8) + y.val; omega

theorem emb3 (t : Fin cfg0.N) (x : Fin 1024) (y : Fin 1536) : ((cfg0.win 3).blk t).view.emb (ix2 x y)
    = (ix2 x (⟨1536 * (t.val / 8) + y.val, by have := point_lt t; omega⟩ : Fin 3072)) := by
  obtain ⟨e0, e1⟩ := idx3 t
  funext a; apply Fin.ext
  match a with
  | ⟨0, _⟩ => show win0_3.index t (0 : Fin 2) * 1024 + 1 * x.val = x.val; omega
  | ⟨1, _⟩ => show win0_3.index t (1 : Fin 2) * 1536 + 1 * y.val = 1536 * (t.val / 8) + y.val; omega

/-- The first point of a run leaves the products of its tile over zeros. -/
theorem scratch_first (c : Dev nD) (t : Fin cfg0.N) (h0 : t.val % 8 = 0) :
    (outsAt0 m c t.val t.isLt).2 = k0_pay2 (iblk m c 0 t) (iblk m c 1 t) (iblk m c 2 t) (k0_pay1 (F := Ideal)) := by
  have h1 : ¬t.val % 8 = 7 := by omega
  rw [outsAt0_A m c t h0 h1]
  dsimp only
  unfold sout0_A_0
  rw [View.read_writes_eq_canon _ _ _ (scover0_A_0 c _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, View.readCov_eq_canon']
  rw [View.canon_cons_unit_zero Lin.zero2, View.ld_unit_zero Lin.zero2, View.ld_unit_zero Lin.zero2, View.ld_unit_zero Lin.zero2]
  refine congrArg (fun z => k0_pay2 (iblk m c 0 t) (iblk m c 1 t) (iblk m c 2 t) z) (funext fun j => ?_)
  exact View.canon_cons_emb _ _ _ j

/-- A later point adds the products of its tile. -/
theorem scratch_next (c : Dev nD) (t : Fin cfg0.N) (h0 : ¬t.val % 8 = 0) :
    (outsAt0 m c t.val t.isLt).2 = k0_pay2 (iblk m c 0 t) (iblk m c 1 t) (iblk m c 2 t) (outsAt0 m c (t.val - 1) (Nat.lt_of_le_of_lt (Nat.sub_le _ _) t.isLt)).2 := by
  by_cases h1 : t.val % 8 = 7
  · rw [outsAt0_C m c t h0 h1]
    dsimp only
    unfold sout0_C_0
    rw [View.read_writes_eq_canon _ _ _ (scover0_C_0 c _ _ _ _ _ _ _ _ _ _ _ _ _ _ _ _ _)]
    unfold kernelRun0_C
    dsimp only
    sl_unfold_words
    simp only [View.readAt_eq_ld, (hs0_0 t).read_unread, (hs0_1 t).read_unread, (hs0_2 t).read_unread, (hs0_3 t).read_unread, View.readCov_eq_canon']
    rw [View.canon_cons_unit_zero Lin.zero2, View.ld_unit_zero Lin.zero2, View.ld_unit_zero Lin.zero2, View.ld_unit_zero Lin.zero2, View.ld_unit_zero Lin.zero2]
    exact congrArg (fun z => k0_pay2 (iblk m c 0 t) (iblk m c 1 t) (iblk m c 2 t) z) ((Memref.isWhole_whole _).read_unread _)
  · rw [outsAt0_B m c t h0 h1]
    dsimp only
    unfold sout0_B_0
    rw [View.read_writes_eq_canon _ _ _ (scover0_B_0 c _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, View.readCov_eq_canon']
    rw [View.canon_cons_unit_zero Lin.zero2, View.ld_unit_zero Lin.zero2, View.ld_unit_zero Lin.zero2, View.ld_unit_zero Lin.zero2, View.ld_unit_zero Lin.zero2]
    exact congrArg (fun z => k0_pay2 (iblk m c 0 t) (iblk m c 1 t) (iblk m c 2 t) z) ((Memref.isWhole_whole _).read_unread _)

/-- The last point of a run rounds what its scratch then holds. -/
theorem out_last (c : Dev nD) (t : Fin cfg0.N) (h1 : t.val % 8 = 7) :
    (outsAt0 m c t.val t.isLt).1 = k0_pay3 (F := Ideal) (outsAt0 m c t.val t.isLt).2 := by
  have h0 : ¬t.val % 8 = 0 := by omega
  rw [scratch_next m c t h0, outsAt0_C m c t h0 h1]
  dsimp only
  unfold out0_C_3
  rw [View.read_writes_eq_canon _ _ _ (cover0_C_3 c _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread, View.readCov_eq_canon']
  rw [View.canon_cons_unit_zero Lin.zero2]
  refine congrArg (k0_pay3 (F := Ideal)) (funext fun j => (View.canon_cons_emb _ _ _ j).trans (congrFun ?_ j))
  rw [View.ld_unit_zero Lin.zero2, View.ld_unit_zero Lin.zero2, View.ld_unit_zero Lin.zero2, View.ld_unit_zero Lin.zero2]
  exact congrArg (fun z => k0_pay2 (iblk m c 0 t) (iblk m c 1 t) (iblk m c 2 t) z) ((Memref.isWhole_whole _).read_unread _)

/-- What token `x` adds to the entry `(i, j)` of the gradient. -/
def term (c : Dev nD) (i : Fin 1024) (j : Fin 3072) (x : Fin 8192) : EReal :=
  Lin.inputTerm (m ((c : Thread nD τ).loc main_arg0)) (m ((c : Thread nD τ).loc main_arg1)) (m ((c : Thread nD τ).loc main_arg2)) i j x

/-- The gradient of the weight. -/
def result (c : Dev nD) : S1024x3072.Idx → EReal := fun i => ∑ x : Fin 8192, term m c (i 0) (i 1) x

/-- A tile's products, entry by entry. -/
theorem tile_apply (c : Dev nD) (t : Fin cfg0.N) (acc : Vec Ideal S1024x1536 .f32) (r : Fin 1024) (l : Fin 1536) :
    k0_pay2 (iblk m c 0 t) (iblk m c 1 t) (iblk m c 2 t) acc (ix2 r l)
      = (acc (ix2 r l) : EReal) + ∑ x : Fin 1024, term m c r ⟨1536 * (t.val / 8) + l.val, by have := point_lt t; omega⟩ ⟨1024 * (t.val % 8) + x.val, by omega⟩ := by
  pointwise [k0_pay2]
  exact congrArg (_ + ·) (Finset.sum_congr rfl fun x _ => congrArg₂ (· * ·) (Lin.normed_congr (H := iblk m c 0 t) (G := iblk m c 1 t) (r := x) r (fun y => blk0 m c t x y) (fun y => blk1 m c t 0 y)) (blk2 m c t x l))

theorem zeros_apply (r : Fin 1024) (l : Fin 1536) : k0_pay1 (F := Ideal) (ix2 r l) = (0 : EReal) := by
  pointwise [k0_pay1]

/-- What the scratch holds after each point: the sum over the tokens of the run so far. -/
theorem scratch_apply (c : Dev nD) (n : ℕ) : ∀ (t : Fin cfg0.N), t.val = n → ∀ (r : Fin 1024) (l : Fin 1536),
    (outsAt0 m c t.val t.isLt).2 (ix2 r l)
      = Lin.upTo (term m c r ⟨1536 * (t.val / 8) + l.val, by have := point_lt t; omega⟩) (1024 * (t.val % 8) + 1024) := by
  induction n with
  | zero =>
    intro t ht r l
    have h0 : t.val % 8 = 0 := by omega
    rw [scratch_first m c t h0, tile_apply, zeros_apply,
      ← Lin.upTo_tile _ (1024 * (t.val % 8)) 1024 (by omega)]
    congr 1
    rw [h0]; exact (Lin.upTo_zero _).symm
  | succ n ih =>
    intro t ht r l
    by_cases h0 : t.val % 8 = 0
    · rw [scratch_first m c t h0, tile_apply, zeros_apply,
        ← Lin.upTo_tile _ (1024 * (t.val % 8)) 1024 (by omega)]
      congr 1
      rw [h0]; exact (Lin.upTo_zero _).symm
    · rw [scratch_next m c t h0, tile_apply, ← Lin.upTo_tile _ (1024 * (t.val % 8)) 1024 (by omega)]
      congr 1
      have hp := point_lt t
      refine (ih ⟨t.val - 1, Nat.lt_of_le_of_lt (Nat.sub_le _ _) t.isLt⟩ (by show t.val - 1 = n; omega) r l).trans ?_
      have e1 : (t.val - 1) / 8 = t.val / 8 := by omega
      have e2 : 1024 * ((t.val - 1) % 8) + 1024 = 1024 * (t.val % 8) := by omega
      simp only [e1, e2]

/-- What the last point of a run writes back. -/
theorem point_apply (c : Dev nD) (t : Fin cfg0.N) (h1 : t.val % 8 = 7) (x : Fin 1024) (y : Fin 1536) :
    (outsAt0 m c t.val t.isLt).1 (ix2 x y) = result m c (ix2 x (⟨1536 * (t.val / 8) + y.val, by have := point_lt t; omega⟩ : Fin 3072)) := by
  rw [out_last m c t h1]
  refine Eq.trans (b := (outsAt0 m c t.val t.isLt).2 (ix2 x y)) ?_ ?_
  · pointwise [k0_pay3]
  rw [scratch_apply m c t.val t rfl, show 1024 * (t.val % 8) + 1024 = 8192 by omega, Lin.upTo_all]
  rfl

theorem flushed3_eq (c : Dev nD) (t : Fin cfg0.N) (hf : (cfg0.win 3).flush t = true) :
    (dats m 0 c).flushed 3 t = ((cfg0.win 3).blk t).view.read (Elt Ideal) (result m c) := by
  rw [Value.flushed3]
  funext j
  obtain ⟨x, y, rfl⟩ : ∃ (x : Fin 1024) (y : Fin 1536), j = ix2 x y := ⟨j 0, j 1, eq_ix2 j⟩
  show (outsAt0 m c t.val t.isLt).1 (ix2 x y) = result m c (((cfg0.win 3).blk t).view.emb (ix2 x y))
  rw [emb3]
  exact point_apply m c t ((flush0_3 t).mp hf) x y

theorem covered3 (i : S1024x3072.Idx) : ∃ t : Fin cfg0.N, (cfg0.win 3).flush t = true ∧ i ∈ ((cfg0.win 3).blk t).view.set := by
  obtain ⟨r, l, rfl⟩ : ∃ (r : Fin 1024) (l : Fin 3072), i = ix2 r l := ⟨i 0, i 1, eq_ix2 i⟩
  have hr := r.isLt
  have hl := l.isLt
  refine ⟨⟨8 * (l.val / 1536) + 7, by show _ < 16; omega⟩, (flush0_3 _).mpr (by show (8 * (l.val / 1536) + 7) % 8 = 7; omega), ?_⟩
  have h := ((cfg0.win 3).blk (⟨8 * (l.val / 1536) + 7, by show _ < 16; omega⟩ : Fin cfg0.N)).view.emb_mem_set (ix2 r (⟨l.val % 1536, Nat.mod_lt _ (by omega)⟩ : Fin 1536))
  rw [emb3] at h
  have e : ix2 r l = ix2 r (⟨1536 * ((8 * (l.val / 1536) + 7) / 8) + l.val % 1536, by omega⟩ : Fin 3072) := by
    congr 1 <;> apply Fin.ext <;> dsimp only <;> omega
  rw [e]; exact h

/-- The result array after the run. -/
theorem final (c : Dev nD) : (dats m 0 c).arrAt 3 cfg0.N = result m c :=
  (dats m 0 c).arrAt_eq_of_cover 3 (result m c) (fun t hf => flushed3_eq m c t hf) covered3

end Cert.QkvWgradIdeal.Gen

namespace Cert.QkvWgradReferenceIdeal.Read
open Cert.QkvWgradReferenceIdeal Cert.QkvWgradReferenceIdeal.Gen Idealize.ShloMosaic Idealize.ShloMosaic.TcCoe Idealize.SL.Sem Idealize.ShloMosaic.StableHlo

/-- The reference's result. -/
theorem result_eq (x0 : (⟨S8192x1024, .f32⟩ : BufTy).Contents (Elt Ideal)) (x1 : (⟨S1x1024, .f32⟩ : BufTy).Contents (Elt Ideal)) (x2 : (⟨S8192x3072, .f32⟩ : BufTy).Contents (Elt Ideal)) : val_main_v16 (F := Ideal) x0 x1 x2 = (fun i => ∑ x : Fin 8192, Cert.Lin.normed x0 x1 x (i 0) * x2 (ix2 x (i 1)) : (⟨2, ![1024, 3072]⟩ : Shape).Idx → EReal) := by
  funext i
  obtain ⟨r, l, rfl⟩ : ∃ (r : Fin 1024) (l : Fin 3072), i = ix2 r l := ⟨i 0, i 1, eq_ix2 i⟩
  pointwise [val_main_cst, val_main_v0, val_main_v1, val_main_cst_0, val_main_v2, val_main_v3, val_main_cst_1, val_main_v4, val_main_v5, val_main_cst_2, val_main_v6, val_main_v7, val_main_v8, val_main_v9, val_main_v10, val_main_v11, val_main_v12, val_main_v13, val_main_v14, val_main_v15, val_main_v16]
  exact Finset.sum_congr rfl fun x _ => mul_comm _ _

end Cert.QkvWgradReferenceIdeal.Read
-- ==== Proof.QWgrad.lean ====
/-
  The gradient of the attention layer's query weight (and of the delta-rule layer's gate weight, the same call).
-/
module

public import proofs.«01_k».proof.Proof.Gen.QWgradIdeal.Value
public import proofs.«01_k».proof.Proof.Gen.QWgradReferenceIdeal.Read
public import proofs.«01_k».proof.Proof.Products
public import Idealize.ShloMosaic.Lib.Pipeline.ValueKit

@[expose] public section
set_option maxRecDepth 16384
noncomputable section
namespace Cert.QWgradIdeal.Gen
open Idealize.ShloMosaic Idealize.ShloMosaic.TcCoe Idealize.SL.Sem Idealize.ShloMosaic.Pipeline

variable (m : (ℓ : Loc nD τ sig) → Buf (Elt Ideal) ℓ)

theorem idx0 : ∀ t : Fin cfg0.N, win0_0.index t (0 : Fin 2) = t.val % 8 ∧ win0_0.index t (1 : Fin 2) = 0 :=
  (by decide +kernel : ∀ t : Fin grid0.N, win0_0.index t (0 : Fin 2) = t.val % 8 ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = t.val % 8 ∧ win0_2.index t (1 : Fin 2) = 0 :=
  (by decide +kernel : ∀ t : Fin grid0.N, win0_2.index t (0 : Fin 2) = t.val % 8 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem point_lt (t : Fin cfg0.N) : t.val < 8 := t.isLt

theorem blk0 (c : Dev nD) (t : Fin cfg0.N) (x : Fin 1024) (y : Fin 1024) : iblk m c 0 t (ix2 x y)
    = m ((c : Thread nD τ).loc main_arg0) (ix2 (⟨1024 * (t.val % 8) + x.val, by have := point_lt t; omega⟩ : Fin 8192) y) := by
  obtain ⟨e0, e1⟩ := idx0 t
  rw [← V_main_arg0 m c]
  show V m c main_arg0 (((cfg0.win 0).blk t).view.emb (ix2 x y)) = _
  congr 1; funext a; apply Fin.ext
  match a with
  | ⟨0, _⟩ => show win0_0.index t (0 : Fin 2) * 1024 + 1 * x.val = 1024 * (t.val % 8) + x.val; omega
  | ⟨1, _⟩ => show win0_0.index t (1 : Fin 2) * 1024 + 1 * y.val = y.val; omega

theorem blk1 (c : Dev nD) (t : Fin cfg0.N) (x : Fin 1) (y : Fin 1024) : iblk m c 1 t (ix2 x y)
    = m ((c : Thread nD τ).loc main_arg1) (ix2 x y) := by
  obtain ⟨e0, e1⟩ := idx1 t
  rw [← V_main_arg1 m c]
  show V m c main_arg1 (((cfg0.win 1).blk t).view.emb (ix2 x y)) = _
  congr 1; funext a; apply Fin.ext
  match a with
  | ⟨0, _⟩ => show win0_1.index t (0 : Fin 2) * 1 + 1 * x.val = x.val; omega
  | ⟨1, _⟩ => show win0_1.index t (1 : Fin 2) * 1024 + 1 * y.val = y.val; omega

theorem blk2 (c : Dev nD) (t : Fin cfg0.N) (x : Fin 1024) (y : Fin 1024) : iblk m c 2 t (ix2 x y)
    = m ((c : Thread nD τ).loc main_arg2) (ix2 (⟨1024 * (t.val % 8) + x.val, by have := point_lt t; omega⟩ : Fin 8192) y) := by
  obtain ⟨e0, e1⟩ := idx2 t
  rw [← V_main_arg2 m c]
  show V m c main_arg2 (((cfg0.win 2).blk t).view.emb (ix2 x y)) = _
  congr 1; funext a; apply Fin.ext
  match a with
  | ⟨0, _⟩ => show win0_2.index t (0 : Fin 2) * 1024 + 1 * x.val = 1024 * (t.val % 8) + x.val; omega
  | ⟨1, _⟩ => show win0_2.index t (1 : Fin 2) * 1024 + 1 * y.val = y.val; omega

theorem emb3 (t : Fin cfg0.N) (x : Fin 1024) (y : Fin 1024) : ((cfg0.win 3).blk t).view.emb (ix2 x y)
    = (ix2 x y) := by
  obtain ⟨e0, e1⟩ := idx3 t
  funext a; apply Fin.ext
  match a with
  | ⟨0, _⟩ => show win0_3.index t (0 : Fin 2) * 1024 + 1 * x.val = x.val; omega
  | ⟨1, _⟩ => show win0_3.index t (1 : Fin 2) * 1024 + 1 * y.val = y.val; omega

/-- The first point of a run leaves the products of its tile over zeros. -/
theorem scratch_first (c : Dev nD) (t : Fin cfg0.N) (h0 : t.val % 8 = 0) :
    (outsAt0 m c t.val t.isLt).2 = k0_pay2 (iblk m c 0 t) (iblk m c 1 t) (iblk m c 2 t) (k0_pay1 (F := Ideal)) := by
  have h1 : ¬t.val % 8 = 7 := by omega
  rw [outsAt0_A m c t h0 h1]
  dsimp only
  unfold sout0_A_0
  rw [View.read_writes_eq_canon _ _ _ (scover0_A_0 c _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, View.readCov_eq_canon']
  rw [View.canon_cons_unit_zero Lin.zero2, View.ld_unit_zero Lin.zero2, View.ld_unit_zero Lin.zero2, View.ld_unit_zero Lin.zero2]
  refine congrArg (fun z => k0_pay2 (iblk m c 0 t) (iblk m c 1 t) (iblk m c 2 t) z) (funext fun j => ?_)
  exact View.canon_cons_emb _ _ _ j

/-- A later point adds the products of its tile. -/
theorem scratch_next (c : Dev nD) (t : Fin cfg0.N) (h0 : ¬t.val % 8 = 0) :
    (outsAt0 m c t.val t.isLt).2 = k0_pay2 (iblk m c 0 t) (iblk m c 1 t) (iblk m c 2 t) (outsAt0 m c (t.val - 1) (Nat.lt_of_le_of_lt (Nat.sub_le _ _) t.isLt)).2 := by
  by_cases h1 : t.val % 8 = 7
  · rw [outsAt0_C m c t h0 h1]
    dsimp only
    unfold sout0_C_0
    rw [View.read_writes_eq_canon _ _ _ (scover0_C_0 c _ _ _ _ _ _ _ _ _ _ _ _ _ _ _ _ _)]
    unfold kernelRun0_C
    dsimp only
    sl_unfold_words
    simp only [View.readAt_eq_ld, (hs0_0 t).read_unread, (hs0_1 t).read_unread, (hs0_2 t).read_unread, (hs0_3 t).read_unread, View.readCov_eq_canon']
    rw [View.canon_cons_unit_zero Lin.zero2, View.ld_unit_zero Lin.zero2, View.ld_unit_zero Lin.zero2, View.ld_unit_zero Lin.zero2, View.ld_unit_zero Lin.zero2]
    exact congrArg (fun z => k0_pay2 (iblk m c 0 t) (iblk m c 1 t) (iblk m c 2 t) z) ((Memref.isWhole_whole _).read_unread _)
  · rw [outsAt0_B m c t h0 h1]
    dsimp only
    unfold sout0_B_0
    rw [View.read_writes_eq_canon _ _ _ (scover0_B_0 c _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, View.readCov_eq_canon']
    rw [View.canon_cons_unit_zero Lin.zero2, View.ld_unit_zero Lin.zero2, View.ld_unit_zero Lin.zero2, View.ld_unit_zero Lin.zero2, View.ld_unit_zero Lin.zero2]
    exact congrArg (fun z => k0_pay2 (iblk m c 0 t) (iblk m c 1 t) (iblk m c 2 t) z) ((Memref.isWhole_whole _).read_unread _)

/-- The last point of a run rounds what its scratch then holds. -/
theorem out_last (c : Dev nD) (t : Fin cfg0.N) (h1 : t.val % 8 = 7) :
    (outsAt0 m c t.val t.isLt).1 = k0_pay3 (F := Ideal) (outsAt0 m c t.val t.isLt).2 := by
  have h0 : ¬t.val % 8 = 0 := by omega
  rw [scratch_next m c t h0, outsAt0_C m c t h0 h1]
  dsimp only
  unfold out0_C_3
  rw [View.read_writes_eq_canon _ _ _ (cover0_C_3 c _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread, View.readCov_eq_canon']
  rw [View.canon_cons_unit_zero Lin.zero2]
  refine congrArg (k0_pay3 (F := Ideal)) (funext fun j => (View.canon_cons_emb _ _ _ j).trans (congrFun ?_ j))
  rw [View.ld_unit_zero Lin.zero2, View.ld_unit_zero Lin.zero2, View.ld_unit_zero Lin.zero2, View.ld_unit_zero Lin.zero2]
  exact congrArg (fun z => k0_pay2 (iblk m c 0 t) (iblk m c 1 t) (iblk m c 2 t) z) ((Memref.isWhole_whole _).read_unread _)

/-- What token `x` adds to the entry `(i, j)` of the gradient. -/
def term (c : Dev nD) (i : Fin 1024) (j : Fin 1024) (x : Fin 8192) : EReal :=
  Lin.inputTerm (m ((c : Thread nD τ).loc main_arg0)) (m ((c : Thread nD τ).loc main_arg1)) (m ((c : Thread nD τ).loc main_arg2)) i j x

/-- The gradient of the weight. -/
def result (c : Dev nD) : S1024x1024.Idx → EReal := fun i => ∑ x : Fin 8192, term m c (i 0) (i 1) x

/-- A tile's products, entry by entry. -/
theorem tile_apply (c : Dev nD) (t : Fin cfg0.N) (acc : Vec Ideal S1024x1024 .f32) (r : Fin 1024) (l : Fin 1024) :
    k0_pay2 (iblk m c 0 t) (iblk m c 1 t) (iblk m c 2 t) acc (ix2 r l)
      = (acc (ix2 r l) : EReal) + ∑ x : Fin 1024, term m c r l ⟨1024 * (t.val % 8) + x.val, by omega⟩ := by
  pointwise [k0_pay2]
  exact congrArg (_ + ·) (Finset.sum_congr rfl fun x _ => congrArg₂ (· * ·) (Lin.normed_congr (H := iblk m c 0 t) (G := iblk m c 1 t) (r := x) r (fun y => blk0 m c t x y) (fun y => blk1 m c t 0 y)) (blk2 m c t x l))

theorem zeros_apply (r : Fin 1024) (l : Fin 1024) : k0_pay1 (F := Ideal) (ix2 r l) = (0 : EReal) := by
  pointwise [k0_pay1]

/-- What the scratch holds after each point: the sum over the tokens of the run so far. -/
theorem scratch_apply (c : Dev nD) (n : ℕ) : ∀ (t : Fin cfg0.N), t.val = n → ∀ (r : Fin 1024) (l : Fin 1024),
    (outsAt0 m c t.val t.isLt).2 (ix2 r l)
      = Lin.upTo (term m c r l) (1024 * (t.val % 8) + 1024) := by
  induction n with
  | zero =>
    intro t ht r l
    have h0 : t.val % 8 = 0 := by omega
    rw [scratch_first m c t h0, tile_apply, zeros_apply,
      ← Lin.upTo_tile _ (1024 * (t.val % 8)) 1024 (by omega)]
    congr 1
    rw [h0]; exact (Lin.upTo_zero _).symm
  | succ n ih =>
    intro t ht r l
    by_cases h0 : t.val % 8 = 0
    · rw [scratch_first m c t h0, tile_apply, zeros_apply,
        ← Lin.upTo_tile _ (1024 * (t.val % 8)) 1024 (by omega)]
      congr 1
      rw [h0]; exact (Lin.upTo_zero _).symm
    · rw [scratch_next m c t h0, tile_apply, ← Lin.upTo_tile _ (1024 * (t.val % 8)) 1024 (by omega)]
      congr 1
      have hp := point_lt t
      refine (ih ⟨t.val - 1, Nat.lt_of_le_of_lt (Nat.sub_le _ _) t.isLt⟩ (by show t.val - 1 = n; omega) r l).trans ?_
      have e1 : (t.val - 1) / 8 = t.val / 8 := by omega
      have e2 : 1024 * ((t.val - 1) % 8) + 1024 = 1024 * (t.val % 8) := by omega
      simp only [e1, e2]

/-- What the last point of a run writes back. -/
theorem point_apply (c : Dev nD) (t : Fin cfg0.N) (h1 : t.val % 8 = 7) (x : Fin 1024) (y : Fin 1024) :
    (outsAt0 m c t.val t.isLt).1 (ix2 x y) = result m c (ix2 x y) := by
  rw [out_last m c t h1]
  refine Eq.trans (b := (outsAt0 m c t.val t.isLt).2 (ix2 x y)) ?_ ?_
  · pointwise [k0_pay3]
  rw [scratch_apply m c t.val t rfl, show 1024 * (t.val % 8) + 1024 = 8192 by omega, Lin.upTo_all]
  rfl

theorem flushed3_eq (c : Dev nD) (t : Fin cfg0.N) (hf : (cfg0.win 3).flush t = true) :
    (dats m 0 c).flushed 3 t = ((cfg0.win 3).blk t).view.read (Elt Ideal) (result m c) := by
  rw [Value.flushed3]
  funext j
  obtain ⟨x, y, rfl⟩ : ∃ (x : Fin 1024) (y : Fin 1024), j = ix2 x y := ⟨j 0, j 1, eq_ix2 j⟩
  show (outsAt0 m c t.val t.isLt).1 (ix2 x y) = result m c (((cfg0.win 3).blk t).view.emb (ix2 x y))
  rw [emb3]
  exact point_apply m c t ((flush0_3 t).mp hf) x y

theorem covered3 (i : S1024x1024.Idx) : ∃ t : Fin cfg0.N, (cfg0.win 3).flush t = true ∧ i ∈ ((cfg0.win 3).blk t).view.set := by
  obtain ⟨r, l, rfl⟩ : ∃ (r : Fin 1024) (l : Fin 1024), i = ix2 r l := ⟨i 0, i 1, eq_ix2 i⟩
  have hr := r.isLt
  have hl := l.isLt
  refine ⟨⟨7, by show _ < 8; omega⟩, (flush0_3 _).mpr (by show (7) % 8 = 7; omega), ?_⟩
  have h := ((cfg0.win 3).blk (⟨7, by show _ < 8; omega⟩ : Fin cfg0.N)).view.emb_mem_set (ix2 r l)
  rw [emb3] at h
  have e : ix2 r l = ix2 r l := by
    congr 1 <;> apply Fin.ext <;> dsimp only <;> omega
  rw [e]; exact h

/-- The result array after the run. -/
theorem final (c : Dev nD) : (dats m 0 c).arrAt 3 cfg0.N = result m c :=
  (dats m 0 c).arrAt_eq_of_cover 3 (result m c) (fun t hf => flushed3_eq m c t hf) covered3

end Cert.QWgradIdeal.Gen

namespace Cert.QWgradReferenceIdeal.Read
open Cert.QWgradReferenceIdeal Cert.QWgradReferenceIdeal.Gen Idealize.ShloMosaic Idealize.ShloMosaic.TcCoe Idealize.SL.Sem Idealize.ShloMosaic.StableHlo

/-- The reference's result. -/
theorem result_eq (x0 : (⟨S8192x1024, .f32⟩ : BufTy).Contents (Elt Ideal)) (x1 : (⟨S1x1024, .f32⟩ : BufTy).Contents (Elt Ideal)) (x2 : (⟨S8192x1024, .f32⟩ : BufTy).Contents (Elt Ideal)) : val_main_v16 (F := Ideal) x0 x1 x2 = (fun i => ∑ x : Fin 8192, Cert.Lin.normed x0 x1 x (i 0) * x2 (ix2 x (i 1)) : (⟨2, ![1024, 1024]⟩ : Shape).Idx → EReal) := by
  funext i
  obtain ⟨r, l, rfl⟩ : ∃ (r : Fin 1024) (l : Fin 1024), i = ix2 r l := ⟨i 0, i 1, eq_ix2 i⟩
  pointwise [val_main_cst, val_main_v0, val_main_v1, val_main_cst_0, val_main_v2, val_main_v3, val_main_cst_1, val_main_v4, val_main_v5, val_main_cst_2, val_main_v6, val_main_v7, val_main_v8, val_main_v9, val_main_v10, val_main_v11, val_main_v12, val_main_v13, val_main_v14, val_main_v15, val_main_v16]
  exact Finset.sum_congr rfl fun x _ => mul_comm _ _

end Cert.QWgradReferenceIdeal.Read
-- ==== Proof.KvWgrad.lean ====
/-
  The gradient of the shared key weight (and of the value weight, the same call).
-/
module

public import proofs.«01_k».proof.Proof.Gen.KvWgradIdeal.Value
public import proofs.«01_k».proof.Proof.Gen.KvWgradReferenceIdeal.Read
public import proofs.«01_k».proof.Proof.Products
public import Idealize.ShloMosaic.Lib.Pipeline.ValueKit

@[expose] public section
set_option maxRecDepth 16384
noncomputable section
namespace Cert.KvWgradIdeal.Gen
open Idealize.ShloMosaic Idealize.ShloMosaic.TcCoe Idealize.SL.Sem Idealize.ShloMosaic.Pipeline

variable (m : (ℓ : Loc nD τ sig) → Buf (Elt Ideal) ℓ)

theorem idx0 : ∀ t : Fin cfg0.N, win0_0.index t (0 : Fin 2) = t.val % 8 ∧ win0_0.index t (1 : Fin 2) = 0 :=
  (by decide +kernel : ∀ t : Fin grid0.N, win0_0.index t (0 : Fin 2) = t.val % 8 ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = t.val % 8 ∧ win0_2.index t (1 : Fin 2) = 0 :=
  (by decide +kernel : ∀ t : Fin grid0.N, win0_2.index t (0 : Fin 2) = t.val % 8 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem point_lt (t : Fin cfg0.N) : t.val < 8 := t.isLt

theorem blk0 (c : Dev nD) (t : Fin cfg0.N) (x : Fin 1024) (y : Fin 1024) : iblk m c 0 t (ix2 x y)
    = m ((c : Thread nD τ).loc main_arg0) (ix2 (⟨1024 * (t.val % 8) + x.val, by have := point_lt t; omega⟩ : Fin 8192) y) := by
  obtain ⟨e0, e1⟩ := idx0 t
  rw [← V_main_arg0 m c]
  show V m c main_arg0 (((cfg0.win 0).blk t).view.emb (ix2 x y)) = _
  congr 1; funext a; apply Fin.ext
  match a with
  | ⟨0, _⟩ => show win0_0.index t (0 : Fin 2) * 1024 + 1 * x.val = 1024 * (t.val % 8) + x.val; omega
  | ⟨1, _⟩ => show win0_0.index t (1 : Fin 2) * 1024 + 1 * y.val = y.val; omega

theorem blk1 (c : Dev nD) (t : Fin cfg0.N) (x : Fin 1) (y : Fin 1024) : iblk m c 1 t (ix2 x y)
    = m ((c : Thread nD τ).loc main_arg1) (ix2 x y) := by
  obtain ⟨e0, e1⟩ := idx1 t
  rw [← V_main_arg1 m c]
  show V m c main_arg1 (((cfg0.win 1).blk t).view.emb (ix2 x y)) = _
  congr 1; funext a; apply Fin.ext
  match a with
  | ⟨0, _⟩ => show win0_1.index t (0 : Fin 2) * 1 + 1 * x.val = x.val; omega
  | ⟨1, _⟩ => show win0_1.index t (1 : Fin 2) * 1024 + 1 * y.val = y.val; omega

theorem blk2 (c : Dev nD) (t : Fin cfg0.N) (x : Fin 1024) (y : Fin 1024) : iblk m c 2 t (ix2 x y)
    = m ((c : Thread nD τ).loc main_arg2) (ix2 (⟨1024 * (t.val % 8) + x.val, by have := point_lt t; omega⟩ : Fin 8192) y) := by
  obtain ⟨e0, e1⟩ := idx2 t
  rw [← V_main_arg2 m c]
  show V m c main_arg2 (((cfg0.win 2).blk t).view.emb (ix2 x y)) = _
  congr 1; funext a; apply Fin.ext
  match a with
  | ⟨0, _⟩ => show win0_2.index t (0 : Fin 2) * 1024 + 1 * x.val = 1024 * (t.val % 8) + x.val; omega
  | ⟨1, _⟩ => show win0_2.index t (1 : Fin 2) * 1024 + 1 * y.val = y.val; omega

theorem emb3 (t : Fin cfg0.N) (x : Fin 1024) (y : Fin 1024) : ((cfg0.win 3).blk t).view.emb (ix2 x y)
    = (ix2 x y) := by
  obtain ⟨e0, e1⟩ := idx3 t
  funext a; apply Fin.ext
  match a with
  | ⟨0, _⟩ => show win0_3.index t (0 : Fin 2) * 1024 + 1 * x.val = x.val; omega
  | ⟨1, _⟩ => show win0_3.index t (1 : Fin 2) * 1024 + 1 * y.val = y.val; omega

/-- The first point of a run leaves the products of its tile over zeros. -/
theorem scratch_first (c : Dev nD) (t : Fin cfg0.N) (h0 : t.val % 8 = 0) :
    (outsAt0 m c t.val t.isLt).2 = k0_pay2 (iblk m c 0 t) (iblk m c 1 t) (iblk m c 2 t) (k0_pay1 (F := Ideal)) := by
  have h1 : ¬t.val % 8 = 7 := by omega
  rw [outsAt0_A m c t h0 h1]
  dsimp only
  unfold sout0_A_0
  rw [View.read_writes_eq_canon _ _ _ (scover0_A_0 c _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, View.readCov_eq_canon']
  rw [View.canon_cons_unit_zero Lin.zero2, View.ld_unit_zero Lin.zero2, View.ld_unit_zero Lin.zero2, View.ld_unit_zero Lin.zero2]
  refine congrArg (fun z => k0_pay2 (iblk m c 0 t) (iblk m c 1 t) (iblk m c 2 t) z) (funext fun j => ?_)
  exact View.canon_cons_emb _ _ _ j

/-- A later point adds the products of its tile. -/
theorem scratch_next (c : Dev nD) (t : Fin cfg0.N) (h0 : ¬t.val % 8 = 0) :
    (outsAt0 m c t.val t.isLt).2 = k0_pay2 (iblk m c 0 t) (iblk m c 1 t) (iblk m c 2 t) (outsAt0 m c (t.val - 1) (Nat.lt_of_le_of_lt (Nat.sub_le _ _) t.isLt)).2 := by
  by_cases h1 : t.val % 8 = 7
  · rw [outsAt0_C m c t h0 h1]
    dsimp only
    unfold sout0_C_0
    rw [View.read_writes_eq_canon _ _ _ (scover0_C_0 c _ _ _ _ _ _ _ _ _ _ _ _ _ _ _ _ _)]
    unfold kernelRun0_C
    dsimp only
    sl_unfold_words
    simp only [View.readAt_eq_ld, (hs0_0 t).read_unread, (hs0_1 t).read_unread, (hs0_2 t).read_unread, (hs0_3 t).read_unread, View.readCov_eq_canon']
    rw [View.canon_cons_unit_zero Lin.zero2, View.ld_unit_zero Lin.zero2, View.ld_unit_zero Lin.zero2, View.ld_unit_zero Lin.zero2, View.ld_unit_zero Lin.zero2]
    exact congrArg (fun z => k0_pay2 (iblk m c 0 t) (iblk m c 1 t) (iblk m c 2 t) z) ((Memref.isWhole_whole _).read_unread _)
  · rw [outsAt0_B m c t h0 h1]
    dsimp only
    unfold sout0_B_0
    rw [View.read_writes_eq_canon _ _ _ (scover0_B_0 c _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, View.readCov_eq_canon']
    rw [View.canon_cons_unit_zero Lin.zero2, View.ld_unit_zero Lin.zero2, View.ld_unit_zero Lin.zero2, View.ld_unit_zero Lin.zero2, View.ld_unit_zero Lin.zero2]
    exact congrArg (fun z => k0_pay2 (iblk m c 0 t) (iblk m c 1 t) (iblk m c 2 t) z) ((Memref.isWhole_whole _).read_unread _)

/-- The last point of a run rounds what its scratch then holds. -/
theorem out_last (c : Dev nD) (t : Fin cfg0.N) (h1 : t.val % 8 = 7) :
    (outsAt0 m c t.val t.isLt).1 = k0_pay3 (F := Ideal) (outsAt0 m c t.val t.isLt).2 := by
  have h0 : ¬t.val % 8 = 0 := by omega
  rw [scratch_next m c t h0, outsAt0_C m c t h0 h1]
  dsimp only
  unfold out0_C_3
  rw [View.read_writes_eq_canon _ _ _ (cover0_C_3 c _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread, View.readCov_eq_canon']
  rw [View.canon_cons_unit_zero Lin.zero2]
  refine congrArg (k0_pay3 (F := Ideal)) (funext fun j => (View.canon_cons_emb _ _ _ j).trans (congrFun ?_ j))
  rw [View.ld_unit_zero Lin.zero2, View.ld_unit_zero Lin.zero2, View.ld_unit_zero Lin.zero2, View.ld_unit_zero Lin.zero2]
  exact congrArg (fun z => k0_pay2 (iblk m c 0 t) (iblk m c 1 t) (iblk m c 2 t) z) ((Memref.isWhole_whole _).read_unread _)

/-- What token `x` adds to the entry `(i, j)` of the gradient. -/
def term (c : Dev nD) (i : Fin 1024) (j : Fin 1024) (x : Fin 8192) : EReal :=
  Lin.weightTerm (m ((c : Thread nD τ).loc main_arg0)) (m ((c : Thread nD τ).loc main_arg1)) (m ((c : Thread nD τ).loc main_arg2)) i j x

/-- The gradient of the weight. -/
def result (c : Dev nD) : S1024x1024.Idx → EReal := fun i => ∑ x : Fin 8192, term m c (i 0) (i 1) x

/-- A tile's products, entry by entry. -/
theorem tile_apply (c : Dev nD) (t : Fin cfg0.N) (acc : Vec Ideal S1024x1024 .f32) (r : Fin 1024) (l : Fin 1024) :
    k0_pay2 (iblk m c 0 t) (iblk m c 1 t) (iblk m c 2 t) acc (ix2 r l)
      = (acc (ix2 r l) : EReal) + ∑ x : Fin 1024, term m c r l ⟨1024 * (t.val % 8) + x.val, by omega⟩ := by
  pointwise [k0_pay2]
  exact congrArg (_ + ·) (Finset.sum_congr rfl fun x _ => congrArg₂ (· * ·) (blk2 m c t x r) (Lin.normed_congr (H := iblk m c 0 t) (G := iblk m c 1 t) (r := x) l (fun y => blk0 m c t x y) (fun y => blk1 m c t 0 y)))

theorem zeros_apply (r : Fin 1024) (l : Fin 1024) : k0_pay1 (F := Ideal) (ix2 r l) = (0 : EReal) := by
  pointwise [k0_pay1]

/-- What the scratch holds after each point: the sum over the tokens of the run so far. -/
theorem scratch_apply (c : Dev nD) (n : ℕ) : ∀ (t : Fin cfg0.N), t.val = n → ∀ (r : Fin 1024) (l : Fin 1024),
    (outsAt0 m c t.val t.isLt).2 (ix2 r l)
      = Lin.upTo (term m c r l) (1024 * (t.val % 8) + 1024) := by
  induction n with
  | zero =>
    intro t ht r l
    have h0 : t.val % 8 = 0 := by omega
    rw [scratch_first m c t h0, tile_apply, zeros_apply,
      ← Lin.upTo_tile _ (1024 * (t.val % 8)) 1024 (by omega)]
    congr 1
    rw [h0]; exact (Lin.upTo_zero _).symm
  | succ n ih =>
    intro t ht r l
    by_cases h0 : t.val % 8 = 0
    · rw [scratch_first m c t h0, tile_apply, zeros_apply,
        ← Lin.upTo_tile _ (1024 * (t.val % 8)) 1024 (by omega)]
      congr 1
      rw [h0]; exact (Lin.upTo_zero _).symm
    · rw [scratch_next m c t h0, tile_apply, ← Lin.upTo_tile _ (1024 * (t.val % 8)) 1024 (by omega)]
      congr 1
      have hp := point_lt t
      refine (ih ⟨t.val - 1, Nat.lt_of_le_of_lt (Nat.sub_le _ _) t.isLt⟩ (by show t.val - 1 = n; omega) r l).trans ?_
      have e1 : (t.val - 1) / 8 = t.val / 8 := by omega
      have e2 : 1024 * ((t.val - 1) % 8) + 1024 = 1024 * (t.val % 8) := by omega
      simp only [e1, e2]

/-- What the last point of a run writes back. -/
theorem point_apply (c : Dev nD) (t : Fin cfg0.N) (h1 : t.val % 8 = 7) (x : Fin 1024) (y : Fin 1024) :
    (outsAt0 m c t.val t.isLt).1 (ix2 x y) = result m c (ix2 x y) := by
  rw [out_last m c t h1]
  refine Eq.trans (b := (outsAt0 m c t.val t.isLt).2 (ix2 x y)) ?_ ?_
  · pointwise [k0_pay3]
  rw [scratch_apply m c t.val t rfl, show 1024 * (t.val % 8) + 1024 = 8192 by omega, Lin.upTo_all]
  rfl

theorem flushed3_eq (c : Dev nD) (t : Fin cfg0.N) (hf : (cfg0.win 3).flush t = true) :
    (dats m 0 c).flushed 3 t = ((cfg0.win 3).blk t).view.read (Elt Ideal) (result m c) := by
  rw [Value.flushed3]
  funext j
  obtain ⟨x, y, rfl⟩ : ∃ (x : Fin 1024) (y : Fin 1024), j = ix2 x y := ⟨j 0, j 1, eq_ix2 j⟩
  show (outsAt0 m c t.val t.isLt).1 (ix2 x y) = result m c (((cfg0.win 3).blk t).view.emb (ix2 x y))
  rw [emb3]
  exact point_apply m c t ((flush0_3 t).mp hf) x y

theorem covered3 (i : S1024x1024.Idx) : ∃ t : Fin cfg0.N, (cfg0.win 3).flush t = true ∧ i ∈ ((cfg0.win 3).blk t).view.set := by
  obtain ⟨r, l, rfl⟩ : ∃ (r : Fin 1024) (l : Fin 1024), i = ix2 r l := ⟨i 0, i 1, eq_ix2 i⟩
  have hr := r.isLt
  have hl := l.isLt
  refine ⟨⟨7, by show _ < 8; omega⟩, (flush0_3 _).mpr (by show (7) % 8 = 7; omega), ?_⟩
  have h := ((cfg0.win 3).blk (⟨7, by show _ < 8; omega⟩ : Fin cfg0.N)).view.emb_mem_set (ix2 r l)
  rw [emb3] at h
  have e : ix2 r l = ix2 r l := by
    congr 1 <;> apply Fin.ext <;> dsimp only <;> omega
  rw [e]; exact h

/-- The result array after the run. -/
theorem final (c : Dev nD) : (dats m 0 c).arrAt 3 cfg0.N = result m c :=
  (dats m 0 c).arrAt_eq_of_cover 3 (result m c) (fun t hf => flushed3_eq m c t hf) covered3

end Cert.KvWgradIdeal.Gen

namespace Cert.KvWgradReferenceIdeal.Read
open Cert.KvWgradReferenceIdeal Cert.KvWgradReferenceIdeal.Gen Idealize.ShloMosaic Idealize.ShloMosaic.TcCoe Idealize.SL.Sem Idealize.ShloMosaic.StableHlo

/-- The reference's result. -/
theorem result_eq (x0 : (⟨S8192x1024, .f32⟩ : BufTy).Contents (Elt Ideal)) (x1 : (⟨S1x1024, .f32⟩ : BufTy).Contents (Elt Ideal)) (x2 : (⟨S8192x1024, .f32⟩ : BufTy).Contents (Elt Ideal)) : val_main_v18 (F := Ideal) x0 x1 x2 = (fun i => ∑ x : Fin 8192, x2 (ix2 x (i 0)) * Cert.Lin.normed x0 x1 x (i 1) : (⟨2, ![1024, 1024]⟩ : Shape).Idx → EReal) := by
  funext i
  obtain ⟨r, l, rfl⟩ : ∃ (r : Fin 1024) (l : Fin 1024), i = ix2 r l := ⟨i 0, i 1, eq_ix2 i⟩
  pointwise [val_main_cst, val_main_v0, val_main_v1, val_main_cst_0, val_main_v2, val_main_v3, val_main_cst_1, val_main_v4, val_main_v5, val_main_cst_2, val_main_v6, val_main_v7, val_main_v8, val_main_v9, val_main_v10, val_main_v11, val_main_v12, val_main_v13, val_main_v14, val_main_v15, val_main_v16, val_main_v17, val_main_v18]
  rfl

end Cert.KvWgradReferenceIdeal.Read
-- ==== Proof.AOutWgrad.lean ====
/-
  The gradient of the delta-rule layer's output weight.
-/
module

public import proofs.«01_k».proof.Proof.Gen.AOutWgradIdeal.Value
public import proofs.«01_k».proof.Proof.Gen.AOutWgradReferenceIdeal.Read
public import proofs.«01_k».proof.Proof.Products
public import Idealize.ShloMosaic.Lib.Pipeline.ValueKit

@[expose] public section
set_option maxRecDepth 16384
noncomputable section
namespace Cert.AOutWgradIdeal.Gen
open Idealize.ShloMosaic Idealize.ShloMosaic.TcCoe Idealize.SL.Sem Idealize.ShloMosaic.Pipeline

variable (m : (ℓ : Loc nD τ sig) → Buf (Elt Ideal) ℓ)

theorem idx0 : ∀ t : Fin cfg0.N, win0_0.index t (0 : Fin 2) = t.val % 4 ∧ win0_0.index t (1 : Fin 2) = 0 :=
  (by decide +kernel : ∀ t : Fin grid0.N, win0_0.index t (0 : Fin 2) = t.val % 4 ∧ win0_0.index t (1 : Fin 2) = 0)
theorem idx1 : ∀ t : Fin cfg0.N, win0_1.index t (0 : Fin 2) = t.val % 4 ∧ win0_1.index t (1 : Fin 2) = 0 :=
  (by decide +kernel : ∀ t : Fin grid0.N, win0_1.index t (0 : Fin 2) = t.val % 4 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem point_lt (t : Fin cfg0.N) : t.val < 4 := t.isLt

theorem blk0 (c : Dev nD) (t : Fin cfg0.N) (x : Fin 2048) (y : Fin 1024) : iblk m c 0 t (ix2 x y)
    = m ((c : Thread nD τ).loc main_arg0) (ix2 (⟨2048 * (t.val % 4) + x.val, by have := point_lt t; omega⟩ : Fin 8192) y) := by
  obtain ⟨e0, e1⟩ := idx0 t
  rw [← V_main_arg0 m c]
  show V m c main_arg0 (((cfg0.win 0).blk t).view.emb (ix2 x y)) = _
  congr 1; funext a; apply Fin.ext
  match a with
  | ⟨0, _⟩ => show win0_0.index t (0 : Fin 2) * 2048 + 1 * x.val = 2048 * (t.val % 4) + x.val; omega
  | ⟨1, _⟩ => show win0_0.index t (1 : Fin 2) * 1024 + 1 * y.val = y.val; omega

theorem blk1 (c : Dev nD) (t : Fin cfg0.N) (x : Fin 2048) (y : Fin 1024) : iblk m c 1 t (ix2 x y)
    = m ((c : Thread nD τ).loc main_arg1) (ix2 (⟨2048 * (t.val % 4) + x.val, by have := point_lt t; omega⟩ : Fin 8192) y) := by
  obtain ⟨e0, e1⟩ := idx1 t
  rw [← V_main_arg1 m c]
  show V m c main_arg1 (((cfg0.win 1).blk t).view.emb (ix2 x y)) = _
  congr 1; funext a; apply Fin.ext
  match a with
  | ⟨0, _⟩ => show win0_1.index t (0 : Fin 2) * 2048 + 1 * x.val = 2048 * (t.val % 4) + x.val; omega
  | ⟨1, _⟩ => show win0_1.index t (1 : Fin 2) * 1024 + 1 * y.val = y.val; omega

theorem emb2 (t : Fin cfg0.N) (x : Fin 1024) (y : Fin 1024) : ((cfg0.win 2).blk t).view.emb (ix2 x y)
    = (ix2 x y) := by
  obtain ⟨e0, e1⟩ := idx2 t
  funext a; apply Fin.ext
  match a with
  | ⟨0, _⟩ => show win0_2.index t (0 : Fin 2) * 1024 + 1 * x.val = x.val; omega
  | ⟨1, _⟩ => show win0_2.index t (1 : Fin 2) * 1024 + 1 * y.val = y.val; omega

/-- The first point of a run leaves the products of its tile over zeros. -/
theorem scratch_first (c : Dev nD) (t : Fin cfg0.N) (h0 : t.val % 4 = 0) :
    (outsAt0 m c t.val t.isLt).2 = k0_pay2 (k0_pay1 (F := Ideal)) (iblk m c 0 t) (iblk m c 1 t) := by
  have h1 : ¬t.val % 4 = 3 := by omega
  rw [outsAt0_A m c t h0 h1]
  dsimp only
  unfold sout0_A_0
  rw [View.read_writes_eq_canon _ _ _ (scover0_A_0 c _ _ _ _ _ _ _ _ _ _ _ _ _)]
  unfold kernelRun0_A
  dsimp only
  sl_unfold_words
  simp only [View.readAt_eq_ld, (hs0_0 t).read_unread, (hs0_1 t).read_unread, (hs0_2 t).read_unread, View.readCov_eq_canon']
  rw [View.canon_cons_unit_zero Lin.zero2, View.ld_unit_zero Lin.zero2, View.ld_unit_zero Lin.zero2]
  refine congrArg (fun z => k0_pay2 z (iblk m c 0 t) (iblk m c 1 t)) (funext fun j => ?_)
  exact View.canon_cons_emb _ _ _ j

/-- A later point adds the products of its tile. -/
theorem scratch_next (c : Dev nD) (t : Fin cfg0.N) (h0 : ¬t.val % 4 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    unfold sout0_C_0
    rw [View.read_writes_eq_canon _ _ _ (scover0_C_0 c _ _ _ _ _ _ _ _ _ _ _ _ _ _)]
    unfold kernelRun0_C
    dsimp only
    sl_unfold_words
    simp only [View.readAt_eq_ld, (hs0_0 t).read_unread, (hs0_1 t).read_unread, (hs0_2 t).read_unread, View.readCov_eq_canon']
    rw [View.canon_cons_unit_zero Lin.zero2, View.ld_unit_zero Lin.zero2, View.ld_unit_zero Lin.zero2, View.ld_unit_zero Lin.zero2]
    exact congrArg (fun z => k0_pay2 z (iblk m c 0 t) (iblk m c 1 t)) ((Memref.isWhole_whole _).read_unread _)
  · rw [outsAt0_B m c t h0 h1]
    dsimp only
    unfold sout0_B_0
    rw [View.read_writes_eq_canon _ _ _ (scover0_B_0 c _ _ _ _ _ _ _ _ _ _ _ _ _ _)]
    unfold kernelRun0_B
    dsimp only
    sl_unfold_words
    simp only [View.readAt_eq_ld, (hs0_0 t).read_unread, (hs0_1 t).read_unread, (hs0_2 t).read_unread, View.readCov_eq_canon']
    rw [View.canon_cons_unit_zero Lin.zero2, View.ld_unit_zero Lin.zero2, View.ld_unit_zero Lin.zero2, View.ld_unit_zero Lin.zero2]
    exact congrArg (fun z => k0_pay2 z (iblk m c 0 t) (iblk m c 1 t)) ((Memref.isWhole_whole _).read_unread _)

/-- The last point of a run rounds what its scratch then holds. -/
theorem out_last (c : Dev nD) (t : Fin cfg0.N) (h1 : t.val % 4 = 3) :
    (outsAt0 m c t.val t.isLt).1 = k0_pay3 (F := Ideal) (outsAt0 m c t.val t.isLt).2 := by
  have h0 : ¬t.val % 4 = 0 := by omega
  rw [scratch_next m c t h0, outsAt0_C m c t h0 h1]
  dsimp only
  unfold out0_C_2
  rw [View.read_writes_eq_canon _ _ _ (cover0_C_2 c _ _ _ _ _ _ _ _ _ _ _ _ _ _)]
  unfold kernelRun0_C
  dsimp only
  sl_unfold_words
  simp only [View.readAt_eq_ld, (hs0_0 t).read_unread, (hs0_1 t).read_unread, (hs0_2 t).read_unread, View.readCov_eq_canon']
  rw [View.canon_cons_unit_zero Lin.zero2]
  refine congrArg (k0_pay3 (F := Ideal)) (funext fun j => (View.canon_cons_emb _ _ _ j).trans (congrFun ?_ j))
  rw [View.ld_unit_zero Lin.zero2, View.ld_unit_zero Lin.zero2, View.ld_unit_zero Lin.zero2]
  exact congrArg (fun z => k0_pay2 z (iblk m c 0 t) (iblk m c 1 t)) ((Memref.isWhole_whole _).read_unread _)

/-- What token `x` adds to the entry `(i, j)` of the gradient. -/
def term (c : Dev nD) (i : Fin 1024) (j : Fin 1024) (x : Fin 8192) : EReal :=
  Lin.plainTerm (m ((c : Thread nD τ).loc main_arg0)) (m ((c : Thread nD τ).loc main_arg1)) i j x

/-- The gradient of the weight. -/
def result (c : Dev nD) : S1024x1024.Idx → EReal := fun i => ∑ x : Fin 8192, term m c (i 0) (i 1) x

/-- A tile's products, entry by entry. -/
theorem tile_apply (c : Dev nD) (t : Fin cfg0.N) (acc : Vec Ideal S1024x1024 .f32) (r : Fin 1024) (l : Fin 1024) :
    k0_pay2 acc (iblk m c 0 t) (iblk m c 1 t) (ix2 r l)
      = (acc (ix2 r l) : EReal) + ∑ x : Fin 2048, term m c r l ⟨2048 * (t.val % 4) + x.val, by omega⟩ := by
  pointwise [k0_pay2]
  exact congrArg (_ + ·) (Finset.sum_congr rfl fun x _ => congrArg₂ (· * ·) (blk0 m c t x r) (blk1 m c t x l))

theorem zeros_apply (r : Fin 1024) (l : Fin 1024) : k0_pay1 (F := Ideal) (ix2 r l) = (0 : EReal) := by
  pointwise [k0_pay1]

/-- What the scratch holds after each point: the sum over the tokens of the run so far. -/
theorem scratch_apply (c : Dev nD) (n : ℕ) : ∀ (t : Fin cfg0.N), t.val = n → ∀ (r : Fin 1024) (l : Fin 1024),
    (outsAt0 m c t.val t.isLt).2 (ix2 r l)
      = Lin.upTo (term m c r l) (2048 * (t.val % 4) + 2048) := by
  induction n with
  | zero =>
    intro t ht r l
    have h0 : t.val % 4 = 0 := by omega
    rw [scratch_first m c t h0, tile_apply, zeros_apply,
      ← Lin.upTo_tile _ (2048 * (t.val % 4)) 2048 (by omega)]
    congr 1
    rw [h0]; exact (Lin.upTo_zero _).symm
  | succ n ih =>
    intro t ht r l
    by_cases h0 : t.val % 4 = 0
    · rw [scratch_first m c t h0, tile_apply, zeros_apply,
        ← Lin.upTo_tile _ (2048 * (t.val % 4)) 2048 (by omega)]
      congr 1
      rw [h0]; exact (Lin.upTo_zero _).symm
    · rw [scratch_next m c t h0, tile_apply, ← Lin.upTo_tile _ (2048 * (t.val % 4)) 2048 (by omega)]
      congr 1
      have hp := point_lt t
      refine (ih ⟨t.val - 1, Nat.lt_of_le_of_lt (Nat.sub_le _ _) t.isLt⟩ (by show t.val - 1 = n; omega) r l).trans ?_
      have e1 : (t.val - 1) / 4 = t.val / 4 := by omega
      have e2 : 2048 * ((t.val - 1) % 4) + 2048 = 2048 * (t.val % 4) := by omega
      simp only [e1, e2]

/-- What the last point of a run writes back. -/
theorem point_apply (c : Dev nD) (t : Fin cfg0.N) (h1 : t.val % 4 = 3) (x : Fin 1024) (y : Fin 1024) :
    (outsAt0 m c t.val t.isLt).1 (ix2 x y) = result m c (ix2 x y) := by
  rw [out_last m c t h1]
  refine Eq.trans (b := (outsAt0 m c t.val t.isLt).2 (ix2 x y)) ?_ ?_
  · pointwise [k0_pay3]
  rw [scratch_apply m c t.val t rfl, show 2048 * (t.val % 4) + 2048 = 8192 by omega, Lin.upTo_all]
  rfl

theorem flushed2_eq (c : Dev nD) (t : Fin cfg0.N) (hf : (cfg0.win 2).flush t = true) :
    (dats m 0 c).flushed 2 t = ((cfg0.win 2).blk t).view.read (Elt Ideal) (result m c) := by
  rw [Value.flushed2]
  funext j
  obtain ⟨x, y, rfl⟩ : ∃ (x : Fin 1024) (y : Fin 1024), j = ix2 x y := ⟨j 0, j 1, eq_ix2 j⟩
  show (outsAt0 m c t.val t.isLt).1 (ix2 x y) = result m c (((cfg0.win 2).blk t).view.emb (ix2 x y))
  rw [emb2]
  exact point_apply m c t ((flush0_2 t).mp hf) x y

theorem covered2 (i : S1024x1024.Idx) : ∃ t : Fin cfg0.N, (cfg0.win 2).flush t = true ∧ i ∈ ((cfg0.win 2).blk t).view.set := by
  obtain ⟨r, l, rfl⟩ : ∃ (r : Fin 1024) (l : Fin 1024), i = ix2 r l := ⟨i 0, i 1, eq_ix2 i⟩
  have hr := r.isLt
  have hl := l.isLt
  refine ⟨⟨3, by show _ < 4; omega⟩, (flush0_2 _).mpr (by show (3) % 4 = 3; omega), ?_⟩
  have h := ((cfg0.win 2).blk (⟨3, by show _ < 4; omega⟩ : Fin cfg0.N)).view.emb_mem_set (ix2 r l)
  rw [emb2] at h
  have e : ix2 r l = ix2 r l := by
    congr 1 <;> apply Fin.ext <;> dsimp only <;> omega
  rw [e]; exact h

/-- The result array after the run. -/
theorem final (c : Dev nD) : (dats m 0 c).arrAt 2 cfg0.N = result m c :=
  (dats m 0 c).arrAt_eq_of_cover 2 (result m c) (fun t hf => flushed2_eq m c t hf) covered2

end Cert.AOutWgradIdeal.Gen

namespace Cert.AOutWgradReferenceIdeal.Read
open Cert.AOutWgradReferenceIdeal Cert.AOutWgradReferenceIdeal.Gen Idealize.ShloMosaic Idealize.ShloMosaic.TcCoe Idealize.SL.Sem Idealize.ShloMosaic.StableHlo

/-- The reference's result. -/
theorem result_eq (x0 : (⟨S8192x1024, .bf16⟩ : BufTy).Contents (Elt Ideal)) (x1 : (⟨S8192x1024, .f32⟩ : BufTy).Contents (Elt Ideal)) : val_main_v5 (F := Ideal) x0 x1 = (fun i => ∑ x : Fin 8192, x0 (ix2 x (i 0)) * x1 (ix2 x (i 1)) : (⟨2, ![1024, 1024]⟩ : Shape).Idx → EReal) := by
  funext i
  obtain ⟨r, l, rfl⟩ : ∃ (r : Fin 1024) (l : Fin 1024), i = ix2 r l := ⟨i 0, i 1, eq_ix2 i⟩
  pointwise [val_main_cst, val_main_v0, val_main_v1, val_main_v2, val_main_v3, val_main_v4, val_main_v5]
  exact Finset.sum_congr rfl fun x _ => mul_comm _ _

end Cert.AOutWgradReferenceIdeal.Read
-- ==== Proof.BOutWgrad.lean ====
/-
  The gradient of the attention layer's output weight.
-/
module

public import proofs.«01_k».proof.Proof.Gen.BOutWgradIdeal.Value
public import proofs.«01_k».proof.Proof.Gen.BOutWgradReferenceIdeal.Read
public import proofs.«01_k».proof.Proof.Products
public import Idealize.ShloMosaic.Lib.Pipeline.ValueKit

@[expose] public section
set_option maxRecDepth 16384
noncomputable section
namespace Cert.BOutWgradIdeal.Gen
open Idealize.ShloMosaic Idealize.ShloMosaic.TcCoe Idealize.SL.Sem Idealize.ShloMosaic.Pipeline

variable (m : (ℓ : Loc nD τ sig) → Buf (Elt Ideal) ℓ)

theorem idx0 : ∀ t : Fin cfg0.N, win0_0.index t (0 : Fin 2) = t.val % 8 ∧ win0_0.index t (1 : Fin 2) = 0 :=
  (by decide +kernel : ∀ t : Fin grid0.N, win0_0.index t (0 : Fin 2) = t.val % 8 ∧ win0_0.index t (1 : Fin 2) = 0)
theorem idx1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem point_lt (t : Fin cfg0.N) : t.val < 8 := t.isLt

theorem blk0 (c : Dev nD) (t : Fin cfg0.N) (x : Fin 1024) (y : Fin 1024) : iblk m c 0 t (ix2 x y)
    = m ((c : Thread nD τ).loc main_arg0) (ix2 (⟨1024 * (t.val % 8) + x.val, by have := point_lt t; omega⟩ : Fin 8192) y) := by
  obtain ⟨e0, e1⟩ := idx0 t
  rw [← V_main_arg0 m c]
  show V m c main_arg0 (((cfg0.win 0).blk t).view.emb (ix2 x y)) = _
  congr 1; funext a; apply Fin.ext
  match a with
  | ⟨0, _⟩ => show win0_0.index t (0 : Fin 2) * 1024 + 1 * x.val = 1024 * (t.val % 8) + x.val; omega
  | ⟨1, _⟩ => show win0_0.index t (1 : Fin 2) * 1024 + 1 * y.val = y.val; omega

theorem blk1 (c : Dev nD) (t : Fin cfg0.N) (x : Fin 1024) (y : Fin 1024) : iblk m c 1 t (ix2 x y)
    = m ((c : Thread nD τ).loc main_arg1) (ix2 (⟨1024 * (t.val % 8) + x.val, by have := point_lt t; omega⟩ : Fin 8192) y) := by
  obtain ⟨e0, e1⟩ := idx1 t
  rw [← V_main_arg1 m c]
  show V m c main_arg1 (((cfg0.win 1).blk t).view.emb (ix2 x y)) = _
  congr 1; funext a; apply Fin.ext
  match a with
  | ⟨0, _⟩ => show win0_1.index t (0 : Fin 2) * 1024 + 1 * x.val = 1024 * (t.val % 8) + x.val; omega
  | ⟨1, _⟩ => show win0_1.index t (1 : Fin 2) * 1024 + 1 * y.val = y.val; omega

theorem emb2 (t : Fin cfg0.N) (x : Fin 1024) (y : Fin 1024) : ((cfg0.win 2).blk t).view.emb (ix2 x y)
    = (ix2 x y) := by
  obtain ⟨e0, e1⟩ := idx2 t
  funext a; apply Fin.ext
  match a with
  | ⟨0, _⟩ => show win0_2.index t (0 : Fin 2) * 1024 + 1 * x.val = x.val; omega
  | ⟨1, _⟩ => show win0_2.index t (1 : Fin 2) * 1024 + 1 * y.val = y.val; omega

/-- The first point of a run leaves the products of its tile over zeros. -/
theorem scratch_first (c : Dev nD) (t : Fin cfg0.N) (h0 : t.val % 8 = 0) :
    (outsAt0 m c t.val t.isLt).2 = k0_pay2 (k0_pay1 (F := Ideal)) (iblk m c 0 t) (iblk m c 1 t) := by
  have h1 : ¬t.val % 8 = 7 := by omega
  rw [outsAt0_A m c t h0 h1]
  dsimp only
  unfold sout0_A_0
  rw [View.read_writes_eq_canon _ _ _ (scover0_A_0 c _ _ _ _ _ _ _ _ _ _ _ _ _)]
  unfold kernelRun0_A
  dsimp only
  sl_unfold_words
  simp only [View.readAt_eq_ld, (hs0_0 t).read_unread, (hs0_1 t).read_unread, (hs0_2 t).read_unread, View.readCov_eq_canon']
  rw [View.canon_cons_unit_zero Lin.zero2, View.ld_unit_zero Lin.zero2, View.ld_unit_zero Lin.zero2]
  refine congrArg (fun z => k0_pay2 z (iblk m c 0 t) (iblk m c 1 t)) (funext fun j => ?_)
  exact View.canon_cons_emb _ _ _ j

/-- A later point adds the products of its tile. -/
theorem scratch_next (c : Dev nD) (t : Fin cfg0.N) (h0 : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]
    dsimp only
    unfold sout0_C_0
    rw [View.read_writes_eq_canon _ _ _ (scover0_C_0 c _ _ _ _ _ _ _ _ _ _ _ _ _ _)]
    unfold kernelRun0_C
    dsimp only
    sl_unfold_words
    simp only [View.readAt_eq_ld, (hs0_0 t).read_unread, (hs0_1 t).read_unread, (hs0_2 t).read_unread, View.readCov_eq_canon']
    rw [View.canon_cons_unit_zero Lin.zero2, View.ld_unit_zero Lin.zero2, View.ld_unit_zero Lin.zero2, View.ld_unit_zero Lin.zero2]
    exact congrArg (fun z => k0_pay2 z (iblk m c 0 t) (iblk m c 1 t)) ((Memref.isWhole_whole _).read_unread _)
  · rw [outsAt0_B m c t h0 h1]
    dsimp only
    unfold sout0_B_0
    rw [View.read_writes_eq_canon _ _ _ (scover0_B_0 c _ _ _ _ _ _ _ _ _ _ _ _ _ _)]
    unfold kernelRun0_B
    dsimp only
    sl_unfold_words
    simp only [View.readAt_eq_ld, (hs0_0 t).read_unread, (hs0_1 t).read_unread, (hs0_2 t).read_unread, View.readCov_eq_canon']
    rw [View.canon_cons_unit_zero Lin.zero2, View.ld_unit_zero Lin.zero2, View.ld_unit_zero Lin.zero2, View.ld_unit_zero Lin.zero2]
    exact congrArg (fun z => k0_pay2 z (iblk m c 0 t) (iblk m c 1 t)) ((Memref.isWhole_whole _).read_unread _)

/-- The last point of a run rounds what its scratch then holds. -/
theorem out_last (c : Dev nD) (t : Fin cfg0.N) (h1 : t.val % 8 = 7) :
    (outsAt0 m c t.val t.isLt).1 = k0_pay3 (F := Ideal) (outsAt0 m c t.val t.isLt).2 := by
  have h0 : ¬t.val % 8 = 0 := by omega
  rw [scratch_next m c t h0, outsAt0_C m c t h0 h1]
  dsimp only
  unfold out0_C_2
  rw [View.read_writes_eq_canon _ _ _ (cover0_C_2 c _ _ _ _ _ _ _ _ _ _ _ _ _ _)]
  unfold kernelRun0_C
  dsimp only
  sl_unfold_words
  simp only [View.readAt_eq_ld, (hs0_0 t).read_unread, (hs0_1 t).read_unread, (hs0_2 t).read_unread, View.readCov_eq_canon']
  rw [View.canon_cons_unit_zero Lin.zero2]
  refine congrArg (k0_pay3 (F := Ideal)) (funext fun j => (View.canon_cons_emb _ _ _ j).trans (congrFun ?_ j))
  rw [View.ld_unit_zero Lin.zero2, View.ld_unit_zero Lin.zero2, View.ld_unit_zero Lin.zero2]
  exact congrArg (fun z => k0_pay2 z (iblk m c 0 t) (iblk m c 1 t)) ((Memref.isWhole_whole _).read_unread _)

/-- What token `x` adds to the entry `(i, j)` of the gradient. -/
def term (c : Dev nD) (i : Fin 1024) (j : Fin 1024) (x : Fin 8192) : EReal :=
  Lin.plainTerm (m ((c : Thread nD τ).loc main_arg0)) (m ((c : Thread nD τ).loc main_arg1)) i j x

/-- The gradient of the weight. -/
def result (c : Dev nD) : S1024x1024.Idx → EReal := fun i => ∑ x : Fin 8192, term m c (i 0) (i 1) x

/-- A tile's products, entry by entry. -/
theorem tile_apply (c : Dev nD) (t : Fin cfg0.N) (acc : Vec Ideal S1024x1024 .f32) (r : Fin 1024) (l : Fin 1024) :
    k0_pay2 acc (iblk m c 0 t) (iblk m c 1 t) (ix2 r l)
      = (acc (ix2 r l) : EReal) + ∑ x : Fin 1024, term m c r l ⟨1024 * (t.val % 8) + x.val, by omega⟩ := by
  pointwise [k0_pay2]
  exact congrArg (_ + ·) (Finset.sum_congr rfl fun x _ => congrArg₂ (· * ·) (blk0 m c t x r) (blk1 m c t x l))

theorem zeros_apply (r : Fin 1024) (l : Fin 1024) : k0_pay1 (F := Ideal) (ix2 r l) = (0 : EReal) := by
  pointwise [k0_pay1]

/-- What the scratch holds after each point: the sum over the tokens of the run so far. -/
theorem scratch_apply (c : Dev nD) (n : ℕ) : ∀ (t : Fin cfg0.N), t.val = n → ∀ (r : Fin 1024) (l : Fin 1024),
    (outsAt0 m c t.val t.isLt).2 (ix2 r l)
      = Lin.upTo (term m c r l) (1024 * (t.val % 8) + 1024) := by
  induction n with
  | zero =>
    intro t ht r l
    have h0 : t.val % 8 = 0 := by omega
    rw [scratch_first m c t h0, tile_apply, zeros_apply,
      ← Lin.upTo_tile _ (1024 * (t.val % 8)) 1024 (by omega)]
    congr 1
    rw [h0]; exact (Lin.upTo_zero _).symm
  | succ n ih =>
    intro t ht r l
    by_cases h0 : t.val % 8 = 0
    · rw [scratch_first m c t h0, tile_apply, zeros_apply,
        ← Lin.upTo_tile _ (1024 * (t.val % 8)) 1024 (by omega)]
      congr 1
      rw [h0]; exact (Lin.upTo_zero _).symm
    · rw [scratch_next m c t h0, tile_apply, ← Lin.upTo_tile _ (1024 * (t.val % 8)) 1024 (by omega)]
      congr 1
      have hp := point_lt t
      refine (ih ⟨t.val - 1, Nat.lt_of_le_of_lt (Nat.sub_le _ _) t.isLt⟩ (by show t.val - 1 = n; omega) r l).trans ?_
      have e1 : (t.val - 1) / 8 = t.val / 8 := by omega
      have e2 : 1024 * ((t.val - 1) % 8) + 1024 = 1024 * (t.val % 8) := by omega
      simp only [e1, e2]

/-- What the last point of a run writes back. -/
theorem point_apply (c : Dev nD) (t : Fin cfg0.N) (h1 : t.val % 8 = 7) (x : Fin 1024) (y : Fin 1024) :
    (outsAt0 m c t.val t.isLt).1 (ix2 x y) = result m c (ix2 x y) := by
  rw [out_last m c t h1]
  refine Eq.trans (b := (outsAt0 m c t.val t.isLt).2 (ix2 x y)) ?_ ?_
  · pointwise [k0_pay3]
  rw [scratch_apply m c t.val t rfl, show 1024 * (t.val % 8) + 1024 = 8192 by omega, Lin.upTo_all]
  rfl

theorem flushed2_eq (c : Dev nD) (t : Fin cfg0.N) (hf : (cfg0.win 2).flush t = true) :
    (dats m 0 c).flushed 2 t = ((cfg0.win 2).blk t).view.read (Elt Ideal) (result m c) := by
  rw [Value.flushed2]
  funext j
  obtain ⟨x, y, rfl⟩ : ∃ (x : Fin 1024) (y : Fin 1024), j = ix2 x y := ⟨j 0, j 1, eq_ix2 j⟩
  show (outsAt0 m c t.val t.isLt).1 (ix2 x y) = result m c (((cfg0.win 2).blk t).view.emb (ix2 x y))
  rw [emb2]
  exact point_apply m c t ((flush0_2 t).mp hf) x y

theorem covered2 (i : S1024x1024.Idx) : ∃ t : Fin cfg0.N, (cfg0.win 2).flush t = true ∧ i ∈ ((cfg0.win 2).blk t).view.set := by
  obtain ⟨r, l, rfl⟩ : ∃ (r : Fin 1024) (l : Fin 1024), i = ix2 r l := ⟨i 0, i 1, eq_ix2 i⟩
  have hr := r.isLt
  have hl := l.isLt
  refine ⟨⟨7, by show _ < 8; omega⟩, (flush0_2 _).mpr (by show (7) % 8 = 7; omega), ?_⟩
  have h := ((cfg0.win 2).blk (⟨7, by show _ < 8; omega⟩ : Fin cfg0.N)).view.emb_mem_set (ix2 r l)
  rw [emb2] at h
  have e : ix2 r l = ix2 r l := by
    congr 1 <;> apply Fin.ext <;> dsimp only <;> omega
  rw [e]; exact h

/-- The result array after the run. -/
theorem final (c : Dev nD) : (dats m 0 c).arrAt 2 cfg0.N = result m c :=
  (dats m 0 c).arrAt_eq_of_cover 2 (result m c) (fun t hf => flushed2_eq m c t hf) covered2

end Cert.BOutWgradIdeal.Gen

namespace Cert.BOutWgradReferenceIdeal.Read
open Cert.BOutWgradReferenceIdeal Cert.BOutWgradReferenceIdeal.Gen Idealize.ShloMosaic Idealize.ShloMosaic.TcCoe Idealize.SL.Sem Idealize.ShloMosaic.StableHlo

/-- The reference's result. -/
theorem result_eq (x0 : (⟨S8192x1024, .f32⟩ : BufTy).Contents (Elt Ideal)) (x1 : (⟨S8192x1024, .f32⟩ : BufTy).Contents (Elt Ideal)) : val_main_v4 (F := Ideal) x0 x1 = (fun i => ∑ x : Fin 8192, x0 (ix2 x (i 0)) * x1 (ix2 x (i 1)) : (⟨2, ![1024, 1024]⟩ : Shape).Idx → EReal) := by
  funext i
  obtain ⟨r, l, rfl⟩ : ∃ (r : Fin 1024) (l : Fin 1024), i = ix2 r l := ⟨i 0, i 1, eq_ix2 i⟩
  pointwise [val_main_cst, val_main_v0, val_main_v1, val_main_v2, val_main_v3, val_main_v4]
  exact Finset.sum_congr rfl fun x _ => mul_comm _ _

end Cert.BOutWgradReferenceIdeal.Read
-- ==== Proof.KvProj.lean ====
/-
  The product that makes the shared keys and values.
-/
module

public import proofs.«01_k».proof.Proof.Gen.KvProjIdeal.Value
public import proofs.«01_k».proof.Proof.Gen.KvProjReferenceIdeal.Read
public import proofs.«01_k».proof.Proof.Products
public import Idealize.ShloMosaic.Lib.Pipeline.ValueKit

@[expose] public section
set_option maxRecDepth 16384
noncomputable section
namespace Cert.KvProjIdeal.Gen
open Idealize.ShloMosaic Idealize.ShloMosaic.TcCoe Idealize.SL.Sem Idealize.ShloMosaic.Pipeline

variable (m : (ℓ : Loc nD τ sig) → Buf (Elt Ideal) ℓ)

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem point_lt (t : Fin cfg0.N) : t.val < 16 := t.isLt

theorem blk0 (c : Dev nD) (t : Fin cfg0.N) (x : Fin 512) (y : Fin 1024) : iblk m c 0 t (ix2 x y)
    = m ((c : Thread nD τ).loc main_arg0) (ix2 (⟨512 * (t.val) + x.val, by have := point_lt t; omega⟩ : Fin 8192) y) := by
  obtain ⟨e0, e1⟩ := idx0 t
  rw [← V_main_arg0 m c]
  show V m c main_arg0 (((cfg0.win 0).blk t).view.emb (ix2 x y)) = _
  congr 1; funext a; apply Fin.ext
  match a with
  | ⟨0, _⟩ => show win0_0.index t (0 : Fin 2) * 512 + 1 * x.val = 512 * (t.val) + x.val; omega
  | ⟨1, _⟩ => show win0_0.index t (1 : Fin 2) * 1024 + 1 * y.val = y.val; omega

theorem blk1 (c : Dev nD) (t : Fin cfg0.N) (x : Fin 1) (y : Fin 1024) : iblk m c 1 t (ix2 x y)
    = m ((c : Thread nD τ).loc main_arg1) (ix2 x y) := by
  obtain ⟨e0, e1⟩ := idx1 t
  rw [← V_main_arg1 m c]
  show V m c main_arg1 (((cfg0.win 1).blk t).view.emb (ix2 x y)) = _
  congr 1; funext a; apply Fin.ext
  match a with
  | ⟨0, _⟩ => show win0_1.index t (0 : Fin 2) * 1 + 1 * x.val = x.val; omega
  | ⟨1, _⟩ => show win0_1.index t (1 : Fin 2) * 1024 + 1 * y.val = y.val; omega

theorem blk2 (c : Dev nD) (t : Fin cfg0.N) (x : Fin 2048) (y : Fin 1024) : iblk m c 2 t (ix2 x y)
    = m ((c : Thread nD τ).loc main_arg2) (ix2 x y) := by
  obtain ⟨e0, e1⟩ := idx2 t
  rw [← V_main_arg2 m c]
  show V m c main_arg2 (((cfg0.win 2).blk t).view.emb (ix2 x y)) = _
  congr 1; funext a; apply Fin.ext
  match a with
  | ⟨0, _⟩ => show win0_2.index t (0 : Fin 2) * 2048 + 1 * x.val = x.val; omega
  | ⟨1, _⟩ => show win0_2.index t (1 : Fin 2) * 1024 + 1 * y.val = y.val; omega

theorem emb3 (t : Fin cfg0.N) (x : Fin 512) (y : Fin 2048) : ((cfg0.win 3).blk t).view.emb (ix2 x y)
    = (ix2 (⟨512 * (t.val) + x.val, by have := point_lt t; omega⟩ : Fin 8192) y) := by
  obtain ⟨e0, e1⟩ := idx3 t
  funext a; apply Fin.ext
  match a with
  | ⟨0, _⟩ => show win0_3.index t (0 : Fin 2) * 512 + 1 * x.val = 512 * (t.val) + x.val; omega
  | ⟨1, _⟩ => show win0_3.index t (1 : Fin 2) * 2048 + 1 * y.val = y.val; omega

/-- The product. -/
def result (c : Dev nD) : S8192x2048.Idx → EReal := fun i =>
  ∑ k : Fin 1024, Lin.normed (m ((c : Thread nD τ).loc main_arg0)) (m ((c : Thread nD τ).loc main_arg1)) (i 0) k * ((m ((c : Thread nD τ).loc main_arg2)) (ix2 (i 1) k) : EReal)

/-- What a point writes back. -/
theorem point_apply (c : Dev nD) (t : Fin cfg0.N) (x : Fin 512) (y : Fin 2048) :
    out0_3 (iblk m c 0 t) (iblk m c 1 t) (iblk m c 2 t) (ix2 x y) = result m c (ix2 (⟨512 * (t.val) + x.val, by have := point_lt t; omega⟩ : Fin 8192) y) := by
  unfold out0_3
  rw [View.canon_unit_zero Lin.zero2, View.ld_unit_zero Lin.zero2, View.ld_unit_zero Lin.zero2, View.ld_unit_zero Lin.zero2]
  pointwise [k0_pay1]
  unfold result
  exact Finset.sum_congr rfl fun k _ => congrArg₂ (· * ·)
    (Lin.normed_congr (H := iblk m c 0 t) (G := iblk m c 1 t) (r := x) k (fun z => blk0 m c t x z) (fun z => blk1 m c t 0 z))
    (blk2 m c t y k)

theorem flushed3_eq (c : Dev nD) (t : Fin cfg0.N) (hf : (cfg0.win 3).flush t = true) :
    (dats m 0 c).flushed 3 t = ((cfg0.win 3).blk t).view.read (Elt Ideal) (result m c) := by
  rw [Value.flushed3]
  funext j
  obtain ⟨x, y, rfl⟩ : ∃ (x : Fin 512) (y : Fin 2048), j = ix2 x y := ⟨j 0, j 1, eq_ix2 j⟩
  show out0_3 (iblk m c 0 t) (iblk m c 1 t) (iblk m c 2 t) (ix2 x y) = result m c (((cfg0.win 3).blk t).view.emb (ix2 x y))
  rw [emb3]
  exact point_apply m c t x y

theorem covered3 (i : S8192x2048.Idx) : ∃ t : Fin cfg0.N, (cfg0.win 3).flush t = true ∧ i ∈ ((cfg0.win 3).blk t).view.set := by
  obtain ⟨r, l, rfl⟩ : ∃ (r : Fin 8192) (l : Fin 2048), i = ix2 r l := ⟨i 0, i 1, eq_ix2 i⟩
  have hr := r.isLt
  have hl := l.isLt
  refine ⟨⟨r.val / 512, by show _ < 16; omega⟩, flush0_3 _, ?_⟩
  have h := ((cfg0.win 3).blk (⟨r.val / 512, by show _ < 16; omega⟩ : Fin cfg0.N)).view.emb_mem_set (ix2 (⟨r.val % 512, Nat.mod_lt _ (by omega)⟩ : Fin 512) l)
  rw [emb3] at h
  have e : ix2 r l = ix2 (⟨512 * ((r.val / 512)) + r.val % 512, by omega⟩ : Fin 8192) l := by
    congr 1 <;> apply Fin.ext <;> dsimp only <;> omega
  rw [e]; exact h

/-- The result array after the run. -/
theorem final (c : Dev nD) : (dats m 0 c).arrAt 3 cfg0.N = result m c :=
  (dats m 0 c).arrAt_eq_of_cover 3 (result m c) (fun t hf => flushed3_eq m c t hf) covered3

end Cert.KvProjIdeal.Gen

namespace Cert.KvProjReferenceIdeal.Read
open Cert.KvProjReferenceIdeal Cert.KvProjReferenceIdeal.Gen Idealize.ShloMosaic Idealize.ShloMosaic.TcCoe Idealize.SL.Sem Idealize.ShloMosaic.StableHlo

/-- The reference's result. -/
theorem result_eq (x0 : (⟨S8192x1024, .f32⟩ : BufTy).Contents (Elt Ideal)) (x1 : (⟨S1x1024, .f32⟩ : BufTy).Contents (Elt Ideal)) (x2 : (⟨S2048x1024, .bf16⟩ : BufTy).Contents (Elt Ideal)) : val_main_v14 (F := Ideal) x0 x1 x2 = (fun i => ∑ k : Fin 1024, Cert.Lin.normed x0 x1 (i 0) k * (x2 (ix2 (i 1) k) : EReal) : (⟨2, ![8192, 2048]⟩ : Shape).Idx → EReal) := by
  funext i
  obtain ⟨r, l, rfl⟩ : ∃ (r : Fin 8192) (l : Fin 2048), i = ix2 r l := ⟨i 0, i 1, eq_ix2 i⟩
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14]
  rfl

end Cert.KvProjReferenceIdeal.Read
-- ==== Proof.QProj.lean ====
/-
  The product that makes the attention's queries.
-/
module

public import proofs.«01_k».proof.Proof.Gen.QProjIdeal.Value
public import proofs.«01_k».proof.Proof.Gen.QProjReferenceIdeal.Read
public import proofs.«01_k».proof.Proof.Products
public import Idealize.ShloMosaic.Lib.Pipeline.ValueKit

@[expose] public section
set_option maxRecDepth 16384
noncomputable section
namespace Cert.QProjIdeal.Gen
open Idealize.ShloMosaic Idealize.ShloMosaic.TcCoe Idealize.SL.Sem Idealize.ShloMosaic.Pipeline

variable (m : (ℓ : Loc nD τ sig) → Buf (Elt Ideal) ℓ)

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem point_lt (t : Fin cfg0.N) : t.val < 8 := t.isLt

theorem blk0 (c : Dev nD) (t : Fin cfg0.N) (x : Fin 1024) (y : Fin 1024) : iblk m c 0 t (ix2 x y)
    = m ((c : Thread nD τ).loc main_arg0) (ix2 (⟨1024 * (t.val) + x.val, by have := point_lt t; omega⟩ : Fin 8192) y) := by
  obtain ⟨e0, e1⟩ := idx0 t
  rw [← V_main_arg0 m c]
  show V m c main_arg0 (((cfg0.win 0).blk t).view.emb (ix2 x y)) = _
  congr 1; funext a; apply Fin.ext
  match a with
  | ⟨0, _⟩ => show win0_0.index t (0 : Fin 2) * 1024 + 1 * x.val = 1024 * (t.val) + x.val; omega
  | ⟨1, _⟩ => show win0_0.index t (1 : Fin 2) * 1024 + 1 * y.val = y.val; omega

theorem blk1 (c : Dev nD) (t : Fin cfg0.N) (x : Fin 1) (y : Fin 1024) : iblk m c 1 t (ix2 x y)
    = m ((c : Thread nD τ).loc main_arg1) (ix2 x y) := by
  obtain ⟨e0, e1⟩ := idx1 t
  rw [← V_main_arg1 m c]
  show V m c main_arg1 (((cfg0.win 1).blk t).view.emb (ix2 x y)) = _
  congr 1; funext a; apply Fin.ext
  match a with
  | ⟨0, _⟩ => show win0_1.index t (0 : Fin 2) * 1 + 1 * x.val = x.val; omega
  | ⟨1, _⟩ => show win0_1.index t (1 : Fin 2) * 1024 + 1 * y.val = y.val; omega

theorem blk2 (c : Dev nD) (t : Fin cfg0.N) (x : Fin 1024) (y : Fin 1024) : iblk m c 2 t (ix2 x y)
    = m ((c : Thread nD τ).loc main_arg2) (ix2 x y) := by
  obtain ⟨e0, e1⟩ := idx2 t
  rw [← V_main_arg2 m c]
  show V m c main_arg2 (((cfg0.win 2).blk t).view.emb (ix2 x y)) = _
  congr 1; funext a; apply Fin.ext
  match a with
  | ⟨0, _⟩ => show win0_2.index t (0 : Fin 2) * 1024 + 1 * x.val = x.val; omega
  | ⟨1, _⟩ => show win0_2.index t (1 : Fin 2) * 1024 + 1 * y.val = y.val; omega

theorem emb3 (t : Fin cfg0.N) (x : Fin 1024) (y : Fin 1024) : ((cfg0.win 3).blk t).view.emb (ix2 x y)
    = (ix2 (⟨1024 * (t.val) + x.val, by have := point_lt t; omega⟩ : Fin 8192) y) := by
  obtain ⟨e0, e1⟩ := idx3 t
  funext a; apply Fin.ext
  match a with
  | ⟨0, _⟩ => show win0_3.index t (0 : Fin 2) * 1024 + 1 * x.val = 1024 * (t.val) + x.val; omega
  | ⟨1, _⟩ => show win0_3.index t (1 : Fin 2) * 1024 + 1 * y.val = y.val; omega

/-- The product. -/
def result (c : Dev nD) : S8192x1024.Idx → EReal := fun i =>
  ∑ k : Fin 1024, Lin.normed (m ((c : Thread nD τ).loc main_arg0)) (m ((c : Thread nD τ).loc main_arg1)) (i 0) k * ((m ((c : Thread nD τ).loc main_arg2)) (ix2 k (i 1)) : EReal)

/-- What a point writes back. -/
theorem point_apply (c : Dev nD) (t : Fin cfg0.N) (x : Fin 1024) (y : Fin 1024) :
    out0_3 (iblk m c 0 t) (iblk m c 1 t) (iblk m c 2 t) (ix2 x y) = result m c (ix2 (⟨1024 * (t.val) + x.val, by have := point_lt t; omega⟩ : Fin 8192) y) := by
  unfold out0_3
  rw [View.canon_unit_zero Lin.zero2, View.ld_unit_zero Lin.zero2, View.ld_unit_zero Lin.zero2, View.ld_unit_zero Lin.zero2]
  pointwise [k0_pay1]
  unfold result
  exact Finset.sum_congr rfl fun k _ => congrArg₂ (· * ·)
    (Lin.normed_congr (H := iblk m c 0 t) (G := iblk m c 1 t) (r := x) k (fun z => blk0 m c t x z) (fun z => blk1 m c t 0 z))
    (blk2 m c t k y)

theorem flushed3_eq (c : Dev nD) (t : Fin cfg0.N) (hf : (cfg0.win 3).flush t = true) :
    (dats m 0 c).flushed 3 t = ((cfg0.win 3).blk t).view.read (Elt Ideal) (result m c) := by
  rw [Value.flushed3]
  funext j
  obtain ⟨x, y, rfl⟩ : ∃ (x : Fin 1024) (y : Fin 1024), j = ix2 x y := ⟨j 0, j 1, eq_ix2 j⟩
  show out0_3 (iblk m c 0 t) (iblk m c 1 t) (iblk m c 2 t) (ix2 x y) = result m c (((cfg0.win 3).blk t).view.emb (ix2 x y))
  rw [emb3]
  exact point_apply m c t x y

theorem covered3 (i : S8192x1024.Idx) : ∃ t : Fin cfg0.N, (cfg0.win 3).flush t = true ∧ i ∈ ((cfg0.win 3).blk t).view.set := by
  obtain ⟨r, l, rfl⟩ : ∃ (r : Fin 8192) (l : Fin 1024), i = ix2 r l := ⟨i 0, i 1, eq_ix2 i⟩
  have hr := r.isLt
  have hl := l.isLt
  refine ⟨⟨r.val / 1024, by show _ < 8; omega⟩, flush0_3 _, ?_⟩
  have h := ((cfg0.win 3).blk (⟨r.val / 1024, by show _ < 8; omega⟩ : Fin cfg0.N)).view.emb_mem_set (ix2 (⟨r.val % 1024, Nat.mod_lt _ (by omega)⟩ : Fin 1024) l)
  rw [emb3] at h
  have e : ix2 r l = ix2 (⟨1024 * ((r.val / 1024)) + r.val % 1024, by omega⟩ : Fin 8192) l := by
    congr 1 <;> apply Fin.ext <;> dsimp only <;> omega
  rw [e]; exact h

/-- The result array after the run. -/
theorem final (c : Dev nD) : (dats m 0 c).arrAt 3 cfg0.N = result m c :=
  (dats m 0 c).arrAt_eq_of_cover 3 (result m c) (fun t hf => flushed3_eq m c t hf) covered3

end Cert.QProjIdeal.Gen

namespace Cert.QProjReferenceIdeal.Read
open Cert.QProjReferenceIdeal Cert.QProjReferenceIdeal.Gen Idealize.ShloMosaic Idealize.ShloMosaic.TcCoe Idealize.SL.Sem Idealize.ShloMosaic.StableHlo

/-- The reference's result. -/
theorem result_eq (x0 : (⟨S8192x1024, .f32⟩ : BufTy).Contents (Elt Ideal)) (x1 : (⟨S1x1024, .f32⟩ : BufTy).Contents (Elt Ideal)) (x2 : (⟨S1024x1024, .bf16⟩ : BufTy).Contents (Elt Ideal)) : val_main_v13 (F := Ideal) x0 x1 x2 = (fun i => ∑ k : Fin 1024, Cert.Lin.normed x0 x1 (i 0) k * (x2 (ix2 k (i 1)) : EReal) : (⟨2, ![8192, 1024]⟩ : Shape).Idx → EReal) := by
  funext i
  obtain ⟨r, l, rfl⟩ : ∃ (r : Fin 8192) (l : Fin 1024), i = ix2 r l := ⟨i 0, i 1, eq_ix2 i⟩
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13]
  rfl

end Cert.QProjReferenceIdeal.Read
-- ==== Proof.BOutProj.lean ====
/-
  The attention layer's output product, added to the residual stream.
-/
module

public import proofs.«01_k».proof.Proof.Gen.BOutProjIdeal.Value
public import proofs.«01_k».proof.Proof.Gen.BOutProjReferenceIdeal.Read
public import proofs.«01_k».proof.Proof.Products
public import Idealize.ShloMosaic.Lib.Pipeline.ValueKit

@[expose] public section
set_option maxRecDepth 16384
noncomputable section
namespace Cert.BOutProjIdeal.Gen
open Idealize.ShloMosaic Idealize.ShloMosaic.TcCoe Idealize.SL.Sem Idealize.ShloMosaic.Pipeline

variable (m : (ℓ : Loc nD τ sig) → Buf (Elt Ideal) ℓ)

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem point_lt (t : Fin cfg0.N) : t.val < 8 := t.isLt

theorem blk0 (c : Dev nD) (t : Fin cfg0.N) (x : Fin 1024) (y : Fin 1024) : iblk m c 0 t (ix2 x y)
    = m ((c : Thread nD τ).loc main_arg0) (ix2 (⟨1024 * (t.val) + x.val, by have := point_lt t; omega⟩ : Fin 8192) y) := by
  obtain ⟨e0, e1⟩ := idx0 t
  rw [← V_main_arg0 m c]
  show V m c main_arg0 (((cfg0.win 0).blk t).view.emb (ix2 x y)) = _
  congr 1; funext a; apply Fin.ext
  match a with
  | ⟨0, _⟩ => show win0_0.index t (0 : Fin 2) * 1024 + 1 * x.val = 1024 * (t.val) + x.val; omega
  | ⟨1, _⟩ => show win0_0.index t (1 : Fin 2) * 1024 + 1 * y.val = y.val; omega

theorem blk1 (c : Dev nD) (t : Fin cfg0.N) (x : Fin 1024) (y : Fin 1024) : iblk m c 1 t (ix2 x y)
    = m ((c : Thread nD τ).loc main_arg1) (ix2 x y) := by
  obtain ⟨e0, e1⟩ := idx1 t
  rw [← V_main_arg1 m c]
  show V m c main_arg1 (((cfg0.win 1).blk t).view.emb (ix2 x y)) = _
  congr 1; funext a; apply Fin.ext
  match a with
  | ⟨0, _⟩ => show win0_1.index t (0 : Fin 2) * 1024 + 1 * x.val = x.val; omega
  | ⟨1, _⟩ => show win0_1.index t (1 : Fin 2) * 1024 + 1 * y.val = y.val; omega

theorem blk2 (c : Dev nD) (t : Fin cfg0.N) (x : Fin 1024) (y : Fin 1024) : iblk m c 2 t (ix2 x y)
    = m ((c : Thread nD τ).loc main_arg2) (ix2 (⟨1024 * (t.val) + x.val, by have := point_lt t; omega⟩ : Fin 8192) y) := by
  obtain ⟨e0, e1⟩ := idx2 t
  rw [← V_main_arg2 m c]
  show V m c main_arg2 (((cfg0.win 2).blk t).view.emb (ix2 x y)) = _
  congr 1; funext a; apply Fin.ext
  match a with
  | ⟨0, _⟩ => show win0_2.index t (0 : Fin 2) * 1024 + 1 * x.val = 1024 * (t.val) + x.val; omega
  | ⟨1, _⟩ => show win0_2.index t (1 : Fin 2) * 1024 + 1 * y.val = y.val; omega

theorem emb3 (t : Fin cfg0.N) (x : Fin 1024) (y : Fin 1024) : ((cfg0.win 3).blk t).view.emb (ix2 x y)
    = (ix2 (⟨1024 * (t.val) + x.val, by have := point_lt t; omega⟩ : Fin 8192) y) := by
  obtain ⟨e0, e1⟩ := idx3 t
  funext a; apply Fin.ext
  match a with
  | ⟨0, _⟩ => show win0_3.index t (0 : Fin 2) * 1024 + 1 * x.val = 1024 * (t.val) + x.val; omega
  | ⟨1, _⟩ => show win0_3.index t (1 : Fin 2) * 1024 + 1 * y.val = y.val; omega

/-- The product. -/
def result (c : Dev nD) : S8192x1024.Idx → EReal := fun i =>
  Lin.addProduct (m ((c : Thread nD τ).loc main_arg2)) (m ((c : Thread nD τ).loc main_arg0)) (m ((c : Thread nD τ).loc main_arg1)) (i 0) (i 1)

/-- What a point writes back. -/
theorem point_apply (c : Dev nD) (t : Fin cfg0.N) (x : Fin 1024) (y : Fin 1024) :
    out0_3 (iblk m c 0 t) (iblk m c 1 t) (iblk m c 2 t) (ix2 x y) = result m c (ix2 (⟨1024 * (t.val) + x.val, by have := point_lt t; omega⟩ : Fin 8192) y) := by
  unfold out0_3
  rw [View.canon_unit_zero Lin.zero2, View.ld_unit_zero Lin.zero2, View.ld_unit_zero Lin.zero2, View.ld_unit_zero Lin.zero2]
  pointwise [k0_pay1]
  unfold result
  exact congrArg₂ (· + ·) (blk2 m c t x y) (Finset.sum_congr rfl fun k _ => congrArg₂ (· * ·) (blk0 m c t x k) (blk1 m c t k y))

theorem flushed3_eq (c : Dev nD) (t : Fin cfg0.N) (hf : (cfg0.win 3).flush t = true) :
    (dats m 0 c).flushed 3 t = ((cfg0.win 3).blk t).view.read (Elt Ideal) (result m c) := by
  rw [Value.flushed3]
  funext j
  obtain ⟨x, y, rfl⟩ : ∃ (x : Fin 1024) (y : Fin 1024), j = ix2 x y := ⟨j 0, j 1, eq_ix2 j⟩
  show out0_3 (iblk m c 0 t) (iblk m c 1 t) (iblk m c 2 t) (ix2 x y) = result m c (((cfg0.win 3).blk t).view.emb (ix2 x y))
  rw [emb3]
  exact point_apply m c t x y

theorem covered3 (i : S8192x1024.Idx) : ∃ t : Fin cfg0.N, (cfg0.win 3).flush t = true ∧ i ∈ ((cfg0.win 3).blk t).view.set := by
  obtain ⟨r, l, rfl⟩ : ∃ (r : Fin 8192) (l : Fin 1024), i = ix2 r l := ⟨i 0, i 1, eq_ix2 i⟩
  have hr := r.isLt
  have hl := l.isLt
  refine ⟨⟨r.val / 1024, by show _ < 8; omega⟩, flush0_3 _, ?_⟩
  have h := ((cfg0.win 3).blk (⟨r.val / 1024, by show _ < 8; omega⟩ : Fin cfg0.N)).view.emb_mem_set (ix2 (⟨r.val % 1024, Nat.mod_lt _ (by omega)⟩ : Fin 1024) l)
  rw [emb3] at h
  have e : ix2 r l = ix2 (⟨1024 * ((r.val / 1024)) + r.val % 1024, by omega⟩ : Fin 8192) l := by
    congr 1 <;> apply Fin.ext <;> dsimp only <;> omega
  rw [e]; exact h

/-- The result array after the run. -/
theorem final (c : Dev nD) : (dats m 0 c).arrAt 3 cfg0.N = result m c :=
  (dats m 0 c).arrAt_eq_of_cover 3 (result m c) (fun t hf => flushed3_eq m c t hf) covered3

end Cert.BOutProjIdeal.Gen

namespace Cert.BOutProjReferenceIdeal.Read
open Cert.BOutProjReferenceIdeal Cert.BOutProjReferenceIdeal.Gen Idealize.ShloMosaic Idealize.ShloMosaic.TcCoe Idealize.SL.Sem Idealize.ShloMosaic.StableHlo

/-- The reference's result. -/
theorem result_eq (x0 : (⟨S8192x1024, .f32⟩ : BufTy).Contents (Elt Ideal)) (x1 : (⟨S1024x1024, .bf16⟩ : BufTy).Contents (Elt Ideal)) (x2 : (⟨S8192x1024, .f32⟩ : BufTy).Contents (Elt Ideal)) : val_main_v2 (F := Ideal) x0 x1 x2 = (fun i => Cert.Lin.addProduct x2 x0 x1 (i 0) (i 1) : (⟨2, ![8192, 1024]⟩ : Shape).Idx → EReal) := by
  funext i
  obtain ⟨r, l, rfl⟩ : ∃ (r : Fin 8192) (l : Fin 1024), i = ix2 r l := ⟨i 0, i 1, eq_ix2 i⟩
  pointwise [val_main_v0, val_main_v1, val_main_v2]
  rfl

end Cert.BOutProjReferenceIdeal.Read
-- ==== Proof.BOutDx.lean ====
/-
  The cotangent of the attention's result.
-/
module

public import proofs.«01_k».proof.Proof.Gen.BOutDxIdeal.Value
public import proofs.«01_k».proof.Proof.Gen.BOutDxReferenceIdeal.Read
public import proofs.«01_k».proof.Proof.Products
public import Idealize.ShloMosaic.Lib.Pipeline.ValueKit

@[expose] public section
set_option maxRecDepth 16384
noncomputable section
namespace Cert.BOutDxIdeal.Gen
open Idealize.ShloMosaic Idealize.ShloMosaic.TcCoe Idealize.SL.Sem Idealize.ShloMosaic.Pipeline

variable (m : (ℓ : Loc nD τ sig) → Buf (Elt Ideal) ℓ)

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

theorem point_lt (t : Fin cfg0.N) : t.val < 8 := t.isLt

theorem blk0 (c : Dev nD) (t : Fin cfg0.N) (x : Fin 1024) (y : Fin 1024) : iblk m c 0 t (ix2 x y)
    = m ((c : Thread nD τ).loc main_arg0) (ix2 (⟨1024 * (t.val) + x.val, by have := point_lt t; omega⟩ : Fin 8192) y) := by
  obtain ⟨e0, e1⟩ := idx0 t
  rw [← V_main_arg0 m c]
  show V m c main_arg0 (((cfg0.win 0).blk t).view.emb (ix2 x y)) = _
  congr 1; funext a; apply Fin.ext
  match a with
  | ⟨0, _⟩ => show win0_0.index t (0 : Fin 2) * 1024 + 1 * x.val = 1024 * (t.val) + x.val; omega
  | ⟨1, _⟩ => show win0_0.index t (1 : Fin 2) * 1024 + 1 * y.val = y.val; omega

theorem blk1 (c : Dev nD) (t : Fin cfg0.N) (x : Fin 1024) (y : Fin 1024) : iblk m c 1 t (ix2 x y)
    = m ((c : Thread nD τ).loc main_arg1) (ix2 x y) := by
  obtain ⟨e0, e1⟩ := idx1 t
  rw [← V_main_arg1 m c]
  show V m c main_arg1 (((cfg0.win 1).blk t).view.emb (ix2 x y)) = _
  congr 1; funext a; apply Fin.ext
  match a with
  | ⟨0, _⟩ => show win0_1.index t (0 : Fin 2) * 1024 + 1 * x.val = x.val; omega
  | ⟨1, _⟩ => show win0_1.index t (1 : Fin 2) * 1024 + 1 * y.val = y.val; omega

theorem emb2 (t : Fin cfg0.N) (x : Fin 1024) (y : Fin 1024) : ((cfg0.win 2).blk t).view.emb (ix2 x y)
    = (ix2 (⟨1024 * (t.val) + x.val, by have := point_lt t; omega⟩ : Fin 8192) y) := by
  obtain ⟨e0, e1⟩ := idx2 t
  funext a; apply Fin.ext
  match a with
  | ⟨0, _⟩ => show win0_2.index t (0 : Fin 2) * 1024 + 1 * x.val = 1024 * (t.val) + x.val; omega
  | ⟨1, _⟩ => show win0_2.index t (1 : Fin 2) * 1024 + 1 * y.val = y.val; omega

/-- The product. -/
def result (c : Dev nD) : S8192x1024.Idx → EReal := fun i =>
  Lin.transposeProduct (m ((c : Thread nD τ).loc main_arg0)) (m ((c : Thread nD τ).loc main_arg1)) (i 0) (i 1)

/-- What a point writes back. -/
theorem point_apply (c : Dev nD) (t : Fin cfg0.N) (x : Fin 1024) (y : Fin 1024) :
    out0_2 (iblk m c 0 t) (iblk m c 1 t) (ix2 x y) = result m c (ix2 (⟨1024 * (t.val) + x.val, by have := point_lt t; omega⟩ : Fin 8192) y) := by
  unfold out0_2
  rw [View.canon_unit_zero Lin.zero2, View.ld_unit_zero Lin.zero2, View.ld_unit_zero Lin.zero2]
  pointwise [k0_pay1]
  unfold result
  exact Finset.sum_congr rfl fun k _ => congrArg₂ (· * ·) (blk0 m c t x k) (blk1 m c t y k)

theorem flushed2_eq (c : Dev nD) (t : Fin cfg0.N) (hf : (cfg0.win 2).flush t = true) :
    (dats m 0 c).flushed 2 t = ((cfg0.win 2).blk t).view.read (Elt Ideal) (result m c) := by
  rw [Value.flushed2]
  funext j
  obtain ⟨x, y, rfl⟩ : ∃ (x : Fin 1024) (y : Fin 1024), j = ix2 x y := ⟨j 0, j 1, eq_ix2 j⟩
  show out0_2 (iblk m c 0 t) (iblk m c 1 t) (ix2 x y) = result m c (((cfg0.win 2).blk t).view.emb (ix2 x y))
  rw [emb2]
  exact point_apply m c t x y

theorem covered2 (i : S8192x1024.Idx) : ∃ t : Fin cfg0.N, (cfg0.win 2).flush t = true ∧ i ∈ ((cfg0.win 2).blk t).view.set := by
  obtain ⟨r, l, rfl⟩ : ∃ (r : Fin 8192) (l : Fin 1024), i = ix2 r l := ⟨i 0, i 1, eq_ix2 i⟩
  have hr := r.isLt
  have hl := l.isLt
  refine ⟨⟨r.val / 1024, by show _ < 8; omega⟩, flush0_2 _, ?_⟩
  have h := ((cfg0.win 2).blk (⟨r.val / 1024, by show _ < 8; omega⟩ : Fin cfg0.N)).view.emb_mem_set (ix2 (⟨r.val % 1024, Nat.mod_lt _ (by omega)⟩ : Fin 1024) l)
  rw [emb2] at h
  have e : ix2 r l = ix2 (⟨1024 * ((r.val / 1024)) + r.val % 1024, by omega⟩ : Fin 8192) l := by
    congr 1 <;> apply Fin.ext <;> dsimp only <;> omega
  rw [e]; exact h

/-- The result array after the run. -/
theorem final (c : Dev nD) : (dats m 0 c).arrAt 2 cfg0.N = result m c :=
  (dats m 0 c).arrAt_eq_of_cover 2 (result m c) (fun t hf => flushed2_eq m c t hf) covered2

end Cert.BOutDxIdeal.Gen

namespace Cert.BOutDxReferenceIdeal.Read
open Cert.BOutDxReferenceIdeal Cert.BOutDxReferenceIdeal.Gen Idealize.ShloMosaic Idealize.ShloMosaic.TcCoe Idealize.SL.Sem Idealize.ShloMosaic.StableHlo

/-- The reference's result. -/
theorem result_eq (x0 : (⟨S8192x1024, .f32⟩ : BufTy).Contents (Elt Ideal)) (x1 : (⟨S1024x1024, .bf16⟩ : BufTy).Contents (Elt Ideal)) : val_main_v3 (F := Ideal) x0 x1 = (fun i => Cert.Lin.transposeProduct x0 x1 (i 0) (i 1) : (⟨2, ![8192, 1024]⟩ : Shape).Idx → EReal) := by
  funext i
  obtain ⟨r, l, rfl⟩ : ∃ (r : Fin 8192) (l : Fin 1024), i = ix2 r l := ⟨i 0, i 1, eq_ix2 i⟩
  pointwise [val_main_cst, val_main_v0, val_main_v1, val_main_v2, val_main_v3]
  rfl

end Cert.BOutDxReferenceIdeal.Read
-- ==== Proof.BaWgrad.lean ====
/-
  The gradient of the delta-rule layer's input weight, at the two gates' columns.
-/
module

public import proofs.«01_k».proof.Proof.Gen.BaWgradIdeal.Value
public import proofs.«01_k».proof.Proof.Gen.BaWgradReferenceIdeal.Read
public import proofs.«01_k».proof.Proof.Products
public import Idealize.ShloMosaic.Lib.Pipeline.ValueKit

@[expose] public section
set_option maxRecDepth 16384
noncomputable section
namespace Cert.BaWgradIdeal.Gen
open Idealize.ShloMosaic Idealize.ShloMosaic.TcCoe Idealize.SL.Sem Idealize.ShloMosaic.Pipeline

variable (m : (ℓ : Loc nD τ sig) → Buf (Elt Ideal) ℓ)

theorem idx0 : ∀ t : Fin cfg0.N, win0_0.index t (0 : Fin 2) = t.val % 8 ∧ win0_0.index t (1 : Fin 2) = 0 :=
  (by decide +kernel : ∀ t : Fin grid0.N, win0_0.index t (0 : Fin 2) = t.val % 8 ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = t.val % 8 ∧ win0_2.index t (1 : Fin 2) = 0 :=
  (by decide +kernel : ∀ t : Fin grid0.N, win0_2.index t (0 : Fin 2) = t.val % 8 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem point_lt (t : Fin cfg0.N) : t.val < 8 := t.isLt

theorem blk0 (c : Dev nD) (t : Fin cfg0.N) (x : Fin 1024) (y : Fin 1024) : iblk m c 0 t (ix2 x y)
    = m ((c : Thread nD τ).loc main_arg0) (ix2 (⟨1024 * (t.val % 8) + x.val, by have := point_lt t; omega⟩ : Fin 8192) y) := by
  obtain ⟨e0, e1⟩ := idx0 t
  rw [← V_main_arg0 m c]
  show V m c main_arg0 (((cfg0.win 0).blk t).view.emb (ix2 x y)) = _
  congr 1; funext a; apply Fin.ext
  match a with
  | ⟨0, _⟩ => show win0_0.index t (0 : Fin 2) * 1024 + 1 * x.val = 1024 * (t.val % 8) + x.val; omega
  | ⟨1, _⟩ => show win0_0.index t (1 : Fin 2) * 1024 + 1 * y.val = y.val; omega

theorem blk1 (c : Dev nD) (t : Fin cfg0.N) (x : Fin 1) (y : Fin 1024) : iblk m c 1 t (ix2 x y)
    = m ((c : Thread nD τ).loc main_arg1) (ix2 x y) := by
  obtain ⟨e0, e1⟩ := idx1 t
  rw [← V_main_arg1 m c]
  show V m c main_arg1 (((cfg0.win 1).blk t).view.emb (ix2 x y)) = _
  congr 1; funext a; apply Fin.ext
  match a with
  | ⟨0, _⟩ => show win0_1.index t (0 : Fin 2) * 1 + 1 * x.val = x.val; omega
  | ⟨1, _⟩ => show win0_1.index t (1 : Fin 2) * 1024 + 1 * y.val = y.val; omega

theorem blk2 (c : Dev nD) (t : Fin cfg0.N) (x : Fin 1024) (y : Fin 128) : iblk m c 2 t (ix2 x y)
    = m ((c : Thread nD τ).loc main_arg2) (ix2 (⟨1024 * (t.val % 8) + x.val, by have := point_lt t; omega⟩ : Fin 8192) y) := by
  obtain ⟨e0, e1⟩ := idx2 t
  rw [← V_main_arg2 m c]
  show V m c main_arg2 (((cfg0.win 2).blk t).view.emb (ix2 x y)) = _
  congr 1; funext a; apply Fin.ext
  match a with
  | ⟨0, _⟩ => show win0_2.index t (0 : Fin 2) * 1024 + 1 * x.val = 1024 * (t.val % 8) + x.val; omega
  | ⟨1, _⟩ => show win0_2.index t (1 : Fin 2) * 128 + 1 * y.val = y.val; omega

theorem emb3 (t : Fin cfg0.N) (x : Fin 1024) (y : Fin 128) : ((cfg0.win 3).blk t).view.emb (ix2 x y)
    = (ix2 x y) := by
  obtain ⟨e0, e1⟩ := idx3 t
  funext a; apply Fin.ext
  match a with
  | ⟨0, _⟩ => show win0_3.index t (0 : Fin 2) * 1024 + 1 * x.val = x.val; omega
  | ⟨1, _⟩ => show win0_3.index t (1 : Fin 2) * 128 + 1 * y.val = y.val; omega

/-- The first point of a run leaves the products of its tile over zeros. -/
theorem scratch_first (c : Dev nD) (t : Fin cfg0.N) (h0 : t.val % 8 = 0) :
    (outsAt0 m c t.val t.isLt).2 = k0_pay2 (iblk m c 0 t) (iblk m c 1 t) (iblk m c 2 t) (k0_pay1 (F := Ideal)) := by
  have h1 : ¬t.val % 8 = 7 := by omega
  rw [outsAt0_A m c t h0 h1]
  dsimp only
  unfold sout0_A_0
  rw [View.read_writes_eq_canon _ _ _ (scover0_A_0 c _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, View.readCov_eq_canon']
  rw [View.canon_cons_unit_zero Lin.zero2, View.ld_unit_zero Lin.zero2, View.ld_unit_zero Lin.zero2, View.ld_unit_zero Lin.zero2]
  refine congrArg (fun z => k0_pay2 (iblk m c 0 t) (iblk m c 1 t) (iblk m c 2 t) z) (funext fun j => ?_)
  exact View.canon_cons_emb _ _ _ j

/-- A later point adds the products of its tile. -/
theorem scratch_next (c : Dev nD) (t : Fin cfg0.N) (h0 : ¬t.val % 8 = 0) :
    (outsAt0 m c t.val t.isLt).2 = k0_pay2 (iblk m c 0 t) (iblk m c 1 t) (iblk m c 2 t) (outsAt0 m c (t.val - 1) (Nat.lt_of_le_of_lt (Nat.sub_le _ _) t.isLt)).2 := by
  by_cases h1 : t.val % 8 = 7
  · rw [outsAt0_C m c t h0 h1]
    dsimp only
    unfold sout0_C_0
    rw [View.read_writes_eq_canon _ _ _ (scover0_C_0 c _ _ _ _ _ _ _ _ _ _ _ _ _ _ _ _ _)]
    unfold kernelRun0_C
    dsimp only
    sl_unfold_words
    simp only [View.readAt_eq_ld, (hs0_0 t).read_unread, (hs0_1 t).read_unread, (hs0_2 t).read_unread, (hs0_3 t).read_unread, View.readCov_eq_canon']
    rw [View.canon_cons_unit_zero Lin.zero2, View.ld_unit_zero Lin.zero2, View.ld_unit_zero Lin.zero2, View.ld_unit_zero Lin.zero2, View.ld_unit_zero Lin.zero2]
    exact congrArg (fun z => k0_pay2 (iblk m c 0 t) (iblk m c 1 t) (iblk m c 2 t) z) ((Memref.isWhole_whole _).read_unread _)
  · rw [outsAt0_B m c t h0 h1]
    dsimp only
    unfold sout0_B_0
    rw [View.read_writes_eq_canon _ _ _ (scover0_B_0 c _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, View.readCov_eq_canon']
    rw [View.canon_cons_unit_zero Lin.zero2, View.ld_unit_zero Lin.zero2, View.ld_unit_zero Lin.zero2, View.ld_unit_zero Lin.zero2, View.ld_unit_zero Lin.zero2]
    exact congrArg (fun z => k0_pay2 (iblk m c 0 t) (iblk m c 1 t) (iblk m c 2 t) z) ((Memref.isWhole_whole _).read_unread _)

/-- The last point of a run rounds what its scratch then holds. -/
theorem out_last (c : Dev nD) (t : Fin cfg0.N) (h1 : t.val % 8 = 7) :
    (outsAt0 m c t.val t.isLt).1 = k0_pay3 (F := Ideal) (outsAt0 m c t.val t.isLt).2 := by
  have h0 : ¬t.val % 8 = 0 := by omega
  rw [scratch_next m c t h0, outsAt0_C m c t h0 h1]
  dsimp only
  unfold out0_C_3
  rw [View.read_writes_eq_canon _ _ _ (cover0_C_3 c _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread, View.readCov_eq_canon']
  rw [View.canon_cons_unit_zero Lin.zero2]
  refine congrArg (k0_pay3 (F := Ideal)) (funext fun j => (View.canon_cons_emb _ _ _ j).trans (congrFun ?_ j))
  rw [View.ld_unit_zero Lin.zero2, View.ld_unit_zero Lin.zero2, View.ld_unit_zero Lin.zero2, View.ld_unit_zero Lin.zero2]
  exact congrArg (fun z => k0_pay2 (iblk m c 0 t) (iblk m c 1 t) (iblk m c 2 t) z) ((Memref.isWhole_whole _).read_unread _)

/-- What token `x` adds to the entry `(i, j)` of the gradient. -/
def term (c : Dev nD) (i : Fin 1024) (j : Fin 128) (x : Fin 8192) : EReal :=
  Lin.inputTerm (m ((c : Thread nD τ).loc main_arg0)) (m ((c : Thread nD τ).loc main_arg1)) (m ((c : Thread nD τ).loc main_arg2)) i j x

/-- The gradient of the weight. -/
def result (c : Dev nD) : S1024x128.Idx → EReal := fun i => ∑ x : Fin 8192, term m c (i 0) (i 1) x

/-- A tile's products, entry by entry. -/
theorem tile_apply (c : Dev nD) (t : Fin cfg0.N) (acc : Vec Ideal S1024x128 .f32) (r : Fin 1024) (l : Fin 128) :
    k0_pay2 (iblk m c 0 t) (iblk m c 1 t) (iblk m c 2 t) acc (ix2 r l)
      = (acc (ix2 r l) : EReal) + ∑ x : Fin 1024, term m c r l ⟨1024 * (t.val % 8) + x.val, by omega⟩ := by
  pointwise [k0_pay2]
  exact congrArg (_ + ·) (Finset.sum_congr rfl fun x _ => congrArg₂ (· * ·) (Lin.normed_congr (H := iblk m c 0 t) (G := iblk m c 1 t) (r := x) r (fun y => blk0 m c t x y) (fun y => blk1 m c t 0 y)) (blk2 m c t x l))

theorem zeros_apply (r : Fin 1024) (l : Fin 128) : k0_pay1 (F := Ideal) (ix2 r l) = (0 : EReal) := by
  pointwise [k0_pay1]

/-- What the scratch holds after each point: the sum over the tokens of the run so far. -/
theorem scratch_apply (c : Dev nD) (n : ℕ) : ∀ (t : Fin cfg0.N), t.val = n → ∀ (r : Fin 1024) (l : Fin 128),
    (outsAt0 m c t.val t.isLt).2 (ix2 r l)
      = Lin.upTo (term m c r l) (1024 * (t.val % 8) + 1024) := by
  induction n with
  | zero =>
    intro t ht r l
    have h0 : t.val % 8 = 0 := by omega
    rw [scratch_first m c t h0, tile_apply, zeros_apply,
      ← Lin.upTo_tile _ (1024 * (t.val % 8)) 1024 (by omega)]
    congr 1
    rw [h0]; exact (Lin.upTo_zero _).symm
  | succ n ih =>
    intro t ht r l
    by_cases h0 : t.val % 8 = 0
    · rw [scratch_first m c t h0, tile_apply, zeros_apply,
        ← Lin.upTo_tile _ (1024 * (t.val % 8)) 1024 (by omega)]
      congr 1
      rw [h0]; exact (Lin.upTo_zero _).symm
    · rw [scratch_next m c t h0, tile_apply, ← Lin.upTo_tile _ (1024 * (t.val % 8)) 1024 (by omega)]
      congr 1
      have hp := point_lt t
      refine (ih ⟨t.val - 1, Nat.lt_of_le_of_lt (Nat.sub_le _ _) t.isLt⟩ (by show t.val - 1 = n; omega) r l).trans ?_
      have e1 : (t.val - 1) / 8 = t.val / 8 := by omega
      have e2 : 1024 * ((t.val - 1) % 8) + 1024 = 1024 * (t.val % 8) := by omega
      simp only [e1, e2]

/-- What the last point of a run writes back. -/
theorem point_apply (c : Dev nD) (t : Fin cfg0.N) (h1 : t.val % 8 = 7) (x : Fin 1024) (y : Fin 128) :
    (outsAt0 m c t.val t.isLt).1 (ix2 x y) = result m c (ix2 x y) := by
  rw [out_last m c t h1]
  refine Eq.trans (b := (outsAt0 m c t.val t.isLt).2 (ix2 x y)) ?_ ?_
  · pointwise [k0_pay3]
  rw [scratch_apply m c t.val t rfl, show 1024 * (t.val % 8) + 1024 = 8192 by omega, Lin.upTo_all]
  rfl

theorem flushed3_eq (c : Dev nD) (t : Fin cfg0.N) (hf : (cfg0.win 3).flush t = true) :
    (dats m 0 c).flushed 3 t = ((cfg0.win 3).blk t).view.read (Elt Ideal) (result m c) := by
  rw [Value.flushed3]
  funext j
  obtain ⟨x, y, rfl⟩ : ∃ (x : Fin 1024) (y : Fin 128), j = ix2 x y := ⟨j 0, j 1, eq_ix2 j⟩
  show (outsAt0 m c t.val t.isLt).1 (ix2 x y) = result m c (((cfg0.win 3).blk t).view.emb (ix2 x y))
  rw [emb3]
  exact point_apply m c t ((flush0_3 t).mp hf) x y

theorem covered3 (i : S1024x128.Idx) : ∃ t : Fin cfg0.N, (cfg0.win 3).flush t = true ∧ i ∈ ((cfg0.win 3).blk t).view.set := by
  obtain ⟨r, l, rfl⟩ : ∃ (r : Fin 1024) (l : Fin 128), i = ix2 r l := ⟨i 0, i 1, eq_ix2 i⟩
  have hr := r.isLt
  have hl := l.isLt
  refine ⟨⟨7, by show _ < 8; omega⟩, (flush0_3 _).mpr (by show (7) % 8 = 7; omega), ?_⟩
  have h := ((cfg0.win 3).blk (⟨7, by show _ < 8; omega⟩ : Fin cfg0.N)).view.emb_mem_set (ix2 r l)
  rw [emb3] at h
  have e : ix2 r l = ix2 r l := by
    congr 1 <;> apply Fin.ext <;> dsimp only <;> omega
  rw [e]; exact h

/-- The result array after the run. -/
theorem final (c : Dev nD) : (dats m 0 c).arrAt 3 cfg0.N = result m c :=
  (dats m 0 c).arrAt_eq_of_cover 3 (result m c) (fun t hf => flushed3_eq m c t hf) covered3

end Cert.BaWgradIdeal.Gen

namespace Cert.BaWgradReferenceIdeal.Read
open Cert.BaWgradReferenceIdeal Cert.BaWgradReferenceIdeal.Gen Idealize.ShloMosaic Idealize.ShloMosaic.TcCoe Idealize.SL.Sem Idealize.ShloMosaic.StableHlo

/-- The reference's result. -/
theorem result_eq (x0 : (⟨S8192x1024, .f32⟩ : BufTy).Contents (Elt Ideal)) (x1 : (⟨S1x1024, .f32⟩ : BufTy).Contents (Elt Ideal)) (x2 : (⟨S8192x128, .f32⟩ : BufTy).Contents (Elt Ideal)) : val_main_v16 (F := Ideal) x0 x1 x2 = (fun i => ∑ x : Fin 8192, Cert.Lin.normed x0 x1 x (i 0) * x2 (ix2 x (i 1)) : (⟨2, ![1024, 128]⟩ : Shape).Idx → EReal) := by
  funext i
  obtain ⟨r, l, rfl⟩ : ∃ (r : Fin 1024) (l : Fin 128), i = ix2 r l := ⟨i 0, i 1, eq_ix2 i⟩
  pointwise [val_main_cst, val_main_v0, val_main_v1, val_main_cst_0, val_main_v2, val_main_v3, val_main_cst_1, val_main_v4, val_main_v5, val_main_cst_2, val_main_v6, val_main_v7, val_main_v8, val_main_v9, val_main_v10, val_main_v11, val_main_v12, val_main_v13, val_main_v14, val_main_v15, val_main_v16]
  exact Finset.sum_congr rfl fun x _ => mul_comm _ _

end Cert.BaWgradReferenceIdeal.Read
-- ==== Proof.RmsBackward.lean ====
/-
  The gradient of a root-mean-square norm by the row it normalises, in the form of the kernel calls and in the one that
  differentiating the norm gives.
-/
module

public import proofs.«01_k».proof.Proof.Products
public import proofs.«01_k».proof.Proof.Rows

@[expose] public section
noncomputable section
namespace Cert.Lin
open Idealize.ShloMosaic Cert.Attn

/-- The mean square of a row, and `EPS`. -/
def meanSquare (h : Fin 1024 → EReal) : EReal :=
  Ideal.div (∑ x : Fin 1024, h x * h x) (Ideal.ofBits FTy.f32 1149239296#32) + Ideal.ofBits FTy.f32 897988541#32

/-- The gradient of the row `h`, `u` the cotangent of the row once normalised and scaled by the gains `g`. -/
def rowGrad (h g u : Fin 1024 → EReal) (l : Fin 1024) : EReal :=
  Ideal.rsqrt (meanSquare h) * (u l * g l)
    - h l * (Ideal.rsqrt (meanSquare h) * Ideal.rsqrt (meanSquare h) * Ideal.rsqrt (meanSquare h))
      * Ideal.div (∑ x : Fin 1024, h x * (u x * g x)) (Ideal.ofBits FTy.f32 1149239296#32)

/-- What the mean square's cotangent gives to every entry of the row, before the entry itself multiplies it. -/
def meanGrad (h g u : Fin 1024 → EReal) : EReal :=
  Ideal.div ((∑ x : Fin 1024, h x * (u x * g x))
    * (Ideal.ofBits FTy.f32 3204448256#32 * Ideal.div (Ideal.rsqrt (meanSquare h)) (meanSquare h)))
    (Ideal.ofBits FTy.f32 1149239296#32)

theorem width : Ideal.ofBits FTy.f32 1149239296#32 = ((1024 : ℝ) : EReal) := by
  simp [Ideal.ofBits, Ideal.ieee]
  rw [← EReal.coe_mul]; norm_num
theorem minus_half : Ideal.ofBits FTy.f32 3204448256#32 = ((-(1 / 2) : ℝ) : EReal) := by
  simp [Ideal.ofBits, Ideal.ieee]
  rw [← EReal.coe_mul]; norm_num
theorem eps : ∃ e : ℝ, 0 < e ∧ Ideal.ofBits FTy.f32 897988541#32 = (e : EReal) := by
  refine ⟨8796093 * (1 / 8796093022208), by norm_num, ?_⟩
  simp [Ideal.ofBits, Ideal.ieee]; norm_num

/-- A real row's mean square is a positive real. -/
theorem meanSquare_real {h : Fin 1024 → EReal} (hh : ∀ x, IsReal (h x)) : ∃ a : ℝ, 0 < a ∧ meanSquare h = (a : EReal) := by
  choose r hr using hh
  obtain ⟨e, he, hee⟩ := eps
  refine ⟨(∑ x : Fin 1024, r x * r x) * (1 / 1024) + e, ?_, ?_⟩
  · have : 0 ≤ ∑ x : Fin 1024, r x * r x := Finset.sum_nonneg fun x _ => mul_self_nonneg _
    positivity
  · unfold meanSquare
    rw [width, Ideal.div_coe (by norm_num), hee, EReal.coe_add, EReal.coe_mul, coe_sum]
    simp only [hr, EReal.coe_mul]

/-- The inverse root of a positive real. -/
theorem rsqrt_pos {a : ℝ} (h : 0 < a) : Ideal.rsqrt (a : EReal) = (((√a)⁻¹ : ℝ) : EReal) := by
  rw [Ideal.rsqrt_coe, if_neg (not_lt.2 h.le), if_neg h.ne']

/-- The two forms agree on real rows. -/
theorem rowGrad_eq {h g u : Fin 1024 → EReal} (hh : ∀ x, IsReal (h x)) (hg : ∀ x, IsReal (g x)) (hu : ∀ x, IsReal (u x))
    (l : Fin 1024) :
    rowGrad h g u l = u l * g l * Ideal.rsqrt (meanSquare h) + h l * meanGrad h g u + meanGrad h g u * h l := by
  obtain ⟨a, ha, hm⟩ := meanSquare_real hh
  have hs : IsReal (∑ x : Fin 1024, h x * (u x * g x)) := IsReal.sum _ _ fun x _ => (hh x).mul ((hu x).mul (hg x))
  unfold rowGrad meanGrad
  rw [hm, width, minus_half, rsqrt_pos ha]
  obtain ⟨s, hs⟩ := hs
  rw [hs, Ideal.div_coe ha.ne', Ideal.div_coe (by norm_num), Ideal.div_coe (by norm_num)]
  obtain ⟨x, hx⟩ := hh l
  obtain ⟨y, hy⟩ := hg l
  obtain ⟨z, hz⟩ := hu l
  rw [hx, hy, hz]
  have hq : √a * √a = a := Real.mul_self_sqrt ha.le
  have hp : √a ≠ 0 := (Real.sqrt_pos.2 ha).ne'
  norm_cast
  generalize √a = q at hq hp
  subst hq
  field_simp
  ring

/-- An entry of the activations' gradient: what comes in from the layers after, `D`, and the norm's own part. -/
def rowsGrad {n : ℕ} (D H : Mat n 1024) (G : Mat 1 1024) (U : Fin n → Fin 1024 → EReal) (i : Fin n) (j : Fin 1024) : EReal :=
  D (ix2 i j) + rowGrad (fun x => H (ix2 i x)) (fun x => G (ix2 0 x)) (U i) j

/-- What row `x` adds to the gradient of gain `j`. -/
def gainTerm {n : ℕ} (H : Mat n 1024) (U : Fin n → Fin 1024 → EReal) (j : Fin 1024) (x : Fin n) : EReal :=
  U x j * H (ix2 x j) * Ideal.rsqrt (meanSquare fun y => H (ix2 x y))

/-- The rows' gradient depends on the row alone. -/
theorem rowsGrad_congr {n k : ℕ} {D H : Mat n 1024} {D' H' : Mat k 1024} {G G' : Mat 1 1024} {U : Fin n → Fin 1024 → EReal}
    {U' : Fin k → Fin 1024 → EReal} {i : Fin n} {i' : Fin k} (j : Fin 1024) (hD : D (ix2 i j) = D' (ix2 i' j))
    (hH : ∀ x, H (ix2 i x) = H' (ix2 i' x)) (hG : ∀ x, G (ix2 0 x) = G' (ix2 0 x)) (hU : ∀ x, U i x = U' i' x) :
    rowsGrad D H G U i j = rowsGrad D' H' G' U' i' j := by
  unfold rowsGrad
  rw [hD, show (fun x => H (ix2 i x)) = fun x => H' (ix2 i' x) from funext hH, show (fun x => G (ix2 0 x)) = fun x => G' (ix2 0 x) from funext hG,
    show U i = U' i' from funext hU]

theorem gainTerm_congr {n k : ℕ} {H : Mat n 1024} {H' : Mat k 1024} {U : Fin n → Fin 1024 → EReal}
    {U' : Fin k → Fin 1024 → EReal} {i : Fin n} {i' : Fin k} (j : Fin 1024)
    (hH : ∀ x, H (ix2 i x) = H' (ix2 i' x)) (hU : ∀ x, U i x = U' i' x) :
    gainTerm H U j i = gainTerm H' U' j i' := by
  unfold gainTerm
  rw [hH j, hU j, show (fun x => H (ix2 i x)) = fun x => H' (ix2 i' x) from funext hH]

/-- The rows' gradient in the form that differentiating the norm gives. -/
theorem rowsGrad_eq {n : ℕ} {D H : Mat n 1024} {G : Mat 1 1024} {U : Fin n → Fin 1024 → EReal} (hH : ∀ i, IsReal (H i))
    (hG : ∀ i, IsReal (G i)) (hU : ∀ i j, IsReal (U i j)) (i : Fin n) (j : Fin 1024) :
    rowsGrad D H G U i j = D (ix2 i j) + (U i j * G (ix2 0 j) * Ideal.rsqrt (meanSquare fun x => H (ix2 i x))
      + H (ix2 i j) * meanGrad (fun x => H (ix2 i x)) (fun x => G (ix2 0 x)) (U i)
      + meanGrad (fun x => H (ix2 i x)) (fun x => G (ix2 0 x)) (U i) * H (ix2 i j)) :=
  congrArg (D (ix2 i j) + ·) (rowGrad_eq (fun x => hH _) (fun x => hG _) (fun x => hU i x) j)

/-- An entry of `A W`. -/
def byRows {n k : ℕ} (A : Mat n k) (W : Mat k 1024) (i : Fin n) (j : Fin 1024) : EReal := ∑ x : Fin k, A (ix2 i x) * W (ix2 x j)

/-- An entry of `A Wᵀ`. -/
def byCols {n k : ℕ} (A : Mat n k) (W : Mat 1024 k) (i : Fin n) (j : Fin 1024) : EReal := ∑ x : Fin k, A (ix2 i x) * W (ix2 j x)

/-- The cotangent of the normalised rows through one product `xn W`. -/
def cotOne (D : Mat 8192 1024) (W : Mat 1024 1024) (i : Fin 8192) (j : Fin 1024) : EReal :=
  ∑ k : Fin 1024, D (ix2 i k) * W (ix2 j k)

/-- Through two products with the rows of `W`, the keys' first. -/
def cotTwo (D E : Mat 8192 1024) (W : Mat 2048 1024) (i : Fin 8192) (j : Fin 1024) : EReal :=
  ∑ k : Fin 1024, D (ix2 i k) * W (ix2 (⟨k.val, by omega⟩ : Fin 2048) j)
    + ∑ k : Fin 1024, E (ix2 i k) * W (ix2 (⟨1024 + k.val, by omega⟩ : Fin 2048) j)

/-- Through three products with the columns of `W`. -/
def cotThree (D : Mat 8192 3072) (E : Mat 8192 1024) (B : Mat 8192 128) (W : Mat 1024 4224) (i : Fin 8192) (j : Fin 1024) : EReal :=
  ∑ k : Fin 3072, D (ix2 i k) * W (ix2 j (⟨k.val, by omega⟩ : Fin 4224))
    + ∑ k : Fin 1024, E (ix2 i k) * W (ix2 j (⟨3072 + k.val, by omega⟩ : Fin 4224))
    + ∑ k : Fin 128, B (ix2 i k) * W (ix2 j (⟨4096 + k.val, by omega⟩ : Fin 4224))

theorem cotOne_real {D : Mat 8192 1024} {W : Mat 1024 1024} (hD : ∀ i, IsReal (D i)) (hW : ∀ i, IsReal (W i)) (i : Fin 8192) (j : Fin 1024) :
    IsReal (cotOne D W i j) := IsReal.sum _ _ fun k _ => (hD _).mul (hW _)
theorem cotTwo_real {D E : Mat 8192 1024} {W : Mat 2048 1024} (hD : ∀ i, IsReal (D i)) (hE : ∀ i, IsReal (E i)) (hW : ∀ i, IsReal (W i))
    (i : Fin 8192) (j : Fin 1024) : IsReal (cotTwo D E W i j) :=
  (IsReal.sum _ _ fun k _ => (hD _).mul (hW _)).add (IsReal.sum _ _ fun k _ => (hE _).mul (hW _))
theorem cotThree_real {D : Mat 8192 3072} {E : Mat 8192 1024} {B : Mat 8192 128} {W : Mat 1024 4224} (hD : ∀ i, IsReal (D i))
    (hE : ∀ i, IsReal (E i)) (hB : ∀ i, IsReal (B i)) (hW : ∀ i, IsReal (W i)) (i : Fin 8192) (j : Fin 1024) : IsReal (cotThree D E B W i j) :=
  ((IsReal.sum _ _ fun k _ => (hD _).mul (hW _)).add (IsReal.sum _ _ fun k _ => (hE _).mul (hW _))).add
    (IsReal.sum _ _ fun k _ => (hB _).mul (hW _))

/-- The two products added in the other order, as differentiating the two layers adds them. -/
def cotTwoBack (D E : Mat 8192 1024) (W : Mat 2048 1024) (i : Fin 8192) (j : Fin 1024) : EReal :=
  ∑ k : Fin 1024, E (ix2 i k) * W (ix2 (⟨1024 + k.val, by omega⟩ : Fin 2048) j)
    + ∑ k : Fin 1024, D (ix2 i k) * W (ix2 (⟨k.val, by omega⟩ : Fin 2048) j)

/-- The three, from the last. -/
def cotThreeBack (D : Mat 8192 3072) (E : Mat 8192 1024) (B : Mat 8192 128) (W : Mat 1024 4224) (i : Fin 8192) (j : Fin 1024) : EReal :=
  ∑ k : Fin 128, B (ix2 i k) * W (ix2 j (⟨4096 + k.val, by omega⟩ : Fin 4224))
    + ∑ k : Fin 1024, E (ix2 i k) * W (ix2 j (⟨3072 + k.val, by omega⟩ : Fin 4224))
    + ∑ k : Fin 3072, D (ix2 i k) * W (ix2 j (⟨k.val, by omega⟩ : Fin 4224))

theorem cotTwo_back (D E : Mat 8192 1024) (W : Mat 2048 1024) : cotTwo D E W = cotTwoBack D E W := by
  funext i j; exact add_comm _ _
theorem cotThree_back (D : Mat 8192 3072) (E : Mat 8192 1024) (B : Mat 8192 128) (W : Mat 1024 4224) :
    cotThree D E B W = cotThreeBack D E B W := by
  funext i j
  unfold cotThree cotThreeBack
  rw [add_comm, add_comm (∑ k : Fin 3072, _), ← add_assoc]

end Cert.Lin
-- ==== Proof.QDx.lean ====
/-
  The gradient of the activations and the gains through the queries' projection.
-/
module

public import proofs.«01_k».proof.Proof.Gen.QDxIdeal.Value
public import proofs.«01_k».proof.Proof.Gen.QDxReferenceIdeal.Read
public import proofs.«01_k».proof.Proof.RmsBackward
public import Idealize.ShloMosaic.Lib.Pipeline.ValueKit

@[expose] public section
set_option maxRecDepth 16384
noncomputable section
namespace Cert.QDxIdeal.Gen
open Idealize.ShloMosaic Idealize.ShloMosaic.TcCoe Idealize.SL.Sem Idealize.ShloMosaic.Pipeline

variable (m : (ℓ : Loc nD τ sig) → Buf (Elt Ideal) ℓ)

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

theorem point_lt (t : Fin cfg0.N) : t.val < 16 := t.isLt

theorem blk0 (c : Dev nD) (t : Fin cfg0.N) (x : Fin 512) (y : Fin 1024) : iblk m c 0 t (ix2 x y)
    = m ((c : Thread nD τ).loc main_arg0) (ix2 (⟨512 * (t.val) + x.val, by have := point_lt t; omega⟩ : Fin 8192) y) := by
  obtain ⟨e0, e1⟩ := idx0 t
  rw [← V_main_arg0 m c]
  show V m c main_arg0 (((cfg0.win 0).blk t).view.emb (ix2 x y)) = _
  congr 1; funext a; apply Fin.ext
  match a with
  | ⟨0, _⟩ => show win0_0.index t (0 : Fin 2) * 512 + 1 * x.val = 512 * (t.val) + x.val; omega
  | ⟨1, _⟩ => show win0_0.index t (1 : Fin 2) * 1024 + 1 * y.val = y.val; omega

theorem blk1 (c : Dev nD) (t : Fin cfg0.N) (x : Fin 512) (y : Fin 1024) : iblk m c 1 t (ix2 x y)
    = m ((c : Thread nD τ).loc main_arg1) (ix2 (⟨512 * (t.val) + x.val, by have := point_lt t; omega⟩ : Fin 8192) y) := by
  obtain ⟨e0, e1⟩ := idx1 t
  rw [← V_main_arg1 m c]
  show V m c main_arg1 (((cfg0.win 1).blk t).view.emb (ix2 x y)) = _
  congr 1; funext a; apply Fin.ext
  match a with
  | ⟨0, _⟩ => show win0_1.index t (0 : Fin 2) * 512 + 1 * x.val = 512 * (t.val) + x.val; omega
  | ⟨1, _⟩ => show win0_1.index t (1 : Fin 2) * 1024 + 1 * y.val = y.val; omega

theorem blk2 (c : Dev nD) (t : Fin cfg0.N) (x : Fin 1) (y : Fin 1024) : iblk m c 2 t (ix2 x y)
    = m ((c : Thread nD τ).loc main_arg2) (ix2 x y) := by
  obtain ⟨e0, e1⟩ := idx2 t
  rw [← V_main_arg2 m c]
  show V m c main_arg2 (((cfg0.win 2).blk t).view.emb (ix2 x y)) = _
  congr 1; funext a; apply Fin.ext
  match a with
  | ⟨0, _⟩ => show win0_2.index t (0 : Fin 2) * 1 + 1 * x.val = x.val; omega
  | ⟨1, _⟩ => show win0_2.index t (1 : Fin 2) * 1024 + 1 * y.val = y.val; omega

theorem blk3 (c : Dev nD) (t : Fin cfg0.N) (x : Fin 512) (y : Fin 1024) : iblk m c 3 t (ix2 x y)
    = m ((c : Thread nD τ).loc main_arg3) (ix2 (⟨512 * (t.val) + x.val, by have := point_lt t; omega⟩ : Fin 8192) y) := by
  obtain ⟨e0, e1⟩ := idx3 t
  rw [← V_main_arg3 m c]
  show V m c main_arg3 (((cfg0.win 3).blk t).view.emb (ix2 x y)) = _
  congr 1; funext a; apply Fin.ext
  match a with
  | ⟨0, _⟩ => show win0_3.index t (0 : Fin 2) * 512 + 1 * x.val = 512 * (t.val) + x.val; omega
  | ⟨1, _⟩ => show win0_3.index t (1 : Fin 2) * 1024 + 1 * y.val = y.val; omega

theorem blk4 (c : Dev nD) (t : Fin cfg0.N) (x : Fin 1024) (y : Fin 1024) : iblk m c 4 t (ix2 x y)
    = m ((c : Thread nD τ).loc main_arg4) (ix2 x y) := by
  obtain ⟨e0, e1⟩ := idx4 t
  rw [← V_main_arg4 m c]
  show V m c main_arg4 (((cfg0.win 4).blk t).view.emb (ix2 x y)) = _
  congr 1; funext a; apply Fin.ext
  match a with
  | ⟨0, _⟩ => show win0_4.index t (0 : Fin 2) * 1024 + 1 * x.val = x.val; omega
  | ⟨1, _⟩ => show win0_4.index t (1 : Fin 2) * 1024 + 1 * y.val = y.val; omega

/-- A point's rows of the activations' gradient. -/
theorem rows_eq (c : Dev nD) (t : Fin cfg0.N) : (outsAt0 m c t.val t.isLt).1 = k0_pay6 (iblk m c 3 t) (iblk m c 4 t) (iblk m c 1 t) (iblk m c 2 t) (iblk m c 0 t) := by
  by_cases h0 : t.val % 16 = 0
  · rw [outsAt0_A m c t h0]
    dsimp only
    unfold out0_A_5
    rw [View.read_writes_eq_canon _ _ _ (cover0_A_5 c _ _ _ _ _ _ _ _ _ _ _ _ _ _ _ _ _ _ _ _ _)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, View.readCov_eq_canon']
    rw [View.canon_unit_zero Lin.zero2]
    repeat rw [View.ld_unit_zero Lin.zero2]
  · rw [outsAt0_B m c t h0]
    dsimp only
    unfold out0_B_5
    rw [View.read_writes_eq_canon _ _ _ (cover0_B_5 c _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, View.readCov_eq_canon']
    rw [View.canon_unit_zero Lin.zero2]
    repeat rw [View.ld_unit_zero Lin.zero2]

/-- The first point leaves its rows' part of the gains' gradient over zeros. -/
theorem gains_first (c : Dev nD) (t : Fin cfg0.N) (h0 : t.val % 16 = 0) :
    (outsAt0 m c t.val t.isLt).2 = k0_pay2 (k0_pay5 (iblk m c 3 t) (iblk m c 4 t) (iblk m c 1 t)) (k0_pay1 (F := Ideal)) := by
  rw [outsAt0_A m c t h0]
  dsimp only
  unfold out0_A_6
  rw [View.read_writes_eq_canon _ _ _ (cover0_A_6 c _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, View.readCov_eq_canon']
  rw [View.canon_cons_unit_zero Lin.zero2]
  repeat rw [View.ld_unit_zero Lin.zero2]
  refine congrArg (fun z => k0_pay2 (k0_pay5 (iblk m c 3 t) (iblk m c 4 t) (iblk m c 1 t)) z) (funext fun j => ?_)
  exact View.canon_cons_emb _ _ _ j

/-- A later point adds its own. -/
theorem gains_next (c : Dev nD) (t : Fin cfg0.N) (h0 : ¬t.val % 16 = 0) :
    (outsAt0 m c t.val t.isLt).2 = k0_pay2 (k0_pay5 (iblk m c 3 t) (iblk m c 4 t) (iblk m c 1 t)) (outsAt0 m c (t.val - 1) (Nat.lt_of_le_of_lt (Nat.sub_le _ _) t.isLt)).2 := by
  rw [outsAt0_B m c t h0]
  dsimp only
  unfold out0_B_6
  rw [View.read_writes_eq_canon _ _ _ (cover0_B_6 c _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, View.readCov_eq_canon']
  rw [View.canon_unit_zero Lin.zero2]
  repeat rw [View.ld_unit_zero Lin.zero2]

/-- The gradient of the activations, with what comes in from the layers after. -/
def resultRows (c : Dev nD) : S8192x1024.Idx → EReal := fun i =>
  Lin.rowsGrad (m ((c : Thread nD τ).loc main_arg0)) (m ((c : Thread nD τ).loc main_arg1)) (m ((c : Thread nD τ).loc main_arg2)) (Lin.cotOne (m ((c : Thread nD τ).loc main_arg3)) (m ((c : Thread nD τ).loc main_arg4))) (i 0) (i 1)

/-- The gradient of the gains. -/
def resultGains (c : Dev nD) : S1x1024.Idx → EReal := fun i =>
  ∑ x : Fin 8192, Lin.gainTerm (m ((c : Thread nD τ).loc main_arg1)) (Lin.cotOne (m ((c : Thread nD τ).loc main_arg3)) (m ((c : Thread nD τ).loc main_arg4))) (i 1) x

theorem rows_apply (c : Dev nD) (t : Fin cfg0.N) (x : Fin 512) (y : Fin 1024) :
    (outsAt0 m c t.val t.isLt).1 (ix2 x y) = resultRows m c (ix2 (⟨512 * (t.val) + x.val, by have := point_lt t; omega⟩ : Fin 8192) y) := by
  rw [rows_eq m c t]
  pointwise [k0_pay6, k0_pay5, k0_pay2, k0_pay3, k0_pay4]
  show Lin.rowsGrad (iblk m c 0 t) (iblk m c 1 t) (iblk m c 2 t) (fun x y => Lin.byCols (iblk m c 3 t) (iblk m c 4 t) x y) x y = _
  exact Lin.rowsGrad_congr y (blk0 m c t x y) (fun z => blk1 m c t x z) (fun z => blk2 m c t 0 z)
    (fun y => (Finset.sum_congr rfl fun k _ => congrArg₂ (· * ·) (blk3 m c t x k) (blk4 m c t y k)))

theorem tile_apply (c : Dev nD) (t : Fin cfg0.N) (acc : Vec Ideal S1x1024 .f32) (l : Fin 1024) :
    k0_pay2 (k0_pay5 (iblk m c 3 t) (iblk m c 4 t) (iblk m c 1 t)) acc (ix2 0 l)
      = (acc (ix2 0 l) : EReal) + ∑ x : Fin 512, Lin.gainTerm (m ((c : Thread nD τ).loc main_arg1)) (Lin.cotOne (m ((c : Thread nD τ).loc main_arg3)) (m ((c : Thread nD τ).loc main_arg4))) l ⟨512 * t.val + x.val, by have := point_lt t; omega⟩ := by
  pointwise [k0_pay6, k0_pay5, k0_pay2, k0_pay3, k0_pay4]
  show acc (ix2 0 l) + ∑ x : Fin 512, Lin.gainTerm (iblk m c 1 t) (fun x y => Lin.byCols (iblk m c 3 t) (iblk m c 4 t) x y) l x = _
  exact congrArg (_ + ·) (Finset.sum_congr rfl fun x _ => Lin.gainTerm_congr l (fun z => blk1 m c t x z)
    (fun y => (Finset.sum_congr rfl fun k _ => congrArg₂ (· * ·) (blk3 m c t x k) (blk4 m c t y k))))

theorem zeros_apply (l : Fin 1024) : k0_pay1 (F := Ideal) (ix2 0 l) = (0 : EReal) := by
  pointwise [k0_pay1]

/-- The gains' gradient after each point: the sum over the rows so far. -/
theorem gains_apply (c : Dev nD) (n : ℕ) : ∀ (t : Fin cfg0.N), t.val = n → ∀ (l : Fin 1024),
    (outsAt0 m c t.val t.isLt).2 (ix2 0 l) = Lin.upTo (Lin.gainTerm (m ((c : Thread nD τ).loc main_arg1)) (Lin.cotOne (m ((c : Thread nD τ).loc main_arg3)) (m ((c : Thread nD τ).loc main_arg4))) l) (512 * t.val + 512) := by
  induction n with
  | zero =>
    intro t ht l
    have hp := point_lt t
    have h0 : t.val % 16 = 0 := by omega
    rw [gains_first m c t h0, tile_apply, zeros_apply, ← Lin.upTo_tile _ (512 * t.val) 512 (by omega)]
    congr 1
    rw [ht]; exact (Lin.upTo_zero _).symm
  | succ n ih =>
    intro t ht l
    have hp := point_lt t
    have h0 : ¬t.val % 16 = 0 := by omega
    rw [gains_next m c t h0, tile_apply, ← Lin.upTo_tile _ (512 * t.val) 512 (by omega)]
    congr 1
    refine (ih ⟨t.val - 1, Nat.lt_of_le_of_lt (Nat.sub_le _ _) t.isLt⟩ (by show t.val - 1 = n; omega) l).trans ?_
    have e2 : 512 * (t.val - 1) + 512 = 512 * t.val := by omega
    simp only [e2]

theorem gains_last (c : Dev nD) (t : Fin cfg0.N) (h1 : t.val % 16 = 15) (x : Fin 1) (y : Fin 1024) :
    (outsAt0 m c t.val t.isLt).2 (ix2 x y) = resultGains m c (ix2 x y) := by
  obtain rfl : x = 0 := Subsingleton.elim _ _
  have hp := point_lt t
  rw [gains_apply m c t.val t rfl, show 512 * t.val + 512 = 8192 by omega, Lin.upTo_all]
  rfl

theorem emb5 (t : Fin cfg0.N) (x : Fin 512) (y : Fin 1024) : ((cfg0.win 5).blk t).view.emb (ix2 x y)
    = (ix2 (⟨512 * (t.val) + x.val, by have := point_lt t; omega⟩ : Fin 8192) y) := by
  obtain ⟨e0, e1⟩ := idx5 t
  funext a; apply Fin.ext
  match a with
  | ⟨0, _⟩ => show win0_5.index t (0 : Fin 2) * 512 + 1 * x.val = 512 * (t.val) + x.val; omega
  | ⟨1, _⟩ => show win0_5.index t (1 : Fin 2) * 1024 + 1 * y.val = y.val; omega

theorem emb6 (t : Fin cfg0.N) (x : Fin 1) (y : Fin 1024) : ((cfg0.win 6).blk t).view.emb (ix2 x y)
    = (ix2 x y) := by
  obtain ⟨e0, e1⟩ := idx6 t
  funext a; apply Fin.ext
  match a with
  | ⟨0, _⟩ => show win0_6.index t (0 : Fin 2) * 1 + 1 * x.val = x.val; omega
  | ⟨1, _⟩ => show win0_6.index t (1 : Fin 2) * 1024 + 1 * y.val = y.val; omega

theorem flushed5_eq (c : Dev nD) (t : Fin cfg0.N) (hf : (cfg0.win 5).flush t = true) :
    (dats m 0 c).flushed 5 t = ((cfg0.win 5).blk t).view.read (Elt Ideal) (resultRows m c) := by
  rw [Value.flushed5]
  funext j
  obtain ⟨x, y, rfl⟩ : ∃ (x : Fin 512) (y : Fin 1024), j = ix2 x y := ⟨j 0, j 1, eq_ix2 j⟩
  show (outsAt0 m c t.val t.isLt).1 (ix2 x y) = resultRows m c (((cfg0.win 5).blk t).view.emb (ix2 x y))
  rw [emb5]
  exact rows_apply m c t x y

theorem covered5 (i : S8192x1024.Idx) : ∃ t : Fin cfg0.N, (cfg0.win 5).flush t = true ∧ i ∈ ((cfg0.win 5).blk t).view.set := by
  obtain ⟨r, l, rfl⟩ : ∃ (r : Fin 8192) (l : Fin 1024), i = ix2 r l := ⟨i 0, i 1, eq_ix2 i⟩
  have hr := r.isLt
  have hl := l.isLt
  refine ⟨⟨r.val / 512, by show _ < 16; omega⟩, flush0_5 _, ?_⟩
  have h := ((cfg0.win 5).blk (⟨r.val / 512, by show _ < 16; omega⟩ : Fin cfg0.N)).view.emb_mem_set (ix2 (⟨r.val % 512, Nat.mod_lt _ (by omega)⟩ : Fin 512) l)
  rw [emb5] at h
  have e : ix2 r l = ix2 (⟨512 * ((r.val / 512)) + r.val % 512, by omega⟩ : Fin 8192) l := by
    congr 1 <;> apply Fin.ext <;> dsimp only <;> omega
  rw [e]; exact h

/-- The result array after the run. -/
theorem finalRows (c : Dev nD) : (dats m 0 c).arrAt 5 cfg0.N = resultRows m c :=
  (dats m 0 c).arrAt_eq_of_cover 5 (resultRows m c) (fun t hf => flushed5_eq m c t hf) covered5

theorem flushed6_eq (c : Dev nD) (t : Fin cfg0.N) (hf : (cfg0.win 6).flush t = true) :
    (dats m 0 c).flushed 6 t = ((cfg0.win 6).blk t).view.read (Elt Ideal) (resultGains m c) := by
  rw [Value.flushed6]
  funext j
  obtain ⟨x, y, rfl⟩ : ∃ (x : Fin 1) (y : Fin 1024), j = ix2 x y := ⟨j 0, j 1, eq_ix2 j⟩
  show (outsAt0 m c t.val t.isLt).2 (ix2 x y) = resultGains m c (((cfg0.win 6).blk t).view.emb (ix2 x y))
  rw [emb6]
  exact gains_last m c t ((flush0_6 t).mp hf) x y

theorem covered6 (i : S1x1024.Idx) : ∃ t : Fin cfg0.N, (cfg0.win 6).flush t = true ∧ i ∈ ((cfg0.win 6).blk t).view.set := by
  obtain ⟨r, l, rfl⟩ : ∃ (r : Fin 1) (l : Fin 1024), i = ix2 r l := ⟨i 0, i 1, eq_ix2 i⟩
  have hr := r.isLt
  have hl := l.isLt
  refine ⟨⟨15, by show _ < 16; omega⟩, (flush0_6 _).mpr (by show 15 % 16 = 15; omega), ?_⟩
  have h := ((cfg0.win 6).blk (⟨15, by show _ < 16; omega⟩ : Fin cfg0.N)).view.emb_mem_set (ix2 r l)
  rw [emb6] at h
  have e : ix2 r l = ix2 r l := by
    congr 1 <;> apply Fin.ext <;> dsimp only <;> omega
  rw [e]; exact h

/-- The result array after the run. -/
theorem finalGains (c : Dev nD) : (dats m 0 c).arrAt 6 cfg0.N = resultGains m c :=
  (dats m 0 c).arrAt_eq_of_cover 6 (resultGains m c) (fun t hf => flushed6_eq m c t hf) covered6

end Cert.QDxIdeal.Gen

namespace Cert.QDxReferenceIdeal.Read
open Cert.QDxReferenceIdeal Cert.QDxReferenceIdeal.Gen Idealize.ShloMosaic Idealize.ShloMosaic.TcCoe Idealize.SL.Sem Idealize.ShloMosaic.StableHlo

/-- The reference's gradient of the activations. -/
theorem rows_eq (x0 : (⟨S8192x1024, .f32⟩ : BufTy).Contents (Elt Ideal)) (x1 : (⟨S8192x1024, .f32⟩ : BufTy).Contents (Elt Ideal)) (x2 : (⟨S1x1024, .f32⟩ : BufTy).Contents (Elt Ideal)) (x3 : (⟨S8192x1024, .f32⟩ : BufTy).Contents (Elt Ideal)) (x4 : (⟨S1024x1024, .bf16⟩ : BufTy).Contents (Elt Ideal))
    (h1 : ∀ i, Cert.Attn.IsReal (x1 i)) (h2 : ∀ i, Cert.Attn.IsReal (x2 i)) (h3 : ∀ i, Cert.Attn.IsReal (x3 i)) (h4 : ∀ i, Cert.Attn.IsReal (x4 i)) :
    val_main_v37 (F := Ideal) x0 x1 x2 x3 x4 = (fun i => Cert.Lin.rowsGrad x0 x1 x2 (Cert.Lin.cotOne x3 x4) (i 0) (i 1) : (⟨2, ![8192, 1024]⟩ : Shape).Idx → EReal) := by
  funext i
  obtain ⟨r, l, rfl⟩ : ∃ (r : Fin 8192) (l : Fin 1024), i = ix2 r l := ⟨i 0, i 1, eq_ix2 i⟩
  refine Eq.trans ?_ (Cert.Lin.rowsGrad_eq h1 h2 (fun i j => Cert.Lin.cotOne_real h3 h4 i j) r l).symm
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_v23, val_main_cst_4, val_main_v24, val_main_v25, val_main_v26, val_main_v27, val_main_v28, val_main_cst_5, val_main_v29, val_main_v30, val_main_cst_6, val_main_v31, val_main_v32, val_main_v33, val_main_v34, val_main_v35, val_main_v36, val_main_v37]
  simp only [Finset.univ_unique, Finset.sum_singleton]
  rfl

/-- The reference's gradient of the gains. -/
theorem gains_eq (x1 : (⟨S8192x1024, .f32⟩ : BufTy).Contents (Elt Ideal)) (x3 : (⟨S8192x1024, .f32⟩ : BufTy).Contents (Elt Ideal)) (x4 : (⟨S1024x1024, .bf16⟩ : BufTy).Contents (Elt Ideal)) :
    val_main_v20 (F := Ideal) x1 x3 x4 = (fun i => ∑ x : Fin 8192, Cert.Lin.gainTerm x1 (Cert.Lin.cotOne x3 x4) (i 1) x : (⟨2, ![1, 1024]⟩ : Shape).Idx → EReal) := by
  funext i
  obtain ⟨r, l, rfl⟩ : ∃ (r : Fin 1) (l : Fin 1024), i = ix2 r l := ⟨i 0, i 1, eq_ix2 i⟩
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_v23, val_main_cst_4, val_main_v24, val_main_v25, val_main_v26, val_main_v27, val_main_v28, val_main_cst_5, val_main_v29, val_main_v30, val_main_cst_6, val_main_v31, val_main_v32, val_main_v33, val_main_v34, val_main_v35, val_main_v36, val_main_v37]
  refine Finset.sum_congr rfl fun x _ => ?_
  rw [mul_comm]
  exact (mul_assoc _ _ _).symm

end Cert.QDxReferenceIdeal.Read
-- ==== Proof.KvDx.lean ====
/-
  The gradient of the activations and the gains through the projections of the keys and the values.
-/
module

public import proofs.«01_k».proof.Proof.Gen.KvDxIdeal.Value
public import proofs.«01_k».proof.Proof.Gen.KvDxReferenceIdeal.Read
public import proofs.«01_k».proof.Proof.RmsBackward
public import Idealize.ShloMosaic.Lib.Pipeline.ValueKit

@[expose] public section
set_option maxRecDepth 16384
noncomputable section
namespace Cert.KvDxIdeal.Gen
open Idealize.ShloMosaic Idealize.ShloMosaic.TcCoe Idealize.SL.Sem Idealize.ShloMosaic.Pipeline

variable (m : (ℓ : Loc nD τ sig) → Buf (Elt Ideal) ℓ)

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

theorem point_lt (t : Fin cfg0.N) : t.val < 16 := t.isLt

theorem blk0 (c : Dev nD) (t : Fin cfg0.N) (x : Fin 512) (y : Fin 1024) : iblk m c 0 t (ix2 x y)
    = m ((c : Thread nD τ).loc main_arg0) (ix2 (⟨512 * (t.val) + x.val, by have := point_lt t; omega⟩ : Fin 8192) y) := by
  obtain ⟨e0, e1⟩ := idx0 t
  rw [← V_main_arg0 m c]
  show V m c main_arg0 (((cfg0.win 0).blk t).view.emb (ix2 x y)) = _
  congr 1; funext a; apply Fin.ext
  match a with
  | ⟨0, _⟩ => show win0_0.index t (0 : Fin 2) * 512 + 1 * x.val = 512 * (t.val) + x.val; omega
  | ⟨1, _⟩ => show win0_0.index t (1 : Fin 2) * 1024 + 1 * y.val = y.val; omega

theorem blk1 (c : Dev nD) (t : Fin cfg0.N) (x : Fin 512) (y : Fin 1024) : iblk m c 1 t (ix2 x y)
    = m ((c : Thread nD τ).loc main_arg1) (ix2 (⟨512 * (t.val) + x.val, by have := point_lt t; omega⟩ : Fin 8192) y) := by
  obtain ⟨e0, e1⟩ := idx1 t
  rw [← V_main_arg1 m c]
  show V m c main_arg1 (((cfg0.win 1).blk t).view.emb (ix2 x y)) = _
  congr 1; funext a; apply Fin.ext
  match a with
  | ⟨0, _⟩ => show win0_1.index t (0 : Fin 2) * 512 + 1 * x.val = 512 * (t.val) + x.val; omega
  | ⟨1, _⟩ => show win0_1.index t (1 : Fin 2) * 1024 + 1 * y.val = y.val; omega

theorem blk2 (c : Dev nD) (t : Fin cfg0.N) (x : Fin 1) (y : Fin 1024) : iblk m c 2 t (ix2 x y)
    = m ((c : Thread nD τ).loc main_arg2) (ix2 x y) := by
  obtain ⟨e0, e1⟩ := idx2 t
  rw [← V_main_arg2 m c]
  show V m c main_arg2 (((cfg0.win 2).blk t).view.emb (ix2 x y)) = _
  congr 1; funext a; apply Fin.ext
  match a with
  | ⟨0, _⟩ => show win0_2.index t (0 : Fin 2) * 1 + 1 * x.val = x.val; omega
  | ⟨1, _⟩ => show win0_2.index t (1 : Fin 2) * 1024 + 1 * y.val = y.val; omega

theorem blk3 (c : Dev nD) (t : Fin cfg0.N) (x : Fin 512) (y : Fin 1024) : iblk m c 3 t (ix2 x y)
    = m ((c : Thread nD τ).loc main_arg3) (ix2 (⟨512 * (t.val) + x.val, by have := point_lt t; omega⟩ : Fin 8192) y) := by
  obtain ⟨e0, e1⟩ := idx3 t
  rw [← V_main_arg3 m c]
  show V m c main_arg3 (((cfg0.win 3).blk t).view.emb (ix2 x y)) = _
  congr 1; funext a; apply Fin.ext
  match a with
  | ⟨0, _⟩ => show win0_3.index t (0 : Fin 2) * 512 + 1 * x.val = 512 * (t.val) + x.val; omega
  | ⟨1, _⟩ => show win0_3.index t (1 : Fin 2) * 1024 + 1 * y.val = y.val; omega

theorem blk4 (c : Dev nD) (t : Fin cfg0.N) (x : Fin 512) (y : Fin 1024) : iblk m c 4 t (ix2 x y)
    = m ((c : Thread nD τ).loc main_arg4) (ix2 (⟨512 * (t.val) + x.val, by have := point_lt t; omega⟩ : Fin 8192) y) := by
  obtain ⟨e0, e1⟩ := idx4 t
  rw [← V_main_arg4 m c]
  show V m c main_arg4 (((cfg0.win 4).blk t).view.emb (ix2 x y)) = _
  congr 1; funext a; apply Fin.ext
  match a with
  | ⟨0, _⟩ => show win0_4.index t (0 : Fin 2) * 512 + 1 * x.val = 512 * (t.val) + x.val; omega
  | ⟨1, _⟩ => show win0_4.index t (1 : Fin 2) * 1024 + 1 * y.val = y.val; omega

theorem V_w0 (c : Dev nD) : V m c main_v0
    = (extractStridedSlice S1024x1024 ![0, 0] (m ((c : Thread nD τ).loc main_arg5)) slices_S2048x1024_S1024x1024_0_0 : FVec Ideal S1024x1024 .bf16) := by
  show StableHlo.after _ _ (Proc.devRef .tc main_v0) = _
  simp only [hostOps0]
  after_results

theorem blk5 (c : Dev nD) (t : Fin cfg0.N) (x : Fin 1024) (y : Fin 1024) : iblk m c 5 t (ix2 x y)
    = m ((c : Thread nD τ).loc main_arg5) (ix2 (⟨x.val, by omega⟩ : Fin 2048) y) := by
  obtain ⟨e0, e1⟩ := idx5 t
  have e : ((cfg0.win 5).blk t).view.emb (ix2 x y) = ix2 x y := by
    funext a; apply Fin.ext
    match a with
    | ⟨0, _⟩ => show win0_5.index t (0 : Fin 2) * 1024 + 1 * x.val = x.val; omega
    | ⟨1, _⟩ => show win0_5.index t (1 : Fin 2) * 1024 + 1 * y.val = y.val; omega
  show V m c main_v0 (((cfg0.win 5).blk t).view.emb (ix2 x y)) = _
  rw [e, V_w0]
  generalize m ((c : Thread nD τ).loc main_arg5) = z
  pointwise []

theorem V_w1 (c : Dev nD) : V m c main_v1
    = (extractStridedSlice S1024x1024 ![1024, 0] (m ((c : Thread nD τ).loc main_arg5)) slices_S2048x1024_S1024x1024_1024_0 : FVec Ideal S1024x1024 .bf16) := by
  show StableHlo.after _ _ (Proc.devRef .tc main_v1) = _
  simp only [hostOps0]
  after_results

theorem blk6 (c : Dev nD) (t : Fin cfg0.N) (x : Fin 1024) (y : Fin 1024) : iblk m c 6 t (ix2 x y)
    = m ((c : Thread nD τ).loc main_arg5) (ix2 (⟨1024 + x.val, by omega⟩ : Fin 2048) y) := by
  obtain ⟨e0, e1⟩ := idx6 t
  have e : ((cfg0.win 6).blk t).view.emb (ix2 x y) = ix2 x y := by
    funext a; apply Fin.ext
    match a with
    | ⟨0, _⟩ => show win0_6.index t (0 : Fin 2) * 1024 + 1 * x.val = x.val; omega
    | ⟨1, _⟩ => show win0_6.index t (1 : Fin 2) * 1024 + 1 * y.val = y.val; omega
  show V m c main_v1 (((cfg0.win 6).blk t).view.emb (ix2 x y)) = _
  rw [e, V_w1]
  generalize m ((c : Thread nD τ).loc main_arg5) = z
  pointwise []

/-- A point's rows of the activations' gradient. -/
theorem rows_eq (c : Dev nD) (t : Fin cfg0.N) : (outsAt0 m c t.val t.isLt).1 = k0_pay1 (k0_pay6 (iblk m c 3 t) (iblk m c 5 t) (iblk m c 4 t) (iblk m c 6 t) (iblk m c 1 t) (iblk m c 2 t)) (iblk m c 0 t) := by
  by_cases h0 : t.val % 16 = 0
  · rw [outsAt0_A m c t h0]
    dsimp only
    unfold out0_A_7
    rw [View.read_writes_eq_canon _ _ _ (cover0_A_7 c _ _ _ _ _ _ _ _ _ _ _ _ _ _ _ _ _ _ _ _ _ _ _ _ _ _ _)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.readCov_eq_canon']
    rw [View.canon_unit_zero Lin.zero2]
    repeat rw [View.ld_unit_zero Lin.zero2]
  · rw [outsAt0_B m c t h0]
    dsimp only
    unfold out0_B_7
    rw [View.read_writes_eq_canon _ _ _ (cover0_B_7 c _ _ _ _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.readCov_eq_canon']
    rw [View.canon_unit_zero Lin.zero2]
    repeat rw [View.ld_unit_zero Lin.zero2]

/-- The first point leaves its rows' part of the gains' gradient over zeros. -/
theorem gains_first (c : Dev nD) (t : Fin cfg0.N) (h0 : t.val % 16 = 0) :
    (outsAt0 m c t.val t.isLt).2 = k0_pay3 (k0_pay7 (iblk m c 3 t) (iblk m c 5 t) (iblk m c 4 t) (iblk m c 6 t) (iblk m c 1 t)) (k0_pay2 (F := Ideal)) := by
  rw [outsAt0_A m c t h0]
  dsimp only
  unfold out0_A_8
  rw [View.read_writes_eq_canon _ _ _ (cover0_A_8 c _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.readCov_eq_canon']
  rw [View.canon_cons_unit_zero Lin.zero2]
  repeat rw [View.ld_unit_zero Lin.zero2]
  refine congrArg (fun z => k0_pay3 (k0_pay7 (iblk m c 3 t) (iblk m c 5 t) (iblk m c 4 t) (iblk m c 6 t) (iblk m c 1 t)) z) (funext fun j => ?_)
  exact View.canon_cons_emb _ _ _ j

/-- A later point adds its own. -/
theorem gains_next (c : Dev nD) (t : Fin cfg0.N) (h0 : ¬t.val % 16 = 0) :
    (outsAt0 m c t.val t.isLt).2 = k0_pay3 (k0_pay7 (iblk m c 3 t) (iblk m c 5 t) (iblk m c 4 t) (iblk m c 6 t) (iblk m c 1 t)) (outsAt0 m c (t.val - 1) (Nat.lt_of_le_of_lt (Nat.sub_le _ _) t.isLt)).2 := by
  rw [outsAt0_B m c t h0]
  dsimp only
  unfold out0_B_8
  rw [View.read_writes_eq_canon _ _ _ (cover0_B_8 c _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.readCov_eq_canon']
  rw [View.canon_unit_zero Lin.zero2]
  repeat rw [View.ld_unit_zero Lin.zero2]

/-- The gradient of the activations, with what comes in from the layers after. -/
def resultRows (c : Dev nD) : S8192x1024.Idx → EReal := fun i =>
  Lin.rowsGrad (m ((c : Thread nD τ).loc main_arg0)) (m ((c : Thread nD τ).loc main_arg1)) (m ((c : Thread nD τ).loc main_arg2)) (Lin.cotTwo (m ((c : Thread nD τ).loc main_arg3)) (m ((c : Thread nD τ).loc main_arg4)) (m ((c : Thread nD τ).loc main_arg5))) (i 0) (i 1)

/-- The gradient of the gains. -/
def resultGains (c : Dev nD) : S1x1024.Idx → EReal := fun i =>
  ∑ x : Fin 8192, Lin.gainTerm (m ((c : Thread nD τ).loc main_arg1)) (Lin.cotTwo (m ((c : Thread nD τ).loc main_arg3)) (m ((c : Thread nD τ).loc main_arg4)) (m ((c : Thread nD τ).loc main_arg5))) (i 1) x

theorem rows_apply (c : Dev nD) (t : Fin cfg0.N) (x : Fin 512) (y : Fin 1024) :
    (outsAt0 m c t.val t.isLt).1 (ix2 x y) = resultRows m c (ix2 (⟨512 * (t.val) + x.val, by have := point_lt t; omega⟩ : Fin 8192) y) := by
  rw [rows_eq m c t]
  pointwise [k0_pay1, k0_pay6, k0_pay7, k0_pay3, k0_pay4, k0_pay5]
  show Lin.rowsGrad (iblk m c 0 t) (iblk m c 1 t) (iblk m c 2 t) (fun x y => Lin.byRows (iblk m c 3 t) (iblk m c 5 t) x y + Lin.byRows (iblk m c 4 t) (iblk m c 6 t) x y) x y = _
  exact Lin.rowsGrad_congr y (blk0 m c t x y) (fun z => blk1 m c t x z) (fun z => blk2 m c t 0 z)
    (fun y => (congrArg₂ (· + ·) (Finset.sum_congr rfl fun k _ => congrArg₂ (· * ·) (blk3 m c t x k) (blk5 m c t k y)) (Finset.sum_congr rfl fun k _ => congrArg₂ (· * ·) (blk4 m c t x k) (blk6 m c t k y))))

theorem tile_apply (c : Dev nD) (t : Fin cfg0.N) (acc : Vec Ideal S1x1024 .f32) (l : Fin 1024) :
    k0_pay3 (k0_pay7 (iblk m c 3 t) (iblk m c 5 t) (iblk m c 4 t) (iblk m c 6 t) (iblk m c 1 t)) acc (ix2 0 l)
      = (acc (ix2 0 l) : EReal) + ∑ x : Fin 512, Lin.gainTerm (m ((c : Thread nD τ).loc main_arg1)) (Lin.cotTwo (m ((c : Thread nD τ).loc main_arg3)) (m ((c : Thread nD τ).loc main_arg4)) (m ((c : Thread nD τ).loc main_arg5))) l ⟨512 * t.val + x.val, by have := point_lt t; omega⟩ := by
  pointwise [k0_pay1, k0_pay6, k0_pay7, k0_pay3, k0_pay4, k0_pay5]
  show acc (ix2 0 l) + ∑ x : Fin 512, Lin.gainTerm (iblk m c 1 t) (fun x y => Lin.byRows (iblk m c 3 t) (iblk m c 5 t) x y + Lin.byRows (iblk m c 4 t) (iblk m c 6 t) x y) l x = _
  exact congrArg (_ + ·) (Finset.sum_congr rfl fun x _ => Lin.gainTerm_congr l (fun z => blk1 m c t x z)
    (fun y => (congrArg₂ (· + ·) (Finset.sum_congr rfl fun k _ => congrArg₂ (· * ·) (blk3 m c t x k) (blk5 m c t k y)) (Finset.sum_congr rfl fun k _ => congrArg₂ (· * ·) (blk4 m c t x k) (blk6 m c t k y)))))

theorem zeros_apply (l : Fin 1024) : k0_pay2 (F := Ideal) (ix2 0 l) = (0 : EReal) := by
  pointwise [k0_pay2]

/-- The gains' gradient after each point: the sum over the rows so far. -/
theorem gains_apply (c : Dev nD) (n : ℕ) : ∀ (t : Fin cfg0.N), t.val = n → ∀ (l : Fin 1024),
    (outsAt0 m c t.val t.isLt).2 (ix2 0 l) = Lin.upTo (Lin.gainTerm (m ((c : Thread nD τ).loc main_arg1)) (Lin.cotTwo (m ((c : Thread nD τ).loc main_arg3)) (m ((c : Thread nD τ).loc main_arg4)) (m ((c : Thread nD τ).loc main_arg5))) l) (512 * t.val + 512) := by
  induction n with
  | zero =>
    intro t ht l
    have hp := point_lt t
    have h0 : t.val % 16 = 0 := by omega
    rw [gains_first m c t h0, tile_apply, zeros_apply, ← Lin.upTo_tile _ (512 * t.val) 512 (by omega)]
    congr 1
    rw [ht]; exact (Lin.upTo_zero _).symm
  | succ n ih =>
    intro t ht l
    have hp := point_lt t
    have h0 : ¬t.val % 16 = 0 := by omega
    rw [gains_next m c t h0, tile_apply, ← Lin.upTo_tile _ (512 * t.val) 512 (by omega)]
    congr 1
    refine (ih ⟨t.val - 1, Nat.lt_of_le_of_lt (Nat.sub_le _ _) t.isLt⟩ (by show t.val - 1 = n; omega) l).trans ?_
    have e2 : 512 * (t.val - 1) + 512 = 512 * t.val := by omega
    simp only [e2]

theorem gains_last (c : Dev nD) (t : Fin cfg0.N) (h1 : t.val % 16 = 15) (x : Fin 1) (y : Fin 1024) :
    (outsAt0 m c t.val t.isLt).2 (ix2 x y) = resultGains m c (ix2 x y) := by
  obtain rfl : x = 0 := Subsingleton.elim _ _
  have hp := point_lt t
  rw [gains_apply m c t.val t rfl, show 512 * t.val + 512 = 8192 by omega, Lin.upTo_all]
  rfl

theorem emb7 (t : Fin cfg0.N) (x : Fin 512) (y : Fin 1024) : ((cfg0.win 7).blk t).view.emb (ix2 x y)
    = (ix2 (⟨512 * (t.val) + x.val, by have := point_lt t; omega⟩ : Fin 8192) y) := by
  obtain ⟨e0, e1⟩ := idx7 t
  funext a; apply Fin.ext
  match a with
  | ⟨0, _⟩ => show win0_7.index t (0 : Fin 2) * 512 + 1 * x.val = 512 * (t.val) + x.val; omega
  | ⟨1, _⟩ => show win0_7.index t (1 : Fin 2) * 1024 + 1 * y.val = y.val; omega

theorem emb8 (t : Fin cfg0.N) (x : Fin 1) (y : Fin 1024) : ((cfg0.win 8).blk t).view.emb (ix2 x y)
    = (ix2 x y) := by
  obtain ⟨e0, e1⟩ := idx8 t
  funext a; apply Fin.ext
  match a with
  | ⟨0, _⟩ => show win0_8.index t (0 : Fin 2) * 1 + 1 * x.val = x.val; omega
  | ⟨1, _⟩ => show win0_8.index t (1 : Fin 2) * 1024 + 1 * y.val = y.val; omega

theorem flushed7_eq (c : Dev nD) (t : Fin cfg0.N) (hf : (cfg0.win 7).flush t = true) :
    (dats m 0 c).flushed 7 t = ((cfg0.win 7).blk t).view.read (Elt Ideal) (resultRows m c) := by
  rw [Value.flushed7]
  funext j
  obtain ⟨x, y, rfl⟩ : ∃ (x : Fin 512) (y : Fin 1024), j = ix2 x y := ⟨j 0, j 1, eq_ix2 j⟩
  show (outsAt0 m c t.val t.isLt).1 (ix2 x y) = resultRows m c (((cfg0.win 7).blk t).view.emb (ix2 x y))
  rw [emb7]
  exact rows_apply m c t x y

theorem covered7 (i : S8192x1024.Idx) : ∃ t : Fin cfg0.N, (cfg0.win 7).flush t = true ∧ i ∈ ((cfg0.win 7).blk t).view.set := by
  obtain ⟨r, l, rfl⟩ : ∃ (r : Fin 8192) (l : Fin 1024), i = ix2 r l := ⟨i 0, i 1, eq_ix2 i⟩
  have hr := r.isLt
  have hl := l.isLt
  refine ⟨⟨r.val / 512, by show _ < 16; omega⟩, flush0_7 _, ?_⟩
  have h := ((cfg0.win 7).blk (⟨r.val / 512, by show _ < 16; omega⟩ : Fin cfg0.N)).view.emb_mem_set (ix2 (⟨r.val % 512, Nat.mod_lt _ (by omega)⟩ : Fin 512) l)
  rw [emb7] at h
  have e : ix2 r l = ix2 (⟨512 * ((r.val / 512)) + r.val % 512, by omega⟩ : Fin 8192) l := by
    congr 1 <;> apply Fin.ext <;> dsimp only <;> omega
  rw [e]; exact h

/-- The result array after the run. -/
theorem finalRows (c : Dev nD) : (dats m 0 c).arrAt 7 cfg0.N = resultRows m c :=
  (dats m 0 c).arrAt_eq_of_cover 7 (resultRows m c) (fun t hf => flushed7_eq m c t hf) covered7

theorem flushed8_eq (c : Dev nD) (t : Fin cfg0.N) (hf : (cfg0.win 8).flush t = true) :
    (dats m 0 c).flushed 8 t = ((cfg0.win 8).blk t).view.read (Elt Ideal) (resultGains m c) := by
  rw [Value.flushed8]
  funext j
  obtain ⟨x, y, rfl⟩ : ∃ (x : Fin 1) (y : Fin 1024), j = ix2 x y := ⟨j 0, j 1, eq_ix2 j⟩
  show (outsAt0 m c t.val t.isLt).2 (ix2 x y) = resultGains m c (((cfg0.win 8).blk t).view.emb (ix2 x y))
  rw [emb8]
  exact gains_last m c t ((flush0_8 t).mp hf) x y

theorem covered8 (i : S1x1024.Idx) : ∃ t : Fin cfg0.N, (cfg0.win 8).flush t = true ∧ i ∈ ((cfg0.win 8).blk t).view.set := by
  obtain ⟨r, l, rfl⟩ : ∃ (r : Fin 1) (l : Fin 1024), i = ix2 r l := ⟨i 0, i 1, eq_ix2 i⟩
  have hr := r.isLt
  have hl := l.isLt
  refine ⟨⟨15, by show _ < 16; omega⟩, (flush0_8 _).mpr (by show 15 % 16 = 15; omega), ?_⟩
  have h := ((cfg0.win 8).blk (⟨15, by show _ < 16; omega⟩ : Fin cfg0.N)).view.emb_mem_set (ix2 r l)
  rw [emb8] at h
  have e : ix2 r l = ix2 r l := by
    congr 1 <;> apply Fin.ext <;> dsimp only <;> omega
  rw [e]; exact h

/-- The result array after the run. -/
theorem finalGains (c : Dev nD) : (dats m 0 c).arrAt 8 cfg0.N = resultGains m c :=
  (dats m 0 c).arrAt_eq_of_cover 8 (resultGains m c) (fun t hf => flushed8_eq m c t hf) covered8

end Cert.KvDxIdeal.Gen

namespace Cert.KvDxReferenceIdeal.Read
open Cert.KvDxReferenceIdeal Cert.KvDxReferenceIdeal.Gen Idealize.ShloMosaic Idealize.ShloMosaic.TcCoe Idealize.SL.Sem Idealize.ShloMosaic.StableHlo

/-- The reference's gradient of the activations. -/
theorem rows_eq (x0 : (⟨S8192x1024, .f32⟩ : BufTy).Contents (Elt Ideal)) (x1 : (⟨S8192x1024, .f32⟩ : BufTy).Contents (Elt Ideal)) (x2 : (⟨S1x1024, .f32⟩ : BufTy).Contents (Elt Ideal)) (x3 : (⟨S8192x1024, .f32⟩ : BufTy).Contents (Elt Ideal)) (x4 : (⟨S8192x1024, .f32⟩ : BufTy).Contents (Elt Ideal)) (x5 : (⟨S2048x1024, .bf16⟩ : BufTy).Contents (Elt Ideal))
    (h1 : ∀ i, Cert.Attn.IsReal (x1 i)) (h2 : ∀ i, Cert.Attn.IsReal (x2 i)) (h3 : ∀ i, Cert.Attn.IsReal (x3 i)) (h4 : ∀ i, Cert.Attn.IsReal (x4 i)) (h5 : ∀ i, Cert.Attn.IsReal (x5 i)) :
    val_main_v44 (F := Ideal) x0 x1 x2 x3 x4 x5 = (fun i => Cert.Lin.rowsGrad x0 x1 x2 (Cert.Lin.cotTwo x3 x4 x5) (i 0) (i 1) : (⟨2, ![8192, 1024]⟩ : Shape).Idx → EReal) := by
  funext i
  obtain ⟨r, l, rfl⟩ : ∃ (r : Fin 8192) (l : Fin 1024), i = ix2 r l := ⟨i 0, i 1, eq_ix2 i⟩
  refine Eq.trans ?_ (Cert.Lin.rowsGrad_eq h1 h2 (fun i j => Cert.Lin.cotTwo_real h3 h4 h5 i j) r l).symm
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_v20, val_main_v21, val_main_v22, val_main_v23, val_main_v24, val_main_v25, val_main_cst_3, val_main_v26, val_main_v27, val_main_v28, val_main_v29, val_main_v30, val_main_cst_4, val_main_v31, val_main_v32, val_main_v33, val_main_v34, val_main_v35, val_main_cst_5, val_main_v36, val_main_v37, val_main_cst_6, val_main_v38, val_main_v39, val_main_v40, val_main_v41, val_main_v42, val_main_v43, val_main_v44]
  simp only [Finset.univ_unique, Finset.sum_singleton]
  rw [Cert.Lin.cotTwo_back]
  rfl

/-- The reference's gradient of the gains. -/
theorem gains_eq (x1 : (⟨S8192x1024, .f32⟩ : BufTy).Contents (Elt Ideal)) (x3 : (⟨S8192x1024, .f32⟩ : BufTy).Contents (Elt Ideal)) (x4 : (⟨S8192x1024, .f32⟩ : BufTy).Contents (Elt Ideal)) (x5 : (⟨S2048x1024, .bf16⟩ : BufTy).Contents (Elt Ideal)) :
    val_main_v27 (F := Ideal) x1 x3 x4 x5 = (fun i => ∑ x : Fin 8192, Cert.Lin.gainTerm x1 (Cert.Lin.cotTwo x3 x4 x5) (i 1) x : (⟨2, ![1, 1024]⟩ : Shape).Idx → EReal) := by
  funext i
  obtain ⟨r, l, rfl⟩ : ∃ (r : Fin 1) (l : Fin 1024), i = ix2 r l := ⟨i 0, i 1, eq_ix2 i⟩
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_v20, val_main_v21, val_main_v22, val_main_v23, val_main_v24, val_main_v25, val_main_cst_3, val_main_v26, val_main_v27, val_main_v28, val_main_v29, val_main_v30, val_main_cst_4, val_main_v31, val_main_v32, val_main_v33, val_main_v34, val_main_v35, val_main_cst_5, val_main_v36, val_main_v37, val_main_cst_6, val_main_v38, val_main_v39, val_main_v40, val_main_v41, val_main_v42, val_main_v43, val_main_v44]
  rw [Cert.Lin.cotTwo_back]
  refine Finset.sum_congr rfl fun x _ => ?_
  exact (mul_comm (_ : EReal) _).trans (mul_assoc (_ : EReal) _ _).symm

end Cert.KvDxReferenceIdeal.Read
-- ==== Proof.InDx.lean ====
/-
  The gradient of the activations and the gains through the input projections of a delta-rule layer.
-/
module

public import proofs.«01_k».proof.Proof.Gen.InDxIdeal.Value
public import proofs.«01_k».proof.Proof.Gen.InDxReferenceIdeal.Read
public import proofs.«01_k».proof.Proof.RmsBackward
public import Idealize.ShloMosaic.Lib.Pipeline.ValueKit

@[expose] public section
set_option maxRecDepth 16384
noncomputable section
namespace Cert.InDxIdeal.Gen
open Idealize.ShloMosaic Idealize.ShloMosaic.TcCoe Idealize.SL.Sem Idealize.ShloMosaic.Pipeline

variable (m : (ℓ : Loc nD τ sig) → Buf (Elt Ideal) ℓ)

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

theorem point_lt (t : Fin cfg0.N) : t.val < 16 := t.isLt

theorem blk0 (c : Dev nD) (t : Fin cfg0.N) (x : Fin 512) (y : Fin 1024) : iblk m c 0 t (ix2 x y)
    = m ((c : Thread nD τ).loc main_arg0) (ix2 (⟨512 * (t.val) + x.val, by have := point_lt t; omega⟩ : Fin 8192) y) := by
  obtain ⟨e0, e1⟩ := idx0 t
  rw [← V_main_arg0 m c]
  show V m c main_arg0 (((cfg0.win 0).blk t).view.emb (ix2 x y)) = _
  congr 1; funext a; apply Fin.ext
  match a with
  | ⟨0, _⟩ => show win0_0.index t (0 : Fin 2) * 512 + 1 * x.val = 512 * (t.val) + x.val; omega
  | ⟨1, _⟩ => show win0_0.index t (1 : Fin 2) * 1024 + 1 * y.val = y.val; omega

theorem blk1 (c : Dev nD) (t : Fin cfg0.N) (x : Fin 512) (y : Fin 1024) : iblk m c 1 t (ix2 x y)
    = m ((c : Thread nD τ).loc main_arg1) (ix2 (⟨512 * (t.val) + x.val, by have := point_lt t; omega⟩ : Fin 8192) y) := by
  obtain ⟨e0, e1⟩ := idx1 t
  rw [← V_main_arg1 m c]
  show V m c main_arg1 (((cfg0.win 1).blk t).view.emb (ix2 x y)) = _
  congr 1; funext a; apply Fin.ext
  match a with
  | ⟨0, _⟩ => show win0_1.index t (0 : Fin 2) * 512 + 1 * x.val = 512 * (t.val) + x.val; omega
  | ⟨1, _⟩ => show win0_1.index t (1 : Fin 2) * 1024 + 1 * y.val = y.val; omega

theorem blk2 (c : Dev nD) (t : Fin cfg0.N) (x : Fin 1) (y : Fin 1024) : iblk m c 2 t (ix2 x y)
    = m ((c : Thread nD τ).loc main_arg2) (ix2 x y) := by
  obtain ⟨e0, e1⟩ := idx2 t
  rw [← V_main_arg2 m c]
  show V m c main_arg2 (((cfg0.win 2).blk t).view.emb (ix2 x y)) = _
  congr 1; funext a; apply Fin.ext
  match a with
  | ⟨0, _⟩ => show win0_2.index t (0 : Fin 2) * 1 + 1 * x.val = x.val; omega
  | ⟨1, _⟩ => show win0_2.index t (1 : Fin 2) * 1024 + 1 * y.val = y.val; omega

theorem blk3 (c : Dev nD) (t : Fin cfg0.N) (x : Fin 512) (y : Fin 3072) : iblk m c 3 t (ix2 x y)
    = m ((c : Thread nD τ).loc main_arg3) (ix2 (⟨512 * (t.val) + x.val, by have := point_lt t; omega⟩ : Fin 8192) y) := by
  obtain ⟨e0, e1⟩ := idx3 t
  rw [← V_main_arg3 m c]
  show V m c main_arg3 (((cfg0.win 3).blk t).view.emb (ix2 x y)) = _
  congr 1; funext a; apply Fin.ext
  match a with
  | ⟨0, _⟩ => show win0_3.index t (0 : Fin 2) * 512 + 1 * x.val = 512 * (t.val) + x.val; omega
  | ⟨1, _⟩ => show win0_3.index t (1 : Fin 2) * 3072 + 1 * y.val = y.val; omega

theorem blk4 (c : Dev nD) (t : Fin cfg0.N) (x : Fin 512) (y : Fin 1024) : iblk m c 4 t (ix2 x y)
    = m ((c : Thread nD τ).loc main_arg4) (ix2 (⟨512 * (t.val) + x.val, by have := point_lt t; omega⟩ : Fin 8192) y) := by
  obtain ⟨e0, e1⟩ := idx4 t
  rw [← V_main_arg4 m c]
  show V m c main_arg4 (((cfg0.win 4).blk t).view.emb (ix2 x y)) = _
  congr 1; funext a; apply Fin.ext
  match a with
  | ⟨0, _⟩ => show win0_4.index t (0 : Fin 2) * 512 + 1 * x.val = 512 * (t.val) + x.val; omega
  | ⟨1, _⟩ => show win0_4.index t (1 : Fin 2) * 1024 + 1 * y.val = y.val; omega

theorem blk5 (c : Dev nD) (t : Fin cfg0.N) (x : Fin 512) (y : Fin 128) : iblk m c 5 t (ix2 x y)
    = m ((c : Thread nD τ).loc main_arg5) (ix2 (⟨512 * (t.val) + x.val, by have := point_lt t; omega⟩ : Fin 8192) y) := by
  obtain ⟨e0, e1⟩ := idx5 t
  rw [← V_main_arg5 m c]
  show V m c main_arg5 (((cfg0.win 5).blk t).view.emb (ix2 x y)) = _
  congr 1; funext a; apply Fin.ext
  match a with
  | ⟨0, _⟩ => show win0_5.index t (0 : Fin 2) * 512 + 1 * x.val = 512 * (t.val) + x.val; omega
  | ⟨1, _⟩ => show win0_5.index t (1 : Fin 2) * 128 + 1 * y.val = y.val; omega

theorem V_w0 (c : Dev nD) : V m c main_v0
    = (extractStridedSlice S1024x3072 ![0, 0] (m ((c : Thread nD τ).loc main_arg6)) slices_S1024x4224_S1024x3072_0_0 : FVec Ideal S1024x3072 .bf16) := by
  show StableHlo.after _ _ (Proc.devRef .tc main_v0) = _
  simp only [hostOps0]
  after_results

theorem blk6 (c : Dev nD) (t : Fin cfg0.N) (x : Fin 1024) (y : Fin 3072) : iblk m c 6 t (ix2 x y)
    = m ((c : Thread nD τ).loc main_arg6) (ix2 x (⟨y.val, by omega⟩ : Fin 4224)) := by
  obtain ⟨e0, e1⟩ := idx6 t
  have e : ((cfg0.win 6).blk t).view.emb (ix2 x y) = ix2 x y := by
    funext a; apply Fin.ext
    match a with
    | ⟨0, _⟩ => show win0_6.index t (0 : Fin 2) * 1024 + 1 * x.val = x.val; omega
    | ⟨1, _⟩ => show win0_6.index t (1 : Fin 2) * 3072 + 1 * y.val = y.val; omega
  show V m c main_v0 (((cfg0.win 6).blk t).view.emb (ix2 x y)) = _
  rw [e, V_w0]
  generalize m ((c : Thread nD τ).loc main_arg6) = z
  pointwise []

theorem V_w1 (c : Dev nD) : V m c main_v1
    = (extractStridedSlice S1024x1024 ![0, 3072] (m ((c : Thread nD τ).loc main_arg6)) slices_S1024x4224_S1024x1024_0_3072 : FVec Ideal S1024x1024 .bf16) := by
  show StableHlo.after _ _ (Proc.devRef .tc main_v1) = _
  simp only [hostOps0]
  after_results

theorem blk7 (c : Dev nD) (t : Fin cfg0.N) (x : Fin 1024) (y : Fin 1024) : iblk m c 7 t (ix2 x y)
    = m ((c : Thread nD τ).loc main_arg6) (ix2 x (⟨3072 + y.val, by omega⟩ : Fin 4224)) := by
  obtain ⟨e0, e1⟩ := idx7 t
  have e : ((cfg0.win 7).blk t).view.emb (ix2 x y) = ix2 x y := by
    funext a; apply Fin.ext
    match a with
    | ⟨0, _⟩ => show win0_7.index t (0 : Fin 2) * 1024 + 1 * x.val = x.val; omega
    | ⟨1, _⟩ => show win0_7.index t (1 : Fin 2) * 1024 + 1 * y.val = y.val; omega
  show V m c main_v1 (((cfg0.win 7).blk t).view.emb (ix2 x y)) = _
  rw [e, V_w1]
  generalize m ((c : Thread nD τ).loc main_arg6) = z
  pointwise []

theorem V_w2 (c : Dev nD) : V m c main_v2
    = (extractStridedSlice S1024x128 ![0, 4096] (m ((c : Thread nD τ).loc main_arg6)) slices_S1024x4224_S1024x128_0_4096 : FVec Ideal S1024x128 .bf16) := by
  show StableHlo.after _ _ (Proc.devRef .tc main_v2) = _
  simp only [hostOps0]
  after_results

theorem blk8 (c : Dev nD) (t : Fin cfg0.N) (x : Fin 1024) (y : Fin 128) : iblk m c 8 t (ix2 x y)
    = m ((c : Thread nD τ).loc main_arg6) (ix2 x (⟨4096 + y.val, by omega⟩ : Fin 4224)) := by
  obtain ⟨e0, e1⟩ := idx8 t
  have e : ((cfg0.win 8).blk t).view.emb (ix2 x y) = ix2 x y := by
    funext a; apply Fin.ext
    match a with
    | ⟨0, _⟩ => show win0_8.index t (0 : Fin 2) * 1024 + 1 * x.val = x.val; omega
    | ⟨1, _⟩ => show win0_8.index t (1 : Fin 2) * 128 + 1 * y.val = y.val; omega
  show V m c main_v2 (((cfg0.win 8).blk t).view.emb (ix2 x y)) = _
  rw [e, V_w2]
  generalize m ((c : Thread nD τ).loc main_arg6) = z
  pointwise []

/-- A point's rows of the activations' gradient. -/
theorem rows_eq (c : Dev nD) (t : Fin cfg0.N) : (outsAt0 m c t.val t.isLt).1 = k0_pay1 (k0_pay7 (iblk m c 3 t) (iblk m c 6 t) (iblk m c 4 t) (iblk m c 7 t) (iblk m c 5 t) (iblk m c 8 t) (iblk m c 1 t) (iblk m c 2 t)) (k0_pay8 (iblk m c 1 t)) (k0_pay9 (iblk m c 3 t) (iblk m c 6 t) (iblk m c 4 t) (iblk m c 7 t) (iblk m c 5 t) (iblk m c 8 t) (iblk m c 1 t) (iblk m c 2 t)) (iblk m c 0 t) := by
  by_cases h0 : t.val % 16 = 0
  · rw [outsAt0_A m c t h0]
    dsimp only
    unfold out0_A_9
    rw [View.read_writes_eq_canon _ _ _ (cover0_A_9 c _ _ _ _ _ _ _ _ _ _ _ _ _ _ _ _ _ _ _ _ _ _ _ _ _ _ _ _ _ _ _ _ _)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.readCov_eq_canon']
    rw [View.canon_unit_zero Lin.zero2]
    repeat rw [View.ld_unit_zero Lin.zero2]
  · rw [outsAt0_B m c t h0]
    dsimp only
    unfold out0_B_9
    rw [View.read_writes_eq_canon _ _ _ (cover0_B_9 c _ _ _ _ _ _ _ _ _ _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.readCov_eq_canon']
    rw [View.canon_unit_zero Lin.zero2]
    repeat rw [View.ld_unit_zero Lin.zero2]

/-- The first point leaves its rows' part of the gains' gradient over zeros. -/
theorem gains_first (c : Dev nD) (t : Fin cfg0.N) (h0 : t.val % 16 = 0) :
    (outsAt0 m c t.val t.isLt).2 = k0_pay3 (k0_pay4 (iblk m c 3 t) (iblk m c 6 t) (iblk m c 4 t) (iblk m c 7 t) (iblk m c 5 t) (iblk m c 8 t)) (iblk m c 1 t) (k0_pay5 (iblk m c 1 t)) (k0_pay2 (F := Ideal)) := by
  rw [outsAt0_A m c t h0]
  dsimp only
  unfold out0_A_10
  rw [View.read_writes_eq_canon _ _ _ (cover0_A_10 c _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.readCov_eq_canon']
  rw [View.canon_cons_unit_zero Lin.zero2]
  repeat rw [View.ld_unit_zero Lin.zero2]
  refine congrArg (fun z => k0_pay3 (k0_pay4 (iblk m c 3 t) (iblk m c 6 t) (iblk m c 4 t) (iblk m c 7 t) (iblk m c 5 t) (iblk m c 8 t)) (iblk m c 1 t) (k0_pay5 (iblk m c 1 t)) z) (funext fun j => ?_)
  exact View.canon_cons_emb _ _ _ j

/-- A later point adds its own. -/
theorem gains_next (c : Dev nD) (t : Fin cfg0.N) (h0 : ¬t.val % 16 = 0) :
    (outsAt0 m c t.val t.isLt).2 = k0_pay3 (k0_pay4 (iblk m c 3 t) (iblk m c 6 t) (iblk m c 4 t) (iblk m c 7 t) (iblk m c 5 t) (iblk m c 8 t)) (iblk m c 1 t) (k0_pay5 (iblk m c 1 t)) (outsAt0 m c (t.val - 1) (Nat.lt_of_le_of_lt (Nat.sub_le _ _) t.isLt)).2 := by
  rw [outsAt0_B m c t h0]
  dsimp only
  unfold out0_B_10
  rw [View.read_writes_eq_canon _ _ _ (cover0_B_10 c _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.readCov_eq_canon']
  rw [View.canon_unit_zero Lin.zero2]
  repeat rw [View.ld_unit_zero Lin.zero2]

/-- The gradient of the activations, with what comes in from the layers after. -/
def resultRows (c : Dev nD) : S8192x1024.Idx → EReal := fun i =>
  Lin.rowsGrad (m ((c : Thread nD τ).loc main_arg0)) (m ((c : Thread nD τ).loc main_arg1)) (m ((c : Thread nD τ).loc main_arg2)) (Lin.cotThree (m ((c : Thread nD τ).loc main_arg3)) (m ((c : Thread nD τ).loc main_arg4)) (m ((c : Thread nD τ).loc main_arg5)) (m ((c : Thread nD τ).loc main_arg6))) (i 0) (i 1)

/-- The gradient of the gains. -/
def resultGains (c : Dev nD) : S1x1024.Idx → EReal := fun i =>
  ∑ x : Fin 8192, Lin.gainTerm (m ((c : Thread nD τ).loc main_arg1)) (Lin.cotThree (m ((c : Thread nD τ).loc main_arg3)) (m ((c : Thread nD τ).loc main_arg4)) (m ((c : Thread nD τ).loc main_arg5)) (m ((c : Thread nD τ).loc main_arg6))) (i 1) x

theorem rows_apply (c : Dev nD) (t : Fin cfg0.N) (x : Fin 512) (y : Fin 1024) :
    (outsAt0 m c t.val t.isLt).1 (ix2 x y) = resultRows m c (ix2 (⟨512 * (t.val) + x.val, by have := point_lt t; omega⟩ : Fin 8192) y) := by
  rw [rows_eq m c t]
  pointwise [k0_pay1, k0_pay6, k0_pay7, k0_pay8, k0_pay9, k0_pay3, k0_pay4, k0_pay5]
  show Lin.rowsGrad (iblk m c 0 t) (iblk m c 1 t) (iblk m c 2 t) (fun x y => Lin.byCols (iblk m c 3 t) (iblk m c 6 t) x y + Lin.byCols (iblk m c 4 t) (iblk m c 7 t) x y + Lin.byCols (iblk m c 5 t) (iblk m c 8 t) x y) x y = _
  exact Lin.rowsGrad_congr y (blk0 m c t x y) (fun z => blk1 m c t x z) (fun z => blk2 m c t 0 z)
    (fun y => (congrArg₂ (· + ·) (congrArg₂ (· + ·) (Finset.sum_congr rfl fun k _ => congrArg₂ (· * ·) (blk3 m c t x k) (blk6 m c t y k)) (Finset.sum_congr rfl fun k _ => congrArg₂ (· * ·) (blk4 m c t x k) (blk7 m c t y k))) (Finset.sum_congr rfl fun k _ => congrArg₂ (· * ·) (blk5 m c t x k) (blk8 m c t y k))))

theorem tile_apply (c : Dev nD) (t : Fin cfg0.N) (acc : Vec Ideal S1x1024 .f32) (l : Fin 1024) :
    k0_pay3 (k0_pay4 (iblk m c 3 t) (iblk m c 6 t) (iblk m c 4 t) (iblk m c 7 t) (iblk m c 5 t) (iblk m c 8 t)) (iblk m c 1 t) (k0_pay5 (iblk m c 1 t)) acc (ix2 0 l)
      = (acc (ix2 0 l) : EReal) + ∑ x : Fin 512, Lin.gainTerm (m ((c : Thread nD τ).loc main_arg1)) (Lin.cotThree (m ((c : Thread nD τ).loc main_arg3)) (m ((c : Thread nD τ).loc main_arg4)) (m ((c : Thread nD τ).loc main_arg5)) (m ((c : Thread nD τ).loc main_arg6))) l ⟨512 * t.val + x.val, by have := point_lt t; omega⟩ := by
  pointwise [k0_pay1, k0_pay6, k0_pay7, k0_pay8, k0_pay9, k0_pay3, k0_pay4, k0_pay5]
  show acc (ix2 0 l) + ∑ x : Fin 512, Lin.gainTerm (iblk m c 1 t) (fun x y => Lin.byCols (iblk m c 3 t) (iblk m c 6 t) x y + Lin.byCols (iblk m c 4 t) (iblk m c 7 t) x y + Lin.byCols (iblk m c 5 t) (iblk m c 8 t) x y) l x = _
  exact congrArg (_ + ·) (Finset.sum_congr rfl fun x _ => Lin.gainTerm_congr l (fun z => blk1 m c t x z)
    (fun y => (congrArg₂ (· + ·) (congrArg₂ (· + ·) (Finset.sum_congr rfl fun k _ => congrArg₂ (· * ·) (blk3 m c t x k) (blk6 m c t y k)) (Finset.sum_congr rfl fun k _ => congrArg₂ (· * ·) (blk4 m c t x k) (blk7 m c t y k))) (Finset.sum_congr rfl fun k _ => congrArg₂ (· * ·) (blk5 m c t x k) (blk8 m c t y k)))))

theorem zeros_apply (l : Fin 1024) : k0_pay2 (F := Ideal) (ix2 0 l) = (0 : EReal) := by
  pointwise [k0_pay2]

/-- The gains' gradient after each point: the sum over the rows so far. -/
theorem gains_apply (c : Dev nD) (n : ℕ) : ∀ (t : Fin cfg0.N), t.val = n → ∀ (l : Fin 1024),
    (outsAt0 m c t.val t.isLt).2 (ix2 0 l) = Lin.upTo (Lin.gainTerm (m ((c : Thread nD τ).loc main_arg1)) (Lin.cotThree (m ((c : Thread nD τ).loc main_arg3)) (m ((c : Thread nD τ).loc main_arg4)) (m ((c : Thread nD τ).loc main_arg5)) (m ((c : Thread nD τ).loc main_arg6))) l) (512 * t.val + 512) := by
  induction n with
  | zero =>
    intro t ht l
    have hp := point_lt t
    have h0 : t.val % 16 = 0 := by omega
    rw [gains_first m c t h0, tile_apply, zeros_apply, ← Lin.upTo_tile _ (512 * t.val) 512 (by omega)]
    congr 1
    rw [ht]; exact (Lin.upTo_zero _).symm
  | succ n ih =>
    intro t ht l
    have hp := point_lt t
    have h0 : ¬t.val % 16 = 0 := by omega
    rw [gains_next m c t h0, tile_apply, ← Lin.upTo_tile _ (512 * t.val) 512 (by omega)]
    congr 1
    refine (ih ⟨t.val - 1, Nat.lt_of_le_of_lt (Nat.sub_le _ _) t.isLt⟩ (by show t.val - 1 = n; omega) l).trans ?_
    have e2 : 512 * (t.val - 1) + 512 = 512 * t.val := by omega
    simp only [e2]

theorem gains_last (c : Dev nD) (t : Fin cfg0.N) (h1 : t.val % 16 = 15) (x : Fin 1) (y : Fin 1024) :
    (outsAt0 m c t.val t.isLt).2 (ix2 x y) = resultGains m c (ix2 x y) := by
  obtain rfl : x = 0 := Subsingleton.elim _ _
  have hp := point_lt t
  rw [gains_apply m c t.val t rfl, show 512 * t.val + 512 = 8192 by omega, Lin.upTo_all]
  rfl

theorem emb9 (t : Fin cfg0.N) (x : Fin 512) (y : Fin 1024) : ((cfg0.win 9).blk t).view.emb (ix2 x y)
    = (ix2 (⟨512 * (t.val) + x.val, by have := point_lt t; omega⟩ : Fin 8192) y) := by
  obtain ⟨e0, e1⟩ := idx9 t
  funext a; apply Fin.ext
  match a with
  | ⟨0, _⟩ => show win0_9.index t (0 : Fin 2) * 512 + 1 * x.val = 512 * (t.val) + x.val; omega
  | ⟨1, _⟩ => show win0_9.index t (1 : Fin 2) * 1024 + 1 * y.val = y.val; omega

theorem emb10 (t : Fin cfg0.N) (x : Fin 1) (y : Fin 1024) : ((cfg0.win 10).blk t).view.emb (ix2 x y)
    = (ix2 x y) := by
  obtain ⟨e0, e1⟩ := idx10 t
  funext a; apply Fin.ext
  match a with
  | ⟨0, _⟩ => show win0_10.index t (0 : Fin 2) * 1 + 1 * x.val = x.val; omega
  | ⟨1, _⟩ => show win0_10.index t (1 : Fin 2) * 1024 + 1 * y.val = y.val; omega

theorem flushed9_eq (c : Dev nD) (t : Fin cfg0.N) (hf : (cfg0.win 9).flush t = true) :
    (dats m 0 c).flushed 9 t = ((cfg0.win 9).blk t).view.read (Elt Ideal) (resultRows m c) := by
  rw [Value.flushed9]
  funext j
  obtain ⟨x, y, rfl⟩ : ∃ (x : Fin 512) (y : Fin 1024), j = ix2 x y := ⟨j 0, j 1, eq_ix2 j⟩
  show (outsAt0 m c t.val t.isLt).1 (ix2 x y) = resultRows m c (((cfg0.win 9).blk t).view.emb (ix2 x y))
  rw [emb9]
  exact rows_apply m c t x y

theorem covered9 (i : S8192x1024.Idx) : ∃ t : Fin cfg0.N, (cfg0.win 9).flush t = true ∧ i ∈ ((cfg0.win 9).blk t).view.set := by
  obtain ⟨r, l, rfl⟩ : ∃ (r : Fin 8192) (l : Fin 1024), i = ix2 r l := ⟨i 0, i 1, eq_ix2 i⟩
  have hr := r.isLt
  have hl := l.isLt
  refine ⟨⟨r.val / 512, by show _ < 16; omega⟩, flush0_9 _, ?_⟩
  have h := ((cfg0.win 9).blk (⟨r.val / 512, by show _ < 16; omega⟩ : Fin cfg0.N)).view.emb_mem_set (ix2 (⟨r.val % 512, Nat.mod_lt _ (by omega)⟩ : Fin 512) l)
  rw [emb9] at h
  have e : ix2 r l = ix2 (⟨512 * ((r.val / 512)) + r.val % 512, by omega⟩ : Fin 8192) l := by
    congr 1 <;> apply Fin.ext <;> dsimp only <;> omega
  rw [e]; exact h

/-- The result array after the run. -/
theorem finalRows (c : Dev nD) : (dats m 0 c).arrAt 9 cfg0.N = resultRows m c :=
  (dats m 0 c).arrAt_eq_of_cover 9 (resultRows m c) (fun t hf => flushed9_eq m c t hf) covered9

theorem flushed10_eq (c : Dev nD) (t : Fin cfg0.N) (hf : (cfg0.win 10).flush t = true) :
    (dats m 0 c).flushed 10 t = ((cfg0.win 10).blk t).view.read (Elt Ideal) (resultGains m c) := by
  rw [Value.flushed10]
  funext j
  obtain ⟨x, y, rfl⟩ : ∃ (x : Fin 1) (y : Fin 1024), j = ix2 x y := ⟨j 0, j 1, eq_ix2 j⟩
  show (outsAt0 m c t.val t.isLt).2 (ix2 x y) = resultGains m c (((cfg0.win 10).blk t).view.emb (ix2 x y))
  rw [emb10]
  exact gains_last m c t ((flush0_10 t).mp hf) x y

theorem covered10 (i : S1x1024.Idx) : ∃ t : Fin cfg0.N, (cfg0.win 10).flush t = true ∧ i ∈ ((cfg0.win 10).blk t).view.set := by
  obtain ⟨r, l, rfl⟩ : ∃ (r : Fin 1) (l : Fin 1024), i = ix2 r l := ⟨i 0, i 1, eq_ix2 i⟩
  have hr := r.isLt
  have hl := l.isLt
  refine ⟨⟨15, by show _ < 16; omega⟩, (flush0_10 _).mpr (by show 15 % 16 = 15; omega), ?_⟩
  have h := ((cfg0.win 10).blk (⟨15, by show _ < 16; omega⟩ : Fin cfg0.N)).view.emb_mem_set (ix2 r l)
  rw [emb10] at h
  have e : ix2 r l = ix2 r l := by
    congr 1 <;> apply Fin.ext <;> dsimp only <;> omega
  rw [e]; exact h

/-- The result array after the run. -/
theorem finalGains (c : Dev nD) : (dats m 0 c).arrAt 10 cfg0.N = resultGains m c :=
  (dats m 0 c).arrAt_eq_of_cover 10 (resultGains m c) (fun t hf => flushed10_eq m c t hf) covered10

end Cert.InDxIdeal.Gen

namespace Cert.InDxReferenceIdeal.Read
open Cert.InDxReferenceIdeal Cert.InDxReferenceIdeal.Gen Idealize.ShloMosaic Idealize.ShloMosaic.TcCoe Idealize.SL.Sem Idealize.ShloMosaic.StableHlo

/-- The reference's gradient of the activations. -/
theorem rows_eq (x0 : (⟨S8192x1024, .f32⟩ : BufTy).Contents (Elt Ideal)) (x1 : (⟨S8192x1024, .f32⟩ : BufTy).Contents (Elt Ideal)) (x2 : (⟨S1x1024, .f32⟩ : BufTy).Contents (Elt Ideal)) (x3 : (⟨S8192x3072, .f32⟩ : BufTy).Contents (Elt Ideal)) (x4 : (⟨S8192x1024, .f32⟩ : BufTy).Contents (Elt Ideal)) (x5 : (⟨S8192x128, .f32⟩ : BufTy).Contents (Elt Ideal)) (x6 : (⟨S1024x4224, .bf16⟩ : BufTy).Contents (Elt Ideal))
    (h1 : ∀ i, Cert.Attn.IsReal (x1 i)) (h2 : ∀ i, Cert.Attn.IsReal (x2 i)) (h3 : ∀ i, Cert.Attn.IsReal (x3 i)) (h4 : ∀ i, Cert.Attn.IsReal (x4 i)) (h5 : ∀ i, Cert.Attn.IsReal (x5 i)) (h6 : ∀ i, Cert.Attn.IsReal (x6 i)) :
    val_main_v46 (F := Ideal) x0 x1 x2 x3 x4 x5 x6 = (fun i => Cert.Lin.rowsGrad x0 x1 x2 (Cert.Lin.cotThree x3 x4 x5 x6) (i 0) (i 1) : (⟨2, ![8192, 1024]⟩ : Shape).Idx → EReal) := by
  funext i
  obtain ⟨r, l, rfl⟩ : ∃ (r : Fin 8192) (l : Fin 1024), i = ix2 r l := ⟨i 0, i 1, eq_ix2 i⟩
  refine Eq.trans ?_ (Cert.Lin.rowsGrad_eq h1 h2 (fun i j => Cert.Lin.cotThree_real h3 h4 h5 h6 i j) r l).symm
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_cst_3, val_main_v28, val_main_v29, val_main_v30, val_main_v31, val_main_v32, val_main_cst_4, val_main_v33, val_main_v34, val_main_v35, val_main_v36, val_main_v37, val_main_cst_5, val_main_v38, val_main_v39, val_main_cst_6, val_main_v40, val_main_v41, val_main_v42, val_main_v43, val_main_v44, val_main_v45, val_main_v46]
  simp only [Finset.univ_unique, Finset.sum_singleton]
  rw [Cert.Lin.cotThree_back]
  rfl

/-- The reference's gradient of the gains. -/
theorem gains_eq (x1 : (⟨S8192x1024, .f32⟩ : BufTy).Contents (Elt Ideal)) (x3 : (⟨S8192x3072, .f32⟩ : BufTy).Contents (Elt Ideal)) (x4 : (⟨S8192x1024, .f32⟩ : BufTy).Contents (Elt Ideal)) (x5 : (⟨S8192x128, .f32⟩ : BufTy).Contents (Elt Ideal)) (x6 : (⟨S1024x4224, .bf16⟩ : BufTy).Contents (Elt Ideal)) :
    val_main_v29 (F := Ideal) x1 x3 x4 x5 x6 = (fun i => ∑ x : Fin 8192, Cert.Lin.gainTerm x1 (Cert.Lin.cotThree x3 x4 x5 x6) (i 1) x : (⟨2, ![1, 1024]⟩ : Shape).Idx → EReal) := by
  funext i
  obtain ⟨r, l, rfl⟩ : ∃ (r : Fin 1) (l : Fin 1024), i = ix2 r l := ⟨i 0, i 1, eq_ix2 i⟩
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_cst_3, val_main_v28, val_main_v29, val_main_v30, val_main_v31, val_main_v32, val_main_cst_4, val_main_v33, val_main_v34, val_main_v35, val_main_v36, val_main_v37, val_main_cst_5, val_main_v38, val_main_v39, val_main_cst_6, val_main_v40, val_main_v41, val_main_v42, val_main_v43, val_main_v44, val_main_v45, val_main_v46]
  rw [Cert.Lin.cotThree_back]
  refine Finset.sum_congr rfl fun x _ => ?_
  exact (mul_comm (_ : EReal) _).trans (mul_assoc (_ : EReal) _ _).symm

end Cert.InDxReferenceIdeal.Read
-- ==== Proof.SiluBackward.lean ====
/-
  The gradient of the gated activation `silu g · v` by `g` and by `v`, in the form of the kernel call and in the one that
  differentiating it gives.
-/
module

public import proofs.«01_k».proof.Proof.Products
public import proofs.«01_k».proof.Proof.Rows

@[expose] public section
noncomputable section
namespace Cert.Lin
open Idealize.ShloMosaic Cert.Attn

/-- The logistic function as both programs compute it. -/
def logistic (g : EReal) : EReal :=
  Ideal.div (1) (1 + Ideal.exp (-g))

/-- The gradient by the gate, `a` the cotangent of the activation. -/
def gateGrad (a g v : EReal) : EReal :=
  a * v * (logistic g * (1 + g * (1 - logistic g)))

/-- The gradient by the value it gates. -/
def valGrad (a g : EReal) : EReal := a * g * logistic g

theorem logistic_real {g : EReal} (hg : IsReal g) : IsReal (logistic g) := by
  obtain ⟨r, rfl⟩ := hg
  unfold logistic
  rw [← EReal.coe_one, ← EReal.coe_neg, Ideal.exp_coe, ← EReal.coe_add, Ideal.div_coe (by positivity)]
  exact ⟨_, rfl⟩

/-- Real operands: the product rule on `g · logistic g` gives the same. -/
theorem gateGrad_eq {a g v : EReal} (ha : IsReal a) (hg : IsReal g) (hv : IsReal v) :
    gateGrad a g v = a * v * logistic g
      + g * (a * v) * (logistic g * (1 - logistic g)) := by
  obtain ⟨s, hs⟩ := logistic_real hg
  obtain ⟨a, rfl⟩ := ha
  obtain ⟨g, rfl⟩ := hg
  obtain ⟨v, rfl⟩ := hv
  unfold gateGrad
  rw [hs, ← EReal.coe_one]
  norm_cast
  ring

theorem valGrad_eq (a g : EReal) : valGrad a g = g * logistic g * a := by
  unfold valGrad
  rw [mul_assoc, mul_comm]

/-- The cotangent of the activations: an entry of `D Wᵀ`. -/
def actCot {n : ℕ} (D : Mat n 1024) (W : Mat 2816 1024) (i : Fin n) (j : Fin 2816) : EReal := ∑ k : Fin 1024, D (ix2 i k) * W (ix2 j k)

theorem actCot_real {n : ℕ} {D : Mat n 1024} {W : Mat 2816 1024} (hD : ∀ i, IsReal (D i)) (hW : ∀ i, IsReal (W i)) (i : Fin n) (j : Fin 2816) :
    IsReal (actCot D W i j) := IsReal.sum _ _ fun k _ => (hD _).mul (hW _)

/-- An entry of the gradient of the gates and values, side by side in one row. -/
def actGrad {n : ℕ} (D : Mat n 1024) (H : Mat n 5632) (W : Mat 2816 1024) (i : Fin n) (j : Fin 5632) : EReal :=
  if h : j.val < 2816 then gateGrad (actCot D W i ⟨j.val, h⟩) (H (ix2 i j)) (H (ix2 i ⟨2816 + j.val, by omega⟩))
  else valGrad (actCot D W i ⟨j.val - 2816, by omega⟩) (H (ix2 i ⟨j.val - 2816, by omega⟩))

/-- It depends on the row alone. -/
theorem actGrad_congr {n k : ℕ} {D : Mat n 1024} {H : Mat n 5632} {D' : Mat k 1024} {H' : Mat k 5632} {W W' : Mat 2816 1024}
    {i : Fin n} {i' : Fin k} (j : Fin 5632) (hD : ∀ x, D (ix2 i x) = D' (ix2 i' x)) (hH : ∀ x, H (ix2 i x) = H' (ix2 i' x))
    (hW : ∀ x y, W (ix2 x y) = W' (ix2 x y)) : actGrad D H W i j = actGrad D' H' W' i' j := by
  unfold actGrad actCot
  simp only [hD, hH, hW]

end Cert.Lin
-- ==== Proof.BwdActRows.lean ====
/-
  The reference of the gated activation's gradient, entry by entry.
-/
module

public import proofs.«01_k».proof.Proof.Gen.BwdActReferenceIdeal.Read
public import proofs.«01_k».proof.Proof.SiluBackward
public import Idealize.ShloMosaic.Lib.Pipeline.ValueKit

@[expose] public section
set_option maxRecDepth 16384
noncomputable section
namespace Cert.BwdActReferenceIdeal.Read
open Cert.BwdActReferenceIdeal Cert.BwdActReferenceIdeal.Gen Idealize.ShloMosaic Idealize.ShloMosaic.TcCoe Idealize.SL.Sem Idealize.ShloMosaic.StableHlo

variable (x0 : (⟨S8192x1024, .f32⟩ : BufTy).Contents (Elt Ideal)) (x1 : (⟨S8192x5632, .bf16⟩ : BufTy).Contents (Elt Ideal)) (x2 : (⟨S2816x1024, .bf16⟩ : BufTy).Contents (Elt Ideal))

/-- The reference's gradient, before it is rounded. -/
theorem entry (h0 : ∀ i, Cert.Attn.IsReal (x0 i)) (h1 : ∀ i, Cert.Attn.IsReal (x1 i)) (h2 : ∀ i, Cert.Attn.IsReal (x2 i))
    (r : Fin 8192) (l : Fin 5632) :
    val_main_v13 (F := Ideal) x0 x1 x2 (ix2 r l) = Cert.Lin.actGrad x0 x1 x2 r l := by
  unfold Cert.Lin.actGrad
  by_cases h : l.val < 2816
  · rw [dif_pos h, Cert.Lin.gateGrad_eq (Cert.Lin.actCot_real h0 h2 _ _) (h1 _) (h1 _)]
    pointwise [val_main_v13, val_main_v10, val_main_v12, val_main_cst, val_main_cst_0, val_main_v11, val_main_call1_v0, val_main_call1_v1, val_main_call1_v2, val_main_v9, val_main_v8, val_main_v7, val_main_v5, val_main_v3, val_main_v1, val_main_v0, val_main_v2_0, val_main_v2_1, val_main_v2_2, val_main_call0_v0, val_main_call0_v1, val_main_call0_v2, val_main_call0_v3, val_main_call0_v4, val_main_call0_v6, val_main_call0_v7, val_main_call0_cst, val_main_call0_cst_0, val_main_call0_cst_1]
    rw [dif_neg (by omega), dif_pos h, zero_add]
    rfl
  · rw [dif_neg h, Cert.Lin.valGrad_eq]
    pointwise [val_main_v13, val_main_v10, val_main_v12, val_main_cst, val_main_cst_0, val_main_v11, val_main_call1_v0, val_main_call1_v1, val_main_call1_v2, val_main_v9, val_main_v8, val_main_v7, val_main_v5, val_main_v3, val_main_v1, val_main_v0, val_main_v2_0, val_main_v2_1, val_main_v2_2, val_main_call0_v0, val_main_call0_v1, val_main_call0_v2, val_main_call0_v3, val_main_call0_v4, val_main_call0_v6, val_main_call0_v7, val_main_call0_cst, val_main_call0_cst_0, val_main_call0_cst_1]
    rw [dif_pos ⟨by omega, by omega⟩, dif_neg h, add_zero]
    rfl

/-- … and rounded: the same over the extended reals. -/
theorem rows_eq (h0 : ∀ i, Cert.Attn.IsReal (x0 i)) (h1 : ∀ i, Cert.Attn.IsReal (x1 i)) (h2 : ∀ i, Cert.Attn.IsReal (x2 i)) :
    val_main_v14 (F := Ideal) x0 x1 x2 = (fun i => Cert.Lin.actGrad x0 x1 x2 (i 0) (i 1) : (⟨2, ![8192, 5632]⟩ : Shape).Idx → EReal) := by
  funext i
  obtain ⟨r, l, rfl⟩ : ∃ (r : Fin 8192) (l : Fin 5632), i = ix2 r l := ⟨i 0, i 1, eq_ix2 i⟩
  exact entry x0 x1 x2 h0 h1 h2 r l

/-- The reference's sum of that gradient over the rows. -/
theorem gains_eq (h0 : ∀ i, Cert.Attn.IsReal (x0 i)) (h1 : ∀ i, Cert.Attn.IsReal (x1 i)) (h2 : ∀ i, Cert.Attn.IsReal (x2 i)) :
    val_main_v16 (F := Ideal) x0 x1 x2 = (fun i => ∑ x : Fin 8192, Cert.Lin.actGrad x0 x1 x2 x (i 1) : (⟨2, ![1, 5632]⟩ : Shape).Idx → EReal) := by
  funext i
  obtain ⟨r, l, rfl⟩ : ∃ (r : Fin 1) (l : Fin 5632), i = ix2 r l := ⟨i 0, i 1, eq_ix2 i⟩
  rw [val_main_v16_apply, val_main_v15_apply, val_main_cst_1_apply]
  have hz : FloatOps.ofBits (F := Ideal) .f32 0x00000000#32 = (0 : EReal) := by simp [Ideal.ofBits, Ideal.ieee]
  rw [hz, zero_add]
  refine Finset.sum_congr rfl fun x _ => ?_
  refine (congrArg (val_main_v13 (F := Ideal) x0 x1 x2) ?_).trans (entry x0 x1 x2 h0 h1 h2 x l)
  exact eq_ix2 _

end Cert.BwdActReferenceIdeal.Read
-- ==== Proof.BwdAct.lean ====
/-
  The gradient through the gated activation and the feed-forward network's second weight: its rows and their sum.
-/
module

public import proofs.«01_k».proof.Proof.Gen.BwdActIdeal.Value
public import proofs.«01_k».proof.Proof.BwdActRows
public import Idealize.ShloMosaic.Lib.Pipeline.ReadBack
public import Idealize.ShloMosaic.Lib.Pipeline.ValueKit

@[expose] public section
set_option maxRecDepth 16384
noncomputable section
namespace Cert.BwdActIdeal.Gen
open Idealize.ShloMosaic Idealize.ShloMosaic.TcCoe Idealize.SL.Sem Idealize.ShloMosaic.Pipeline

/-! ## One chunk of 256 columns -/

section chunk
variable (D : Vec Ideal S512x1024 .f32) (H : Vec Ideal S512x5632 .bf16) (W : Vec Ideal S2816x1024 .bf16)

/-- The rows of the gradient a point writes, from its blocks. -/
def rowsOf : S512x5632.Idx → EReal := fun i => Lin.actGrad D H W (i 0) (i 1)

/-- The row a point leaves: what it found, `b`, and the sum of its rows. -/
def sumsOf (b : S1x5632.Idx → EReal) : S1x5632.Idx → EReal := fun i => b i + ∑ x : Fin 512, Lin.actGrad D H W x (i 1)

variable (o p : ℕ) (hp : p = 2816 + o) (ho : o + 256 ≤ 2816)
  (i0 : ∀ a, (![0, 0] : Fin 2 → ℕ) a + S512x1024.size a ≤ S512x1024.size a)
  (i1 : ∀ a, (![0, o] : Fin 2 → ℕ) a + S512x256.size a ≤ S512x5632.size a)
  (i2 : ∀ a, (![0, p] : Fin 2 → ℕ) a + S512x256.size a ≤ S512x5632.size a)
  (i3 : ∀ a, (![o, 0] : Fin 2 → ℕ) a + S256x1024.size a ≤ S2816x1024.size a)
  (i4 : ∀ a, (![0, o] : Fin 2 → ℕ) a + S1x256.size a ≤ S1x5632.size a)
  (i5 : ∀ a, (![0, p] : Fin 2 → ℕ) a + S1x256.size a ≤ S1x5632.size a)

include hp ho

theorem ld_gate (x : Fin 512) (y : Fin 256) : View.ld (Val := Elt Ideal) (e' := .bf16) H (Rect.unit (s := S512x5632) ![0, o] S512x256.size i1) (ix2 x y) = H (ix2 x (⟨o + y.val, by omega⟩ : Fin 5632)) := by
  show H ((Rect.unit (s := S512x5632) ![0, o] S512x256.size i1).emb (ix2 x y)) = _
  congr 1; funext a; apply Fin.ext
  match a with
  | ⟨0, _⟩ => show 0 + 1 * x.val = x.val; omega
  | ⟨1, _⟩ => show o + 1 * y.val = o + y.val; omega

theorem ld_value (x : Fin 512) (y : Fin 256) : View.ld (Val := Elt Ideal) (e' := .bf16) H (Rect.unit (s := S512x5632) ![0, p] S512x256.size i2) (ix2 x y) = H (ix2 x (⟨2816 + (o + y.val), by omega⟩ : Fin 5632)) := by
  show H ((Rect.unit (s := S512x5632) ![0, p] S512x256.size i2).emb (ix2 x y)) = _
  congr 1; funext a; apply Fin.ext
  match a with
  | ⟨0, _⟩ => show 0 + 1 * x.val = x.val; omega
  | ⟨1, _⟩ => show p + 1 * y.val = 2816 + (o + y.val); omega

theorem ld_weight (x : Fin 256) (y : Fin 1024) : View.ld (Val := Elt Ideal) (e' := .bf16) W (Rect.unit (s := S2816x1024) ![o, 0] S256x1024.size i3) (ix2 x y) = W (ix2 (⟨o + x.val, by omega⟩ : Fin 2816) y) := by
  show W ((Rect.unit (s := S2816x1024) ![o, 0] S256x1024.size i3).emb (ix2 x y)) = _
  congr 1; funext a; apply Fin.ext
  match a with
  | ⟨0, _⟩ => show o + 1 * x.val = o + x.val; omega
  | ⟨1, _⟩ => show 0 + 1 * y.val = y.val; omega

/-- The gates' part of the chunk, in full precision. -/
theorem gate_tile (x : Fin 512) (y : Fin 256) :
    k0_pay6 (View.ld (Val := Elt Ideal) (e' := .f32) D (Rect.unit (s := S512x1024) ![0, 0] S512x1024.size i0)) (View.ld (Val := Elt Ideal) (e' := .bf16) H (Rect.unit (s := S512x5632) ![0, o] S512x256.size i1))
        (View.ld (Val := Elt Ideal) (e' := .bf16) H (Rect.unit (s := S512x5632) ![0, p] S512x256.size i2)) (View.ld (Val := Elt Ideal) (e' := .bf16) W (Rect.unit (s := S2816x1024) ![o, 0] S256x1024.size i3)) (ix2 x y)
      = Lin.actGrad D H W x (⟨o + y.val, by omega⟩ : Fin 5632) := by
  rw [View.ld_unit_zero Lin.zero2]
  pointwise [k0_pay6, k0_pay5, k0_pay4, k0_pay3, k0_pay2]
  simp only [ld_gate H o p hp ho i1, ld_value H o p hp ho i2, ld_weight W o p hp ho i3, zero_sub]
  unfold Lin.actGrad
  rw [dif_pos (show o + y.val < 2816 by omega)]
  have e : p + y.val = 2816 + (o + y.val) := by omega
  simp only [e]
  rfl

/-- The values' part. -/
theorem value_tile (x : Fin 512) (y : Fin 256) :
    k0_pay7 (View.ld (Val := Elt Ideal) (e' := .f32) D (Rect.unit (s := S512x1024) ![0, 0] S512x1024.size i0)) (View.ld (Val := Elt Ideal) (e' := .bf16) H (Rect.unit (s := S512x5632) ![0, o] S512x256.size i1))
        (View.ld (Val := Elt Ideal) (e' := .bf16) W (Rect.unit (s := S2816x1024) ![o, 0] S256x1024.size i3)) (ix2 x y)
      = Lin.actGrad D H W x (⟨2816 + (o + y.val), by omega⟩ : Fin 5632) := by
  rw [View.ld_unit_zero Lin.zero2]
  pointwise [k0_pay7, k0_pay5, k0_pay4, k0_pay3, k0_pay2]
  simp only [ld_gate H o p hp ho i1, ld_weight W o p hp ho i3, zero_sub]
  unfold Lin.actGrad
  rw [dif_neg (show ¬ 2816 + (o + y.val) < 2816 by omega)]
  have e : 2816 + (o + y.val) - 2816 = o + y.val := by omega
  simp only [e]
  rfl

theorem gate_piece (x : (Rect.unit (s := S512x5632) ![0, o] S512x256.size i1).shape.Idx) :
    k0_pay8 (View.ld (Val := Elt Ideal) (e' := .f32) D (Rect.unit (s := S512x1024) ![0, 0] S512x1024.size i0)) (View.ld (Val := Elt Ideal) (e' := .bf16) H (Rect.unit (s := S512x5632) ![0, o] S512x256.size i1))
        (View.ld (Val := Elt Ideal) (e' := .bf16) H (Rect.unit (s := S512x5632) ![0, p] S512x256.size i2)) (View.ld (Val := Elt Ideal) (e' := .bf16) W (Rect.unit (s := S2816x1024) ![o, 0] S256x1024.size i3)) x
      = rowsOf D H W ((Rect.unit (s := S512x5632) ![0, o] S512x256.size i1).emb x) := by
  obtain ⟨a, b, rfl⟩ : ∃ (a : Fin 512) (b : Fin 256), x = ix2 a b := ⟨x 0, x 1, eq_ix2 x⟩
  refine (gate_tile D H W o p hp ho i0 i1 i2 i3 a b).trans ?_
  unfold rowsOf
  congr 1 <;> apply Fin.ext
  · show a.val = 0 + 1 * a.val; omega
  · show o + b.val = o + 1 * b.val; omega

theorem value_piece (x : (Rect.unit (s := S512x5632) ![0, p] S512x256.size i2).shape.Idx) :
    k0_pay9 (View.ld (Val := Elt Ideal) (e' := .f32) D (Rect.unit (s := S512x1024) ![0, 0] S512x1024.size i0)) (View.ld (Val := Elt Ideal) (e' := .bf16) H (Rect.unit (s := S512x5632) ![0, o] S512x256.size i1))
        (View.ld (Val := Elt Ideal) (e' := .bf16) W (Rect.unit (s := S2816x1024) ![o, 0] S256x1024.size i3)) x
      = rowsOf D H W ((Rect.unit (s := S512x5632) ![0, p] S512x256.size i2).emb x) := by
  obtain ⟨a, b, rfl⟩ : ∃ (a : Fin 512) (b : Fin 256), x = ix2 a b := ⟨x 0, x 1, eq_ix2 x⟩
  refine (value_tile D H W o p hp ho i0 i1 i3 a b).trans ?_
  unfold rowsOf
  congr 1 <;> apply Fin.ext
  · show a.val = 0 + 1 * a.val; omega
  · show 2816 + (o + b.val) = p + 1 * b.val; omega

omit hp ho in
theorem add_tile (T : FVec Ideal S512x256 .f32) (b : Vec Ideal S1x256 .f32) (y : Fin 256) :
    k0_pay12 T b (ix2 0 y) = (b (ix2 0 y) : EReal) + ∑ x : Fin 512, T (ix2 x y) := by
  pointwise [k0_pay12]

theorem gate_sum (b : Vec Ideal S1x5632 .f32) (x : (Rect.unit (s := S1x5632) ![0, o] S1x256.size i4).shape.Idx) :
    k0_pay12 (k0_pay6 (View.ld (Val := Elt Ideal) (e' := .f32) D (Rect.unit (s := S512x1024) ![0, 0] S512x1024.size i0)) (View.ld (Val := Elt Ideal) (e' := .bf16) H (Rect.unit (s := S512x5632) ![0, o] S512x256.size i1))
        (View.ld (Val := Elt Ideal) (e' := .bf16) H (Rect.unit (s := S512x5632) ![0, p] S512x256.size i2)) (View.ld (Val := Elt Ideal) (e' := .bf16) W (Rect.unit (s := S2816x1024) ![o, 0] S256x1024.size i3)))
        (View.ld (Val := Elt Ideal) (e' := .f32) b (Rect.unit (s := S1x5632) ![0, o] S1x256.size i4)) x
      = sumsOf D H W b ((Rect.unit (s := S1x5632) ![0, o] S1x256.size i4).emb x) := by
  obtain ⟨a, y, rfl⟩ : ∃ (a : Fin 1) (y : Fin 256), x = ix2 a y := ⟨x 0, x 1, eq_ix2 x⟩
  obtain rfl : a = 0 := Subsingleton.elim _ _
  rw [add_tile]
  unfold sumsOf
  refine congrArg₂ (· + ·) rfl (Finset.sum_congr rfl fun z _ => (gate_tile D H W o p hp ho i0 i1 i2 i3 z y).trans ?_)
  congr 1; apply Fin.ext
  show o + y.val = o + 1 * y.val; omega

theorem value_sum (b : Vec Ideal S1x5632 .f32) (x : (Rect.unit (s := S1x5632) ![0, p] S1x256.size i5).shape.Idx) :
    k0_pay12 (k0_pay7 (View.ld (Val := Elt Ideal) (e' := .f32) D (Rect.unit (s := S512x1024) ![0, 0] S512x1024.size i0)) (View.ld (Val := Elt Ideal) (e' := .bf16) H (Rect.unit (s := S512x5632) ![0, o] S512x256.size i1))
        (View.ld (Val := Elt Ideal) (e' := .bf16) W (Rect.unit (s := S2816x1024) ![o, 0] S256x1024.size i3)))
        (View.ld (Val := Elt Ideal) (e' := .f32) b (Rect.unit (s := S1x5632) ![0, p] S1x256.size i5)) x
      = sumsOf D H W b ((Rect.unit (s := S1x5632) ![0, p] S1x256.size i5).emb x) := by
  obtain ⟨a, y, rfl⟩ : ∃ (a : Fin 1) (y : Fin 256), x = ix2 a y := ⟨x 0, x 1, eq_ix2 x⟩
  obtain rfl : a = 0 := Subsingleton.elim _ _
  rw [add_tile]
  unfold sumsOf
  refine congrArg₂ (· + ·) rfl (Finset.sum_congr rfl fun z _ => (value_tile D H W o p hp ho i0 i1 i3 z y).trans ?_)
  congr 1; apply Fin.ext
  show 2816 + (o + y.val) = p + 1 * y.val; omega

end chunk

/-! ## A point -/

variable (m : (ℓ : Loc nD τ sig) → Buf (Elt Ideal) ℓ)

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem point_lt (t : Fin cfg0.N) : t.val < 16 := t.isLt

theorem blk0 (c : Dev nD) (t : Fin cfg0.N) (x : Fin 512) (y : Fin 1024) : iblk m c 0 t (ix2 x y)
    = m ((c : Thread nD τ).loc main_arg0) (ix2 (⟨512 * t.val + x.val, by have := point_lt t; omega⟩ : Fin 8192) y) := by
  obtain ⟨e0, e1⟩ := idx0 t
  rw [← V_main_arg0 m c]
  show V m c main_arg0 (((cfg0.win 0).blk t).view.emb (ix2 x y)) = _
  congr 1; funext a; apply Fin.ext
  match a with
  | ⟨0, _⟩ => show win0_0.index t (0 : Fin 2) * 512 + 1 * x.val = 512 * t.val + x.val; omega
  | ⟨1, _⟩ => show win0_0.index t (1 : Fin 2) * 1024 + 1 * y.val = y.val; omega

theorem blk1 (c : Dev nD) (t : Fin cfg0.N) (x : Fin 512) (y : Fin 5632) : iblk m c 1 t (ix2 x y)
    = m ((c : Thread nD τ).loc main_arg1) (ix2 (⟨512 * t.val + x.val, by have := point_lt t; omega⟩ : Fin 8192) y) := by
  obtain ⟨e0, e1⟩ := idx1 t
  rw [← V_main_arg1 m c]
  show V m c main_arg1 (((cfg0.win 1).blk t).view.emb (ix2 x y)) = _
  congr 1; funext a; apply Fin.ext
  match a with
  | ⟨0, _⟩ => show win0_1.index t (0 : Fin 2) * 512 + 1 * x.val = 512 * t.val + x.val; omega
  | ⟨1, _⟩ => show win0_1.index t (1 : Fin 2) * 5632 + 1 * y.val = y.val; omega

theorem blk2 (c : Dev nD) (t : Fin cfg0.N) (x : Fin 2816) (y : Fin 1024) : iblk m c 2 t (ix2 x y)
    = m ((c : Thread nD τ).loc main_arg2) (ix2 x y) := by
  obtain ⟨e0, e1⟩ := idx2 t
  rw [← V_main_arg2 m c]
  show V m c main_arg2 (((cfg0.win 2).blk t).view.emb (ix2 x y)) = _
  congr 1; funext a; apply Fin.ext
  match a with
  | ⟨0, _⟩ => show win0_2.index t (0 : Fin 2) * 2816 + 1 * x.val = x.val; omega
  | ⟨1, _⟩ => show win0_2.index t (1 : Fin 2) * 1024 + 1 * y.val = y.val; omega

/-- A first point's rows. -/
theorem rows_A (c : Dev nD) (t : Fin cfg0.N) (h0 : t.val % 16 = 0) : (outsAt0 m c t.val t.isLt).1 = rowsOf (iblk m c 0 t) (iblk m c 1 t) (iblk m c 2 t) := by
  rw [outsAt0_A m c t h0]
  dsimp only
  unfold out0_A_3
  rw [View.read_writes_eq_canon _ _ _ (cover0_A_3 c _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread]
  funext y
  refine View.canon_apply_of_pieces (Val := Elt Ideal) (e := .bf16) (rowsOf (iblk m c 0 t) (iblk m c 1 t) (iblk m c 2 t)) _ ?_ y ?_
  · exact View.PiecesOf.mem
      ⟨value_piece _ _ _ 2560 5376 rfl (by decide) _ _ (by decide) _,
      gate_piece _ _ _ 2560 5376 rfl (by decide) _ _ _ _,
      value_piece _ _ _ 2304 5120 rfl (by decide) _ _ (by decide) _,
      gate_piece _ _ _ 2304 5120 rfl (by decide) _ _ _ _,
      value_piece _ _ _ 2048 4864 rfl (by decide) _ _ (by decide) _,
      gate_piece _ _ _ 2048 4864 rfl (by decide) _ _ _ _,
      value_piece _ _ _ 1792 4608 rfl (by decide) _ _ (by decide) _,
      gate_piece _ _ _ 1792 4608 rfl (by decide) _ _ _ _,
      value_piece _ _ _ 1536 4352 rfl (by decide) _ _ (by decide) _,
      gate_piece _ _ _ 1536 4352 rfl (by decide) _ _ _ _,
      value_piece _ _ _ 1280 4096 rfl (by decide) _ _ (by decide) _,
      gate_piece _ _ _ 1280 4096 rfl (by decide) _ _ _ _,
      value_piece _ _ _ 1024 3840 rfl (by decide) _ _ (by decide) _,
      gate_piece _ _ _ 1024 3840 rfl (by decide) _ _ _ _,
      value_piece _ _ _ 768 3584 rfl (by decide) _ _ (by decide) _,
      gate_piece _ _ _ 768 3584 rfl (by decide) _ _ _ _,
      value_piece _ _ _ 512 3328 rfl (by decide) _ _ (by decide) _,
      gate_piece _ _ _ 512 3328 rfl (by decide) _ _ _ _,
      value_piece _ _ _ 256 3072 rfl (by decide) _ _ (by decide) _,
      gate_piece _ _ _ 256 3072 rfl (by decide) _ _ _ _,
      value_piece _ _ _ 0 2816 rfl (by decide) _ _ (by decide) _,
      gate_piece _ _ _ 0 2816 rfl (by decide) _ _ _ _, trivial⟩
  · exact View.cover_of_tiledL (s := S512x5632) _ S512x256.size (by sl_kernel_rfl) y

/-- A later point's rows. -/
theorem rows_B (c : Dev nD) (t : Fin cfg0.N) (h0 : ¬t.val % 16 = 0) : (outsAt0 m c t.val t.isLt).1 = rowsOf (iblk m c 0 t) (iblk m c 1 t) (iblk m c 2 t) := by
  rw [outsAt0_B m c t h0]
  dsimp only
  unfold out0_B_3
  rw [View.read_writes_eq_canon _ _ _ (cover0_B_3 c _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread]
  funext y
  refine View.canon_apply_of_pieces (Val := Elt Ideal) (e := .bf16) (rowsOf (iblk m c 0 t) (iblk m c 1 t) (iblk m c 2 t)) _ ?_ y ?_
  · exact View.PiecesOf.mem
      ⟨value_piece _ _ _ 2560 5376 rfl (by decide) _ _ (by decide) _,
      gate_piece _ _ _ 2560 5376 rfl (by decide) _ _ _ _,
      value_piece _ _ _ 2304 5120 rfl (by decide) _ _ (by decide) _,
      gate_piece _ _ _ 2304 5120 rfl (by decide) _ _ _ _,
      value_piece _ _ _ 2048 4864 rfl (by decide) _ _ (by decide) _,
      gate_piece _ _ _ 2048 4864 rfl (by decide) _ _ _ _,
      value_piece _ _ _ 1792 4608 rfl (by decide) _ _ (by decide) _,
      gate_piece _ _ _ 1792 4608 rfl (by decide) _ _ _ _,
      value_piece _ _ _ 1536 4352 rfl (by decide) _ _ (by decide) _,
      gate_piece _ _ _ 1536 4352 rfl (by decide) _ _ _ _,
      value_piece _ _ _ 1280 4096 rfl (by decide) _ _ (by decide) _,
      gate_piece _ _ _ 1280 4096 rfl (by decide) _ _ _ _,
      value_piece _ _ _ 1024 3840 rfl (by decide) _ _ (by decide) _,
      gate_piece _ _ _ 1024 3840 rfl (by decide) _ _ _ _,
      value_piece _ _ _ 768 3584 rfl (by decide) _ _ (by decide) _,
      gate_piece _ _ _ 768 3584 rfl (by decide) _ _ _ _,
      value_piece _ _ _ 512 3328 rfl (by decide) _ _ (by decide) _,
      gate_piece _ _ _ 512 3328 rfl (by decide) _ _ _ _,
      value_piece _ _ _ 256 3072 rfl (by decide) _ _ (by decide) _,
      gate_piece _ _ _ 256 3072 rfl (by decide) _ _ _ _,
      value_piece _ _ _ 0 2816 rfl (by decide) _ _ (by decide) _,
      gate_piece _ _ _ 0 2816 rfl (by decide) _ _ _ _, trivial⟩
  · exact View.cover_of_tiledL (s := S512x5632) _ S512x256.size (by sl_kernel_rfl) y

/-- The first point leaves the sum of its rows over zeros. -/
theorem sums_first (c : Dev nD) (t : Fin cfg0.N) (h0 : t.val % 16 = 0) :
    (outsAt0 m c t.val t.isLt).2 = sumsOf (iblk m c 0 t) (iblk m c 1 t) (iblk m c 2 t) (k0_pay1 (F := Ideal)) := by
  rw [outsAt0_A m c t h0]
  dsimp only
  unfold out0_A_4
  rw [View.read_writes_eq_canon _ _ _ (cover0_A_4 c _ _ _ _ _ _ _ _ _ _ _ _ _ _ _)]
  unfold kernelRun0_A
  dsimp only
  sl_unfold_words
  simp (disch := decide) only [↓View.readCov_skip, View.readCov_fill, View.readAt_eq_ld, (hs0_0 t).read_unread, (hs0_1 t).read_unread, (hs0_2 t).read_unread, (hs0_3 t).read_unread, (hs0_4 t).read_unread]
  funext y
  refine View.canon_append_of_piecesOf (Val := Elt Ideal) (e := .f32) (sumsOf (iblk m c 0 t) (iblk m c 1 t) (iblk m c 2 t) (k0_pay1 (F := Ideal))) [_]
    [_, _, _, _, _, _, _, _, _, _, _, _, _, _, _, _, _, _, _, _, _, _]
    ?_ y ?_
  · exact ⟨value_sum _ _ _ 2560 5376 rfl (by decide) _ _ _ _ _,
      gate_sum _ _ _ 2560 5376 rfl (by decide) _ _ _ _ _ _,
      value_sum _ _ _ 2304 5120 rfl (by decide) _ _ _ _ _,
      gate_sum _ _ _ 2304 5120 rfl (by decide) _ _ _ _ _ _,
      value_sum _ _ _ 2048 4864 rfl (by decide) _ _ _ _ _,
      gate_sum _ _ _ 2048 4864 rfl (by decide) _ _ _ _ _ _,
      value_sum _ _ _ 1792 4608 rfl (by decide) _ _ _ _ _,
      gate_sum _ _ _ 1792 4608 rfl (by decide) _ _ _ _ _ _,
      value_sum _ _ _ 1536 4352 rfl (by decide) _ _ _ _ _,
      gate_sum _ _ _ 1536 4352 rfl (by decide) _ _ _ _ _ _,
      value_sum _ _ _ 1280 4096 rfl (by decide) _ _ _ _ _,
      gate_sum _ _ _ 1280 4096 rfl (by decide) _ _ _ _ _ _,
      value_sum _ _ _ 1024 3840 rfl (by decide) _ _ _ _ _,
      gate_sum _ _ _ 1024 3840 rfl (by decide) _ _ _ _ _ _,
      value_sum _ _ _ 768 3584 rfl (by decide) _ _ _ _ _,
      gate_sum _ _ _ 768 3584 rfl (by decide) _ _ _ _ _ _,
      value_sum _ _ _ 512 3328 rfl (by decide) _ _ _ _ _,
      gate_sum _ _ _ 512 3328 rfl (by decide) _ _ _ _ _ _,
      value_sum _ _ _ 256 3072 rfl (by decide) _ _ _ _ _,
      gate_sum _ _ _ 256 3072 rfl (by decide) _ _ _ _ _ _,
      value_sum _ _ _ 0 2816 rfl (by decide) _ _ _ _ _,
      gate_sum _ _ _ 0 2816 rfl (by decide) _ _ _ _ _ _, trivial⟩
  · exact View.cover_of_tiledL (s := S1x5632) _ S1x256.size (by sl_kernel_rfl) y

/-- A later point adds the sum of its own. -/
theorem sums_next (c : Dev nD) (t : Fin cfg0.N) (h0 : ¬t.val % 16 = 0) :
    (outsAt0 m c t.val t.isLt).2 = sumsOf (iblk m c 0 t) (iblk m c 1 t) (iblk m c 2 t) (outsAt0 m c (t.val - 1) (Nat.lt_of_le_of_lt (Nat.sub_le _ _) t.isLt)).2 := by
  rw [outsAt0_B m c t h0]
  dsimp only
  unfold out0_B_4
  rw [View.read_writes_eq_canon _ _ _ (cover0_B_4 c _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread]
  funext y
  refine View.canon_apply_of_pieces (Val := Elt Ideal) (e := .f32) (sumsOf (iblk m c 0 t) (iblk m c 1 t) (iblk m c 2 t) (outsAt0 m c (t.val - 1) (Nat.lt_of_le_of_lt (Nat.sub_le _ _) t.isLt)).2) _ ?_ y ?_
  · exact View.PiecesOf.mem
      ⟨value_sum _ _ _ 2560 5376 rfl (by decide) _ _ _ _ _,
      gate_sum _ _ _ 2560 5376 rfl (by decide) _ _ _ _ _ _,
      value_sum _ _ _ 2304 5120 rfl (by decide) _ _ _ _ _,
      gate_sum _ _ _ 2304 5120 rfl (by decide) _ _ _ _ _ _,
      value_sum _ _ _ 2048 4864 rfl (by decide) _ _ _ _ _,
      gate_sum _ _ _ 2048 4864 rfl (by decide) _ _ _ _ _ _,
      value_sum _ _ _ 1792 4608 rfl (by decide) _ _ _ _ _,
      gate_sum _ _ _ 1792 4608 rfl (by decide) _ _ _ _ _ _,
      value_sum _ _ _ 1536 4352 rfl (by decide) _ _ _ _ _,
      gate_sum _ _ _ 1536 4352 rfl (by decide) _ _ _ _ _ _,
      value_sum _ _ _ 1280 4096 rfl (by decide) _ _ _ _ _,
      gate_sum _ _ _ 1280 4096 rfl (by decide) _ _ _ _ _ _,
      value_sum _ _ _ 1024 3840 rfl (by decide) _ _ _ _ _,
      gate_sum _ _ _ 1024 3840 rfl (by decide) _ _ _ _ _ _,
      value_sum _ _ _ 768 3584 rfl (by decide) _ _ _ _ _,
      gate_sum _ _ _ 768 3584 rfl (by decide) _ _ _ _ _ _,
      value_sum _ _ _ 512 3328 rfl (by decide) _ _ _ _ _,
      gate_sum _ _ _ 512 3328 rfl (by decide) _ _ _ _ _ _,
      value_sum _ _ _ 256 3072 rfl (by decide) _ _ _ _ _,
      gate_sum _ _ _ 256 3072 rfl (by decide) _ _ _ _ _ _,
      value_sum _ _ _ 0 2816 rfl (by decide) _ _ _ _ _,
      gate_sum _ _ _ 0 2816 rfl (by decide) _ _ _ _ _ _, trivial⟩
  · exact View.cover_of_tiledL (s := S1x5632) _ S1x256.size (by sl_kernel_rfl) y

/-- The gradient. -/
def resultRows (c : Dev nD) : S8192x5632.Idx → EReal := fun i =>
  Lin.actGrad (m ((c : Thread nD τ).loc main_arg0)) (m ((c : Thread nD τ).loc main_arg1)) (m ((c : Thread nD τ).loc main_arg2)) (i 0) (i 1)

/-- Its sum over the rows. -/
def resultSums (c : Dev nD) : S1x5632.Idx → EReal := fun i =>
  ∑ x : Fin 8192, Lin.actGrad (m ((c : Thread nD τ).loc main_arg0)) (m ((c : Thread nD τ).loc main_arg1)) (m ((c : Thread nD τ).loc main_arg2)) x (i 1)

theorem block_row (c : Dev nD) (t : Fin cfg0.N) (x : Fin 512) (y : Fin 5632) :
    Lin.actGrad (iblk m c 0 t) (iblk m c 1 t) (iblk m c 2 t) x y
      = Lin.actGrad (m ((c : Thread nD τ).loc main_arg0)) (m ((c : Thread nD τ).loc main_arg1)) (m ((c : Thread nD τ).loc main_arg2))
          (⟨512 * t.val + x.val, by have := point_lt t; omega⟩ : Fin 8192) y :=
  Lin.actGrad_congr y (fun z => blk0 m c t x z) (fun z => blk1 m c t x z) (fun a b => blk2 m c t a b)

theorem rows_apply (c : Dev nD) (t : Fin cfg0.N) (x : Fin 512) (y : Fin 5632) :
    (outsAt0 m c t.val t.isLt).1 (ix2 x y) = resultRows m c (ix2 (⟨512 * t.val + x.val, by have := point_lt t; omega⟩ : Fin 8192) y) := by
  have h : (outsAt0 m c t.val t.isLt).1 = rowsOf (iblk m c 0 t) (iblk m c 1 t) (iblk m c 2 t) := by
    by_cases h0 : t.val % 16 = 0
    · exact rows_A m c t h0
    · exact rows_B m c t h0
  rw [h]
  exact block_row m c t x y

/-- The sum after each point: over the rows so far. -/
theorem sums_apply (c : Dev nD) (n : ℕ) : ∀ (t : Fin cfg0.N), t.val = n → ∀ (l : Fin 5632),
    (outsAt0 m c t.val t.isLt).2 (ix2 0 l) = Lin.upTo (fun x => Lin.actGrad (m ((c : Thread nD τ).loc main_arg0)) (m ((c : Thread nD τ).loc main_arg1)) (m ((c : Thread nD τ).loc main_arg2)) x l) (512 * t.val + 512) := by
  induction n with
  | zero =>
    intro t ht l
    have hp := point_lt t
    have h0 : t.val % 16 = 0 := by omega
    rw [sums_first m c t h0, ← Lin.upTo_tile _ (512 * t.val) 512 (by omega)]
    refine congrArg₂ (· + ·) ?_ (Finset.sum_congr rfl fun x _ => block_row m c t x l)
    rw [ht]
    refine Eq.trans ?_ (Lin.upTo_zero _).symm
    pointwise [k0_pay1]
  | succ n ih =>
    intro t ht l
    have hp := point_lt t
    have h0 : ¬t.val % 16 = 0 := by omega
    rw [sums_next m c t h0, ← Lin.upTo_tile _ (512 * t.val) 512 (by omega)]
    refine congrArg₂ (· + ·) ?_ (Finset.sum_congr rfl fun x _ => block_row m c t x l)
    refine (ih ⟨t.val - 1, Nat.lt_of_le_of_lt (Nat.sub_le _ _) t.isLt⟩ (by show t.val - 1 = n; omega) l).trans ?_
    have e2 : 512 * (t.val - 1) + 512 = 512 * t.val := by omega
    simp only [e2]

theorem sums_last (c : Dev nD) (t : Fin cfg0.N) (h1 : t.val % 16 = 15) (x : Fin 1) (y : Fin 5632) :
    (outsAt0 m c t.val t.isLt).2 (ix2 x y) = resultSums m c (ix2 x y) := by
  obtain rfl : x = 0 := Subsingleton.elim _ _
  have hp := point_lt t
  rw [sums_apply m c t.val t rfl, show 512 * t.val + 512 = 8192 by omega, Lin.upTo_all]
  rfl

theorem emb3 (t : Fin cfg0.N) (x : Fin 512) (y : Fin 5632) : ((cfg0.win 3).blk t).view.emb (ix2 x y)
    = (ix2 (⟨512 * (t.val) + x.val, by have := point_lt t; omega⟩ : Fin 8192) y) := by
  obtain ⟨e0, e1⟩ := idx3 t
  funext a; apply Fin.ext
  match a with
  | ⟨0, _⟩ => show win0_3.index t (0 : Fin 2) * 512 + 1 * x.val = 512 * (t.val) + x.val; omega
  | ⟨1, _⟩ => show win0_3.index t (1 : Fin 2) * 5632 + 1 * y.val = y.val; omega

theorem emb4 (t : Fin cfg0.N) (x : Fin 1) (y : Fin 5632) : ((cfg0.win 4).blk t).view.emb (ix2 x y)
    = (ix2 x y) := by
  obtain ⟨e0, e1⟩ := idx4 t
  funext a; apply Fin.ext
  match a with
  | ⟨0, _⟩ => show win0_4.index t (0 : Fin 2) * 1 + 1 * x.val = x.val; omega
  | ⟨1, _⟩ => show win0_4.index t (1 : Fin 2) * 5632 + 1 * y.val = y.val; omega

theorem flushed3_eq (c : Dev nD) (t : Fin cfg0.N) (hf : (cfg0.win 3).flush t = true) :
    (dats m 0 c).flushed 3 t = ((cfg0.win 3).blk t).view.read (Elt Ideal) (resultRows m c) := by
  rw [Value.flushed3]
  funext j
  obtain ⟨x, y, rfl⟩ : ∃ (x : Fin 512) (y : Fin 5632), j = ix2 x y := ⟨j 0, j 1, eq_ix2 j⟩
  show (outsAt0 m c t.val t.isLt).1 (ix2 x y) = resultRows m c (((cfg0.win 3).blk t).view.emb (ix2 x y))
  rw [emb3]
  exact rows_apply m c t x y

theorem covered3 (i : S8192x5632.Idx) : ∃ t : Fin cfg0.N, (cfg0.win 3).flush t = true ∧ i ∈ ((cfg0.win 3).blk t).view.set := by
  obtain ⟨r, l, rfl⟩ : ∃ (r : Fin 8192) (l : Fin 5632), i = ix2 r l := ⟨i 0, i 1, eq_ix2 i⟩
  have hr := r.isLt
  have hl := l.isLt
  refine ⟨⟨r.val / 512, by show _ < 16; omega⟩, flush0_3 _, ?_⟩
  have h := ((cfg0.win 3).blk (⟨r.val / 512, by show _ < 16; omega⟩ : Fin cfg0.N)).view.emb_mem_set (ix2 (⟨r.val % 512, Nat.mod_lt _ (by omega)⟩ : Fin 512) l)
  rw [emb3] at h
  have e : ix2 r l = ix2 (⟨512 * ((r.val / 512)) + r.val % 512, by omega⟩ : Fin 8192) l := by
    congr 1 <;> apply Fin.ext <;> dsimp only <;> omega
  rw [e]; exact h

/-- The result array after the run. -/
theorem finalRows (c : Dev nD) : (dats m 0 c).arrAt 3 cfg0.N = resultRows m c :=
  (dats m 0 c).arrAt_eq_of_cover 3 (resultRows m c) (fun t hf => flushed3_eq m c t hf) covered3

theorem flushed4_eq (c : Dev nD) (t : Fin cfg0.N) (hf : (cfg0.win 4).flush t = true) :
    (dats m 0 c).flushed 4 t = ((cfg0.win 4).blk t).view.read (Elt Ideal) (resultSums m c) := by
  rw [Value.flushed4]
  funext j
  obtain ⟨x, y, rfl⟩ : ∃ (x : Fin 1) (y : Fin 5632), j = ix2 x y := ⟨j 0, j 1, eq_ix2 j⟩
  show (outsAt0 m c t.val t.isLt).2 (ix2 x y) = resultSums m c (((cfg0.win 4).blk t).view.emb (ix2 x y))
  rw [emb4]
  exact sums_last m c t ((flush0_4 t).mp hf) x y

theorem covered4 (i : S1x5632.Idx) : ∃ t : Fin cfg0.N, (cfg0.win 4).flush t = true ∧ i ∈ ((cfg0.win 4).blk t).view.set := by
  obtain ⟨r, l, rfl⟩ : ∃ (r : Fin 1) (l : Fin 5632), i = ix2 r l := ⟨i 0, i 1, eq_ix2 i⟩
  have hr := r.isLt
  have hl := l.isLt
  refine ⟨⟨15, by show _ < 16; omega⟩, (flush0_4 _).mpr (by show 15 % 16 = 15; omega), ?_⟩
  have h := ((cfg0.win 4).blk (⟨15, by show _ < 16; omega⟩ : Fin cfg0.N)).view.emb_mem_set (ix2 r l)
  rw [emb4] at h
  have e : ix2 r l = ix2 r l := by
    congr 1 <;> apply Fin.ext <;> dsimp only <;> omega
  rw [e]; exact h

/-- The result array after the run. -/
theorem finalSums (c : Dev nD) : (dats m 0 c).arrAt 4 cfg0.N = resultSums m c :=
  (dats m 0 c).arrAt_eq_of_cover 4 (resultSums m c) (fun t hf => flushed4_eq m c t hf) covered4

end Cert.BwdActIdeal.Gen
-- ==== Proof.ConvGate.lean ====
/-
  The convolution over three tokens, the gate it feeds, and the feed-forward layer's second product.
-/
module

public import proofs.«01_k».proof.Proof.SiluBackward

@[expose] public section
noncomputable section
namespace Cert.Lin
open Idealize.ShloMosaic Cert.Attn

/-- The activation `silu g · v`. -/
def gated (g v : EReal) : EReal := g * logistic g * v

/-- The row `k` before row `r`, zero before the first. -/
def before (U : Mat 8192 5632) (k : ℕ) (r : Fin 8192) (l : Fin 5632) : EReal :=
  if k ≤ r.val then U (ix2 ⟨r.val - k, by omega⟩ l) else 0

/-- The convolution: the row and the two before it, weighed, and the bias. -/
def convRow (U : Mat 8192 5632) (w : Mat 3 5632) (b : Mat 1 5632) (r : Fin 8192) (l : Fin 5632) : EReal :=
  w (ix2 2 l) * U (ix2 r l) + w (ix2 0 l) * before U 2 r l + w (ix2 1 l) * before U 1 r l + b (ix2 0 l)

/-- The activations of the layer. -/
def actRow (U : Mat 8192 5632) (w : Mat 3 5632) (b : Mat 1 5632) (r : Fin 8192) (j : Fin 2816) : EReal :=
  gated (convRow U w b r ⟨j.val, by omega⟩) (convRow U w b r ⟨2816 + j.val, by omega⟩)

/-- The layer: what came in and the activations through the second weight. -/
def layerRow (U : Mat 8192 5632) (w : Mat 3 5632) (b : Mat 1 5632) (W : Mat 2816 1024) (h : Mat 8192 1024) (r : Fin 8192) (y : Fin 1024) : EReal :=
  h (ix2 r y) + ∑ j : Fin 2816, actRow U w b r j * W (ix2 j y)

/-- A sum over the first `n` of the 2816 inner columns. -/
def innerTo (f : Fin 2816 → EReal) (n : ℕ) : EReal := ∑ k ∈ Finset.range n, if h : k < 2816 then f ⟨k, h⟩ else 0

theorem innerTo_zero (f : Fin 2816 → EReal) : innerTo f 0 = 0 := Finset.sum_range_zero _

theorem innerTo_tile (f : Fin 2816 → EReal) (n : ℕ) (h : n + 256 ≤ 2816) :
    innerTo f n + ∑ x : Fin 256, f ⟨n + x.val, by omega⟩ = innerTo f (n + 256) := by
  unfold innerTo
  rw [Finset.sum_range_add, Finset.sum_range (fun x => if h : n + x < 2816 then f ⟨n + x, h⟩ else 0)]
  congr 1
  refine Finset.sum_congr rfl fun x _ => ?_
  rw [dif_pos (show n + x.val < 2816 by omega)]

theorem innerTo_all (f : Fin 2816 → EReal) : innerTo f 2816 = ∑ k : Fin 2816, f k := by
  unfold innerTo
  rw [Finset.sum_range]
  refine Finset.sum_congr rfl fun x _ => ?_
  rw [dif_pos x.isLt]

end Cert.Lin
-- ==== Proof.ActDownRows.lean ====
/-
  The reference of the convolution, the gate and the second product, entry by entry.
-/
module

public import proofs.«01_k».proof.Proof.Gen.ActDownReferenceIdeal.Read
public import proofs.«01_k».proof.Proof.ConvGate
public import Idealize.ShloMosaic.Lib.Pipeline.ValueKit

@[expose] public section
set_option maxRecDepth 16384
noncomputable section
namespace Cert.ActDownReferenceIdeal.Read
open Cert.ActDownReferenceIdeal Cert.ActDownReferenceIdeal.Gen Idealize.ShloMosaic Idealize.ShloMosaic.TcCoe Idealize.SL.Sem Idealize.ShloMosaic.StableHlo

variable (x0 : (⟨S8192x5632, .bf16⟩ : BufTy).Contents (Elt Ideal)) (x1 : (⟨S3x5632, .f32⟩ : BufTy).Contents (Elt Ideal)) (x2 : (⟨S1x5632, .f32⟩ : BufTy).Contents (Elt Ideal))

theorem conv_entry (r : Fin 8192) (l : Fin 5632) : val_main_v24 (F := Ideal) x0 x1 x2 (ix2 r l) = Cert.Lin.convRow x0 x1 x2 r l := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst]
  have e0 : (if h : r.val < 2 then (0 : EReal) else x0 (ix2 ⟨r.val - 2, by omega⟩ l)) = Cert.Lin.before x0 2 r l := by
    unfold Cert.Lin.before
    by_cases h : r.val < 2
    · rw [dif_pos h, if_neg (by omega)]
    · rw [dif_neg h, if_pos (by omega)]
  have e1 : (if h : 1 + r.val < 2 then (0 : EReal) else x0 (ix2 ⟨1 + r.val - 2, by omega⟩ l)) = Cert.Lin.before x0 1 r l := by
    unfold Cert.Lin.before
    by_cases h : 1 + r.val < 2
    · rw [dif_pos h, if_neg (by omega)]
    · rw [dif_neg h, if_pos (by omega)]
      congr 2; apply Fin.ext; show 1 + r.val - 2 = r.val - 1; omega
  unfold Cert.Lin.convRow
  refine congrArg₂ (· + ·) ?_ rfl
  refine (add_comm _ _).trans ((add_assoc _ _ _).symm.trans ?_)
  exact congrArg₂ (· + ·) (congrArg₂ (· + ·) rfl (congrArg₂ (· * ·) rfl e0)) (congrArg₂ (· * ·) rfl e1)

/-- The activations of the reference. -/
theorem act_entry (r : Fin 8192) (j : Fin 2816) : val_main_v28 (F := Ideal) x0 x1 x2 (ix2 r j) = Cert.Lin.actRow x0 x1 x2 r j := by
  pointwise [val_main_v28, val_main_v27, val_main_call0_v5, val_main_call0_v4, val_main_call0_cst_0, val_main_call0_v3, val_main_call0_v2, val_main_call0_cst, val_main_call0_v1, val_main_call0_v0, val_main_v26, val_main_v25]
  simp only [conv_entry]
  rfl

/-- The convolved rows. -/
theorem conv_eq : val_main_v33 (F := Ideal) x0 x1 x2 = (fun i => Cert.Lin.convRow x0 x1 x2 (i 0) (i 1) : (⟨2, ![8192, 5632]⟩ : Shape).Idx → EReal) := by
  funext i
  obtain ⟨r, l, rfl⟩ : ∃ (r : Fin 8192) (l : Fin 5632), i = ix2 r l := ⟨i 0, i 1, eq_ix2 i⟩
  exact conv_entry x0 x1 x2 r l

/-- The activations, rounded: the same over the extended reals. -/
theorem act_eq : val_main_v32 (F := Ideal) x0 x1 x2 = (fun i => Cert.Lin.actRow x0 x1 x2 (i 0) (i 1) : (⟨2, ![8192, 2816]⟩ : Shape).Idx → EReal) := by
  funext i
  obtain ⟨r, l, rfl⟩ : ∃ (r : Fin 8192) (l : Fin 2816), i = ix2 r l := ⟨i 0, i 1, eq_ix2 i⟩
  exact act_entry x0 x1 x2 r l

/-- The layer's result. -/
theorem layer_eq (x3 : (⟨S2816x1024, .bf16⟩ : BufTy).Contents (Elt Ideal)) (x4 : (⟨S8192x1024, .f32⟩ : BufTy).Contents (Elt Ideal)) :
    val_main_v31 (F := Ideal) x0 x1 x2 x3 x4 = (fun i => Cert.Lin.layerRow x0 x1 x2 x3 x4 (i 0) (i 1) : (⟨2, ![8192, 1024]⟩ : Shape).Idx → EReal) := by
  funext i
  obtain ⟨r, l, rfl⟩ : ∃ (r : Fin 8192) (l : Fin 1024), i = ix2 r l := ⟨i 0, i 1, eq_ix2 i⟩
  pointwise [val_main_v31, val_main_v30, val_main_v29]
  simp only [act_entry]
  rfl

end Cert.ActDownReferenceIdeal.Read
-- ==== Proof.ActDown.lean ====
/-
  The convolution over three tokens, the gate, and the second product with what came in: the three results of the call.
-/
module

public import proofs.«01_k».proof.Proof.Gen.ActDownIdeal.Value
public import proofs.«01_k».proof.Proof.ActDownRows
public import Idealize.ShloMosaic.Lib.Pipeline.ReadBack
public import Idealize.ShloMosaic.Lib.Pipeline.ValueKit

@[expose] public section
set_option maxRecDepth 16384
noncomputable section
namespace Cert.ActDownIdeal.Gen
open Idealize.ShloMosaic Idealize.ShloMosaic.TcCoe Idealize.SL.Sem Idealize.ShloMosaic.Pipeline

/-! ## The scratch: eight rows from the block before, and the block -/

/-- The rows `Z` over the rows `A`. -/
def stacked (Z : FVec Ideal S8x256 .f32) (A : FVec Ideal S512x256 .f32) : Vec Ideal S520x256 .f32 := fun i =>
  if h : (i 0).val < 8 then Z (ix2 (⟨(i 0).val, h⟩ : Fin 8) (i 1))
  else A (ix2 (⟨(i 0).val - 8, by have : (i 0).val < 520 := (i 0).isLt; omega⟩ : Fin 512) (i 1))

theorem stacked_low (Z : FVec Ideal S8x256 .f32) (A : FVec Ideal S512x256 .f32) (r : Fin 520) (a : Fin 8) (b : Fin 256) (h : r.val = a.val) :
    stacked Z A (ix2 r b) = Z (ix2 a b) := by
  unfold stacked
  rw [dif_pos (show ((ix2 r b : S520x256.Idx) 0).val < 8 by show r.val < 8; omega)]
  refine congrArg Z ?_
  funext k; apply Fin.ext
  match k with
  | ⟨0, _⟩ => exact h
  | ⟨1, _⟩ => rfl

theorem stacked_high (Z : FVec Ideal S8x256 .f32) (A : FVec Ideal S512x256 .f32) (r : Fin 520) (a : Fin 512) (b : Fin 256) (h : r.val = 8 + a.val) :
    stacked Z A (ix2 r b) = A (ix2 a b) := by
  unfold stacked
  rw [dif_neg (show ¬ ((ix2 r b : S520x256.Idx) 0).val < 8 by show ¬ r.val < 8; omega)]
  refine congrArg A ?_
  funext k; apply Fin.ext
  match k with
  | ⟨0, _⟩ => show r.val - 8 = a.val; omega
  | ⟨1, _⟩ => rfl

/-- A load of the scratch after its two stores reads them, whatever was stored before. -/
theorem scratch_load {κ : Kind} {sp : Space} (v : View sig κ sp S520x256 .f32)
    (i1 : ∀ a, (![8, 0] : Fin 2 → ℕ) a + (![512, 256] : Fin 2 → ℕ) a ≤ S520x256.size a)
    (i2 : ∀ a, (![0, 0] : Fin 2 → ℕ) a + (![8, 256] : Fin 2 → ℕ) a ≤ S520x256.size a)
    (i3 : ∀ a, (![0, 0] : Fin 2 → ℕ) a + (![520, 256] : Fin 2 → ℕ) a ≤ S520x256.size a)
    (A : FVec Ideal S512x256 .f32) (Z : FVec Ideal S8x256 .f32) (L : List (View.Piece (Elt Ideal) S520x256 .f32)) :
    v.readCov (⟨Rect.unit (s := S520x256) ![8, 0] ![512, 256] i1, A⟩ :: ⟨Rect.unit (s := S520x256) ![0, 0] ![8, 256] i2, Z⟩ :: L)
      (Rect.unit (s := S520x256) ![0, 0] ![520, 256] i3).toLoadRect = stacked Z A := by
  rw [View.readCov_eq_canon']
  funext j
  refine (View.canon_append_of_piecesOf (Val := Elt Ideal) (e := .f32) (stacked Z A) L [_, _] ⟨?_, ?_, trivial⟩ _
    (View.cover_of_tiledBy (s := S520x256) _ ![8, 256] (by sl_kernel_rfl) _)).trans ?_
  · intro x
    obtain ⟨a, b, rfl⟩ : ∃ (a : Fin 512) (b : Fin 256), x = ix2 a b := ⟨x 0, x 1, eq_ix2 x⟩
    refine (stacked_high Z A (⟨8 + a.val, by omega⟩ : Fin 520) a b rfl).symm.trans (congrArg (stacked Z A) ?_)
    funext k; apply Fin.ext
    match k with
    | ⟨0, _⟩ => show 8 + a.val = 8 + 1 * a.val; omega
    | ⟨1, _⟩ => show b.val = 0 + 1 * b.val; omega
  · intro x
    obtain ⟨a, b, rfl⟩ : ∃ (a : Fin 8) (b : Fin 256), x = ix2 a b := ⟨x 0, x 1, eq_ix2 x⟩
    refine (stacked_low Z A (⟨a.val, by omega⟩ : Fin 520) a b rfl).symm.trans (congrArg (stacked Z A) ?_)
    funext k; apply Fin.ext
    match k with
    | ⟨0, _⟩ => show a.val = 0 + 1 * a.val; omega
    | ⟨1, _⟩ => show b.val = 0 + 1 * b.val; omega
  · congr 1; funext k; apply Fin.ext
    match k with
    | ⟨0, _⟩ => show 0 + 1 * (j 0).val = (j 0).val; omega
    | ⟨1, _⟩ => show 0 + 1 * (j 1).val = (j 1).val; omega

/-! ## One chunk of 256 columns -/

theorem first_bit : ∀ n : Fin 16, Scalar.cmpi .sgt (BitVec.ofNat 32 n.val) 0#32 = if n.val = 0 then 0#1 else 1#1 := by decide

section chunk
variable (i : grid0.Coords) (U : Vec Ideal S512x5632 .bf16) (P : Vec Ideal S16x5632 .bf16) (w : Vec Ideal S3x5632 .f32) (b : Vec Ideal S1x5632 .f32)
  (W : Vec Ideal S2816x1024 .bf16)

/-- The row `k` before a row of the block, from the rows before the block where it starts later. -/
def prev (k : ℕ) (x : Fin 512) (l : Fin 5632) : EReal :=
  if h : k ≤ x.val then U (ix2 (⟨x.val - k, by omega⟩ : Fin 512) l)
  else if (i 0).val = 0 then 0 else P (ix2 (⟨(16 + x.val - k) % 16, Nat.mod_lt _ (by omega)⟩ : Fin 16) l)

/-- The convolution at a row of the block. -/
def conv (x : Fin 512) (l : Fin 5632) : EReal :=
  w (ix2 2 l) * U (ix2 x l) + w (ix2 0 l) * prev i U P 2 x l + w (ix2 1 l) * prev i U P 1 x l + b (ix2 0 l)

/-- The activation there. -/
def act (x : Fin 512) (j : Fin 2816) : EReal :=
  Lin.gated (conv i U P w b x (⟨j.val, by omega⟩ : Fin 5632)) (conv i U P w b x (⟨2816 + j.val, by omega⟩ : Fin 5632))

/-- The convolved rows of a point. -/
def convOf : S512x5632.Idx → EReal := fun y => conv i U P w b (y 0) (y 1)

/-- Its activations. -/
def actOf : S512x2816.Idx → EReal := fun y => act i U P w b (y 0) (y 1)

variable (o : ℕ) (ho : o + 256 ≤ 5632)
  (i0 : ∀ a, (![0, o] : Fin 2 → ℕ) a + S512x256.size a ≤ S512x5632.size a)
  (i1 : ∀ a, (![8, o] : Fin 2 → ℕ) a + S8x256.size a ≤ S16x5632.size a)
  (j0 : ∀ a, (![0, o] : Fin 2 → ℕ) a + S1x256.size a ≤ S3x5632.size a)
  (j1 : ∀ a, (![1, o] : Fin 2 → ℕ) a + S1x256.size a ≤ S3x5632.size a)
  (j2 : ∀ a, (![2, o] : Fin 2 → ℕ) a + S1x256.size a ≤ S3x5632.size a)
  (i3 : ∀ a, (![0, o] : Fin 2 → ℕ) a + S1x256.size a ≤ S1x5632.size a)

/-- What the scratch holds for the chunk. -/
def rowsAt : Vec Ideal S520x256 .f32 :=
  stacked (k0_pay2 i (View.ld (Val := Elt Ideal) (e' := .bf16) P (Rect.unit (s := S16x5632) ![8, o] S8x256.size i1)))
    (k0_pay3 (View.ld (Val := Elt Ideal) (e' := .bf16) U (Rect.unit (s := S512x5632) ![0, o] S512x256.size i0)))

/-- The chunk of the convolution. -/
def convTile : FVec Ideal S512x256 .f32 :=
  k0_pay6 (rowsAt i U P o i0 i1)
    (View.ld (Val := Elt Ideal) (e' := .f32) w (Rect.unit (s := S3x5632) ![2, o] S1x256.size j2))
    (View.ld (Val := Elt Ideal) (e' := .f32) w (Rect.unit (s := S3x5632) ![0, o] S1x256.size j0))
    (View.ld (Val := Elt Ideal) (e' := .f32) w (Rect.unit (s := S3x5632) ![1, o] S1x256.size j1))
    (View.ld (Val := Elt Ideal) (e' := .f32) b (Rect.unit (s := S1x5632) ![0, o] S1x256.size i3))

include ho in
/-- The scratch at row `8 + x − k`. -/
theorem rowsAt_apply (k : ℕ) (hk : k ≤ 2) (r : Fin 520) (x : Fin 512) (hr : r.val = 8 + x.val - k) (y : Fin 256) :
    rowsAt i U P o i0 i1 (ix2 r y) = if k = 0 then U (ix2 x (⟨o + y.val, by omega⟩ : Fin 5632)) else prev i U P k x (⟨o + y.val, by omega⟩ : Fin 5632) := by
  unfold rowsAt prev
  by_cases h : r.val < 8
  · rw [stacked_low _ _ r ⟨r.val, h⟩ y rfl, if_neg (by omega), dif_neg (by omega)]
    pointwise [k0_pay2]
    have hb : Scalar.cmpi .sgt (BitVec.ofNat 32 (i 0).val) 0#32 = if (i 0).val = 0 then 0#1 else 1#1 := first_bit (i 0)
    by_cases hz : (i 0).val = 0
    · rw [hb, if_pos hz, if_pos hz]
      simp [Scalar.select]
    · rw [hb, if_neg hz, if_neg hz]
      simp only [Scalar.select]
      refine congrArg P ?_
      funext a; apply Fin.ext
      match a with
      | ⟨0, _⟩ => show 8 + r.val = (16 + x.val - k) % 16; omega
      | ⟨1, _⟩ => rfl
  · rw [stacked_high _ _ r (⟨r.val - 8, by omega⟩ : Fin 512) y (by show r.val = 8 + (r.val - 8); omega)]
    pointwise [k0_pay3]
    by_cases hz : k = 0
    · subst hz
      rw [if_pos rfl]
      refine congrArg U ?_
      funext a; apply Fin.ext
      match a with
      | ⟨0, _⟩ => show r.val - 8 = x.val; omega
      | ⟨1, _⟩ => rfl
    · rw [if_neg hz, dif_pos (by omega)]
      refine congrArg U ?_
      funext a; apply Fin.ext
      match a with
      | ⟨0, _⟩ => show r.val - 8 = x.val - k; omega
      | ⟨1, _⟩ => rfl

include ho in
theorem convTile_apply (x : Fin 512) (y : Fin 256) :
    convTile i U P w b o i0 i1 j0 j1 j2 i3 (ix2 x y) = conv i U P w b x (⟨o + y.val, by omega⟩ : Fin 5632) := by
  unfold convTile
  pointwise [k0_pay6]
  rw [rowsAt_apply i U P o ho i0 i1 0 (by omega) _ x rfl y, rowsAt_apply i U P o ho i0 i1 2 (by omega) _ x (by show (8 + x.val + 520 - 2) % 520 = 8 + x.val - 2; omega) y,
    rowsAt_apply i U P o ho i0 i1 1 (by omega) _ x (by show (8 + x.val + 520 - 1) % 520 = 8 + x.val - 1; omega) y, if_pos rfl, if_neg (by omega), if_neg (by omega)]
  rfl

include ho in
theorem conv_piece (x : (Rect.unit (s := S512x5632) ![0, o] S512x256.size i0).shape.Idx) :
    k0_pay9 (convTile i U P w b o i0 i1 j0 j1 j2 i3) x = convOf i U P w b ((Rect.unit (s := S512x5632) ![0, o] S512x256.size i0).emb x) := by
  obtain ⟨a, y, rfl⟩ : ∃ (a : Fin 512) (y : Fin 256), x = ix2 a y := ⟨x 0, x 1, eq_ix2 x⟩
  refine (convTile_apply i U P w b o ho i0 i1 j0 j1 j2 i3 a y).trans ?_
  unfold convOf
  congr 1 <;> apply Fin.ext
  · show a.val = 0 + 1 * a.val; omega
  · show o + y.val = o + 1 * y.val; omega

end chunk

section gates
variable (i : grid0.Coords) (U : Vec Ideal S512x5632 .bf16) (P : Vec Ideal S16x5632 .bf16) (w : Vec Ideal S3x5632 .f32) (b : Vec Ideal S1x5632 .f32)
  (W : Vec Ideal S2816x1024 .bf16) (o p : ℕ) (hp : p = 2816 + o) (ho : o + 256 ≤ 2816)
  (i0 : ∀ a, (![0, o] : Fin 2 → ℕ) a + S512x256.size a ≤ S512x5632.size a)
  (i1 : ∀ a, (![8, o] : Fin 2 → ℕ) a + S8x256.size a ≤ S16x5632.size a)
  (j0 : ∀ a, (![0, o] : Fin 2 → ℕ) a + S1x256.size a ≤ S3x5632.size a)
  (j1 : ∀ a, (![1, o] : Fin 2 → ℕ) a + S1x256.size a ≤ S3x5632.size a)
  (j2 : ∀ a, (![2, o] : Fin 2 → ℕ) a + S1x256.size a ≤ S3x5632.size a)
  (i3 : ∀ a, (![0, o] : Fin 2 → ℕ) a + S1x256.size a ≤ S1x5632.size a)
  (p0 : ∀ a, (![0, p] : Fin 2 → ℕ) a + S512x256.size a ≤ S512x5632.size a)
  (p1 : ∀ a, (![8, p] : Fin 2 → ℕ) a + S8x256.size a ≤ S16x5632.size a)
  (q0 : ∀ a, (![0, p] : Fin 2 → ℕ) a + S1x256.size a ≤ S3x5632.size a)
  (q1 : ∀ a, (![1, p] : Fin 2 → ℕ) a + S1x256.size a ≤ S3x5632.size a)
  (q2 : ∀ a, (![2, p] : Fin 2 → ℕ) a + S1x256.size a ≤ S3x5632.size a)
  (p3 : ∀ a, (![0, p] : Fin 2 → ℕ) a + S1x256.size a ≤ S1x5632.size a)
  (ia : ∀ a, (![0, o] : Fin 2 → ℕ) a + S512x256.size a ≤ S512x2816.size a)
  (iw : ∀ a, (![o, 0] : Fin 2 → ℕ) a + S256x1024.size a ≤ S2816x1024.size a)

include hp ho

theorem actTile_apply (x : Fin 512) (y : Fin 256) :
    k0_pay10 (convTile i U P w b o i0 i1 j0 j1 j2 i3) (convTile i U P w b p p0 p1 q0 q1 q2 p3) (ix2 x y) = act i U P w b x (⟨o + y.val, by omega⟩ : Fin 2816) := by
  pointwise [k0_pay10]
  rw [convTile_apply i U P w b o (by omega) i0 i1 j0 j1 j2 i3 x y, convTile_apply i U P w b p (by omega) p0 p1 q0 q1 q2 p3 x y, zero_sub]
  have e : p + y.val = 2816 + (o + y.val) := by omega
  simp only [e]
  rfl

theorem act_piece (x : (Rect.unit (s := S512x2816) ![0, o] S512x256.size ia).shape.Idx) :
    k0_pay10 (convTile i U P w b o i0 i1 j0 j1 j2 i3) (convTile i U P w b p p0 p1 q0 q1 q2 p3) x
      = actOf i U P w b ((Rect.unit (s := S512x2816) ![0, o] S512x256.size ia).emb x) := by
  obtain ⟨a, y, rfl⟩ : ∃ (a : Fin 512) (y : Fin 256), x = ix2 a y := ⟨x 0, x 1, eq_ix2 x⟩
  refine (actTile_apply i U P w b o p hp ho i0 i1 j0 j1 j2 i3 p0 p1 q0 q1 q2 p3 a y).trans ?_
  unfold actOf
  congr 1 <;> apply Fin.ext
  · show a.val = 0 + 1 * a.val; omega
  · show o + y.val = o + 1 * y.val; omega

/-- One chunk more of the product. -/
theorem product_chunk (V : FVec Ideal S512x1024 .f32) (h : EReal) (x : Fin 512) (y : Fin 1024)
    (hV : V (ix2 x y) = h + Lin.innerTo (fun j => act i U P w b x j * W (ix2 j y)) o) :
    k0_pay11 V (convTile i U P w b o i0 i1 j0 j1 j2 i3) (convTile i U P w b p p0 p1 q0 q1 q2 p3)
        (View.ld (Val := Elt Ideal) (e' := .bf16) W (Rect.unit (s := S2816x1024) ![o, 0] S256x1024.size iw)) (ix2 x y)
      = h + Lin.innerTo (fun j => act i U P w b x j * W (ix2 j y)) (o + 256) := by
  rw [← Lin.innerTo_tile _ o ho, ← add_assoc, ← hV]
  pointwise [k0_pay11]
  refine congrArg₂ (· + ·) rfl (Finset.sum_congr rfl fun k _ => congrArg₂ (· * ·) (actTile_apply i U P w b o p hp ho i0 i1 j0 j1 j2 i3 p0 p1 q0 q1 q2 p3 x k) rfl)

end gates

/-- A point's rows of the layer. -/
def layerOf (i : grid0.Coords) (U : Vec Ideal S512x5632 .bf16) (P : Vec Ideal S16x5632 .bf16) (w : Vec Ideal S3x5632 .f32) (b : Vec Ideal S1x5632 .f32)
    (W : Vec Ideal S2816x1024 .bf16) (H : Vec Ideal S512x1024 .f32) : S512x1024.Idx → EReal := fun z =>
  H (ix2 (z 0) (z 1)) + ∑ j : Fin 2816, act i U P w b (z 0) j * W (ix2 j (z 1))

theorem layerOf_apply (i : grid0.Coords) (U : Vec Ideal S512x5632 .bf16) (P : Vec Ideal S16x5632 .bf16) (w : Vec Ideal S3x5632 .f32) (b : Vec Ideal S1x5632 .f32)
    (W : Vec Ideal S2816x1024 .bf16) (H : Vec Ideal S512x1024 .f32) (x : Fin 512) (y : Fin 1024) :
    H (ix2 x y) + Lin.innerTo (fun j => act i U P w b x j * W (ix2 j y)) (2560 + 256) = layerOf i U P w b W H (ix2 x y) := by
  rw [Lin.innerTo_all]; rfl

/-! ## A point -/

variable (m : (ℓ : Loc nD τ sig) → Buf (Elt Ideal) ℓ)

theorem coord : ∀ t : Fin cfg0.N, (grid0.coords t 0).val = t.val := (by decide +kernel : ∀ t : Fin grid0.N, (grid0.coords t 0).val = t.val)

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val * 32 - 1 ∧ win0_1.index t (1 : Fin 2) = 0 :=
  (by decide +kernel : ∀ t : Fin grid0.N, win0_1.index t (0 : Fin 2) = t.val * 32 - 1 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem idx8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)

theorem point_lt (t : Fin cfg0.N) : t.val < 16 := t.isLt

theorem blk0 (c : Dev nD) (t : Fin cfg0.N) (x : Fin 512) (y : Fin 5632) : iblk m c 0 t (ix2 x y)
    = m ((c : Thread nD τ).loc main_arg0) (ix2 (⟨512 * t.val + x.val, by have := point_lt t; omega⟩ : Fin 8192) y) := by
  obtain ⟨e0, e1⟩ := idx0 t
  rw [← V_main_arg0 m c]
  show V m c main_arg0 (((cfg0.win 0).blk t).view.emb (ix2 x y)) = _
  congr 1; funext a; apply Fin.ext
  match a with
  | ⟨0, _⟩ => show win0_0.index t (0 : Fin 2) * 512 + 1 * x.val = 512 * t.val + x.val; omega
  | ⟨1, _⟩ => show win0_0.index t (1 : Fin 2) * 5632 + 1 * y.val = y.val; omega

theorem blk1 (c : Dev nD) (t : Fin cfg0.N) (h0 : t.val ≠ 0) (x : Fin 16) (y : Fin 5632) : iblk m c 1 t (ix2 x y)
    = m ((c : Thread nD τ).loc main_arg0) (ix2 (⟨512 * t.val + x.val - 16, by have := point_lt t; omega⟩ : Fin 8192) y) := by
  obtain ⟨e0, e1⟩ := idx1 t
  rw [← V_main_arg0 m c]
  show V m c main_arg0 (((cfg0.win 1).blk t).view.emb (ix2 x y)) = _
  congr 1; funext a; apply Fin.ext
  match a with
  | ⟨0, _⟩ => show win0_1.index t (0 : Fin 2) * 16 + 1 * x.val = 512 * t.val + x.val - 16; omega
  | ⟨1, _⟩ => show win0_1.index t (1 : Fin 2) * 5632 + 1 * y.val = y.val; omega

theorem blk2 (c : Dev nD) (t : Fin cfg0.N) (x : Fin 3) (y : Fin 5632) : iblk m c 2 t (ix2 x y)
    = m ((c : Thread nD τ).loc main_arg1) (ix2 x y) := by
  obtain ⟨e0, e1⟩ := idx2 t
  rw [← V_main_arg1 m c]
  show V m c main_arg1 (((cfg0.win 2).blk t).view.emb (ix2 x y)) = _
  congr 1; funext a; apply Fin.ext
  match a with
  | ⟨0, _⟩ => show win0_2.index t (0 : Fin 2) * 3 + 1 * x.val = x.val; omega
  | ⟨1, _⟩ => show win0_2.index t (1 : Fin 2) * 5632 + 1 * y.val = y.val; omega

theorem blk3 (c : Dev nD) (t : Fin cfg0.N) (x : Fin 1) (y : Fin 5632) : iblk m c 3 t (ix2 x y)
    = m ((c : Thread nD τ).loc main_arg2) (ix2 x y) := by
  obtain ⟨e0, e1⟩ := idx3 t
  rw [← V_main_arg2 m c]
  show V m c main_arg2 (((cfg0.win 3).blk t).view.emb (ix2 x y)) = _
  congr 1; funext a; apply Fin.ext
  match a with
  | ⟨0, _⟩ => show win0_3.index t (0 : Fin 2) * 1 + 1 * x.val = x.val; omega
  | ⟨1, _⟩ => show win0_3.index t (1 : Fin 2) * 5632 + 1 * y.val = y.val; omega

theorem blk4 (c : Dev nD) (t : Fin cfg0.N) (x : Fin 2816) (y : Fin 1024) : iblk m c 4 t (ix2 x y)
    = m ((c : Thread nD τ).loc main_arg3) (ix2 x y) := by
  obtain ⟨e0, e1⟩ := idx4 t
  rw [← V_main_arg3 m c]
  show V m c main_arg3 (((cfg0.win 4).blk t).view.emb (ix2 x y)) = _
  congr 1; funext a; apply Fin.ext
  match a with
  | ⟨0, _⟩ => show win0_4.index t (0 : Fin 2) * 2816 + 1 * x.val = x.val; omega
  | ⟨1, _⟩ => show win0_4.index t (1 : Fin 2) * 1024 + 1 * y.val = y.val; omega

theorem blk5 (c : Dev nD) (t : Fin cfg0.N) (x : Fin 512) (y : Fin 1024) : iblk m c 5 t (ix2 x y)
    = m ((c : Thread nD τ).loc main_arg4) (ix2 (⟨512 * t.val + x.val, by have := point_lt t; omega⟩ : Fin 8192) y) := by
  obtain ⟨e0, e1⟩ := idx5 t
  rw [← V_main_arg4 m c]
  show V m c main_arg4 (((cfg0.win 5).blk t).view.emb (ix2 x y)) = _
  congr 1; funext a; apply Fin.ext
  match a with
  | ⟨0, _⟩ => show win0_5.index t (0 : Fin 2) * 512 + 1 * x.val = 512 * t.val + x.val; omega
  | ⟨1, _⟩ => show win0_5.index t (1 : Fin 2) * 1024 + 1 * y.val = y.val; omega

/-- A point's convolved rows. -/
theorem conv_rows (c : Dev nD) (t : Fin cfg0.N) : (outsAt0 m c t).2.2 = convOf (grid0.coords t) (iblk m c 0 t) (iblk m c 1 t) (iblk m c 2 t) (iblk m c 3 t) := by
  unfold outsAt0
  dsimp only
  unfold out0_A_8
  rw [View.read_writes_eq_canon _ _ _ (cover0_A_8 c _ _ _ _ _ _ _ _ _ _ _ _ _ _ _ _ _ _ _ _ _ _ _ _ _ _ _ _ _)]
  unfold kernelRun0_A
  dsimp only
  sl_unfold_words
  simp only [↓scratch_load, View.readAt_eq_ld, (hs0_0 t).read_unread, (hs0_1 t).read_unread, (hs0_2 t).read_unread, (hs0_3 t).read_unread, (hs0_4 t).read_unread, (hs0_5 t).read_unread]
  funext y
  refine View.canon_apply_of_pieces (Val := Elt Ideal) (e := .bf16) (convOf (grid0.coords t) (iblk m c 0 t) (iblk m c 1 t) (iblk m c 2 t) (iblk m c 3 t)) _ ?_ y ?_
  · exact View.PiecesOf.mem
      ⟨conv_piece _ _ _ _ _ 5376 (by decide) _ _ _ _ _ _,
      conv_piece _ _ _ _ _ 2560 (by decide) _ _ _ _ _ _,
      conv_piece _ _ _ _ _ 5120 (by decide) _ _ _ _ _ _,
      conv_piece _ _ _ _ _ 2304 (by decide) _ _ _ _ _ _,
      conv_piece _ _ _ _ _ 4864 (by decide) _ _ _ _ _ _,
      conv_piece _ _ _ _ _ 2048 (by decide) _ _ _ _ _ _,
      conv_piece _ _ _ _ _ 4608 (by decide) _ _ _ _ _ _,
      conv_piece _ _ _ _ _ 1792 (by decide) _ _ _ _ _ _,
      conv_piece _ _ _ _ _ 4352 (by decide) _ _ _ _ _ _,
      conv_piece _ _ _ _ _ 1536 (by decide) _ _ _ _ _ _,
      conv_piece _ _ _ _ _ 4096 (by decide) _ _ _ _ _ _,
      conv_piece _ _ _ _ _ 1280 (by decide) _ _ _ _ _ _,
      conv_piece _ _ _ _ _ 3840 (by decide) _ _ _ _ _ _,
      conv_piece _ _ _ _ _ 1024 (by decide) _ _ _ _ _ _,
      conv_piece _ _ _ _ _ 3584 (by decide) _ _ _ _ _ _,
      conv_piece _ _ _ _ _ 768 (by decide) _ _ _ _ _ _,
      conv_piece _ _ _ _ _ 3328 (by decide) _ _ _ _ _ _,
      conv_piece _ _ _ _ _ 512 (by decide) _ _ _ _ _ _,
      conv_piece _ _ _ _ _ 3072 (by decide) _ _ _ _ _ _,
      conv_piece _ _ _ _ _ 256 (by decide) _ _ _ _ _ _,
      conv_piece _ _ _ _ _ 2816 (by decide) _ _ _ _ _ _,
      conv_piece _ _ _ _ _ 0 (by decide) _ _ _ _ _ _, trivial⟩
  · exact View.cover_of_tiledL (s := S512x5632) _ S512x256.size (by sl_kernel_rfl) y

/-- A point's activations. -/
theorem act_rows (c : Dev nD) (t : Fin cfg0.N) : (outsAt0 m c t).2.1 = actOf (grid0.coords t) (iblk m c 0 t) (iblk m c 1 t) (iblk m c 2 t) (iblk m c 3 t) := by
  unfold outsAt0
  dsimp only
  unfold out0_A_7
  rw [View.read_writes_eq_canon _ _ _ (cover0_A_7 c _ _ _ _ _ _ _ _ _ _ _ _ _ _ _ _ _ _ _ _ _ _ _ _ _ _ _ _ _)]
  unfold kernelRun0_A
  dsimp only
  sl_unfold_words
  simp only [↓scratch_load, View.readAt_eq_ld, (hs0_0 t).read_unread, (hs0_1 t).read_unread, (hs0_2 t).read_unread, (hs0_3 t).read_unread, (hs0_4 t).read_unread, (hs0_5 t).read_unread]
  funext y
  refine View.canon_apply_of_pieces (Val := Elt Ideal) (e := .bf16) (actOf (grid0.coords t) (iblk m c 0 t) (iblk m c 1 t) (iblk m c 2 t) (iblk m c 3 t)) _ ?_ y ?_
  · exact View.PiecesOf.mem
      ⟨act_piece _ _ _ _ _ 2560 5376 rfl (by decide) _ _ _ _ _ _ _ _ _ _ _ _ (by decide),
      act_piece _ _ _ _ _ 2304 5120 rfl (by decide) _ _ _ _ _ _ _ _ _ _ _ _ (by decide),
      act_piece _ _ _ _ _ 2048 4864 rfl (by decide) _ _ _ _ _ _ _ _ _ _ _ _ (by decide),
      act_piece _ _ _ _ _ 1792 4608 rfl (by decide) _ _ _ _ _ _ _ _ _ _ _ _ (by decide),
      act_piece _ _ _ _ _ 1536 4352 rfl (by decide) _ _ _ _ _ _ _ _ _ _ _ _ (by decide),
      act_piece _ _ _ _ _ 1280 4096 rfl (by decide) _ _ _ _ _ _ _ _ _ _ _ _ (by decide),
      act_piece _ _ _ _ _ 1024 3840 rfl (by decide) _ _ _ _ _ _ _ _ _ _ _ _ (by decide),
      act_piece _ _ _ _ _ 768 3584 rfl (by decide) _ _ _ _ _ _ _ _ _ _ _ _ (by decide),
      act_piece _ _ _ _ _ 512 3328 rfl (by decide) _ _ _ _ _ _ _ _ _ _ _ _ (by decide),
      act_piece _ _ _ _ _ 256 3072 rfl (by decide) _ _ _ _ _ _ _ _ _ _ _ _ (by decide),
      act_piece _ _ _ _ _ 0 2816 rfl (by decide) _ _ _ _ _ _ _ _ _ _ _ _ (by decide), trivial⟩
  · exact View.cover_of_tiledL (s := S512x2816) _ S512x256.size (by sl_kernel_rfl) y

/-- A point's rows of the layer's result. -/
theorem layer_rows (c : Dev nD) (t : Fin cfg0.N) (x : Fin 512) (y : Fin 1024) : (outsAt0 m c t).1 (ix2 x y)
    = layerOf (grid0.coords t) (iblk m c 0 t) (iblk m c 1 t) (iblk m c 2 t) (iblk m c 3 t) (iblk m c 4 t) (iblk m c 5 t) (ix2 x y) := by
  unfold outsAt0
  dsimp only
  unfold out0_A_6
  rw [View.read_writes_eq_canon _ _ _ (cover0_A_6 c _ _ _ _ _ _ _ _ _ _ _ _ _ _ _ _ _ _ _ _ _ _ _ _ _ _ _ _ _)]
  unfold kernelRun0_A
  dsimp only
  sl_unfold_words
  simp only [↓scratch_load, View.readAt_eq_ld, (hs0_0 t).read_unread, (hs0_1 t).read_unread, (hs0_2 t).read_unread, (hs0_3 t).read_unread, (hs0_4 t).read_unread, (hs0_5 t).read_unread]
  rw [View.canon_unit_zero Lin.zero2]
  refine Eq.trans ?_ (layerOf_apply (grid0.coords t) (iblk m c 0 t) (iblk m c 1 t) (iblk m c 2 t) (iblk m c 3 t) (iblk m c 4 t) (iblk m c 5 t) x y)
  refine product_chunk _ _ _ _ _ _ 2560 5376 rfl (by decide) _ _ _ _ _ _ _ _ _ _ _ _ _ _ _ x y
    (product_chunk _ _ _ _ _ _ 2304 5120 rfl (by decide) _ _ _ _ _ _ _ _ _ _ _ _ _ _ _ x y
    (product_chunk _ _ _ _ _ _ 2048 4864 rfl (by decide) _ _ _ _ _ _ _ _ _ _ _ _ _ _ _ x y
    (product_chunk _ _ _ _ _ _ 1792 4608 rfl (by decide) _ _ _ _ _ _ _ _ _ _ _ _ _ _ _ x y
    (product_chunk _ _ _ _ _ _ 1536 4352 rfl (by decide) _ _ _ _ _ _ _ _ _ _ _ _ _ _ _ x y
    (product_chunk _ _ _ _ _ _ 1280 4096 rfl (by decide) _ _ _ _ _ _ _ _ _ _ _ _ _ _ _ x y
    (product_chunk _ _ _ _ _ _ 1024 3840 rfl (by decide) _ _ _ _ _ _ _ _ _ _ _ _ _ _ _ x y
    (product_chunk _ _ _ _ _ _ 768 3584 rfl (by decide) _ _ _ _ _ _ _ _ _ _ _ _ _ _ _ x y
    (product_chunk _ _ _ _ _ _ 512 3328 rfl (by decide) _ _ _ _ _ _ _ _ _ _ _ _ _ _ _ x y
    (product_chunk _ _ _ _ _ _ 256 3072 rfl (by decide) _ _ _ _ _ _ _ _ _ _ _ _ _ _ _ x y
    (product_chunk _ _ _ _ _ _ 0 2816 rfl (by decide) _ _ _ _ _ _ _ _ _ _ _ _ _ _ _ x y
    (?_)))))))))))
  rw [Lin.innerTo_zero, add_zero]
  rw [View.ld_unit_zero Lin.zero2]

/-- The results: the layer, the activations, the convolved rows. -/
def resultLayer (c : Dev nD) : S8192x1024.Idx → EReal := fun i => Lin.layerRow (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)

def resultAct (c : Dev nD) : S8192x2816.Idx → EReal := fun i => Lin.actRow (m ((c : Thread nD τ).loc main_arg0)) (m ((c : Thread nD τ).loc main_arg1)) (m ((c : Thread nD τ).loc main_arg2)) (i 0) (i 1)

def resultConv (c : Dev nD) : S8192x5632.Idx → EReal := fun i => Lin.convRow (m ((c : Thread nD τ).loc main_arg0)) (m ((c : Thread nD τ).loc main_arg1)) (m ((c : Thread nD τ).loc main_arg2)) (i 0) (i 1)

/-- The row `k` before, whichever block it lies in. -/
theorem block_prev (c : Dev nD) (t : Fin cfg0.N) (k : ℕ) (hk : k ≤ 2) (x : Fin 512) (l : Fin 5632) :
    prev (grid0.coords t) (iblk m c 0 t) (iblk m c 1 t) k x l
      = Lin.before (m ((c : Thread nD τ).loc main_arg0)) k (⟨512 * t.val + x.val, by have := point_lt t; omega⟩ : Fin 8192) l := by
  unfold prev Lin.before
  have hp := point_lt t
  rw [coord]
  by_cases h : k ≤ x.val
  · rw [dif_pos h, if_pos (by show k ≤ 512 * t.val + x.val; omega)]
    refine (blk0 m c t _ l).trans (congrArg (m ((c : Thread nD τ).loc main_arg0)) ?_)
    congr 1; apply Fin.ext
    show 512 * t.val + (x.val - k) = 512 * t.val + x.val - k
    omega
  · rw [dif_neg h]
    by_cases h0 : t.val = 0
    · rw [if_pos h0, if_neg (by show ¬k ≤ 512 * t.val + x.val; omega)]
    · rw [if_neg h0, if_pos (by show k ≤ 512 * t.val + x.val; omega)]
      refine (blk1 m c t h0 _ l).trans (congrArg (m ((c : Thread nD τ).loc main_arg0)) ?_)
      congr 1; apply Fin.ext
      show 512 * t.val + (16 + x.val - k) % 16 - 16 = 512 * t.val + x.val - k
      omega

theorem block_conv (c : Dev nD) (t : Fin cfg0.N) (x : Fin 512) (l : Fin 5632) :
    conv (grid0.coords t) (iblk m c 0 t) (iblk m c 1 t) (iblk m c 2 t) (iblk m c 3 t) x l = Lin.convRow (m ((c : Thread nD τ).loc main_arg0)) (m ((c : Thread nD τ).loc main_arg1)) (m ((c : Thread nD τ).loc main_arg2)) (⟨512 * t.val + x.val, by have := point_lt t; omega⟩ : Fin 8192) l := by
  unfold conv Lin.convRow
  rw [block_prev m c t 2 (by omega), block_prev m c t 1 (by omega), blk2, blk2, blk2, blk3, blk0]

theorem block_act (c : Dev nD) (t : Fin cfg0.N) (x : Fin 512) (j : Fin 2816) :
    act (grid0.coords t) (iblk m c 0 t) (iblk m c 1 t) (iblk m c 2 t) (iblk m c 3 t) x j = Lin.actRow (m ((c : Thread nD τ).loc main_arg0)) (m ((c : Thread nD τ).loc main_arg1)) (m ((c : Thread nD τ).loc main_arg2)) (⟨512 * t.val + x.val, by have := point_lt t; omega⟩ : Fin 8192) j := by
  unfold act Lin.actRow
  rw [block_conv, block_conv]

theorem block_layer (c : Dev nD) (t : Fin cfg0.N) (x : Fin 512) (y : Fin 1024) :
    layerOf (grid0.coords t) (iblk m c 0 t) (iblk m c 1 t) (iblk m c 2 t) (iblk m c 3 t) (iblk m c 4 t) (iblk m c 5 t) (ix2 x y) = Lin.layerRow (m ((c : Thread nD τ).loc main_arg0)) (m ((c : Thread nD τ).loc main_arg1)) (m ((c : Thread nD τ).loc main_arg2)) (m ((c : Thread nD τ).loc main_arg3)) (m ((c : Thread nD τ).loc main_arg4)) (⟨512 * t.val + x.val, by have := point_lt t; omega⟩ : Fin 8192) y := by
  unfold layerOf Lin.layerRow
  refine congrArg₂ (· + ·) (blk5 m c t x y) (Finset.sum_congr rfl fun j _ => congrArg₂ (· * ·) (block_act m c t x j) (blk4 m c t j y))

theorem emb6 (t : Fin cfg0.N) (x : Fin 512) (y : Fin 1024) : ((cfg0.win 6).blk t).view.emb (ix2 x y)
    = (ix2 (⟨512 * t.val + x.val, by have := point_lt t; omega⟩ : Fin 8192) y) := by
  obtain ⟨e0, e1⟩ := idx6 t
  funext a; apply Fin.ext
  match a with
  | ⟨0, _⟩ => show win0_6.index t (0 : Fin 2) * 512 + 1 * x.val = 512 * t.val + x.val; omega
  | ⟨1, _⟩ => show win0_6.index t (1 : Fin 2) * 1024 + 1 * y.val = y.val; omega

theorem flushed6_eq (c : Dev nD) (t : Fin cfg0.N) (hf : (cfg0.win 6).flush t = true) :
    (dats m 0 c).flushed 6 t = ((cfg0.win 6).blk t).view.read (Elt Ideal) (resultLayer m c) := by
  rw [Value.flushed6]
  funext j
  obtain ⟨x, y, rfl⟩ : ∃ (x : Fin 512) (y : Fin 1024), j = ix2 x y := ⟨j 0, j 1, eq_ix2 j⟩
  show (outsAt0 m c t).1 (ix2 x y) = resultLayer m c (((cfg0.win 6).blk t).view.emb (ix2 x y))
  rw [emb6]
  exact (layer_rows m c t x y).trans (block_layer m c t x y)

theorem covered6 (i : S8192x1024.Idx) : ∃ t : Fin cfg0.N, (cfg0.win 6).flush t = true ∧ i ∈ ((cfg0.win 6).blk t).view.set := by
  obtain ⟨r, l, rfl⟩ : ∃ (r : Fin 8192) (l : Fin 1024), i = ix2 r l := ⟨i 0, i 1, eq_ix2 i⟩
  have hr := r.isLt
  have hl := l.isLt
  refine ⟨⟨r.val / 512, by show _ < 16; omega⟩, flush0_6 _, ?_⟩
  have h := ((cfg0.win 6).blk (⟨r.val / 512, by show _ < 16; omega⟩ : Fin cfg0.N)).view.emb_mem_set (ix2 (⟨r.val % 512, Nat.mod_lt _ (by omega)⟩ : Fin 512) l)
  rw [emb6] at h
  have e : ix2 r l = ix2 (⟨512 * ((r.val / 512)) + r.val % 512, by omega⟩ : Fin 8192) l := by
    congr 1 <;> apply Fin.ext <;> dsimp only <;> omega
  rw [e]; exact h

/-- The result array after the run. -/
theorem finalLayer (c : Dev nD) : (dats m 0 c).arrAt 6 cfg0.N = resultLayer m c :=
  (dats m 0 c).arrAt_eq_of_cover 6 (resultLayer m c) (fun t hf => flushed6_eq m c t hf) covered6

theorem emb7 (t : Fin cfg0.N) (x : Fin 512) (y : Fin 2816) : ((cfg0.win 7).blk t).view.emb (ix2 x y)
    = (ix2 (⟨512 * t.val + x.val, by have := point_lt t; omega⟩ : Fin 8192) y) := by
  obtain ⟨e0, e1⟩ := idx7 t
  funext a; apply Fin.ext
  match a with
  | ⟨0, _⟩ => show win0_7.index t (0 : Fin 2) * 512 + 1 * x.val = 512 * t.val + x.val; omega
  | ⟨1, _⟩ => show win0_7.index t (1 : Fin 2) * 2816 + 1 * y.val = y.val; omega

theorem flushed7_eq (c : Dev nD) (t : Fin cfg0.N) (hf : (cfg0.win 7).flush t = true) :
    (dats m 0 c).flushed 7 t = ((cfg0.win 7).blk t).view.read (Elt Ideal) (resultAct m c) := by
  rw [Value.flushed7]
  funext j
  obtain ⟨x, y, rfl⟩ : ∃ (x : Fin 512) (y : Fin 2816), j = ix2 x y := ⟨j 0, j 1, eq_ix2 j⟩
  show (outsAt0 m c t).2.1 (ix2 x y) = resultAct m c (((cfg0.win 7).blk t).view.emb (ix2 x y))
  rw [emb7]
  rw [act_rows m c t]
  exact block_act m c t x y

theorem covered7 (i : S8192x2816.Idx) : ∃ t : Fin cfg0.N, (cfg0.win 7).flush t = true ∧ i ∈ ((cfg0.win 7).blk t).view.set := by
  obtain ⟨r, l, rfl⟩ : ∃ (r : Fin 8192) (l : Fin 2816), i = ix2 r l := ⟨i 0, i 1, eq_ix2 i⟩
  have hr := r.isLt
  have hl := l.isLt
  refine ⟨⟨r.val / 512, by show _ < 16; omega⟩, flush0_7 _, ?_⟩
  have h := ((cfg0.win 7).blk (⟨r.val / 512, by show _ < 16; omega⟩ : Fin cfg0.N)).view.emb_mem_set (ix2 (⟨r.val % 512, Nat.mod_lt _ (by omega)⟩ : Fin 512) l)
  rw [emb7] at h
  have e : ix2 r l = ix2 (⟨512 * ((r.val / 512)) + r.val % 512, by omega⟩ : Fin 8192) l := by
    congr 1 <;> apply Fin.ext <;> dsimp only <;> omega
  rw [e]; exact h

/-- The result array after the run. -/
theorem finalAct (c : Dev nD) : (dats m 0 c).arrAt 7 cfg0.N = resultAct m c :=
  (dats m 0 c).arrAt_eq_of_cover 7 (resultAct m c) (fun t hf => flushed7_eq m c t hf) covered7

theorem emb8 (t : Fin cfg0.N) (x : Fin 512) (y : Fin 5632) : ((cfg0.win 8).blk t).view.emb (ix2 x y)
    = (ix2 (⟨512 * t.val + x.val, by have := point_lt t; omega⟩ : Fin 8192) y) := by
  obtain ⟨e0, e1⟩ := idx8 t
  funext a; apply Fin.ext
  match a with
  | ⟨0, _⟩ => show win0_8.index t (0 : Fin 2) * 512 + 1 * x.val = 512 * t.val + x.val; omega
  | ⟨1, _⟩ => show win0_8.index t (1 : Fin 2) * 5632 + 1 * y.val = y.val; omega

theorem flushed8_eq (c : Dev nD) (t : Fin cfg0.N) (hf : (cfg0.win 8).flush t = true) :
    (dats m 0 c).flushed 8 t = ((cfg0.win 8).blk t).view.read (Elt Ideal) (resultConv m c) := by
  rw [Value.flushed8]
  funext j
  obtain ⟨x, y, rfl⟩ : ∃ (x : Fin 512) (y : Fin 5632), j = ix2 x y := ⟨j 0, j 1, eq_ix2 j⟩
  show (outsAt0 m c t).2.2 (ix2 x y) = resultConv m c (((cfg0.win 8).blk t).view.emb (ix2 x y))
  rw [emb8]
  rw [conv_rows m c t]
  exact block_conv m c t x y

theorem covered8 (i : S8192x5632.Idx) : ∃ t : Fin cfg0.N, (cfg0.win 8).flush t = true ∧ i ∈ ((cfg0.win 8).blk t).view.set := by
  obtain ⟨r, l, rfl⟩ : ∃ (r : Fin 8192) (l : Fin 5632), i = ix2 r l := ⟨i 0, i 1, eq_ix2 i⟩
  have hr := r.isLt
  have hl := l.isLt
  refine ⟨⟨r.val / 512, by show _ < 16; omega⟩, flush0_8 _, ?_⟩
  have h := ((cfg0.win 8).blk (⟨r.val / 512, by show _ < 16; omega⟩ : Fin cfg0.N)).view.emb_mem_set (ix2 (⟨r.val % 512, Nat.mod_lt _ (by omega)⟩ : Fin 512) l)
  rw [emb8] at h
  have e : ix2 r l = ix2 (⟨512 * ((r.val / 512)) + r.val % 512, by omega⟩ : Fin 8192) l := by
    congr 1 <;> apply Fin.ext <;> dsimp only <;> omega
  rw [e]; exact h

/-- The result array after the run. -/
theorem finalConv (c : Dev nD) : (dats m 0 c).arrAt 8 cfg0.N = resultConv m c :=
  (dats m 0 c).arrAt_eq_of_cover 8 (resultConv m c) (fun t hf => flushed8_eq m c t hf) covered8

end Cert.ActDownIdeal.Gen
-- ==== Proof.lean ====
/-
  The attention backward kernel of the training step: it returns from every launch with its arguments kept and every
  semaphore at zero, and its four results are the gradients of the attention by its queries, keys, values and bias.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_scores_finite
public import proofs.«01_k».proof.Proof.Gen.Pre_bwd_act_finite
public import proofs.«01_k».proof.Proof.Gen.Pre_in_dx_finite
public import proofs.«01_k».proof.Proof.Gen.Pre_kv_dx_finite
public import proofs.«01_k».proof.Proof.Gen.Pre_q_dx_finite
public import proofs.«01_k».proof.Proof.Gen.UpWgrad
public import proofs.«01_k».proof.Proof.Gen.UpWgrad.Skeleton
public import proofs.«01_k».proof.Proof.Gen.UpWgrad.Launch
public import proofs.«01_k».proof.Proof.Gen.UpWgrad.Points
public import proofs.«01_k».proof.Proof.Gen.UpWgrad.Frame
public import proofs.«01_k».proof.Proof.Gen.UpWgradIdeal
public import proofs.«01_k».proof.Proof.Gen.UpWgradIdeal.Skeleton
public import proofs.«01_k».proof.Proof.Gen.UpWgradIdeal.Launch
public import proofs.«01_k».proof.Proof.Gen.UpWgradIdeal.Points
public import proofs.«01_k».proof.Proof.Gen.UpWgradIdeal.Frame
public import proofs.«01_k».proof.Proof.Gen.UpWgradIdeal.Value
public import proofs.«01_k».proof.Proof.Gen.UpWgradReferenceIdeal
public import proofs.«01_k».proof.Proof.Gen.UpWgradReferenceIdeal.Run
public import proofs.«01_k».proof.Proof.Gen.UpWgradReferenceIdeal.Read
public import proofs.«01_k».proof.Proof.Gen.DownWgrad
public import proofs.«01_k».proof.Proof.Gen.DownWgrad.Skeleton
public import proofs.«01_k».proof.Proof.Gen.DownWgrad.Launch
public import proofs.«01_k».proof.Proof.Gen.DownWgrad.Points
public import proofs.«01_k».proof.Proof.Gen.DownWgrad.Frame
public import proofs.«01_k».proof.Proof.Gen.DownWgradIdeal
public import proofs.«01_k».proof.Proof.Gen.DownWgradIdeal.Skeleton
public import proofs.«01_k».proof.Proof.Gen.DownWgradIdeal.Launch
public import proofs.«01_k».proof.Proof.Gen.DownWgradIdeal.Points
public import proofs.«01_k».proof.Proof.Gen.DownWgradIdeal.Frame
public import proofs.«01_k».proof.Proof.Gen.DownWgradIdeal.Value
public import proofs.«01_k».proof.Proof.Gen.DownWgradReferenceIdeal
public import proofs.«01_k».proof.Proof.Gen.DownWgradReferenceIdeal.Run
public import proofs.«01_k».proof.Proof.Gen.DownWgradReferenceIdeal.Read
public import proofs.«01_k».proof.Proof.Gen.UpProj
public import proofs.«01_k».proof.Proof.Gen.UpProj.Skeleton
public import proofs.«01_k».proof.Proof.Gen.UpProj.Launch
public import proofs.«01_k».proof.Proof.Gen.UpProj.Points
public import proofs.«01_k».proof.Proof.Gen.UpProj.Frame
public import proofs.«01_k».proof.Proof.Gen.UpProjIdeal
public import proofs.«01_k».proof.Proof.Gen.UpProjIdeal.Skeleton
public import proofs.«01_k».proof.Proof.Gen.UpProjIdeal.Launch
public import proofs.«01_k».proof.Proof.Gen.UpProjIdeal.Points
public import proofs.«01_k».proof.Proof.Gen.UpProjIdeal.Frame
public import proofs.«01_k».proof.Proof.Gen.UpProjIdeal.Value
public import proofs.«01_k».proof.Proof.Gen.UpProjReferenceIdeal
public import proofs.«01_k».proof.Proof.Gen.UpProjReferenceIdeal.Run
public import proofs.«01_k».proof.Proof.Gen.UpProjReferenceIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.InProjReferenceIdeal.Read
public import proofs.«01_k».proof.Proof.Gen.QkvWgrad
public import proofs.«01_k».proof.Proof.Gen.QkvWgrad.Skeleton
public import proofs.«01_k».proof.Proof.Gen.QkvWgrad.Launch
public import proofs.«01_k».proof.Proof.Gen.QkvWgrad.Points
public import proofs.«01_k».proof.Proof.Gen.QkvWgrad.Frame
public import proofs.«01_k».proof.Proof.Gen.QkvWgradIdeal
public import proofs.«01_k».proof.Proof.Gen.QkvWgradIdeal.Skeleton
public import proofs.«01_k».proof.Proof.Gen.QkvWgradIdeal.Launch
public import proofs.«01_k».proof.Proof.Gen.QkvWgradIdeal.Points
public import proofs.«01_k».proof.Proof.Gen.QkvWgradIdeal.Frame
public import proofs.«01_k».proof.Proof.Gen.QkvWgradIdeal.Value
public import proofs.«01_k».proof.Proof.Gen.QkvWgradReferenceIdeal
public import proofs.«01_k».proof.Proof.Gen.QkvWgradReferenceIdeal.Run
public import proofs.«01_k».proof.Proof.Gen.QkvWgradReferenceIdeal.Read
public import proofs.«01_k».proof.Proof.Gen.QWgrad
public import proofs.«01_k».proof.Proof.Gen.QWgrad.Skeleton
public import proofs.«01_k».proof.Proof.Gen.QWgrad.Launch
public import proofs.«01_k».proof.Proof.Gen.QWgrad.Points
public import proofs.«01_k».proof.Proof.Gen.QWgrad.Frame
public import proofs.«01_k».proof.Proof.Gen.QWgradIdeal
public import proofs.«01_k».proof.Proof.Gen.QWgradIdeal.Skeleton
public import proofs.«01_k».proof.Proof.Gen.QWgradIdeal.Launch
public import proofs.«01_k».proof.Proof.Gen.QWgradIdeal.Points
public import proofs.«01_k».proof.Proof.Gen.QWgradIdeal.Frame
public import proofs.«01_k».proof.Proof.Gen.QWgradIdeal.Value
public import proofs.«01_k».proof.Proof.Gen.QWgradReferenceIdeal
public import proofs.«01_k».proof.Proof.Gen.QWgradReferenceIdeal.Run
public import proofs.«01_k».proof.Proof.Gen.QWgradReferenceIdeal.Read
public import proofs.«01_k».proof.Proof.Gen.KvWgrad
public import proofs.«01_k».proof.Proof.Gen.KvWgrad.Skeleton
public import proofs.«01_k».proof.Proof.Gen.KvWgrad.Launch
public import proofs.«01_k».proof.Proof.Gen.KvWgrad.Points
public import proofs.«01_k».proof.Proof.Gen.KvWgrad.Frame
public import proofs.«01_k».proof.Proof.Gen.KvWgradIdeal
public import proofs.«01_k».proof.Proof.Gen.KvWgradIdeal.Skeleton
public import proofs.«01_k».proof.Proof.Gen.KvWgradIdeal.Launch
public import proofs.«01_k».proof.Proof.Gen.KvWgradIdeal.Points
public import proofs.«01_k».proof.Proof.Gen.KvWgradIdeal.Frame
public import proofs.«01_k».proof.Proof.Gen.KvWgradIdeal.Value
public import proofs.«01_k».proof.Proof.Gen.KvWgradReferenceIdeal
public import proofs.«01_k».proof.Proof.Gen.KvWgradReferenceIdeal.Run
public import proofs.«01_k».proof.Proof.Gen.KvWgradReferenceIdeal.Read
public import proofs.«01_k».proof.Proof.Gen.AOutWgrad
public import proofs.«01_k».proof.Proof.Gen.AOutWgrad.Skeleton
public import proofs.«01_k».proof.Proof.Gen.AOutWgrad.Launch
public import proofs.«01_k».proof.Proof.Gen.AOutWgrad.Points
public import proofs.«01_k».proof.Proof.Gen.AOutWgrad.Frame
public import proofs.«01_k».proof.Proof.Gen.AOutWgradIdeal
public import proofs.«01_k».proof.Proof.Gen.AOutWgradIdeal.Skeleton
public import proofs.«01_k».proof.Proof.Gen.AOutWgradIdeal.Launch
public import proofs.«01_k».proof.Proof.Gen.AOutWgradIdeal.Points
public import proofs.«01_k».proof.Proof.Gen.AOutWgradIdeal.Frame
public import proofs.«01_k».proof.Proof.Gen.AOutWgradIdeal.Value
public import proofs.«01_k».proof.Proof.Gen.AOutWgradReferenceIdeal
public import proofs.«01_k».proof.Proof.Gen.AOutWgradReferenceIdeal.Run
public import proofs.«01_k».proof.Proof.Gen.AOutWgradReferenceIdeal.Read
public import proofs.«01_k».proof.Proof.Gen.BOutWgrad
public import proofs.«01_k».proof.Proof.Gen.BOutWgrad.Skeleton
public import proofs.«01_k».proof.Proof.Gen.BOutWgrad.Launch
public import proofs.«01_k».proof.Proof.Gen.BOutWgrad.Points
public import proofs.«01_k».proof.Proof.Gen.BOutWgrad.Frame
public import proofs.«01_k».proof.Proof.Gen.BOutWgradIdeal
public import proofs.«01_k».proof.Proof.Gen.BOutWgradIdeal.Skeleton
public import proofs.«01_k».proof.Proof.Gen.BOutWgradIdeal.Launch
public import proofs.«01_k».proof.Proof.Gen.BOutWgradIdeal.Points
public import proofs.«01_k».proof.Proof.Gen.BOutWgradIdeal.Frame
public import proofs.«01_k».proof.Proof.Gen.BOutWgradIdeal.Value
public import proofs.«01_k».proof.Proof.Gen.BOutWgradReferenceIdeal
public import proofs.«01_k».proof.Proof.Gen.BOutWgradReferenceIdeal.Run
public import proofs.«01_k».proof.Proof.Gen.BOutWgradReferenceIdeal.Read
public import proofs.«01_k».proof.Proof.Gen.KvProj
public import proofs.«01_k».proof.Proof.Gen.KvProj.Skeleton
public import proofs.«01_k».proof.Proof.Gen.KvProj.Launch
public import proofs.«01_k».proof.Proof.Gen.KvProj.Points
public import proofs.«01_k».proof.Proof.Gen.KvProj.Frame
public import proofs.«01_k».proof.Proof.Gen.KvProjIdeal
public import proofs.«01_k».proof.Proof.Gen.KvProjIdeal.Skeleton
public import proofs.«01_k».proof.Proof.Gen.KvProjIdeal.Launch
public import proofs.«01_k».proof.Proof.Gen.KvProjIdeal.Points
public import proofs.«01_k».proof.Proof.Gen.KvProjIdeal.Frame
public import proofs.«01_k».proof.Proof.Gen.KvProjIdeal.Value
public import proofs.«01_k».proof.Proof.Gen.KvProjReferenceIdeal
public import proofs.«01_k».proof.Proof.Gen.KvProjReferenceIdeal.Run
public import proofs.«01_k».proof.Proof.Gen.KvProjReferenceIdeal.Read
public import proofs.«01_k».proof.Proof.Gen.QProj
public import proofs.«01_k».proof.Proof.Gen.QProj.Skeleton
public import proofs.«01_k».proof.Proof.Gen.QProj.Launch
public import proofs.«01_k».proof.Proof.Gen.QProj.Points
public import proofs.«01_k».proof.Proof.Gen.QProj.Frame
public import proofs.«01_k».proof.Proof.Gen.QProjIdeal
public import proofs.«01_k».proof.Proof.Gen.QProjIdeal.Skeleton
public import proofs.«01_k».proof.Proof.Gen.QProjIdeal.Launch
public import proofs.«01_k».proof.Proof.Gen.QProjIdeal.Points
public import proofs.«01_k».proof.Proof.Gen.QProjIdeal.Frame
public import proofs.«01_k».proof.Proof.Gen.QProjIdeal.Value
public import proofs.«01_k».proof.Proof.Gen.QProjReferenceIdeal
public import proofs.«01_k».proof.Proof.Gen.QProjReferenceIdeal.Run
public import proofs.«01_k».proof.Proof.Gen.QProjReferenceIdeal.Read
public import proofs.«01_k».proof.Proof.Gen.BOutProj
public import proofs.«01_k».proof.Proof.Gen.BOutProj.Skeleton
public import proofs.«01_k».proof.Proof.Gen.BOutProj.Launch
public import proofs.«01_k».proof.Proof.Gen.BOutProj.Points
public import proofs.«01_k».proof.Proof.Gen.BOutProj.Frame
public import proofs.«01_k».proof.Proof.Gen.BOutProjIdeal
public import proofs.«01_k».proof.Proof.Gen.BOutProjIdeal.Skeleton
public import proofs.«01_k».proof.Proof.Gen.BOutProjIdeal.Launch
public import proofs.«01_k».proof.Proof.Gen.BOutProjIdeal.Points
public import proofs.«01_k».proof.Proof.Gen.BOutProjIdeal.Frame
public import proofs.«01_k».proof.Proof.Gen.BOutProjIdeal.Value
public import proofs.«01_k».proof.Proof.Gen.BOutProjReferenceIdeal
public import proofs.«01_k».proof.Proof.Gen.BOutProjReferenceIdeal.Run
public import proofs.«01_k».proof.Proof.Gen.BOutProjReferenceIdeal.Read
public import proofs.«01_k».proof.Proof.Gen.BOutDx
public import proofs.«01_k».proof.Proof.Gen.BOutDx.Skeleton
public import proofs.«01_k».proof.Proof.Gen.BOutDx.Launch
public import proofs.«01_k».proof.Proof.Gen.BOutDx.Points
public import proofs.«01_k».proof.Proof.Gen.BOutDx.Frame
public import proofs.«01_k».proof.Proof.Gen.BOutDxIdeal
public import proofs.«01_k».proof.Proof.Gen.BOutDxIdeal.Skeleton
public import proofs.«01_k».proof.Proof.Gen.BOutDxIdeal.Launch
public import proofs.«01_k».proof.Proof.Gen.BOutDxIdeal.Points
public import proofs.«01_k».proof.Proof.Gen.BOutDxIdeal.Frame
public import proofs.«01_k».proof.Proof.Gen.BOutDxIdeal.Value
public import proofs.«01_k».proof.Proof.Gen.BOutDxReferenceIdeal
public import proofs.«01_k».proof.Proof.Gen.BOutDxReferenceIdeal.Run
public import proofs.«01_k».proof.Proof.Gen.BOutDxReferenceIdeal.Read
public import proofs.«01_k».proof.Proof.Gen.BaWgrad
public import proofs.«01_k».proof.Proof.Gen.BaWgrad.Skeleton
public import proofs.«01_k».proof.Proof.Gen.BaWgrad.Launch
public import proofs.«01_k».proof.Proof.Gen.BaWgrad.Points
public import proofs.«01_k».proof.Proof.Gen.BaWgrad.Frame
public import proofs.«01_k».proof.Proof.Gen.BaWgradIdeal
public import proofs.«01_k».proof.Proof.Gen.BaWgradIdeal.Skeleton
public import proofs.«01_k».proof.Proof.Gen.BaWgradIdeal.Launch
public import proofs.«01_k».proof.Proof.Gen.BaWgradIdeal.Points
public import proofs.«01_k».proof.Proof.Gen.BaWgradIdeal.Frame
public import proofs.«01_k».proof.Proof.Gen.BaWgradIdeal.Value
public import proofs.«01_k».proof.Proof.Gen.BaWgradReferenceIdeal
public import proofs.«01_k».proof.Proof.Gen.BaWgradReferenceIdeal.Run
public import proofs.«01_k».proof.Proof.Gen.BaWgradReferenceIdeal.Read
public import proofs.«01_k».proof.Proof.Gen.QDx
public import proofs.«01_k».proof.Proof.Gen.QDx.Skeleton
public import proofs.«01_k».proof.Proof.Gen.QDx.Launch
public import proofs.«01_k».proof.Proof.Gen.QDx.Points
public import proofs.«01_k».proof.Proof.Gen.QDx.Frame
public import proofs.«01_k».proof.Proof.Gen.QDxIdeal
public import proofs.«01_k».proof.Proof.Gen.QDxIdeal.Skeleton
public import proofs.«01_k».proof.Proof.Gen.QDxIdeal.Launch
public import proofs.«01_k».proof.Proof.Gen.QDxIdeal.Points
public import proofs.«01_k».proof.Proof.Gen.QDxIdeal.Frame
public import proofs.«01_k».proof.Proof.Gen.QDxIdeal.Value
public import proofs.«01_k».proof.Proof.Gen.QDxReferenceIdeal
public import proofs.«01_k».proof.Proof.Gen.QDxReferenceIdeal.Run
public import proofs.«01_k».proof.Proof.Gen.QDxReferenceIdeal.Read
public import proofs.«01_k».proof.Proof.Gen.KvDx
public import proofs.«01_k».proof.Proof.Gen.KvDx.Skeleton
public import proofs.«01_k».proof.Proof.Gen.KvDx.Launch
public import proofs.«01_k».proof.Proof.Gen.KvDx.Points
public import proofs.«01_k».proof.Proof.Gen.KvDx.Frame
public import proofs.«01_k».proof.Proof.Gen.KvDxIdeal
public import proofs.«01_k».proof.Proof.Gen.KvDxIdeal.Skeleton
public import proofs.«01_k».proof.Proof.Gen.KvDxIdeal.Launch
public import proofs.«01_k».proof.Proof.Gen.KvDxIdeal.Points
public import proofs.«01_k».proof.Proof.Gen.KvDxIdeal.Frame
public import proofs.«01_k».proof.Proof.Gen.KvDxIdeal.Value
public import proofs.«01_k».proof.Proof.Gen.KvDxReferenceIdeal
public import proofs.«01_k».proof.Proof.Gen.KvDxReferenceIdeal.Run
public import proofs.«01_k».proof.Proof.Gen.KvDxReferenceIdeal.Read
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxIdeal.Value
public import proofs.«01_k».proof.Proof.Gen.InDxReferenceIdeal
public import proofs.«01_k».proof.Proof.Gen.InDxReferenceIdeal.Run
public import proofs.«01_k».proof.Proof.Gen.InDxReferenceIdeal.Read
public import proofs.«01_k».proof.Proof.Gen.BwdAct
public import proofs.«01_k».proof.Proof.Gen.BwdAct.Skeleton
public import proofs.«01_k».proof.Proof.Gen.BwdAct.Launch
public import proofs.«01_k».proof.Proof.Gen.BwdAct.Points
public import proofs.«01_k».proof.Proof.Gen.BwdAct.Frame
public import proofs.«01_k».proof.Proof.Gen.BwdActIdeal
public import proofs.«01_k».proof.Proof.Gen.BwdActIdeal.Skeleton
public import proofs.«01_k».proof.Proof.Gen.BwdActIdeal.Launch
public import proofs.«01_k».proof.Proof.Gen.BwdActIdeal.Points
public import proofs.«01_k».proof.Proof.Gen.BwdActIdeal.Frame
public import proofs.«01_k».proof.Proof.Gen.BwdActIdeal.Value
public import proofs.«01_k».proof.Proof.Gen.BwdActReferenceIdeal
public import proofs.«01_k».proof.Proof.Gen.BwdActReferenceIdeal.Run
public import proofs.«01_k».proof.Proof.Gen.BwdActReferenceIdeal.Read
public import proofs.«01_k».proof.Proof.Gen.ActDown
public import proofs.«01_k».proof.Proof.Gen.ActDown.Skeleton
public import proofs.«01_k».proof.Proof.Gen.ActDown.Launch
public import proofs.«01_k».proof.Proof.Gen.ActDown.Points
public import proofs.«01_k».proof.Proof.Gen.ActDown.Frame
public import proofs.«01_k».proof.Proof.Gen.ActDownIdeal
public import proofs.«01_k».proof.Proof.Gen.ActDownIdeal.Skeleton
public import proofs.«01_k».proof.Proof.Gen.ActDownIdeal.Launch
public import proofs.«01_k».proof.Proof.Gen.ActDownIdeal.Points
public import proofs.«01_k».proof.Proof.Gen.ActDownIdeal.Frame
public import proofs.«01_k».proof.Proof.Gen.ActDownIdeal.Value
public import proofs.«01_k».proof.Proof.Gen.ActDownReferenceIdeal
public import proofs.«01_k».proof.Proof.Gen.ActDownReferenceIdeal.Run
public import proofs.«01_k».proof.Proof.Gen.ActDownReferenceIdeal.Read
public import proofs.«01_k».proof.Proof.Finite
public import proofs.«01_k».proof.Proof.Arrays
public import proofs.«01_k».proof.Proof.RefResults
public import proofs.«01_k».proof.Proof.UpWgrad
public import proofs.«01_k».proof.Proof.DownWgrad
public import proofs.«01_k».proof.Proof.UpProj
public import proofs.«01_k».proof.Proof.InProj
public import proofs.«01_k».proof.Proof.QkvWgrad
public import proofs.«01_k».proof.Proof.QWgrad
public import proofs.«01_k».proof.Proof.KvWgrad
public import proofs.«01_k».proof.Proof.AOutWgrad
public import proofs.«01_k».proof.Proof.BOutWgrad
public import proofs.«01_k».proof.Proof.KvProj
public import proofs.«01_k».proof.Proof.QProj
public import proofs.«01_k».proof.Proof.BOutProj
public import proofs.«01_k».proof.Proof.BOutDx
public import proofs.«01_k».proof.Proof.BaWgrad
public import proofs.«01_k».proof.Proof.QDx
public import proofs.«01_k».proof.Proof.KvDx
public import proofs.«01_k».proof.Proof.InDx
public import proofs.«01_k».proof.Proof.BwdAct
public import proofs.«01_k».proof.Proof.ActDown
public import Idealize.ShloMosaic.Adequacy
public import Idealize.ShloMosaic.Init

@[expose] public section

noncomputable section

namespace Cert.Proof

open Idealize.ShloMosaic Idealize.ShloMosaic.TcCoe Idealize.SL.Sem

/-- The reference returns from every launch with its arguments kept; it declares no semaphore. -/
theorem reference_frame : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The kernel with the mask's word read as −∞. -/
theorem named : Cert.preserves_Kernel_KernelIdeal :=
  IdealRules.named_const.statement Cert.KernelIdeal.κ "mask" .f32 0xF149F2CA#32 ⊥ rfl

/-- The kernel's four results are the reference's. -/
theorem gradients : Cert.algebraic_KernelIdeal_ReferenceIdeal_pre_scores_finite := by
  intro m g m' g' hpre hagree
  have hD := fun c => Cert.KernelIdeal.Gen.operands_real m hpre c
  refine ⟨fun c => (Cert.KernelIdeal.Gen.opData m c).resQ, fun c => (Cert.KernelIdeal.Gen.opData m c).resK,
    fun c => (Cert.KernelIdeal.Gen.opData m c).resV, fun c => (Cert.KernelIdeal.Gen.opData m c).resB, ?_, ?_⟩
  · refine (θ_run Cert.KernelIdeal.defs _ _).mono (fun r h c => ?_) (Cert.KernelIdeal.Value.run_blocks (F := Ideal) m g)
    obtain ⟨h7, h8, h9, h10, hargs⟩ := h c
    exact ⟨h7.trans (Cert.KernelIdeal.Gen.final7 m c (hD c)), h8.trans (Cert.KernelIdeal.Gen.final8 m c (hD c)),
      h9.trans (Cert.KernelIdeal.Gen.final9 m c), h10.trans (Cert.KernelIdeal.Gen.final10 m c (hD c)), hargs⟩
  · refine (θ_run Cert.ReferenceIdeal.defs _ _).mono (fun r h c => ?_) (Cert.ReferenceIdeal.Value.run (F := Ideal) m' g')
    obtain ⟨hq, hk, hv, hb, hargs⟩ := h c
    obtain ⟨a0, a1, a2, a3⟩ := hagree c
    have hR : (Cert.ReferenceIdeal.Read.refData (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))) = Cert.KernelIdeal.Gen.opData m c := by
      rw [a0, a1, a2, a3]; rfl
    have hD' := hD c
    rw [← hR] at hD'
    dsimp only
    rw [← hR]
    exact ⟨(hq.trans (Cert.ReferenceIdeal.Read.val_main_v128_eq _)).trans (Cert.ReferenceIdeal.Read.resQ_at _ _ _ _ hD'),
      (hk.trans (Cert.ReferenceIdeal.Read.val_main_v188_eq _)).trans (Cert.ReferenceIdeal.Read.resK_at _ _ _ _ hD'),
      (hv.trans (Cert.ReferenceIdeal.Read.val_main_v184_eq _)).trans (Cert.ReferenceIdeal.Read.resV_at _ _ _ _),
      (hb.trans (Cert.ReferenceIdeal.Read.val_main_v190_eq _)).trans (Cert.ReferenceIdeal.Read.resB_at _ _ _ _ hD'), hargs⟩

/-- UpWgrad: the kernel's result is the reference's. -/
theorem resultUpWgrad : Cert.algebraic_UpWgradIdeal_UpWgradReferenceIdeal := by
  intro m g m' g' _ hagree
  refine ⟨fun c => Cert.UpWgradIdeal.Gen.result m c, ?_, ?_⟩
  · refine (θ_run Cert.UpWgradIdeal.defs _ _).mono (fun r h c => ?_) (Cert.UpWgradIdeal.Value.run_blocks (F := Ideal) m g)
    obtain ⟨ho, hargs⟩ := h c
    exact ⟨ho.trans (Cert.UpWgradIdeal.Gen.final m c), hargs⟩
  · refine (θ_run Cert.UpWgradReferenceIdeal.defs _ _).mono (fun r h c => ?_) (Cert.UpWgradReferenceIdeal.Value.run (F := Ideal) m' g')
    obtain ⟨ho, hargs⟩ := h c
    obtain ⟨a0, a1, a2⟩ := hagree c
    refine ⟨(ho.trans (Cert.UpWgradReferenceIdeal.Read.val_main_v19_eq _ _ _)).trans ((Cert.UpWgradReferenceIdeal.Read.result_eq _ _ _).trans ?_), hargs⟩
    rw [a0, a1, a2]; rfl

theorem referenceUpWgrad : Cert.quiescent_UpWgradReferenceIdeal := fun m ρ _ =>
  (θ_run Cert.UpWgradReferenceIdeal.defs _ _).mono (fun r h => ⟨fun c => (h c).2, sem_eq_zero_of_no_sems (by decide) r.2⟩)
    (Cert.UpWgradReferenceIdeal.Value.run (F := Ideal) m ρ)

/-- DownWgrad: the kernel's result is the reference's. -/
theorem resultDownWgrad : Cert.algebraic_DownWgradIdeal_DownWgradReferenceIdeal := by
  intro m g m' g' _ hagree
  refine ⟨fun c => Cert.DownWgradIdeal.Gen.result m c, ?_, ?_⟩
  · refine (θ_run Cert.DownWgradIdeal.defs _ _).mono (fun r h c => ?_) (Cert.DownWgradIdeal.Value.run_blocks (F := Ideal) m g)
    obtain ⟨ho, hargs⟩ := h c
    exact ⟨ho.trans (Cert.DownWgradIdeal.Gen.final m c), hargs⟩
  · refine (θ_run Cert.DownWgradReferenceIdeal.defs _ _).mono (fun r h c => ?_) (Cert.DownWgradReferenceIdeal.Value.run (F := Ideal) m' g')
    obtain ⟨ho, hargs⟩ := h c
    obtain ⟨a0, a1⟩ := hagree c
    refine ⟨(ho.trans (Cert.DownWgradReferenceIdeal.Read.val_main_v5_eq _ _)).trans ((Cert.DownWgradReferenceIdeal.Read.result_eq _ _).trans ?_), hargs⟩
    rw [a0, a1]; rfl

theorem referenceDownWgrad : Cert.quiescent_DownWgradReferenceIdeal := fun m ρ _ =>
  (θ_run Cert.DownWgradReferenceIdeal.defs _ _).mono (fun r h => ⟨fun c => (h c).2, sem_eq_zero_of_no_sems (by decide) r.2⟩)
    (Cert.DownWgradReferenceIdeal.Value.run (F := Ideal) m ρ)

/-- UpProj: the kernel's result is the reference's. -/
theorem resultUpProj : Cert.algebraic_UpProjIdeal_UpProjReferenceIdeal := by
  intro m g m' g' _ hagree
  refine ⟨fun c => Cert.UpProjIdeal.Gen.result m c, ?_, ?_⟩
  · refine (θ_run Cert.UpProjIdeal.defs _ _).mono (fun r h c => ?_) (Cert.UpProjIdeal.Value.run_blocks (F := Ideal) m g)
    obtain ⟨ho, hargs⟩ := h c
    exact ⟨ho.trans (Cert.UpProjIdeal.Gen.final m c), hargs⟩
  · refine (θ_run Cert.UpProjReferenceIdeal.defs _ _).mono (fun r h c => ?_) (Cert.UpProjReferenceIdeal.Value.run (F := Ideal) m' g')
    obtain ⟨ho, hargs⟩ := h c
    obtain ⟨a0, a1, a2⟩ := hagree c
    refine ⟨(ho.trans (Cert.UpProjReferenceIdeal.Read.val_main_v15_eq _ _ _)).trans ((Cert.UpProjReferenceIdeal.Read.result_eq _ _ _).trans ?_), hargs⟩
    rw [a0, a1, a2]; rfl

theorem referenceUpProj : Cert.quiescent_UpProjReferenceIdeal := fun m ρ _ =>
  (θ_run Cert.UpProjReferenceIdeal.defs _ _).mono (fun r h => ⟨fun c => (h c).2, sem_eq_zero_of_no_sems (by decide) r.2⟩)
    (Cert.UpProjReferenceIdeal.Value.run (F := Ideal) m ρ)

/-- InProj: the kernel's result is the reference's. -/
theorem resultInProj : Cert.algebraic_InProjIdeal_InProjReferenceIdeal := by
  intro m g m' g' _ hagree
  refine ⟨fun c => Cert.InProjIdeal.Gen.result m c, ?_, ?_⟩
  · refine (θ_run Cert.InProjIdeal.defs _ _).mono (fun r h c => ?_) (Cert.InProjIdeal.Value.run_blocks (F := Ideal) m g)
    obtain ⟨ho, hargs⟩ := h c
    exact ⟨ho.trans (Cert.InProjIdeal.Gen.final m c), hargs⟩
  · refine (θ_run Cert.InProjReferenceIdeal.defs _ _).mono (fun r h c => ?_) (Cert.InProjReferenceIdeal.Value.run (F := Ideal) m' g')
    obtain ⟨ho, hargs⟩ := h c
    obtain ⟨a0, a1, a2⟩ := hagree c
    refine ⟨(ho.trans (Cert.InProjReferenceIdeal.Read.val_main_v13_eq _ _ _)).trans ((Cert.InProjReferenceIdeal.Read.result_eq _ _ _).trans ?_), hargs⟩
    rw [a0, a1, a2]; rfl

theorem referenceInProj : Cert.quiescent_InProjReferenceIdeal := fun m ρ _ =>
  (θ_run Cert.InProjReferenceIdeal.defs _ _).mono (fun r h => ⟨fun c => (h c).2, sem_eq_zero_of_no_sems (by decide) r.2⟩)
    (Cert.InProjReferenceIdeal.Value.run (F := Ideal) m ρ)

/-- QkvWgrad: the kernel's result is the reference's. -/
theorem resultQkvWgrad : Cert.algebraic_QkvWgradIdeal_QkvWgradReferenceIdeal := by
  intro m g m' g' _ hagree
  refine ⟨fun c => Cert.QkvWgradIdeal.Gen.result m c, ?_, ?_⟩
  · refine (θ_run Cert.QkvWgradIdeal.defs _ _).mono (fun r h c => ?_) (Cert.QkvWgradIdeal.Value.run_blocks (F := Ideal) m g)
    obtain ⟨ho, hargs⟩ := h c
    exact ⟨ho.trans (Cert.QkvWgradIdeal.Gen.final m c), hargs⟩
  · refine (θ_run Cert.QkvWgradReferenceIdeal.defs _ _).mono (fun r h c => ?_) (Cert.QkvWgradReferenceIdeal.Value.run (F := Ideal) m' g')
    obtain ⟨ho, hargs⟩ := h c
    obtain ⟨a0, a1, a2⟩ := hagree c
    refine ⟨(ho.trans (Cert.QkvWgradReferenceIdeal.Read.val_main_v16_eq _ _ _)).trans ((Cert.QkvWgradReferenceIdeal.Read.result_eq _ _ _).trans ?_), hargs⟩
    rw [a0, a1, a2]; rfl

theorem referenceQkvWgrad : Cert.quiescent_QkvWgradReferenceIdeal := fun m ρ _ =>
  (θ_run Cert.QkvWgradReferenceIdeal.defs _ _).mono (fun r h => ⟨fun c => (h c).2, sem_eq_zero_of_no_sems (by decide) r.2⟩)
    (Cert.QkvWgradReferenceIdeal.Value.run (F := Ideal) m ρ)

/-- QWgrad: the kernel's result is the reference's. -/
theorem resultQWgrad : Cert.algebraic_QWgradIdeal_QWgradReferenceIdeal := by
  intro m g m' g' _ hagree
  refine ⟨fun c => Cert.QWgradIdeal.Gen.result m c, ?_, ?_⟩
  · refine (θ_run Cert.QWgradIdeal.defs _ _).mono (fun r h c => ?_) (Cert.QWgradIdeal.Value.run_blocks (F := Ideal) m g)
    obtain ⟨ho, hargs⟩ := h c
    exact ⟨ho.trans (Cert.QWgradIdeal.Gen.final m c), hargs⟩
  · refine (θ_run Cert.QWgradReferenceIdeal.defs _ _).mono (fun r h c => ?_) (Cert.QWgradReferenceIdeal.Value.run (F := Ideal) m' g')
    obtain ⟨ho, hargs⟩ := h c
    obtain ⟨a0, a1, a2⟩ := hagree c
    refine ⟨(ho.trans (Cert.QWgradReferenceIdeal.Read.val_main_v16_eq _ _ _)).trans ((Cert.QWgradReferenceIdeal.Read.result_eq _ _ _).trans ?_), hargs⟩
    rw [a0, a1, a2]; rfl

theorem referenceQWgrad : Cert.quiescent_QWgradReferenceIdeal := fun m ρ _ =>
  (θ_run Cert.QWgradReferenceIdeal.defs _ _).mono (fun r h => ⟨fun c => (h c).2, sem_eq_zero_of_no_sems (by decide) r.2⟩)
    (Cert.QWgradReferenceIdeal.Value.run (F := Ideal) m ρ)

/-- KvWgrad: the kernel's result is the reference's. -/
theorem resultKvWgrad : Cert.algebraic_KvWgradIdeal_KvWgradReferenceIdeal := by
  intro m g m' g' _ hagree
  refine ⟨fun c => Cert.KvWgradIdeal.Gen.result m c, ?_, ?_⟩
  · refine (θ_run Cert.KvWgradIdeal.defs _ _).mono (fun r h c => ?_) (Cert.KvWgradIdeal.Value.run_blocks (F := Ideal) m g)
    obtain ⟨ho, hargs⟩ := h c
    exact ⟨ho.trans (Cert.KvWgradIdeal.Gen.final m c), hargs⟩
  · refine (θ_run Cert.KvWgradReferenceIdeal.defs _ _).mono (fun r h c => ?_) (Cert.KvWgradReferenceIdeal.Value.run (F := Ideal) m' g')
    obtain ⟨ho, hargs⟩ := h c
    obtain ⟨a0, a1, a2⟩ := hagree c
    refine ⟨(ho.trans (Cert.KvWgradReferenceIdeal.Read.val_main_v18_eq _ _ _)).trans ((Cert.KvWgradReferenceIdeal.Read.result_eq _ _ _).trans ?_), hargs⟩
    rw [a0, a1, a2]; rfl

theorem referenceKvWgrad : Cert.quiescent_KvWgradReferenceIdeal := fun m ρ _ =>
  (θ_run Cert.KvWgradReferenceIdeal.defs _ _).mono (fun r h => ⟨fun c => (h c).2, sem_eq_zero_of_no_sems (by decide) r.2⟩)
    (Cert.KvWgradReferenceIdeal.Value.run (F := Ideal) m ρ)

/-- AOutWgrad: the kernel's result is the reference's. -/
theorem resultAOutWgrad : Cert.algebraic_AOutWgradIdeal_AOutWgradReferenceIdeal := by
  intro m g m' g' _ hagree
  refine ⟨fun c => Cert.AOutWgradIdeal.Gen.result m c, ?_, ?_⟩
  · refine (θ_run Cert.AOutWgradIdeal.defs _ _).mono (fun r h c => ?_) (Cert.AOutWgradIdeal.Value.run_blocks (F := Ideal) m g)
    obtain ⟨ho, hargs⟩ := h c
    exact ⟨ho.trans (Cert.AOutWgradIdeal.Gen.final m c), hargs⟩
  · refine (θ_run Cert.AOutWgradReferenceIdeal.defs _ _).mono (fun r h c => ?_) (Cert.AOutWgradReferenceIdeal.Value.run (F := Ideal) m' g')
    obtain ⟨ho, hargs⟩ := h c
    obtain ⟨a0, a1⟩ := hagree c
    refine ⟨(ho.trans (Cert.AOutWgradReferenceIdeal.Read.val_main_v5_eq _ _)).trans ((Cert.AOutWgradReferenceIdeal.Read.result_eq _ _).trans ?_), hargs⟩
    rw [a0, a1]; rfl

theorem referenceAOutWgrad : Cert.quiescent_AOutWgradReferenceIdeal := fun m ρ _ =>
  (θ_run Cert.AOutWgradReferenceIdeal.defs _ _).mono (fun r h => ⟨fun c => (h c).2, sem_eq_zero_of_no_sems (by decide) r.2⟩)
    (Cert.AOutWgradReferenceIdeal.Value.run (F := Ideal) m ρ)

/-- BOutWgrad: the kernel's result is the reference's. -/
theorem resultBOutWgrad : Cert.algebraic_BOutWgradIdeal_BOutWgradReferenceIdeal := by
  intro m g m' g' _ hagree
  refine ⟨fun c => Cert.BOutWgradIdeal.Gen.result m c, ?_, ?_⟩
  · refine (θ_run Cert.BOutWgradIdeal.defs _ _).mono (fun r h c => ?_) (Cert.BOutWgradIdeal.Value.run_blocks (F := Ideal) m g)
    obtain ⟨ho, hargs⟩ := h c
    exact ⟨ho.trans (Cert.BOutWgradIdeal.Gen.final m c), hargs⟩
  · refine (θ_run Cert.BOutWgradReferenceIdeal.defs _ _).mono (fun r h c => ?_) (Cert.BOutWgradReferenceIdeal.Value.run (F := Ideal) m' g')
    obtain ⟨ho, hargs⟩ := h c
    obtain ⟨a0, a1⟩ := hagree c
    refine ⟨(ho.trans (Cert.BOutWgradReferenceIdeal.Read.val_main_v4_eq _ _)).trans ((Cert.BOutWgradReferenceIdeal.Read.result_eq _ _).trans ?_), hargs⟩
    rw [a0, a1]; rfl

theorem referenceBOutWgrad : Cert.quiescent_BOutWgradReferenceIdeal := fun m ρ _ =>
  (θ_run Cert.BOutWgradReferenceIdeal.defs _ _).mono (fun r h => ⟨fun c => (h c).2, sem_eq_zero_of_no_sems (by decide) r.2⟩)
    (Cert.BOutWgradReferenceIdeal.Value.run (F := Ideal) m ρ)

/-- KvProj: the kernel's result is the reference's. -/
theorem resultKvProj : Cert.algebraic_KvProjIdeal_KvProjReferenceIdeal := by
  intro m g m' g' _ hagree
  refine ⟨fun c => Cert.KvProjIdeal.Gen.result m c, ?_, ?_⟩
  · refine (θ_run Cert.KvProjIdeal.defs _ _).mono (fun r h c => ?_) (Cert.KvProjIdeal.Value.run_blocks (F := Ideal) m g)
    obtain ⟨ho, hargs⟩ := h c
    exact ⟨ho.trans (Cert.KvProjIdeal.Gen.final m c), hargs⟩
  · refine (θ_run Cert.KvProjReferenceIdeal.defs _ _).mono (fun r h c => ?_) (Cert.KvProjReferenceIdeal.Value.run (F := Ideal) m' g')
    obtain ⟨ho, hargs⟩ := h c
    obtain ⟨a0, a1, a2⟩ := hagree c
    refine ⟨(ho.trans (Cert.KvProjReferenceIdeal.Read.val_main_v14_eq _ _ _)).trans ((Cert.KvProjReferenceIdeal.Read.result_eq _ _ _).trans ?_), hargs⟩
    rw [a0, a1, a2]; rfl

theorem referenceKvProj : Cert.quiescent_KvProjReferenceIdeal := fun m ρ _ =>
  (θ_run Cert.KvProjReferenceIdeal.defs _ _).mono (fun r h => ⟨fun c => (h c).2, sem_eq_zero_of_no_sems (by decide) r.2⟩)
    (Cert.KvProjReferenceIdeal.Value.run (F := Ideal) m ρ)

/-- QProj: the kernel's result is the reference's. -/
theorem resultQProj : Cert.algebraic_QProjIdeal_QProjReferenceIdeal := by
  intro m g m' g' _ hagree
  refine ⟨fun c => Cert.QProjIdeal.Gen.result m c, ?_, ?_⟩
  · refine (θ_run Cert.QProjIdeal.defs _ _).mono (fun r h c => ?_) (Cert.QProjIdeal.Value.run_blocks (F := Ideal) m g)
    obtain ⟨ho, hargs⟩ := h c
    exact ⟨ho.trans (Cert.QProjIdeal.Gen.final m c), hargs⟩
  · refine (θ_run Cert.QProjReferenceIdeal.defs _ _).mono (fun r h c => ?_) (Cert.QProjReferenceIdeal.Value.run (F := Ideal) m' g')
    obtain ⟨ho, hargs⟩ := h c
    obtain ⟨a0, a1, a2⟩ := hagree c
    refine ⟨(ho.trans (Cert.QProjReferenceIdeal.Read.val_main_v13_eq _ _ _)).trans ((Cert.QProjReferenceIdeal.Read.result_eq _ _ _).trans ?_), hargs⟩
    rw [a0, a1, a2]; rfl

theorem referenceQProj : Cert.quiescent_QProjReferenceIdeal := fun m ρ _ =>
  (θ_run Cert.QProjReferenceIdeal.defs _ _).mono (fun r h => ⟨fun c => (h c).2, sem_eq_zero_of_no_sems (by decide) r.2⟩)
    (Cert.QProjReferenceIdeal.Value.run (F := Ideal) m ρ)

/-- BOutProj: the kernel's result is the reference's. -/
theorem resultBOutProj : Cert.algebraic_BOutProjIdeal_BOutProjReferenceIdeal := by
  intro m g m' g' _ hagree
  refine ⟨fun c => Cert.BOutProjIdeal.Gen.result m c, ?_, ?_⟩
  · refine (θ_run Cert.BOutProjIdeal.defs _ _).mono (fun r h c => ?_) (Cert.BOutProjIdeal.Value.run_blocks (F := Ideal) m g)
    obtain ⟨ho, hargs⟩ := h c
    exact ⟨ho.trans (Cert.BOutProjIdeal.Gen.final m c), hargs⟩
  · refine (θ_run Cert.BOutProjReferenceIdeal.defs _ _).mono (fun r h c => ?_) (Cert.BOutProjReferenceIdeal.Value.run (F := Ideal) m' g')
    obtain ⟨ho, hargs⟩ := h c
    obtain ⟨a0, a1, a2⟩ := hagree c
    refine ⟨(ho.trans (Cert.BOutProjReferenceIdeal.Read.val_main_v2_eq _ _ _)).trans ((Cert.BOutProjReferenceIdeal.Read.result_eq _ _ _).trans ?_), hargs⟩
    rw [a0, a1, a2]; rfl

theorem referenceBOutProj : Cert.quiescent_BOutProjReferenceIdeal := fun m ρ _ =>
  (θ_run Cert.BOutProjReferenceIdeal.defs _ _).mono (fun r h => ⟨fun c => (h c).2, sem_eq_zero_of_no_sems (by decide) r.2⟩)
    (Cert.BOutProjReferenceIdeal.Value.run (F := Ideal) m ρ)

/-- BOutDx: the kernel's result is the reference's. -/
theorem resultBOutDx : Cert.algebraic_BOutDxIdeal_BOutDxReferenceIdeal := by
  intro m g m' g' _ hagree
  refine ⟨fun c => Cert.BOutDxIdeal.Gen.result m c, ?_, ?_⟩
  · refine (θ_run Cert.BOutDxIdeal.defs _ _).mono (fun r h c => ?_) (Cert.BOutDxIdeal.Value.run_blocks (F := Ideal) m g)
    obtain ⟨ho, hargs⟩ := h c
    exact ⟨ho.trans (Cert.BOutDxIdeal.Gen.final m c), hargs⟩
  · refine (θ_run Cert.BOutDxReferenceIdeal.defs _ _).mono (fun r h c => ?_) (Cert.BOutDxReferenceIdeal.Value.run (F := Ideal) m' g')
    obtain ⟨ho, hargs⟩ := h c
    obtain ⟨a0, a1⟩ := hagree c
    refine ⟨(ho.trans (Cert.BOutDxReferenceIdeal.Read.val_main_v3_eq _ _)).trans ((Cert.BOutDxReferenceIdeal.Read.result_eq _ _).trans ?_), hargs⟩
    rw [a0, a1]; rfl

theorem referenceBOutDx : Cert.quiescent_BOutDxReferenceIdeal := fun m ρ _ =>
  (θ_run Cert.BOutDxReferenceIdeal.defs _ _).mono (fun r h => ⟨fun c => (h c).2, sem_eq_zero_of_no_sems (by decide) r.2⟩)
    (Cert.BOutDxReferenceIdeal.Value.run (F := Ideal) m ρ)

/-- BaWgrad: the kernel's result is the reference's. -/
theorem resultBaWgrad : Cert.algebraic_BaWgradIdeal_BaWgradReferenceIdeal := by
  intro m g m' g' _ hagree
  refine ⟨fun c => Cert.BaWgradIdeal.Gen.result m c, ?_, ?_⟩
  · refine (θ_run Cert.BaWgradIdeal.defs _ _).mono (fun r h c => ?_) (Cert.BaWgradIdeal.Value.run_blocks (F := Ideal) m g)
    obtain ⟨ho, hargs⟩ := h c
    exact ⟨ho.trans (Cert.BaWgradIdeal.Gen.final m c), hargs⟩
  · refine (θ_run Cert.BaWgradReferenceIdeal.defs _ _).mono (fun r h c => ?_) (Cert.BaWgradReferenceIdeal.Value.run (F := Ideal) m' g')
    obtain ⟨ho, hargs⟩ := h c
    obtain ⟨a0, a1, a2⟩ := hagree c
    refine ⟨(ho.trans (Cert.BaWgradReferenceIdeal.Read.val_main_v16_eq _ _ _)).trans ((Cert.BaWgradReferenceIdeal.Read.result_eq _ _ _).trans ?_), hargs⟩
    rw [a0, a1, a2]; rfl

theorem referenceBaWgrad : Cert.quiescent_BaWgradReferenceIdeal := fun m ρ _ =>
  (θ_run Cert.BaWgradReferenceIdeal.defs _ _).mono (fun r h => ⟨fun c => (h c).2, sem_eq_zero_of_no_sems (by decide) r.2⟩)
    (Cert.BaWgradReferenceIdeal.Value.run (F := Ideal) m ρ)

/-- QDx: the kernel's two results are the reference's where the operands are real. -/
theorem resultQDx : Cert.algebraic_QDxIdeal_QDxReferenceIdeal_pre_q_dx_finite := by
  intro m g m' g' hpre hagree
  refine ⟨fun c => Cert.QDxIdeal.Gen.resultRows m c, fun c => Cert.QDxIdeal.Gen.resultGains m c, ?_, ?_⟩
  · refine (θ_run Cert.QDxIdeal.defs _ _).mono (fun r h c => ?_) (Cert.QDxIdeal.Value.run_blocks (F := Ideal) m g)
    obtain ⟨ho, hg, hargs⟩ := h c
    exact ⟨ho.trans (Cert.QDxIdeal.Gen.finalRows m c), hg.trans (Cert.QDxIdeal.Gen.finalGains m c), hargs⟩
  · refine (θ_run Cert.QDxReferenceIdeal.defs _ _).mono (fun r h c => ?_) (Cert.QDxReferenceIdeal.Value.run (F := Ideal) m' g')
    obtain ⟨ho, hg, hargs⟩ := h c
    obtain ⟨a0, a1, a2, a3, a4⟩ := hagree c
    obtain ⟨p0, p1, p2, p3⟩ := hpre c
    refine ⟨(ho.trans (Cert.QDxReferenceIdeal.Read.val_main_v37_eq _ c)).trans ?_, (hg.trans (Cert.QDxReferenceIdeal.Read.val_main_v20_eq _ _ _)).trans ((Cert.QDxReferenceIdeal.Read.gains_eq _ _ _).trans ?_), hargs⟩
    · rw [a0, a1, a2, a3, a4]
      exact Cert.QDxReferenceIdeal.Read.rows_eq _ _ _ _ _ (fun i => Cert.KernelIdeal.Gen.real_of_below (congrFun p0 i)) (fun i => Cert.KernelIdeal.Gen.real_of_below (congrFun p1 i)) (fun i => Cert.KernelIdeal.Gen.real_of_below (congrFun p2 i)) (fun i => Cert.KernelIdeal.Gen.real_of_below (congrFun p3 i))
    · rw [a1, a3, a4]; rfl

theorem referenceQDx : Cert.quiescent_QDxReferenceIdeal := fun m ρ _ =>
  (θ_run Cert.QDxReferenceIdeal.defs _ _).mono (fun r h => ⟨fun c => (h c).2.2, sem_eq_zero_of_no_sems (by decide) r.2⟩)
    (Cert.QDxReferenceIdeal.Value.run (F := Ideal) m ρ)

/-- KvDx: the kernel's two results are the reference's where the operands are real. -/
theorem resultKvDx : Cert.algebraic_KvDxIdeal_KvDxReferenceIdeal_pre_kv_dx_finite := by
  intro m g m' g' hpre hagree
  refine ⟨fun c => Cert.KvDxIdeal.Gen.resultRows m c, fun c => Cert.KvDxIdeal.Gen.resultGains m c, ?_, ?_⟩
  · refine (θ_run Cert.KvDxIdeal.defs _ _).mono (fun r h c => ?_) (Cert.KvDxIdeal.Value.run_blocks (F := Ideal) m g)
    obtain ⟨ho, hg, hargs⟩ := h c
    exact ⟨ho.trans (Cert.KvDxIdeal.Gen.finalRows m c), hg.trans (Cert.KvDxIdeal.Gen.finalGains m c), hargs⟩
  · refine (θ_run Cert.KvDxReferenceIdeal.defs _ _).mono (fun r h c => ?_) (Cert.KvDxReferenceIdeal.Value.run (F := Ideal) m' g')
    obtain ⟨ho, hg, hargs⟩ := h c
    obtain ⟨a0, a1, a2, a3, a4, a5⟩ := hagree c
    obtain ⟨p0, p1, p2, p3, p4⟩ := hpre c
    refine ⟨(ho.trans (Cert.KvDxReferenceIdeal.Read.val_main_v44_eq _ c)).trans ?_, (hg.trans (Cert.KvDxReferenceIdeal.Read.val_main_v27_eq _ _ _ _)).trans ((Cert.KvDxReferenceIdeal.Read.gains_eq _ _ _ _).trans ?_), hargs⟩
    · rw [a0, a1, a2, a3, a4, a5]
      exact Cert.KvDxReferenceIdeal.Read.rows_eq _ _ _ _ _ _ (fun i => Cert.KernelIdeal.Gen.real_of_below (congrFun p0 i)) (fun i => Cert.KernelIdeal.Gen.real_of_below (congrFun p1 i)) (fun i => Cert.KernelIdeal.Gen.real_of_below (congrFun p2 i)) (fun i => Cert.KernelIdeal.Gen.real_of_below (congrFun p3 i)) (fun i => Cert.KernelIdeal.Gen.real_of_below (congrFun p4 i))
    · rw [a1, a3, a4, a5]; rfl

theorem referenceKvDx : Cert.quiescent_KvDxReferenceIdeal := fun m ρ _ =>
  (θ_run Cert.KvDxReferenceIdeal.defs _ _).mono (fun r h => ⟨fun c => (h c).2.2, sem_eq_zero_of_no_sems (by decide) r.2⟩)
    (Cert.KvDxReferenceIdeal.Value.run (F := Ideal) m ρ)

/-- InDx: the kernel's two results are the reference's where the operands are real. -/
theorem resultInDx : Cert.algebraic_InDxIdeal_InDxReferenceIdeal_pre_in_dx_finite := by
  intro m g m' g' hpre hagree
  refine ⟨fun c => Cert.InDxIdeal.Gen.resultRows m c, fun c => Cert.InDxIdeal.Gen.resultGains m c, ?_, ?_⟩
  · refine (θ_run Cert.InDxIdeal.defs _ _).mono (fun r h c => ?_) (Cert.InDxIdeal.Value.run_blocks (F := Ideal) m g)
    obtain ⟨ho, hg, hargs⟩ := h c
    exact ⟨ho.trans (Cert.InDxIdeal.Gen.finalRows m c), hg.trans (Cert.InDxIdeal.Gen.finalGains m c), hargs⟩
  · refine (θ_run Cert.InDxReferenceIdeal.defs _ _).mono (fun r h c => ?_) (Cert.InDxReferenceIdeal.Value.run (F := Ideal) m' g')
    obtain ⟨ho, hg, hargs⟩ := h c
    obtain ⟨a0, a1, a2, a3, a4, a5, a6⟩ := hagree c
    obtain ⟨p0, p1, p2, p3, p4, p5⟩ := hpre c
    refine ⟨(ho.trans (Cert.InDxReferenceIdeal.Read.val_main_v46_eq _ c)).trans ?_, (hg.trans (Cert.InDxReferenceIdeal.Read.val_main_v29_eq _ _ _ _ _)).trans ((Cert.InDxReferenceIdeal.Read.gains_eq _ _ _ _ _).trans ?_), hargs⟩
    · rw [a0, a1, a2, a3, a4, a5, a6]
      exact Cert.InDxReferenceIdeal.Read.rows_eq _ _ _ _ _ _ _ (fun i => Cert.KernelIdeal.Gen.real_of_below (congrFun p0 i)) (fun i => Cert.KernelIdeal.Gen.real_of_below (congrFun p1 i)) (fun i => Cert.KernelIdeal.Gen.real_of_below (congrFun p2 i)) (fun i => Cert.KernelIdeal.Gen.real_of_below (congrFun p3 i)) (fun i => Cert.KernelIdeal.Gen.real_of_below (congrFun p4 i)) (fun i => Cert.KernelIdeal.Gen.real_of_below (congrFun p5 i))
    · rw [a1, a3, a4, a5, a6]; rfl

theorem referenceInDx : Cert.quiescent_InDxReferenceIdeal := fun m ρ _ =>
  (θ_run Cert.InDxReferenceIdeal.defs _ _).mono (fun r h => ⟨fun c => (h c).2.2, sem_eq_zero_of_no_sems (by decide) r.2⟩)
    (Cert.InDxReferenceIdeal.Value.run (F := Ideal) m ρ)

/-- BwdAct: the kernel's two results are the reference's where the operands are real. -/
theorem resultBwdAct : Cert.algebraic_BwdActIdeal_BwdActReferenceIdeal_pre_bwd_act_finite := by
  intro m g m' g' hpre hagree
  refine ⟨fun c => Cert.BwdActIdeal.Gen.resultRows m c, fun c => Cert.BwdActIdeal.Gen.resultSums m c, ?_, ?_⟩
  · refine (θ_run Cert.BwdActIdeal.defs _ _).mono (fun r h c => ?_) (Cert.BwdActIdeal.Value.run_blocks (F := Ideal) m g)
    obtain ⟨ho, hg, hargs⟩ := h c
    exact ⟨ho.trans (Cert.BwdActIdeal.Gen.finalRows m c), hg.trans (Cert.BwdActIdeal.Gen.finalSums m c), hargs⟩
  · refine (θ_run Cert.BwdActReferenceIdeal.defs _ _).mono (fun r h c => ?_) (Cert.BwdActReferenceIdeal.Value.run (F := Ideal) m' g')
    obtain ⟨ho, hg, hargs⟩ := h c
    obtain ⟨a0, a1, a2⟩ := hagree c
    obtain ⟨p0, p1, p2⟩ := hpre c
    refine ⟨(ho.trans (Cert.BwdActReferenceIdeal.Read.val_main_v14_eq _ _ _)).trans ?_, (hg.trans (Cert.BwdActReferenceIdeal.Read.val_main_v16_eq _ _ _)).trans ?_, hargs⟩
    · rw [a0, a1, a2]
      exact Cert.BwdActReferenceIdeal.Read.rows_eq _ _ _ (fun i => Cert.KernelIdeal.Gen.real_of_below (congrFun p0 i)) (fun i => Cert.KernelIdeal.Gen.real_of_below (congrFun p1 i)) (fun i => Cert.KernelIdeal.Gen.real_of_below (congrFun p2 i))
    · rw [a0, a1, a2]
      exact Cert.BwdActReferenceIdeal.Read.gains_eq _ _ _ (fun i => Cert.KernelIdeal.Gen.real_of_below (congrFun p0 i)) (fun i => Cert.KernelIdeal.Gen.real_of_below (congrFun p1 i)) (fun i => Cert.KernelIdeal.Gen.real_of_below (congrFun p2 i))

theorem referenceBwdAct : Cert.quiescent_BwdActReferenceIdeal := fun m ρ _ =>
  (θ_run Cert.BwdActReferenceIdeal.defs _ _).mono (fun r h => ⟨fun c => (h c).2.2, sem_eq_zero_of_no_sems (by decide) r.2⟩)
    (Cert.BwdActReferenceIdeal.Value.run (F := Ideal) m ρ)

/-- ActDown: the kernel's three results are the reference's. -/
theorem resultActDown : Cert.algebraic_ActDownIdeal_ActDownReferenceIdeal := by
  intro m g m' g' _ hagree
  refine ⟨fun c => Cert.ActDownIdeal.Gen.resultLayer m c, fun c => Cert.ActDownIdeal.Gen.resultAct m c, fun c => Cert.ActDownIdeal.Gen.resultConv m c, ?_, ?_⟩
  · refine (θ_run Cert.ActDownIdeal.defs _ _).mono (fun r h c => ?_) (Cert.ActDownIdeal.Value.run_blocks (F := Ideal) m g)
    obtain ⟨hl, ha, hc, hargs⟩ := h c
    exact ⟨hl.trans (Cert.ActDownIdeal.Gen.finalLayer m c), ha.trans (Cert.ActDownIdeal.Gen.finalAct m c), hc.trans (Cert.ActDownIdeal.Gen.finalConv m c), hargs⟩
  · refine (θ_run Cert.ActDownReferenceIdeal.defs _ _).mono (fun r h c => ?_) (Cert.ActDownReferenceIdeal.Value.run (F := Ideal) m' g')
    obtain ⟨hl, ha, hc, hargs⟩ := h c
    obtain ⟨a0, a1, a2, a3, a4⟩ := hagree c
    refine ⟨(hl.trans (Cert.ActDownReferenceIdeal.Read.val_main_v31_eq _ _)).trans ?_, (ha.trans (Cert.ActDownReferenceIdeal.Read.val_main_v32_eq _ _)).trans ?_,
      (hc.trans (Cert.ActDownReferenceIdeal.Read.val_main_v33_eq _ _ _)).trans ?_, hargs⟩
    · rw [a0, a1, a2, a3, a4]
      exact Cert.ActDownReferenceIdeal.Read.layer_eq _ _ _ _ _
    · rw [a0, a1, a2]
      exact Cert.ActDownReferenceIdeal.Read.act_eq _ _ _
    · rw [a0, a1, a2]
      exact Cert.ActDownReferenceIdeal.Read.conv_eq _ _ _

theorem referenceActDown : Cert.quiescent_ActDownReferenceIdeal := fun m ρ _ =>
  (θ_run Cert.ActDownReferenceIdeal.defs _ _).mono (fun r h => ⟨fun c => (h c).2.2.2, sem_eq_zero_of_no_sems (by decide) r.2⟩)
    (Cert.ActDownReferenceIdeal.Value.run (F := Ideal) m ρ)

theorem claim : Cert.Claim :=
  ⟨Cert.Kernel.Gen.facts,
    Cert.KernelIdeal.Gen.facts,
    Cert.ReferenceIdeal.Gen.facts,
    Cert.UpWgrad.Gen.facts,
    Cert.UpWgradIdeal.Gen.facts,
    Cert.UpWgradReferenceIdeal.Gen.facts,
    Cert.DownWgrad.Gen.facts,
    Cert.DownWgradIdeal.Gen.facts,
    Cert.DownWgradReferenceIdeal.Gen.facts,
    Cert.UpProj.Gen.facts,
    Cert.UpProjIdeal.Gen.facts,
    Cert.UpProjReferenceIdeal.Gen.facts,
    Cert.InProj.Gen.facts,
    Cert.InProjIdeal.Gen.facts,
    Cert.InProjReferenceIdeal.Gen.facts,
    Cert.QkvWgrad.Gen.facts,
    Cert.QkvWgradIdeal.Gen.facts,
    Cert.QkvWgradReferenceIdeal.Gen.facts,
    Cert.QWgrad.Gen.facts,
    Cert.QWgradIdeal.Gen.facts,
    Cert.QWgradReferenceIdeal.Gen.facts,
    Cert.KvWgrad.Gen.facts,
    Cert.KvWgradIdeal.Gen.facts,
    Cert.KvWgradReferenceIdeal.Gen.facts,
    Cert.AOutWgrad.Gen.facts,
    Cert.AOutWgradIdeal.Gen.facts,
    Cert.AOutWgradReferenceIdeal.Gen.facts,
    Cert.BOutWgrad.Gen.facts,
    Cert.BOutWgradIdeal.Gen.facts,
    Cert.BOutWgradReferenceIdeal.Gen.facts,
    Cert.KvProj.Gen.facts,
    Cert.KvProjIdeal.Gen.facts,
    Cert.KvProjReferenceIdeal.Gen.facts,
    Cert.QProj.Gen.facts,
    Cert.QProjIdeal.Gen.facts,
    Cert.QProjReferenceIdeal.Gen.facts,
    Cert.BOutProj.Gen.facts,
    Cert.BOutProjIdeal.Gen.facts,
    Cert.BOutProjReferenceIdeal.Gen.facts,
    Cert.BOutDx.Gen.facts,
    Cert.BOutDxIdeal.Gen.facts,
    Cert.BOutDxReferenceIdeal.Gen.facts,
    Cert.BaWgrad.Gen.facts,
    Cert.BaWgradIdeal.Gen.facts,
    Cert.BaWgradReferenceIdeal.Gen.facts,
    Cert.QDx.Gen.facts,
    Cert.QDxIdeal.Gen.facts,
    Cert.QDxReferenceIdeal.Gen.facts,
    Cert.KvDx.Gen.facts,
    Cert.KvDxIdeal.Gen.facts,
    Cert.KvDxReferenceIdeal.Gen.facts,
    Cert.InDx.Gen.facts,
    Cert.InDxIdeal.Gen.facts,
    Cert.InDxReferenceIdeal.Gen.facts,
    Cert.BwdAct.Gen.facts,
    Cert.BwdActIdeal.Gen.facts,
    Cert.BwdActReferenceIdeal.Gen.facts,
    Cert.ActDown.Gen.facts,
    Cert.ActDownIdeal.Gen.facts,
    Cert.ActDownReferenceIdeal.Gen.facts,
    Cert.Pre_scores_finite.Gen.facts,
    Cert.Pre_q_dx_finite.Gen.facts,
    Cert.Pre_kv_dx_finite.Gen.facts,
    Cert.Pre_in_dx_finite.Gen.facts,
    Cert.Pre_bwd_act_finite.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    fun m ρ _ => Cert.UpWgrad.Gen.frame m ρ,
    fun m ρ _ => Cert.UpWgradIdeal.Gen.frame m ρ,
    referenceUpWgrad,
    fun m ρ _ => Cert.DownWgrad.Gen.frame m ρ,
    fun m ρ _ => Cert.DownWgradIdeal.Gen.frame m ρ,
    referenceDownWgrad,
    fun m ρ _ => Cert.UpProj.Gen.frame m ρ,
    fun m ρ _ => Cert.UpProjIdeal.Gen.frame m ρ,
    referenceUpProj,
    fun m ρ _ => Cert.InProj.Gen.frame m ρ,
    fun m ρ _ => Cert.InProjIdeal.Gen.frame m ρ,
    referenceInProj,
    fun m ρ _ => Cert.QkvWgrad.Gen.frame m ρ,
    fun m ρ _ => Cert.QkvWgradIdeal.Gen.frame m ρ,
    referenceQkvWgrad,
    fun m ρ _ => Cert.QWgrad.Gen.frame m ρ,
    fun m ρ _ => Cert.QWgradIdeal.Gen.frame m ρ,
    referenceQWgrad,
    fun m ρ _ => Cert.KvWgrad.Gen.frame m ρ,
    fun m ρ _ => Cert.KvWgradIdeal.Gen.frame m ρ,
    referenceKvWgrad,
    fun m ρ _ => Cert.AOutWgrad.Gen.frame m ρ,
    fun m ρ _ => Cert.AOutWgradIdeal.Gen.frame m ρ,
    referenceAOutWgrad,
    fun m ρ _ => Cert.BOutWgrad.Gen.frame m ρ,
    fun m ρ _ => Cert.BOutWgradIdeal.Gen.frame m ρ,
    referenceBOutWgrad,
    fun m ρ _ => Cert.KvProj.Gen.frame m ρ,
    fun m ρ _ => Cert.KvProjIdeal.Gen.frame m ρ,
    referenceKvProj,
    fun m ρ _ => Cert.QProj.Gen.frame m ρ,
    fun m ρ _ => Cert.QProjIdeal.Gen.frame m ρ,
    referenceQProj,
    fun m ρ _ => Cert.BOutProj.Gen.frame m ρ,
    fun m ρ _ => Cert.BOutProjIdeal.Gen.frame m ρ,
    referenceBOutProj,
    fun m ρ _ => Cert.BOutDx.Gen.frame m ρ,
    fun m ρ _ => Cert.BOutDxIdeal.Gen.frame m ρ,
    referenceBOutDx,
    fun m ρ _ => Cert.BaWgrad.Gen.frame m ρ,
    fun m ρ _ => Cert.BaWgradIdeal.Gen.frame m ρ,
    referenceBaWgrad,
    fun m ρ _ => Cert.QDx.Gen.frame m ρ,
    fun m ρ _ => Cert.QDxIdeal.Gen.frame m ρ,
    fun m ρ _ => Cert.QDxIdeal.Gen.frame m ρ,
    referenceQDx,
    fun m ρ _ => referenceQDx m ρ trivial,
    fun m ρ _ => Cert.KvDx.Gen.frame m ρ,
    fun m ρ _ => Cert.KvDxIdeal.Gen.frame m ρ,
    fun m ρ _ => Cert.KvDxIdeal.Gen.frame m ρ,
    referenceKvDx,
    fun m ρ _ => referenceKvDx m ρ trivial,
    fun m ρ _ => Cert.InDx.Gen.frame m ρ,
    fun m ρ _ => Cert.InDxIdeal.Gen.frame m ρ,
    fun m ρ _ => Cert.InDxIdeal.Gen.frame m ρ,
    referenceInDx,
    fun m ρ _ => referenceInDx m ρ trivial,
    fun m ρ _ => Cert.BwdAct.Gen.frame m ρ,
    fun m ρ _ => Cert.BwdActIdeal.Gen.frame m ρ,
    fun m ρ _ => Cert.BwdActIdeal.Gen.frame m ρ,
    referenceBwdAct,
    fun m ρ _ => referenceBwdAct m ρ trivial,
    fun m ρ _ => Cert.ActDown.Gen.frame m ρ,
    fun m ρ _ => Cert.ActDownIdeal.Gen.frame m ρ,
    referenceActDown,
    named,
    gradients,
    trivial,
    resultUpWgrad,
    trivial,
    resultDownWgrad,
    trivial,
    resultUpProj,
    trivial,
    resultInProj,
    trivial,
    resultQkvWgrad,
    trivial,
    resultQWgrad,
    trivial,
    resultKvWgrad,
    trivial,
    resultAOutWgrad,
    trivial,
    resultBOutWgrad,
    trivial,
    resultKvProj,
    trivial,
    resultQProj,
    trivial,
    resultBOutProj,
    trivial,
    resultBOutDx,
    trivial,
    resultBaWgrad,
    trivial,
    resultQDx,
    trivial,
    resultKvDx,
    trivial,
    resultInDx,
    trivial,
    resultBwdAct,
    trivial,
    resultActDown⟩

end Cert.Proof

end
